-- ==== Defs.lean ====
def Pre_AttnK (m : (ℓ : Loc Cert.AttnK.nD Cert.AttnK.τ Cert.AttnK.sig) → Buf (Elt Bits) ℓ) : Prop :=
  True

def Pre_AttnKIdeal (m : (ℓ : Loc Cert.AttnKIdeal.nD Cert.AttnKIdeal.τ Cert.AttnKIdeal.sig) → Buf (Elt Ideal) ℓ) : Prop :=
  True

def Pre_AttnKIdeal_attn_finite [hPre_attn_finite : Cert.Pre_attn_finite.Facts] (m : (ℓ : Loc Cert.AttnKIdeal.nD Cert.AttnKIdeal.τ Cert.AttnKIdeal.sig) → Buf (Elt Ideal) ℓ) : Prop :=
  ∀ c : Dev Cert.AttnKIdeal.nD,
    (Cert.Pre_attn_finite.fn (F := Ideal) (m ((c.tc : Thread Cert.AttnKIdeal.nD Cert.AttnKIdeal.τ).loc Cert.AttnKIdeal.main_arg0)) (m ((c.tc : Thread Cert.AttnKIdeal.nD Cert.AttnKIdeal.τ).loc Cert.AttnKIdeal.main_arg1)) (m ((c.tc : Thread Cert.AttnKIdeal.nD Cert.AttnKIdeal.τ).loc Cert.AttnKIdeal.main_arg2))).1 = (fun _ => 1#1)
    ∧ (Cert.Pre_attn_finite.fn (F := Ideal) (m ((c.tc : Thread Cert.AttnKIdeal.nD Cert.AttnKIdeal.τ).loc Cert.AttnKIdeal.main_arg0)) (m ((c.tc : Thread Cert.AttnKIdeal.nD Cert.AttnKIdeal.τ).loc Cert.AttnKIdeal.main_arg1)) (m ((c.tc : Thread Cert.AttnKIdeal.nD Cert.AttnKIdeal.τ).loc Cert.AttnKIdeal.main_arg2))).2.1 = (fun _ => 1#1)
    ∧ (Cert.Pre_attn_finite.fn (F := Ideal) (m ((c.tc : Thread Cert.AttnKIdeal.nD Cert.AttnKIdeal.τ).loc Cert.AttnKIdeal.main_arg0)) (m ((c.tc : Thread Cert.AttnKIdeal.nD Cert.AttnKIdeal.τ).loc Cert.AttnKIdeal.main_arg1)) (m ((c.tc : Thread Cert.AttnKIdeal.nD Cert.AttnKIdeal.τ).loc Cert.AttnKIdeal.main_arg2))).2.2 = (fun _ => 1#1)

def Pre_AttnRIdeal (m : (ℓ : Loc Cert.AttnRIdeal.nD Cert.AttnRIdeal.τ Cert.AttnRIdeal.sig) → Buf (Elt Ideal) ℓ) : Prop :=
  True

def Pre_AttnRIdeal_attn_finite [hPre_attn_finite : Cert.Pre_attn_finite.Facts] (m : (ℓ : Loc Cert.AttnRIdeal.nD Cert.AttnRIdeal.τ Cert.AttnRIdeal.sig) → Buf (Elt Ideal) ℓ) : Prop :=
  ∀ c : Dev Cert.AttnRIdeal.nD,
    (Cert.Pre_attn_finite.fn (F := Ideal) (m ((c.tc : Thread Cert.AttnRIdeal.nD Cert.AttnRIdeal.τ).loc Cert.AttnRIdeal.main_arg0)) (m ((c.tc : Thread Cert.AttnRIdeal.nD Cert.AttnRIdeal.τ).loc Cert.AttnRIdeal.main_arg1)) (m ((c.tc : Thread Cert.AttnRIdeal.nD Cert.AttnRIdeal.τ).loc Cert.AttnRIdeal.main_arg2))).1 = (fun _ => 1#1)
    ∧ (Cert.Pre_attn_finite.fn (F := Ideal) (m ((c.tc : Thread Cert.AttnRIdeal.nD Cert.AttnRIdeal.τ).loc Cert.AttnRIdeal.main_arg0)) (m ((c.tc : Thread Cert.AttnRIdeal.nD Cert.AttnRIdeal.τ).loc Cert.AttnRIdeal.main_arg1)) (m ((c.tc : Thread Cert.AttnRIdeal.nD Cert.AttnRIdeal.τ).loc Cert.AttnRIdeal.main_arg2))).2.1 = (fun _ => 1#1)
    ∧ (Cert.Pre_attn_finite.fn (F := Ideal) (m ((c.tc : Thread Cert.AttnRIdeal.nD Cert.AttnRIdeal.τ).loc Cert.AttnRIdeal.main_arg0)) (m ((c.tc : Thread Cert.AttnRIdeal.nD Cert.AttnRIdeal.τ).loc Cert.AttnRIdeal.main_arg1)) (m ((c.tc : Thread Cert.AttnRIdeal.nD Cert.AttnRIdeal.τ).loc Cert.AttnRIdeal.main_arg2))).2.2 = (fun _ => 1#1)

def Pre_DhidK (m : (ℓ : Loc Cert.DhidK.nD Cert.DhidK.τ Cert.DhidK.sig) → Buf (Elt Bits) ℓ) : Prop :=
  True

def Pre_DhidKIdeal (m : (ℓ : Loc Cert.DhidKIdeal.nD Cert.DhidKIdeal.τ Cert.DhidKIdeal.sig) → Buf (Elt Ideal) ℓ) : Prop :=
  True

def Pre_DhidRIdeal (m : (ℓ : Loc Cert.DhidRIdeal.nD Cert.DhidRIdeal.τ Cert.DhidRIdeal.sig) → Buf (Elt Ideal) ℓ) : Prop :=
  True

def Pre_Ln2K (m : (ℓ : Loc Cert.Ln2K.nD Cert.Ln2K.τ Cert.Ln2K.sig) → Buf (Elt Bits) ℓ) : Prop :=
  True

def Pre_Ln2KIdeal (m : (ℓ : Loc Cert.Ln2KIdeal.nD Cert.Ln2KIdeal.τ Cert.Ln2KIdeal.sig) → Buf (Elt Ideal) ℓ) : Prop :=
  True

def Pre_Ln2KIdeal_ln2_finite [hPre_ln2_finite : Cert.Pre_ln2_finite.Facts] (m : (ℓ : Loc Cert.Ln2KIdeal.nD Cert.Ln2KIdeal.τ Cert.Ln2KIdeal.sig) → Buf (Elt Ideal) ℓ) : Prop :=
  ∀ c : Dev Cert.Ln2KIdeal.nD,
    (Cert.Pre_ln2_finite.fn (F := Ideal) (m ((c.tc : Thread Cert.Ln2KIdeal.nD Cert.Ln2KIdeal.τ).loc Cert.Ln2KIdeal.main_arg0)) (m ((c.tc : Thread Cert.Ln2KIdeal.nD Cert.Ln2KIdeal.τ).loc Cert.Ln2KIdeal.main_arg1)) (m ((c.tc : Thread Cert.Ln2KIdeal.nD Cert.Ln2KIdeal.τ).loc Cert.Ln2KIdeal.main_arg2)) (m ((c.tc : Thread Cert.Ln2KIdeal.nD Cert.Ln2KIdeal.τ).loc Cert.Ln2KIdeal.main_arg3)) (m ((c.tc : Thread Cert.Ln2KIdeal.nD Cert.Ln2KIdeal.τ).loc Cert.Ln2KIdeal.main_arg4)) (m ((c.tc : Thread Cert.Ln2KIdeal.nD Cert.Ln2KIdeal.τ).loc Cert.Ln2KIdeal.main_arg5))).1 = (fun _ => 1#1)
    ∧ (Cert.Pre_ln2_finite.fn (F := Ideal) (m ((c.tc : Thread Cert.Ln2KIdeal.nD Cert.Ln2KIdeal.τ).loc Cert.Ln2KIdeal.main_arg0)) (m ((c.tc : Thread Cert.Ln2KIdeal.nD Cert.Ln2KIdeal.τ).loc Cert.Ln2KIdeal.main_arg1)) (m ((c.tc : Thread Cert.Ln2KIdeal.nD Cert.Ln2KIdeal.τ).loc Cert.Ln2KIdeal.main_arg2)) (m ((c.tc : Thread Cert.Ln2KIdeal.nD Cert.Ln2KIdeal.τ).loc Cert.Ln2KIdeal.main_arg3)) (m ((c.tc : Thread Cert.Ln2KIdeal.nD Cert.Ln2KIdeal.τ).loc Cert.Ln2KIdeal.main_arg4)) (m ((c.tc : Thread Cert.Ln2KIdeal.nD Cert.Ln2KIdeal.τ).loc Cert.Ln2KIdeal.main_arg5))).2.1 = (fun _ => 1#1)
    ∧ (Cert.Pre_ln2_finite.fn (F := Ideal) (m ((c.tc : Thread Cert.Ln2KIdeal.nD Cert.Ln2KIdeal.τ).loc Cert.Ln2KIdeal.main_arg0)) (m ((c.tc : Thread Cert.Ln2KIdeal.nD Cert.Ln2KIdeal.τ).loc Cert.Ln2KIdeal.main_arg1)) (m ((c.tc : Thread Cert.Ln2KIdeal.nD Cert.Ln2KIdeal.τ).loc Cert.Ln2KIdeal.main_arg2)) (m ((c.tc : Thread Cert.Ln2KIdeal.nD Cert.Ln2KIdeal.τ).loc Cert.Ln2KIdeal.main_arg3)) (m ((c.tc : Thread Cert.Ln2KIdeal.nD Cert.Ln2KIdeal.τ).loc Cert.Ln2KIdeal.main_arg4)) (m ((c.tc : Thread Cert.Ln2KIdeal.nD Cert.Ln2KIdeal.τ).loc Cert.Ln2KIdeal.main_arg5))).2.2.1 = (fun _ => 1#1)
    ∧ (Cert.Pre_ln2_finite.fn (F := Ideal) (m ((c.tc : Thread Cert.Ln2KIdeal.nD Cert.Ln2KIdeal.τ).loc Cert.Ln2KIdeal.main_arg0)) (m ((c.tc : Thread Cert.Ln2KIdeal.nD Cert.Ln2KIdeal.τ).loc Cert.Ln2KIdeal.main_arg1)) (m ((c.tc : Thread Cert.Ln2KIdeal.nD Cert.Ln2KIdeal.τ).loc Cert.Ln2KIdeal.main_arg2)) (m ((c.tc : Thread Cert.Ln2KIdeal.nD Cert.Ln2KIdeal.τ).loc Cert.Ln2KIdeal.main_arg3)) (m ((c.tc : Thread Cert.Ln2KIdeal.nD Cert.Ln2KIdeal.τ).loc Cert.Ln2KIdeal.main_arg4)) (m ((c.tc : Thread Cert.Ln2KIdeal.nD Cert.Ln2KIdeal.τ).loc Cert.Ln2KIdeal.main_arg5))).2.2.2.1 = (fun _ => 1#1)
    ∧ (Cert.Pre_ln2_finite.fn (F := Ideal) (m ((c.tc : Thread Cert.Ln2KIdeal.nD Cert.Ln2KIdeal.τ).loc Cert.Ln2KIdeal.main_arg0)) (m ((c.tc : Thread Cert.Ln2KIdeal.nD Cert.Ln2KIdeal.τ).loc Cert.Ln2KIdeal.main_arg1)) (m ((c.tc : Thread Cert.Ln2KIdeal.nD Cert.Ln2KIdeal.τ).loc Cert.Ln2KIdeal.main_arg2)) (m ((c.tc : Thread Cert.Ln2KIdeal.nD Cert.Ln2KIdeal.τ).loc Cert.Ln2KIdeal.main_arg3)) (m ((c.tc : Thread Cert.Ln2KIdeal.nD Cert.Ln2KIdeal.τ).loc Cert.Ln2KIdeal.main_arg4)) (m ((c.tc : Thread Cert.Ln2KIdeal.nD Cert.Ln2KIdeal.τ).loc Cert.Ln2KIdeal.main_arg5))).2.2.2.2.1 = (fun _ => 1#1)
    ∧ (Cert.Pre_ln2_finite.fn (F := Ideal) (m ((c.tc : Thread Cert.Ln2KIdeal.nD Cert.Ln2KIdeal.τ).loc Cert.Ln2KIdeal.main_arg0)) (m ((c.tc : Thread Cert.Ln2KIdeal.nD Cert.Ln2KIdeal.τ).loc Cert.Ln2KIdeal.main_arg1)) (m ((c.tc : Thread Cert.Ln2KIdeal.nD Cert.Ln2KIdeal.τ).loc Cert.Ln2KIdeal.main_arg2)) (m ((c.tc : Thread Cert.Ln2KIdeal.nD Cert.Ln2KIdeal.τ).loc Cert.Ln2KIdeal.main_arg3)) (m ((c.tc : Thread Cert.Ln2KIdeal.nD Cert.Ln2KIdeal.τ).loc Cert.Ln2KIdeal.main_arg4)) (m ((c.tc : Thread Cert.Ln2KIdeal.nD Cert.Ln2KIdeal.τ).loc Cert.Ln2KIdeal.main_arg5))).2.2.2.2.2 = (fun _ => 1#1)

def Pre_Ln2RIdeal (m : (ℓ : Loc Cert.Ln2RIdeal.nD Cert.Ln2RIdeal.τ Cert.Ln2RIdeal.sig) → Buf (Elt Ideal) ℓ) : Prop :=
  True

def Pre_Ln2RIdeal_ln2_finite [hPre_ln2_finite : Cert.Pre_ln2_finite.Facts] (m : (ℓ : Loc Cert.Ln2RIdeal.nD Cert.Ln2RIdeal.τ Cert.Ln2RIdeal.sig) → Buf (Elt Ideal) ℓ) : Prop :=
  ∀ c : Dev Cert.Ln2RIdeal.nD,
    (Cert.Pre_ln2_finite.fn (F := Ideal) (m ((c.tc : Thread Cert.Ln2RIdeal.nD Cert.Ln2RIdeal.τ).loc Cert.Ln2RIdeal.main_arg0)) (m ((c.tc : Thread Cert.Ln2RIdeal.nD Cert.Ln2RIdeal.τ).loc Cert.Ln2RIdeal.main_arg1)) (m ((c.tc : Thread Cert.Ln2RIdeal.nD Cert.Ln2RIdeal.τ).loc Cert.Ln2RIdeal.main_arg2)) (m ((c.tc : Thread Cert.Ln2RIdeal.nD Cert.Ln2RIdeal.τ).loc Cert.Ln2RIdeal.main_arg3)) (m ((c.tc : Thread Cert.Ln2RIdeal.nD Cert.Ln2RIdeal.τ).loc Cert.Ln2RIdeal.main_arg4)) (m ((c.tc : Thread Cert.Ln2RIdeal.nD Cert.Ln2RIdeal.τ).loc Cert.Ln2RIdeal.main_arg5))).1 = (fun _ => 1#1)
    ∧ (Cert.Pre_ln2_finite.fn (F := Ideal) (m ((c.tc : Thread Cert.Ln2RIdeal.nD Cert.Ln2RIdeal.τ).loc Cert.Ln2RIdeal.main_arg0)) (m ((c.tc : Thread Cert.Ln2RIdeal.nD Cert.Ln2RIdeal.τ).loc Cert.Ln2RIdeal.main_arg1)) (m ((c.tc : Thread Cert.Ln2RIdeal.nD Cert.Ln2RIdeal.τ).loc Cert.Ln2RIdeal.main_arg2)) (m ((c.tc : Thread Cert.Ln2RIdeal.nD Cert.Ln2RIdeal.τ).loc Cert.Ln2RIdeal.main_arg3)) (m ((c.tc : Thread Cert.Ln2RIdeal.nD Cert.Ln2RIdeal.τ).loc Cert.Ln2RIdeal.main_arg4)) (m ((c.tc : Thread Cert.Ln2RIdeal.nD Cert.Ln2RIdeal.τ).loc Cert.Ln2RIdeal.main_arg5))).2.1 = (fun _ => 1#1)
    ∧ (Cert.Pre_ln2_finite.fn (F := Ideal) (m ((c.tc : Thread Cert.Ln2RIdeal.nD Cert.Ln2RIdeal.τ).loc Cert.Ln2RIdeal.main_arg0)) (m ((c.tc : Thread Cert.Ln2RIdeal.nD Cert.Ln2RIdeal.τ).loc Cert.Ln2RIdeal.main_arg1)) (m ((c.tc : Thread Cert.Ln2RIdeal.nD Cert.Ln2RIdeal.τ).loc Cert.Ln2RIdeal.main_arg2)) (m ((c.tc : Thread Cert.Ln2RIdeal.nD Cert.Ln2RIdeal.τ).loc Cert.Ln2RIdeal.main_arg3)) (m ((c.tc : Thread Cert.Ln2RIdeal.nD Cert.Ln2RIdeal.τ).loc Cert.Ln2RIdeal.main_arg4)) (m ((c.tc : Thread Cert.Ln2RIdeal.nD Cert.Ln2RIdeal.τ).loc Cert.Ln2RIdeal.main_arg5))).2.2.1 = (fun _ => 1#1)
    ∧ (Cert.Pre_ln2_finite.fn (F := Ideal) (m ((c.tc : Thread Cert.Ln2RIdeal.nD Cert.Ln2RIdeal.τ).loc Cert.Ln2RIdeal.main_arg0)) (m ((c.tc : Thread Cert.Ln2RIdeal.nD Cert.Ln2RIdeal.τ).loc Cert.Ln2RIdeal.main_arg1)) (m ((c.tc : Thread Cert.Ln2RIdeal.nD Cert.Ln2RIdeal.τ).loc Cert.Ln2RIdeal.main_arg2)) (m ((c.tc : Thread Cert.Ln2RIdeal.nD Cert.Ln2RIdeal.τ).loc Cert.Ln2RIdeal.main_arg3)) (m ((c.tc : Thread Cert.Ln2RIdeal.nD Cert.Ln2RIdeal.τ).loc Cert.Ln2RIdeal.main_arg4)) (m ((c.tc : Thread Cert.Ln2RIdeal.nD Cert.Ln2RIdeal.τ).loc Cert.Ln2RIdeal.main_arg5))).2.2.2.1 = (fun _ => 1#1)
    ∧ (Cert.Pre_ln2_finite.fn (F := Ideal) (m ((c.tc : Thread Cert.Ln2RIdeal.nD Cert.Ln2RIdeal.τ).loc Cert.Ln2RIdeal.main_arg0)) (m ((c.tc : Thread Cert.Ln2RIdeal.nD Cert.Ln2RIdeal.τ).loc Cert.Ln2RIdeal.main_arg1)) (m ((c.tc : Thread Cert.Ln2RIdeal.nD Cert.Ln2RIdeal.τ).loc Cert.Ln2RIdeal.main_arg2)) (m ((c.tc : Thread Cert.Ln2RIdeal.nD Cert.Ln2RIdeal.τ).loc Cert.Ln2RIdeal.main_arg3)) (m ((c.tc : Thread Cert.Ln2RIdeal.nD Cert.Ln2RIdeal.τ).loc Cert.Ln2RIdeal.main_arg4)) (m ((c.tc : Thread Cert.Ln2RIdeal.nD Cert.Ln2RIdeal.τ).loc Cert.Ln2RIdeal.main_arg5))).2.2.2.2.1 = (fun _ => 1#1)
    ∧ (Cert.Pre_ln2_finite.fn (F := Ideal) (m ((c.tc : Thread Cert.Ln2RIdeal.nD Cert.Ln2RIdeal.τ).loc Cert.Ln2RIdeal.main_arg0)) (m ((c.tc : Thread Cert.Ln2RIdeal.nD Cert.Ln2RIdeal.τ).loc Cert.Ln2RIdeal.main_arg1)) (m ((c.tc : Thread Cert.Ln2RIdeal.nD Cert.Ln2RIdeal.τ).loc Cert.Ln2RIdeal.main_arg2)) (m ((c.tc : Thread Cert.Ln2RIdeal.nD Cert.Ln2RIdeal.τ).loc Cert.Ln2RIdeal.main_arg3)) (m ((c.tc : Thread Cert.Ln2RIdeal.nD Cert.Ln2RIdeal.τ).loc Cert.Ln2RIdeal.main_arg4)) (m ((c.tc : Thread Cert.Ln2RIdeal.nD Cert.Ln2RIdeal.τ).loc Cert.Ln2RIdeal.main_arg5))).2.2.2.2.2 = (fun _ => 1#1)

def Pre_Dx1K (m : (ℓ : Loc Cert.Dx1K.nD Cert.Dx1K.τ Cert.Dx1K.sig) → Buf (Elt Bits) ℓ) : Prop :=
  True

def Pre_Dx1KIdeal (m : (ℓ : Loc Cert.Dx1KIdeal.nD Cert.Dx1KIdeal.τ Cert.Dx1KIdeal.sig) → Buf (Elt Ideal) ℓ) : Prop :=
  True

def Pre_Dx1KIdeal_dx1_finite [hPre_dx1_finite : Cert.Pre_dx1_finite.Facts] (m : (ℓ : Loc Cert.Dx1KIdeal.nD Cert.Dx1KIdeal.τ Cert.Dx1KIdeal.sig) → Buf (Elt Ideal) ℓ) : Prop :=
  ∀ c : Dev Cert.Dx1KIdeal.nD,
    (Cert.Pre_dx1_finite.fn (F := Ideal) (m ((c.tc : Thread Cert.Dx1KIdeal.nD Cert.Dx1KIdeal.τ).loc Cert.Dx1KIdeal.main_arg0)) (m ((c.tc : Thread Cert.Dx1KIdeal.nD Cert.Dx1KIdeal.τ).loc Cert.Dx1KIdeal.main_arg1)) (m ((c.tc : Thread Cert.Dx1KIdeal.nD Cert.Dx1KIdeal.τ).loc Cert.Dx1KIdeal.main_arg2)) (m ((c.tc : Thread Cert.Dx1KIdeal.nD Cert.Dx1KIdeal.τ).loc Cert.Dx1KIdeal.main_arg3)) (m ((c.tc : Thread Cert.Dx1KIdeal.nD Cert.Dx1KIdeal.τ).loc Cert.Dx1KIdeal.main_arg4)) (m ((c.tc : Thread Cert.Dx1KIdeal.nD Cert.Dx1KIdeal.τ).loc Cert.Dx1KIdeal.main_arg5))).1 = (fun _ => 1#1)
    ∧ (Cert.Pre_dx1_finite.fn (F := Ideal) (m ((c.tc : Thread Cert.Dx1KIdeal.nD Cert.Dx1KIdeal.τ).loc Cert.Dx1KIdeal.main_arg0)) (m ((c.tc : Thread Cert.Dx1KIdeal.nD Cert.Dx1KIdeal.τ).loc Cert.Dx1KIdeal.main_arg1)) (m ((c.tc : Thread Cert.Dx1KIdeal.nD Cert.Dx1KIdeal.τ).loc Cert.Dx1KIdeal.main_arg2)) (m ((c.tc : Thread Cert.Dx1KIdeal.nD Cert.Dx1KIdeal.τ).loc Cert.Dx1KIdeal.main_arg3)) (m ((c.tc : Thread Cert.Dx1KIdeal.nD Cert.Dx1KIdeal.τ).loc Cert.Dx1KIdeal.main_arg4)) (m ((c.tc : Thread Cert.Dx1KIdeal.nD Cert.Dx1KIdeal.τ).loc Cert.Dx1KIdeal.main_arg5))).2.1 = (fun _ => 1#1)
    ∧ (Cert.Pre_dx1_finite.fn (F := Ideal) (m ((c.tc : Thread Cert.Dx1KIdeal.nD Cert.Dx1KIdeal.τ).loc Cert.Dx1KIdeal.main_arg0)) (m ((c.tc : Thread Cert.Dx1KIdeal.nD Cert.Dx1KIdeal.τ).loc Cert.Dx1KIdeal.main_arg1)) (m ((c.tc : Thread Cert.Dx1KIdeal.nD Cert.Dx1KIdeal.τ).loc Cert.Dx1KIdeal.main_arg2)) (m ((c.tc : Thread Cert.Dx1KIdeal.nD Cert.Dx1KIdeal.τ).loc Cert.Dx1KIdeal.main_arg3)) (m ((c.tc : Thread Cert.Dx1KIdeal.nD Cert.Dx1KIdeal.τ).loc Cert.Dx1KIdeal.main_arg4)) (m ((c.tc : Thread Cert.Dx1KIdeal.nD Cert.Dx1KIdeal.τ).loc Cert.Dx1KIdeal.main_arg5))).2.2.1 = (fun _ => 1#1)
    ∧ (Cert.Pre_dx1_finite.fn (F := Ideal) (m ((c.tc : Thread Cert.Dx1KIdeal.nD Cert.Dx1KIdeal.τ).loc Cert.Dx1KIdeal.main_arg0)) (m ((c.tc : Thread Cert.Dx1KIdeal.nD Cert.Dx1KIdeal.τ).loc Cert.Dx1KIdeal.main_arg1)) (m ((c.tc : Thread Cert.Dx1KIdeal.nD Cert.Dx1KIdeal.τ).loc Cert.Dx1KIdeal.main_arg2)) (m ((c.tc : Thread Cert.Dx1KIdeal.nD Cert.Dx1KIdeal.τ).loc Cert.Dx1KIdeal.main_arg3)) (m ((c.tc : Thread Cert.Dx1KIdeal.nD Cert.Dx1KIdeal.τ).loc Cert.Dx1KIdeal.main_arg4)) (m ((c.tc : Thread Cert.Dx1KIdeal.nD Cert.Dx1KIdeal.τ).loc Cert.Dx1KIdeal.main_arg5))).2.2.2.1 = (fun _ => 1#1)
    ∧ (Cert.Pre_dx1_finite.fn (F := Ideal) (m ((c.tc : Thread Cert.Dx1KIdeal.nD Cert.Dx1KIdeal.τ).loc Cert.Dx1KIdeal.main_arg0)) (m ((c.tc : Thread Cert.Dx1KIdeal.nD Cert.Dx1KIdeal.τ).loc Cert.Dx1KIdeal.main_arg1)) (m ((c.tc : Thread Cert.Dx1KIdeal.nD Cert.Dx1KIdeal.τ).loc Cert.Dx1KIdeal.main_arg2)) (m ((c.tc : Thread Cert.Dx1KIdeal.nD Cert.Dx1KIdeal.τ).loc Cert.Dx1KIdeal.main_arg3)) (m ((c.tc : Thread Cert.Dx1KIdeal.nD Cert.Dx1KIdeal.τ).loc Cert.Dx1KIdeal.main_arg4)) (m ((c.tc : Thread Cert.Dx1KIdeal.nD Cert.Dx1KIdeal.τ).loc Cert.Dx1KIdeal.main_arg5))).2.2.2.2 = (fun _ => 1#1)

def Pre_Dx1RIdeal (m : (ℓ : Loc Cert.Dx1RIdeal.nD Cert.Dx1RIdeal.τ Cert.Dx1RIdeal.sig) → Buf (Elt Ideal) ℓ) : Prop :=
  True

def Pre_Dx1RIdeal_dx1_finite [hPre_dx1_finite : Cert.Pre_dx1_finite.Facts] (m : (ℓ : Loc Cert.Dx1RIdeal.nD Cert.Dx1RIdeal.τ Cert.Dx1RIdeal.sig) → Buf (Elt Ideal) ℓ) : Prop :=
  ∀ c : Dev Cert.Dx1RIdeal.nD,
    (Cert.Pre_dx1_finite.fn (F := Ideal) (m ((c.tc : Thread Cert.Dx1RIdeal.nD Cert.Dx1RIdeal.τ).loc Cert.Dx1RIdeal.main_arg0)) (m ((c.tc : Thread Cert.Dx1RIdeal.nD Cert.Dx1RIdeal.τ).loc Cert.Dx1RIdeal.main_arg1)) (m ((c.tc : Thread Cert.Dx1RIdeal.nD Cert.Dx1RIdeal.τ).loc Cert.Dx1RIdeal.main_arg2)) (m ((c.tc : Thread Cert.Dx1RIdeal.nD Cert.Dx1RIdeal.τ).loc Cert.Dx1RIdeal.main_arg3)) (m ((c.tc : Thread Cert.Dx1RIdeal.nD Cert.Dx1RIdeal.τ).loc Cert.Dx1RIdeal.main_arg4)) (m ((c.tc : Thread Cert.Dx1RIdeal.nD Cert.Dx1RIdeal.τ).loc Cert.Dx1RIdeal.main_arg5))).1 = (fun _ => 1#1)
    ∧ (Cert.Pre_dx1_finite.fn (F := Ideal) (m ((c.tc : Thread Cert.Dx1RIdeal.nD Cert.Dx1RIdeal.τ).loc Cert.Dx1RIdeal.main_arg0)) (m ((c.tc : Thread Cert.Dx1RIdeal.nD Cert.Dx1RIdeal.τ).loc Cert.Dx1RIdeal.main_arg1)) (m ((c.tc : Thread Cert.Dx1RIdeal.nD Cert.Dx1RIdeal.τ).loc Cert.Dx1RIdeal.main_arg2)) (m ((c.tc : Thread Cert.Dx1RIdeal.nD Cert.Dx1RIdeal.τ).loc Cert.Dx1RIdeal.main_arg3)) (m ((c.tc : Thread Cert.Dx1RIdeal.nD Cert.Dx1RIdeal.τ).loc Cert.Dx1RIdeal.main_arg4)) (m ((c.tc : Thread Cert.Dx1RIdeal.nD Cert.Dx1RIdeal.τ).loc Cert.Dx1RIdeal.main_arg5))).2.1 = (fun _ => 1#1)
    ∧ (Cert.Pre_dx1_finite.fn (F := Ideal) (m ((c.tc : Thread Cert.Dx1RIdeal.nD Cert.Dx1RIdeal.τ).loc Cert.Dx1RIdeal.main_arg0)) (m ((c.tc : Thread Cert.Dx1RIdeal.nD Cert.Dx1RIdeal.τ).loc Cert.Dx1RIdeal.main_arg1)) (m ((c.tc : Thread Cert.Dx1RIdeal.nD Cert.Dx1RIdeal.τ).loc Cert.Dx1RIdeal.main_arg2)) (m ((c.tc : Thread Cert.Dx1RIdeal.nD Cert.Dx1RIdeal.τ).loc Cert.Dx1RIdeal.main_arg3)) (m ((c.tc : Thread Cert.Dx1RIdeal.nD Cert.Dx1RIdeal.τ).loc Cert.Dx1RIdeal.main_arg4)) (m ((c.tc : Thread Cert.Dx1RIdeal.nD Cert.Dx1RIdeal.τ).loc Cert.Dx1RIdeal.main_arg5))).2.2.1 = (fun _ => 1#1)
    ∧ (Cert.Pre_dx1_finite.fn (F := Ideal) (m ((c.tc : Thread Cert.Dx1RIdeal.nD Cert.Dx1RIdeal.τ).loc Cert.Dx1RIdeal.main_arg0)) (m ((c.tc : Thread Cert.Dx1RIdeal.nD Cert.Dx1RIdeal.τ).loc Cert.Dx1RIdeal.main_arg1)) (m ((c.tc : Thread Cert.Dx1RIdeal.nD Cert.Dx1RIdeal.τ).loc Cert.Dx1RIdeal.main_arg2)) (m ((c.tc : Thread Cert.Dx1RIdeal.nD Cert.Dx1RIdeal.τ).loc Cert.Dx1RIdeal.main_arg3)) (m ((c.tc : Thread Cert.Dx1RIdeal.nD Cert.Dx1RIdeal.τ).loc Cert.Dx1RIdeal.main_arg4)) (m ((c.tc : Thread Cert.Dx1RIdeal.nD Cert.Dx1RIdeal.τ).loc Cert.Dx1RIdeal.main_arg5))).2.2.2.1 = (fun _ => 1#1)
    ∧ (Cert.Pre_dx1_finite.fn (F := Ideal) (m ((c.tc : Thread Cert.Dx1RIdeal.nD Cert.Dx1RIdeal.τ).loc Cert.Dx1RIdeal.main_arg0)) (m ((c.tc : Thread Cert.Dx1RIdeal.nD Cert.Dx1RIdeal.τ).loc Cert.Dx1RIdeal.main_arg1)) (m ((c.tc : Thread Cert.Dx1RIdeal.nD Cert.Dx1RIdeal.τ).loc Cert.Dx1RIdeal.main_arg2)) (m ((c.tc : Thread Cert.Dx1RIdeal.nD Cert.Dx1RIdeal.τ).loc Cert.Dx1RIdeal.main_arg3)) (m ((c.tc : Thread Cert.Dx1RIdeal.nD Cert.Dx1RIdeal.τ).loc Cert.Dx1RIdeal.main_arg4)) (m ((c.tc : Thread Cert.Dx1RIdeal.nD Cert.Dx1RIdeal.τ).loc Cert.Dx1RIdeal.main_arg5))).2.2.2.2 = (fun _ => 1#1)

def Pre_PobK (m : (ℓ : Loc Cert.PobK.nD Cert.PobK.τ Cert.PobK.sig) → Buf (Elt Bits) ℓ) : Prop :=
  True

def Pre_PobKIdeal (m : (ℓ : Loc Cert.PobKIdeal.nD Cert.PobKIdeal.τ Cert.PobKIdeal.sig) → Buf (Elt Ideal) ℓ) : Prop :=
  True

def Pre_PobKIdeal_pob_finite [hPre_pob_finite : Cert.Pre_pob_finite.Facts] (m : (ℓ : Loc Cert.PobKIdeal.nD Cert.PobKIdeal.τ Cert.PobKIdeal.sig) → Buf (Elt Ideal) ℓ) : Prop :=
  ∀ c : Dev Cert.PobKIdeal.nD,
    (Cert.Pre_pob_finite.fn (F := Ideal) (m ((c.tc : Thread Cert.PobKIdeal.nD Cert.PobKIdeal.τ).loc Cert.PobKIdeal.main_arg0)) (m ((c.tc : Thread Cert.PobKIdeal.nD Cert.PobKIdeal.τ).loc Cert.PobKIdeal.main_arg1)) (m ((c.tc : Thread Cert.PobKIdeal.nD Cert.PobKIdeal.τ).loc Cert.PobKIdeal.main_arg2)) (m ((c.tc : Thread Cert.PobKIdeal.nD Cert.PobKIdeal.τ).loc Cert.PobKIdeal.main_arg3)) (m ((c.tc : Thread Cert.PobKIdeal.nD Cert.PobKIdeal.τ).loc Cert.PobKIdeal.main_arg4)) (m ((c.tc : Thread Cert.PobKIdeal.nD Cert.PobKIdeal.τ).loc Cert.PobKIdeal.main_arg5))).1 = (fun _ => 1#1)
    ∧ (Cert.Pre_pob_finite.fn (F := Ideal) (m ((c.tc : Thread Cert.PobKIdeal.nD Cert.PobKIdeal.τ).loc Cert.PobKIdeal.main_arg0)) (m ((c.tc : Thread Cert.PobKIdeal.nD Cert.PobKIdeal.τ).loc Cert.PobKIdeal.main_arg1)) (m ((c.tc : Thread Cert.PobKIdeal.nD Cert.PobKIdeal.τ).loc Cert.PobKIdeal.main_arg2)) (m ((c.tc : Thread Cert.PobKIdeal.nD Cert.PobKIdeal.τ).loc Cert.PobKIdeal.main_arg3)) (m ((c.tc : Thread Cert.PobKIdeal.nD Cert.PobKIdeal.τ).loc Cert.PobKIdeal.main_arg4)) (m ((c.tc : Thread Cert.PobKIdeal.nD Cert.PobKIdeal.τ).loc Cert.PobKIdeal.main_arg5))).2.1 = (fun _ => 1#1)
    ∧ (Cert.Pre_pob_finite.fn (F := Ideal) (m ((c.tc : Thread Cert.PobKIdeal.nD Cert.PobKIdeal.τ).loc Cert.PobKIdeal.main_arg0)) (m ((c.tc : Thread Cert.PobKIdeal.nD Cert.PobKIdeal.τ).loc Cert.PobKIdeal.main_arg1)) (m ((c.tc : Thread Cert.PobKIdeal.nD Cert.PobKIdeal.τ).loc Cert.PobKIdeal.main_arg2)) (m ((c.tc : Thread Cert.PobKIdeal.nD Cert.PobKIdeal.τ).loc Cert.PobKIdeal.main_arg3)) (m ((c.tc : Thread Cert.PobKIdeal.nD Cert.PobKIdeal.τ).loc Cert.PobKIdeal.main_arg4)) (m ((c.tc : Thread Cert.PobKIdeal.nD Cert.PobKIdeal.τ).loc Cert.PobKIdeal.main_arg5))).2.2.1 = (fun _ => 1#1)
    ∧ (Cert.Pre_pob_finite.fn (F := Ideal) (m ((c.tc : Thread Cert.PobKIdeal.nD Cert.PobKIdeal.τ).loc Cert.PobKIdeal.main_arg0)) (m ((c.tc : Thread Cert.PobKIdeal.nD Cert.PobKIdeal.τ).loc Cert.PobKIdeal.main_arg1)) (m ((c.tc : Thread Cert.PobKIdeal.nD Cert.PobKIdeal.τ).loc Cert.PobKIdeal.main_arg2)) (m ((c.tc : Thread Cert.PobKIdeal.nD Cert.PobKIdeal.τ).loc Cert.PobKIdeal.main_arg3)) (m ((c.tc : Thread Cert.PobKIdeal.nD Cert.PobKIdeal.τ).loc Cert.PobKIdeal.main_arg4)) (m ((c.tc : Thread Cert.PobKIdeal.nD Cert.PobKIdeal.τ).loc Cert.PobKIdeal.main_arg5))).2.2.2.1 = (fun _ => 1#1)
    ∧ (Cert.Pre_pob_finite.fn (F := Ideal) (m ((c.tc : Thread Cert.PobKIdeal.nD Cert.PobKIdeal.τ).loc Cert.PobKIdeal.main_arg0)) (m ((c.tc : Thread Cert.PobKIdeal.nD Cert.PobKIdeal.τ).loc Cert.PobKIdeal.main_arg1)) (m ((c.tc : Thread Cert.PobKIdeal.nD Cert.PobKIdeal.τ).loc Cert.PobKIdeal.main_arg2)) (m ((c.tc : Thread Cert.PobKIdeal.nD Cert.PobKIdeal.τ).loc Cert.PobKIdeal.main_arg3)) (m ((c.tc : Thread Cert.PobKIdeal.nD Cert.PobKIdeal.τ).loc Cert.PobKIdeal.main_arg4)) (m ((c.tc : Thread Cert.PobKIdeal.nD Cert.PobKIdeal.τ).loc Cert.PobKIdeal.main_arg5))).2.2.2.2 = (fun _ => 1#1)

def Pre_PobRIdeal (m : (ℓ : Loc Cert.PobRIdeal.nD Cert.PobRIdeal.τ Cert.PobRIdeal.sig) → Buf (Elt Ideal) ℓ) : Prop :=
  True

def Pre_PobRIdeal_pob_finite [hPre_pob_finite : Cert.Pre_pob_finite.Facts] (m : (ℓ : Loc Cert.PobRIdeal.nD Cert.PobRIdeal.τ Cert.PobRIdeal.sig) → Buf (Elt Ideal) ℓ) : Prop :=
  ∀ c : Dev Cert.PobRIdeal.nD,
    (Cert.Pre_pob_finite.fn (F := Ideal) (m ((c.tc : Thread Cert.PobRIdeal.nD Cert.PobRIdeal.τ).loc Cert.PobRIdeal.main_arg0)) (m ((c.tc : Thread Cert.PobRIdeal.nD Cert.PobRIdeal.τ).loc Cert.PobRIdeal.main_arg1)) (m ((c.tc : Thread Cert.PobRIdeal.nD Cert.PobRIdeal.τ).loc Cert.PobRIdeal.main_arg2)) (m ((c.tc : Thread Cert.PobRIdeal.nD Cert.PobRIdeal.τ).loc Cert.PobRIdeal.main_arg3)) (m ((c.tc : Thread Cert.PobRIdeal.nD Cert.PobRIdeal.τ).loc Cert.PobRIdeal.main_arg4)) (m ((c.tc : Thread Cert.PobRIdeal.nD Cert.PobRIdeal.τ).loc Cert.PobRIdeal.main_arg5))).1 = (fun _ => 1#1)
    ∧ (Cert.Pre_pob_finite.fn (F := Ideal) (m ((c.tc : Thread Cert.PobRIdeal.nD Cert.PobRIdeal.τ).loc Cert.PobRIdeal.main_arg0)) (m ((c.tc : Thread Cert.PobRIdeal.nD Cert.PobRIdeal.τ).loc Cert.PobRIdeal.main_arg1)) (m ((c.tc : Thread Cert.PobRIdeal.nD Cert.PobRIdeal.τ).loc Cert.PobRIdeal.main_arg2)) (m ((c.tc : Thread Cert.PobRIdeal.nD Cert.PobRIdeal.τ).loc Cert.PobRIdeal.main_arg3)) (m ((c.tc : Thread Cert.PobRIdeal.nD Cert.PobRIdeal.τ).loc Cert.PobRIdeal.main_arg4)) (m ((c.tc : Thread Cert.PobRIdeal.nD Cert.PobRIdeal.τ).loc Cert.PobRIdeal.main_arg5))).2.1 = (fun _ => 1#1)
    ∧ (Cert.Pre_pob_finite.fn (F := Ideal) (m ((c.tc : Thread Cert.PobRIdeal.nD Cert.PobRIdeal.τ).loc Cert.PobRIdeal.main_arg0)) (m ((c.tc : Thread Cert.PobRIdeal.nD Cert.PobRIdeal.τ).loc Cert.PobRIdeal.main_arg1)) (m ((c.tc : Thread Cert.PobRIdeal.nD Cert.PobRIdeal.τ).loc Cert.PobRIdeal.main_arg2)) (m ((c.tc : Thread Cert.PobRIdeal.nD Cert.PobRIdeal.τ).loc Cert.PobRIdeal.main_arg3)) (m ((c.tc : Thread Cert.PobRIdeal.nD Cert.PobRIdeal.τ).loc Cert.PobRIdeal.main_arg4)) (m ((c.tc : Thread Cert.PobRIdeal.nD Cert.PobRIdeal.τ).loc Cert.PobRIdeal.main_arg5))).2.2.1 = (fun _ => 1#1)
    ∧ (Cert.Pre_pob_finite.fn (F := Ideal) (m ((c.tc : Thread Cert.PobRIdeal.nD Cert.PobRIdeal.τ).loc Cert.PobRIdeal.main_arg0)) (m ((c.tc : Thread Cert.PobRIdeal.nD Cert.PobRIdeal.τ).loc Cert.PobRIdeal.main_arg1)) (m ((c.tc : Thread Cert.PobRIdeal.nD Cert.PobRIdeal.τ).loc Cert.PobRIdeal.main_arg2)) (m ((c.tc : Thread Cert.PobRIdeal.nD Cert.PobRIdeal.τ).loc Cert.PobRIdeal.main_arg3)) (m ((c.tc : Thread Cert.PobRIdeal.nD Cert.PobRIdeal.τ).loc Cert.PobRIdeal.main_arg4)) (m ((c.tc : Thread Cert.PobRIdeal.nD Cert.PobRIdeal.τ).loc Cert.PobRIdeal.main_arg5))).2.2.2.1 = (fun _ => 1#1)
    ∧ (Cert.Pre_pob_finite.fn (F := Ideal) (m ((c.tc : Thread Cert.PobRIdeal.nD Cert.PobRIdeal.τ).loc Cert.PobRIdeal.main_arg0)) (m ((c.tc : Thread Cert.PobRIdeal.nD Cert.PobRIdeal.τ).loc Cert.PobRIdeal.main_arg1)) (m ((c.tc : Thread Cert.PobRIdeal.nD Cert.PobRIdeal.τ).loc Cert.PobRIdeal.main_arg2)) (m ((c.tc : Thread Cert.PobRIdeal.nD Cert.PobRIdeal.τ).loc Cert.PobRIdeal.main_arg3)) (m ((c.tc : Thread Cert.PobRIdeal.nD Cert.PobRIdeal.τ).loc Cert.PobRIdeal.main_arg4)) (m ((c.tc : Thread Cert.PobRIdeal.nD Cert.PobRIdeal.τ).loc Cert.PobRIdeal.main_arg5))).2.2.2.2 = (fun _ => 1#1)

def Pre_FwdK (m : (ℓ : Loc Cert.FwdK.nD Cert.FwdK.τ Cert.FwdK.sig) → Buf (Elt Bits) ℓ) : Prop :=
  True

def Pre_FwdKIdeal (m : (ℓ : Loc Cert.FwdKIdeal.nD Cert.FwdKIdeal.τ Cert.FwdKIdeal.sig) → Buf (Elt Ideal) ℓ) : Prop :=
  True

def Pre_FwdKIdeal_fwd_finite [hPre_fwd_finite : Cert.Pre_fwd_finite.Facts] (m : (ℓ : Loc Cert.FwdKIdeal.nD Cert.FwdKIdeal.τ Cert.FwdKIdeal.sig) → Buf (Elt Ideal) ℓ) : Prop :=
  ∀ c : Dev Cert.FwdKIdeal.nD,
    (Cert.Pre_fwd_finite.fn (F := Ideal) (m ((c.tc : Thread Cert.FwdKIdeal.nD Cert.FwdKIdeal.τ).loc Cert.FwdKIdeal.main_arg0)) (m ((c.tc : Thread Cert.FwdKIdeal.nD Cert.FwdKIdeal.τ).loc Cert.FwdKIdeal.main_arg1)) (m ((c.tc : Thread Cert.FwdKIdeal.nD Cert.FwdKIdeal.τ).loc Cert.FwdKIdeal.main_arg2))).1 = (fun _ => 1#1)
    ∧ (Cert.Pre_fwd_finite.fn (F := Ideal) (m ((c.tc : Thread Cert.FwdKIdeal.nD Cert.FwdKIdeal.τ).loc Cert.FwdKIdeal.main_arg0)) (m ((c.tc : Thread Cert.FwdKIdeal.nD Cert.FwdKIdeal.τ).loc Cert.FwdKIdeal.main_arg1)) (m ((c.tc : Thread Cert.FwdKIdeal.nD Cert.FwdKIdeal.τ).loc Cert.FwdKIdeal.main_arg2))).2 = (fun _ => 1#1)

def Pre_FwdRIdeal (m : (ℓ : Loc Cert.FwdRIdeal.nD Cert.FwdRIdeal.τ Cert.FwdRIdeal.sig) → Buf (Elt Ideal) ℓ) : Prop :=
  True

def Pre_FwdRIdeal_fwd_finite [hPre_fwd_finite : Cert.Pre_fwd_finite.Facts] (m : (ℓ : Loc Cert.FwdRIdeal.nD Cert.FwdRIdeal.τ Cert.FwdRIdeal.sig) → Buf (Elt Ideal) ℓ) : Prop :=
  ∀ c : Dev Cert.FwdRIdeal.nD,
    (Cert.Pre_fwd_finite.fn (F := Ideal) (m ((c.tc : Thread Cert.FwdRIdeal.nD Cert.FwdRIdeal.τ).loc Cert.FwdRIdeal.main_arg0)) (m ((c.tc : Thread Cert.FwdRIdeal.nD Cert.FwdRIdeal.τ).loc Cert.FwdRIdeal.main_arg1)) (m ((c.tc : Thread Cert.FwdRIdeal.nD Cert.FwdRIdeal.τ).loc Cert.FwdRIdeal.main_arg2))).1 = (fun _ => 1#1)
    ∧ (Cert.Pre_fwd_finite.fn (F := Ideal) (m ((c.tc : Thread Cert.FwdRIdeal.nD Cert.FwdRIdeal.τ).loc Cert.FwdRIdeal.main_arg0)) (m ((c.tc : Thread Cert.FwdRIdeal.nD Cert.FwdRIdeal.τ).loc Cert.FwdRIdeal.main_arg1)) (m ((c.tc : Thread Cert.FwdRIdeal.nD Cert.FwdRIdeal.τ).loc Cert.FwdRIdeal.main_arg2))).2 = (fun _ => 1#1)

def Pre_UpK (m : (ℓ : Loc Cert.UpK.nD Cert.UpK.τ Cert.UpK.sig) → Buf (Elt Bits) ℓ) : Prop :=
  True

def Pre_UpKIdeal (m : (ℓ : Loc Cert.UpKIdeal.nD Cert.UpKIdeal.τ Cert.UpKIdeal.sig) → Buf (Elt Ideal) ℓ) : Prop :=
  True

def Pre_UpRIdeal (m : (ℓ : Loc Cert.UpRIdeal.nD Cert.UpRIdeal.τ Cert.UpRIdeal.sig) → Buf (Elt Ideal) ℓ) : Prop :=
  True

def Pre_OutK (m : (ℓ : Loc Cert.OutK.nD Cert.OutK.τ Cert.OutK.sig) → Buf (Elt Bits) ℓ) : Prop :=
  True

def Pre_OutKIdeal (m : (ℓ : Loc Cert.OutKIdeal.nD Cert.OutKIdeal.τ Cert.OutKIdeal.sig) → Buf (Elt Ideal) ℓ) : Prop :=
  True

def Pre_OutRIdeal (m : (ℓ : Loc Cert.OutRIdeal.nD Cert.OutRIdeal.τ Cert.OutRIdeal.sig) → Buf (Elt Ideal) ℓ) : Prop :=
  True

def Pre_InK (m : (ℓ : Loc Cert.InK.nD Cert.InK.τ Cert.InK.sig) → Buf (Elt Bits) ℓ) : Prop :=
  True

def Pre_InKIdeal (m : (ℓ : Loc Cert.InKIdeal.nD Cert.InKIdeal.τ Cert.InKIdeal.sig) → Buf (Elt Ideal) ℓ) : Prop :=
  True

def Pre_InRIdeal (m : (ℓ : Loc Cert.InRIdeal.nD Cert.InRIdeal.τ Cert.InRIdeal.sig) → Buf (Elt Ideal) ℓ) : Prop :=
  True

def quiescent_AttnK [hAttnK : Cert.AttnK.Facts] : Prop :=
  ∀ (m : (ℓ : Loc Cert.AttnK.nD Cert.AttnK.τ Cert.AttnK.sig) → Buf (Elt Bits) ℓ) (g : Dev Cert.AttnK.nD → PrngReg), Pre_AttnK m →
    θ_run (Cert.AttnK.defs (F := Bits)) (onTc (τ := Cert.AttnK.τ) (Cert.AttnK.main (F := Bits))) ⟨m, fun _ => 0, g⟩ (fun r => (∀ c : Dev Cert.AttnK.nD,
      r.2.mem ((c.tc : Thread Cert.AttnK.nD Cert.AttnK.τ).loc Cert.AttnK.main_arg0) = m ((c.tc : Thread Cert.AttnK.nD Cert.AttnK.τ).loc Cert.AttnK.main_arg0)
      ∧ r.2.mem ((c.tc : Thread Cert.AttnK.nD Cert.AttnK.τ).loc Cert.AttnK.main_arg1) = m ((c.tc : Thread Cert.AttnK.nD Cert.AttnK.τ).loc Cert.AttnK.main_arg1)
      ∧ r.2.mem ((c.tc : Thread Cert.AttnK.nD Cert.AttnK.τ).loc Cert.AttnK.main_arg2) = m ((c.tc : Thread Cert.AttnK.nD Cert.AttnK.τ).loc Cert.AttnK.main_arg2))
      ∧ r.2.sem = fun _ => 0)

def quiescent_AttnKIdeal [hAttnKIdeal : Cert.AttnKIdeal.Facts] : Prop :=
  ∀ (m : (ℓ : Loc Cert.AttnKIdeal.nD Cert.AttnKIdeal.τ Cert.AttnKIdeal.sig) → Buf (Elt Ideal) ℓ) (g : Dev Cert.AttnKIdeal.nD → PrngReg), Pre_AttnKIdeal m →
    θ_run (Cert.AttnKIdeal.defs (F := Ideal)) (onTc (τ := Cert.AttnKIdeal.τ) (Cert.AttnKIdeal.main (F := Ideal))) ⟨m, fun _ => 0, g⟩ (fun r => (∀ c : Dev Cert.AttnKIdeal.nD,
      r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
      ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
      ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2))
      ∧ r.2.sem = fun _ => 0)

def quiescent_AttnKIdeal_pre_attn_finite [hAttnKIdeal : Cert.AttnKIdeal.Facts] [hPre_attn_finite : Cert.Pre_attn_finite.Facts] : Prop :=
  ∀ (m : (ℓ : Loc Cert.AttnKIdeal.nD Cert.AttnKIdeal.τ Cert.AttnKIdeal.sig) → Buf (Elt Ideal) ℓ) (g : Dev Cert.AttnKIdeal.nD → PrngReg), Pre_AttnKIdeal_attn_finite m →
    θ_run (Cert.AttnKIdeal.defs (F := Ideal)) (onTc (τ := Cert.AttnKIdeal.τ) (Cert.AttnKIdeal.main (F := Ideal))) ⟨m, fun _ => 0, g⟩ (fun r => (∀ c : Dev Cert.AttnKIdeal.nD,
      r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
      ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
      ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2))
      ∧ r.2.sem = fun _ => 0)

def quiescent_AttnRIdeal [hAttnRIdeal : Cert.AttnRIdeal.Facts] : Prop :=
  ∀ (m : (ℓ : Loc Cert.AttnRIdeal.nD Cert.AttnRIdeal.τ Cert.AttnRIdeal.sig) → Buf (Elt Ideal) ℓ) (g : Dev Cert.AttnRIdeal.nD → PrngReg), Pre_AttnRIdeal m →
    θ_run (Cert.AttnRIdeal.defs (F := Ideal)) (onTc (τ := Cert.AttnRIdeal.τ) (Cert.AttnRIdeal.main (F := Ideal))) ⟨m, fun _ => 0, g⟩ (fun r => (∀ c : Dev Cert.AttnRIdeal.nD,
      r.2.mem ((c.tc : Thread Cert.AttnRIdeal.nD Cert.AttnRIdeal.τ).loc Cert.AttnRIdeal.main_arg0) = m ((c.tc : Thread Cert.AttnRIdeal.nD Cert.AttnRIdeal.τ).loc Cert.AttnRIdeal.main_arg0)
      ∧ r.2.mem ((c.tc : Thread Cert.AttnRIdeal.nD Cert.AttnRIdeal.τ).loc Cert.AttnRIdeal.main_arg1) = m ((c.tc : Thread Cert.AttnRIdeal.nD Cert.AttnRIdeal.τ).loc Cert.AttnRIdeal.main_arg1)
      ∧ r.2.mem ((c.tc : Thread Cert.AttnRIdeal.nD Cert.AttnRIdeal.τ).loc Cert.AttnRIdeal.main_arg2) = m ((c.tc : Thread Cert.AttnRIdeal.nD Cert.AttnRIdeal.τ).loc Cert.AttnRIdeal.main_arg2))
      ∧ r.2.sem = fun _ => 0)

def quiescent_AttnRIdeal_pre_attn_finite [hAttnRIdeal : Cert.AttnRIdeal.Facts] [hPre_attn_finite : Cert.Pre_attn_finite.Facts] : Prop :=
  ∀ (m : (ℓ : Loc Cert.AttnRIdeal.nD Cert.AttnRIdeal.τ Cert.AttnRIdeal.sig) → Buf (Elt Ideal) ℓ) (g : Dev Cert.AttnRIdeal.nD → PrngReg), Pre_AttnRIdeal_attn_finite m →
    θ_run (Cert.AttnRIdeal.defs (F := Ideal)) (onTc (τ := Cert.AttnRIdeal.τ) (Cert.AttnRIdeal.main (F := Ideal))) ⟨m, fun _ => 0, g⟩ (fun r => (∀ c : Dev Cert.AttnRIdeal.nD,
      r.2.mem ((c.tc : Thread Cert.AttnRIdeal.nD Cert.AttnRIdeal.τ).loc Cert.AttnRIdeal.main_arg0) = m ((c.tc : Thread Cert.AttnRIdeal.nD Cert.AttnRIdeal.τ).loc Cert.AttnRIdeal.main_arg0)
      ∧ r.2.mem ((c.tc : Thread Cert.AttnRIdeal.nD Cert.AttnRIdeal.τ).loc Cert.AttnRIdeal.main_arg1) = m ((c.tc : Thread Cert.AttnRIdeal.nD Cert.AttnRIdeal.τ).loc Cert.AttnRIdeal.main_arg1)
      ∧ r.2.mem ((c.tc : Thread Cert.AttnRIdeal.nD Cert.AttnRIdeal.τ).loc Cert.AttnRIdeal.main_arg2) = m ((c.tc : Thread Cert.AttnRIdeal.nD Cert.AttnRIdeal.τ).loc Cert.AttnRIdeal.main_arg2))
      ∧ r.2.sem = fun _ => 0)

def quiescent_DhidK [hDhidK : Cert.DhidK.Facts] : Prop :=
  ∀ (m : (ℓ : Loc Cert.DhidK.nD Cert.DhidK.τ Cert.DhidK.sig) → Buf (Elt Bits) ℓ) (g : Dev Cert.DhidK.nD → PrngReg), Pre_DhidK m →
    θ_run (Cert.DhidK.defs (F := Bits)) (onTc (τ := Cert.DhidK.τ) (Cert.DhidK.main (F := Bits))) ⟨m, fun _ => 0, g⟩ (fun r => (∀ c : Dev Cert.DhidK.nD,
      r.2.mem ((c.tc : Thread Cert.DhidK.nD Cert.DhidK.τ).loc Cert.DhidK.main_arg0) = m ((c.tc : Thread Cert.DhidK.nD Cert.DhidK.τ).loc Cert.DhidK.main_arg0)
      ∧ r.2.mem ((c.tc : Thread Cert.DhidK.nD Cert.DhidK.τ).loc Cert.DhidK.main_arg1) = m ((c.tc : Thread Cert.DhidK.nD Cert.DhidK.τ).loc Cert.DhidK.main_arg1)
      ∧ r.2.mem ((c.tc : Thread Cert.DhidK.nD Cert.DhidK.τ).loc Cert.DhidK.main_arg2) = m ((c.tc : Thread Cert.DhidK.nD Cert.DhidK.τ).loc Cert.DhidK.main_arg2))
      ∧ r.2.sem = fun _ => 0)

def quiescent_DhidKIdeal [hDhidKIdeal : Cert.DhidKIdeal.Facts] : Prop :=
  ∀ (m : (ℓ : Loc Cert.DhidKIdeal.nD Cert.DhidKIdeal.τ Cert.DhidKIdeal.sig) → Buf (Elt Ideal) ℓ) (g : Dev Cert.DhidKIdeal.nD → PrngReg), Pre_DhidKIdeal m →
    θ_run (Cert.DhidKIdeal.defs (F := Ideal)) (onTc (τ := Cert.DhidKIdeal.τ) (Cert.DhidKIdeal.main (F := Ideal))) ⟨m, fun _ => 0, g⟩ (fun r => (∀ c : Dev Cert.DhidKIdeal.nD,
      r.2.mem ((c.tc : Thread Cert.DhidKIdeal.nD Cert.DhidKIdeal.τ).loc Cert.DhidKIdeal.main_arg0) = m ((c.tc : Thread Cert.DhidKIdeal.nD Cert.DhidKIdeal.τ).loc Cert.DhidKIdeal.main_arg0)
      ∧ r.2.mem ((c.tc : Thread Cert.DhidKIdeal.nD Cert.DhidKIdeal.τ).loc Cert.DhidKIdeal.main_arg1) = m ((c.tc : Thread Cert.DhidKIdeal.nD Cert.DhidKIdeal.τ).loc Cert.DhidKIdeal.main_arg1)
      ∧ r.2.mem ((c.tc : Thread Cert.DhidKIdeal.nD Cert.DhidKIdeal.τ).loc Cert.DhidKIdeal.main_arg2) = m ((c.tc : Thread Cert.DhidKIdeal.nD Cert.DhidKIdeal.τ).loc Cert.DhidKIdeal.main_arg2))
      ∧ r.2.sem = fun _ => 0)

def quiescent_DhidRIdeal [hDhidRIdeal : Cert.DhidRIdeal.Facts] : Prop :=
  ∀ (m : (ℓ : Loc Cert.DhidRIdeal.nD Cert.DhidRIdeal.τ Cert.DhidRIdeal.sig) → Buf (Elt Ideal) ℓ) (g : Dev Cert.DhidRIdeal.nD → PrngReg), Pre_DhidRIdeal m →
    θ_run (Cert.DhidRIdeal.defs (F := Ideal)) (onTc (τ := Cert.DhidRIdeal.τ) (Cert.DhidRIdeal.main (F := Ideal))) ⟨m, fun _ => 0, g⟩ (fun r => (∀ c : Dev Cert.DhidRIdeal.nD,
      r.2.mem ((c.tc : Thread Cert.DhidRIdeal.nD Cert.DhidRIdeal.τ).loc Cert.DhidRIdeal.main_arg0) = m ((c.tc : Thread Cert.DhidRIdeal.nD Cert.DhidRIdeal.τ).loc Cert.DhidRIdeal.main_arg0)
      ∧ r.2.mem ((c.tc : Thread Cert.DhidRIdeal.nD Cert.DhidRIdeal.τ).loc Cert.DhidRIdeal.main_arg1) = m ((c.tc : Thread Cert.DhidRIdeal.nD Cert.DhidRIdeal.τ).loc Cert.DhidRIdeal.main_arg1)
      ∧ r.2.mem ((c.tc : Thread Cert.DhidRIdeal.nD Cert.DhidRIdeal.τ).loc Cert.DhidRIdeal.main_arg2) = m ((c.tc : Thread Cert.DhidRIdeal.nD Cert.DhidRIdeal.τ).loc Cert.DhidRIdeal.main_arg2))
      ∧ r.2.sem = fun _ => 0)

def quiescent_Ln2K [hLn2K : Cert.Ln2K.Facts] : Prop :=
  ∀ (m : (ℓ : Loc Cert.Ln2K.nD Cert.Ln2K.τ Cert.Ln2K.sig) → Buf (Elt Bits) ℓ) (g : Dev Cert.Ln2K.nD → PrngReg), Pre_Ln2K m →
    θ_run (Cert.Ln2K.defs (F := Bits)) (onTc (τ := Cert.Ln2K.τ) (Cert.Ln2K.main (F := Bits))) ⟨m, fun _ => 0, g⟩ (fun r => (∀ c : Dev Cert.Ln2K.nD,
      r.2.mem ((c.tc : Thread Cert.Ln2K.nD Cert.Ln2K.τ).loc Cert.Ln2K.main_arg0) = m ((c.tc : Thread Cert.Ln2K.nD Cert.Ln2K.τ).loc Cert.Ln2K.main_arg0)
      ∧ r.2.mem ((c.tc : Thread Cert.Ln2K.nD Cert.Ln2K.τ).loc Cert.Ln2K.main_arg1) = m ((c.tc : Thread Cert.Ln2K.nD Cert.Ln2K.τ).loc Cert.Ln2K.main_arg1)
      ∧ r.2.mem ((c.tc : Thread Cert.Ln2K.nD Cert.Ln2K.τ).loc Cert.Ln2K.main_arg2) = m ((c.tc : Thread Cert.Ln2K.nD Cert.Ln2K.τ).loc Cert.Ln2K.main_arg2)
      ∧ r.2.mem ((c.tc : Thread Cert.Ln2K.nD Cert.Ln2K.τ).loc Cert.Ln2K.main_arg3) = m ((c.tc : Thread Cert.Ln2K.nD Cert.Ln2K.τ).loc Cert.Ln2K.main_arg3)
      ∧ r.2.mem ((c.tc : Thread Cert.Ln2K.nD Cert.Ln2K.τ).loc Cert.Ln2K.main_arg4) = m ((c.tc : Thread Cert.Ln2K.nD Cert.Ln2K.τ).loc Cert.Ln2K.main_arg4)
      ∧ r.2.mem ((c.tc : Thread Cert.Ln2K.nD Cert.Ln2K.τ).loc Cert.Ln2K.main_arg5) = m ((c.tc : Thread Cert.Ln2K.nD Cert.Ln2K.τ).loc Cert.Ln2K.main_arg5))
      ∧ r.2.sem = fun _ => 0)

def quiescent_Ln2KIdeal [hLn2KIdeal : Cert.Ln2KIdeal.Facts] : Prop :=
  ∀ (m : (ℓ : Loc Cert.Ln2KIdeal.nD Cert.Ln2KIdeal.τ Cert.Ln2KIdeal.sig) → Buf (Elt Ideal) ℓ) (g : Dev Cert.Ln2KIdeal.nD → PrngReg), Pre_Ln2KIdeal m →
    θ_run (Cert.Ln2KIdeal.defs (F := Ideal)) (onTc (τ := Cert.Ln2KIdeal.τ) (Cert.Ln2KIdeal.main (F := Ideal))) ⟨m, fun _ => 0, g⟩ (fun r => (∀ c : Dev Cert.Ln2KIdeal.nD,
      r.2.mem ((c.tc : Thread Cert.Ln2KIdeal.nD Cert.Ln2KIdeal.τ).loc Cert.Ln2KIdeal.main_arg0) = m ((c.tc : Thread Cert.Ln2KIdeal.nD Cert.Ln2KIdeal.τ).loc Cert.Ln2KIdeal.main_arg0)
      ∧ r.2.mem ((c.tc : Thread Cert.Ln2KIdeal.nD Cert.Ln2KIdeal.τ).loc Cert.Ln2KIdeal.main_arg1) = m ((c.tc : Thread Cert.Ln2KIdeal.nD Cert.Ln2KIdeal.τ).loc Cert.Ln2KIdeal.main_arg1)
      ∧ r.2.mem ((c.tc : Thread Cert.Ln2KIdeal.nD Cert.Ln2KIdeal.τ).loc Cert.Ln2KIdeal.main_arg2) = m ((c.tc : Thread Cert.Ln2KIdeal.nD Cert.Ln2KIdeal.τ).loc Cert.Ln2KIdeal.main_arg2)
      ∧ r.2.mem ((c.tc : Thread Cert.Ln2KIdeal.nD Cert.Ln2KIdeal.τ).loc Cert.Ln2KIdeal.main_arg3) = m ((c.tc : Thread Cert.Ln2KIdeal.nD Cert.Ln2KIdeal.τ).loc Cert.Ln2KIdeal.main_arg3)
      ∧ r.2.mem ((c.tc : Thread Cert.Ln2KIdeal.nD Cert.Ln2KIdeal.τ).loc Cert.Ln2KIdeal.main_arg4) = m ((c.tc : Thread Cert.Ln2KIdeal.nD Cert.Ln2KIdeal.τ).loc Cert.Ln2KIdeal.main_arg4)
      ∧ r.2.mem ((c.tc : Thread Cert.Ln2KIdeal.nD Cert.Ln2KIdeal.τ).loc Cert.Ln2KIdeal.main_arg5) = m ((c.tc : Thread Cert.Ln2KIdeal.nD Cert.Ln2KIdeal.τ).loc Cert.Ln2KIdeal.main_arg5))
      ∧ r.2.sem = fun _ => 0)

def quiescent_Ln2KIdeal_pre_ln2_finite [hLn2KIdeal : Cert.Ln2KIdeal.Facts] [hPre_ln2_finite : Cert.Pre_ln2_finite.Facts] : Prop :=
  ∀ (m : (ℓ : Loc Cert.Ln2KIdeal.nD Cert.Ln2KIdeal.τ Cert.Ln2KIdeal.sig) → Buf (Elt Ideal) ℓ) (g : Dev Cert.Ln2KIdeal.nD → PrngReg), Pre_Ln2KIdeal_ln2_finite m →
    θ_run (Cert.Ln2KIdeal.defs (F := Ideal)) (onTc (τ := Cert.Ln2KIdeal.τ) (Cert.Ln2KIdeal.main (F := Ideal))) ⟨m, fun _ => 0, g⟩ (fun r => (∀ c : Dev Cert.Ln2KIdeal.nD,
      r.2.mem ((c.tc : Thread Cert.Ln2KIdeal.nD Cert.Ln2KIdeal.τ).loc Cert.Ln2KIdeal.main_arg0) = m ((c.tc : Thread Cert.Ln2KIdeal.nD Cert.Ln2KIdeal.τ).loc Cert.Ln2KIdeal.main_arg0)
      ∧ r.2.mem ((c.tc : Thread Cert.Ln2KIdeal.nD Cert.Ln2KIdeal.τ).loc Cert.Ln2KIdeal.main_arg1) = m ((c.tc : Thread Cert.Ln2KIdeal.nD Cert.Ln2KIdeal.τ).loc Cert.Ln2KIdeal.main_arg1)
      ∧ r.2.mem ((c.tc : Thread Cert.Ln2KIdeal.nD Cert.Ln2KIdeal.τ).loc Cert.Ln2KIdeal.main_arg2) = m ((c.tc : Thread Cert.Ln2KIdeal.nD Cert.Ln2KIdeal.τ).loc Cert.Ln2KIdeal.main_arg2)
      ∧ r.2.mem ((c.tc : Thread Cert.Ln2KIdeal.nD Cert.Ln2KIdeal.τ).loc Cert.Ln2KIdeal.main_arg3) = m ((c.tc : Thread Cert.Ln2KIdeal.nD Cert.Ln2KIdeal.τ).loc Cert.Ln2KIdeal.main_arg3)
      ∧ r.2.mem ((c.tc : Thread Cert.Ln2KIdeal.nD Cert.Ln2KIdeal.τ).loc Cert.Ln2KIdeal.main_arg4) = m ((c.tc : Thread Cert.Ln2KIdeal.nD Cert.Ln2KIdeal.τ).loc Cert.Ln2KIdeal.main_arg4)
      ∧ r.2.mem ((c.tc : Thread Cert.Ln2KIdeal.nD Cert.Ln2KIdeal.τ).loc Cert.Ln2KIdeal.main_arg5) = m ((c.tc : Thread Cert.Ln2KIdeal.nD Cert.Ln2KIdeal.τ).loc Cert.Ln2KIdeal.main_arg5))
      ∧ r.2.sem = fun _ => 0)

def quiescent_Ln2RIdeal [hLn2RIdeal : Cert.Ln2RIdeal.Facts] : Prop :=
  ∀ (m : (ℓ : Loc Cert.Ln2RIdeal.nD Cert.Ln2RIdeal.τ Cert.Ln2RIdeal.sig) → Buf (Elt Ideal) ℓ) (g : Dev Cert.Ln2RIdeal.nD → PrngReg), Pre_Ln2RIdeal m →
    θ_run (Cert.Ln2RIdeal.defs (F := Ideal)) (onTc (τ := Cert.Ln2RIdeal.τ) (Cert.Ln2RIdeal.main (F := Ideal))) ⟨m, fun _ => 0, g⟩ (fun r => (∀ c : Dev Cert.Ln2RIdeal.nD,
      r.2.mem ((c.tc : Thread Cert.Ln2RIdeal.nD Cert.Ln2RIdeal.τ).loc Cert.Ln2RIdeal.main_arg0) = m ((c.tc : Thread Cert.Ln2RIdeal.nD Cert.Ln2RIdeal.τ).loc Cert.Ln2RIdeal.main_arg0)
      ∧ r.2.mem ((c.tc : Thread Cert.Ln2RIdeal.nD Cert.Ln2RIdeal.τ).loc Cert.Ln2RIdeal.main_arg1) = m ((c.tc : Thread Cert.Ln2RIdeal.nD Cert.Ln2RIdeal.τ).loc Cert.Ln2RIdeal.main_arg1)
      ∧ r.2.mem ((c.tc : Thread Cert.Ln2RIdeal.nD Cert.Ln2RIdeal.τ).loc Cert.Ln2RIdeal.main_arg2) = m ((c.tc : Thread Cert.Ln2RIdeal.nD Cert.Ln2RIdeal.τ).loc Cert.Ln2RIdeal.main_arg2)
      ∧ r.2.mem ((c.tc : Thread Cert.Ln2RIdeal.nD Cert.Ln2RIdeal.τ).loc Cert.Ln2RIdeal.main_arg3) = m ((c.tc : Thread Cert.Ln2RIdeal.nD Cert.Ln2RIdeal.τ).loc Cert.Ln2RIdeal.main_arg3)
      ∧ r.2.mem ((c.tc : Thread Cert.Ln2RIdeal.nD Cert.Ln2RIdeal.τ).loc Cert.Ln2RIdeal.main_arg4) = m ((c.tc : Thread Cert.Ln2RIdeal.nD Cert.Ln2RIdeal.τ).loc Cert.Ln2RIdeal.main_arg4)
      ∧ r.2.mem ((c.tc : Thread Cert.Ln2RIdeal.nD Cert.Ln2RIdeal.τ).loc Cert.Ln2RIdeal.main_arg5) = m ((c.tc : Thread Cert.Ln2RIdeal.nD Cert.Ln2RIdeal.τ).loc Cert.Ln2RIdeal.main_arg5))
      ∧ r.2.sem = fun _ => 0)

def quiescent_Ln2RIdeal_pre_ln2_finite [hLn2RIdeal : Cert.Ln2RIdeal.Facts] [hPre_ln2_finite : Cert.Pre_ln2_finite.Facts] : Prop :=
  ∀ (m : (ℓ : Loc Cert.Ln2RIdeal.nD Cert.Ln2RIdeal.τ Cert.Ln2RIdeal.sig) → Buf (Elt Ideal) ℓ) (g : Dev Cert.Ln2RIdeal.nD → PrngReg), Pre_Ln2RIdeal_ln2_finite m →
    θ_run (Cert.Ln2RIdeal.defs (F := Ideal)) (onTc (τ := Cert.Ln2RIdeal.τ) (Cert.Ln2RIdeal.main (F := Ideal))) ⟨m, fun _ => 0, g⟩ (fun r => (∀ c : Dev Cert.Ln2RIdeal.nD,
      r.2.mem ((c.tc : Thread Cert.Ln2RIdeal.nD Cert.Ln2RIdeal.τ).loc Cert.Ln2RIdeal.main_arg0) = m ((c.tc : Thread Cert.Ln2RIdeal.nD Cert.Ln2RIdeal.τ).loc Cert.Ln2RIdeal.main_arg0)
      ∧ r.2.mem ((c.tc : Thread Cert.Ln2RIdeal.nD Cert.Ln2RIdeal.τ).loc Cert.Ln2RIdeal.main_arg1) = m ((c.tc : Thread Cert.Ln2RIdeal.nD Cert.Ln2RIdeal.τ).loc Cert.Ln2RIdeal.main_arg1)
      ∧ r.2.mem ((c.tc : Thread Cert.Ln2RIdeal.nD Cert.Ln2RIdeal.τ).loc Cert.Ln2RIdeal.main_arg2) = m ((c.tc : Thread Cert.Ln2RIdeal.nD Cert.Ln2RIdeal.τ).loc Cert.Ln2RIdeal.main_arg2)
      ∧ r.2.mem ((c.tc : Thread Cert.Ln2RIdeal.nD Cert.Ln2RIdeal.τ).loc Cert.Ln2RIdeal.main_arg3) = m ((c.tc : Thread Cert.Ln2RIdeal.nD Cert.Ln2RIdeal.τ).loc Cert.Ln2RIdeal.main_arg3)
      ∧ r.2.mem ((c.tc : Thread Cert.Ln2RIdeal.nD Cert.Ln2RIdeal.τ).loc Cert.Ln2RIdeal.main_arg4) = m ((c.tc : Thread Cert.Ln2RIdeal.nD Cert.Ln2RIdeal.τ).loc Cert.Ln2RIdeal.main_arg4)
      ∧ r.2.mem ((c.tc : Thread Cert.Ln2RIdeal.nD Cert.Ln2RIdeal.τ).loc Cert.Ln2RIdeal.main_arg5) = m ((c.tc : Thread Cert.Ln2RIdeal.nD Cert.Ln2RIdeal.τ).loc Cert.Ln2RIdeal.main_arg5))
      ∧ r.2.sem = fun _ => 0)

def quiescent_Dx1K [hDx1K : Cert.Dx1K.Facts] : Prop :=
  ∀ (m : (ℓ : Loc Cert.Dx1K.nD Cert.Dx1K.τ Cert.Dx1K.sig) → Buf (Elt Bits) ℓ) (g : Dev Cert.Dx1K.nD → PrngReg), Pre_Dx1K m →
    θ_run (Cert.Dx1K.defs (F := Bits)) (onTc (τ := Cert.Dx1K.τ) (Cert.Dx1K.main (F := Bits))) ⟨m, fun _ => 0, g⟩ (fun r => (∀ c : Dev Cert.Dx1K.nD,
      r.2.mem ((c.tc : Thread Cert.Dx1K.nD Cert.Dx1K.τ).loc Cert.Dx1K.main_arg0) = m ((c.tc : Thread Cert.Dx1K.nD Cert.Dx1K.τ).loc Cert.Dx1K.main_arg0)
      ∧ r.2.mem ((c.tc : Thread Cert.Dx1K.nD Cert.Dx1K.τ).loc Cert.Dx1K.main_arg1) = m ((c.tc : Thread Cert.Dx1K.nD Cert.Dx1K.τ).loc Cert.Dx1K.main_arg1)
      ∧ r.2.mem ((c.tc : Thread Cert.Dx1K.nD Cert.Dx1K.τ).loc Cert.Dx1K.main_arg2) = m ((c.tc : Thread Cert.Dx1K.nD Cert.Dx1K.τ).loc Cert.Dx1K.main_arg2)
      ∧ r.2.mem ((c.tc : Thread Cert.Dx1K.nD Cert.Dx1K.τ).loc Cert.Dx1K.main_arg3) = m ((c.tc : Thread Cert.Dx1K.nD Cert.Dx1K.τ).loc Cert.Dx1K.main_arg3)
      ∧ r.2.mem ((c.tc : Thread Cert.Dx1K.nD Cert.Dx1K.τ).loc Cert.Dx1K.main_arg4) = m ((c.tc : Thread Cert.Dx1K.nD Cert.Dx1K.τ).loc Cert.Dx1K.main_arg4)
      ∧ r.2.mem ((c.tc : Thread Cert.Dx1K.nD Cert.Dx1K.τ).loc Cert.Dx1K.main_arg5) = m ((c.tc : Thread Cert.Dx1K.nD Cert.Dx1K.τ).loc Cert.Dx1K.main_arg5))
      ∧ r.2.sem = fun _ => 0)

def quiescent_Dx1KIdeal [hDx1KIdeal : Cert.Dx1KIdeal.Facts] : Prop :=
  ∀ (m : (ℓ : Loc Cert.Dx1KIdeal.nD Cert.Dx1KIdeal.τ Cert.Dx1KIdeal.sig) → Buf (Elt Ideal) ℓ) (g : Dev Cert.Dx1KIdeal.nD → PrngReg), Pre_Dx1KIdeal m →
    θ_run (Cert.Dx1KIdeal.defs (F := Ideal)) (onTc (τ := Cert.Dx1KIdeal.τ) (Cert.Dx1KIdeal.main (F := Ideal))) ⟨m, fun _ => 0, g⟩ (fun r => (∀ c : Dev Cert.Dx1KIdeal.nD,
      r.2.mem ((c.tc : Thread Cert.Dx1KIdeal.nD Cert.Dx1KIdeal.τ).loc Cert.Dx1KIdeal.main_arg0) = m ((c.tc : Thread Cert.Dx1KIdeal.nD Cert.Dx1KIdeal.τ).loc Cert.Dx1KIdeal.main_arg0)
      ∧ r.2.mem ((c.tc : Thread Cert.Dx1KIdeal.nD Cert.Dx1KIdeal.τ).loc Cert.Dx1KIdeal.main_arg1) = m ((c.tc : Thread Cert.Dx1KIdeal.nD Cert.Dx1KIdeal.τ).loc Cert.Dx1KIdeal.main_arg1)
      ∧ r.2.mem ((c.tc : Thread Cert.Dx1KIdeal.nD Cert.Dx1KIdeal.τ).loc Cert.Dx1KIdeal.main_arg2) = m ((c.tc : Thread Cert.Dx1KIdeal.nD Cert.Dx1KIdeal.τ).loc Cert.Dx1KIdeal.main_arg2)
      ∧ r.2.mem ((c.tc : Thread Cert.Dx1KIdeal.nD Cert.Dx1KIdeal.τ).loc Cert.Dx1KIdeal.main_arg3) = m ((c.tc : Thread Cert.Dx1KIdeal.nD Cert.Dx1KIdeal.τ).loc Cert.Dx1KIdeal.main_arg3)
      ∧ r.2.mem ((c.tc : Thread Cert.Dx1KIdeal.nD Cert.Dx1KIdeal.τ).loc Cert.Dx1KIdeal.main_arg4) = m ((c.tc : Thread Cert.Dx1KIdeal.nD Cert.Dx1KIdeal.τ).loc Cert.Dx1KIdeal.main_arg4)
      ∧ r.2.mem ((c.tc : Thread Cert.Dx1KIdeal.nD Cert.Dx1KIdeal.τ).loc Cert.Dx1KIdeal.main_arg5) = m ((c.tc : Thread Cert.Dx1KIdeal.nD Cert.Dx1KIdeal.τ).loc Cert.Dx1KIdeal.main_arg5))
      ∧ r.2.sem = fun _ => 0)

def quiescent_Dx1KIdeal_pre_dx1_finite [hDx1KIdeal : Cert.Dx1KIdeal.Facts] [hPre_dx1_finite : Cert.Pre_dx1_finite.Facts] : Prop :=
  ∀ (m : (ℓ : Loc Cert.Dx1KIdeal.nD Cert.Dx1KIdeal.τ Cert.Dx1KIdeal.sig) → Buf (Elt Ideal) ℓ) (g : Dev Cert.Dx1KIdeal.nD → PrngReg), Pre_Dx1KIdeal_dx1_finite m →
    θ_run (Cert.Dx1KIdeal.defs (F := Ideal)) (onTc (τ := Cert.Dx1KIdeal.τ) (Cert.Dx1KIdeal.main (F := Ideal))) ⟨m, fun _ => 0, g⟩ (fun r => (∀ c : Dev Cert.Dx1KIdeal.nD,
      r.2.mem ((c.tc : Thread Cert.Dx1KIdeal.nD Cert.Dx1KIdeal.τ).loc Cert.Dx1KIdeal.main_arg0) = m ((c.tc : Thread Cert.Dx1KIdeal.nD Cert.Dx1KIdeal.τ).loc Cert.Dx1KIdeal.main_arg0)
      ∧ r.2.mem ((c.tc : Thread Cert.Dx1KIdeal.nD Cert.Dx1KIdeal.τ).loc Cert.Dx1KIdeal.main_arg1) = m ((c.tc : Thread Cert.Dx1KIdeal.nD Cert.Dx1KIdeal.τ).loc Cert.Dx1KIdeal.main_arg1)
      ∧ r.2.mem ((c.tc : Thread Cert.Dx1KIdeal.nD Cert.Dx1KIdeal.τ).loc Cert.Dx1KIdeal.main_arg2) = m ((c.tc : Thread Cert.Dx1KIdeal.nD Cert.Dx1KIdeal.τ).loc Cert.Dx1KIdeal.main_arg2)
      ∧ r.2.mem ((c.tc : Thread Cert.Dx1KIdeal.nD Cert.Dx1KIdeal.τ).loc Cert.Dx1KIdeal.main_arg3) = m ((c.tc : Thread Cert.Dx1KIdeal.nD Cert.Dx1KIdeal.τ).loc Cert.Dx1KIdeal.main_arg3)
      ∧ r.2.mem ((c.tc : Thread Cert.Dx1KIdeal.nD Cert.Dx1KIdeal.τ).loc Cert.Dx1KIdeal.main_arg4) = m ((c.tc : Thread Cert.Dx1KIdeal.nD Cert.Dx1KIdeal.τ).loc Cert.Dx1KIdeal.main_arg4)
      ∧ r.2.mem ((c.tc : Thread Cert.Dx1KIdeal.nD Cert.Dx1KIdeal.τ).loc Cert.Dx1KIdeal.main_arg5) = m ((c.tc : Thread Cert.Dx1KIdeal.nD Cert.Dx1KIdeal.τ).loc Cert.Dx1KIdeal.main_arg5))
      ∧ r.2.sem = fun _ => 0)

def quiescent_Dx1RIdeal [hDx1RIdeal : Cert.Dx1RIdeal.Facts] : Prop :=
  ∀ (m : (ℓ : Loc Cert.Dx1RIdeal.nD Cert.Dx1RIdeal.τ Cert.Dx1RIdeal.sig) → Buf (Elt Ideal) ℓ) (g : Dev Cert.Dx1RIdeal.nD → PrngReg), Pre_Dx1RIdeal m →
    θ_run (Cert.Dx1RIdeal.defs (F := Ideal)) (onTc (τ := Cert.Dx1RIdeal.τ) (Cert.Dx1RIdeal.main (F := Ideal))) ⟨m, fun _ => 0, g⟩ (fun r => (∀ c : Dev Cert.Dx1RIdeal.nD,
      r.2.mem ((c.tc : Thread Cert.Dx1RIdeal.nD Cert.Dx1RIdeal.τ).loc Cert.Dx1RIdeal.main_arg0) = m ((c.tc : Thread Cert.Dx1RIdeal.nD Cert.Dx1RIdeal.τ).loc Cert.Dx1RIdeal.main_arg0)
      ∧ r.2.mem ((c.tc : Thread Cert.Dx1RIdeal.nD Cert.Dx1RIdeal.τ).loc Cert.Dx1RIdeal.main_arg1) = m ((c.tc : Thread Cert.Dx1RIdeal.nD Cert.Dx1RIdeal.τ).loc Cert.Dx1RIdeal.main_arg1)
      ∧ r.2.mem ((c.tc : Thread Cert.Dx1RIdeal.nD Cert.Dx1RIdeal.τ).loc Cert.Dx1RIdeal.main_arg2) = m ((c.tc : Thread Cert.Dx1RIdeal.nD Cert.Dx1RIdeal.τ).loc Cert.Dx1RIdeal.main_arg2)
      ∧ r.2.mem ((c.tc : Thread Cert.Dx1RIdeal.nD Cert.Dx1RIdeal.τ).loc Cert.Dx1RIdeal.main_arg3) = m ((c.tc : Thread Cert.Dx1RIdeal.nD Cert.Dx1RIdeal.τ).loc Cert.Dx1RIdeal.main_arg3)
      ∧ r.2.mem ((c.tc : Thread Cert.Dx1RIdeal.nD Cert.Dx1RIdeal.τ).loc Cert.Dx1RIdeal.main_arg4) = m ((c.tc : Thread Cert.Dx1RIdeal.nD Cert.Dx1RIdeal.τ).loc Cert.Dx1RIdeal.main_arg4)
      ∧ r.2.mem ((c.tc : Thread Cert.Dx1RIdeal.nD Cert.Dx1RIdeal.τ).loc Cert.Dx1RIdeal.main_arg5) = m ((c.tc : Thread Cert.Dx1RIdeal.nD Cert.Dx1RIdeal.τ).loc Cert.Dx1RIdeal.main_arg5))
      ∧ r.2.sem = fun _ => 0)

def quiescent_Dx1RIdeal_pre_dx1_finite [hDx1RIdeal : Cert.Dx1RIdeal.Facts] [hPre_dx1_finite : Cert.Pre_dx1_finite.Facts] : Prop :=
  ∀ (m : (ℓ : Loc Cert.Dx1RIdeal.nD Cert.Dx1RIdeal.τ Cert.Dx1RIdeal.sig) → Buf (Elt Ideal) ℓ) (g : Dev Cert.Dx1RIdeal.nD → PrngReg), Pre_Dx1RIdeal_dx1_finite m →
    θ_run (Cert.Dx1RIdeal.defs (F := Ideal)) (onTc (τ := Cert.Dx1RIdeal.τ) (Cert.Dx1RIdeal.main (F := Ideal))) ⟨m, fun _ => 0, g⟩ (fun r => (∀ c : Dev Cert.Dx1RIdeal.nD,
      r.2.mem ((c.tc : Thread Cert.Dx1RIdeal.nD Cert.Dx1RIdeal.τ).loc Cert.Dx1RIdeal.main_arg0) = m ((c.tc : Thread Cert.Dx1RIdeal.nD Cert.Dx1RIdeal.τ).loc Cert.Dx1RIdeal.main_arg0)
      ∧ r.2.mem ((c.tc : Thread Cert.Dx1RIdeal.nD Cert.Dx1RIdeal.τ).loc Cert.Dx1RIdeal.main_arg1) = m ((c.tc : Thread Cert.Dx1RIdeal.nD Cert.Dx1RIdeal.τ).loc Cert.Dx1RIdeal.main_arg1)
      ∧ r.2.mem ((c.tc : Thread Cert.Dx1RIdeal.nD Cert.Dx1RIdeal.τ).loc Cert.Dx1RIdeal.main_arg2) = m ((c.tc : Thread Cert.Dx1RIdeal.nD Cert.Dx1RIdeal.τ).loc Cert.Dx1RIdeal.main_arg2)
      ∧ r.2.mem ((c.tc : Thread Cert.Dx1RIdeal.nD Cert.Dx1RIdeal.τ).loc Cert.Dx1RIdeal.main_arg3) = m ((c.tc : Thread Cert.Dx1RIdeal.nD Cert.Dx1RIdeal.τ).loc Cert.Dx1RIdeal.main_arg3)
      ∧ r.2.mem ((c.tc : Thread Cert.Dx1RIdeal.nD Cert.Dx1RIdeal.τ).loc Cert.Dx1RIdeal.main_arg4) = m ((c.tc : Thread Cert.Dx1RIdeal.nD Cert.Dx1RIdeal.τ).loc Cert.Dx1RIdeal.main_arg4)
      ∧ r.2.mem ((c.tc : Thread Cert.Dx1RIdeal.nD Cert.Dx1RIdeal.τ).loc Cert.Dx1RIdeal.main_arg5) = m ((c.tc : Thread Cert.Dx1RIdeal.nD Cert.Dx1RIdeal.τ).loc Cert.Dx1RIdeal.main_arg5))
      ∧ r.2.sem = fun _ => 0)

def quiescent_PobK [hPobK : Cert.PobK.Facts] : Prop :=
  ∀ (m : (ℓ : Loc Cert.PobK.nD Cert.PobK.τ Cert.PobK.sig) → Buf (Elt Bits) ℓ) (g : Dev Cert.PobK.nD → PrngReg), Pre_PobK m →
    θ_run (Cert.PobK.defs (F := Bits)) (onTc (τ := Cert.PobK.τ) (Cert.PobK.main (F := Bits))) ⟨m, fun _ => 0, g⟩ (fun r => (∀ c : Dev Cert.PobK.nD,
      r.2.mem ((c.tc : Thread Cert.PobK.nD Cert.PobK.τ).loc Cert.PobK.main_arg0) = m ((c.tc : Thread Cert.PobK.nD Cert.PobK.τ).loc Cert.PobK.main_arg0)
      ∧ r.2.mem ((c.tc : Thread Cert.PobK.nD Cert.PobK.τ).loc Cert.PobK.main_arg1) = m ((c.tc : Thread Cert.PobK.nD Cert.PobK.τ).loc Cert.PobK.main_arg1)
      ∧ r.2.mem ((c.tc : Thread Cert.PobK.nD Cert.PobK.τ).loc Cert.PobK.main_arg2) = m ((c.tc : Thread Cert.PobK.nD Cert.PobK.τ).loc Cert.PobK.main_arg2)
      ∧ r.2.mem ((c.tc : Thread Cert.PobK.nD Cert.PobK.τ).loc Cert.PobK.main_arg3) = m ((c.tc : Thread Cert.PobK.nD Cert.PobK.τ).loc Cert.PobK.main_arg3)
      ∧ r.2.mem ((c.tc : Thread Cert.PobK.nD Cert.PobK.τ).loc Cert.PobK.main_arg4) = m ((c.tc : Thread Cert.PobK.nD Cert.PobK.τ).loc Cert.PobK.main_arg4)
      ∧ r.2.mem ((c.tc : Thread Cert.PobK.nD Cert.PobK.τ).loc Cert.PobK.main_arg5) = m ((c.tc : Thread Cert.PobK.nD Cert.PobK.τ).loc Cert.PobK.main_arg5))
      ∧ r.2.sem = fun _ => 0)

def quiescent_PobKIdeal [hPobKIdeal : Cert.PobKIdeal.Facts] : Prop :=
  ∀ (m : (ℓ : Loc Cert.PobKIdeal.nD Cert.PobKIdeal.τ Cert.PobKIdeal.sig) → Buf (Elt Ideal) ℓ) (g : Dev Cert.PobKIdeal.nD → PrngReg), Pre_PobKIdeal m →
    θ_run (Cert.PobKIdeal.defs (F := Ideal)) (onTc (τ := Cert.PobKIdeal.τ) (Cert.PobKIdeal.main (F := Ideal))) ⟨m, fun _ => 0, g⟩ (fun r => (∀ c : Dev Cert.PobKIdeal.nD,
      r.2.mem ((c.tc : Thread Cert.PobKIdeal.nD Cert.PobKIdeal.τ).loc Cert.PobKIdeal.main_arg0) = m ((c.tc : Thread Cert.PobKIdeal.nD Cert.PobKIdeal.τ).loc Cert.PobKIdeal.main_arg0)
      ∧ r.2.mem ((c.tc : Thread Cert.PobKIdeal.nD Cert.PobKIdeal.τ).loc Cert.PobKIdeal.main_arg1) = m ((c.tc : Thread Cert.PobKIdeal.nD Cert.PobKIdeal.τ).loc Cert.PobKIdeal.main_arg1)
      ∧ r.2.mem ((c.tc : Thread Cert.PobKIdeal.nD Cert.PobKIdeal.τ).loc Cert.PobKIdeal.main_arg2) = m ((c.tc : Thread Cert.PobKIdeal.nD Cert.PobKIdeal.τ).loc Cert.PobKIdeal.main_arg2)
      ∧ r.2.mem ((c.tc : Thread Cert.PobKIdeal.nD Cert.PobKIdeal.τ).loc Cert.PobKIdeal.main_arg3) = m ((c.tc : Thread Cert.PobKIdeal.nD Cert.PobKIdeal.τ).loc Cert.PobKIdeal.main_arg3)
      ∧ r.2.mem ((c.tc : Thread Cert.PobKIdeal.nD Cert.PobKIdeal.τ).loc Cert.PobKIdeal.main_arg4) = m ((c.tc : Thread Cert.PobKIdeal.nD Cert.PobKIdeal.τ).loc Cert.PobKIdeal.main_arg4)
      ∧ r.2.mem ((c.tc : Thread Cert.PobKIdeal.nD Cert.PobKIdeal.τ).loc Cert.PobKIdeal.main_arg5) = m ((c.tc : Thread Cert.PobKIdeal.nD Cert.PobKIdeal.τ).loc Cert.PobKIdeal.main_arg5))
      ∧ r.2.sem = fun _ => 0)

def quiescent_PobKIdeal_pre_pob_finite [hPobKIdeal : Cert.PobKIdeal.Facts] [hPre_pob_finite : Cert.Pre_pob_finite.Facts] : Prop :=
  ∀ (m : (ℓ : Loc Cert.PobKIdeal.nD Cert.PobKIdeal.τ Cert.PobKIdeal.sig) → Buf (Elt Ideal) ℓ) (g : Dev Cert.PobKIdeal.nD → PrngReg), Pre_PobKIdeal_pob_finite m →
    θ_run (Cert.PobKIdeal.defs (F := Ideal)) (onTc (τ := Cert.PobKIdeal.τ) (Cert.PobKIdeal.main (F := Ideal))) ⟨m, fun _ => 0, g⟩ (fun r => (∀ c : Dev Cert.PobKIdeal.nD,
      r.2.mem ((c.tc : Thread Cert.PobKIdeal.nD Cert.PobKIdeal.τ).loc Cert.PobKIdeal.main_arg0) = m ((c.tc : Thread Cert.PobKIdeal.nD Cert.PobKIdeal.τ).loc Cert.PobKIdeal.main_arg0)
      ∧ r.2.mem ((c.tc : Thread Cert.PobKIdeal.nD Cert.PobKIdeal.τ).loc Cert.PobKIdeal.main_arg1) = m ((c.tc : Thread Cert.PobKIdeal.nD Cert.PobKIdeal.τ).loc Cert.PobKIdeal.main_arg1)
      ∧ r.2.mem ((c.tc : Thread Cert.PobKIdeal.nD Cert.PobKIdeal.τ).loc Cert.PobKIdeal.main_arg2) = m ((c.tc : Thread Cert.PobKIdeal.nD Cert.PobKIdeal.τ).loc Cert.PobKIdeal.main_arg2)
      ∧ r.2.mem ((c.tc : Thread Cert.PobKIdeal.nD Cert.PobKIdeal.τ).loc Cert.PobKIdeal.main_arg3) = m ((c.tc : Thread Cert.PobKIdeal.nD Cert.PobKIdeal.τ).loc Cert.PobKIdeal.main_arg3)
      ∧ r.2.mem ((c.tc : Thread Cert.PobKIdeal.nD Cert.PobKIdeal.τ).loc Cert.PobKIdeal.main_arg4) = m ((c.tc : Thread Cert.PobKIdeal.nD Cert.PobKIdeal.τ).loc Cert.PobKIdeal.main_arg4)
      ∧ r.2.mem ((c.tc : Thread Cert.PobKIdeal.nD Cert.PobKIdeal.τ).loc Cert.PobKIdeal.main_arg5) = m ((c.tc : Thread Cert.PobKIdeal.nD Cert.PobKIdeal.τ).loc Cert.PobKIdeal.main_arg5))
      ∧ r.2.sem = fun _ => 0)

def quiescent_PobRIdeal [hPobRIdeal : Cert.PobRIdeal.Facts] : Prop :=
  ∀ (m : (ℓ : Loc Cert.PobRIdeal.nD Cert.PobRIdeal.τ Cert.PobRIdeal.sig) → Buf (Elt Ideal) ℓ) (g : Dev Cert.PobRIdeal.nD → PrngReg), Pre_PobRIdeal m →
    θ_run (Cert.PobRIdeal.defs (F := Ideal)) (onTc (τ := Cert.PobRIdeal.τ) (Cert.PobRIdeal.main (F := Ideal))) ⟨m, fun _ => 0, g⟩ (fun r => (∀ c : Dev Cert.PobRIdeal.nD,
      r.2.mem ((c.tc : Thread Cert.PobRIdeal.nD Cert.PobRIdeal.τ).loc Cert.PobRIdeal.main_arg0) = m ((c.tc : Thread Cert.PobRIdeal.nD Cert.PobRIdeal.τ).loc Cert.PobRIdeal.main_arg0)
      ∧ r.2.mem ((c.tc : Thread Cert.PobRIdeal.nD Cert.PobRIdeal.τ).loc Cert.PobRIdeal.main_arg1) = m ((c.tc : Thread Cert.PobRIdeal.nD Cert.PobRIdeal.τ).loc Cert.PobRIdeal.main_arg1)
      ∧ r.2.mem ((c.tc : Thread Cert.PobRIdeal.nD Cert.PobRIdeal.τ).loc Cert.PobRIdeal.main_arg2) = m ((c.tc : Thread Cert.PobRIdeal.nD Cert.PobRIdeal.τ).loc Cert.PobRIdeal.main_arg2)
      ∧ r.2.mem ((c.tc : Thread Cert.PobRIdeal.nD Cert.PobRIdeal.τ).loc Cert.PobRIdeal.main_arg3) = m ((c.tc : Thread Cert.PobRIdeal.nD Cert.PobRIdeal.τ).loc Cert.PobRIdeal.main_arg3)
      ∧ r.2.mem ((c.tc : Thread Cert.PobRIdeal.nD Cert.PobRIdeal.τ).loc Cert.PobRIdeal.main_arg4) = m ((c.tc : Thread Cert.PobRIdeal.nD Cert.PobRIdeal.τ).loc Cert.PobRIdeal.main_arg4)
      ∧ r.2.mem ((c.tc : Thread Cert.PobRIdeal.nD Cert.PobRIdeal.τ).loc Cert.PobRIdeal.main_arg5) = m ((c.tc : Thread Cert.PobRIdeal.nD Cert.PobRIdeal.τ).loc Cert.PobRIdeal.main_arg5))
      ∧ r.2.sem = fun _ => 0)

def quiescent_PobRIdeal_pre_pob_finite [hPobRIdeal : Cert.PobRIdeal.Facts] [hPre_pob_finite : Cert.Pre_pob_finite.Facts] : Prop :=
  ∀ (m : (ℓ : Loc Cert.PobRIdeal.nD Cert.PobRIdeal.τ Cert.PobRIdeal.sig) → Buf (Elt Ideal) ℓ) (g : Dev Cert.PobRIdeal.nD → PrngReg), Pre_PobRIdeal_pob_finite m →
    θ_run (Cert.PobRIdeal.defs (F := Ideal)) (onTc (τ := Cert.PobRIdeal.τ) (Cert.PobRIdeal.main (F := Ideal))) ⟨m, fun _ => 0, g⟩ (fun r => (∀ c : Dev Cert.PobRIdeal.nD,
      r.2.mem ((c.tc : Thread Cert.PobRIdeal.nD Cert.PobRIdeal.τ).loc Cert.PobRIdeal.main_arg0) = m ((c.tc : Thread Cert.PobRIdeal.nD Cert.PobRIdeal.τ).loc Cert.PobRIdeal.main_arg0)
      ∧ r.2.mem ((c.tc : Thread Cert.PobRIdeal.nD Cert.PobRIdeal.τ).loc Cert.PobRIdeal.main_arg1) = m ((c.tc : Thread Cert.PobRIdeal.nD Cert.PobRIdeal.τ).loc Cert.PobRIdeal.main_arg1)
      ∧ r.2.mem ((c.tc : Thread Cert.PobRIdeal.nD Cert.PobRIdeal.τ).loc Cert.PobRIdeal.main_arg2) = m ((c.tc : Thread Cert.PobRIdeal.nD Cert.PobRIdeal.τ).loc Cert.PobRIdeal.main_arg2)
      ∧ r.2.mem ((c.tc : Thread Cert.PobRIdeal.nD Cert.PobRIdeal.τ).loc Cert.PobRIdeal.main_arg3) = m ((c.tc : Thread Cert.PobRIdeal.nD Cert.PobRIdeal.τ).loc Cert.PobRIdeal.main_arg3)
      ∧ r.2.mem ((c.tc : Thread Cert.PobRIdeal.nD Cert.PobRIdeal.τ).loc Cert.PobRIdeal.main_arg4) = m ((c.tc : Thread Cert.PobRIdeal.nD Cert.PobRIdeal.τ).loc Cert.PobRIdeal.main_arg4)
      ∧ r.2.mem ((c.tc : Thread Cert.PobRIdeal.nD Cert.PobRIdeal.τ).loc Cert.PobRIdeal.main_arg5) = m ((c.tc : Thread Cert.PobRIdeal.nD Cert.PobRIdeal.τ).loc Cert.PobRIdeal.main_arg5))
      ∧ r.2.sem = fun _ => 0)

def quiescent_FwdK [hFwdK : Cert.FwdK.Facts] : Prop :=
  ∀ (m : (ℓ : Loc Cert.FwdK.nD Cert.FwdK.τ Cert.FwdK.sig) → Buf (Elt Bits) ℓ) (g : Dev Cert.FwdK.nD → PrngReg), Pre_FwdK m →
    θ_run (Cert.FwdK.defs (F := Bits)) (onTc (τ := Cert.FwdK.τ) (Cert.FwdK.main (F := Bits))) ⟨m, fun _ => 0, g⟩ (fun r => (∀ c : Dev Cert.FwdK.nD,
      r.2.mem ((c.tc : Thread Cert.FwdK.nD Cert.FwdK.τ).loc Cert.FwdK.main_arg0) = m ((c.tc : Thread Cert.FwdK.nD Cert.FwdK.τ).loc Cert.FwdK.main_arg0)
      ∧ r.2.mem ((c.tc : Thread Cert.FwdK.nD Cert.FwdK.τ).loc Cert.FwdK.main_arg1) = m ((c.tc : Thread Cert.FwdK.nD Cert.FwdK.τ).loc Cert.FwdK.main_arg1)
      ∧ r.2.mem ((c.tc : Thread Cert.FwdK.nD Cert.FwdK.τ).loc Cert.FwdK.main_arg2) = m ((c.tc : Thread Cert.FwdK.nD Cert.FwdK.τ).loc Cert.FwdK.main_arg2))
      ∧ r.2.sem = fun _ => 0)

def quiescent_FwdKIdeal [hFwdKIdeal : Cert.FwdKIdeal.Facts] : Prop :=
  ∀ (m : (ℓ : Loc Cert.FwdKIdeal.nD Cert.FwdKIdeal.τ Cert.FwdKIdeal.sig) → Buf (Elt Ideal) ℓ) (g : Dev Cert.FwdKIdeal.nD → PrngReg), Pre_FwdKIdeal m →
    θ_run (Cert.FwdKIdeal.defs (F := Ideal)) (onTc (τ := Cert.FwdKIdeal.τ) (Cert.FwdKIdeal.main (F := Ideal))) ⟨m, fun _ => 0, g⟩ (fun r => (∀ c : Dev Cert.FwdKIdeal.nD,
      r.2.mem ((c.tc : Thread Cert.FwdKIdeal.nD Cert.FwdKIdeal.τ).loc Cert.FwdKIdeal.main_arg0) = m ((c.tc : Thread Cert.FwdKIdeal.nD Cert.FwdKIdeal.τ).loc Cert.FwdKIdeal.main_arg0)
      ∧ r.2.mem ((c.tc : Thread Cert.FwdKIdeal.nD Cert.FwdKIdeal.τ).loc Cert.FwdKIdeal.main_arg1) = m ((c.tc : Thread Cert.FwdKIdeal.nD Cert.FwdKIdeal.τ).loc Cert.FwdKIdeal.main_arg1)
      ∧ r.2.mem ((c.tc : Thread Cert.FwdKIdeal.nD Cert.FwdKIdeal.τ).loc Cert.FwdKIdeal.main_arg2) = m ((c.tc : Thread Cert.FwdKIdeal.nD Cert.FwdKIdeal.τ).loc Cert.FwdKIdeal.main_arg2))
      ∧ r.2.sem = fun _ => 0)

def quiescent_FwdKIdeal_pre_fwd_finite [hFwdKIdeal : Cert.FwdKIdeal.Facts] [hPre_fwd_finite : Cert.Pre_fwd_finite.Facts] : Prop :=
  ∀ (m : (ℓ : Loc Cert.FwdKIdeal.nD Cert.FwdKIdeal.τ Cert.FwdKIdeal.sig) → Buf (Elt Ideal) ℓ) (g : Dev Cert.FwdKIdeal.nD → PrngReg), Pre_FwdKIdeal_fwd_finite m →
    θ_run (Cert.FwdKIdeal.defs (F := Ideal)) (onTc (τ := Cert.FwdKIdeal.τ) (Cert.FwdKIdeal.main (F := Ideal))) ⟨m, fun _ => 0, g⟩ (fun r => (∀ c : Dev Cert.FwdKIdeal.nD,
      r.2.mem ((c.tc : Thread Cert.FwdKIdeal.nD Cert.FwdKIdeal.τ).loc Cert.FwdKIdeal.main_arg0) = m ((c.tc : Thread Cert.FwdKIdeal.nD Cert.FwdKIdeal.τ).loc Cert.FwdKIdeal.main_arg0)
      ∧ r.2.mem ((c.tc : Thread Cert.FwdKIdeal.nD Cert.FwdKIdeal.τ).loc Cert.FwdKIdeal.main_arg1) = m ((c.tc : Thread Cert.FwdKIdeal.nD Cert.FwdKIdeal.τ).loc Cert.FwdKIdeal.main_arg1)
      ∧ r.2.mem ((c.tc : Thread Cert.FwdKIdeal.nD Cert.FwdKIdeal.τ).loc Cert.FwdKIdeal.main_arg2) = m ((c.tc : Thread Cert.FwdKIdeal.nD Cert.FwdKIdeal.τ).loc Cert.FwdKIdeal.main_arg2))
      ∧ r.2.sem = fun _ => 0)

def quiescent_FwdRIdeal [hFwdRIdeal : Cert.FwdRIdeal.Facts] : Prop :=
  ∀ (m : (ℓ : Loc Cert.FwdRIdeal.nD Cert.FwdRIdeal.τ Cert.FwdRIdeal.sig) → Buf (Elt Ideal) ℓ) (g : Dev Cert.FwdRIdeal.nD → PrngReg), Pre_FwdRIdeal m →
    θ_run (Cert.FwdRIdeal.defs (F := Ideal)) (onTc (τ := Cert.FwdRIdeal.τ) (Cert.FwdRIdeal.main (F := Ideal))) ⟨m, fun _ => 0, g⟩ (fun r => (∀ c : Dev Cert.FwdRIdeal.nD,
      r.2.mem ((c.tc : Thread Cert.FwdRIdeal.nD Cert.FwdRIdeal.τ).loc Cert.FwdRIdeal.main_arg0) = m ((c.tc : Thread Cert.FwdRIdeal.nD Cert.FwdRIdeal.τ).loc Cert.FwdRIdeal.main_arg0)
      ∧ r.2.mem ((c.tc : Thread Cert.FwdRIdeal.nD Cert.FwdRIdeal.τ).loc Cert.FwdRIdeal.main_arg1) = m ((c.tc : Thread Cert.FwdRIdeal.nD Cert.FwdRIdeal.τ).loc Cert.FwdRIdeal.main_arg1)
      ∧ r.2.mem ((c.tc : Thread Cert.FwdRIdeal.nD Cert.FwdRIdeal.τ).loc Cert.FwdRIdeal.main_arg2) = m ((c.tc : Thread Cert.FwdRIdeal.nD Cert.FwdRIdeal.τ).loc Cert.FwdRIdeal.main_arg2))
      ∧ r.2.sem = fun _ => 0)

def quiescent_FwdRIdeal_pre_fwd_finite [hFwdRIdeal : Cert.FwdRIdeal.Facts] [hPre_fwd_finite : Cert.Pre_fwd_finite.Facts] : Prop :=
  ∀ (m : (ℓ : Loc Cert.FwdRIdeal.nD Cert.FwdRIdeal.τ Cert.FwdRIdeal.sig) → Buf (Elt Ideal) ℓ) (g : Dev Cert.FwdRIdeal.nD → PrngReg), Pre_FwdRIdeal_fwd_finite m →
    θ_run (Cert.FwdRIdeal.defs (F := Ideal)) (onTc (τ := Cert.FwdRIdeal.τ) (Cert.FwdRIdeal.main (F := Ideal))) ⟨m, fun _ => 0, g⟩ (fun r => (∀ c : Dev Cert.FwdRIdeal.nD,
      r.2.mem ((c.tc : Thread Cert.FwdRIdeal.nD Cert.FwdRIdeal.τ).loc Cert.FwdRIdeal.main_arg0) = m ((c.tc : Thread Cert.FwdRIdeal.nD Cert.FwdRIdeal.τ).loc Cert.FwdRIdeal.main_arg0)
      ∧ r.2.mem ((c.tc : Thread Cert.FwdRIdeal.nD Cert.FwdRIdeal.τ).loc Cert.FwdRIdeal.main_arg1) = m ((c.tc : Thread Cert.FwdRIdeal.nD Cert.FwdRIdeal.τ).loc Cert.FwdRIdeal.main_arg1)
      ∧ r.2.mem ((c.tc : Thread Cert.FwdRIdeal.nD Cert.FwdRIdeal.τ).loc Cert.FwdRIdeal.main_arg2) = m ((c.tc : Thread Cert.FwdRIdeal.nD Cert.FwdRIdeal.τ).loc Cert.FwdRIdeal.main_arg2))
      ∧ r.2.sem = fun _ => 0)

def quiescent_UpK [hUpK : Cert.UpK.Facts] : Prop :=
  ∀ (m : (ℓ : Loc Cert.UpK.nD Cert.UpK.τ Cert.UpK.sig) → Buf (Elt Bits) ℓ) (g : Dev Cert.UpK.nD → PrngReg), Pre_UpK m →
    θ_run (Cert.UpK.defs (F := Bits)) (onTc (τ := Cert.UpK.τ) (Cert.UpK.main (F := Bits))) ⟨m, fun _ => 0, g⟩ (fun r => (∀ c : Dev Cert.UpK.nD,
      r.2.mem ((c.tc : Thread Cert.UpK.nD Cert.UpK.τ).loc Cert.UpK.main_arg0) = m ((c.tc : Thread Cert.UpK.nD Cert.UpK.τ).loc Cert.UpK.main_arg0)
      ∧ r.2.mem ((c.tc : Thread Cert.UpK.nD Cert.UpK.τ).loc Cert.UpK.main_arg1) = m ((c.tc : Thread Cert.UpK.nD Cert.UpK.τ).loc Cert.UpK.main_arg1))
      ∧ r.2.sem = fun _ => 0)

def quiescent_UpKIdeal [hUpKIdeal : Cert.UpKIdeal.Facts] : Prop :=
  ∀ (m : (ℓ : Loc Cert.UpKIdeal.nD Cert.UpKIdeal.τ Cert.UpKIdeal.sig) → Buf (Elt Ideal) ℓ) (g : Dev Cert.UpKIdeal.nD → PrngReg), Pre_UpKIdeal m →
    θ_run (Cert.UpKIdeal.defs (F := Ideal)) (onTc (τ := Cert.UpKIdeal.τ) (Cert.UpKIdeal.main (F := Ideal))) ⟨m, fun _ => 0, g⟩ (fun r => (∀ c : Dev Cert.UpKIdeal.nD,
      r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
      ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1))
      ∧ r.2.sem = fun _ => 0)

def quiescent_UpRIdeal [hUpRIdeal : Cert.UpRIdeal.Facts] : Prop :=
  ∀ (m : (ℓ : Loc Cert.UpRIdeal.nD Cert.UpRIdeal.τ Cert.UpRIdeal.sig) → Buf (Elt Ideal) ℓ) (g : Dev Cert.UpRIdeal.nD → PrngReg), Pre_UpRIdeal m →
    θ_run (Cert.UpRIdeal.defs (F := Ideal)) (onTc (τ := Cert.UpRIdeal.τ) (Cert.UpRIdeal.main (F := Ideal))) ⟨m, fun _ => 0, g⟩ (fun r => (∀ c : Dev Cert.UpRIdeal.nD,
      r.2.mem ((c.tc : Thread Cert.UpRIdeal.nD Cert.UpRIdeal.τ).loc Cert.UpRIdeal.main_arg0) = m ((c.tc : Thread Cert.UpRIdeal.nD Cert.UpRIdeal.τ).loc Cert.UpRIdeal.main_arg0)
      ∧ r.2.mem ((c.tc : Thread Cert.UpRIdeal.nD Cert.UpRIdeal.τ).loc Cert.UpRIdeal.main_arg1) = m ((c.tc : Thread Cert.UpRIdeal.nD Cert.UpRIdeal.τ).loc Cert.UpRIdeal.main_arg1))
      ∧ r.2.sem = fun _ => 0)

def quiescent_OutK [hOutK : Cert.OutK.Facts] : Prop :=
  ∀ (m : (ℓ : Loc Cert.OutK.nD Cert.OutK.τ Cert.OutK.sig) → Buf (Elt Bits) ℓ) (g : Dev Cert.OutK.nD → PrngReg), Pre_OutK m →
    θ_run (Cert.OutK.defs (F := Bits)) (onTc (τ := Cert.OutK.τ) (Cert.OutK.main (F := Bits))) ⟨m, fun _ => 0, g⟩ (fun r => (∀ c : Dev Cert.OutK.nD,
      r.2.mem ((c.tc : Thread Cert.OutK.nD Cert.OutK.τ).loc Cert.OutK.main_arg0) = m ((c.tc : Thread Cert.OutK.nD Cert.OutK.τ).loc Cert.OutK.main_arg0)
      ∧ r.2.mem ((c.tc : Thread Cert.OutK.nD Cert.OutK.τ).loc Cert.OutK.main_arg1) = m ((c.tc : Thread Cert.OutK.nD Cert.OutK.τ).loc Cert.OutK.main_arg1)
      ∧ r.2.mem ((c.tc : Thread Cert.OutK.nD Cert.OutK.τ).loc Cert.OutK.main_arg2) = m ((c.tc : Thread Cert.OutK.nD Cert.OutK.τ).loc Cert.OutK.main_arg2)
      ∧ r.2.mem ((c.tc : Thread Cert.OutK.nD Cert.OutK.τ).loc Cert.OutK.main_arg3) = m ((c.tc : Thread Cert.OutK.nD Cert.OutK.τ).loc Cert.OutK.main_arg3)
      ∧ r.2.mem ((c.tc : Thread Cert.OutK.nD Cert.OutK.τ).loc Cert.OutK.main_arg4) = m ((c.tc : Thread Cert.OutK.nD Cert.OutK.τ).loc Cert.OutK.main_arg4))
      ∧ r.2.sem = fun _ => 0)

def quiescent_OutKIdeal [hOutKIdeal : Cert.OutKIdeal.Facts] : Prop :=
  ∀ (m : (ℓ : Loc Cert.OutKIdeal.nD Cert.OutKIdeal.τ Cert.OutKIdeal.sig) → Buf (Elt Ideal) ℓ) (g : Dev Cert.OutKIdeal.nD → PrngReg), Pre_OutKIdeal m →
    θ_run (Cert.OutKIdeal.defs (F := Ideal)) (onTc (τ := Cert.OutKIdeal.τ) (Cert.OutKIdeal.main (F := Ideal))) ⟨m, fun _ => 0, g⟩ (fun r => (∀ c : Dev Cert.OutKIdeal.nD,
      r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
      ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1)
      ∧ r.2.mem ((c.tc : Thread Cert.OutKIdeal.nD Cert.OutKIdeal.τ).loc Cert.OutKIdeal.main_arg2) = m ((c.tc : Thread Cert.OutKIdeal.nD Cert.OutKIdeal.τ).loc Cert.OutKIdeal.main_arg2)
      ∧ r.2.mem ((c.tc : Thread Cert.OutKIdeal.nD Cert.OutKIdeal.τ).loc Cert.OutKIdeal.main_arg3) = m ((c.tc : Thread Cert.OutKIdeal.nD Cert.OutKIdeal.τ).loc Cert.OutKIdeal.main_arg3)
      ∧ r.2.mem ((c.tc : Thread Cert.OutKIdeal.nD Cert.OutKIdeal.τ).loc Cert.OutKIdeal.main_arg4) = m ((c.tc : Thread Cert.OutKIdeal.nD Cert.OutKIdeal.τ).loc Cert.OutKIdeal.main_arg4))
      ∧ r.2.sem = fun _ => 0)

def quiescent_OutRIdeal [hOutRIdeal : Cert.OutRIdeal.Facts] : Prop :=
  ∀ (m : (ℓ : Loc Cert.OutRIdeal.nD Cert.OutRIdeal.τ Cert.OutRIdeal.sig) → Buf (Elt Ideal) ℓ) (g : Dev Cert.OutRIdeal.nD → PrngReg), Pre_OutRIdeal m →
    θ_run (Cert.OutRIdeal.defs (F := Ideal)) (onTc (τ := Cert.OutRIdeal.τ) (Cert.OutRIdeal.main (F := Ideal))) ⟨m, fun _ => 0, g⟩ (fun r => (∀ c : Dev Cert.OutRIdeal.nD,
      r.2.mem ((c.tc : Thread Cert.OutRIdeal.nD Cert.OutRIdeal.τ).loc Cert.OutRIdeal.main_arg0) = m ((c.tc : Thread Cert.OutRIdeal.nD Cert.OutRIdeal.τ).loc Cert.OutRIdeal.main_arg0)
      ∧ r.2.mem ((c.tc : Thread Cert.OutRIdeal.nD Cert.OutRIdeal.τ).loc Cert.OutRIdeal.main_arg1) = m ((c.tc : Thread Cert.OutRIdeal.nD Cert.OutRIdeal.τ).loc Cert.OutRIdeal.main_arg1)
      ∧ r.2.mem ((c.tc : Thread Cert.OutRIdeal.nD Cert.OutRIdeal.τ).loc Cert.OutRIdeal.main_arg2) = m ((c.tc : Thread Cert.OutRIdeal.nD Cert.OutRIdeal.τ).loc Cert.OutRIdeal.main_arg2)
      ∧ r.2.mem ((c.tc : Thread Cert.OutRIdeal.nD Cert.OutRIdeal.τ).loc Cert.OutRIdeal.main_arg3) = m ((c.tc : Thread Cert.OutRIdeal.nD Cert.OutRIdeal.τ).loc Cert.OutRIdeal.main_arg3)
      ∧ r.2.mem ((c.tc : Thread Cert.OutRIdeal.nD Cert.OutRIdeal.τ).loc Cert.OutRIdeal.main_arg4) = m ((c.tc : Thread Cert.OutRIdeal.nD Cert.OutRIdeal.τ).loc Cert.OutRIdeal.main_arg4))
      ∧ r.2.sem = fun _ => 0)

def quiescent_InK [hInK : Cert.InK.Facts] : Prop :=
  ∀ (m : (ℓ : Loc Cert.InK.nD Cert.InK.τ Cert.InK.sig) → Buf (Elt Bits) ℓ) (g : Dev Cert.InK.nD → PrngReg), Pre_InK m →
    θ_run (Cert.InK.defs (F := Bits)) (onTc (τ := Cert.InK.τ) (Cert.InK.main (F := Bits))) ⟨m, fun _ => 0, g⟩ (fun r => (∀ c : Dev Cert.InK.nD,
      r.2.mem ((c.tc : Thread Cert.InK.nD Cert.InK.τ).loc Cert.InK.main_arg0) = m ((c.tc : Thread Cert.InK.nD Cert.InK.τ).loc Cert.InK.main_arg0)
      ∧ r.2.mem ((c.tc : Thread Cert.InK.nD Cert.InK.τ).loc Cert.InK.main_arg1) = m ((c.tc : Thread Cert.InK.nD Cert.InK.τ).loc Cert.InK.main_arg1)
      ∧ r.2.mem ((c.tc : Thread Cert.InK.nD Cert.InK.τ).loc Cert.InK.main_arg2) = m ((c.tc : Thread Cert.InK.nD Cert.InK.τ).loc Cert.InK.main_arg2)
      ∧ r.2.mem ((c.tc : Thread Cert.InK.nD Cert.InK.τ).loc Cert.InK.main_arg3) = m ((c.tc : Thread Cert.InK.nD Cert.InK.τ).loc Cert.InK.main_arg3))
      ∧ r.2.sem = fun _ => 0)

def quiescent_InKIdeal [hInKIdeal : Cert.InKIdeal.Facts] : Prop :=
  ∀ (m : (ℓ : Loc Cert.InKIdeal.nD Cert.InKIdeal.τ Cert.InKIdeal.sig) → Buf (Elt Ideal) ℓ) (g : Dev Cert.InKIdeal.nD → PrngReg), Pre_InKIdeal m →
    θ_run (Cert.InKIdeal.defs (F := Ideal)) (onTc (τ := Cert.InKIdeal.τ) (Cert.InKIdeal.main (F := Ideal))) ⟨m, fun _ => 0, g⟩ (fun r => (∀ c : Dev Cert.InKIdeal.nD,
      r.2.mem ((c.tc : Thread Cert.InKIdeal.nD Cert.InKIdeal.τ).loc Cert.InKIdeal.main_arg0) = m ((c.tc : Thread Cert.InKIdeal.nD Cert.InKIdeal.τ).loc Cert.InKIdeal.main_arg0)
      ∧ r.2.mem ((c.tc : Thread Cert.InKIdeal.nD Cert.InKIdeal.τ).loc Cert.InKIdeal.main_arg1) = m ((c.tc : Thread Cert.InKIdeal.nD Cert.InKIdeal.τ).loc Cert.InKIdeal.main_arg1)
      ∧ r.2.mem ((c.tc : Thread Cert.InKIdeal.nD Cert.InKIdeal.τ).loc Cert.InKIdeal.main_arg2) = m ((c.tc : Thread Cert.InKIdeal.nD Cert.InKIdeal.τ).loc Cert.InKIdeal.main_arg2)
      ∧ r.2.mem ((c.tc : Thread Cert.InKIdeal.nD Cert.InKIdeal.τ).loc Cert.InKIdeal.main_arg3) = m ((c.tc : Thread Cert.InKIdeal.nD Cert.InKIdeal.τ).loc Cert.InKIdeal.main_arg3))
      ∧ r.2.sem = fun _ => 0)

def quiescent_InRIdeal [hInRIdeal : Cert.InRIdeal.Facts] : Prop :=
  ∀ (m : (ℓ : Loc Cert.InRIdeal.nD Cert.InRIdeal.τ Cert.InRIdeal.sig) → Buf (Elt Ideal) ℓ) (g : Dev Cert.InRIdeal.nD → PrngReg), Pre_InRIdeal m →
    θ_run (Cert.InRIdeal.defs (F := Ideal)) (onTc (τ := Cert.InRIdeal.τ) (Cert.InRIdeal.main (F := Ideal))) ⟨m, fun _ => 0, g⟩ (fun r => (∀ c : Dev Cert.InRIdeal.nD,
      r.2.mem ((c.tc : Thread Cert.InRIdeal.nD Cert.InRIdeal.τ).loc Cert.InRIdeal.main_arg0) = m ((c.tc : Thread Cert.InRIdeal.nD Cert.InRIdeal.τ).loc Cert.InRIdeal.main_arg0)
      ∧ r.2.mem ((c.tc : Thread Cert.InRIdeal.nD Cert.InRIdeal.τ).loc Cert.InRIdeal.main_arg1) = m ((c.tc : Thread Cert.InRIdeal.nD Cert.InRIdeal.τ).loc Cert.InRIdeal.main_arg1)
      ∧ r.2.mem ((c.tc : Thread Cert.InRIdeal.nD Cert.InRIdeal.τ).loc Cert.InRIdeal.main_arg2) = m ((c.tc : Thread Cert.InRIdeal.nD Cert.InRIdeal.τ).loc Cert.InRIdeal.main_arg2)
      ∧ r.2.mem ((c.tc : Thread Cert.InRIdeal.nD Cert.InRIdeal.τ).loc Cert.InRIdeal.main_arg3) = m ((c.tc : Thread Cert.InRIdeal.nD Cert.InRIdeal.τ).loc Cert.InRIdeal.main_arg3))
      ∧ r.2.sem = fun _ => 0)

def preserves_AttnK_AttnKIdeal : Prop :=
  IdealRules.named_const.Statement Cert.AttnKIdeal.κ "mask" .f32 0xF149F2CA#32 ⊥
  ∧ IdealRules.named_const.Statement Cert.AttnKIdeal.κ "dead" .f32 0x42D20000#32 ⊤

def algebraic_AttnKIdeal_AttnRIdeal_pre_attn_finite [hAttnKIdeal : Cert.AttnKIdeal.Facts] [hAttnRIdeal : Cert.AttnRIdeal.Facts] [hPre_attn_finite : Cert.Pre_attn_finite.Facts] : Prop :=
  ∀ (m : (ℓ : Loc Cert.AttnKIdeal.nD Cert.AttnKIdeal.τ Cert.AttnKIdeal.sig) → Buf (Elt Ideal) ℓ) (g : Dev Cert.AttnKIdeal.nD → PrngReg)
    (m' : (ℓ : Loc Cert.AttnRIdeal.nD Cert.AttnRIdeal.τ Cert.AttnRIdeal.sig) → Buf (Elt Ideal) ℓ) (g' : Dev Cert.AttnRIdeal.nD → PrngReg), Pre_AttnKIdeal_attn_finite m →
    (∀ c : Dev Cert.AttnKIdeal.nD,
      m' ((c.tc : Thread Cert.AttnRIdeal.nD Cert.AttnRIdeal.τ).loc Cert.AttnRIdeal.main_arg0) = m ((c.tc : Thread Cert.AttnKIdeal.nD Cert.AttnKIdeal.τ).loc Cert.AttnKIdeal.main_arg0)
      ∧ m' ((c.tc : Thread Cert.AttnRIdeal.nD Cert.AttnRIdeal.τ).loc Cert.AttnRIdeal.main_arg1) = m ((c.tc : Thread Cert.AttnKIdeal.nD Cert.AttnKIdeal.τ).loc Cert.AttnKIdeal.main_arg1)
      ∧ m' ((c.tc : Thread Cert.AttnRIdeal.nD Cert.AttnRIdeal.τ).loc Cert.AttnRIdeal.main_arg2) = m ((c.tc : Thread Cert.AttnKIdeal.nD Cert.AttnKIdeal.τ).loc Cert.AttnKIdeal.main_arg2)) →
    ∃ (v0 : (c : Dev Cert.AttnKIdeal.nD) → Buf (Elt Ideal) ((c.tc : Thread Cert.AttnKIdeal.nD Cert.AttnKIdeal.τ).loc Cert.AttnKIdeal.main_v48_0)) (v1 : (c : Dev Cert.AttnKIdeal.nD) → Buf (Elt Ideal) ((c.tc : Thread Cert.AttnKIdeal.nD Cert.AttnKIdeal.τ).loc Cert.AttnKIdeal.main_v48_1)) (v2 : (c : Dev Cert.AttnKIdeal.nD) → Buf (Elt Ideal) ((c.tc : Thread Cert.AttnKIdeal.nD Cert.AttnKIdeal.τ).loc Cert.AttnKIdeal.main_v48_2)) (v3 : (c : Dev Cert.AttnKIdeal.nD) → Buf (Elt Ideal) ((c.tc : Thread Cert.AttnKIdeal.nD Cert.AttnKIdeal.τ).loc Cert.AttnKIdeal.main_v48_3)),
      θ_run (Cert.AttnKIdeal.defs (F := Ideal)) (onTc (τ := Cert.AttnKIdeal.τ) (Cert.AttnKIdeal.main (F := Ideal))) ⟨m, fun _ => 0, g⟩ (fun r => ∀ c : Dev Cert.AttnKIdeal.nD,
          r.2.mem ((c.tc : Thread Cert.AttnKIdeal.nD Cert.AttnKIdeal.τ).loc Cert.AttnKIdeal.main_v48_0) = v0 c
          ∧ r.2.mem ((c.tc : Thread Cert.AttnKIdeal.nD Cert.AttnKIdeal.τ).loc Cert.AttnKIdeal.main_v48_1) = v1 c
          ∧ r.2.mem ((c.tc : Thread Cert.AttnKIdeal.nD Cert.AttnKIdeal.τ).loc Cert.AttnKIdeal.main_v48_2) = v2 c
          ∧ r.2.mem ((c.tc : Thread Cert.AttnKIdeal.nD Cert.AttnKIdeal.τ).loc Cert.AttnKIdeal.main_v48_3) = v3 c
          ∧ r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
          ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
          ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2))
      ∧ θ_run (Cert.AttnRIdeal.defs (F := Ideal)) (onTc (τ := Cert.AttnRIdeal.τ) (Cert.AttnRIdeal.main (F := Ideal))) ⟨m', fun _ => 0, g'⟩ (fun r => ∀ c : Dev Cert.AttnRIdeal.nD,
          r.2.mem ((c.tc : Thread Cert.AttnRIdeal.nD Cert.AttnRIdeal.τ).loc Cert.AttnRIdeal.main_v96) = v0 c
          ∧ r.2.mem ((c.tc : Thread Cert.AttnRIdeal.nD Cert.AttnRIdeal.τ).loc Cert.AttnRIdeal.main_v97) = v1 c
          ∧ r.2.mem ((c.tc : Thread Cert.AttnRIdeal.nD Cert.AttnRIdeal.τ).loc Cert.AttnRIdeal.main_v98) = v2 c
          ∧ r.2.mem ((c.tc : Thread Cert.AttnRIdeal.nD Cert.AttnRIdeal.τ).loc Cert.AttnRIdeal.main_v99) = v3 c
          ∧ r.2.mem ((c.tc : Thread Cert.AttnRIdeal.nD Cert.AttnRIdeal.τ).loc Cert.AttnRIdeal.main_arg0) = m' ((c.tc : Thread Cert.AttnRIdeal.nD Cert.AttnRIdeal.τ).loc Cert.AttnRIdeal.main_arg0)
          ∧ r.2.mem ((c.tc : Thread Cert.AttnRIdeal.nD Cert.AttnRIdeal.τ).loc Cert.AttnRIdeal.main_arg1) = m' ((c.tc : Thread Cert.AttnRIdeal.nD Cert.AttnRIdeal.τ).loc Cert.AttnRIdeal.main_arg1)
          ∧ r.2.mem ((c.tc : Thread Cert.AttnRIdeal.nD Cert.AttnRIdeal.τ).loc Cert.AttnRIdeal.main_arg2) = m' ((c.tc : Thread Cert.AttnRIdeal.nD Cert.AttnRIdeal.τ).loc Cert.AttnRIdeal.main_arg2))

def preserves_DhidK_DhidKIdeal : Prop :=
  True

def algebraic_DhidKIdeal_DhidRIdeal [hDhidKIdeal : Cert.DhidKIdeal.Facts] [hDhidRIdeal : Cert.DhidRIdeal.Facts] : Prop :=
  ∀ (m : (ℓ : Loc Cert.DhidKIdeal.nD Cert.DhidKIdeal.τ Cert.DhidKIdeal.sig) → Buf (Elt Ideal) ℓ) (g : Dev Cert.DhidKIdeal.nD → PrngReg)
    (m' : (ℓ : Loc Cert.DhidRIdeal.nD Cert.DhidRIdeal.τ Cert.DhidRIdeal.sig) → Buf (Elt Ideal) ℓ) (g' : Dev Cert.DhidRIdeal.nD → PrngReg), Pre_DhidKIdeal m →
    (∀ c : Dev Cert.DhidKIdeal.nD,
      m' ((c.tc : Thread Cert.DhidRIdeal.nD Cert.DhidRIdeal.τ).loc Cert.DhidRIdeal.main_arg0) = m ((c.tc : Thread Cert.DhidKIdeal.nD Cert.DhidKIdeal.τ).loc Cert.DhidKIdeal.main_arg0)
      ∧ m' ((c.tc : Thread Cert.DhidRIdeal.nD Cert.DhidRIdeal.τ).loc Cert.DhidRIdeal.main_arg1) = m ((c.tc : Thread Cert.DhidKIdeal.nD Cert.DhidKIdeal.τ).loc Cert.DhidKIdeal.main_arg1)
      ∧ m' ((c.tc : Thread Cert.DhidRIdeal.nD Cert.DhidRIdeal.τ).loc Cert.DhidRIdeal.main_arg2) = m ((c.tc : Thread Cert.DhidKIdeal.nD Cert.DhidKIdeal.τ).loc Cert.DhidKIdeal.main_arg2)) →
    ∃ (v0 : (c : Dev Cert.DhidKIdeal.nD) → Buf (Elt Ideal) ((c.tc : Thread Cert.DhidKIdeal.nD Cert.DhidKIdeal.τ).loc Cert.DhidKIdeal.main_v5)),
      θ_run (Cert.DhidKIdeal.defs (F := Ideal)) (onTc (τ := Cert.DhidKIdeal.τ) (Cert.DhidKIdeal.main (F := Ideal))) ⟨m, fun _ => 0, g⟩ (fun r => ∀ c : Dev Cert.DhidKIdeal.nD,
          r.2.mem ((c.tc : Thread Cert.DhidKIdeal.nD Cert.DhidKIdeal.τ).loc Cert.DhidKIdeal.main_v5) = v0 c
          ∧ r.2.mem ((c.tc : Thread Cert.DhidKIdeal.nD Cert.DhidKIdeal.τ).loc Cert.DhidKIdeal.main_arg0) = m ((c.tc : Thread Cert.DhidKIdeal.nD Cert.DhidKIdeal.τ).loc Cert.DhidKIdeal.main_arg0)
          ∧ r.2.mem ((c.tc : Thread Cert.DhidKIdeal.nD Cert.DhidKIdeal.τ).loc Cert.DhidKIdeal.main_arg1) = m ((c.tc : Thread Cert.DhidKIdeal.nD Cert.DhidKIdeal.τ).loc Cert.DhidKIdeal.main_arg1)
          ∧ r.2.mem ((c.tc : Thread Cert.DhidKIdeal.nD Cert.DhidKIdeal.τ).loc Cert.DhidKIdeal.main_arg2) = m ((c.tc : Thread Cert.DhidKIdeal.nD Cert.DhidKIdeal.τ).loc Cert.DhidKIdeal.main_arg2))
      ∧ θ_run (Cert.DhidRIdeal.defs (F := Ideal)) (onTc (τ := Cert.DhidRIdeal.τ) (Cert.DhidRIdeal.main (F := Ideal))) ⟨m', fun _ => 0, g'⟩ (fun r => ∀ c : Dev Cert.DhidRIdeal.nD,
          r.2.mem ((c.tc : Thread Cert.DhidRIdeal.nD Cert.DhidRIdeal.τ).loc Cert.DhidRIdeal.main_v12) = v0 c
          ∧ r.2.mem ((c.tc : Thread Cert.DhidRIdeal.nD Cert.DhidRIdeal.τ).loc Cert.DhidRIdeal.main_arg0) = m' ((c.tc : Thread Cert.DhidRIdeal.nD Cert.DhidRIdeal.τ).loc Cert.DhidRIdeal.main_arg0)
          ∧ r.2.mem ((c.tc : Thread Cert.DhidRIdeal.nD Cert.DhidRIdeal.τ).loc Cert.DhidRIdeal.main_arg1) = m' ((c.tc : Thread Cert.DhidRIdeal.nD Cert.DhidRIdeal.τ).loc Cert.DhidRIdeal.main_arg1)
          ∧ r.2.mem ((c.tc : Thread Cert.DhidRIdeal.nD Cert.DhidRIdeal.τ).loc Cert.DhidRIdeal.main_arg2) = m' ((c.tc : Thread Cert.DhidRIdeal.nD Cert.DhidRIdeal.τ).loc Cert.DhidRIdeal.main_arg2))

def preserves_Ln2K_Ln2KIdeal : Prop :=
  True

def algebraic_Ln2KIdeal_Ln2RIdeal_pre_ln2_finite [hLn2KIdeal : Cert.Ln2KIdeal.Facts] [hLn2RIdeal : Cert.Ln2RIdeal.Facts] [hPre_ln2_finite : Cert.Pre_ln2_finite.Facts] : Prop :=
  ∀ (m : (ℓ : Loc Cert.Ln2KIdeal.nD Cert.Ln2KIdeal.τ Cert.Ln2KIdeal.sig) → Buf (Elt Ideal) ℓ) (g : Dev Cert.Ln2KIdeal.nD → PrngReg)
    (m' : (ℓ : Loc Cert.Ln2RIdeal.nD Cert.Ln2RIdeal.τ Cert.Ln2RIdeal.sig) → Buf (Elt Ideal) ℓ) (g' : Dev Cert.Ln2RIdeal.nD → PrngReg), Pre_Ln2KIdeal_ln2_finite m →
    (∀ c : Dev Cert.Ln2KIdeal.nD,
      m' ((c.tc : Thread Cert.Ln2RIdeal.nD Cert.Ln2RIdeal.τ).loc Cert.Ln2RIdeal.main_arg0) = m ((c.tc : Thread Cert.Ln2KIdeal.nD Cert.Ln2KIdeal.τ).loc Cert.Ln2KIdeal.main_arg0)
      ∧ m' ((c.tc : Thread Cert.Ln2RIdeal.nD Cert.Ln2RIdeal.τ).loc Cert.Ln2RIdeal.main_arg1) = m ((c.tc : Thread Cert.Ln2KIdeal.nD Cert.Ln2KIdeal.τ).loc Cert.Ln2KIdeal.main_arg1)
      ∧ m' ((c.tc : Thread Cert.Ln2RIdeal.nD Cert.Ln2RIdeal.τ).loc Cert.Ln2RIdeal.main_arg2) = m ((c.tc : Thread Cert.Ln2KIdeal.nD Cert.Ln2KIdeal.τ).loc Cert.Ln2KIdeal.main_arg2)
      ∧ m' ((c.tc : Thread Cert.Ln2RIdeal.nD Cert.Ln2RIdeal.τ).loc Cert.Ln2RIdeal.main_arg3) = m ((c.tc : Thread Cert.Ln2KIdeal.nD Cert.Ln2KIdeal.τ).loc Cert.Ln2KIdeal.main_arg3)
      ∧ m' ((c.tc : Thread Cert.Ln2RIdeal.nD Cert.Ln2RIdeal.τ).loc Cert.Ln2RIdeal.main_arg4) = m ((c.tc : Thread Cert.Ln2KIdeal.nD Cert.Ln2KIdeal.τ).loc Cert.Ln2KIdeal.main_arg4)
      ∧ m' ((c.tc : Thread Cert.Ln2RIdeal.nD Cert.Ln2RIdeal.τ).loc Cert.Ln2RIdeal.main_arg5) = m ((c.tc : Thread Cert.Ln2KIdeal.nD Cert.Ln2KIdeal.τ).loc Cert.Ln2KIdeal.main_arg5)) →
    ∃ (v0 : (c : Dev Cert.Ln2KIdeal.nD) → Buf (Elt Ideal) ((c.tc : Thread Cert.Ln2KIdeal.nD Cert.Ln2KIdeal.τ).loc Cert.Ln2KIdeal.main_v2_0)) (v1 : (c : Dev Cert.Ln2KIdeal.nD) → Buf (Elt Ideal) ((c.tc : Thread Cert.Ln2KIdeal.nD Cert.Ln2KIdeal.τ).loc Cert.Ln2KIdeal.main_v2_1)) (v2 : (c : Dev Cert.Ln2KIdeal.nD) → Buf (Elt Ideal) ((c.tc : Thread Cert.Ln2KIdeal.nD Cert.Ln2KIdeal.τ).loc Cert.Ln2KIdeal.main_v2_2)) (v3 : (c : Dev Cert.Ln2KIdeal.nD) → Buf (Elt Ideal) ((c.tc : Thread Cert.Ln2KIdeal.nD Cert.Ln2KIdeal.τ).loc Cert.Ln2KIdeal.main_v2_3)) (v4 : (c : Dev Cert.Ln2KIdeal.nD) → Buf (Elt Ideal) ((c.tc : Thread Cert.Ln2KIdeal.nD Cert.Ln2KIdeal.τ).loc Cert.Ln2KIdeal.main_v2_4)),
      θ_run (Cert.Ln2KIdeal.defs (F := Ideal)) (onTc (τ := Cert.Ln2KIdeal.τ) (Cert.Ln2KIdeal.main (F := Ideal))) ⟨m, fun _ => 0, g⟩ (fun r => ∀ c : Dev Cert.Ln2KIdeal.nD,
          r.2.mem ((c.tc : Thread Cert.Ln2KIdeal.nD Cert.Ln2KIdeal.τ).loc Cert.Ln2KIdeal.main_v2_0) = v0 c
          ∧ r.2.mem ((c.tc : Thread Cert.Ln2KIdeal.nD Cert.Ln2KIdeal.τ).loc Cert.Ln2KIdeal.main_v2_1) = v1 c
          ∧ r.2.mem ((c.tc : Thread Cert.Ln2KIdeal.nD Cert.Ln2KIdeal.τ).loc Cert.Ln2KIdeal.main_v2_2) = v2 c
          ∧ r.2.mem ((c.tc : Thread Cert.Ln2KIdeal.nD Cert.Ln2KIdeal.τ).loc Cert.Ln2KIdeal.main_v2_3) = v3 c
          ∧ r.2.mem ((c.tc : Thread Cert.Ln2KIdeal.nD Cert.Ln2KIdeal.τ).loc Cert.Ln2KIdeal.main_v2_4) = v4 c
          ∧ r.2.mem ((c.tc : Thread Cert.Ln2KIdeal.nD Cert.Ln2KIdeal.τ).loc Cert.Ln2KIdeal.main_arg0) = m ((c.tc : Thread Cert.Ln2KIdeal.nD Cert.Ln2KIdeal.τ).loc Cert.Ln2KIdeal.main_arg0)
          ∧ r.2.mem ((c.tc : Thread Cert.Ln2KIdeal.nD Cert.Ln2KIdeal.τ).loc Cert.Ln2KIdeal.main_arg1) = m ((c.tc : Thread Cert.Ln2KIdeal.nD Cert.Ln2KIdeal.τ).loc Cert.Ln2KIdeal.main_arg1)
          ∧ r.2.mem ((c.tc : Thread Cert.Ln2KIdeal.nD Cert.Ln2KIdeal.τ).loc Cert.Ln2KIdeal.main_arg2) = m ((c.tc : Thread Cert.Ln2KIdeal.nD Cert.Ln2KIdeal.τ).loc Cert.Ln2KIdeal.main_arg2)
          ∧ r.2.mem ((c.tc : Thread Cert.Ln2KIdeal.nD Cert.Ln2KIdeal.τ).loc Cert.Ln2KIdeal.main_arg3) = m ((c.tc : Thread Cert.Ln2KIdeal.nD Cert.Ln2KIdeal.τ).loc Cert.Ln2KIdeal.main_arg3)
          ∧ r.2.mem ((c.tc : Thread Cert.Ln2KIdeal.nD Cert.Ln2KIdeal.τ).loc Cert.Ln2KIdeal.main_arg4) = m ((c.tc : Thread Cert.Ln2KIdeal.nD Cert.Ln2KIdeal.τ).loc Cert.Ln2KIdeal.main_arg4)
          ∧ r.2.mem ((c.tc : Thread Cert.Ln2KIdeal.nD Cert.Ln2KIdeal.τ).loc Cert.Ln2KIdeal.main_arg5) = m ((c.tc : Thread Cert.Ln2KIdeal.nD Cert.Ln2KIdeal.τ).loc Cert.Ln2KIdeal.main_arg5))
      ∧ θ_run (Cert.Ln2RIdeal.defs (F := Ideal)) (onTc (τ := Cert.Ln2RIdeal.τ) (Cert.Ln2RIdeal.main (F := Ideal))) ⟨m', fun _ => 0, g'⟩ (fun r => ∀ c : Dev Cert.Ln2RIdeal.nD,
          r.2.mem ((c.tc : Thread Cert.Ln2RIdeal.nD Cert.Ln2RIdeal.τ).loc Cert.Ln2RIdeal.main_v76) = v0 c
          ∧ r.2.mem ((c.tc : Thread Cert.Ln2RIdeal.nD Cert.Ln2RIdeal.τ).loc Cert.Ln2RIdeal.main_v77) = v1 c
          ∧ r.2.mem ((c.tc : Thread Cert.Ln2RIdeal.nD Cert.Ln2RIdeal.τ).loc Cert.Ln2RIdeal.main_v80) = v2 c
          ∧ r.2.mem ((c.tc : Thread Cert.Ln2RIdeal.nD Cert.Ln2RIdeal.τ).loc Cert.Ln2RIdeal.main_v81) = v3 c
          ∧ r.2.mem ((c.tc : Thread Cert.Ln2RIdeal.nD Cert.Ln2RIdeal.τ).loc Cert.Ln2RIdeal.main_v82) = v4 c
          ∧ r.2.mem ((c.tc : Thread Cert.Ln2RIdeal.nD Cert.Ln2RIdeal.τ).loc Cert.Ln2RIdeal.main_arg0) = m' ((c.tc : Thread Cert.Ln2RIdeal.nD Cert.Ln2RIdeal.τ).loc Cert.Ln2RIdeal.main_arg0)
          ∧ r.2.mem ((c.tc : Thread Cert.Ln2RIdeal.nD Cert.Ln2RIdeal.τ).loc Cert.Ln2RIdeal.main_arg1) = m' ((c.tc : Thread Cert.Ln2RIdeal.nD Cert.Ln2RIdeal.τ).loc Cert.Ln2RIdeal.main_arg1)
          ∧ r.2.mem ((c.tc : Thread Cert.Ln2RIdeal.nD Cert.Ln2RIdeal.τ).loc Cert.Ln2RIdeal.main_arg2) = m' ((c.tc : Thread Cert.Ln2RIdeal.nD Cert.Ln2RIdeal.τ).loc Cert.Ln2RIdeal.main_arg2)
          ∧ r.2.mem ((c.tc : Thread Cert.Ln2RIdeal.nD Cert.Ln2RIdeal.τ).loc Cert.Ln2RIdeal.main_arg3) = m' ((c.tc : Thread Cert.Ln2RIdeal.nD Cert.Ln2RIdeal.τ).loc Cert.Ln2RIdeal.main_arg3)
          ∧ r.2.mem ((c.tc : Thread Cert.Ln2RIdeal.nD Cert.Ln2RIdeal.τ).loc Cert.Ln2RIdeal.main_arg4) = m' ((c.tc : Thread Cert.Ln2RIdeal.nD Cert.Ln2RIdeal.τ).loc Cert.Ln2RIdeal.main_arg4)
          ∧ r.2.mem ((c.tc : Thread Cert.Ln2RIdeal.nD Cert.Ln2RIdeal.τ).loc Cert.Ln2RIdeal.main_arg5) = m' ((c.tc : Thread Cert.Ln2RIdeal.nD Cert.Ln2RIdeal.τ).loc Cert.Ln2RIdeal.main_arg5))

def preserves_Dx1K_Dx1KIdeal : Prop :=
  True

def algebraic_Dx1KIdeal_Dx1RIdeal_pre_dx1_finite [hDx1KIdeal : Cert.Dx1KIdeal.Facts] [hDx1RIdeal : Cert.Dx1RIdeal.Facts] [hPre_dx1_finite : Cert.Pre_dx1_finite.Facts] : Prop :=
  ∀ (m : (ℓ : Loc Cert.Dx1KIdeal.nD Cert.Dx1KIdeal.τ Cert.Dx1KIdeal.sig) → Buf (Elt Ideal) ℓ) (g : Dev Cert.Dx1KIdeal.nD → PrngReg)
    (m' : (ℓ : Loc Cert.Dx1RIdeal.nD Cert.Dx1RIdeal.τ Cert.Dx1RIdeal.sig) → Buf (Elt Ideal) ℓ) (g' : Dev Cert.Dx1RIdeal.nD → PrngReg), Pre_Dx1KIdeal_dx1_finite m →
    (∀ c : Dev Cert.Dx1KIdeal.nD,
      m' ((c.tc : Thread Cert.Dx1RIdeal.nD Cert.Dx1RIdeal.τ).loc Cert.Dx1RIdeal.main_arg0) = m ((c.tc : Thread Cert.Dx1KIdeal.nD Cert.Dx1KIdeal.τ).loc Cert.Dx1KIdeal.main_arg0)
      ∧ m' ((c.tc : Thread Cert.Dx1RIdeal.nD Cert.Dx1RIdeal.τ).loc Cert.Dx1RIdeal.main_arg1) = m ((c.tc : Thread Cert.Dx1KIdeal.nD Cert.Dx1KIdeal.τ).loc Cert.Dx1KIdeal.main_arg1)
      ∧ m' ((c.tc : Thread Cert.Dx1RIdeal.nD Cert.Dx1RIdeal.τ).loc Cert.Dx1RIdeal.main_arg2) = m ((c.tc : Thread Cert.Dx1KIdeal.nD Cert.Dx1KIdeal.τ).loc Cert.Dx1KIdeal.main_arg2)
      ∧ m' ((c.tc : Thread Cert.Dx1RIdeal.nD Cert.Dx1RIdeal.τ).loc Cert.Dx1RIdeal.main_arg3) = m ((c.tc : Thread Cert.Dx1KIdeal.nD Cert.Dx1KIdeal.τ).loc Cert.Dx1KIdeal.main_arg3)
      ∧ m' ((c.tc : Thread Cert.Dx1RIdeal.nD Cert.Dx1RIdeal.τ).loc Cert.Dx1RIdeal.main_arg4) = m ((c.tc : Thread Cert.Dx1KIdeal.nD Cert.Dx1KIdeal.τ).loc Cert.Dx1KIdeal.main_arg4)
      ∧ m' ((c.tc : Thread Cert.Dx1RIdeal.nD Cert.Dx1RIdeal.τ).loc Cert.Dx1RIdeal.main_arg5) = m ((c.tc : Thread Cert.Dx1KIdeal.nD Cert.Dx1KIdeal.τ).loc Cert.Dx1KIdeal.main_arg5)) →
    ∃ (v0 : (c : Dev Cert.Dx1KIdeal.nD) → Buf (Elt Ideal) ((c.tc : Thread Cert.Dx1KIdeal.nD Cert.Dx1KIdeal.τ).loc Cert.Dx1KIdeal.main_v2_0)) (v1 : (c : Dev Cert.Dx1KIdeal.nD) → Buf (Elt Ideal) ((c.tc : Thread Cert.Dx1KIdeal.nD Cert.Dx1KIdeal.τ).loc Cert.Dx1KIdeal.main_v2_1)) (v2 : (c : Dev Cert.Dx1KIdeal.nD) → Buf (Elt Ideal) ((c.tc : Thread Cert.Dx1KIdeal.nD Cert.Dx1KIdeal.τ).loc Cert.Dx1KIdeal.main_v2_2)) (v3 : (c : Dev Cert.Dx1KIdeal.nD) → Buf (Elt Ideal) ((c.tc : Thread Cert.Dx1KIdeal.nD Cert.Dx1KIdeal.τ).loc Cert.Dx1KIdeal.main_v2_3)),
      θ_run (Cert.Dx1KIdeal.defs (F := Ideal)) (onTc (τ := Cert.Dx1KIdeal.τ) (Cert.Dx1KIdeal.main (F := Ideal))) ⟨m, fun _ => 0, g⟩ (fun r => ∀ c : Dev Cert.Dx1KIdeal.nD,
          r.2.mem ((c.tc : Thread Cert.Dx1KIdeal.nD Cert.Dx1KIdeal.τ).loc Cert.Dx1KIdeal.main_v2_0) = v0 c
          ∧ r.2.mem ((c.tc : Thread Cert.Dx1KIdeal.nD Cert.Dx1KIdeal.τ).loc Cert.Dx1KIdeal.main_v2_1) = v1 c
          ∧ r.2.mem ((c.tc : Thread Cert.Dx1KIdeal.nD Cert.Dx1KIdeal.τ).loc Cert.Dx1KIdeal.main_v2_2) = v2 c
          ∧ r.2.mem ((c.tc : Thread Cert.Dx1KIdeal.nD Cert.Dx1KIdeal.τ).loc Cert.Dx1KIdeal.main_v2_3) = v3 c
          ∧ r.2.mem ((c.tc : Thread Cert.Dx1KIdeal.nD Cert.Dx1KIdeal.τ).loc Cert.Dx1KIdeal.main_arg0) = m ((c.tc : Thread Cert.Dx1KIdeal.nD Cert.Dx1KIdeal.τ).loc Cert.Dx1KIdeal.main_arg0)
          ∧ r.2.mem ((c.tc : Thread Cert.Dx1KIdeal.nD Cert.Dx1KIdeal.τ).loc Cert.Dx1KIdeal.main_arg1) = m ((c.tc : Thread Cert.Dx1KIdeal.nD Cert.Dx1KIdeal.τ).loc Cert.Dx1KIdeal.main_arg1)
          ∧ r.2.mem ((c.tc : Thread Cert.Dx1KIdeal.nD Cert.Dx1KIdeal.τ).loc Cert.Dx1KIdeal.main_arg2) = m ((c.tc : Thread Cert.Dx1KIdeal.nD Cert.Dx1KIdeal.τ).loc Cert.Dx1KIdeal.main_arg2)
          ∧ r.2.mem ((c.tc : Thread Cert.Dx1KIdeal.nD Cert.Dx1KIdeal.τ).loc Cert.Dx1KIdeal.main_arg3) = m ((c.tc : Thread Cert.Dx1KIdeal.nD Cert.Dx1KIdeal.τ).loc Cert.Dx1KIdeal.main_arg3)
          ∧ r.2.mem ((c.tc : Thread Cert.Dx1KIdeal.nD Cert.Dx1KIdeal.τ).loc Cert.Dx1KIdeal.main_arg4) = m ((c.tc : Thread Cert.Dx1KIdeal.nD Cert.Dx1KIdeal.τ).loc Cert.Dx1KIdeal.main_arg4)
          ∧ r.2.mem ((c.tc : Thread Cert.Dx1KIdeal.nD Cert.Dx1KIdeal.τ).loc Cert.Dx1KIdeal.main_arg5) = m ((c.tc : Thread Cert.Dx1KIdeal.nD Cert.Dx1KIdeal.τ).loc Cert.Dx1KIdeal.main_arg5))
      ∧ θ_run (Cert.Dx1RIdeal.defs (F := Ideal)) (onTc (τ := Cert.Dx1RIdeal.τ) (Cert.Dx1RIdeal.main (F := Ideal))) ⟨m', fun _ => 0, g'⟩ (fun r => ∀ c : Dev Cert.Dx1RIdeal.nD,
          r.2.mem ((c.tc : Thread Cert.Dx1RIdeal.nD Cert.Dx1RIdeal.τ).loc Cert.Dx1RIdeal.main_v66) = v0 c
          ∧ r.2.mem ((c.tc : Thread Cert.Dx1RIdeal.nD Cert.Dx1RIdeal.τ).loc Cert.Dx1RIdeal.main_v67) = v1 c
          ∧ r.2.mem ((c.tc : Thread Cert.Dx1RIdeal.nD Cert.Dx1RIdeal.τ).loc Cert.Dx1RIdeal.main_v68) = v2 c
          ∧ r.2.mem ((c.tc : Thread Cert.Dx1RIdeal.nD Cert.Dx1RIdeal.τ).loc Cert.Dx1RIdeal.main_v69) = v3 c
          ∧ r.2.mem ((c.tc : Thread Cert.Dx1RIdeal.nD Cert.Dx1RIdeal.τ).loc Cert.Dx1RIdeal.main_arg0) = m' ((c.tc : Thread Cert.Dx1RIdeal.nD Cert.Dx1RIdeal.τ).loc Cert.Dx1RIdeal.main_arg0)
          ∧ r.2.mem ((c.tc : Thread Cert.Dx1RIdeal.nD Cert.Dx1RIdeal.τ).loc Cert.Dx1RIdeal.main_arg1) = m' ((c.tc : Thread Cert.Dx1RIdeal.nD Cert.Dx1RIdeal.τ).loc Cert.Dx1RIdeal.main_arg1)
          ∧ r.2.mem ((c.tc : Thread Cert.Dx1RIdeal.nD Cert.Dx1RIdeal.τ).loc Cert.Dx1RIdeal.main_arg2) = m' ((c.tc : Thread Cert.Dx1RIdeal.nD Cert.Dx1RIdeal.τ).loc Cert.Dx1RIdeal.main_arg2)
          ∧ r.2.mem ((c.tc : Thread Cert.Dx1RIdeal.nD Cert.Dx1RIdeal.τ).loc Cert.Dx1RIdeal.main_arg3) = m' ((c.tc : Thread Cert.Dx1RIdeal.nD Cert.Dx1RIdeal.τ).loc Cert.Dx1RIdeal.main_arg3)
          ∧ r.2.mem ((c.tc : Thread Cert.Dx1RIdeal.nD Cert.Dx1RIdeal.τ).loc Cert.Dx1RIdeal.main_arg4) = m' ((c.tc : Thread Cert.Dx1RIdeal.nD Cert.Dx1RIdeal.τ).loc Cert.Dx1RIdeal.main_arg4)
          ∧ r.2.mem ((c.tc : Thread Cert.Dx1RIdeal.nD Cert.Dx1RIdeal.τ).loc Cert.Dx1RIdeal.main_arg5) = m' ((c.tc : Thread Cert.Dx1RIdeal.nD Cert.Dx1RIdeal.τ).loc Cert.Dx1RIdeal.main_arg5))

def preserves_PobK_PobKIdeal : Prop :=
  True

def algebraic_PobKIdeal_PobRIdeal_pre_pob_finite [hPobKIdeal : Cert.PobKIdeal.Facts] [hPobRIdeal : Cert.PobRIdeal.Facts] [hPre_pob_finite : Cert.Pre_pob_finite.Facts] : Prop :=
  ∀ (m : (ℓ : Loc Cert.PobKIdeal.nD Cert.PobKIdeal.τ Cert.PobKIdeal.sig) → Buf (Elt Ideal) ℓ) (g : Dev Cert.PobKIdeal.nD → PrngReg)
    (m' : (ℓ : Loc Cert.PobRIdeal.nD Cert.PobRIdeal.τ Cert.PobRIdeal.sig) → Buf (Elt Ideal) ℓ) (g' : Dev Cert.PobRIdeal.nD → PrngReg), Pre_PobKIdeal_pob_finite m →
    (∀ c : Dev Cert.PobKIdeal.nD,
      m' ((c.tc : Thread Cert.PobRIdeal.nD Cert.PobRIdeal.τ).loc Cert.PobRIdeal.main_arg0) = m ((c.tc : Thread Cert.PobKIdeal.nD Cert.PobKIdeal.τ).loc Cert.PobKIdeal.main_arg0)
      ∧ m' ((c.tc : Thread Cert.PobRIdeal.nD Cert.PobRIdeal.τ).loc Cert.PobRIdeal.main_arg1) = m ((c.tc : Thread Cert.PobKIdeal.nD Cert.PobKIdeal.τ).loc Cert.PobKIdeal.main_arg1)
      ∧ m' ((c.tc : Thread Cert.PobRIdeal.nD Cert.PobRIdeal.τ).loc Cert.PobRIdeal.main_arg2) = m ((c.tc : Thread Cert.PobKIdeal.nD Cert.PobKIdeal.τ).loc Cert.PobKIdeal.main_arg2)
      ∧ m' ((c.tc : Thread Cert.PobRIdeal.nD Cert.PobRIdeal.τ).loc Cert.PobRIdeal.main_arg3) = m ((c.tc : Thread Cert.PobKIdeal.nD Cert.PobKIdeal.τ).loc Cert.PobKIdeal.main_arg3)
      ∧ m' ((c.tc : Thread Cert.PobRIdeal.nD Cert.PobRIdeal.τ).loc Cert.PobRIdeal.main_arg4) = m ((c.tc : Thread Cert.PobKIdeal.nD Cert.PobKIdeal.τ).loc Cert.PobKIdeal.main_arg4)
      ∧ m' ((c.tc : Thread Cert.PobRIdeal.nD Cert.PobRIdeal.τ).loc Cert.PobRIdeal.main_arg5) = m ((c.tc : Thread Cert.PobKIdeal.nD Cert.PobKIdeal.τ).loc Cert.PobKIdeal.main_arg5)) →
    ∃ (v0 : (c : Dev Cert.PobKIdeal.nD) → Buf (Elt Ideal) ((c.tc : Thread Cert.PobKIdeal.nD Cert.PobKIdeal.τ).loc Cert.PobKIdeal.main_v2_0)) (v1 : (c : Dev Cert.PobKIdeal.nD) → Buf (Elt Ideal) ((c.tc : Thread Cert.PobKIdeal.nD Cert.PobKIdeal.τ).loc Cert.PobKIdeal.main_v2_1)) (v2 : (c : Dev Cert.PobKIdeal.nD) → Buf (Elt Ideal) ((c.tc : Thread Cert.PobKIdeal.nD Cert.PobKIdeal.τ).loc Cert.PobKIdeal.main_v2_2)) (v3 : (c : Dev Cert.PobKIdeal.nD) → Buf (Elt Ideal) ((c.tc : Thread Cert.PobKIdeal.nD Cert.PobKIdeal.τ).loc Cert.PobKIdeal.main_v2_3)) (v4 : (c : Dev Cert.PobKIdeal.nD) → Buf (Elt Ideal) ((c.tc : Thread Cert.PobKIdeal.nD Cert.PobKIdeal.τ).loc Cert.PobKIdeal.main_v2_4)) (v5 : (c : Dev Cert.PobKIdeal.nD) → Buf (Elt Ideal) ((c.tc : Thread Cert.PobKIdeal.nD Cert.PobKIdeal.τ).loc Cert.PobKIdeal.main_v2_5)) (v6 : (c : Dev Cert.PobKIdeal.nD) → Buf (Elt Ideal) ((c.tc : Thread Cert.PobKIdeal.nD Cert.PobKIdeal.τ).loc Cert.PobKIdeal.main_v2_6)) (v7 : (c : Dev Cert.PobKIdeal.nD) → Buf (Elt Ideal) ((c.tc : Thread Cert.PobKIdeal.nD Cert.PobKIdeal.τ).loc Cert.PobKIdeal.main_v2_7)),
      θ_run (Cert.PobKIdeal.defs (F := Ideal)) (onTc (τ := Cert.PobKIdeal.τ) (Cert.PobKIdeal.main (F := Ideal))) ⟨m, fun _ => 0, g⟩ (fun r => ∀ c : Dev Cert.PobKIdeal.nD,
          r.2.mem ((c.tc : Thread Cert.PobKIdeal.nD Cert.PobKIdeal.τ).loc Cert.PobKIdeal.main_v2_0) = v0 c
          ∧ r.2.mem ((c.tc : Thread Cert.PobKIdeal.nD Cert.PobKIdeal.τ).loc Cert.PobKIdeal.main_v2_1) = v1 c
          ∧ r.2.mem ((c.tc : Thread Cert.PobKIdeal.nD Cert.PobKIdeal.τ).loc Cert.PobKIdeal.main_v2_2) = v2 c
          ∧ r.2.mem ((c.tc : Thread Cert.PobKIdeal.nD Cert.PobKIdeal.τ).loc Cert.PobKIdeal.main_v2_3) = v3 c
          ∧ r.2.mem ((c.tc : Thread Cert.PobKIdeal.nD Cert.PobKIdeal.τ).loc Cert.PobKIdeal.main_v2_4) = v4 c
          ∧ r.2.mem ((c.tc : Thread Cert.PobKIdeal.nD Cert.PobKIdeal.τ).loc Cert.PobKIdeal.main_v2_5) = v5 c
          ∧ r.2.mem ((c.tc : Thread Cert.PobKIdeal.nD Cert.PobKIdeal.τ).loc Cert.PobKIdeal.main_v2_6) = v6 c
          ∧ r.2.mem ((c.tc : Thread Cert.PobKIdeal.nD Cert.PobKIdeal.τ).loc Cert.PobKIdeal.main_v2_7) = v7 c
          ∧ r.2.mem ((c.tc : Thread Cert.PobKIdeal.nD Cert.PobKIdeal.τ).loc Cert.PobKIdeal.main_arg0) = m ((c.tc : Thread Cert.PobKIdeal.nD Cert.PobKIdeal.τ).loc Cert.PobKIdeal.main_arg0)
          ∧ r.2.mem ((c.tc : Thread Cert.PobKIdeal.nD Cert.PobKIdeal.τ).loc Cert.PobKIdeal.main_arg1) = m ((c.tc : Thread Cert.PobKIdeal.nD Cert.PobKIdeal.τ).loc Cert.PobKIdeal.main_arg1)
          ∧ r.2.mem ((c.tc : Thread Cert.PobKIdeal.nD Cert.PobKIdeal.τ).loc Cert.PobKIdeal.main_arg2) = m ((c.tc : Thread Cert.PobKIdeal.nD Cert.PobKIdeal.τ).loc Cert.PobKIdeal.main_arg2)
          ∧ r.2.mem ((c.tc : Thread Cert.PobKIdeal.nD Cert.PobKIdeal.τ).loc Cert.PobKIdeal.main_arg3) = m ((c.tc : Thread Cert.PobKIdeal.nD Cert.PobKIdeal.τ).loc Cert.PobKIdeal.main_arg3)
          ∧ r.2.mem ((c.tc : Thread Cert.PobKIdeal.nD Cert.PobKIdeal.τ).loc Cert.PobKIdeal.main_arg4) = m ((c.tc : Thread Cert.PobKIdeal.nD Cert.PobKIdeal.τ).loc Cert.PobKIdeal.main_arg4)
          ∧ r.2.mem ((c.tc : Thread Cert.PobKIdeal.nD Cert.PobKIdeal.τ).loc Cert.PobKIdeal.main_arg5) = m ((c.tc : Thread Cert.PobKIdeal.nD Cert.PobKIdeal.τ).loc Cert.PobKIdeal.main_arg5))
      ∧ θ_run (Cert.PobRIdeal.defs (F := Ideal)) (onTc (τ := Cert.PobRIdeal.τ) (Cert.PobRIdeal.main (F := Ideal))) ⟨m', fun _ => 0, g'⟩ (fun r => ∀ c : Dev Cert.PobRIdeal.nD,
          r.2.mem ((c.tc : Thread Cert.PobRIdeal.nD Cert.PobRIdeal.τ).loc Cert.PobRIdeal.main_v110) = v0 c
          ∧ r.2.mem ((c.tc : Thread Cert.PobRIdeal.nD Cert.PobRIdeal.τ).loc Cert.PobRIdeal.main_v111) = v1 c
          ∧ r.2.mem ((c.tc : Thread Cert.PobRIdeal.nD Cert.PobRIdeal.τ).loc Cert.PobRIdeal.main_v112) = v2 c
          ∧ r.2.mem ((c.tc : Thread Cert.PobRIdeal.nD Cert.PobRIdeal.τ).loc Cert.PobRIdeal.main_v53) = v3 c
          ∧ r.2.mem ((c.tc : Thread Cert.PobRIdeal.nD Cert.PobRIdeal.τ).loc Cert.PobRIdeal.main_v113) = v4 c
          ∧ r.2.mem ((c.tc : Thread Cert.PobRIdeal.nD Cert.PobRIdeal.τ).loc Cert.PobRIdeal.main_v115) = v5 c
          ∧ r.2.mem ((c.tc : Thread Cert.PobRIdeal.nD Cert.PobRIdeal.τ).loc Cert.PobRIdeal.main_v117) = v6 c
          ∧ r.2.mem ((c.tc : Thread Cert.PobRIdeal.nD Cert.PobRIdeal.τ).loc Cert.PobRIdeal.main_v119) = v7 c
          ∧ r.2.mem ((c.tc : Thread Cert.PobRIdeal.nD Cert.PobRIdeal.τ).loc Cert.PobRIdeal.main_arg0) = m' ((c.tc : Thread Cert.PobRIdeal.nD Cert.PobRIdeal.τ).loc Cert.PobRIdeal.main_arg0)
          ∧ r.2.mem ((c.tc : Thread Cert.PobRIdeal.nD Cert.PobRIdeal.τ).loc Cert.PobRIdeal.main_arg1) = m' ((c.tc : Thread Cert.PobRIdeal.nD Cert.PobRIdeal.τ).loc Cert.PobRIdeal.main_arg1)
          ∧ r.2.mem ((c.tc : Thread Cert.PobRIdeal.nD Cert.PobRIdeal.τ).loc Cert.PobRIdeal.main_arg2) = m' ((c.tc : Thread Cert.PobRIdeal.nD Cert.PobRIdeal.τ).loc Cert.PobRIdeal.main_arg2)
          ∧ r.2.mem ((c.tc : Thread Cert.PobRIdeal.nD Cert.PobRIdeal.τ).loc Cert.PobRIdeal.main_arg3) = m' ((c.tc : Thread Cert.PobRIdeal.nD Cert.PobRIdeal.τ).loc Cert.PobRIdeal.main_arg3)
          ∧ r.2.mem ((c.tc : Thread Cert.PobRIdeal.nD Cert.PobRIdeal.τ).loc Cert.PobRIdeal.main_arg4) = m' ((c.tc : Thread Cert.PobRIdeal.nD Cert.PobRIdeal.τ).loc Cert.PobRIdeal.main_arg4)
          ∧ r.2.mem ((c.tc : Thread Cert.PobRIdeal.nD Cert.PobRIdeal.τ).loc Cert.PobRIdeal.main_arg5) = m' ((c.tc : Thread Cert.PobRIdeal.nD Cert.PobRIdeal.τ).loc Cert.PobRIdeal.main_arg5))

def preserves_FwdK_FwdKIdeal : Prop :=
  IdealRules.named_const.Statement Cert.FwdKIdeal.κ "mask" .f32 0xF149F2CA#32 ⊥
  ∧ IdealRules.named_const.Statement Cert.FwdKIdeal.κ "dead" .f32 0x42D20000#32 ⊤

def algebraic_FwdKIdeal_FwdRIdeal_pre_fwd_finite [hFwdKIdeal : Cert.FwdKIdeal.Facts] [hFwdRIdeal : Cert.FwdRIdeal.Facts] [hPre_fwd_finite : Cert.Pre_fwd_finite.Facts] : Prop :=
  ∀ (m : (ℓ : Loc Cert.FwdKIdeal.nD Cert.FwdKIdeal.τ Cert.FwdKIdeal.sig) → Buf (Elt Ideal) ℓ) (g : Dev Cert.FwdKIdeal.nD → PrngReg)
    (m' : (ℓ : Loc Cert.FwdRIdeal.nD Cert.FwdRIdeal.τ Cert.FwdRIdeal.sig) → Buf (Elt Ideal) ℓ) (g' : Dev Cert.FwdRIdeal.nD → PrngReg), Pre_FwdKIdeal_fwd_finite m →
    (∀ c : Dev Cert.FwdKIdeal.nD,
      m' ((c.tc : Thread Cert.FwdRIdeal.nD Cert.FwdRIdeal.τ).loc Cert.FwdRIdeal.main_arg0) = m ((c.tc : Thread Cert.FwdKIdeal.nD Cert.FwdKIdeal.τ).loc Cert.FwdKIdeal.main_arg0)
      ∧ m' ((c.tc : Thread Cert.FwdRIdeal.nD Cert.FwdRIdeal.τ).loc Cert.FwdRIdeal.main_arg1) = m ((c.tc : Thread Cert.FwdKIdeal.nD Cert.FwdKIdeal.τ).loc Cert.FwdKIdeal.main_arg1)
      ∧ m' ((c.tc : Thread Cert.FwdRIdeal.nD Cert.FwdRIdeal.τ).loc Cert.FwdRIdeal.main_arg2) = m ((c.tc : Thread Cert.FwdKIdeal.nD Cert.FwdKIdeal.τ).loc Cert.FwdKIdeal.main_arg2)) →
    ∃ (v0 : (c : Dev Cert.FwdKIdeal.nD) → Buf (Elt Ideal) ((c.tc : Thread Cert.FwdKIdeal.nD Cert.FwdKIdeal.τ).loc Cert.FwdKIdeal.main_v10_0)) (v1 : (c : Dev Cert.FwdKIdeal.nD) → Buf (Elt Ideal) ((c.tc : Thread Cert.FwdKIdeal.nD Cert.FwdKIdeal.τ).loc Cert.FwdKIdeal.main_v10_1)),
      θ_run (Cert.FwdKIdeal.defs (F := Ideal)) (onTc (τ := Cert.FwdKIdeal.τ) (Cert.FwdKIdeal.main (F := Ideal))) ⟨m, fun _ => 0, g⟩ (fun r => ∀ c : Dev Cert.FwdKIdeal.nD,
          r.2.mem ((c.tc : Thread Cert.FwdKIdeal.nD Cert.FwdKIdeal.τ).loc Cert.FwdKIdeal.main_v10_0) = v0 c
          ∧ r.2.mem ((c.tc : Thread Cert.FwdKIdeal.nD Cert.FwdKIdeal.τ).loc Cert.FwdKIdeal.main_v10_1) = v1 c
          ∧ r.2.mem ((c.tc : Thread Cert.FwdKIdeal.nD Cert.FwdKIdeal.τ).loc Cert.FwdKIdeal.main_arg0) = m ((c.tc : Thread Cert.FwdKIdeal.nD Cert.FwdKIdeal.τ).loc Cert.FwdKIdeal.main_arg0)
          ∧ r.2.mem ((c.tc : Thread Cert.FwdKIdeal.nD Cert.FwdKIdeal.τ).loc Cert.FwdKIdeal.main_arg1) = m ((c.tc : Thread Cert.FwdKIdeal.nD Cert.FwdKIdeal.τ).loc Cert.FwdKIdeal.main_arg1)
          ∧ r.2.mem ((c.tc : Thread Cert.FwdKIdeal.nD Cert.FwdKIdeal.τ).loc Cert.FwdKIdeal.main_arg2) = m ((c.tc : Thread Cert.FwdKIdeal.nD Cert.FwdKIdeal.τ).loc Cert.FwdKIdeal.main_arg2))
      ∧ θ_run (Cert.FwdRIdeal.defs (F := Ideal)) (onTc (τ := Cert.FwdRIdeal.τ) (Cert.FwdRIdeal.main (F := Ideal))) ⟨m', fun _ => 0, g'⟩ (fun r => ∀ c : Dev Cert.FwdRIdeal.nD,
          r.2.mem ((c.tc : Thread Cert.FwdRIdeal.nD Cert.FwdRIdeal.τ).loc Cert.FwdRIdeal.main_v30) = v0 c
          ∧ r.2.mem ((c.tc : Thread Cert.FwdRIdeal.nD Cert.FwdRIdeal.τ).loc Cert.FwdRIdeal.main_v47) = v1 c
          ∧ r.2.mem ((c.tc : Thread Cert.FwdRIdeal.nD Cert.FwdRIdeal.τ).loc Cert.FwdRIdeal.main_arg0) = m' ((c.tc : Thread Cert.FwdRIdeal.nD Cert.FwdRIdeal.τ).loc Cert.FwdRIdeal.main_arg0)
          ∧ r.2.mem ((c.tc : Thread Cert.FwdRIdeal.nD Cert.FwdRIdeal.τ).loc Cert.FwdRIdeal.main_arg1) = m' ((c.tc : Thread Cert.FwdRIdeal.nD Cert.FwdRIdeal.τ).loc Cert.FwdRIdeal.main_arg1)
          ∧ r.2.mem ((c.tc : Thread Cert.FwdRIdeal.nD Cert.FwdRIdeal.τ).loc Cert.FwdRIdeal.main_arg2) = m' ((c.tc : Thread Cert.FwdRIdeal.nD Cert.FwdRIdeal.τ).loc Cert.FwdRIdeal.main_arg2))

def preserves_UpK_UpKIdeal : Prop :=
  True

def algebraic_UpKIdeal_UpRIdeal [hUpKIdeal : Cert.UpKIdeal.Facts] [hUpRIdeal : Cert.UpRIdeal.Facts] : Prop :=
  ∀ (m : (ℓ : Loc Cert.UpKIdeal.nD Cert.UpKIdeal.τ Cert.UpKIdeal.sig) → Buf (Elt Ideal) ℓ) (g : Dev Cert.UpKIdeal.nD → PrngReg)
    (m' : (ℓ : Loc Cert.UpRIdeal.nD Cert.UpRIdeal.τ Cert.UpRIdeal.sig) → Buf (Elt Ideal) ℓ) (g' : Dev Cert.UpRIdeal.nD → PrngReg), Pre_UpKIdeal m →
    (∀ c : Dev Cert.UpKIdeal.nD,
      m' ((c.tc : Thread Cert.UpRIdeal.nD Cert.UpRIdeal.τ).loc Cert.UpRIdeal.main_arg0) = m ((c.tc : Thread Cert.UpKIdeal.nD Cert.UpKIdeal.τ).loc Cert.UpKIdeal.main_arg0)
      ∧ m' ((c.tc : Thread Cert.UpRIdeal.nD Cert.UpRIdeal.τ).loc Cert.UpRIdeal.main_arg1) = m ((c.tc : Thread Cert.UpKIdeal.nD Cert.UpKIdeal.τ).loc Cert.UpKIdeal.main_arg1)) →
    ∃ (v0 : (c : Dev Cert.UpKIdeal.nD) → Buf (Elt Ideal) ((c.tc : Thread Cert.UpKIdeal.nD Cert.UpKIdeal.τ).loc Cert.UpKIdeal.main_v2)),
      θ_run (Cert.UpKIdeal.defs (F := Ideal)) (onTc (τ := Cert.UpKIdeal.τ) (Cert.UpKIdeal.main (F := Ideal))) ⟨m, fun _ => 0, g⟩ (fun r => ∀ c : Dev Cert.UpKIdeal.nD,
          r.2.mem ((c.tc : Thread Cert.UpKIdeal.nD Cert.UpKIdeal.τ).loc Cert.UpKIdeal.main_v2) = v0 c
          ∧ r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
          ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1))
      ∧ θ_run (Cert.UpRIdeal.defs (F := Ideal)) (onTc (τ := Cert.UpRIdeal.τ) (Cert.UpRIdeal.main (F := Ideal))) ⟨m', fun _ => 0, g'⟩ (fun r => ∀ c : Dev Cert.UpRIdeal.nD,
          r.2.mem ((c.tc : Thread Cert.UpRIdeal.nD Cert.UpRIdeal.τ).loc Cert.UpRIdeal.main_v5) = v0 c
          ∧ r.2.mem ((c.tc : Thread Cert.UpRIdeal.nD Cert.UpRIdeal.τ).loc Cert.UpRIdeal.main_arg0) = m' ((c.tc : Thread Cert.UpRIdeal.nD Cert.UpRIdeal.τ).loc Cert.UpRIdeal.main_arg0)
          ∧ r.2.mem ((c.tc : Thread Cert.UpRIdeal.nD Cert.UpRIdeal.τ).loc Cert.UpRIdeal.main_arg1) = m' ((c.tc : Thread Cert.UpRIdeal.nD Cert.UpRIdeal.τ).loc Cert.UpRIdeal.main_arg1))

def preserves_OutK_OutKIdeal : Prop :=
  True

def algebraic_OutKIdeal_OutRIdeal [hOutKIdeal : Cert.OutKIdeal.Facts] [hOutRIdeal : Cert.OutRIdeal.Facts] : Prop :=
  ∀ (m : (ℓ : Loc Cert.OutKIdeal.nD Cert.OutKIdeal.τ Cert.OutKIdeal.sig) → Buf (Elt Ideal) ℓ) (g : Dev Cert.OutKIdeal.nD → PrngReg)
    (m' : (ℓ : Loc Cert.OutRIdeal.nD Cert.OutRIdeal.τ Cert.OutRIdeal.sig) → Buf (Elt Ideal) ℓ) (g' : Dev Cert.OutRIdeal.nD → PrngReg), Pre_OutKIdeal m →
    (∀ c : Dev Cert.OutKIdeal.nD,
      m' ((c.tc : Thread Cert.OutRIdeal.nD Cert.OutRIdeal.τ).loc Cert.OutRIdeal.main_arg0) = m ((c.tc : Thread Cert.OutKIdeal.nD Cert.OutKIdeal.τ).loc Cert.OutKIdeal.main_arg0)
      ∧ m' ((c.tc : Thread Cert.OutRIdeal.nD Cert.OutRIdeal.τ).loc Cert.OutRIdeal.main_arg1) = m ((c.tc : Thread Cert.OutKIdeal.nD Cert.OutKIdeal.τ).loc Cert.OutKIdeal.main_arg1)
      ∧ m' ((c.tc : Thread Cert.OutRIdeal.nD Cert.OutRIdeal.τ).loc Cert.OutRIdeal.main_arg2) = m ((c.tc : Thread Cert.OutKIdeal.nD Cert.OutKIdeal.τ).loc Cert.OutKIdeal.main_arg2)
      ∧ m' ((c.tc : Thread Cert.OutRIdeal.nD Cert.OutRIdeal.τ).loc Cert.OutRIdeal.main_arg3) = m ((c.tc : Thread Cert.OutKIdeal.nD Cert.OutKIdeal.τ).loc Cert.OutKIdeal.main_arg3)
      ∧ m' ((c.tc : Thread Cert.OutRIdeal.nD Cert.OutRIdeal.τ).loc Cert.OutRIdeal.main_arg4) = m ((c.tc : Thread Cert.OutKIdeal.nD Cert.OutKIdeal.τ).loc Cert.OutKIdeal.main_arg4)) →
    ∃ (v0 : (c : Dev Cert.OutKIdeal.nD) → Buf (Elt Ideal) ((c.tc : Thread Cert.OutKIdeal.nD Cert.OutKIdeal.τ).loc Cert.OutKIdeal.main_v2_0)) (v1 : (c : Dev Cert.OutKIdeal.nD) → Buf (Elt Ideal) ((c.tc : Thread Cert.OutKIdeal.nD Cert.OutKIdeal.τ).loc Cert.OutKIdeal.main_v2_1)) (v2 : (c : Dev Cert.OutKIdeal.nD) → Buf (Elt Ideal) ((c.tc : Thread Cert.OutKIdeal.nD Cert.OutKIdeal.τ).loc Cert.OutKIdeal.main_v2_2)),
      θ_run (Cert.OutKIdeal.defs (F := Ideal)) (onTc (τ := Cert.OutKIdeal.τ) (Cert.OutKIdeal.main (F := Ideal))) ⟨m, fun _ => 0, g⟩ (fun r => ∀ c : Dev Cert.OutKIdeal.nD,
          r.2.mem ((c.tc : Thread Cert.OutKIdeal.nD Cert.OutKIdeal.τ).loc Cert.OutKIdeal.main_v2_0) = v0 c
          ∧ r.2.mem ((c.tc : Thread Cert.OutKIdeal.nD Cert.OutKIdeal.τ).loc Cert.OutKIdeal.main_v2_1) = v1 c
          ∧ r.2.mem ((c.tc : Thread Cert.OutKIdeal.nD Cert.OutKIdeal.τ).loc Cert.OutKIdeal.main_v2_2) = v2 c
          ∧ r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
          ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1)
          ∧ r.2.mem ((c.tc : Thread Cert.OutKIdeal.nD Cert.OutKIdeal.τ).loc Cert.OutKIdeal.main_arg2) = m ((c.tc : Thread Cert.OutKIdeal.nD Cert.OutKIdeal.τ).loc Cert.OutKIdeal.main_arg2)
          ∧ r.2.mem ((c.tc : Thread Cert.OutKIdeal.nD Cert.OutKIdeal.τ).loc Cert.OutKIdeal.main_arg3) = m ((c.tc : Thread Cert.OutKIdeal.nD Cert.OutKIdeal.τ).loc Cert.OutKIdeal.main_arg3)
          ∧ r.2.mem ((c.tc : Thread Cert.OutKIdeal.nD Cert.OutKIdeal.τ).loc Cert.OutKIdeal.main_arg4) = m ((c.tc : Thread Cert.OutKIdeal.nD Cert.OutKIdeal.τ).loc Cert.OutKIdeal.main_arg4))
      ∧ θ_run (Cert.OutRIdeal.defs (F := Ideal)) (onTc (τ := Cert.OutRIdeal.τ) (Cert.OutRIdeal.main (F := Ideal))) ⟨m', fun _ => 0, g'⟩ (fun r => ∀ c : Dev Cert.OutRIdeal.nD,
          r.2.mem ((c.tc : Thread Cert.OutRIdeal.nD Cert.OutRIdeal.τ).loc Cert.OutRIdeal.main_v3) = v0 c
          ∧ r.2.mem ((c.tc : Thread Cert.OutRIdeal.nD Cert.OutRIdeal.τ).loc Cert.OutRIdeal.main_v25) = v1 c
          ∧ r.2.mem ((c.tc : Thread Cert.OutRIdeal.nD Cert.OutRIdeal.τ).loc Cert.OutRIdeal.main_v26) = v2 c
          ∧ r.2.mem ((c.tc : Thread Cert.OutRIdeal.nD Cert.OutRIdeal.τ).loc Cert.OutRIdeal.main_arg0) = m' ((c.tc : Thread Cert.OutRIdeal.nD Cert.OutRIdeal.τ).loc Cert.OutRIdeal.main_arg0)
          ∧ r.2.mem ((c.tc : Thread Cert.OutRIdeal.nD Cert.OutRIdeal.τ).loc Cert.OutRIdeal.main_arg1) = m' ((c.tc : Thread Cert.OutRIdeal.nD Cert.OutRIdeal.τ).loc Cert.OutRIdeal.main_arg1)
          ∧ r.2.mem ((c.tc : Thread Cert.OutRIdeal.nD Cert.OutRIdeal.τ).loc Cert.OutRIdeal.main_arg2) = m' ((c.tc : Thread Cert.OutRIdeal.nD Cert.OutRIdeal.τ).loc Cert.OutRIdeal.main_arg2)
          ∧ r.2.mem ((c.tc : Thread Cert.OutRIdeal.nD Cert.OutRIdeal.τ).loc Cert.OutRIdeal.main_arg3) = m' ((c.tc : Thread Cert.OutRIdeal.nD Cert.OutRIdeal.τ).loc Cert.OutRIdeal.main_arg3)
          ∧ r.2.mem ((c.tc : Thread Cert.OutRIdeal.nD Cert.OutRIdeal.τ).loc Cert.OutRIdeal.main_arg4) = m' ((c.tc : Thread Cert.OutRIdeal.nD Cert.OutRIdeal.τ).loc Cert.OutRIdeal.main_arg4))

def preserves_InK_InKIdeal : Prop :=
  True

def algebraic_InKIdeal_InRIdeal [hInKIdeal : Cert.InKIdeal.Facts] [hInRIdeal : Cert.InRIdeal.Facts] : Prop :=
  ∀ (m : (ℓ : Loc Cert.InKIdeal.nD Cert.InKIdeal.τ Cert.InKIdeal.sig) → Buf (Elt Ideal) ℓ) (g : Dev Cert.InKIdeal.nD → PrngReg)
    (m' : (ℓ : Loc Cert.InRIdeal.nD Cert.InRIdeal.τ Cert.InRIdeal.sig) → Buf (Elt Ideal) ℓ) (g' : Dev Cert.InRIdeal.nD → PrngReg), Pre_InKIdeal m →
    (∀ c : Dev Cert.InKIdeal.nD,
      m' ((c.tc : Thread Cert.InRIdeal.nD Cert.InRIdeal.τ).loc Cert.InRIdeal.main_arg0) = m ((c.tc : Thread Cert.InKIdeal.nD Cert.InKIdeal.τ).loc Cert.InKIdeal.main_arg0)
      ∧ m' ((c.tc : Thread Cert.InRIdeal.nD Cert.InRIdeal.τ).loc Cert.InRIdeal.main_arg1) = m ((c.tc : Thread Cert.InKIdeal.nD Cert.InKIdeal.τ).loc Cert.InKIdeal.main_arg1)
      ∧ m' ((c.tc : Thread Cert.InRIdeal.nD Cert.InRIdeal.τ).loc Cert.InRIdeal.main_arg2) = m ((c.tc : Thread Cert.InKIdeal.nD Cert.InKIdeal.τ).loc Cert.InKIdeal.main_arg2)
      ∧ m' ((c.tc : Thread Cert.InRIdeal.nD Cert.InRIdeal.τ).loc Cert.InRIdeal.main_arg3) = m ((c.tc : Thread Cert.InKIdeal.nD Cert.InKIdeal.τ).loc Cert.InKIdeal.main_arg3)) →
    ∃ (v0 : (c : Dev Cert.InKIdeal.nD) → Buf (Elt Ideal) ((c.tc : Thread Cert.InKIdeal.nD Cert.InKIdeal.τ).loc Cert.InKIdeal.main_v1_0)) (v1 : (c : Dev Cert.InKIdeal.nD) → Buf (Elt Ideal) ((c.tc : Thread Cert.InKIdeal.nD Cert.InKIdeal.τ).loc Cert.InKIdeal.main_v1_1)) (v2 : (c : Dev Cert.InKIdeal.nD) → Buf (Elt Ideal) ((c.tc : Thread Cert.InKIdeal.nD Cert.InKIdeal.τ).loc Cert.InKIdeal.main_v1_2)) (v3 : (c : Dev Cert.InKIdeal.nD) → Buf (Elt Ideal) ((c.tc : Thread Cert.InKIdeal.nD Cert.InKIdeal.τ).loc Cert.InKIdeal.main_v2)),
      θ_run (Cert.InKIdeal.defs (F := Ideal)) (onTc (τ := Cert.InKIdeal.τ) (Cert.InKIdeal.main (F := Ideal))) ⟨m, fun _ => 0, g⟩ (fun r => ∀ c : Dev Cert.InKIdeal.nD,
          r.2.mem ((c.tc : Thread Cert.InKIdeal.nD Cert.InKIdeal.τ).loc Cert.InKIdeal.main_v1_0) = v0 c
          ∧ r.2.mem ((c.tc : Thread Cert.InKIdeal.nD Cert.InKIdeal.τ).loc Cert.InKIdeal.main_v1_1) = v1 c
          ∧ r.2.mem ((c.tc : Thread Cert.InKIdeal.nD Cert.InKIdeal.τ).loc Cert.InKIdeal.main_v1_2) = v2 c
          ∧ r.2.mem ((c.tc : Thread Cert.InKIdeal.nD Cert.InKIdeal.τ).loc Cert.InKIdeal.main_v2) = v3 c
          ∧ r.2.mem ((c.tc : Thread Cert.InKIdeal.nD Cert.InKIdeal.τ).loc Cert.InKIdeal.main_arg0) = m ((c.tc : Thread Cert.InKIdeal.nD Cert.InKIdeal.τ).loc Cert.InKIdeal.main_arg0)
          ∧ r.2.mem ((c.tc : Thread Cert.InKIdeal.nD Cert.InKIdeal.τ).loc Cert.InKIdeal.main_arg1) = m ((c.tc : Thread Cert.InKIdeal.nD Cert.InKIdeal.τ).loc Cert.InKIdeal.main_arg1)
          ∧ r.2.mem ((c.tc : Thread Cert.InKIdeal.nD Cert.InKIdeal.τ).loc Cert.InKIdeal.main_arg2) = m ((c.tc : Thread Cert.InKIdeal.nD Cert.InKIdeal.τ).loc Cert.InKIdeal.main_arg2)
          ∧ r.2.mem ((c.tc : Thread Cert.InKIdeal.nD Cert.InKIdeal.τ).loc Cert.InKIdeal.main_arg3) = m ((c.tc : Thread Cert.InKIdeal.nD Cert.InKIdeal.τ).loc Cert.InKIdeal.main_arg3))
      ∧ θ_run (Cert.InRIdeal.defs (F := Ideal)) (onTc (τ := Cert.InRIdeal.τ) (Cert.InRIdeal.main (F := Ideal))) ⟨m', fun _ => 0, g'⟩ (fun r => ∀ c : Dev Cert.InRIdeal.nD,
          r.2.mem ((c.tc : Thread Cert.InRIdeal.nD Cert.InRIdeal.τ).loc Cert.InRIdeal.main_v47) = v0 c
          ∧ r.2.mem ((c.tc : Thread Cert.InRIdeal.nD Cert.InRIdeal.τ).loc Cert.InRIdeal.main_v49) = v1 c
          ∧ r.2.mem ((c.tc : Thread Cert.InRIdeal.nD Cert.InRIdeal.τ).loc Cert.InRIdeal.main_v50) = v2 c
          ∧ r.2.mem ((c.tc : Thread Cert.InRIdeal.nD Cert.InRIdeal.τ).loc Cert.InRIdeal.main_v51) = v3 c
          ∧ r.2.mem ((c.tc : Thread Cert.InRIdeal.nD Cert.InRIdeal.τ).loc Cert.InRIdeal.main_arg0) = m' ((c.tc : Thread Cert.InRIdeal.nD Cert.InRIdeal.τ).loc Cert.InRIdeal.main_arg0)
          ∧ r.2.mem ((c.tc : Thread Cert.InRIdeal.nD Cert.InRIdeal.τ).loc Cert.InRIdeal.main_arg1) = m' ((c.tc : Thread Cert.InRIdeal.nD Cert.InRIdeal.τ).loc Cert.InRIdeal.main_arg1)
          ∧ r.2.mem ((c.tc : Thread Cert.InRIdeal.nD Cert.InRIdeal.τ).loc Cert.InRIdeal.main_arg2) = m' ((c.tc : Thread Cert.InRIdeal.nD Cert.InRIdeal.τ).loc Cert.InRIdeal.main_arg2)
          ∧ r.2.mem ((c.tc : Thread Cert.InRIdeal.nD Cert.InRIdeal.τ).loc Cert.InRIdeal.main_arg3) = m' ((c.tc : Thread Cert.InRIdeal.nD Cert.InRIdeal.τ).loc Cert.InRIdeal.main_arg3))

def Claim : Prop :=
  ∃ (hAttnK : Cert.AttnK.Facts) (hAttnKIdeal : Cert.AttnKIdeal.Facts) (hAttnRIdeal : Cert.AttnRIdeal.Facts) (hDhidK : Cert.DhidK.Facts) (hDhidKIdeal : Cert.DhidKIdeal.Facts) (hDhidRIdeal : Cert.DhidRIdeal.Facts) (hLn2K : Cert.Ln2K.Facts) (hLn2KIdeal : Cert.Ln2KIdeal.Facts) (hLn2RIdeal : Cert.Ln2RIdeal.Facts) (hDx1K : Cert.Dx1K.Facts) (hDx1KIdeal : Cert.Dx1KIdeal.Facts) (hDx1RIdeal : Cert.Dx1RIdeal.Facts) (hPobK : Cert.PobK.Facts) (hPobKIdeal : Cert.PobKIdeal.Facts) (hPobRIdeal : Cert.PobRIdeal.Facts) (hFwdK : Cert.FwdK.Facts) (hFwdKIdeal : Cert.FwdKIdeal.Facts) (hFwdRIdeal : Cert.FwdRIdeal.Facts) (hUpK : Cert.UpK.Facts) (hUpKIdeal : Cert.UpKIdeal.Facts) (hUpRIdeal : Cert.UpRIdeal.Facts) (hOutK : Cert.OutK.Facts) (hOutKIdeal : Cert.OutKIdeal.Facts) (hOutRIdeal : Cert.OutRIdeal.Facts) (hInK : Cert.InK.Facts) (hInKIdeal : Cert.InKIdeal.Facts) (hInRIdeal : Cert.InRIdeal.Facts) (hPre_attn_finite : Cert.Pre_attn_finite.Facts) (hPre_ln2_finite : Cert.Pre_ln2_finite.Facts) (hPre_dx1_finite : Cert.Pre_dx1_finite.Facts) (hPre_pob_finite : Cert.Pre_pob_finite.Facts) (hPre_fwd_finite : Cert.Pre_fwd_finite.Facts),
    quiescent_AttnK (hAttnK := hAttnK)
    ∧ quiescent_AttnKIdeal (hAttnKIdeal := hAttnKIdeal)
    ∧ quiescent_AttnKIdeal_pre_attn_finite (hAttnKIdeal := hAttnKIdeal) (hPre_attn_finite := hPre_attn_finite)
    ∧ quiescent_AttnRIdeal (hAttnRIdeal := hAttnRIdeal)
    ∧ quiescent_AttnRIdeal_pre_attn_finite (hAttnRIdeal := hAttnRIdeal) (hPre_attn_finite := hPre_attn_finite)
    ∧ quiescent_DhidK (hDhidK := hDhidK)
    ∧ quiescent_DhidKIdeal (hDhidKIdeal := hDhidKIdeal)
    ∧ quiescent_DhidRIdeal (hDhidRIdeal := hDhidRIdeal)
    ∧ quiescent_Ln2K (hLn2K := hLn2K)
    ∧ quiescent_Ln2KIdeal (hLn2KIdeal := hLn2KIdeal)
    ∧ quiescent_Ln2KIdeal_pre_ln2_finite (hLn2KIdeal := hLn2KIdeal) (hPre_ln2_finite := hPre_ln2_finite)
    ∧ quiescent_Ln2RIdeal (hLn2RIdeal := hLn2RIdeal)
    ∧ quiescent_Ln2RIdeal_pre_ln2_finite (hLn2RIdeal := hLn2RIdeal) (hPre_ln2_finite := hPre_ln2_finite)
    ∧ quiescent_Dx1K (hDx1K := hDx1K)
    ∧ quiescent_Dx1KIdeal (hDx1KIdeal := hDx1KIdeal)
    ∧ quiescent_Dx1KIdeal_pre_dx1_finite (hDx1KIdeal := hDx1KIdeal) (hPre_dx1_finite := hPre_dx1_finite)
    ∧ quiescent_Dx1RIdeal (hDx1RIdeal := hDx1RIdeal)
    ∧ quiescent_Dx1RIdeal_pre_dx1_finite (hDx1RIdeal := hDx1RIdeal) (hPre_dx1_finite := hPre_dx1_finite)
    ∧ quiescent_PobK (hPobK := hPobK)
    ∧ quiescent_PobKIdeal (hPobKIdeal := hPobKIdeal)
    ∧ quiescent_PobKIdeal_pre_pob_finite (hPobKIdeal := hPobKIdeal) (hPre_pob_finite := hPre_pob_finite)
    ∧ quiescent_PobRIdeal (hPobRIdeal := hPobRIdeal)
    ∧ quiescent_PobRIdeal_pre_pob_finite (hPobRIdeal := hPobRIdeal) (hPre_pob_finite := hPre_pob_finite)
    ∧ quiescent_FwdK (hFwdK := hFwdK)
    ∧ quiescent_FwdKIdeal (hFwdKIdeal := hFwdKIdeal)
    ∧ quiescent_FwdKIdeal_pre_fwd_finite (hFwdKIdeal := hFwdKIdeal) (hPre_fwd_finite := hPre_fwd_finite)
    ∧ quiescent_FwdRIdeal (hFwdRIdeal := hFwdRIdeal)
    ∧ quiescent_FwdRIdeal_pre_fwd_finite (hFwdRIdeal := hFwdRIdeal) (hPre_fwd_finite := hPre_fwd_finite)
    ∧ quiescent_UpK (hUpK := hUpK)
    ∧ quiescent_UpKIdeal (hUpKIdeal := hUpKIdeal)
    ∧ quiescent_UpRIdeal (hUpRIdeal := hUpRIdeal)
    ∧ quiescent_OutK (hOutK := hOutK)
    ∧ quiescent_OutKIdeal (hOutKIdeal := hOutKIdeal)
    ∧ quiescent_OutRIdeal (hOutRIdeal := hOutRIdeal)
    ∧ quiescent_InK (hInK := hInK)
    ∧ quiescent_InKIdeal (hInKIdeal := hInKIdeal)
    ∧ quiescent_InRIdeal (hInRIdeal := hInRIdeal)
    ∧ preserves_AttnK_AttnKIdeal
    ∧ algebraic_AttnKIdeal_AttnRIdeal_pre_attn_finite (hAttnKIdeal := hAttnKIdeal) (hAttnRIdeal := hAttnRIdeal) (hPre_attn_finite := hPre_attn_finite)
    ∧ preserves_DhidK_DhidKIdeal
    ∧ algebraic_DhidKIdeal_DhidRIdeal (hDhidKIdeal := hDhidKIdeal) (hDhidRIdeal := hDhidRIdeal)
    ∧ preserves_Ln2K_Ln2KIdeal
    ∧ algebraic_Ln2KIdeal_Ln2RIdeal_pre_ln2_finite (hLn2KIdeal := hLn2KIdeal) (hLn2RIdeal := hLn2RIdeal) (hPre_ln2_finite := hPre_ln2_finite)
    ∧ preserves_Dx1K_Dx1KIdeal
    ∧ algebraic_Dx1KIdeal_Dx1RIdeal_pre_dx1_finite (hDx1KIdeal := hDx1KIdeal) (hDx1RIdeal := hDx1RIdeal) (hPre_dx1_finite := hPre_dx1_finite)
    ∧ preserves_PobK_PobKIdeal
    ∧ algebraic_PobKIdeal_PobRIdeal_pre_pob_finite (hPobKIdeal := hPobKIdeal) (hPobRIdeal := hPobRIdeal) (hPre_pob_finite := hPre_pob_finite)
    ∧ preserves_FwdK_FwdKIdeal
    ∧ algebraic_FwdKIdeal_FwdRIdeal_pre_fwd_finite (hFwdKIdeal := hFwdKIdeal) (hFwdRIdeal := hFwdRIdeal) (hPre_fwd_finite := hPre_fwd_finite)
    ∧ preserves_UpK_UpKIdeal
    ∧ algebraic_UpKIdeal_UpRIdeal (hUpKIdeal := hUpKIdeal) (hUpRIdeal := hUpRIdeal)
    ∧ preserves_OutK_OutKIdeal
    ∧ algebraic_OutKIdeal_OutRIdeal (hOutKIdeal := hOutKIdeal) (hOutRIdeal := hOutRIdeal)
    ∧ preserves_InK_InKIdeal
    ∧ algebraic_InKIdeal_InRIdeal (hInKIdeal := hInKIdeal) (hInRIdeal := hInRIdeal)
-- ==== Pre_attn_finite.lean ====
abbrev S4096x1536 : Shape := ⟨2, ![4096, 1536]⟩
abbrev S1x512 : Shape := ⟨2, ![1, 512]⟩
abbrev S4096x512 : Shape := ⟨2, ![4096, 512]⟩
abbrev S_ : Shape := ⟨0, ![]⟩

class Facts : Prop where
  bcast_S_S4096x1536 : S_.BroadcastsInDim S4096x1536 (![] : Fin 0 → Fin S4096x1536.rank)
  bcast_S_S1x512 : S_.BroadcastsInDim S1x512 (![] : Fin 0 → Fin S1x512.rank)
  bcast_S_S4096x512 : S_.BroadcastsInDim S4096x512 (![] : Fin 0 → Fin S4096x512.rank)

variable [Facts]

def fn {F : FTy → Type} [FloatOps F] (main_arg0 : FVec F S4096x1536 .f32) (main_arg1 : FVec F S1x512 .f32) (main_arg2 : FVec F S4096x512 .f32) : IVec S4096x1536 1 × IVec S1x512 1 × IVec S4096x512 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S1x512 .f32 := Host.absf main_arg1
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  (main_v2, main_v5, main_v8)
-- ==== Pre_dx1_finite.lean ====
abbrev S4096x4096 : Shape := ⟨2, ![4096, 4096]⟩
abbrev S8x1024x512 : Shape := ⟨3, ![8, 1024, 512]⟩
abbrev S4096x1024 : Shape := ⟨2, ![4096, 1024]⟩
abbrev S1x1024 : Shape := ⟨2, ![1, 1024]⟩
abbrev S_ : Shape := ⟨0, ![]⟩

class Facts : Prop where
  bcast_S_S4096x4096 : S_.BroadcastsInDim S4096x4096 (![] : Fin 0 → Fin S4096x4096.rank)
  bcast_S_S8x1024x512 : S_.BroadcastsInDim S8x1024x512 (![] : Fin 0 → Fin S8x1024x512.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x4096 .f32) (main_arg1 : FVec F S8x1024x512 .f32) (main_arg2 : FVec F S4096x1024 .f32) (main_arg3 : FVec F S4096x1024 .f32) (main_arg4 : FVec F S1x1024 .f32) (main_arg5 : FVec F S1x1024 .f32) : IVec S4096x4096 1 × IVec S8x1024x512 1 × IVec S4096x1024 1 × IVec S4096x1024 1 × IVec S1x1024 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S8x1024x512 .f32 := Host.absf main_arg1
  let main_cst_0 : FVec F S_ .f32 := constant S_ .f32 0x7F800000#32
  let main_v4 : FVec F S8x1024x512 .f32 := broadcastInDim S8x1024x512 ![] bcast_S_S8x1024x512 main_cst_0
  let main_v5 : IVec S8x1024x512 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_fwd_finite.lean ====
abbrev S4096x1536 : Shape := ⟨2, ![4096, 1536]⟩
abbrev S1x512 : Shape := ⟨2, ![1, 512]⟩
abbrev S4096x1024 : Shape := ⟨2, ![4096, 1024]⟩
abbrev S_ : Shape := ⟨0, ![]⟩

class Facts : Prop where
  bcast_S_S4096x1536 : S_.BroadcastsInDim S4096x1536 (![] : Fin 0 → Fin S4096x1536.rank)
  bcast_S_S1x512 : S_.BroadcastsInDim S1x512 (![] : Fin 0 → Fin S1x512.rank)

variable [Facts]

def fn {F : FTy → Type} [FloatOps F] (main_arg0 : FVec F S4096x1536 .f32) (main_arg1 : FVec F S1x512 .f32) (main_arg2 : FVec F S4096x1024 .f32) : IVec S4096x1536 1 × IVec S1x512 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S1x512 .f32 := Host.absf main_arg1
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  (main_v2, main_v5)
-- ==== Pre_ln2_finite.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩

class Facts : Prop where
  bcast_S_S4096x4096 : S_.BroadcastsInDim S4096x4096 (![] : Fin 0 → Fin S4096x4096.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x4096 .f32) (main_arg1 : FVec F S4096x1024 .f32) (main_arg2 : FVec F S4096x1024 .f32) (main_arg3 : FVec F S4096x1024 .f32) (main_arg4 : FVec F S1x1024 .f32) (main_arg5 : FVec F S1x1024 .f32) : IVec S4096x4096 1 × IVec S4096x1024 1 × IVec S4096x1024 1 × IVec S4096x1024 1 × IVec S1x1024 1 × IVec S1x1024 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_pob_finite.lean ====
abbrev S4096x1536 : Shape := ⟨2, ![4096, 1536]⟩
abbrev S4096x512 : Shape := ⟨2, ![4096, 512]⟩
abbrev S3x512 : Shape := ⟨2, ![3, 512]⟩
abbrev S1x512 : Shape := ⟨2, ![1, 512]⟩
abbrev S1024x1024 : Shape := ⟨2, ![1024, 1024]⟩
abbrev S4096x1024 : Shape := ⟨2, ![4096, 1024]⟩
abbrev S_ : Shape := ⟨0, ![]⟩

class Facts : Prop where
  bcast_S_S4096x1536 : S_.BroadcastsInDim S4096x1536 (![] : Fin 0 → Fin S4096x1536.rank)
  bcast_S_S3x512 : S_.BroadcastsInDim S3x512 (![] : Fin 0 → Fin S3x512.rank)
  bcast_S_S1x512 : S_.BroadcastsInDim S1x512 (![] : Fin 0 → Fin S1x512.rank)
  bcast_S_S1024x1024 : S_.BroadcastsInDim S1024x1024 (![] : Fin 0 → Fin S1024x1024.rank)
  bcast_S_S4096x1024 : S_.BroadcastsInDim S4096x1024 (![] : Fin 0 → Fin S4096x1024.rank)

variable [Facts]

def fn {F : FTy → Type} [FloatOps F] (main_arg0 : FVec F S4096x1536 .f32) (main_arg1 : FVec F S4096x512 .f32) (main_arg2 : FVec F S3x512 .f32) (main_arg3 : FVec F S1x512 .f32) (main_arg4 : FVec F S1024x1024 .f32) (main_arg5 : FVec F S4096x1024 .f32) : IVec S4096x1536 1 × IVec S3x512 1 × IVec S1x512 1 × IVec S1024x1024 1 × IVec S4096x1024 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S3x512 .f32 := Host.absf main_arg2
  let main_cst_0 : FVec F S_ .f32 := constant S_ .f32 0x7F800000#32
  let main_v4 : FVec F S3x512 .f32 := broadcastInDim S3x512 ![] bcast_S_S3x512 main_cst_0
  let main_v5 : IVec S3x512 1 := cmpf .olt main_v3 main_v4
  let main_v6 : FVec F S1x512 .f32 := Host.absf main_arg3
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S4096x1024 .f32 := Host.absf main_arg5
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== AttnK.lean ====
abbrev S4096x1536 : Shape := ⟨2, ![4096, 1536]⟩
abbrev S1x512 : Shape := ⟨2, ![1, 512]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S256x256 : Shape := ⟨2, ![256, 256]⟩
abbrev S8x512 : Shape := ⟨2, ![8, 512]⟩
abbrev S512x128 : Shape := ⟨2, ![512, 128]⟩
abbrev S4096x128 : Shape := ⟨2, ![4096, 128]⟩
abbrev S1x128 : Shape := ⟨2, ![1, 128]⟩
abbrev S8x128 : Shape := ⟨2, ![8, 128]⟩
abbrev S384x128 : Shape := ⟨2, ![384, 128]⟩
abbrev S512 : Shape := ⟨1, ![512]⟩
abbrev S512x1 : Shape := ⟨2, ![512, 1]⟩
abbrev S64x8x128 : Shape := ⟨3, ![64, 8, 128]⟩
abbrev S128 : Shape := ⟨1, ![128]⟩
abbrev S128x128 : Shape := ⟨2, ![128, 128]⟩
abbrev S128x1 : Shape := ⟨2, ![128, 1]⟩
abbrev S256x128 : Shape := ⟨2, ![256, 128]⟩
abbrev S128x384 : Shape := ⟨2, ![128, 384]⟩
abbrev S128x256 : Shape := ⟨2, ![128, 256]⟩
abbrev S128x768 : Shape := ⟨2, ![128, 768]⟩
abbrev S768x128 : Shape := ⟨2, ![768, 128]⟩
abbrev S256x384 : Shape := ⟨2, ![256, 384]⟩
abbrev S1x128x128 : Shape := ⟨3, ![1, 128, 128]⟩
abbrev S1 : Shape := ⟨1, ![1]⟩
abbrev S1x1x1 : Shape := ⟨3, ![1, 1, 1]⟩

abbrev nBuf : Space → Nat
  | .hbm => 140
  | .vmem => 24
  | .smem => 0
  | _ => 0

abbrev hbmTy0_0 (i : Nat) : BufTy := match i % 128 with
  | 0 => ⟨S4096x1536, .f32⟩
  | 1 => ⟨S1x512, .f32⟩
  | 2 => ⟨S4096x512, .f32⟩
  | 3 => ⟨S4096x512, .f32⟩
  | 4 => ⟨S4096x512, .f32⟩
  | 5 => ⟨S4096x512, .f32⟩
  | 6 => ⟨S4096x8x64, .f32⟩
  | 7 => ⟨S8x4096x64, .f32⟩
  | 8 => ⟨S4096x8x64, .f32⟩
  | 9 => ⟨S8x4096x64, .f32⟩
  | 10 => ⟨S4096x8x64, .f32⟩
  | 11 => ⟨S8x4096x64, .f32⟩
  | 12 => ⟨S8x4096x4096, .f32⟩
  | 13 => ⟨S_, .f32⟩
  | 14 => ⟨S8x4096x4096, .f32⟩
  | 15 => ⟨S8x4096x4096, .f32⟩
  | 16 => ⟨S4096, .i32⟩
  | 17 => ⟨S4096x1, .i32⟩
  | 18 => ⟨S4096, .i32⟩
  | 19 => ⟨S1x4096, .i32⟩
  | 20 => ⟨S4096x4096, .i32⟩
  | 21 => ⟨S4096x4096, .i32⟩
  | 22 => ⟨S4096x4096, .i1⟩
  | 23 => ⟨S8x4096x4096, .f32⟩
  | 24 => ⟨S8x4096x4096, .f32⟩
  | 25 => ⟨S_, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .i1⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x4096, .f32⟩
  | 40 => ⟨S_, .f32⟩
  | 41 => ⟨S_, .f32⟩
  | 42 => ⟨S8x4096x4096, .i1⟩
  | 43 => ⟨S8x4096x4096, .f32⟩
  | 44 => ⟨S8x4096x4096, .f32⟩
  | 45 => ⟨S_, .f32⟩
  | 46 => ⟨S_, .f32⟩
  | 47 => ⟨S8x4096x4096, .f32⟩
  | 48 => ⟨S8x4096x4096, .f32⟩
  | 49 => ⟨S8x4096x4096, .f32⟩
  | 50 => ⟨S_, .f32⟩
  | 51 => ⟨S8x4096x4096, .f32⟩
  | 52 => ⟨S8x4096x4096, .f32⟩
  | 53 => ⟨S8x4096x4096, .f32⟩
  | 54 => ⟨S8x4096x4096, .f32⟩
  | 55 => ⟨S8x4096x4096, .i1⟩
  | 56 => ⟨S8x4096x4096, .f32⟩
  | 57 => ⟨S8x4096x4096, .f32⟩
  | 58 => ⟨S8x4096x4096, .f32⟩
  | 59 => ⟨S8x4096x4096, .f32⟩
  | 60 => ⟨S8x4096x4096, .f32⟩
  | 61 => ⟨S8x4096x4096, .f32⟩
  | 62 => ⟨S8x4096x4096, .f32⟩
  | 63 => ⟨S8x4096x4096, .f32⟩
  | 64 => ⟨S8x4096x4096, .f32⟩
  | 65 => ⟨S8x4096x4096, .f32⟩
  | 66 => ⟨S8x4096x4096, .f32⟩
  | 67 => ⟨S_, .f32⟩
  | 68 => ⟨S_, .f32⟩
  | 69 => ⟨S8x4096x4096, .i1⟩
  | 70 => ⟨S8x4096x4096, .f32⟩
  | 71 => ⟨S8x4096x4096, .f32⟩
  | 72 => ⟨S8x4096x64, .f32⟩
  | 73 => ⟨S4096x8x64, .f32⟩
  | 74 => ⟨S4096x512, .f32⟩
  | 75 => ⟨S4096x1536, .bf16⟩
  | 76 => ⟨S256x256, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S256x256, .i32⟩
  | 84 => ⟨S256x256, .i32⟩
  | 85 => ⟨S_, .i32⟩
  | 86 => ⟨S256x256, .i32⟩
  | 87 => ⟨S256x256, .i1⟩
  | 88 => ⟨S_, .i32⟩
  | 89 => ⟨S256x256, .i32⟩
  | 90 => ⟨S256x256, .i1⟩
  | 91 => ⟨S_, .i32⟩
  | 92 => ⟨S_, .i1⟩
  | 93 => ⟨S256x256, .i1⟩
  | 94 => ⟨S256x256, .i1⟩
  | 95 => ⟨S256x256, .i1⟩
  | 96 => ⟨S256x256, .i32⟩
  | 97 => ⟨S256x256, .i32⟩
  | 98 => ⟨S256x256, .i32⟩
  | 99 => ⟨S256x256, .i32⟩
  | 100 => ⟨S_, .i32⟩
  | 101 => ⟨S256x256, .i32⟩
  | 102 => ⟨S256x256, .i1⟩
  | 103 => ⟨S256x256, .i1⟩
  | 104 => ⟨S256x256, .i1⟩
  | 105 => ⟨S256x256, .bf16⟩
  | 106 => ⟨S256x256, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S256x256, .i32⟩
  | 114 => ⟨S256x256, .i32⟩
  | 115 => ⟨S_, .i32⟩
  | 116 => ⟨S256x256, .i32⟩
  | 117 => ⟨S256x256, .i1⟩
  | 118 => ⟨S_, .i32⟩
  | 119 => ⟨S256x256, .i32⟩
  | 120 => ⟨S256x256, .i1⟩
  | 121 => ⟨S_, .i32⟩
  | 122 => ⟨S_, .i1⟩
  | 123 => ⟨S256x256, .i1⟩
  | 124 => ⟨S256x256, .i1⟩
  | 125 => ⟨S256x256, .i1⟩
  | 126 => ⟨S256x256, .i32⟩
  | 127 => ⟨S256x256, .i32⟩
  | _ => ⟨S4096x1536, .f32⟩

abbrev hbmTy0_1 (i : Nat) : BufTy := match i % 128 with
  | 0 => ⟨S256x256, .i32⟩
  | 1 => ⟨S256x256, .i32⟩
  | 2 => ⟨S_, .i32⟩
  | 3 => ⟨S256x256, .i32⟩
  | 4 => ⟨S256x256, .i1⟩
  | 5 => ⟨S256x256, .i1⟩
  | 6 => ⟨S256x256, .i1⟩
  | 7 => ⟨S256x256, .bf16⟩
  | 8 => ⟨S4096x512, .bf16⟩
  | 9 => ⟨S4096x512, .bf16⟩
  | 10 => ⟨S4096x512, .bf16⟩
  | 11 => ⟨S8x512, .f32⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x128, .f32⟩
  | .local _ .vmem, ⟨11, _⟩ => ⟨S1x128, .f32⟩
  | .local _ .vmem, ⟨12, _⟩ => ⟨S256x256, .bf16⟩
  | .local _ .vmem, ⟨13, _⟩ => ⟨S256x256, .bf16⟩
  | .local _ .vmem, ⟨14, _⟩ => ⟨S512x128, .bf16⟩
  | .local _ .vmem, ⟨15, _⟩ => ⟨S512x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | .local _ .vmem, ⟨20, _⟩ => ⟨S8x128, .f32⟩
  | .local _ .vmem, ⟨21, _⟩ => ⟨S8x128, .f32⟩
  | .local _ .vmem, ⟨22, _⟩ => ⟨S4096x128, .f32⟩
  | .local _ .vmem, ⟨23, _⟩ => ⟨S4096x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v20 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v21 : Ref sig .tc := ⟨.hbm, 44, rfl⟩
abbrev main_call2_cst : Ref sig .tc := ⟨.hbm, 45, rfl⟩
abbrev main_call2_v0 : Ref sig .tc := ⟨.hbm, 46, rfl⟩
abbrev main_v22 : Ref sig .tc := ⟨.hbm, 47, rfl⟩
abbrev main_v23 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_c : Ref sig .tc := ⟨.hbm, 77, rfl⟩
abbrev main_call5_v0 : Ref sig .tc := ⟨.hbm, 78, rfl⟩
abbrev main_call5_c : Ref sig .tc := ⟨.hbm, 79, rfl⟩
abbrev main_call5_v1 : Ref sig .tc := ⟨.hbm, 80, rfl⟩
abbrev main_call5_c_0 : Ref sig .tc := ⟨.hbm, 81, rfl⟩
abbrev main_call5_v2 : Ref sig .tc := ⟨.hbm, 82, rfl⟩
abbrev main_call5_v3 : Ref sig .tc := ⟨.hbm, 83, rfl⟩
abbrev main_call5_v4 : Ref sig .tc := ⟨.hbm, 84, rfl⟩
abbrev main_call5_c_1 : Ref sig .tc := ⟨.hbm, 85, rfl⟩
abbrev main_call5_v5 : Ref sig .tc := ⟨.hbm, 86, rfl⟩
abbrev main_call5_v6 : Ref sig .tc := ⟨.hbm, 87, rfl⟩
abbrev main_call5_c_2 : Ref sig .tc := ⟨.hbm, 88, rfl⟩
abbrev main_call5_v7 : Ref sig .tc := ⟨.hbm, 89, rfl⟩
abbrev main_call5_v8 : Ref sig .tc := ⟨.hbm, 90, rfl⟩
abbrev main_call5_c_3 : Ref sig .tc := ⟨.hbm, 91, rfl⟩
abbrev main_call5_v9 : Ref sig .tc := ⟨.hbm, 92, rfl⟩
abbrev main_call5_v10 : Ref sig .tc := ⟨.hbm, 93, rfl⟩
abbrev main_call5_v11 : Ref sig .tc := ⟨.hbm, 94, rfl⟩
abbrev main_call5_v12 : Ref sig .tc := ⟨.hbm, 95, rfl⟩
abbrev main_call5_v13 : Ref sig .tc := ⟨.hbm, 96, rfl⟩
abbrev main_call5_v14 : Ref sig .tc := ⟨.hbm, 97, rfl⟩
abbrev main_v33 : Ref sig .tc := ⟨.hbm, 98, rfl⟩
abbrev main_v34 : Ref sig .tc := ⟨.hbm, 99, rfl⟩
abbrev main_c_2 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_c_3 : Ref sig .tc := ⟨.hbm, 107, rfl⟩
abbrev main_call6_v0 : Ref sig .tc := ⟨.hbm, 108, rfl⟩
abbrev main_call6_c : Ref sig .tc := ⟨.hbm, 109, rfl⟩
abbrev main_call6_v1 : Ref sig .tc := ⟨.hbm, 110, rfl⟩
abbrev main_call6_c_0 : Ref sig .tc := ⟨.hbm, 111, rfl⟩
abbrev main_call6_v2 : Ref sig .tc := ⟨.hbm, 112, rfl⟩
abbrev main_call6_v3 : Ref sig .tc := ⟨.hbm, 113, rfl⟩
abbrev main_call6_v4 : Ref sig .tc := ⟨.hbm, 114, rfl⟩
abbrev main_call6_c_1 : Ref sig .tc := ⟨.hbm, 115, rfl⟩
abbrev main_call6_v5 : Ref sig .tc := ⟨.hbm, 116, rfl⟩
abbrev main_call6_v6 : Ref sig .tc := ⟨.hbm, 117, rfl⟩
abbrev main_call6_c_2 : Ref sig .tc := ⟨.hbm, 118, rfl⟩
abbrev main_call6_v7 : Ref sig .tc := ⟨.hbm, 119, rfl⟩
abbrev main_call6_v8 : Ref sig .tc := ⟨.hbm, 120, rfl⟩
abbrev main_call6_c_3 : Ref sig .tc := ⟨.hbm, 121, rfl⟩
abbrev main_call6_v9 : Ref sig .tc := ⟨.hbm, 122, rfl⟩
abbrev main_call6_v10 : Ref sig .tc := ⟨.hbm, 123, rfl⟩
abbrev main_call6_v11 : Ref sig .tc := ⟨.hbm, 124, rfl⟩
abbrev main_call6_v12 : Ref sig .tc := ⟨.hbm, 125, rfl⟩
abbrev main_call6_v13 : Ref sig .tc := ⟨.hbm, 126, rfl⟩
abbrev main_call6_v14 : Ref sig .tc := ⟨.hbm, 127, rfl⟩
abbrev main_v41 : Ref sig .tc := ⟨.hbm, 128, rfl⟩
abbrev main_v42 : Ref sig .tc := ⟨.hbm, 129, rfl⟩
abbrev main_c_4 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_v48_0 : Ref sig .tc := ⟨.hbm, 136, rfl⟩
abbrev main_v48_1 : Ref sig .tc := ⟨.hbm, 137, rfl⟩
abbrev main_v48_2 : Ref sig .tc := ⟨.hbm, 138, rfl⟩
abbrev main_v48_3 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 8], ![false, false]⟩

def k0_mult1 (i : grid0.Coords) (arg16 : BitVec 32) : BitVec 32 :=
  let arg1 : BitVec 32 := BitVec.ofNat 32 (i 1).val
  let c4_i32 : BitVec 32 := 4#32
  let v165 : BitVec 32 := Scalar.muli arg1 c4_i32
  let c0_i32_73 : BitVec 32 := 0#32
  let v198 : BitVec 32 := Scalar.addi v165 c0_i32_73
  let c1_i32_74 : BitVec 32 := 1#32
  let v199 : BitVec 32 := Scalar.addi v198 c1_i32_74
  let c128_i32_75 : BitVec 32 := 128#32
  let v200 : BitVec 32 := Scalar.muli v199 c128_i32_75
  let c384_i32_76 : BitVec 32 := 384#32
  let v201 : BitVec 32 := Scalar.muli arg16 c384_i32_76
  let v202 : BitVec 32 := Scalar.subi v200 v201
  let c384_i32_77 : BitVec 32 := 384#32
  let v203 : BitVec 32 := Scalar.subi v202 c384_i32_77
  let c0_i32_78 : BitVec 32 := 0#32
  let v204 : BitVec 32 := Scalar.maxsi v203 c0_i32_78
  v204

def k0_mult2 (i : grid0.Coords) (arg16 : BitVec 32) : BitVec 32 :=
  let arg1 : BitVec 32 := BitVec.ofNat 32 (i 1).val
  let c4_i32 : BitVec 32 := 4#32
  let v165 : BitVec 32 := Scalar.muli arg1 c4_i32
  let c1_i32_80 : BitVec 32 := 1#32
  let v215 : BitVec 32 := Scalar.addi v165 c1_i32_80
  let c1_i32_81 : BitVec 32 := 1#32
  let v216 : BitVec 32 := Scalar.addi v215 c1_i32_81
  let c128_i32_82 : BitVec 32 := 128#32
  let v217 : BitVec 32 := Scalar.muli v216 c128_i32_82
  let c384_i32_83 : BitVec 32 := 384#32
  let v218 : BitVec 32 := Scalar.muli arg16 c384_i32_83
  let v219 : BitVec 32 := Scalar.subi v217 v218
  let c384_i32_84 : BitVec 32 := 384#32
  let v220 : BitVec 32 := Scalar.subi v219 c384_i32_84
  let c0_i32_85 : BitVec 32 := 0#32
  let v221 : BitVec 32 := Scalar.maxsi v220 c0_i32_85
  v221
def k0_mult3 (i : grid0.Coords) (arg16 : BitVec 32) : BitVec 32 :=
  let arg1 : BitVec 32 := BitVec.ofNat 32 (i 1).val
  let c4_i32 : BitVec 32 := 4#32
  let v165 : BitVec 32 := Scalar.muli arg1 c4_i32
  let c2_i32 : BitVec 32 := 2#32
  let v232 : BitVec 32 := Scalar.addi v165 c2_i32
  let c1_i32_87 : BitVec 32 := 1#32
  let v233 : BitVec 32 := Scalar.addi v232 c1_i32_87
  let c128_i32_88 : BitVec 32 := 128#32
  let v234 : BitVec 32 := Scalar.muli v233 c128_i32_88
  let c384_i32_89 : BitVec 32 := 384#32
  let v235 : BitVec 32 := Scalar.muli arg16 c384_i32_89
  let v236 : BitVec 32 := Scalar.subi v234 v235
  let c384_i32_90 : BitVec 32 := 384#32
  let v237 : BitVec 32 := Scalar.subi v236 c384_i32_90
  let c0_i32_91 : BitVec 32 := 0#32
  let v238 : BitVec 32 := Scalar.maxsi v237 c0_i32_91
  v238
def k0_mult4 (i : grid0.Coords) (arg16 : BitVec 32) : BitVec 32 :=
  let arg1 : BitVec 32 := BitVec.ofNat 32 (i 1).val
  let c4_i32 : BitVec 32 := 4#32
  let v165 : BitVec 32 := Scalar.muli arg1 c4_i32
  let c3_i32 : BitVec 32 := 3#32
  let v249 : BitVec 32 := Scalar.addi v165 c3_i32
  let c1_i32_93 : BitVec 32 := 1#32
  let v250 : BitVec 32 := Scalar.addi v249 c1_i32_93
  let c128_i32_94 : BitVec 32 := 128#32
  let v251 : BitVec 32 := Scalar.muli v250 c128_i32_94
  let c384_i32_95 : BitVec 32 := 384#32
  let v252 : BitVec 32 := Scalar.muli arg16 c384_i32_95
  let v253 : BitVec 32 := Scalar.subi v251 v252
  let c384_i32_96 : BitVec 32 := 384#32
  let v254 : BitVec 32 := Scalar.subi v253 c384_i32_96
  let c0_i32_97 : BitVec 32 := 0#32
  let v255 : BitVec 32 := Scalar.maxsi v254 c0_i32_97
  v255
def k0_off1 (i : grid0.Coords) (arg16 : BitVec 32) (c0_i32_73 : BitVec 32) : Fin 2 → Nat :=
  let arg1 : BitVec 32 := BitVec.ofNat 32 (i 1).val
  let c4_i32 : BitVec 32 := 4#32
  let v165 : BitVec 32 := Scalar.muli arg1 c4_i32
  let v198 : BitVec 32 := Scalar.addi v165 c0_i32_73
  let c1_i32_74 : BitVec 32 := 1#32
  let v199 : BitVec 32 := Scalar.addi v198 c1_i32_74
  let c128_i32_75 : BitVec 32 := 128#32
  let v200 : BitVec 32 := Scalar.muli v199 c128_i32_75
  let c384_i32_76 : BitVec 32 := 384#32
  let v201 : BitVec 32 := Scalar.muli arg16 c384_i32_76
  let v202 : BitVec 32 := Scalar.subi v200 v201
  let c384_i32_77 : BitVec 32 := 384#32
  let v203 : BitVec 32 := Scalar.subi v202 c384_i32_77
  let c0_i32_78 : BitVec 32 := 0#32
  let v204 : BitVec 32 := Scalar.maxsi v203 c0_i32_78
  let v205 : BitVec 32 := v204
  let v266 : Index := Scalar.indexCast v205
  let c0_99 : Index := 0#32
  ![v266.toNat, 0]

def k0_chk1 (i : grid0.Coords) (arg16 : BitVec 32) : Prop :=
  (128 ∣ (k0_mult1 i arg16).toNat) ∧
  (128 ∣ (k0_mult2 i arg16).toNat) ∧
  (128 ∣ (k0_mult3 i arg16).toNat) ∧
  (128 ∣ (k0_mult4 i arg16).toNat) ∧
  (∀ (r : Fin 4), ∀ a, (k0_off1 i arg16 (BitVec.ofNat 32 r.val)) a + S384x128.size a ≤ S4096x128.size a)
theorem k0_mult1_dvd : ∀ (i : grid0.Coords) (arg16 : BitVec 32) (k0_hw1 : k0_chk1 i arg16), 128 ∣ (k0_mult1 i arg16).toNat := fun i arg16 k0_hw1 => k0_hw1.1
theorem k0_mult2_dvd : ∀ (i : grid0.Coords) (arg16 : BitVec 32) (k0_hw1 : k0_chk1 i arg16), 128 ∣ (k0_mult2 i arg16).toNat := fun i arg16 k0_hw1 => k0_hw1.2.1
theorem k0_mult3_dvd : ∀ (i : grid0.Coords) (arg16 : BitVec 32) (k0_hw1 : k0_chk1 i arg16), 128 ∣ (k0_mult3 i arg16).toNat := fun i arg16 k0_hw1 => k0_hw1.2.2.1
theorem k0_mult4_dvd : ∀ (i : grid0.Coords) (arg16 : BitVec 32) (k0_hw1 : k0_chk1 i arg16), 128 ∣ (k0_mult4 i arg16).toNat := fun i arg16 k0_hw1 => k0_hw1.2.2.2.1
theorem k0_off1_inb : ∀ (i : grid0.Coords) (arg16 : BitVec 32) (k0_hw1 : k0_chk1 i arg16), ∀ (r : Fin 4), ∀ a, (k0_off1 i arg16 (BitVec.ofNat 32 r.val)) a + S384x128.size a ≤ S4096x128.size a := fun i arg16 k0_hw1 r => k0_hw1.2.2.2.2 r

def k0_cond5 (i : grid0.Coords) : BitVec 1 :=
  let arg1 : BitVec 32 := BitVec.ofNat 32 (i 1).val
  let c7_i32_71 : BitVec 32 := 7#32
  let v195 : BitVec 1 := Scalar.cmpi .eq arg1 c7_i32_71
  let v196 : BitVec 32 := Scalar.extui v195
  let c0_i32_72 : BitVec 32 := 0#32
  let v197 : BitVec 1 := Scalar.cmpi .ne v196 c0_i32_72
  v197

def k0_cond2 (i : grid0.Coords) : BitVec 1 :=
  let arg1 : BitVec 32 := BitVec.ofNat 32 (i 1).val
  let c0_i32_22 : BitVec 32 := 0#32
  let v61 : BitVec 1 := Scalar.cmpi .eq arg1 c0_i32_22
  let v62 : BitVec 32 := Scalar.extui v61
  let c0_i32_23 : BitVec 32 := 0#32
  let v63 : BitVec 1 := Scalar.cmpi .ne v62 c0_i32_23
  v63

def k0_cond3 (i : grid0.Coords) : BitVec 1 :=
  let arg1 : BitVec 32 := BitVec.ofNat 32 (i 1).val
  let c0_i32_24 : BitVec 32 := 0#32
  let v64 : BitVec 1 := Scalar.cmpi .sgt arg1 c0_i32_24
  let v65 : BitVec 32 := Scalar.extui v64
  let c0_i32_25 : BitVec 32 := 0#32
  let v66 : BitVec 1 := Scalar.cmpi .ne v65 c0_i32_25
  v66

def k0_cond4 (i : grid0.Coords) : BitVec 1 :=
  let arg1 : BitVec 32 := BitVec.ofNat 32 (i 1).val
  let c7_i32 : BitVec 32 := 7#32
  let v67 : BitVec 1 := Scalar.cmpi .eq arg1 c7_i32
  let v68 : BitVec 32 := Scalar.extui v67
  let c0_i32_26 : BitVec 32 := 0#32
  let v69 : BitVec 1 := Scalar.cmpi .ne v68 c0_i32_26
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== AttnKIdeal.lean ====
variable {F : FTy → Type} [FloatOps F] [Named F]
def κ : String → Option EReal := fun
  | "dead" => some ⊤
  | "mask" => some ⊥
  | _ => none
-- ==== AttnRIdeal.lean ====
abbrev S4096x1536 : Shape := ⟨2, ![4096, 1536]⟩
abbrev S1x512 : Shape := ⟨2, ![1, 512]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x8 : Shape := ⟨2, ![4096, 8]⟩
abbrev S4096x8x1 : Shape := ⟨3, ![4096, 8, 1]⟩
abbrev S512 : Shape := ⟨1, ![512]⟩
abbrev S8x64x4096 : Shape := ⟨3, ![8, 64, 4096]⟩
abbrev S8x512 : Shape := ⟨2, ![8, 512]⟩

abbrev nBuf : Space → Nat
  | .hbm => 232
  | .vmem => 0
  | .smem => 0
  | _ => 0

abbrev hbmTy0_0 (i : Nat) : BufTy := match i % 128 with
  | 0 => ⟨S4096x1536, .f32⟩
  | 1 => ⟨S1x512, .f32⟩
  | 2 => ⟨S4096x512, .f32⟩
  | 3 => ⟨S4096x512, .f32⟩
  | 4 => ⟨S4096x512, .f32⟩
  | 5 => ⟨S4096x512, .f32⟩
  | 6 => ⟨S4096x8x64, .f32⟩
  | 7 => ⟨S8x4096x64, .f32⟩
  | 8 => ⟨S4096x8x64, .f32⟩
  | 9 => ⟨S8x4096x64, .f32⟩
  | 10 => ⟨S4096x8x64, .f32⟩
  | 11 => ⟨S8x4096x64, .f32⟩
  | 12 => ⟨S8x4096x4096, .f32⟩
  | 13 => ⟨S_, .f32⟩
  | 14 => ⟨S8x4096x4096, .f32⟩
  | 15 => ⟨S8x4096x4096, .f32⟩
  | 16 => ⟨S4096, .i32⟩
  | 17 => ⟨S4096x1, .i32⟩
  | 18 => ⟨S4096, .i32⟩
  | 19 => ⟨S1x4096, .i32⟩
  | 20 => ⟨S4096x4096, .i32⟩
  | 21 => ⟨S4096x4096, .i32⟩
  | 22 => ⟨S4096x4096, .i1⟩
  | 23 => ⟨S8x4096x4096, .f32⟩
  | 24 => ⟨S8x4096x4096, .f32⟩
  | 25 => ⟨S_, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .i1⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S_, .f32⟩
  | 40 => ⟨S8x4096x4096, .f32⟩
  | 41 => ⟨S8x4096x4096, .i1⟩
  | 42 => ⟨S_, .f32⟩
  | 43 => ⟨S8x4096x4096, .f32⟩
  | 44 => ⟨S8x4096x4096, .f32⟩
  | 45 => ⟨S_, .f32⟩
  | 46 => ⟨S8x4096x4096, .f32⟩
  | 47 => ⟨S8x4096x4096, .i1⟩
  | 48 => ⟨S_, .f32⟩
  | 49 => ⟨S8x4096x4096, .f32⟩
  | 50 => ⟨S8x4096x4096, .f32⟩
  | 51 => ⟨S8x4096x4096, .f32⟩
  | 52 => ⟨S8x4096x4096, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S8x4096x4096, .f32⟩
  | 61 => ⟨S8x4096x4096, .i1⟩
  | 62 => ⟨S_, .f32⟩
  | 63 => ⟨S8x4096x4096, .f32⟩
  | 64 => ⟨S8x4096x4096, .f32⟩
  | 65 => ⟨S8x4096x4096, .f32⟩
  | 66 => ⟨S8x4096x4096, .f32⟩
  | 67 => ⟨S8x4096x4096, .f32⟩
  | 68 => ⟨S_, .f32⟩
  | 69 => ⟨S8x4096x4096, .f32⟩
  | 70 => ⟨S8x4096x4096, .f32⟩
  | 71 => ⟨S8x4096x4096, .f32⟩
  | 72 => ⟨S_, .f32⟩
  | 73 => ⟨S_, .f32⟩
  | 74 => ⟨S8x4096x4096, .i1⟩
  | 75 => ⟨S8x4096x4096, .f32⟩
  | 76 => ⟨S8x4096x4096, .f32⟩
  | 77 => ⟨S_, .f32⟩
  | 78 => ⟨S8x4096x4096, .f32⟩
  | 79 => ⟨S_, .f32⟩
  | 80 => ⟨S_, .f32⟩
  | 81 => ⟨S8x4096x4096, .f32⟩
  | 82 => ⟨S8x4096x4096, .f32⟩
  | 83 => ⟨S8x4096x4096, .f32⟩
  | 84 => ⟨S_, .f32⟩
  | 85 => ⟨S8x4096x4096, .f32⟩
  | 86 => ⟨S8x4096x4096, .f32⟩
  | 87 => ⟨S8x4096x4096, .f32⟩
  | 88 => ⟨S8x4096x4096, .f32⟩
  | 89 => ⟨S8x4096x4096, .i1⟩
  | 90 => ⟨S8x4096x4096, .f32⟩
  | 91 => ⟨S8x4096x4096, .f32⟩
  | 92 => ⟨S8x4096x4096, .f32⟩
  | 93 => ⟨S8x4096x4096, .f32⟩
  | 94 => ⟨S8x4096x4096, .f32⟩
  | 95 => ⟨S8x4096x4096, .f32⟩
  | 96 => ⟨S8x4096x4096, .f32⟩
  | 97 => ⟨S8x4096x4096, .f32⟩
  | 98 => ⟨S_, .f32⟩
  | 99 => ⟨S8x4096x4096, .f32⟩
  | 100 => ⟨S8x4096x4096, .i1⟩
  | 101 => ⟨S_, .f32⟩
  | 102 => ⟨S8x4096x4096, .f32⟩
  | 103 => ⟨S8x4096x4096, .f32⟩
  | 104 => ⟨S_, .f32⟩
  | 105 => ⟨S8x4096x4096, .f32⟩
  | 106 => ⟨S8x4096x4096, .i1⟩
  | 107 => ⟨S_, .f32⟩
  | 108 => ⟨S8x4096x4096, .f32⟩
  | 109 => ⟨S8x4096x4096, .f32⟩
  | 110 => ⟨S8x4096x4096, .f32⟩
  | 111 => ⟨S8x4096x4096, .f32⟩
  | 112 => ⟨S_, .f32⟩
  | 113 => ⟨S_, .f32⟩
  | 114 => ⟨S_, .i1⟩
  | 115 => ⟨S_, .f32⟩
  | 116 => ⟨S_, .f32⟩
  | 117 => ⟨S_, .f32⟩
  | 118 => ⟨S_, .f32⟩
  | 119 => ⟨S8x4096x4096, .f32⟩
  | 120 => ⟨S8x4096x4096, .i1⟩
  | 121 => ⟨S_, .f32⟩
  | 122 => ⟨S8x4096x4096, .f32⟩
  | 123 => ⟨S8x4096x4096, .f32⟩
  | 124 => ⟨S8x4096x4096, .f32⟩
  | 125 => ⟨S8x4096x4096, .f32⟩
  | 126 => ⟨S8x4096x4096, .f32⟩
  | 127 => ⟨S_, .f32⟩
  | _ => ⟨S4096x1536, .f32⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S8x4096x4096, .f32⟩
  | 4 => ⟨S8x4096x4096, .f32⟩
  | 5 => ⟨S_, .f32⟩
  | 6 => ⟨S_, .f32⟩
  | 7 => ⟨S8x4096x4096, .i1⟩
  | 8 => ⟨S8x4096x4096, .f32⟩
  | 9 => ⟨S8x4096x4096, .f32⟩
  | 10 => ⟨S_, .f32⟩
  | 11 => ⟨S8x4096x4096, .f32⟩
  | 12 => ⟨S8x4096x64, .f32⟩
  | 13 => ⟨S4096x8x64, .f32⟩
  | 14 => ⟨S4096x512, .f32⟩
  | 15 => ⟨S4096x8x64, .f32⟩
  | 16 => ⟨S4096x8x64, .f32⟩
  | 17 => ⟨S_, .f32⟩
  | 18 => ⟨S4096x8x64, .f32⟩
  | 19 => ⟨S4096x8x64, .f32⟩
  | 20 => ⟨S_, .f32⟩
  | 21 => ⟨S4096x8, .f32⟩
  | 22 => ⟨S4096x8x1, .f32⟩
  | 23 => ⟨S_, .f32⟩
  | 24 => ⟨S4096x8x1, .f32⟩
  | 25 => ⟨S4096x8x1, .f32⟩
  | 26 => ⟨S_, .f32⟩
  | 27 => ⟨S4096x8x1, .f32⟩
  | 28 => ⟨S4096x8x1, .f32⟩
  | 29 => ⟨S4096x8x1, .f32⟩
  | 30 => ⟨S4096x8x1, .f32⟩
  | 31 => ⟨S_, .f32⟩
  | 32 => ⟨S4096x8x1, .f32⟩
  | 33 => ⟨S4096x8x1, .f32⟩
  | 34 => ⟨S4096x8x64, .f32⟩
  | 35 => ⟨S4096x8x64, .f32⟩
  | 36 => ⟨S4096x512, .f32⟩
  | 37 => ⟨S4096x512, .f32⟩
  | 38 => ⟨S4096x512, .f32⟩
  | 39 => ⟨S4096x512, .f32⟩
  | 40 => ⟨S_, .f32⟩
  | 41 => ⟨S512, .f32⟩
  | 42 => ⟨S1x512, .f32⟩
  | 43 => ⟨S4096x512, .f32⟩
  | 44 => ⟨S4096x512, .f32⟩
  | 45 => ⟨S4096x8x64, .f32⟩
  | 46 => ⟨S4096x8x64, .f32⟩
  | 47 => ⟨S_, .f32⟩
  | 48 => ⟨S4096x8, .f32⟩
  | 49 => ⟨S4096x8x1, .f32⟩
  | 50 => ⟨S4096x8x64, .f32⟩
  | 51 => ⟨S4096x8x64, .f32⟩
  | 52 => ⟨S4096x8x1, .f32⟩
  | 53 => ⟨S_, .f32⟩
  | 54 => ⟨S4096x8x1, .f32⟩
  | 55 => ⟨S4096x8x1, .f32⟩
  | 56 => ⟨S_, .f32⟩
  | 57 => ⟨S4096x8, .f32⟩
  | 58 => ⟨S4096x8x64, .f32⟩
  | 59 => ⟨S4096x8x64, .f32⟩
  | 60 => ⟨S4096x8x64, .f32⟩
  | 61 => ⟨S4096x512, .f32⟩
  | 62 => ⟨S4096x8x64, .f32⟩
  | 63 => ⟨S8x4096x64, .f32⟩
  | 64 => ⟨S8x64x4096, .f32⟩
  | 65 => ⟨S8x4096x64, .f32⟩
  | 66 => ⟨S8x4096x4096, .f32⟩
  | 67 => ⟨S_, .f32⟩
  | 68 => ⟨S8x4096x4096, .f32⟩
  | 69 => ⟨S8x4096x4096, .f32⟩
  | 70 => ⟨S8x4096x4096, .f32⟩
  | 71 => ⟨S8x4096x4096, .f32⟩
  | 72 => ⟨S8x4096x4096, .f32⟩
  | 73 => ⟨S8x4096x4096, .f32⟩
  | 74 => ⟨S8x4096x4096, .f32⟩
  | 75 => ⟨S_, .f32⟩
  | 76 => ⟨S_, .f32⟩
  | 77 => ⟨S8x4096x4096, .f32⟩
  | 78 => ⟨S8x4096x4096, .f32⟩
  | 79 => ⟨S_, .f32⟩
  | 80 => ⟨S8x4096x4096, .f32⟩
  | 81 => ⟨S8x4096x4096, .f32⟩
  | 82 => ⟨S8x4096x4096, .f32⟩
  | 83 => ⟨S8x4096x4096, .f32⟩
  | 84 => ⟨S8x4096x4096, .f32⟩
  | 85 => ⟨S8x4096x4096, .f32⟩
  | 86 => ⟨S8x4096x4096, .f32⟩
  | 87 => ⟨S_, .f32⟩
  | 88 => ⟨S8x4096x4096, .f32⟩
  | 89 => ⟨S8x4096x4096, .f32⟩
  | 90 => ⟨S8x4096x64, .f32⟩
  | 91 => ⟨S8x4096x64, .f32⟩
  | 92 => ⟨S4096x8x64, .f32⟩
  | 93 => ⟨S4096x512, .f32⟩
  | 94 => ⟨S4096x8x64, .f32⟩
  | 95 => ⟨S4096x512, .f32⟩
  | 96 => ⟨S4096x8x64, .f32⟩
  | 97 => ⟨S4096x512, .f32⟩
  | 98 => ⟨S4096x1536, .f32⟩
  | 99 => ⟨S4096x1536, .bf16⟩
  | 100 => ⟨S4096x512, .bf16⟩
  | 101 => ⟨S4096x512, .bf16⟩
  | 102 => ⟨S4096x512, .bf16⟩
  | 103 => ⟨S8x512, .f32⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v20_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v20_2 : Ref sig .tc := ⟨.hbm, 70, rfl⟩
abbrev main_v20_0 : Ref sig .tc := ⟨.hbm, 71, rfl⟩
abbrev main_cst_0 : Ref sig .tc := ⟨.hbm, 72, rfl⟩
abbrev main_call1_v0 : Ref sig .tc := ⟨.hbm, 73, rfl⟩
abbrev main_v21_1 : Ref sig .tc := ⟨.hbm, 74, rfl⟩
abbrev main_call1_v2 : Ref sig .tc := ⟨.hbm, 75, rfl⟩
abbrev main_v21_0 : Ref sig .tc := ⟨.hbm, 76, rfl⟩
abbrev main_call1_cst : Ref sig .tc := ⟨.hbm, 77, rfl⟩
abbrev main_v21_2 : Ref sig .tc := ⟨.hbm, 78, rfl⟩
abbrev main_call2_cst : Ref sig .tc := ⟨.hbm, 79, rfl⟩
abbrev main_call2_v0 : Ref sig .tc := ⟨.hbm, 80, rfl⟩
abbrev main_v22 : Ref sig .tc := ⟨.hbm, 81, rfl⟩
abbrev main_v23 : Ref sig .tc := ⟨.hbm, 82, rfl⟩
abbrev main_call3_v0 : Ref sig .tc := ⟨.hbm, 83, rfl⟩
abbrev main_call3_call0_cst : Ref sig .tc := ⟨.hbm, 84, rfl⟩
abbrev main_call3_call0_v0 : Ref sig .tc := ⟨.hbm, 85, rfl⟩
abbrev main_call3_call0_v1 : Ref sig .tc := ⟨.hbm, 86, rfl⟩
abbrev main_call3_call0_v2 : Ref sig .tc := ⟨.hbm, 87, rfl⟩
abbrev main_call3_call0_v3 : Ref sig .tc := ⟨.hbm, 88, rfl⟩
abbrev main_call3_call0_v4 : Ref sig .tc := ⟨.hbm, 89, rfl⟩
abbrev main_call3_call0_v5 : Ref sig .tc := ⟨.hbm, 90, rfl⟩
abbrev main_call3_call0_v6 : Ref sig .tc := ⟨.hbm, 91, rfl⟩
abbrev main_call3_call0_v7 : Ref sig .tc := ⟨.hbm, 92, rfl⟩
abbrev main_call3_call0_v8 : Ref sig .tc := ⟨.hbm, 93, rfl⟩
abbrev main_call3_call0_v9 : Ref sig .tc := ⟨.hbm, 94, rfl⟩
abbrev main_call3_call0_v10 : Ref sig .tc := ⟨.hbm, 95, rfl⟩
abbrev main_call3_call0_v11 : Ref sig .tc := ⟨.hbm, 96, rfl⟩
abbrev main_call3_v1_0 : Ref sig .tc := ⟨.hbm, 97, rfl⟩
abbrev main_call3_call0_cst_0 : Ref sig .tc := ⟨.hbm, 98, rfl⟩
abbrev main_call3_call0_v13 : Ref sig .tc := ⟨.hbm, 99, rfl⟩
abbrev main_call3_call0_v14 : Ref sig .tc := ⟨.hbm, 100, rfl⟩
abbrev main_call3_call0_cst_1 : Ref sig .tc := ⟨.hbm, 101, rfl⟩
abbrev main_call3_call0_v15 : Ref sig .tc := ⟨.hbm, 102, rfl⟩
abbrev main_call3_call0_v16 : Ref sig .tc := ⟨.hbm, 103, rfl⟩
abbrev main_call3_call0_cst_2 : Ref sig .tc := ⟨.hbm, 104, rfl⟩
abbrev main_call3_call0_v17 : Ref sig .tc := ⟨.hbm, 105, rfl⟩
abbrev main_call3_call0_v18 : Ref sig .tc := ⟨.hbm, 106, rfl⟩
abbrev main_call3_call0_cst_3 : Ref sig .tc := ⟨.hbm, 107, rfl⟩
abbrev main_call3_call0_v19 : Ref sig .tc := ⟨.hbm, 108, rfl⟩
abbrev main_call3_call0_v20 : Ref sig .tc := ⟨.hbm, 109, rfl⟩
abbrev main_call3_call0_v21 : Ref sig .tc := ⟨.hbm, 110, rfl⟩
abbrev main_v24_1 : Ref sig .tc := ⟨.hbm, 111, rfl⟩
abbrev main_call3_call0_cst_4 : Ref sig .tc := ⟨.hbm, 112, rfl⟩
abbrev main_call3_call0_cst_5 : Ref sig .tc := ⟨.hbm, 113, rfl⟩
abbrev main_call3_call0_v23 : Ref sig .tc := ⟨.hbm, 114, rfl⟩
abbrev main_call3_call0_cst_6 : Ref sig .tc := ⟨.hbm, 115, rfl⟩
abbrev main_call3_call0_cst_7 : Ref sig .tc := ⟨.hbm, 116, rfl⟩
abbrev main_call3_call0_v24 : Ref sig .tc := ⟨.hbm, 117, rfl⟩
abbrev main_call3_call0_cst_8 : Ref sig .tc := ⟨.hbm, 118, rfl⟩
abbrev main_call3_call0_v25 : Ref sig .tc := ⟨.hbm, 119, rfl⟩
abbrev main_call3_call0_v26 : Ref sig .tc := ⟨.hbm, 120, rfl⟩
abbrev main_call3_call0_cst_9 : Ref sig .tc := ⟨.hbm, 121, rfl⟩
abbrev main_call3_call0_v27 : Ref sig .tc := ⟨.hbm, 122, rfl⟩
abbrev main_call3_call0_v28 : Ref sig .tc := ⟨.hbm, 123, rfl⟩
abbrev main_call3_call0_v29 : Ref sig .tc := ⟨.hbm, 124, rfl⟩
abbrev main_call3_call0_v30 : Ref sig .tc := ⟨.hbm, 125, rfl⟩
abbrev main_call3_call0_v31 : Ref sig .tc := ⟨.hbm, 126, rfl⟩
abbrev main_call3_call0_cst_10 : Ref sig .tc := ⟨.hbm, 127, rfl⟩
abbrev main_call3_call0_v32 : Ref sig .tc := ⟨.hbm, 128, rfl⟩
abbrev main_v24_2 : Ref sig .tc := ⟨.hbm, 129, rfl⟩
abbrev main_v24_0 : Ref sig .tc := ⟨.hbm, 130, rfl⟩
abbrev main_v25 : Ref sig .tc := ⟨.hbm, 131, rfl⟩
abbrev main_v26 : Ref sig .tc := ⟨.hbm, 132, rfl⟩
abbrev main_cst_1 : Ref sig .tc := ⟨.hbm, 133, rfl⟩
abbrev main_call4_v0 : Ref sig .tc := ⟨.hbm, 134, rfl⟩
abbrev main_v27_1 : Ref sig .tc := ⟨.hbm, 135, rfl⟩
abbrev main_call4_v2 : Ref sig .tc := ⟨.hbm, 136, rfl⟩
abbrev main_v27_0 : Ref sig .tc := ⟨.hbm, 137, rfl⟩
abbrev main_call4_cst : Ref sig .tc := ⟨.hbm, 138, rfl⟩
abbrev main_v27_2 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_cst_2 : Ref sig .tc := ⟨.hbm, 145, rfl⟩
abbrev main_v33 : Ref sig .tc := ⟨.hbm, 146, rfl⟩
abbrev main_v34 : Ref sig .tc := ⟨.hbm, 147, rfl⟩
abbrev main_cst_3 : Ref sig .tc := ⟨.hbm, 148, rfl⟩
abbrev main_v35 : Ref sig .tc := ⟨.hbm, 149, rfl⟩
abbrev main_v36 : Ref sig .tc := ⟨.hbm, 150, rfl⟩
abbrev main_cst_4 : Ref sig .tc := ⟨.hbm, 151, rfl⟩
abbrev main_v37 : Ref sig .tc := ⟨.hbm, 152, rfl⟩
abbrev main_v38 : Ref sig .tc := ⟨.hbm, 153, rfl⟩
abbrev main_cst_5 : Ref sig .tc := ⟨.hbm, 154, rfl⟩
abbrev main_v39 : Ref sig .tc := ⟨.hbm, 155, rfl⟩
abbrev main_v40 : Ref sig .tc := ⟨.hbm, 156, rfl⟩
abbrev main_v41 : Ref sig .tc := ⟨.hbm, 157, rfl⟩
abbrev main_v42 : Ref sig .tc := ⟨.hbm, 158, rfl⟩
abbrev main_cst_6 : Ref sig .tc := ⟨.hbm, 159, rfl⟩
abbrev main_v43 : Ref sig .tc := ⟨.hbm, 160, rfl⟩
abbrev main_v44 : Ref sig .tc := ⟨.hbm, 161, rfl⟩
abbrev main_v45 : Ref sig .tc := ⟨.hbm, 162, rfl⟩
abbrev main_v46 : Ref sig .tc := ⟨.hbm, 163, rfl⟩
abbrev main_v47 : Ref sig .tc := ⟨.hbm, 164, rfl⟩
abbrev main_v48 : Ref sig .tc := ⟨.hbm, 165, rfl⟩
abbrev main_v49 : Ref sig .tc := ⟨.hbm, 166, rfl⟩
abbrev main_v50 : Ref sig .tc := ⟨.hbm, 167, rfl⟩
abbrev main_cst_7 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_cst_8 : Ref sig .tc := ⟨.hbm, 175, rfl⟩
abbrev main_v57 : Ref sig .tc := ⟨.hbm, 176, rfl⟩
abbrev main_v58 : Ref sig .tc := ⟨.hbm, 177, rfl⟩
abbrev main_v59 : Ref sig .tc := ⟨.hbm, 178, rfl⟩
abbrev main_v60 : Ref sig .tc := ⟨.hbm, 179, rfl⟩
abbrev main_v61 : Ref sig .tc := ⟨.hbm, 180, rfl⟩
abbrev main_cst_9 : Ref sig .tc := ⟨.hbm, 181, rfl⟩
abbrev main_v62 : Ref sig .tc := ⟨.hbm, 182, rfl⟩
abbrev main_v63 : Ref sig .tc := ⟨.hbm, 183, rfl⟩
abbrev main_cst_10 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_v69 : Ref sig .tc := ⟨.hbm, 190, rfl⟩
abbrev main_v70 : Ref sig .tc := ⟨.hbm, 191, rfl⟩
abbrev main_v71 : Ref sig .tc := ⟨.hbm, 192, rfl⟩
abbrev main_v72 : Ref sig .tc := ⟨.hbm, 193, rfl⟩
abbrev main_v73 : Ref sig .tc := ⟨.hbm, 194, rfl⟩
abbrev main_call5_cst : Ref sig .tc := ⟨.hbm, 195, rfl⟩
abbrev main_call5_v0 : Ref sig .tc := ⟨.hbm, 196, rfl⟩
abbrev main_v74 : Ref sig .tc := ⟨.hbm, 197, rfl⟩
abbrev main_v75 : Ref sig .tc := ⟨.hbm, 198, rfl⟩
abbrev main_call6_v0 : Ref sig .tc := ⟨.hbm, 199, rfl⟩
abbrev main_call6_v1 : Ref sig .tc := ⟨.hbm, 200, rfl⟩
abbrev main_v76 : Ref sig .tc := ⟨.hbm, 201, rfl⟩
abbrev main_v77 : Ref sig .tc := ⟨.hbm, 202, rfl⟩
abbrev main_call7_cst : Ref sig .tc := ⟨.hbm, 203, rfl⟩
abbrev main_call7_v0 : Ref sig .tc := ⟨.hbm, 204, rfl⟩
abbrev main_v78 : Ref sig .tc := ⟨.hbm, 205, rfl⟩
abbrev main_v79 : Ref sig .tc := ⟨.hbm, 206, rfl⟩
abbrev main_call8_cst : Ref sig .tc := ⟨.hbm, 207, rfl⟩
abbrev main_call8_v0 : Ref sig .tc := ⟨.hbm, 208, rfl⟩
abbrev main_v80 : Ref sig .tc := ⟨.hbm, 209, rfl⟩
abbrev main_call9_v0 : Ref sig .tc := ⟨.hbm, 210, rfl⟩
abbrev main_call9_v1 : Ref sig .tc := ⟨.hbm, 211, rfl⟩
abbrev main_v81 : Ref sig .tc := ⟨.hbm, 212, rfl⟩
abbrev main_v82 : Ref sig .tc := ⟨.hbm, 213, rfl⟩
abbrev main_v83 : Ref sig .tc := ⟨.hbm, 214, rfl⟩
abbrev main_cst_11 : Ref sig .tc := ⟨.hbm, 215, rfl⟩
abbrev main_v84 : Ref sig .tc := ⟨.hbm, 216, rfl⟩
abbrev main_v85 : Ref sig .tc := ⟨.hbm, 217, rfl⟩
abbrev main_v86 : Ref sig .tc := ⟨.hbm, 218, rfl⟩
abbrev main_v87 : Ref sig .tc := ⟨.hbm, 219, rfl⟩
abbrev main_v88 : Ref sig .tc := ⟨.hbm, 220, rfl⟩
abbrev main_v89 : Ref sig .tc := ⟨.hbm, 221, rfl⟩
abbrev main_v90 : Ref sig .tc := ⟨.hbm, 222, rfl⟩
abbrev main_v91 : Ref sig .tc := ⟨.hbm, 223, rfl⟩
abbrev main_v92 : Ref sig .tc := ⟨.hbm, 224, rfl⟩
abbrev main_v93 : Ref sig .tc := ⟨.hbm, 225, rfl⟩
abbrev main_v94 : Ref sig .tc := ⟨.hbm, 226, rfl⟩
abbrev main_v95 : Ref sig .tc := ⟨.hbm, 227, rfl⟩
abbrev main_v96 : Ref sig .tc := ⟨.hbm, 228, rfl⟩
abbrev main_v97 : Ref sig .tc := ⟨.hbm, 229, rfl⟩
abbrev main_v98 : Ref sig .tc := ⟨.hbm, 230, rfl⟩
abbrev main_v99 : Ref sig .tc := ⟨.hbm, 231, rfl⟩

abbrev nD : Nat := 1
abbrev τ : Topo := Topo.v7x

variable {F : FTy → Type} [FloatOps F]
-- ==== DhidK.lean ====
abbrev S4096x4096 : Shape := ⟨2, ![4096, 4096]⟩
abbrev S4096x1024 : Shape := ⟨2, ![4096, 1024]⟩
abbrev S_ : Shape := ⟨0, ![]⟩
abbrev S512x1024 : Shape := ⟨2, ![512, 1024]⟩
abbrev S512x4096 : Shape := ⟨2, ![512, 4096]⟩
abbrev S256x1024 : Shape := ⟨2, ![256, 1024]⟩
abbrev S256x4096 : Shape := ⟨2, ![256, 4096]⟩

abbrev nBuf : Space → Nat
  | .hbm => 11
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .bf16⟩
  | .hbm, ⟨9, _⟩ => ⟨S4096x1024, .bf16⟩
  | .hbm, ⟨10, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DhidRIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Ln2K.lean ====
abbrev S4096x4096 : Shape := ⟨2, ![4096, 4096]⟩
abbrev S4096x1024 : Shape := ⟨2, ![4096, 1024]⟩
abbrev S1x1024 : Shape := ⟨2, ![1, 1024]⟩
abbrev S8x1024 : Shape := ⟨2, ![8, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S32x8x1024 : Shape := ⟨3, ![32, 8, 1024]⟩
abbrev S1024 : Shape := ⟨1, ![1024]⟩
abbrev S1 : Shape := ⟨1, ![1]⟩
abbrev S1x1 : Shape := ⟨2, ![1, 1]⟩

abbrev nBuf : Space → Nat
  | .hbm => 13
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x4096, .bf16⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S8x1024, .f32⟩
  | .hbm, ⟨11, _⟩ => ⟨S8x1024, .f32⟩
  | .hbm, ⟨12, _⟩ => ⟨S8x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def k0_cond7 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c0_i32_40 : BitVec 32 := 0#32
  let v84 : BitVec 1 := Scalar.cmpi .eq v6 c0_i32_40
  let v85 : BitVec 32 := Scalar.extui v84
  let c0_i32_41 : BitVec 32 := 0#32
  let v86 : BitVec 1 := Scalar.cmpi .ne v85 c0_i32_41
  v86

def k0_cond8 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c0_i32_42 : BitVec 32 := 0#32
  let v87 : BitVec 1 := Scalar.cmpi .sgt v6 c0_i32_42
  let v88 : BitVec 32 := Scalar.extui v87
  let c0_i32_43 : BitVec 32 := 0#32
  let v89 : BitVec 1 := Scalar.cmpi .ne v88 c0_i32_43
  v89

def k0_cond9 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c15_i32_44 : BitVec 32 := 15#32
  let v90 : BitVec 1 := Scalar.cmpi .eq v6 c15_i32_44
  let v91 : BitVec 32 := Scalar.extui v90
  let c0_i32_45 : BitVec 32 := 0#32
  let v92 : BitVec 1 := Scalar.cmpi .ne v91 c0_i32_45
  v92

def k0_cond1 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c0_i32_27 : BitVec 32 := 0#32
  let v61 : BitVec 1 := Scalar.cmpi .eq v6 c0_i32_27
  let v62 : BitVec 32 := Scalar.extui v61
  let c0_i32_28 : BitVec 32 := 0#32
  let v63 : BitVec 1 := Scalar.cmpi .ne v62 c0_i32_28
  v63

def k0_cond2 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c0_i32_29 : BitVec 32 := 0#32
  let v64 : BitVec 1 := Scalar.cmpi .sgt v6 c0_i32_29
  let v65 : BitVec 32 := Scalar.extui v64
  let c0_i32_30 : BitVec 32 := 0#32
  let v66 : BitVec 1 := Scalar.cmpi .ne v65 c0_i32_30
  v66

def k0_cond3 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c15_i32 : BitVec 32 := 15#32
  let v67 : BitVec 1 := Scalar.cmpi .eq v6 c15_i32
  let v68 : BitVec 32 := Scalar.extui v67
  let c0_i32_31 : BitVec 32 := 0#32
  let v69 : BitVec 1 := Scalar.cmpi .ne v68 c0_i32_31
  v69

def k0_cond4 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c0_i32_33 : BitVec 32 := 0#32
  let v72 : BitVec 1 := Scalar.cmpi .eq v6 c0_i32_33
  let v73 : BitVec 32 := Scalar.extui v72
  let c0_i32_34 : BitVec 32 := 0#32
  let v74 : BitVec 1 := Scalar.cmpi .ne v73 c0_i32_34
  v74

def k0_cond5 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c0_i32_35 : BitVec 32 := 0#32
  let v75 : BitVec 1 := Scalar.cmpi .sgt v6 c0_i32_35
  let v76 : BitVec 32 := Scalar.extui v75
  let c0_i32_36 : BitVec 32 := 0#32
  let v77 : BitVec 1 := Scalar.cmpi .ne v76 c0_i32_36
  v77

def k0_cond6 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c15_i32_37 : BitVec 32 := 15#32
  let v78 : BitVec 1 := Scalar.cmpi .eq v6 c15_i32_37
  let v79 : BitVec 32 := Scalar.extui v78
  let c0_i32_38 : BitVec 32 := 0#32
  let v80 : BitVec 1 := Scalar.cmpi .ne v79 c0_i32_38
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Ln2RIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 116
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S4096x1024, .f32⟩
  | .hbm, ⟨82, _⟩ => ⟨S4096x1024, .f32⟩
  | .hbm, ⟨83, _⟩ => ⟨S4096x1, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S_, .f32⟩
  | .hbm, ⟨97, _⟩ => ⟨S4096, .f32⟩
  | .hbm, ⟨98, _⟩ => ⟨S4096x1, .f32⟩
  | .hbm, ⟨99, _⟩ => ⟨S4096x1024, .f32⟩
  | .hbm, ⟨100, _⟩ => ⟨S4096x1, .f32⟩
  | .hbm, ⟨101, _⟩ => ⟨S_, .f32⟩
  | .hbm, ⟨102, _⟩ => ⟨S4096x1, .f32⟩
  | .hbm, ⟨103, _⟩ => ⟨S4096x1, .f32⟩
  | .hbm, ⟨104, _⟩ => ⟨S_, .f32⟩
  | .hbm, ⟨105, _⟩ => ⟨S4096, .f32⟩
  | .hbm, ⟨106, _⟩ => ⟨S4096x1024, .f32⟩
  | .hbm, ⟨107, _⟩ => ⟨S4096x1024, .f32⟩
  | .hbm, ⟨108, _⟩ => ⟨S4096x1024, .bf16⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S8x1024, .f32⟩
  | .hbm, ⟨114, _⟩ => ⟨S8x1024, .f32⟩
  | .hbm, ⟨115, _⟩ => ⟨S8x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_cst_12 : Ref sig .tc := ⟨.hbm, 59, rfl⟩
abbrev main_cst_13 : Ref sig .tc := ⟨.hbm, 60, rfl⟩
abbrev main_v40 : Ref sig .tc := ⟨.hbm, 61, rfl⟩
abbrev main_v41 : Ref sig .tc := ⟨.hbm, 62, rfl⟩
abbrev main_cst_14 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_15 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_16 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_17 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_18 : Ref sig .tc := ⟨.hbm, 85, rfl⟩
abbrev main_v60 : Ref sig .tc := ⟨.hbm, 86, rfl⟩
abbrev main_v61 : Ref sig .tc := ⟨.hbm, 87, rfl⟩
abbrev main_cst_19 : Ref sig .tc := ⟨.hbm, 88, rfl⟩
abbrev main_v62 : Ref sig .tc := ⟨.hbm, 89, rfl⟩
abbrev main_v63 : Ref sig .tc := ⟨.hbm, 90, rfl⟩
abbrev main_cst_20 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_21 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_22 : Ref sig .tc := ⟨.hbm, 101, rfl⟩
abbrev main_v72 : Ref sig .tc := ⟨.hbm, 102, rfl⟩
abbrev main_v73 : Ref sig .tc := ⟨.hbm, 103, rfl⟩
abbrev main_cst_23 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_24 : Ref sig .tc := ⟨.hbm, 109, rfl⟩
abbrev main_v78 : Ref sig .tc := ⟨.hbm, 110, rfl⟩
abbrev main_cst_25 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩

abbrev nD : Nat := 1
abbrev τ : Topo := Topo.v7x

variable {F : FTy → Type} [FloatOps F]
-- ==== Dx1K.lean ====
abbrev S4096x4096 : Shape := ⟨2, ![4096, 4096]⟩
abbrev S8x1024x512 : Shape := ⟨3, ![8, 1024, 512]⟩
abbrev S4096x1024 : Shape := ⟨2, ![4096, 1024]⟩
abbrev S1x1024 : Shape := ⟨2, ![1, 1024]⟩
abbrev S8x1024 : Shape := ⟨2, ![8, 1024]⟩
abbrev S256x4096 : Shape := ⟨2, ![256, 4096]⟩
abbrev S256x1024 : Shape := ⟨2, ![256, 1024]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S32x8x1024 : Shape := ⟨3, ![32, 8, 1024]⟩
abbrev S1024 : Shape := ⟨1, ![1024]⟩

abbrev nBuf : Space → Nat
  | .hbm => 12
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S8x1024x512, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x4096, .bf16⟩
  | .hbm, ⟨7, _⟩ => ⟨S8x1024x512, .bf16⟩
  | .hbm, ⟨8, _⟩ => ⟨S4096x1024, .f32⟩
  | .hbm, ⟨9, _⟩ => ⟨S4096x1024, .bf16⟩
  | .hbm, ⟨10, _⟩ => ⟨S8x1024, .f32⟩
  | .hbm, ⟨11, _⟩ => ⟨S8x1024, .f32⟩
  | .local _ .vmem, ⟨0, _⟩ => ⟨S256x4096, .bf16⟩
  | .local _ .vmem, ⟨1, _⟩ => ⟨S256x4096, .bf16⟩
  | .local _ .vmem, ⟨2, _⟩ => ⟨S8x1024x512, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S8x1024, .f32⟩
  | .local _ .vmem, ⟨14, _⟩ => ⟨S8x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c1_i32 : BitVec 32 := 1#32
  let v47 : BitVec 32 := Scalar.muli arg0 c1_i32
  let c0_i32 : BitVec 32 := 0#32
  let v48 : BitVec 32 := Scalar.addi v47 c0_i32
  let c0_i32_53 : BitVec 32 := 0#32
  let v95 : BitVec 1 := Scalar.cmpi .eq v48 c0_i32_53
  let v96 : BitVec 32 := Scalar.extui v95
  let c0_i32_54 : BitVec 32 := 0#32
  let v97 : BitVec 1 := Scalar.cmpi .ne v96 c0_i32_54
  v97

def k0_cond2 (i : grid0.Coords) : BitVec 1 :=
  let arg0 : BitVec 32 := BitVec.ofNat 32 (i 0).val
  let c1_i32 : BitVec 32 := 1#32
  let v47 : BitVec 32 := Scalar.muli arg0 c1_i32
  let c0_i32 : BitVec 32 := 0#32
  let v48 : BitVec 32 := Scalar.addi v47 c0_i32
  let c0_i32_55 : BitVec 32 := 0#32
  let v98 : BitVec 1 := Scalar.cmpi .sgt v48 c0_i32_55
  let v99 : BitVec 32 := Scalar.extui v98
  let c0_i32_56 : BitVec 32 := 0#32
  let v100 : BitVec 1 := Scalar.cmpi .ne v99 c0_i32_56
  v100

def k0_cond3 (i : grid0.Coords) : BitVec 1 :=
  let arg0 : BitVec 32 := BitVec.ofNat 32 (i 0).val
  let c1_i32 : BitVec 32 := 1#32
  let v47 : BitVec 32 := Scalar.muli arg0 c1_i32
  let c0_i32 : BitVec 32 := 0#32
  let v48 : BitVec 32 := Scalar.addi v47 c0_i32
  let c15_i32 : BitVec 32 := 15#32
  let v101 : BitVec 1 := Scalar.cmpi .eq v48 c15_i32
  let v102 : BitVec 32 := Scalar.extui v101
  let c0_i32_57 : BitVec 32 := 0#32
  let v103 : BitVec 1 := Scalar.cmpi .ne v102 c0_i32_57
  v103

def k0_cond4 (i : grid0.Coords) : BitVec 1 :=
  let arg0 : BitVec 32 := BitVec.ofNat 32 (i 0).val
  let c1_i32 : BitVec 32 := 1#32
  let v47 : BitVec 32 := Scalar.muli arg0 c1_i32
  let c0_i32 : BitVec 32 := 0#32
  let v48 : BitVec 32 := Scalar.addi v47 c0_i32
  let c0_i32_59 : BitVec 32 := 0#32
  let v106 : BitVec 1 := Scalar.cmpi .eq v48 c0_i32_59
  let v107 : BitVec 32 := Scalar.extui v106
  let c0_i32_60 : BitVec 32 := 0#32
  let v108 : BitVec 1 := Scalar.cmpi .ne v107 c0_i32_60
  v108

def k0_cond5 (i : grid0.Coords) : BitVec 1 :=
  let arg0 : BitVec 32 := BitVec.ofNat 32 (i 0).val
  let c1_i32 : BitVec 32 := 1#32
  let v47 : BitVec 32 := Scalar.muli arg0 c1_i32
  let c0_i32 : BitVec 32 := 0#32
  let v48 : BitVec 32 := Scalar.addi v47 c0_i32
  let c0_i32_61 : BitVec 32 := 0#32
  let v109 : BitVec 1 := Scalar.cmpi .sgt v48 c0_i32_61
  let v110 : BitVec 32 := Scalar.extui v109
  let c0_i32_62 : BitVec 32 := 0#32
  let v111 : BitVec 1 := Scalar.cmpi .ne v110 c0_i32_62
  v111

def k0_cond6 (i : grid0.Coords) : BitVec 1 :=
  let arg0 : BitVec 32 := BitVec.ofNat 32 (i 0).val
  let c1_i32 : BitVec 32 := 1#32
  let v47 : BitVec 32 := Scalar.muli arg0 c1_i32
  let c0_i32 : BitVec 32 := 0#32
  let v48 : BitVec 32 := Scalar.addi v47 c0_i32
  let c15_i32_63 : BitVec 32 := 15#32
  let v112 : BitVec 1 := Scalar.cmpi .eq v48 c15_i32_63
  let v113 : BitVec 32 := Scalar.extui v112
  let c0_i32_64 : BitVec 32 := 0#32
  let v114 : BitVec 1 := Scalar.cmpi .ne v113 c0_i32_64
  v114

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Dx1RIdeal.lean ====
abbrev S4096x4096 : Shape := ⟨2, ![4096, 4096]⟩
abbrev S8x1024x512 : Shape := ⟨3, ![8, 1024, 512]⟩
abbrev S4096x1024 : Shape := ⟨2, ![4096, 1024]⟩
abbrev S1x1024 : Shape := ⟨2, ![1, 1024]⟩
abbrev S1024x8x512 : Shape := ⟨3, ![1024, 8, 512]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S8x1024x512, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1024x8x512, .f32⟩
  | .hbm, ⟨7, _⟩ => ⟨S1024x4096, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x4096, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1024, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x1024, .f32⟩
  | .hbm, ⟨90, _⟩ => ⟨S4096x1024, .f32⟩
  | .hbm, ⟨91, _⟩ => ⟨S4096x1024, .bf16⟩
  | .hbm, ⟨92, _⟩ => ⟨S8x1024, .f32⟩
  | .hbm, ⟨93, _⟩ => ⟨S8x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== PobK.lean ====
abbrev S4096x1536 : Shape := ⟨2, ![4096, 1536]⟩
abbrev S4096x512 : Shape := ⟨2, ![4096, 512]⟩
abbrev S3x512 : Shape := ⟨2, ![3, 512]⟩
abbrev S1x512 : Shape := ⟨2, ![1, 512]⟩
abbrev S1024x1024 : Shape := ⟨2, ![1024, 1024]⟩
abbrev S4096x1024 : Shape := ⟨2, ![4096, 1024]⟩
abbrev S8x512 : Shape := ⟨2, ![8, 512]⟩
abbrev S256x1024 : Shape := ⟨2, ![256, 1024]⟩
abbrev S256x1536 : Shape := ⟨2, ![256, 1536]⟩
abbrev S8x1536 : Shape := ⟨2, ![8, 1536]⟩
abbrev S256x512 : Shape := ⟨2, ![256, 512]⟩
abbrev S264x512 : Shape := ⟨2, ![264, 512]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S32x8x512 : Shape := ⟨3, ![32, 8, 512]⟩
abbrev S512 : Shape := ⟨1, ![512]⟩

abbrev nBuf : Space → Nat
  | .hbm => 16
  | .vmem => 22
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S3x512, .f32⟩
  | .hbm, ⟨3, _⟩ => ⟨S1x512, .f32⟩
  | .hbm, ⟨4, _⟩ => ⟨S1024x1024, .f32⟩
  | .hbm, ⟨5, _⟩ => ⟨S4096x1024, .f32⟩
  | .hbm, ⟨6, _⟩ => ⟨S4096x1024, .bf16⟩
  | .hbm, ⟨7, _⟩ => ⟨S1024x1024, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x512, .f32⟩
  | .hbm, ⟨12, _⟩ => ⟨S8x512, .f32⟩
  | .hbm, ⟨13, _⟩ => ⟨S8x512, .f32⟩
  | .hbm, ⟨14, _⟩ => ⟨S8x512, .f32⟩
  | .hbm, ⟨15, _⟩ => ⟨S8x512, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1536, .f32⟩
  | .local _ .vmem, ⟨4, _⟩ => ⟨S256x1536, .f32⟩
  | .local _ .vmem, ⟨5, _⟩ => ⟨S8x1536, .f32⟩
  | .local _ .vmem, ⟨6, _⟩ => ⟨S8x1536, .f32⟩
  | .local _ .vmem, ⟨7, _⟩ => ⟨S3x512, .f32⟩
  | .local _ .vmem, ⟨8, _⟩ => ⟨S1x512, .f32⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .f32⟩
  | .local _ .vmem, ⟨16, _⟩ => ⟨S256x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S8x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v2_6 : Ref sig .tc := ⟨.hbm, 14, rfl⟩
abbrev main_v2_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c0_i32_76 : BitVec 32 := 0#32
  let v257 : BitVec 1 := Scalar.cmpi .eq v6 c0_i32_76
  let v258 : BitVec 32 := Scalar.extui v257
  let c0_i32_77 : BitVec 32 := 0#32
  let v259 : BitVec 1 := Scalar.cmpi .ne v258 c0_i32_77
  v259

def k0_cond3 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c0_i32_78 : BitVec 32 := 0#32
  let v260 : BitVec 1 := Scalar.cmpi .sgt v6 c0_i32_78
  let v261 : BitVec 32 := Scalar.extui v260
  let c0_i32_79 : BitVec 32 := 0#32
  let v262 : BitVec 1 := Scalar.cmpi .ne v261 c0_i32_79
  v262

def k0_cond4 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c15_i32_80 : BitVec 32 := 15#32
  let v263 : BitVec 1 := Scalar.cmpi .eq v6 c15_i32_80
  let v264 : BitVec 32 := Scalar.extui v263
  let c0_i32_81 : BitVec 32 := 0#32
  let v265 : BitVec 1 := Scalar.cmpi .ne v264 c0_i32_81
  v265

def k0_cond5 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c0_i32_83 : BitVec 32 := 0#32
  let v269 : BitVec 1 := Scalar.cmpi .eq v6 c0_i32_83
  let v270 : BitVec 32 := Scalar.extui v269
  let c0_i32_84 : BitVec 32 := 0#32
  let v271 : BitVec 1 := Scalar.cmpi .ne v270 c0_i32_84
  v271

def k0_cond6 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c0_i32_85 : BitVec 32 := 0#32
  let v272 : BitVec 1 := Scalar.cmpi .sgt v6 c0_i32_85
  let v273 : BitVec 32 := Scalar.extui v272
  let c0_i32_86 : BitVec 32 := 0#32
  let v274 : BitVec 1 := Scalar.cmpi .ne v273 c0_i32_86
  v274

def k0_cond7 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c15_i32_87 : BitVec 32 := 15#32
  let v275 : BitVec 1 := Scalar.cmpi .eq v6 c15_i32_87
  let v276 : BitVec 32 := Scalar.extui v275
  let c0_i32_88 : BitVec 32 := 0#32
  let v277 : BitVec 1 := Scalar.cmpi .ne v276 c0_i32_88
  v277

def k0_cond8 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c0_i32_90 : BitVec 32 := 0#32
  let v281 : BitVec 1 := Scalar.cmpi .eq v6 c0_i32_90
  let v282 : BitVec 32 := Scalar.extui v281
  let c0_i32_91 : BitVec 32 := 0#32
  let v283 : BitVec 1 := Scalar.cmpi .ne v282 c0_i32_91
  v283

def k0_cond9 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c0_i32_92 : BitVec 32 := 0#32
  let v284 : BitVec 1 := Scalar.cmpi .sgt v6 c0_i32_92
  let v285 : BitVec 32 := Scalar.extui v284
  let c0_i32_93 : BitVec 32 := 0#32
  let v286 : BitVec 1 := Scalar.cmpi .ne v285 c0_i32_93
  v286

def k0_cond10 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c15_i32_94 : BitVec 32 := 15#32
  let v287 : BitVec 1 := Scalar.cmpi .eq v6 c15_i32_94
  let v288 : BitVec 32 := Scalar.extui v287
  let c0_i32_95 : BitVec 32 := 0#32
  let v289 : BitVec 1 := Scalar.cmpi .ne v288 c0_i32_95
  v289

def k0_cond11 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c0_i32_97 : BitVec 32 := 0#32
  let v293 : BitVec 1 := Scalar.cmpi .eq v6 c0_i32_97
  let v294 : BitVec 32 := Scalar.extui v293
  let c0_i32_98 : BitVec 32 := 0#32
  let v295 : BitVec 1 := Scalar.cmpi .ne v294 c0_i32_98
  v295

def k0_cond12 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c0_i32_99 : BitVec 32 := 0#32
  let v296 : BitVec 1 := Scalar.cmpi .sgt v6 c0_i32_99
  let v297 : BitVec 32 := Scalar.extui v296
  let c0_i32_100 : BitVec 32 := 0#32
  let v298 : BitVec 1 := Scalar.cmpi .ne v297 c0_i32_100
  v298

def k0_cond13 (i : grid0.Coords) : BitVec 1 :=
  let arg0 : BitVec 32 := BitVec.ofNat 32 (i 0).val
  let c1_i32 : BitVec 32 := 1#32
  let v5 : BitVec 32 := Scalar.muli arg0 c1_i32
  let c0_i32 : BitVec 32 := 0#32
  let v6 : BitVec 32 := Scalar.addi v5 c0_i32
  let c15_i32_101 : BitVec 32 := 15#32
  let v299 : BitVec 1 := Scalar.cmpi .eq v6 c15_i32_101
  let v300 : BitVec 32 := Scalar.extui v299
  let c0_i32_102 : BitVec 32 := 0#32
  let v301 : BitVec 1 := Scalar.cmpi .ne v300 c0_i32_102
  v301

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== PobRIdeal.lean ====
abbrev S4096x1536 : Shape := ⟨2, ![4096, 1536]⟩
abbrev S4096x512 : Shape := ⟨2, ![4096, 512]⟩
abbrev S3x512 : Shape := ⟨2, ![3, 512]⟩
abbrev S1x512 : Shape := ⟨2, ![1, 512]⟩
abbrev S1024x1024 : Shape := ⟨2, ![1024, 1024]⟩
abbrev S4096x1024 : Shape := ⟨2, ![4096, 1024]⟩
abbrev S_ : Shape := ⟨0, ![]⟩
abbrev S2x512 : Shape := ⟨2, ![2, 512]⟩
abbrev S4098x512 : Shape := ⟨2, ![4098, 512]⟩
abbrev S512 : Shape := ⟨1, ![512]⟩
abbrev S4096x8x64 : Shape := ⟨3, ![4096, 8, 64]⟩
abbrev S4096x8 : Shape := ⟨2, ![4096, 8]⟩
abbrev S4096x8x1 : Shape := ⟨3, ![4096, 8, 1]⟩
abbrev S8x512 : Shape := ⟨2, ![8, 512]⟩

abbrev nBuf : Space → Nat
  | .hbm => 150
  | .vmem => 0
  | .smem => 0
  | _ => 0

abbrev hbmTy0_0 (i : Nat) : BufTy := match i % 128 with
  | 0 => ⟨S4096x1536, .f32⟩
  | 1 => ⟨S4096x512, .f32⟩
  | 2 => ⟨S3x512, .f32⟩
  | 3 => ⟨S1x512, .f32⟩
  | 4 => ⟨S1024x1024, .f32⟩
  | 5 => ⟨S4096x1024, .f32⟩
  | 6 => ⟨S4096x512, .f32⟩
  | 7 => ⟨S4096x512, .f32⟩
  | 8 => ⟨S4096x512, .f32⟩
  | 9 => ⟨S4096x512, .f32⟩
  | 10 => ⟨S_, .f32⟩
  | 11 => ⟨S2x512, .f32⟩
  | 12 => ⟨S4098x512, .f32⟩
  | 13 => ⟨S_, .f32⟩
  | 14 => ⟨S2x512, .f32⟩
  | 15 => ⟨S1x512, .f32⟩
  | 16 => ⟨S512, .f32⟩
  | 17 => ⟨S4096x512, .f32⟩
  | 18 => ⟨S1x512, .f32⟩
  | 19 => ⟨S4096x512, .f32⟩
  | 20 => ⟨S4096x512, .f32⟩
  | 21 => ⟨S_, .f32⟩
  | 22 => ⟨S4096x512, .f32⟩
  | 23 => ⟨S4096x512, .f32⟩
  | 24 => ⟨S1x512, .f32⟩
  | 25 => ⟨S512, .f32⟩
  | 26 => ⟨S4096x512, .f32⟩
  | 27 => ⟨S1x512, .f32⟩
  | 28 => ⟨S4096x512, .f32⟩
  | 29 => ⟨S4096x512, .f32⟩
  | 30 => ⟨S4096x512, .f32⟩
  | 31 => ⟨S1x512, .f32⟩
  | 32 => ⟨S512, .f32⟩
  | 33 => ⟨S4096x512, .f32⟩
  | 34 => ⟨S1x512, .f32⟩
  | 35 => ⟨S4096x512, .f32⟩
  | 36 => ⟨S4096x512, .f32⟩
  | 37 => ⟨S4096x512, .f32⟩
  | 38 => ⟨S4096x512, .f32⟩
  | 39 => ⟨S4096x8x64, .f32⟩
  | 40 => ⟨S4096x8x64, .f32⟩
  | 41 => ⟨S_, .f32⟩
  | 42 => ⟨S4096x8x64, .f32⟩
  | 43 => ⟨S4096x8x64, .f32⟩
  | 44 => ⟨S_, .f32⟩
  | 45 => ⟨S4096x8, .f32⟩
  | 46 => ⟨S4096x8x1, .f32⟩
  | 47 => ⟨S_, .f32⟩
  | 48 => ⟨S4096x8x1, .f32⟩
  | 49 => ⟨S4096x8x1, .f32⟩
  | 50 => ⟨S_, .f32⟩
  | 51 => ⟨S4096x8x1, .f32⟩
  | 52 => ⟨S4096x8x1, .f32⟩
  | 53 => ⟨S4096x8x1, .f32⟩
  | 54 => ⟨S4096x8x1, .f32⟩
  | 55 => ⟨S_, .f32⟩
  | 56 => ⟨S4096x8x1, .f32⟩
  | 57 => ⟨S4096x8x1, .f32⟩
  | 58 => ⟨S4096x8x64, .f32⟩
  | 59 => ⟨S4096x8x64, .f32⟩
  | 60 => ⟨S4096x512, .f32⟩
  | 61 => ⟨S4096x512, .f32⟩
  | 62 => ⟨S4096x512, .f32⟩
  | 63 => ⟨S4096x1024, .f32⟩
  | 64 => ⟨S4096x1024, .f32⟩
  | 65 => ⟨S4096x1024, .f32⟩
  | 66 => ⟨S4096x512, .f32⟩
  | 67 => ⟨S4096x512, .f32⟩
  | 68 => ⟨S4096x512, .f32⟩
  | 69 => ⟨S_, .f32⟩
  | 70 => ⟨S512, .f32⟩
  | 71 => ⟨S1x512, .f32⟩
  | 72 => ⟨S4096x512, .f32⟩
  | 73 => ⟨S4096x512, .f32⟩
  | 74 => ⟨S4096x8x64, .f32⟩
  | 75 => ⟨S4096x8x64, .f32⟩
  | 76 => ⟨S_, .f32⟩
  | 77 => ⟨S4096x8, .f32⟩
  | 78 => ⟨S4096x8x1, .f32⟩
  | 79 => ⟨S4096x8x64, .f32⟩
  | 80 => ⟨S4096x8x64, .f32⟩
  | 81 => ⟨S4096x8x1, .f32⟩
  | 82 => ⟨S_, .f32⟩
  | 83 => ⟨S4096x8x1, .f32⟩
  | 84 => ⟨S4096x8x1, .f32⟩
  | 85 => ⟨S_, .f32⟩
  | 86 => ⟨S4096x8, .f32⟩
  | 87 => ⟨S4096x8x64, .f32⟩
  | 88 => ⟨S4096x8x64, .f32⟩
  | 89 => ⟨S4096x8x64, .f32⟩
  | 90 => ⟨S4096x512, .f32⟩
  | 91 => ⟨S4096x512, .f32⟩
  | 92 => ⟨S4096x512, .f32⟩
  | 93 => ⟨S4096x512, .f32⟩
  | 94 => ⟨S4096x512, .f32⟩
  | 95 => ⟨S4096x512, .f32⟩
  | 96 => ⟨S_, .f32⟩
  | 97 => ⟨S512, .f32⟩
  | 98 => ⟨S1x512, .f32⟩
  | 99 => ⟨S_, .f32⟩
  | 100 => ⟨S512, .f32⟩
  | 101 => ⟨S_, .f32⟩
  | 102 => ⟨S4098x512, .f32⟩
  | 103 => ⟨S1x512, .f32⟩
  | 104 => ⟨S_, .f32⟩
  | 105 => ⟨S3x512, .f32⟩
  | 106 => ⟨S4096x512, .f32⟩
  | 107 => ⟨S4096x512, .f32⟩
  | 108 => ⟨S4096x512, .f32⟩
  | 109 => ⟨S_, .f32⟩
  | 110 => ⟨S512, .f32⟩
  | 111 => ⟨S1x512, .f32⟩
  | 112 => ⟨S_, .f32⟩
  | 113 => ⟨S512, .f32⟩
  | 114 => ⟨S_, .f32⟩
  | 115 => ⟨S4098x512, .f32⟩
  | 116 => ⟨S4098x512, .f32⟩
  | 117 => ⟨S1x512, .f32⟩
  | 118 => ⟨S_, .f32⟩
  | 119 => ⟨S3x512, .f32⟩
  | 120 => ⟨S3x512, .f32⟩
  | 121 => ⟨S4096x512, .f32⟩
  | 122 => ⟨S4096x512, .f32⟩
  | 123 => ⟨S4096x512, .f32⟩
  | 124 => ⟨S_, .f32⟩
  | 125 => ⟨S512, .f32⟩
  | 126 => ⟨S1x512, .f32⟩
  | 127 => ⟨S_, .f32⟩
  | _ => ⟨S4096x1536, .f32⟩

abbrev hbmTy0_1 (i : Nat) : BufTy := match i % 128 with
  | 0 => ⟨S512, .f32⟩
  | 1 => ⟨S_, .f32⟩
  | 2 => ⟨S4098x512, .f32⟩
  | 3 => ⟨S4098x512, .f32⟩
  | 4 => ⟨S1x512, .f32⟩
  | 5 => ⟨S_, .f32⟩
  | 6 => ⟨S3x512, .f32⟩
  | 7 => ⟨S3x512, .f32⟩
  | 8 => ⟨S2x512, .f32⟩
  | 9 => ⟨S4096x512, .f32⟩
  | 10 => ⟨S4096x512, .f32⟩
  | 11 => ⟨S4096x512, .f32⟩
  | 12 => ⟨S4096x512, .bf16⟩
  | 13 => ⟨S4096x512, .bf16⟩
  | 14 => ⟨S4096x512, .bf16⟩
  | 15 => ⟨S8x512, .f32⟩
  | 16 => ⟨S1x512, .f32⟩
  | 17 => ⟨S8x512, .f32⟩
  | 18 => ⟨S1x512, .f32⟩
  | 19 => ⟨S8x512, .f32⟩
  | 20 => ⟨S1x512, .f32⟩
  | 21 => ⟨S8x512, .f32⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_9 : Ref sig .tc := ⟨.hbm, 82, rfl⟩
abbrev main_v66 : Ref sig .tc := ⟨.hbm, 83, rfl⟩
abbrev main_v67 : Ref sig .tc := ⟨.hbm, 84, rfl⟩
abbrev main_cst_10 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_11 : Ref sig .tc := ⟨.hbm, 96, rfl⟩
abbrev main_v78 : Ref sig .tc := ⟨.hbm, 97, rfl⟩
abbrev main_v79 : Ref sig .tc := ⟨.hbm, 98, rfl⟩
abbrev main_cst_12 : Ref sig .tc := ⟨.hbm, 99, rfl⟩
abbrev main_v80 : Ref sig .tc := ⟨.hbm, 100, rfl⟩
abbrev main_cst_13 : Ref sig .tc := ⟨.hbm, 101, rfl⟩
abbrev main_v81 : Ref sig .tc := ⟨.hbm, 102, rfl⟩
abbrev main_v82 : Ref sig .tc := ⟨.hbm, 103, rfl⟩
abbrev main_cst_14 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_15 : Ref sig .tc := ⟨.hbm, 109, rfl⟩
abbrev main_v87 : Ref sig .tc := ⟨.hbm, 110, rfl⟩
abbrev main_v88 : Ref sig .tc := ⟨.hbm, 111, rfl⟩
abbrev main_cst_16 : Ref sig .tc := ⟨.hbm, 112, rfl⟩
abbrev main_v89 : Ref sig .tc := ⟨.hbm, 113, rfl⟩
abbrev main_cst_17 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_18 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_19 : Ref sig .tc := ⟨.hbm, 124, rfl⟩
abbrev main_v98 : Ref sig .tc := ⟨.hbm, 125, rfl⟩
abbrev main_v99 : Ref sig .tc := ⟨.hbm, 126, rfl⟩
abbrev main_cst_20 : Ref sig .tc := ⟨.hbm, 127, rfl⟩
abbrev main_v100 : Ref sig .tc := ⟨.hbm, 128, rfl⟩
abbrev main_cst_21 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_22 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩

abbrev nD : Nat := 1
abbrev τ : Topo := Topo.v7x

variable {F : FTy → Type} [FloatOps F]
-- ==== FwdK.lean ====
abbrev S4096x1536 : Shape := ⟨2, ![4096, 1536]⟩
abbrev S1x512 : Shape := ⟨2, ![1, 512]⟩
abbrev S4096x1024 : Shape := ⟨2, ![4096, 1024]⟩
abbrev S256x256 : Shape := ⟨2, ![256, 256]⟩
abbrev S_ : Shape := ⟨0, ![]⟩
abbrev S4096x512 : Shape := ⟨2, ![4096, 512]⟩
abbrev S512x128 : Shape := ⟨2, ![512, 128]⟩
abbrev S4096x128 : Shape := ⟨2, ![4096, 128]⟩
abbrev S1x128 : Shape := ⟨2, ![1, 128]⟩
abbrev S384x128 : Shape := ⟨2, ![384, 128]⟩
abbrev S128x128 : Shape := ⟨2, ![128, 128]⟩
abbrev S128x384 : Shape := ⟨2, ![128, 384]⟩
abbrev S128x1 : Shape := ⟨2, ![128, 1]⟩
abbrev S128x256 : Shape := ⟨2, ![128, 256]⟩
abbrev S768x128 : Shape := ⟨2, ![768, 128]⟩
abbrev S128x768 : Shape := ⟨2, ![128, 768]⟩
abbrev S1x128x128 : Shape := ⟨3, ![1, 128, 128]⟩
abbrev S1 : Shape := ⟨1, ![1]⟩
abbrev S1x1x1 : Shape := ⟨3, ![1, 1, 1]⟩
abbrev S512 : Shape := ⟨1, ![512]⟩
abbrev S512x1 : Shape := ⟨2, ![512, 1]⟩

abbrev nBuf : Space → Nat
  | .hbm => 37
  | .vmem => 13
  | .smem => 0
  | _ => 0

abbrev bufTy : (tb : Table) → Fin (tcTables nBuf tb) → BufTy
  | .hbm, ⟨0, _⟩ => ⟨S4096x1536, .f32⟩
  | .hbm, ⟨1, _⟩ => ⟨S1x512, .f32⟩
  | .hbm, ⟨2, _⟩ => ⟨S4096x1024, .f32⟩
  | .hbm, ⟨3, _⟩ => ⟨S4096x1536, .bf16⟩
  | .hbm, ⟨4, _⟩ => ⟨S4096x1024, .bf16⟩
  | .hbm, ⟨5, _⟩ => ⟨S256x256, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S256x256, .i32⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i1⟩
  | .hbm, ⟨17, _⟩ => ⟨S_, .i32⟩
  | .hbm, ⟨18, _⟩ => ⟨S256x256, .i32⟩
  | .hbm, ⟨19, _⟩ => ⟨S256x256, .i1⟩
  | .hbm, ⟨20, _⟩ => ⟨S_, .i32⟩
  | .hbm, ⟨21, _⟩ => ⟨S_, .i1⟩
  | .hbm, ⟨22, _⟩ => ⟨S256x256, .i1⟩
  | .hbm, ⟨23, _⟩ => ⟨S256x256, .i1⟩
  | .hbm, ⟨24, _⟩ => ⟨S256x256, .i1⟩
  | .hbm, ⟨25, _⟩ => ⟨S256x256, .i32⟩
  | .hbm, ⟨26, _⟩ => ⟨S256x256, .i32⟩
  | .hbm, ⟨27, _⟩ => ⟨S256x256, .i32⟩
  | .hbm, ⟨28, _⟩ => ⟨S256x256, .i32⟩
  | .hbm, ⟨29, _⟩ => ⟨S_, .i32⟩
  | .hbm, ⟨30, _⟩ => ⟨S256x256, .i32⟩
  | .hbm, ⟨31, _⟩ => ⟨S256x256, .i1⟩
  | .hbm, ⟨32, _⟩ => ⟨S256x256, .i1⟩
  | .hbm, ⟨33, _⟩ => ⟨S256x256, .i1⟩
  | .hbm, ⟨34, _⟩ => ⟨S256x256, .bf16⟩
  | .hbm, ⟨35, _⟩ => ⟨S4096x512, .f32⟩
  | .hbm, ⟨36, _⟩ => ⟨S4096x1024, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x128, .f32⟩
  | .local _ .vmem, ⟨7, _⟩ => ⟨S1x128, .f32⟩
  | .local _ .vmem, ⟨8, _⟩ => ⟨S256x256, .bf16⟩
  | .local _ .vmem, ⟨9, _⟩ => ⟨S512x128, .f32⟩
  | .local _ .vmem, ⟨10, _⟩ => ⟨S512x128, .f32⟩
  | .local _ .vmem, ⟨11, _⟩ => ⟨S512x128, .bf16⟩
  | .local _ .vmem, ⟨12, _⟩ => ⟨S512x128, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v3 : Ref sig .tc := ⟨.hbm, 27, rfl⟩
abbrev main_v4 : Ref sig .tc := ⟨.hbm, 28, rfl⟩
abbrev main_c_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10_0 : Ref sig .tc := ⟨.hbm, 35, rfl⟩
abbrev main_v10_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def k0_mult1 (i : grid0.Coords) (arg10 : BitVec 32) : BitVec 32 :=
  let arg1 : BitVec 32 := BitVec.ofNat 32 (i 1).val
  let c4_i32 : BitVec 32 := 4#32
  let v17 : BitVec 32 := Scalar.muli arg1 c4_i32
  let c0_i32_28 : BitVec 32 := 0#32
  let v69 : BitVec 32 := Scalar.addi v17 c0_i32_28
  let c1_i32_29 : BitVec 32 := 1#32
  let v70 : BitVec 32 := Scalar.addi v69 c1_i32_29
  let c128_i32_30 : BitVec 32 := 128#32
  let v71 : BitVec 32 := Scalar.muli v70 c128_i32_30
  let c384_i32_31 : BitVec 32 := 384#32
  let v72 : BitVec 32 := Scalar.muli arg10 c384_i32_31
  let v73 : BitVec 32 := Scalar.subi v71 v72
  let c384_i32_32 : BitVec 32 := 384#32
  let v74 : BitVec 32 := Scalar.subi v73 c384_i32_32
  let c0_i32_33 : BitVec 32 := 0#32
  let v75 : BitVec 32 := Scalar.maxsi v74 c0_i32_33
  v75

def k0_mult2 (i : grid0.Coords) (arg10 : BitVec 32) : BitVec 32 :=
  let arg1 : BitVec 32 := BitVec.ofNat 32 (i 1).val
  let c4_i32 : BitVec 32 := 4#32
  let v17 : BitVec 32 := Scalar.muli arg1 c4_i32
  let c1_i32_35 : BitVec 32 := 1#32
  let v86 : BitVec 32 := Scalar.addi v17 c1_i32_35
  let c1_i32_36 : BitVec 32 := 1#32
  let v87 : BitVec 32 := Scalar.addi v86 c1_i32_36
  let c128_i32_37 : BitVec 32 := 128#32
  let v88 : BitVec 32 := Scalar.muli v87 c128_i32_37
  let c384_i32_38 : BitVec 32 := 384#32
  let v89 : BitVec 32 := Scalar.muli arg10 c384_i32_38
  let v90 : BitVec 32 := Scalar.subi v88 v89
  let c384_i32_39 : BitVec 32 := 384#32
  let v91 : BitVec 32 := Scalar.subi v90 c384_i32_39
  let c0_i32_40 : BitVec 32 := 0#32
  let v92 : BitVec 32 := Scalar.maxsi v91 c0_i32_40
  v92
def k0_mult3 (i : grid0.Coords) (arg10 : BitVec 32) : BitVec 32 :=
  let arg1 : BitVec 32 := BitVec.ofNat 32 (i 1).val
  let c4_i32 : BitVec 32 := 4#32
  let v17 : BitVec 32 := Scalar.muli arg1 c4_i32
  let c2_i32 : BitVec 32 := 2#32
  let v103 : BitVec 32 := Scalar.addi v17 c2_i32
  let c1_i32_42 : BitVec 32 := 1#32
  let v104 : BitVec 32 := Scalar.addi v103 c1_i32_42
  let c128_i32_43 : BitVec 32 := 128#32
  let v105 : BitVec 32 := Scalar.muli v104 c128_i32_43
  let c384_i32_44 : BitVec 32 := 384#32
  let v106 : BitVec 32 := Scalar.muli arg10 c384_i32_44
  let v107 : BitVec 32 := Scalar.subi v105 v106
  let c384_i32_45 : BitVec 32 := 384#32
  let v108 : BitVec 32 := Scalar.subi v107 c384_i32_45
  let c0_i32_46 : BitVec 32 := 0#32
  let v109 : BitVec 32 := Scalar.maxsi v108 c0_i32_46
  v109
def k0_mult4 (i : grid0.Coords) (arg10 : BitVec 32) : BitVec 32 :=
  let arg1 : BitVec 32 := BitVec.ofNat 32 (i 1).val
  let c4_i32 : BitVec 32 := 4#32
  let v17 : BitVec 32 := Scalar.muli arg1 c4_i32
  let c3_i32 : BitVec 32 := 3#32
  let v120 : BitVec 32 := Scalar.addi v17 c3_i32
  let c1_i32_48 : BitVec 32 := 1#32
  let v121 : BitVec 32 := Scalar.addi v120 c1_i32_48
  let c128_i32_49 : BitVec 32 := 128#32
  let v122 : BitVec 32 := Scalar.muli v121 c128_i32_49
  let c384_i32_50 : BitVec 32 := 384#32
  let v123 : BitVec 32 := Scalar.muli arg10 c384_i32_50
  let v124 : BitVec 32 := Scalar.subi v122 v123
  let c384_i32_51 : BitVec 32 := 384#32
  let v125 : BitVec 32 := Scalar.subi v124 c384_i32_51
  let c0_i32_52 : BitVec 32 := 0#32
  let v126 : BitVec 32 := Scalar.maxsi v125 c0_i32_52
  v126
def k0_off1 (i : grid0.Coords) (arg10 : BitVec 32) (c0_i32_28 : BitVec 32) : Fin 2 → Nat :=
  let arg1 : BitVec 32 := BitVec.ofNat 32 (i 1).val
  let c4_i32 : BitVec 32 := 4#32
  let v17 : BitVec 32 := Scalar.muli arg1 c4_i32
  let v69 : BitVec 32 := Scalar.addi v17 c0_i32_28
  let c1_i32_29 : BitVec 32 := 1#32
  let v70 : BitVec 32 := Scalar.addi v69 c1_i32_29
  let c128_i32_30 : BitVec 32 := 128#32
  let v71 : BitVec 32 := Scalar.muli v70 c128_i32_30
  let c384_i32_31 : BitVec 32 := 384#32
  let v72 : BitVec 32 := Scalar.muli arg10 c384_i32_31
  let v73 : BitVec 32 := Scalar.subi v71 v72
  let c384_i32_32 : BitVec 32 := 384#32
  let v74 : BitVec 32 := Scalar.subi v73 c384_i32_32
  let c0_i32_33 : BitVec 32 := 0#32
  let v75 : BitVec 32 := Scalar.maxsi v74 c0_i32_33
  let v76 : BitVec 32 := v75
  let v137 : Index := Scalar.indexCast v76
  let c0_54 : Index := 0#32
  ![v137.toNat, 0]

def k0_chk1 (i : grid0.Coords) (arg10 : BitVec 32) : Prop :=
  (128 ∣ (k0_mult1 i arg10).toNat) ∧
  (128 ∣ (k0_mult2 i arg10).toNat) ∧
  (128 ∣ (k0_mult3 i arg10).toNat) ∧
  (128 ∣ (k0_mult4 i arg10).toNat) ∧
  (∀ (r : Fin 4), ∀ a, (k0_off1 i arg10 (BitVec.ofNat 32 r.val)) a + S384x128.size a ≤ S4096x128.size a)
theorem k0_mult1_dvd : ∀ (i : grid0.Coords) (arg10 : BitVec 32) (k0_hw1 : k0_chk1 i arg10), 128 ∣ (k0_mult1 i arg10).toNat := fun i arg10 k0_hw1 => k0_hw1.1
theorem k0_mult2_dvd : ∀ (i : grid0.Coords) (arg10 : BitVec 32) (k0_hw1 : k0_chk1 i arg10), 128 ∣ (k0_mult2 i arg10).toNat := fun i arg10 k0_hw1 => k0_hw1.2.1
theorem k0_mult3_dvd : ∀ (i : grid0.Coords) (arg10 : BitVec 32) (k0_hw1 : k0_chk1 i arg10), 128 ∣ (k0_mult3 i arg10).toNat := fun i arg10 k0_hw1 => k0_hw1.2.2.1
theorem k0_mult4_dvd : ∀ (i : grid0.Coords) (arg10 : BitVec 32) (k0_hw1 : k0_chk1 i arg10), 128 ∣ (k0_mult4 i arg10).toNat := fun i arg10 k0_hw1 => k0_hw1.2.2.2.1
theorem k0_off1_inb : ∀ (i : grid0.Coords) (arg10 : BitVec 32) (k0_hw1 : k0_chk1 i arg10), ∀ (r : Fin 4), ∀ a, (k0_off1 i arg10 (BitVec.ofNat 32 r.val)) a + S384x128.size a ≤ S4096x128.size a := fun i arg10 k0_hw1 r => k0_hw1.2.2.2.2 r

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FwdKIdeal.lean ====
variable {F : FTy → Type} [FloatOps F] [Named F]
def κ : String → Option EReal := fun
  | "dead" => some ⊤
  | "mask" => some ⊥
  | _ => none
-- ==== FwdRIdeal.lean ====
abbrev S4096x1536 : Shape := ⟨2, ![4096, 1536]⟩
abbrev S1x512 : Shape := ⟨2, ![1, 512]⟩
abbrev S4096x1024 : Shape := ⟨2, ![4096, 1024]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x8 : Shape := ⟨2, ![4096, 8]⟩
abbrev S4096x8x1 : Shape := ⟨3, ![4096, 8, 1]⟩

abbrev nBuf : Space → Nat
  | .hbm => 95
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S1x512, .f32⟩
  | .hbm, ⟨2, _⟩ => ⟨S4096x1024, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x8x64, .f32⟩
  | .hbm, ⟨7, _⟩ => ⟨S8x4096x64, .f32⟩
  | .hbm, ⟨8, _⟩ => ⟨S4096x8x64, .f32⟩
  | .hbm, ⟨9, _⟩ => ⟨S8x4096x64, .f32⟩
  | .hbm, ⟨10, _⟩ => ⟨S4096x8x64, .f32⟩
  | .hbm, ⟨11, _⟩ => ⟨S8x4096x64, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S4096, .i32⟩
  | .hbm, ⟨17, _⟩ => ⟨S4096x1, .i32⟩
  | .hbm, ⟨18, _⟩ => ⟨S4096, .i32⟩
  | .hbm, ⟨19, _⟩ => ⟨S1x4096, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .i1⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S_, .f32⟩
  | .hbm, ⟨42, _⟩ => ⟨S8x4096x4096, .i1⟩
  | .hbm, ⟨43, _⟩ => ⟨S8x4096x4096, .f32⟩
  | .hbm, ⟨44, _⟩ => ⟨S8x4096x4096, .f32⟩
  | .hbm, ⟨45, _⟩ => ⟨S_, .f32⟩
  | .hbm, ⟨46, _⟩ => ⟨S_, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S8x4096x4096, .i1⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S_, .f32⟩
  | .hbm, ⟨68, _⟩ => ⟨S_, .f32⟩
  | .hbm, ⟨69, _⟩ => ⟨S8x4096x4096, .i1⟩
  | .hbm, ⟨70, _⟩ => ⟨S8x4096x4096, .f32⟩
  | .hbm, ⟨71, _⟩ => ⟨S8x4096x4096, .f32⟩
  | .hbm, ⟨72, _⟩ => ⟨S8x4096x64, .f32⟩
  | .hbm, ⟨73, _⟩ => ⟨S4096x8x64, .f32⟩
  | .hbm, ⟨74, _⟩ => ⟨S4096x512, .f32⟩
  | .hbm, ⟨75, _⟩ => ⟨S4096x512, .f32⟩
  | .hbm, ⟨76, _⟩ => ⟨S4096x8x64, .f32⟩
  | .hbm, ⟨77, _⟩ => ⟨S4096x8x64, .f32⟩
  | .hbm, ⟨78, _⟩ => ⟨S_, .f32⟩
  | .hbm, ⟨79, _⟩ => ⟨S4096x8, .f32⟩
  | .hbm, ⟨80, _⟩ => ⟨S4096x8x1, .f32⟩
  | .hbm, ⟨81, _⟩ => ⟨S_, .f32⟩
  | .hbm, ⟨82, _⟩ => ⟨S4096x8x1, .f32⟩
  | .hbm, ⟨83, _⟩ => ⟨S4096x8x1, .f32⟩
  | .hbm, ⟨84, _⟩ => ⟨S_, .f32⟩
  | .hbm, ⟨85, _⟩ => ⟨S4096x8x1, .f32⟩
  | .hbm, ⟨86, _⟩ => ⟨S4096x8x1, .f32⟩
  | .hbm, ⟨87, _⟩ => ⟨S4096x8x1, .f32⟩
  | .hbm, ⟨88, _⟩ => ⟨S4096x8x64, .f32⟩
  | .hbm, ⟨89, _⟩ => ⟨S4096x8x64, .f32⟩
  | .hbm, ⟨90, _⟩ => ⟨S4096x512, .f32⟩
  | .hbm, ⟨91, _⟩ => ⟨S4096x512, .f32⟩
  | .hbm, ⟨92, _⟩ => ⟨S4096x512, .f32⟩
  | .hbm, ⟨93, _⟩ => ⟨S4096x1024, .f32⟩
  | .hbm, ⟨94, _⟩ => ⟨S4096x1024, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v20 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v21 : Ref sig .tc := ⟨.hbm, 44, rfl⟩
abbrev main_call2_cst : Ref sig .tc := ⟨.hbm, 45, rfl⟩
abbrev main_call2_v0 : Ref sig .tc := ⟨.hbm, 46, rfl⟩
abbrev main_v22 : Ref sig .tc := ⟨.hbm, 47, rfl⟩
abbrev main_v23 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_cst_2 : Ref sig .tc := ⟨.hbm, 78, rfl⟩
abbrev main_v34 : Ref sig .tc := ⟨.hbm, 79, rfl⟩
abbrev main_v35 : Ref sig .tc := ⟨.hbm, 80, rfl⟩
abbrev main_cst_3 : Ref sig .tc := ⟨.hbm, 81, rfl⟩
abbrev main_v36 : Ref sig .tc := ⟨.hbm, 82, rfl⟩
abbrev main_v37 : Ref sig .tc := ⟨.hbm, 83, rfl⟩
abbrev main_cst_4 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩

abbrev nD : Nat := 1
abbrev τ : Topo := Topo.v7x

variable {F : FTy → Type} [FloatOps F]
-- ==== UpK.lean ====
abbrev S4096x1024 : Shape := ⟨2, ![4096, 1024]⟩
abbrev S8x1024x512 : Shape := ⟨3, ![8, 1024, 512]⟩
abbrev S4096x4096 : Shape := ⟨2, ![4096, 4096]⟩
abbrev S512x1024 : Shape := ⟨2, ![512, 1024]⟩
abbrev S512x4096 : Shape := ⟨2, ![512, 4096]⟩
abbrev S256x1024 : Shape := ⟨2, ![256, 1024]⟩
abbrev S1x1024x512 : Shape := ⟨3, ![1, 1024, 512]⟩
abbrev S1024x512 : Shape := ⟨2, ![1024, 512]⟩
abbrev S256x512 : Shape := ⟨2, ![256, 512]⟩
abbrev S256x4096 : Shape := ⟨2, ![256, 4096]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S8x1024x512, .f32⟩
  | .hbm, ⟨2, _⟩ => ⟨S4096x1024, .bf16⟩
  | .hbm, ⟨3, _⟩ => ⟨S8x1024x512, .bf16⟩
  | .hbm, ⟨4, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S8x1024x512, .bf16⟩
  | .local _ .vmem, ⟨3, _⟩ => ⟨S512x4096, .bf16⟩
  | .local _ .vmem, ⟨4, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== UpRIdeal.lean ====
abbrev S4096x1024 : Shape := ⟨2, ![4096, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8x1024x512, .f32⟩
  | .hbm, ⟨2, _⟩ => ⟨S1024x8x512, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutK.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .bf16⟩
  | .hbm, ⟨6, _⟩ => ⟨S1024x1024, .bf16⟩
  | .hbm, ⟨7, _⟩ => ⟨S4096x1024, .f32⟩
  | .hbm, ⟨8, _⟩ => ⟨S4096x1024, .f32⟩
  | .hbm, ⟨9, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== InK.lean ====
abbrev S4096x1024 : Shape := ⟨2, ![4096, 1024]⟩
abbrev S8x1024x384 : Shape := ⟨3, ![8, 1024, 384]⟩
abbrev S3x512 : Shape := ⟨2, ![3, 512]⟩
abbrev S1x512 : Shape := ⟨2, ![1, 512]⟩
abbrev S4096x1536 : Shape := ⟨2, ![4096, 1536]⟩
abbrev S512x1024 : Shape := ⟨2, ![512, 1024]⟩
abbrev S512x1536 : Shape := ⟨2, ![512, 1536]⟩
abbrev S512x512 : Shape := ⟨2, ![512, 512]⟩
abbrev S8x512 : Shape := ⟨2, ![8, 512]⟩
abbrev S256x1024 : Shape := ⟨2, ![256, 1024]⟩
abbrev S1x1024x384 : Shape := ⟨3, ![1, 1024, 384]⟩
abbrev S1024x384 : Shape := ⟨2, ![1024, 384]⟩
abbrev S256x384 : Shape := ⟨2, ![256, 384]⟩
abbrev S256x3072 : Shape := ⟨2, ![256, 3072]⟩
abbrev S256x1536 : Shape := ⟨2, ![256, 1536]⟩
abbrev S256x512 : Shape := ⟨2, ![256, 512]⟩
abbrev S264x512 : Shape := ⟨2, ![264, 512]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S4096x512 : Shape := ⟨2, ![4096, 512]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S8x1024x384, .f32⟩
  | .hbm, ⟨2, _⟩ => ⟨S3x512, .f32⟩
  | .hbm, ⟨3, _⟩ => ⟨S1x512, .f32⟩
  | .hbm, ⟨4, _⟩ => ⟨S8x1024x384, .bf16⟩
  | .hbm, ⟨5, _⟩ => ⟨S4096x1536, .f32⟩
  | .hbm, ⟨6, _⟩ => ⟨S4096x1536, .bf16⟩
  | .hbm, ⟨7, _⟩ => ⟨S4096x1024, .bf16⟩
  | .hbm, ⟨8, _⟩ => ⟨S4096x1024, .bf16⟩
  | .hbm, ⟨9, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S8x1024x384, .bf16⟩
  | .local _ .vmem, ⟨3, _⟩ => ⟨S512x1024, .f32⟩
  | .local _ .vmem, ⟨4, _⟩ => ⟨S512x1024, .f32⟩
  | .local _ .vmem, ⟨5, _⟩ => ⟨S3x512, .f32⟩
  | .local _ .vmem, ⟨6, _⟩ => ⟨S1x512, .f32⟩
  | .local _ .vmem, ⟨7, _⟩ => ⟨S512x1536, .f32⟩
  | .local _ .vmem, ⟨8, _⟩ => ⟨S512x1536, .f32⟩
  | .local _ .vmem, ⟨9, _⟩ => ⟨S512x1536, .bf16⟩
  | .local _ .vmem, ⟨10, _⟩ => ⟨S512x1536, .bf16⟩
  | .local _ .vmem, ⟨11, _⟩ => ⟨S512x1024, .bf16⟩
  | .local _ .vmem, ⟨12, _⟩ => ⟨S512x1024, .bf16⟩
  | .local _ .vmem, ⟨13, _⟩ => ⟨S512x512, .bf16⟩
  | .local _ .vmem, ⟨14, _⟩ => ⟨S512x512, .bf16⟩
  | .local _ .vmem, ⟨15, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InRIdeal.lean ====
abbrev S4096x1024 : Shape := ⟨2, ![4096, 1024]⟩
abbrev S8x1024x384 : Shape := ⟨3, ![8, 1024, 384]⟩
abbrev S3x512 : Shape := ⟨2, ![3, 512]⟩
abbrev S1x512 : Shape := ⟨2, ![1, 512]⟩
abbrev S1024x8x384 : Shape := ⟨3, ![1024, 8, 384]⟩
abbrev S1024x3072 : Shape := ⟨2, ![1024, 3072]⟩
abbrev S4096x3072 : Shape := ⟨2, ![4096, 3072]⟩
abbrev S4096x1536 : Shape := ⟨2, ![4096, 1536]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S512 : Shape := ⟨1, ![512]⟩
abbrev S4096x8x64 : Shape := ⟨3, ![4096, 8, 64]⟩
abbrev S4096x8 : Shape := ⟨2, ![4096, 8]⟩
abbrev S4096x8x1 : Shape := ⟨3, ![4096, 8, 1]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8x1024x384, .f32⟩
  | .hbm, ⟨2, _⟩ => ⟨S3x512, .f32⟩
  | .hbm, ⟨3, _⟩ => ⟨S1x512, .f32⟩
  | .hbm, ⟨4, _⟩ => ⟨S1024x8x384, .f32⟩
  | .hbm, ⟨5, _⟩ => ⟨S1024x3072, .f32⟩
  | .hbm, ⟨6, _⟩ => ⟨S4096x3072, .f32⟩
  | .hbm, ⟨7, _⟩ => ⟨S4096x1536, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S2x512, .f32⟩
  | .hbm, ⟨14, _⟩ => ⟨S4098x512, .f32⟩
  | .hbm, ⟨15, _⟩ => ⟨S1x512, .f32⟩
  | .hbm, ⟨16, _⟩ => ⟨S512, .f32⟩
  | .hbm, ⟨17, _⟩ => ⟨S4096x512, .f32⟩
  | .hbm, ⟨18, _⟩ => ⟨S1x512, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S1x512, .f32⟩
  | .hbm, ⟨25, _⟩ => ⟨S512, .f32⟩
  | .hbm, ⟨26, _⟩ => ⟨S4096x512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S1x512, .f32⟩
  | .hbm, ⟨32, _⟩ => ⟨S512, .f32⟩
  | .hbm, ⟨33, _⟩ => ⟨S4096x512, .f32⟩
  | .hbm, ⟨34, _⟩ => ⟨S1x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x8x64, .f32⟩
  | .hbm, ⟨40, _⟩ => ⟨S4096x8x64, .f32⟩
  | .hbm, ⟨41, _⟩ => ⟨S_, .f32⟩
  | .hbm, ⟨42, _⟩ => ⟨S4096x8, .f32⟩
  | .hbm, ⟨43, _⟩ => ⟨S4096x8x1, .f32⟩
  | .hbm, ⟨44, _⟩ => ⟨S_, .f32⟩
  | .hbm, ⟨45, _⟩ => ⟨S4096x8x1, .f32⟩
  | .hbm, ⟨46, _⟩ => ⟨S4096x8x1, .f32⟩
  | .hbm, ⟨47, _⟩ => ⟨S_, .f32⟩
  | .hbm, ⟨48, _⟩ => ⟨S4096x8x1, .f32⟩
  | .hbm, ⟨49, _⟩ => ⟨S4096x8x1, .f32⟩
  | .hbm, ⟨50, _⟩ => ⟨S4096x8x1, .f32⟩
  | .hbm, ⟨51, _⟩ => ⟨S4096x8x64, .f32⟩
  | .hbm, ⟨52, _⟩ => ⟨S4096x8x64, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x1536, .f32⟩
  | .hbm, ⟨57, _⟩ => ⟨S4096x1536, .f32⟩
  | .hbm, ⟨58, _⟩ => ⟨S4096x1536, .bf16⟩
  | .hbm, ⟨59, _⟩ => ⟨S4096x1024, .bf16⟩
  | .hbm, ⟨60, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩

abbrev nD : Nat := 1
abbrev τ : Topo := Topo.v7x

variable {F : FTy → Type} [FloatOps F]
-- ==== Proof.AttnLoop.lean ====
module

public import proofs.«01_k».proof.Proof.Gen.AttnKIdeal.Skeleton
public import Idealize.ShloMosaic.Lib.Pipeline.FrameBody
public import Idealize.ShloMosaic.Lib.Ring
public import Idealize.ShloMosaic.Lib.Tactic
public import Idealize.ShloMosaic.Lib.Claim

@[expose] public section

set_option maxRecDepth 16384

noncomputable section

namespace Cert.AttnKIdeal.Hand

open Cert.AttnKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The number of key chunks of a grid point, as the printed words compute it. -/
def nTrips (i : grid0.Coords) : BitVec 32 :=
  let v169 := Scalar.subi (Scalar.addi (Scalar.muli (Scalar.addi (Scalar.muli (BitVec.ofNat 32 (i 1).val) 4#32) 4#32) 128#32) 384#32) 1#32
  let v170 := Scalar.divsi v169 384#32
  let v175 : BitVec 32 := Scalar.subi (Scalar.extui (Scalar.cmpi .sgt v169 0#32)) (Scalar.extui (Scalar.cmpi .slt v169 0#32))
  let v180 : BitVec 32 := Scalar.subi (Scalar.extui (Scalar.cmpi .sgt 384#32 0#32)) (Scalar.extui (Scalar.cmpi .slt 384#32 0#32))
  let v184 := Scalar.andi (Scalar.cmpi .ne v175 v180) (Scalar.cmpi .ne (Scalar.remsi v169 384#32) 0#32)
  Scalar.select v184 (Scalar.subi v170 1#32) v170

/-- The loop's condition at a record: chunks are left, and the word kept by the early exit is positive. -/
def going (a : Cc0While1 F) : BitVec 1 :=
  Scalar.andi (Scalar.cmpi .slt a.arg16 (nTrips a.i)) (Scalar.cmpi .sgt a.arg17 0#32)

set_option maxHeartbeats 4000000 in
/-- One trip of the loop. -/
noncomputable def trip (c : Dev nD) (a : Cc0While1 F) (hchk : k0_chk1 a.i a.arg16) (hgo : going a = 1#1)
    (xk xv : Vec F S4096x128 .bf16) (xd xe : Vec F S4096x128 .f32) :
    Σ' (_a' : Cc0While1 F), Σ' (_L14 : List (View.Piece (Elt F) S4096x128 .f32)), { _L15 : List (View.Piece (Elt F) S4096x128 .f32) //
      ∀ (u : Option ℕ) (E : Set ℕ) (K : _ → sProp 𝕄),
        iprop(owns (c : Thread nD τ) a.arg3 fullShare xk ∗ owns (c : Thread nD τ) a.arg4 fullShare xv
            ∗ owns (c : Thread nD τ) a.arg14 fullShare xd ∗ owns (c : Thread nD τ) a.arg15 fullShare xe
            ∗ (iprop(owns (c : Thread nD τ) a.arg3 fullShare xk ∗ owns (c : Thread nD τ) a.arg4 fullShare xv
                  ∗ (a.arg14.view.loc (c : Thread nD τ) ↦[a.arg14.view.set]{fullShare} a.arg14.view.writes (Elt F) (a.harg14.unread xd) _L14)
                  ∗ (a.arg15.view.loc (c : Thread nD τ) ↦[a.arg15.view.set]{fullShare} a.arg15.view.writes (Elt F) (a.harg15.unread xe) _L15))
                -∗ wp frame (wpE (defs₀ (F := F)) Variants.nat c u) E (Prog.op (.call (1 : (Λ₀ F).Label) _a') Prog.ret) K))
          ⊢ wp frame (wpE (defs₀ (F := F)) Variants.nat c u) E (defs₀ (F := F) .tc 1 a) K } := by
  refine ⟨?_, ?_, ?_, fun u E K => ?run⟩
  case run =>
    show _ ⊢ wp _ _ _ (cc0_while1 a.i a.v188 a.v187 a.arg3 a.harg3 a.arg4 a.harg4 a.v157 a.v159 a.v161 a.v163 a.v140 a.v145 a.v150 a.v155 a.v7 a.v9 a.v80 a.v85 a.v90 a.v95 a.v100 a.v105 a.v110 a.v115 a.v5 a.arg14 a.harg14 a.v120 a.arg15 a.harg15 a.v125 a.v130 a.v135 a.arg16 a.arg17 a.arg18 a.arg19 a.arg20 a.arg21 a.arg22 a.arg23 a.arg24 a.arg25 a.arg26 a.arg27 a.arg28 a.arg29 a.arg30 a.arg31 a.arg32 a.arg33 a.arg34 a.arg35 a.arg36 a.arg37) _
    simp only [cc0_while1_eq_skeleton]; unfold cc0_while1_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f3, %hf3, H3⟩, ⟨%f4, %hf4, H4⟩, ⟨%f14, %hf14, H14⟩, ⟨%f15, %hf15, H15⟩, Hk⟩
    obtain rfl := a.harg3.eq_unread hf3; obtain rfl := a.harg4.eq_unread hf4
    obtain rfl := a.harg14.eq_unread hf14; obtain rfl := a.harg15.eq_unread hf15
    sl_exec (disch := first | sl_exact hgo | sl_exact hchk)
    iapply Hk
    isplitl [H3]
    · iexists _; isplitr; · ipureintro; exact a.harg3.read_unread _
      iexact H3
    isplitl [H4]
    · iexists _; isplitr; · ipureintro; exact a.harg4.read_unread _
      iexact H4
    isplitl [H14]; · iexact H14
    iexact H15

/-- What the loop's label returns: the record's running values. -/
def res (a : Cc0While1 F) : (Λ₀ F).Result (1 : (Λ₀ F).Label) :=
  (a.arg16, a.arg17, a.arg18, a.arg19, a.arg20, a.arg21, a.arg22, a.arg23, a.arg24, a.arg25, a.arg26, a.arg27, a.arg28, a.arg29, a.arg30, a.arg31, a.arg32, a.arg33, a.arg34, a.arg35, a.arg36, a.arg37)

/-- The loop's running values with the contents of the two accumulators of the keys' and the values' gradients. -/
structure LoopSt (F : FTy → Type) [FloatOps F] [Named F] where
  a : Cc0While1 F
  d : Vec F S4096x128 .f32
  e : Vec F S4096x128 .f32

/-- The state one trip later; a loop that has ended stays as it is. -/
def nxt (c : Dev nD) (xk xv : Vec F S4096x128 .bf16) (s : LoopSt F) : LoopSt F :=
  open Classical in
  if h : going s.a = 1#1 ∧ k0_chk1 s.a.i s.a.arg16 then
    ⟨(trip c s.a h.2 h.1 xk xv s.d s.e).1,
      s.a.arg14.view.read (Elt F) (s.a.arg14.view.writes (Elt F) (s.a.harg14.unread s.d) (trip c s.a h.2 h.1 xk xv s.d s.e).2.1),
      s.a.arg15.view.read (Elt F) (s.a.arg15.view.writes (Elt F) (s.a.harg15.unread s.e) (trip c s.a h.2 h.1 xk xv s.d s.e).2.2.1)⟩
  else s

theorem nxt_of_going (c : Dev nD) (xk xv : Vec F S4096x128 .bf16) (s : LoopSt F) (hg : going s.a = 1#1) (hk : k0_chk1 s.a.i s.a.arg16) :
    nxt c xk xv s = ⟨(trip c s.a hk hg xk xv s.d s.e).1,
      s.a.arg14.view.read (Elt F) (s.a.arg14.view.writes (Elt F) (s.a.harg14.unread s.d) (trip c s.a hk hg xk xv s.d s.e).2.1),
      s.a.arg15.view.read (Elt F) (s.a.arg15.view.writes (Elt F) (s.a.harg15.unread s.e) (trip c s.a hk hg xk xv s.d s.e).2.2.1)⟩ := by
  unfold nxt; rw [dif_pos ⟨hg, hk⟩]

theorem nxt_of_not (c : Dev nD) (xk xv : Vec F S4096x128 .bf16) (s : LoopSt F) (hg : going s.a ≠ 1#1) : nxt c xk xv s = s := by
  unfold nxt; rw [dif_neg (fun h => hg h.1)]

/-- The loop ends within `k` trips, every one of them at offsets inside the keys. -/
def Ends (c : Dev nD) (xk xv : Vec F S4096x128 .bf16) : ℕ → LoopSt F → Prop
  | 0, s => going s.a ≠ 1#1
  | k + 1, s => going s.a = 1#1 → k0_chk1 s.a.i s.a.arg16 ∧ Ends c xk xv k (nxt c xk xv s)

theorem iter_of_not (c : Dev nD) (xk xv : Vec F S4096x128 .bf16) (s : LoopSt F) (hg : going s.a ≠ 1#1) :
    ∀ k, (nxt c xk xv)^[k] s = s
  | 0 => rfl
  | k + 1 => by rw [Function.iterate_succ_apply, nxt_of_not c xk xv s hg, iter_of_not c xk xv s hg k]

/-- The exit: a loop whose condition fails returns its running values. -/
theorem stop_run (c : Dev nD) (a : Cc0While1 F) (hg : going a ≠ 1#1) (u : Option ℕ) (E : Set ℕ) (K : _ → sProp 𝕄) :
    K (res a) ⊢ wp frame (wpE (defs₀ (F := F)) Variants.nat c u) E (defs₀ (F := F) .tc 1 a) K := by
  show _ ⊢ wp _ _ _ (cc0_while1 a.i a.v188 a.v187 a.arg3 a.harg3 a.arg4 a.harg4 a.v157 a.v159 a.v161 a.v163 a.v140 a.v145 a.v150 a.v155 a.v7 a.v9 a.v80 a.v85 a.v90 a.v95 a.v100 a.v105 a.v110 a.v115 a.v5 a.arg14 a.harg14 a.v120 a.arg15 a.harg15 a.v125 a.v130 a.v135 a.arg16 a.arg17 a.arg18 a.arg19 a.arg20 a.arg21 a.arg22 a.arg23 a.arg24 a.arg25 a.arg26 a.arg27 a.arg28 a.arg29 a.arg30 a.arg31 a.arg32 a.arg33 a.arg34 a.arg35 a.arg36 a.arg37) _
  simp only [cc0_while1_eq_skeleton]; unfold cc0_while1_skel res
  iintro Hk
  sl_exec (disch := sl_exact hg)
  sl_step
  iexact Hk

/-- The whole loop: from any state it runs its trips and returns the last one's values, leaving the accumulators' contents. -/
theorem loop_run (c : Dev nD) (xk xv : Vec F S4096x128 .bf16) (E : Set ℕ) : ∀ (k : ℕ) (s : LoopSt F), Ends c xk xv k s → ∀ K : _ → sProp 𝕄,
    iprop(owns (c : Thread nD τ) s.a.arg3 fullShare xk ∗ owns (c : Thread nD τ) s.a.arg4 fullShare xv
        ∗ owns (c : Thread nD τ) s.a.arg14 fullShare s.d ∗ owns (c : Thread nD τ) s.a.arg15 fullShare s.e
        ∗ (iprop(owns (c : Thread nD τ) s.a.arg3 fullShare xk ∗ owns (c : Thread nD τ) s.a.arg4 fullShare xv
              ∗ owns (c : Thread nD τ) s.a.arg14 fullShare ((nxt c xk xv)^[k] s).d ∗ owns (c : Thread nD τ) s.a.arg15 fullShare ((nxt c xk xv)^[k] s).e)
            -∗ K (res ((nxt c xk xv)^[k] s).a)))
      ⊢ wp frame (wpE (defs₀ (F := F)) Variants.nat c (some k)) E (defs₀ (F := F) .tc 1 s.a) K := by
  intro k
  induction k with
  | zero =>
    intro s hs K
    simp only [Function.iterate_zero, id]
    refine BIBase.Entails.trans ?_ (stop_run c s.a hs (some 0) E K)
    iintro ⟨H3, H4, H14, H15, Hk⟩
    iapply Hk
    isplitl [H3]; · iexact H3
    isplitl [H4]; · iexact H4
    isplitl [H14]; · iexact H14
    iexact H15
  | succ k ih =>
    intro s hs K
    by_cases hg : going s.a = 1#1
    · obtain ⟨hk, hE⟩ := hs hg
      rw [Function.iterate_succ_apply]
      have hn := nxt_of_going c xk xv s hg hk
      have ih' := ih (nxt c xk xv s) hE
      rw [hn] at ih' ⊢
      refine BIBase.Entails.trans ?_ ((trip c s.a hk hg xk xv s.d s.e).2.2.2 (some (k + 1)) E K)
      iintro ⟨H3, H4, H14, H15, Hk⟩
      isplitl [H3]; · iexact H3
      isplitl [H4]; · iexact H4
      isplitl [H14]; · iexact H14
      isplitl [H15]; · iexact H15
      iintro ⟨H3, H4, H14, H15⟩
      iapply (wp_call (c := (c : Thread nD τ)) (𝒱 := Variants.nat) (v := k) (hv := fun u hu => by cases hu; exact Nat.lt_succ_self k))
      iapply ih'
      isplitl [H3]; · iexact H3
      isplitl [H4]; · iexact H4
      isplitl [H14]
      · unfold owns; iexists _; isplitr; · ipureintro; rfl
        iexact H14
      isplitl [H15]
      · unfold owns; iexists _; isplitr; · ipureintro; rfl
        iexact H15
      iintro ⟨H3, H4, H14, H15⟩
      sl_step
      iapply Hk
      isplitl [H3]; · iexact H3
      isplitl [H4]; · iexact H4
      isplitl [H14]; · iexact H14
      iexact H15
    · rw [iter_of_not c xk xv s hg]
      refine BIBase.Entails.trans ?_ (stop_run c s.a hg (some (k + 1)) E K)
      iintro ⟨H3, H4, H14, H15, Hk⟩
      iapply Hk
      isplitl [H3]; · iexact H3
      isplitl [H4]; · iexact H4
      isplitl [H14]; · iexact H14
      iexact H15

end Cert.AttnKIdeal.Hand
-- ==== Proof.AttnBody.lean ====
module

public import proofs.«01_k».proof.Proof.AttnLoop
public import Idealize.ShloMosaic.Lib.WritesUnit
public import Idealize.ShloMosaic.Lib.WholeRead
public import proofs.«01_k».proof.Proof.Gen.AttnKIdeal.Points
public import Idealize.ShloMosaic.Lib.Pipeline.FrameBody
public import Idealize.ShloMosaic.Lib.Ring
public import Idealize.ShloMosaic.Lib.Tactic
public import Idealize.ShloMosaic.Lib.Claim

@[expose] public section

set_option maxRecDepth 16384

noncomputable section

namespace Cert.AttnKIdeal.Hand

open Cert.AttnKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The kernel's memrefs at one grid point: eight input blocks, four output blocks and two scratch buffers. -/
structure Mems where
  a2 : Memref sig .tc .vmem S512x128 .bf16
  h2 : a2.IsWhole
  a3 : Memref sig .tc .vmem S4096x128 .bf16
  h3 : a3.IsWhole
  a4 : Memref sig .tc .vmem S4096x128 .bf16
  h4 : a4.IsWhole
  a5 : Memref sig .tc .vmem S512x128 .f32
  h5 : a5.IsWhole
  a6 : Memref sig .tc .vmem S512x128 .f32
  h6 : a6.IsWhole
  a7 : Memref sig .tc .vmem S1x128 .f32
  h7 : a7.IsWhole
  a8 : Memref sig .tc .vmem S256x256 .bf16
  h8 : a8.IsWhole
  a9 : Memref sig .tc .vmem S256x256 .bf16
  h9 : a9.IsWhole
  a10 : Memref sig .tc .vmem S512x128 .bf16
  h10 : a10.IsWhole
  a11 : Memref sig .tc .vmem S4096x128 .bf16
  h11 : a11.IsWhole
  a12 : Memref sig .tc .vmem S4096x128 .bf16
  h12 : a12.IsWhole
  a13 : Memref sig .tc .vmem S8x128 .f32
  h13 : a13.IsWhole
  a14 : Memref sig .tc .vmem S4096x128 .f32
  h14 : a14.IsWhole
  a15 : Memref sig .tc .vmem S4096x128 .f32
  h15 : a15.IsWhole

/-- The contents of the input blocks. -/
structure Blks (F : FTy → Type) where
  x2 : Vec F S512x128 .bf16
  x3 : Vec F S4096x128 .bf16
  x4 : Vec F S4096x128 .bf16
  x5 : Vec F S512x128 .f32
  x6 : Vec F S512x128 .f32
  x7 : Vec F S1x128 .f32
  x8 : Vec F S256x256 .bf16
  x9 : Vec F S256x256 .bf16

omit [FloatOps F] [Named F] in
/-- A buffer into which a piece covering all of it was written last holds that piece. -/
theorem read_whole_piece {s : Shape} {e : EltTy} (m : Memref sig .tc .vmem s e) {f : m.view.ty.Contents (Elt F)}
    {off : Fin s.rank → ℕ} {inb : ∀ a, off a + s.size a ≤ s.size a} {v : Vec F s e} {L : List (View.Piece (Elt F) s e)} :
    m.view.read (Elt F) (m.view.writes (Elt F) f ((⟨Rect.unit off s.size inb, v⟩ : View.Piece (Elt F) s e) :: L)) = v := by
  have hoff : ∀ a, off a = 0 := fun a => by have := inb a; omega
  funext y
  exact View.read_writes_cons_unit_of_mem m.view f inb v L y y rfl (fun a => by rw [hoff a, Nat.zero_add])

omit [FloatOps F] [Named F] in
/-- The same of a load of the whole buffer. -/
theorem load_whole {s : Shape} {e : EltTy} {m : Memref sig .tc .vmem s e} (h : m.IsWhole) (X : Vec F s e)
    {off : Fin s.rank → ℕ} {inb : ∀ a, off a + s.size a ≤ s.size a} :
    m.view.readAt (Elt F) (Rect.unit off s.size inb).toLoadRect (h.unread X) = X := by
  have hoff : off = fun _ => 0 := funext fun a => by have := inb a; omega
  subst hoff
  funext y
  rw [h.readAt_unread]
  congr 1
  funext a
  apply Fin.ext
  simp [LoadRect.idx, Rect.toLoadRect, Rect.unit]

/-- Every trip of the loop at a grid point is at offsets inside the keys, and there are at most eleven. -/
theorem trips_ok : ∀ i : grid0.Coords, (∀ n : Fin 11, Scalar.cmpi .slt (BitVec.ofNat 32 n.val) (nTrips i) = 1#1 → k0_chk1 i (BitVec.ofNat 32 n.val))
    ∧ Scalar.cmpi .slt 11#32 (nTrips i) ≠ 1#1 := by
  decide +kernel

theorem slt_of_going (a : Cc0While1 F) (h : going a = 1#1) : Scalar.cmpi .slt a.arg16 (nTrips a.i) = 1#1 := by
  unfold going at h
  revert h
  generalize Scalar.cmpi .slt a.arg16 (nTrips a.i) = p
  generalize Scalar.cmpi .sgt a.arg17 0#32 = q
  revert p q; decide

/-- From a record at trip `n`, the loop ends within `11 - n` more trips. -/
theorem ends_from (c : Dev nD) (xk xv : Vec F S4096x128 .bf16) : ∀ (k n : ℕ) (s : LoopSt F), n + k = 11 → s.a.arg16 = BitVec.ofNat 32 n →
    Ends c xk xv k s
  | 0, n, s, hn, ha => fun hg => (trips_ok s.a.i).2 (by
      have := slt_of_going s.a hg
      rw [ha, show n = 11 by omega] at this; exact this)
  | k + 1, n, s, hn, ha => fun hg => by
      have hs := slt_of_going s.a hg
      have hk : k0_chk1 s.a.i s.a.arg16 := by
        rw [ha] at hs ⊢; exact (trips_ok s.a.i).1 ⟨n, by omega⟩ hs
      refine ⟨hk, ends_from c xk xv k (n + 1) _ (by omega) ?_⟩
      rw [nxt_of_going c xk xv s hg hk]
      show Scalar.addi s.a.arg16 1#32 = _
      rw [ha]; exact (BitVec.ofNat_add n 1).symm

theorem ends (c : Dev nD) (xk xv : Vec F S4096x128 .bf16) (a : Cc0While1 F) (d e : Vec F S4096x128 .f32) (h : a.arg16 = 0#32) :
    Ends c xk xv 11 ⟨a, d, e⟩ := ends_from c xk xv 11 0 _ rfl h

/-- The body's call of the loop, at a record whose trip count is zero: it returns the eleventh state's values. -/
theorem loop_call (c : Dev nD) (xk xv : Vec F S4096x128 .bf16) (E : Set ℕ) {i : grid0.Coords} {v188 : IVec S128x1 32} {v187 : IVec S128x384 32} {arg3 : Memref sig .tc .vmem S4096x128 .bf16} {harg3 : arg3.IsWhole} {arg4 : Memref sig .tc .vmem S4096x128 .bf16} {harg4 : arg4.IsWhole} {v157 : FVec F S256x128 .bf16} {v159 : FVec F S256x128 .bf16} {v161 : FVec F S256x128 .bf16} {v163 : FVec F S256x128 .bf16} {v140 : FVec F S256x128 .bf16} {v145 : FVec F S256x128 .bf16} {v150 : FVec F S256x128 .bf16} {v155 : FVec F S256x128 .bf16} {v7 : FVec F S256x256 .bf16} {v9 : FVec F S256x256 .bf16} {v80 : FVec F S128x1 .f32} {v85 : FVec F S128x1 .f32} {v90 : FVec F S128x1 .f32} {v95 : FVec F S128x1 .f32} {v100 : FVec F S128x1 .f32} {v105 : FVec F S128x1 .f32} {v110 : FVec F S128x1 .f32} {v115 : FVec F S128x1 .f32} {v5 : IVec S384x128 1} {arg14 : Memref sig .tc .vmem S4096x128 .f32} {harg14 : arg14.IsWhole} {v120 : FVec F S256x128 .bf16} {arg15 : Memref sig .tc .vmem S4096x128 .f32} {harg15 : arg15.IsWhole} {v125 : FVec F S256x128 .bf16} {v130 : FVec F S256x128 .bf16} {v135 : FVec F S256x128 .bf16} {arg17 : BitVec 32} {arg18 : FVec F S128x128 .f32} {arg19 : FVec F S128x128 .f32} {arg20 : FVec F S128x128 .f32} {arg21 : FVec F S128x128 .f32} {arg22 : FVec F S128x128 .f32} {arg23 : FVec F S128x128 .f32} {arg24 : FVec F S128x128 .f32} {arg25 : FVec F S128x128 .f32} {arg26 : FVec F S128x128 .f32} {arg27 : FVec F S128x128 .f32} {arg28 : FVec F S128x128 .f32} {arg29 : FVec F S128x128 .f32} {arg30 : FVec F S128x128 .f32} {arg31 : FVec F S128x128 .f32} {arg32 : FVec F S128x128 .f32} {arg33 : FVec F S128x128 .f32} {arg34 : FVec F S128x128 .f32} {arg35 : FVec F S128x128 .f32} {arg36 : FVec F S128x128 .f32} {arg37 : FVec F S128x128 .f32} (d e : Vec F S4096x128 .f32)
    (k : (Λ₀ F).Result (1 : (Λ₀ F).Label) → Prog (TpuEff nD τ sig (Elt F) (Λ₀ F) .tc) PUnit) (Q : PUnit → sProp 𝕄) :
    iprop(owns (c : Thread nD τ) arg3 fullShare xk ∗ owns (c : Thread nD τ) arg4 fullShare xv
        ∗ owns (c : Thread nD τ) arg14 fullShare d ∗ owns (c : Thread nD τ) arg15 fullShare e
        ∗ (iprop(owns (c : Thread nD τ) arg3 fullShare xk ∗ owns (c : Thread nD τ) arg4 fullShare xv
              ∗ owns (c : Thread nD τ) arg14 fullShare ((nxt c xk xv)^[11] ⟨⟨i, v188, v187, arg3, harg3, arg4, harg4, v157, v159, v161, v163, v140, v145, v150, v155, v7, v9, v80, v85, v90, v95, v100, v105, v110, v115, v5, arg14, harg14, v120, arg15, harg15, v125, v130, v135, 0#32, arg17, arg18, arg19, arg20, arg21, arg22, arg23, arg24, arg25, arg26, arg27, arg28, arg29, arg30, arg31, arg32, arg33, arg34, arg35, arg36, arg37⟩, d, e⟩).d ∗ owns (c : Thread nD τ) arg15 fullShare ((nxt c xk xv)^[11] ⟨⟨i, v188, v187, arg3, harg3, arg4, harg4, v157, v159, v161, v163, v140, v145, v150, v155, v7, v9, v80, v85, v90, v95, v100, v105, v110, v115, v5, arg14, harg14, v120, arg15, harg15, v125, v130, v135, 0#32, arg17, arg18, arg19, arg20, arg21, arg22, arg23, arg24, arg25, arg26, arg27, arg28, arg29, arg30, arg31, arg32, arg33, arg34, arg35, arg36, arg37⟩, d, e⟩).e)
            -∗ wp frame (wpE (defs₀ (F := F)) Variants.nat c none) E (k (res ((nxt c xk xv)^[11] ⟨⟨i, v188, v187, arg3, harg3, arg4, harg4, v157, v159, v161, v163, v140, v145, v150, v155, v7, v9, v80, v85, v90, v95, v100, v105, v110, v115, v5, arg14, harg14, v120, arg15, harg15, v125, v130, v135, 0#32, arg17, arg18, arg19, arg20, arg21, arg22, arg23, arg24, arg25, arg26, arg27, arg28, arg29, arg30, arg31, arg32, arg33, arg34, arg35, arg36, arg37⟩, d, e⟩).a)) Q))
      ⊢ wp frame (wpE (defs₀ (F := F)) Variants.nat c none) E (Prog.op (.call (1 : (Λ₀ F).Label) ⟨i, v188, v187, arg3, harg3, arg4, harg4, v157, v159, v161, v163, v140, v145, v150, v155, v7, v9, v80, v85, v90, v95, v100, v105, v110, v115, v5, arg14, harg14, v120, arg15, harg15, v125, v130, v135, 0#32, arg17, arg18, arg19, arg20, arg21, arg22, arg23, arg24, arg25, arg26, arg27, arg28, arg29, arg30, arg31, arg32, arg33, arg34, arg35, arg36, arg37⟩) k) Q := by
  iintro ⟨H3, H4, H14, H15, Hk⟩
  iapply (wp_call (c := (c : Thread nD τ)) (𝒱 := Variants.nat) (v := 11) (bd := none) (hv := fun u hu => by simp at hu))
  iapply (loop_run c xk xv E 11 ⟨⟨i, v188, v187, arg3, harg3, arg4, harg4, v157, v159, v161, v163, v140, v145, v150, v155, v7, v9, v80, v85, v90, v95, v100, v105, v110, v115, v5, arg14, harg14, v120, arg15, harg15, v125, v130, v135, 0#32, arg17, arg18, arg19, arg20, arg21, arg22, arg23, arg24, arg25, arg26, arg27, arg28, arg29, arg30, arg31, arg32, arg33, arg34, arg35, arg36, arg37⟩, d, e⟩ (ends c xk xv ⟨i, v188, v187, arg3, harg3, arg4, harg4, v157, v159, v161, v163, v140, v145, v150, v155, v7, v9, v80, v85, v90, v95, v100, v105, v110, v115, v5, arg14, harg14, v120, arg15, harg15, v125, v130, v135, 0#32, arg17, arg18, arg19, arg20, arg21, arg22, arg23, arg24, arg25, arg26, arg27, arg28, arg29, arg30, arg31, arg32, arg33, arg34, arg35, arg36, arg37⟩ d e rfl))
  isplitl [H3]; · iexact H3
  isplitl [H4]; · iexact H4
  isplitl [H14]; · iexact H14
  isplitl [H15]; · iexact H15
  iexact Hk

set_option maxHeartbeats 8000000 in
/-- The body at a pair's first block of queries: the accumulators are zeroed and the gate gradient's block is written fresh. -/
noncomputable def bodyA (c : Dev nD) (i : grid0.Coords) (M : Mems) (hc1 : (Scalar.cmpi .ne (Scalar.extui (Scalar.cmpi .eq (BitVec.ofNat 32 (i 1).val) 0#32)) (0#32 : BitVec 32) = 1#1)) (hc2 : (k0_cond2 i = 1#1)) (hc3 : ¬ (k0_cond3 i = 1#1)) (hc4 : ¬ (k0_cond4 i = 1#1)) (hc5 : ¬ (k0_cond5 i = 1#1))
    (x : Blks F) :
    Σ' (o10 : Vec F S512x128 .bf16), Σ' (o13 : Vec F S8x128 .f32), Σ' (o14 : Vec F S4096x128 .f32), { o15 : Vec F S4096x128 .f32 //
      ∀ (E : Set ℕ) (K : PUnit → sProp 𝕄),
        iprop(owns (c : Thread nD τ) M.a2 fullShare x.x2 ∗ owns (c : Thread nD τ) M.a3 fullShare x.x3 ∗ owns (c : Thread nD τ) M.a4 fullShare x.x4 ∗ owns (c : Thread nD τ) M.a5 fullShare x.x5 ∗ owns (c : Thread nD τ) M.a6 fullShare x.x6 ∗ owns (c : Thread nD τ) M.a7 fullShare x.x7 ∗ owns (c : Thread nD τ) M.a8 fullShare x.x8 ∗ owns (c : Thread nD τ) M.a9 fullShare x.x9 ∗ (∃ d, owns (c : Thread nD τ) M.a10 fullShare d) ∗ (∃ d, owns (c : Thread nD τ) M.a13 fullShare d) ∗ (∃ d, owns (c : Thread nD τ) M.a14 fullShare d) ∗ (∃ d, owns (c : Thread nD τ) M.a15 fullShare d)
            ∗ (iprop(owns (c : Thread nD τ) M.a2 fullShare x.x2 ∗ owns (c : Thread nD τ) M.a3 fullShare x.x3 ∗ owns (c : Thread nD τ) M.a4 fullShare x.x4 ∗ owns (c : Thread nD τ) M.a5 fullShare x.x5 ∗ owns (c : Thread nD τ) M.a6 fullShare x.x6 ∗ owns (c : Thread nD τ) M.a7 fullShare x.x7 ∗ owns (c : Thread nD τ) M.a8 fullShare x.x8 ∗ owns (c : Thread nD τ) M.a9 fullShare x.x9 ∗ owns (c : Thread nD τ) M.a10 fullShare o10 ∗ owns (c : Thread nD τ) M.a13 fullShare o13 ∗ owns (c : Thread nD τ) M.a14 fullShare o14 ∗ owns (c : Thread nD τ) M.a15 fullShare o15) -∗ K ⟨⟩))
          ⊢ wp frame (wpE (defs₀ (F := F)) Variants.nat c none) E (cc0_attn_bwd i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, %hf10, H10⟩, ⟨%d13, %f13, %hf13, H13⟩, ⟨%d14, %f14, %hf14, H14⟩, ⟨%d15, %f15, %hf15, H15⟩, Hk⟩
    obtain rfl := M.h2.eq_unread hf2; obtain rfl := M.h3.eq_unread hf3; obtain rfl := M.h4.eq_unread hf4; obtain rfl := M.h5.eq_unread hf5; obtain rfl := M.h6.eq_unread hf6; obtain rfl := M.h7.eq_unread hf7; obtain rfl := M.h8.eq_unread hf8; obtain rfl := M.h9.eq_unread hf9
    sl_exec (disch := first | sl_exact hc1 | sl_exact hc2 | sl_exact hc3 | sl_exact hc4 | sl_exact hc5)
    iapply (loop_call c x.x3 x.x4 E _ _)
    isplitl [H3]
    · unfold owns; iexists _; isplitr; · ipureintro; exact M.h3.read_unread _
      iexact H3
    isplitl [H4]
    · unfold owns; iexists _; isplitr; · ipureintro; exact M.h4.read_unread _
      iexact H4
    isplitl [H14]
    · unfold owns; iexists _; isplitr; swap; · iexact H14
      ipureintro; exact read_whole_piece M.a14
    isplitl [H15]
    · unfold owns; iexists _; isplitr; swap; · iexact H15
      ipureintro; exact read_whole_piece M.a15
    unfold owns
    iintro ⟨⟨%g3, %hg3, H3⟩, ⟨%g4, %hg4, H4⟩, ⟨%g14, %hg14, H14⟩, ⟨%g15, %hg15, H15⟩⟩
    obtain rfl := M.h3.eq_unread hg3; obtain rfl := M.h4.eq_unread hg4
    obtain rfl := M.h14.eq_unread hg14; obtain rfl := M.h15.eq_unread hg15
    unfold res
    sl_exec (disch := first | sl_exact hc1 | sl_exact hc2 | sl_exact hc3 | sl_exact hc4 | sl_exact hc5)
    sl_step
    iapply Hk
    isplitl [H2]
    · iexists _; isplitr; swap; · iexact H2
      ipureintro; exact M.h2.read_unread _
    isplitl [H3]
    · iexists _; isplitr; swap; · iexact H3
      ipureintro; exact M.h3.read_unread _
    isplitl [H4]
    · iexists _; isplitr; swap; · iexact H4
      ipureintro; exact M.h4.read_unread _
    isplitl [H5]
    · iexists _; isplitr; swap; · iexact H5
      ipureintro; exact M.h5.read_unread _
    isplitl [H6]
    · iexists _; isplitr; swap; · iexact H6
      ipureintro; exact M.h6.read_unread _
    isplitl [H7]
    · iexists _; isplitr; swap; · iexact H7
      ipureintro; exact M.h7.read_unread _
    isplitl [H8]
    · iexists _; isplitr; swap; · iexact H8
      ipureintro; exact M.h8.read_unread _
    isplitl [H9]
    · iexists _; isplitr; swap; · iexact H9
      ipureintro; exact M.h9.read_unread _
    isplitl [H10]
    · iexists _; isplitr; swap; · iexact H10
      ipureintro; exact read_whole_piece M.a10
    isplitl [H13]
    · iexists _; isplitr; swap; · iexact H13
      ipureintro; exact read_whole_piece M.a13
    isplitl [H14]
    · iexists _; isplitr; swap; · iexact H14
      ipureintro; exact M.h14.read_unread _
    · iexists _; isplitr; swap; · iexact H15
      ipureintro; exact M.h15.read_unread _

set_option maxHeartbeats 8000000 in
/-- The body at a block between the first and the last: the gate gradient's block is added to. -/
noncomputable def bodyB (c : Dev nD) (i : grid0.Coords) (M : Mems) (hc1 : ¬ (Scalar.cmpi .ne (Scalar.extui (Scalar.cmpi .eq (BitVec.ofNat 32 (i 1).val) 0#32)) (0#32 : BitVec 32) = 1#1)) (hc2 : ¬ (k0_cond2 i = 1#1)) (hc3 : (k0_cond3 i = 1#1)) (hc4 : ¬ (k0_cond4 i = 1#1)) (hc5 : ¬ (k0_cond5 i = 1#1))
    (x : Blks F) (x13 : Vec F S8x128 .f32) (x14 x15 : Vec F S4096x128 .f32) :
    Σ' (o10 : Vec F S512x128 .bf16), Σ' (o13 : Vec F S8x128 .f32), Σ' (o14 : Vec F S4096x128 .f32), { o15 : Vec F S4096x128 .f32 //
      ∀ (E : Set ℕ) (K : PUnit → sProp 𝕄),
        iprop(owns (c : Thread nD τ) M.a2 fullShare x.x2 ∗ owns (c : Thread nD τ) M.a3 fullShare x.x3 ∗ owns (c : Thread nD τ) M.a4 fullShare x.x4 ∗ owns (c : Thread nD τ) M.a5 fullShare x.x5 ∗ owns (c : Thread nD τ) M.a6 fullShare x.x6 ∗ owns (c : Thread nD τ) M.a7 fullShare x.x7 ∗ owns (c : Thread nD τ) M.a8 fullShare x.x8 ∗ owns (c : Thread nD τ) M.a9 fullShare x.x9 ∗ (∃ d, owns (c : Thread nD τ) M.a10 fullShare d) ∗ owns (c : Thread nD τ) M.a13 fullShare x13 ∗ owns (c : Thread nD τ) M.a14 fullShare x14 ∗ owns (c : Thread nD τ) M.a15 fullShare x15
            ∗ (iprop(owns (c : Thread nD τ) M.a2 fullShare x.x2 ∗ owns (c : Thread nD τ) M.a3 fullShare x.x3 ∗ owns (c : Thread nD τ) M.a4 fullShare x.x4 ∗ owns (c : Thread nD τ) M.a5 fullShare x.x5 ∗ owns (c : Thread nD τ) M.a6 fullShare x.x6 ∗ owns (c : Thread nD τ) M.a7 fullShare x.x7 ∗ owns (c : Thread nD τ) M.a8 fullShare x.x8 ∗ owns (c : Thread nD τ) M.a9 fullShare x.x9 ∗ owns (c : Thread nD τ) M.a10 fullShare o10 ∗ owns (c : Thread nD τ) M.a13 fullShare o13 ∗ owns (c : Thread nD τ) M.a14 fullShare o14 ∗ owns (c : Thread nD τ) M.a15 fullShare o15) -∗ K ⟨⟩))
          ⊢ wp frame (wpE (defs₀ (F := F)) Variants.nat c none) E (cc0_attn_bwd i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, %hf10, H10⟩, ⟨%f13, %hf13, H13⟩, ⟨%f14, %hf14, H14⟩, ⟨%f15, %hf15, H15⟩, Hk⟩
    obtain rfl := M.h2.eq_unread hf2; obtain rfl := M.h3.eq_unread hf3; obtain rfl := M.h4.eq_unread hf4; obtain rfl := M.h5.eq_unread hf5; obtain rfl := M.h6.eq_unread hf6; obtain rfl := M.h7.eq_unread hf7; obtain rfl := M.h8.eq_unread hf8; obtain rfl := M.h9.eq_unread hf9; obtain rfl := M.h13.eq_unread hf13; obtain rfl := M.h14.eq_unread hf14; obtain rfl := M.h15.eq_unread hf15
    sl_exec (disch := first | sl_exact hc1 | sl_exact hc2 | sl_exact hc3 | sl_exact hc4 | sl_exact hc5)
    iapply (loop_call c x.x3 x.x4 E x14 x15)
    isplitl [H3]
    · unfold owns; iexists _; isplitr; · ipureintro; exact M.h3.read_unread _
      iexact H3
    isplitl [H4]
    · unfold owns; iexists _; isplitr; · ipureintro; exact M.h4.read_unread _
      iexact H4
    isplitl [H14]
    · unfold owns; iexists _; isplitr; · ipureintro; exact M.h14.read_unread _
      iexact H14
    isplitl [H15]
    · unfold owns; iexists _; isplitr; · ipureintro; exact M.h15.read_unread _
      iexact H15
    unfold owns
    iintro ⟨⟨%g3, %hg3, H3⟩, ⟨%g4, %hg4, H4⟩, ⟨%g14, %hg14, H14⟩, ⟨%g15, %hg15, H15⟩⟩
    obtain rfl := M.h3.eq_unread hg3; obtain rfl := M.h4.eq_unread hg4
    obtain rfl := M.h14.eq_unread hg14; obtain rfl := M.h15.eq_unread hg15
    unfold res
    sl_exec (disch := first | sl_exact hc1 | sl_exact hc2 | sl_exact hc3 | sl_exact hc4 | sl_exact hc5)
    sl_step
    iapply Hk
    isplitl [H2]
    · iexists _; isplitr; swap; · iexact H2
      ipureintro; exact M.h2.read_unread _
    isplitl [H3]
    · iexists _; isplitr; swap; · iexact H3
      ipureintro; exact M.h3.read_unread _
    isplitl [H4]
    · iexists _; isplitr; swap; · iexact H4
      ipureintro; exact M.h4.read_unread _
    isplitl [H5]
    · iexists _; isplitr; swap; · iexact H5
      ipureintro; exact M.h5.read_unread _
    isplitl [H6]
    · iexists _; isplitr; swap; · iexact H6
      ipureintro; exact M.h6.read_unread _
    isplitl [H7]
    · iexists _; isplitr; swap; · iexact H7
      ipureintro; exact M.h7.read_unread _
    isplitl [H8]
    · iexists _; isplitr; swap; · iexact H8
      ipureintro; exact M.h8.read_unread _
    isplitl [H9]
    · iexists _; isplitr; swap; · iexact H9
      ipureintro; exact M.h9.read_unread _
    isplitl [H10]
    · iexists _; isplitr; swap; · iexact H10
      ipureintro; exact read_whole_piece M.a10
    isplitl [H13]
    · iexists _; isplitr; swap; · iexact H13
      ipureintro; exact read_whole_piece M.a13
    isplitl [H14]
    · iexists _; isplitr; swap; · iexact H14
      ipureintro; exact M.h14.read_unread _
    · iexists _; isplitr; swap; · iexact H15
      ipureintro; exact M.h15.read_unread _

set_option maxHeartbeats 8000000 in
/-- The body at a pair's last block of queries: besides, the keys' and the values' gradients are stored and the gate gradient's rows summed. -/
noncomputable def bodyC (c : Dev nD) (i : grid0.Coords) (M : Mems) (hc1 : ¬ (Scalar.cmpi .ne (Scalar.extui (Scalar.cmpi .eq (BitVec.ofNat 32 (i 1).val) 0#32)) (0#32 : BitVec 32) = 1#1)) (hc2 : ¬ (k0_cond2 i = 1#1)) (hc3 : (k0_cond3 i = 1#1)) (hc4 : (k0_cond4 i = 1#1)) (hc5 : (k0_cond5 i = 1#1))
    (x : Blks F) (x13 : Vec F S8x128 .f32) (x14 x15 : Vec F S4096x128 .f32) :
    Σ' (o10 : Vec F S512x128 .bf16), Σ' (o11 : Vec F S4096x128 .bf16), Σ' (o12 : Vec F S4096x128 .bf16), Σ' (o13 : Vec F S8x128 .f32), Σ' (o14 : Vec F S4096x128 .f32), { o15 : Vec F S4096x128 .f32 //
      ∀ (E : Set ℕ) (K : PUnit → sProp 𝕄),
        iprop(owns (c : Thread nD τ) M.a2 fullShare x.x2 ∗ owns (c : Thread nD τ) M.a3 fullShare x.x3 ∗ owns (c : Thread nD τ) M.a4 fullShare x.x4 ∗ owns (c : Thread nD τ) M.a5 fullShare x.x5 ∗ owns (c : Thread nD τ) M.a6 fullShare x.x6 ∗ owns (c : Thread nD τ) M.a7 fullShare x.x7 ∗ owns (c : Thread nD τ) M.a8 fullShare x.x8 ∗ owns (c : Thread nD τ) M.a9 fullShare x.x9 ∗ (∃ d, owns (c : Thread nD τ) M.a10 fullShare d) ∗ (∃ d, owns (c : Thread nD τ) M.a11 fullShare d) ∗ (∃ d, owns (c : Thread nD τ) M.a12 fullShare d) ∗ owns (c : Thread nD τ) M.a13 fullShare x13 ∗ owns (c : Thread nD τ) M.a14 fullShare x14 ∗ owns (c : Thread nD τ) M.a15 fullShare x15
            ∗ (iprop(owns (c : Thread nD τ) M.a2 fullShare x.x2 ∗ owns (c : Thread nD τ) M.a3 fullShare x.x3 ∗ owns (c : Thread nD τ) M.a4 fullShare x.x4 ∗ owns (c : Thread nD τ) M.a5 fullShare x.x5 ∗ owns (c : Thread nD τ) M.a6 fullShare x.x6 ∗ owns (c : Thread nD τ) M.a7 fullShare x.x7 ∗ owns (c : Thread nD τ) M.a8 fullShare x.x8 ∗ owns (c : Thread nD τ) M.a9 fullShare x.x9 ∗ owns (c : Thread nD τ) M.a10 fullShare o10 ∗ owns (c : Thread nD τ) M.a11 fullShare o11 ∗ owns (c : Thread nD τ) M.a12 fullShare o12 ∗ owns (c : Thread nD τ) M.a13 fullShare o13 ∗ owns (c : Thread nD τ) M.a14 fullShare o14 ∗ owns (c : Thread nD τ) M.a15 fullShare o15) -∗ K ⟨⟩))
          ⊢ wp frame (wpE (defs₀ (F := F)) Variants.nat c none) E (cc0_attn_bwd i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15) K } := by
  refine ⟨?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, %hf10, H10⟩, ⟨%d11, %f11, %hf11, H11⟩, ⟨%d12, %f12, %hf12, H12⟩, ⟨%f13, %hf13, H13⟩, ⟨%f14, %hf14, H14⟩, ⟨%f15, %hf15, H15⟩, Hk⟩
    obtain rfl := M.h2.eq_unread hf2; obtain rfl := M.h3.eq_unread hf3; obtain rfl := M.h4.eq_unread hf4; obtain rfl := M.h5.eq_unread hf5; obtain rfl := M.h6.eq_unread hf6; obtain rfl := M.h7.eq_unread hf7; obtain rfl := M.h8.eq_unread hf8; obtain rfl := M.h9.eq_unread hf9; obtain rfl := M.h13.eq_unread hf13; obtain rfl := M.h14.eq_unread hf14; obtain rfl := M.h15.eq_unread hf15
    sl_exec (disch := first | sl_exact hc1 | sl_exact hc2 | sl_exact hc3 | sl_exact hc4 | sl_exact hc5)
    iapply (loop_call c x.x3 x.x4 E x14 x15)
    isplitl [H3]
    · unfold owns; iexists _; isplitr; · ipureintro; exact M.h3.read_unread _
      iexact H3
    isplitl [H4]
    · unfold owns; iexists _; isplitr; · ipureintro; exact M.h4.read_unread _
      iexact H4
    isplitl [H14]
    · unfold owns; iexists _; isplitr; · ipureintro; exact M.h14.read_unread _
      iexact H14
    isplitl [H15]
    · unfold owns; iexists _; isplitr; · ipureintro; exact M.h15.read_unread _
      iexact H15
    unfold owns
    iintro ⟨⟨%g3, %hg3, H3⟩, ⟨%g4, %hg4, H4⟩, ⟨%g14, %hg14, H14⟩, ⟨%g15, %hg15, H15⟩⟩
    obtain rfl := M.h3.eq_unread hg3; obtain rfl := M.h4.eq_unread hg4
    obtain rfl := M.h14.eq_unread hg14; obtain rfl := M.h15.eq_unread hg15
    unfold res
    sl_exec (disch := first | sl_exact hc1 | sl_exact hc2 | sl_exact hc3 | sl_exact hc4 | sl_exact hc5)
    sl_step
    iapply Hk
    isplitl [H2]
    · iexists _; isplitr; swap; · iexact H2
      ipureintro; exact M.h2.read_unread _
    isplitl [H3]
    · iexists _; isplitr; swap; · iexact H3
      ipureintro; exact M.h3.read_unread _
    isplitl [H4]
    · iexists _; isplitr; swap; · iexact H4
      ipureintro; exact M.h4.read_unread _
    isplitl [H5]
    · iexists _; isplitr; swap; · iexact H5
      ipureintro; exact M.h5.read_unread _
    isplitl [H6]
    · iexists _; isplitr; swap; · iexact H6
      ipureintro; exact M.h6.read_unread _
    isplitl [H7]
    · iexists _; isplitr; swap; · iexact H7
      ipureintro; exact M.h7.read_unread _
    isplitl [H8]
    · iexists _; isplitr; swap; · iexact H8
      ipureintro; exact M.h8.read_unread _
    isplitl [H9]
    · iexists _; isplitr; swap; · iexact H9
      ipureintro; exact M.h9.read_unread _
    isplitl [H10]
    · iexists _; isplitr; swap; · iexact H10
      ipureintro; exact read_whole_piece M.a10
    isplitl [H11]
    · iexists _; isplitr; swap; · iexact H11
      ipureintro; exact read_whole_piece M.a11
    isplitl [H12]
    · iexists _; isplitr; swap; · iexact H12
      ipureintro; exact read_whole_piece M.a12
    isplitl [H13]
    · iexists _; isplitr; swap; · iexact H13
      ipureintro; exact read_whole_piece M.a13
    isplitl [H14]
    · iexists _; isplitr; swap; · iexact H14
      ipureintro; exact M.h14.read_unread _
    · iexists _; isplitr; swap; · iexact H15
      ipureintro; exact M.h15.read_unread _

end Cert.AttnKIdeal.Hand
-- ==== Proof.AttnFrame.lean ====
module

public import proofs.«01_k».proof.Proof.AttnBody
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.TableIdle
public import Idealize.ShloMosaic.Lib.WordCmp
public import proofs.«01_k».proof.Proof.Gen.AttnKIdeal.Launch

@[expose] public section

set_option maxRecDepth 16384

noncomputable section

namespace Cert.AttnKIdeal.Hand

open Cert.AttnKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "Pts" => Fin (Cfg.N (cfg0 (F := F)))
local notation "𝕄" => MT nD τ sig Unit (Elt F) ℕ (UR sig nD τ) ℕ

variable (m : (ℓ : Loc nD τ sig) → Buf (Elt F) ℓ) (ρ : Dev nD → PrngReg)

/-! ## The host operations before the kernel -/

/-- The host operations before the kernel, in order. -/
abbrev hostAll : List (HloOp τ sig (Elt F)) := List.flatten [hostOps0, hostOps0_1, hostOps0_2, hostOps0_3, hostOps0_4, hostOps0_5, hostOps0_6, hostOps0_7, hostOps0_8, hostOps0_9, hostOps0_10, hostOps0_11, hostOps0_12, hostOps0_13]

/-- The buffers of a core when the kernel is entered. -/
abbrev V (c : Dev nD) (b : Ref sig .tc) : Buf (Elt F) ((c : Thread nD τ).loc b) :=
  StableHlo.after hostAll (fun b => m (c, b)) b

set_option maxHeartbeats 3200000 in
/-- The program is its host operations and then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩)
    (by simp only [List.Forall]; repeat' constructor) main_chain

set_option maxHeartbeats 3200000 in
theorem V_keeps (c : Dev nD) (b : Ref sig .tc) (hb : b = main_arg0 ∨ b = main_arg1 ∨ b = main_arg2) : V m c b = m ((c : Thread nD τ).loc b) := by
  refine StableHlo.after_of_forall_not_mem (b := Proc.devRef .tc b) _ _ (List.forall_iff_forall_mem.mp ?_)
  simp only [hostAll, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil, List.Forall,
    StableHlo.nullary_writes, StableHlo.unary_writes, StableHlo.binary_writes, StableHlo.ternary_writes, StableHlo.reshape_writes, Finset.mem_singleton]
  rcases hb with rfl | rfl | rfl
  all_goals (repeat' apply And.intro)
  all_goals exact StableHlo.devRef_ne_of_ne (by decide)
theorem V_main_arg0 (c : Dev nD) : V m c main_arg0 = m ((c : Thread nD τ).loc main_arg0) := V_keeps m c _ (.inl rfl)
theorem V_main_arg1 (c : Dev nD) : V m c main_arg1 = m ((c : Thread nD τ).loc main_arg1) := V_keeps m c _ (.inr (.inl rfl))
theorem V_main_arg2 (c : Dev nD) : V m c main_arg2 = m ((c : Thread nD τ).loc main_arg2) := V_keeps m c _ (.inr (.inr rfl))

/-! ## The blocks and the points -/

/-- Window `w`'s block at point `t` of its array as the kernel finds it. -/
def iblk (c : Dev nD) (w : Fin (cfg0 (F := F)).W) (t : Pts) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The kernel's memrefs at point `t`. -/
def memsAt (t : Pts) : Mems :=
  ⟨st0_0 t, hstage0_0 (((cfg0 (F := F)).slots t 0).cast nbuf0_0), st0_1 t, hstage0_1 (((cfg0 (F := F)).slots t 1).cast nbuf0_1), st0_2 t, hstage0_2 (((cfg0 (F := F)).slots t 2).cast nbuf0_2), st0_3 t, hstage0_3 (((cfg0 (F := F)).slots t 3).cast nbuf0_3), st0_4 t, hstage0_4 (((cfg0 (F := F)).slots t 4).cast nbuf0_4), st0_5 t, hstage0_5 (((cfg0 (F := F)).slots t 5).cast nbuf0_5), st0_6 t, hstage0_6 (((cfg0 (F := F)).slots t 6).cast nbuf0_6), st0_7 t, hstage0_7 (((cfg0 (F := F)).slots t 7).cast nbuf0_7), st0_8 t, hstage0_8 (((cfg0 (F := F)).slots t 8).cast nbuf0_8), st0_9 t, hstage0_9 (((cfg0 (F := F)).slots t 9).cast nbuf0_9), st0_10 t, hstage0_10 (((cfg0 (F := F)).slots t 10).cast nbuf0_10), st0_11 t, hstage0_11 (((cfg0 (F := F)).slots t 11).cast nbuf0_11), Memref.whole cc0_scratch0, Memref.isWhole_whole _, Memref.whole cc0_scratch1, Memref.isWhole_whole _⟩

theorem bodyAt_eq (t : Pts) : bodyAt0 (F := F) t = cc0_attn_bwd (grid0.coords t) (memsAt (F := F) t).a2 (memsAt (F := F) t).h2 (memsAt (F := F) t).a3 (memsAt (F := F) t).h3 (memsAt (F := F) t).a4 (memsAt (F := F) t).h4 (memsAt (F := F) t).a5 (memsAt (F := F) t).h5 (memsAt (F := F) t).a6 (memsAt (F := F) t).h6 (memsAt (F := F) t).a7 (memsAt (F := F) t).h7 (memsAt (F := F) t).a8 (memsAt (F := F) t).h8 (memsAt (F := F) t).a9 (memsAt (F := F) t).h9 (memsAt (F := F) t).a10 (memsAt (F := F) t).h10 (memsAt (F := F) t).a11 (memsAt (F := F) t).h11 (memsAt (F := F) t).a12 (memsAt (F := F) t).h12 (memsAt (F := F) t).a13 (memsAt (F := F) t).h13 (memsAt (F := F) t).a14 (memsAt (F := F) t).h14 (memsAt (F := F) t).a15 (memsAt (F := F) t).h15 := rfl

/-- The input blocks at point `t`. -/
def blksAt (c : Dev nD) (t : Pts) : Blks F :=
  ⟨iblk m c 0 t, iblk m c 1 t, iblk m c 2 t, iblk m c 3 t, iblk m c 4 t, iblk m c 5 t, iblk m c 6 t, iblk m c 7 t⟩

theorem hc1_iff : ∀ t : Pts, (Scalar.cmpi .ne (Scalar.extui (Scalar.cmpi .eq (BitVec.ofNat 32 ((grid0.coords t) 1).val) 0#32)) (0#32 : BitVec 32) = 1#1) ↔ t.val % 8 = 0 :=
  (by decide +kernel : ∀ t : Fin grid0.N, (Scalar.cmpi .ne (Scalar.extui (Scalar.cmpi .eq (BitVec.ofNat 32 ((grid0.coords t) 1).val) 0#32)) (0#32 : BitVec 32) = 1#1) ↔ t.val % 8 = 0)
theorem hc2_iff : ∀ t : Pts, k0_cond2 (grid0.coords t) = 1#1 ↔ t.val % 8 = 0 :=
  (by decide +kernel : ∀ t : Fin grid0.N, k0_cond2 (grid0.coords t) = 1#1 ↔ t.val % 8 = 0)
theorem hc3_iff : ∀ t : Pts, k0_cond3 (grid0.coords t) = 1#1 ↔ ¬ t.val % 8 = 0 :=
  (by decide +kernel : ∀ t : Fin grid0.N, k0_cond3 (grid0.coords t) = 1#1 ↔ ¬ t.val % 8 = 0)
theorem hc4_iff : ∀ t : Pts, k0_cond4 (grid0.coords t) = 1#1 ↔ t.val % 8 = 7 :=
  (by decide +kernel : ∀ t : Fin grid0.N, k0_cond4 (grid0.coords t) = 1#1 ↔ t.val % 8 = 7)
theorem hc5_iff : ∀ t : Pts, k0_cond5 (grid0.coords t) = 1#1 ↔ t.val % 8 = 7 :=
  (by decide +kernel : ∀ t : Fin grid0.N, k0_cond5 (grid0.coords t) = 1#1 ↔ t.val % 8 = 7)

/-- What a point leaves in the output blocks and the accumulators. -/
structure Outs (F : FTy → Type) where
  o10 : Vec F S512x128 .bf16
  o11 : Vec F S4096x128 .bf16
  o12 : Vec F S4096x128 .bf16
  o13 : Vec F S8x128 .f32
  o14 : Vec F S4096x128 .f32
  o15 : Vec F S4096x128 .f32

/-- Contents of a block nothing was stored into. -/
def unset9 (t : Pts) : Vec F S4096x128 .bf16 := (memsAt (F := F) t).a11.view.read (Elt F) (memsAt (F := F) t).a11.view.junk
def unset10 (t : Pts) : Vec F S4096x128 .bf16 := (memsAt (F := F) t).a12.view.read (Elt F) (memsAt (F := F) t).a12.view.junk

/-- The run of a first block of queries. -/
abbrev runA (c : Dev nD) (t : Pts) (h0 : t.val % 8 = 0) :=
  bodyA c (grid0.coords t) (memsAt (F := F) t) ((hc1_iff (F := F) t).mpr h0) ((hc2_iff (F := F) t).mpr h0) (fun h => (hc3_iff (F := F) t).mp h h0)
    (fun h => by have := (hc4_iff (F := F) t).mp h; omega) (fun h => by have := (hc5_iff (F := F) t).mp h; omega) (blksAt m c t)
/-- The run of a middle block. -/
abbrev runB (c : Dev nD) (t : Pts) (h0 : ¬ t.val % 8 = 0) (h7 : ¬ t.val % 8 = 7) (p : Outs F) :=
  bodyB c (grid0.coords t) (memsAt (F := F) t) (fun h => h0 ((hc1_iff (F := F) t).mp h)) (fun h => h0 ((hc2_iff (F := F) t).mp h)) ((hc3_iff (F := F) t).mpr h0)
    (fun h => h7 ((hc4_iff (F := F) t).mp h)) (fun h => h7 ((hc5_iff (F := F) t).mp h)) (blksAt m c t) p.o13 p.o14 p.o15
/-- The run of a last block. -/
abbrev runC (c : Dev nD) (t : Pts) (h7 : t.val % 8 = 7) (p : Outs F) :=
  bodyC c (grid0.coords t) (memsAt (F := F) t) (fun h => by have := (hc1_iff (F := F) t).mp h; omega) (fun h => by have := (hc2_iff (F := F) t).mp h; omega)
    ((hc3_iff (F := F) t).mpr (by omega)) ((hc4_iff (F := F) t).mpr h7) ((hc5_iff (F := F) t).mpr h7) (blksAt m c t) p.o13 p.o14 p.o15

def outsA (c : Dev nD) (t : Pts) (h0 : t.val % 8 = 0) : Outs F :=
  let r := runA m c t h0
  ⟨r.1, unset9 t, unset10 t, r.2.1, r.2.2.1, r.2.2.2.1⟩
def outsB (c : Dev nD) (t : Pts) (h0 : ¬ t.val % 8 = 0) (h7 : ¬ t.val % 8 = 7) (p : Outs F) : Outs F :=
  let r := runB m c t h0 h7 p
  ⟨r.1, unset9 t, unset10 t, r.2.1, r.2.2.1, r.2.2.2.1⟩
def outsC (c : Dev nD) (t : Pts) (h7 : t.val % 8 = 7) (p : Outs F) : Outs F :=
  let r := runC m c t h7 p
  ⟨r.1, r.2.1, r.2.2.1, r.2.2.2.1, r.2.2.2.2.1, r.2.2.2.2.2.1⟩

/-- What point `n` leaves, from what the point before left. -/
def outsAt (c : Dev nD) : (n : ℕ) → n < (cfg0 (F := F)).N → Outs F
  | 0, hn => outsA m c ⟨0, hn⟩ rfl
  | n + 1, hn =>
    if h0 : (n + 1) % 8 = 0 then outsA m c ⟨n + 1, hn⟩ h0
    else if h7 : (n + 1) % 8 = 7 then outsC m c ⟨n + 1, hn⟩ h7 (outsAt c n (Nat.lt_of_succ_lt hn))
    else outsB m c ⟨n + 1, hn⟩ h0 h7 (outsAt c n (Nat.lt_of_succ_lt hn))

/-- What the point before `t` left. -/
abbrev prevAt (c : Dev nD) (t : Pts) : Outs F := outsAt m c (t.val - 1) (Nat.lt_of_le_of_lt (Nat.sub_le _ _) t.isLt)

theorem outsAt_A (c : Dev nD) (t : Pts) (h0 : t.val % 8 = 0) : outsAt m c t.val t.isLt = outsA m c t h0 := by
  obtain ⟨n, hn⟩ := t
  cases n with
  | zero => rfl
  | succ n => show dite _ _ _ = _; rw [dif_pos h0]

theorem outsAt_B (c : Dev nD) (t : Pts) (h0 : ¬ t.val % 8 = 0) (h7 : ¬ t.val % 8 = 7) : outsAt m c t.val t.isLt = outsB m c t h0 h7 (prevAt m c t) := by
  obtain ⟨n, hn⟩ := t
  cases n with
  | zero => exact absurd rfl h0
  | succ n => show dite _ _ _ = _; rw [dif_neg h0, dif_neg h7]; rfl

theorem outsAt_C (c : Dev nD) (t : Pts) (h7 : t.val % 8 = 7) : outsAt m c t.val t.isLt = outsC m c t h7 (prevAt m c t) := by
  obtain ⟨n, hn⟩ := t
  cases n with
  | zero => exact absurd (show 0 % 8 = 7 from h7) (by decide)
  | succ n => show dite _ _ _ = _; rw [dif_neg (by have : (n + 1) % 8 = 7 := h7; omega), dif_pos h7]; rfl

/-! ## The invariant and the proof data -/

/-- The accumulators' memrefs. -/
abbrev scM0_0 : Memref sig .tc .vmem S4096x128 .f32 := Memref.whole cc0_scratch0
abbrev scM0_1 : Memref sig .tc .vmem S4096x128 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Before point `n`: the accumulators at what the point before left, at anything before the first. -/
def PhiS (c : Dev nD) : (n : ℕ) → n ≤ (cfg0 (F := F)).N → sProp 𝕄
  | 0, _ => Pipeline.ΦA spec0 c
  | n + 1, hn => iprop(iprop(owns (c : Thread nD τ) scM0_0 fullShare ((outsAt m c n hn).o14) ∗ owns (c : Thread nD τ) scM0_1 fullShare ((outsAt m c n hn).o15)) ∗ (∃ r, prngReg c r))

theorem PhiS_zero (c : Dev nD) (n : ℕ) (h : n ≤ (cfg0 (F := F)).N) (hz : n = 0) : PhiS m c n h = Pipeline.ΦA spec0 c := by
  subst hz; rfl
theorem PhiS_succ (c : Dev nD) (n : ℕ) (hn : n < (cfg0 (F := F)).N) :
    PhiS m c (n + 1) hn = iprop(iprop(owns (c : Thread nD τ) scM0_0 fullShare ((outsAt m c n hn).o14) ∗ owns (c : Thread nD τ) scM0_1 fullShare ((outsAt m c n hn).o15)) ∗ (∃ r, prngReg c r)) := rfl
theorem PhiS_pos (c : Dev nD) (n : ℕ) (h : n ≤ (cfg0 (F := F)).N) (hz : n ≠ 0) :
    PhiS m c n h = iprop(iprop(owns (c : Thread nD τ) scM0_0 fullShare ((outsAt m c (n - 1) (by omega)).o14) ∗ owns (c : Thread nD τ) scM0_1 fullShare ((outsAt m c (n - 1) (by omega)).o15)) ∗ (∃ r, prngReg c r)) := by
  cases n with
  | zero => exact absurd rfl hz
  | succ n => rfl

/-- The invariant before any point gives the accumulators at some contents. -/
theorem PhiS_any (c : Dev nD) (n : ℕ) (h : n ≤ (cfg0 (F := F)).N) : PhiS m c n h ⊢ Pipeline.ΦA spec0 c := by
  cases n with
  | zero => exact Idealize.SL.BI.Entails.refl _
  | succ n =>
    rw [PhiS_succ m c n h, PhiA0_eq]
    iintro ⟨⟨HS0, HS1⟩, Hg⟩
    isplitl [HS0 HS1]
    · isplitl [HS0]
      · iexists _; iexact HS0
      iexists _; iexact HS1
    iexact Hg

/-- The proof data of the kernel's pipeline. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).o10
    | ⟨9, _⟩ => (outsAt m c t.val t.isLt).o11
    | ⟨10, _⟩ => (outsAt m c t.val t.isLt).o12
    | ⟨11, _⟩ => (outsAt m c t.val t.isLt).o13
  Φ t := PhiS m c t.val (Nat.le_of_lt_succ t.isLt)
  q w := Pipeline.shareOf spec0 w
  owed _ := 0

theorem A_eq (c : Dev nD) (w : Fin (cfg0 (F := F)).W) : (dats m 0 c).A w = V m c (Pipeline.arrRef spec0 w) := by
  dsimp only [dats]

theorem PhiS_castSucc (c : Dev nD) (t : Pts) :
    (dats m 0 c).Φ t.castSucc = PhiS m c t.val (Nat.le_of_lt t.isLt) := by
  dsimp only [dats]; exact Pipeline.Dat.Φ_castSucc (PhiS m c) t

theorem after0_8 (c : Dev nD) (t : Pts) : (dats m 0 c).after 8 t = (outsAt m c t.val t.isLt).o10 := rfl
theorem after0_9 (c : Dev nD) (t : Pts) : (dats m 0 c).after 9 t = (outsAt m c t.val t.isLt).o11 := rfl
theorem after0_10 (c : Dev nD) (t : Pts) : (dats m 0 c).after 10 t = (outsAt m c t.val t.isLt).o12 := rfl
theorem after0_11 (c : Dev nD) (t : Pts) : (dats m 0 c).after 11 t = (outsAt m c t.val t.isLt).o13 := rfl
set_option maxHeartbeats 3200000 in
/-- The buffers of the inputs hold their blocks. -/
theorem held (c : Dev nD) (t : Pts) : (∀ d, (dats m 0 c).before 0 t d = (blksAt m c t).x2) ∧ (∀ d, (dats m 0 c).before 1 t d = (blksAt m c t).x3)
    ∧ (∀ d, (dats m 0 c).before 2 t d = (blksAt m c t).x4) ∧ (∀ d, (dats m 0 c).before 3 t d = (blksAt m c t).x5)
    ∧ (∀ d, (dats m 0 c).before 4 t d = (blksAt m c t).x6) ∧ (∀ d, (dats m 0 c).before 5 t d = (blksAt m c t).x7)
    ∧ (∀ d, (dats m 0 c).before 6 t d = (blksAt m c t).x8) ∧ (∀ d, (dats m 0 c).before 7 t d = (blksAt m c t).x9) := by
  and_intros <;> exact fun d => ((dats m 0 c).before_in_eq_fetched _ rfl (fun _ => rfl) (fun _ _ _ => rfl) (fun t => by unfold Dat.blockOf; rw [A_eq]; rfl) t d).trans (by unfold Dat.fetched Dat.blockOf blksAt iblk; rw [A_eq]; rfl)

/-- Whether the gate gradient's buffer holds nothing the body stored since it was last written back. -/
def freshTab (n : ℕ) : Bool := n % 8 == 0
theorem freshTab_step : ∀ t : Pts,
    freshTab (t.val + 1) = (((cfg0 (F := F)).win 11).flush t || ((cfg0 (F := F)).idle 11 ((cfg0 (F := F)).grid.coords t) && freshTab t.val)) := by
  intro t
  have h1 : (cfg0 (F := F)).idle 11 ((cfg0 (F := F)).grid.coords t) = false := (by decide +kernel : ∀ t : Fin grid0.N, idle0 11 (grid0.coords t) = false) t
  rw [h1, Bool.false_and, Bool.or_false]
  rw [Bool.eq_iff_iff, flush0_11 t]
  simp only [freshTab, beq_iff_eq]; omega
theorem fresh_eq (t : Pts) : (cfg0 (F := F)).fresh 11 t.val = freshTab t.val :=
  Pipeline.Cfg.fresh_tab (cfg0 (F := F)) 11 freshTab rfl freshTab_step t.val (Nat.le_of_lt t.isLt)

theorem hcarry (c : Dev nD) : ∀ (t : Pts) (_ : t.val ≠ 0), (cfg0 (F := F)).idle 11 (grid0.coords t) = true → (cfg0 (F := F)).fresh 11 t.val = false →
    (dats m 0 c).after 11 t = (dats m 0 c).after 11 ⟨t.val - 1, by omega⟩ := by
  intro t _ hi _
  have h1 : (cfg0 (F := F)).idle 11 (grid0.coords t) = false := (by decide +kernel : ∀ t : Fin grid0.N, idle0 11 (grid0.coords t) = false) t
  rw [h1] at hi; exact absurd hi Bool.false_ne_true

theorem before0_11 (c : Dev nD) (t : Pts) (h0 : ¬ t.val % 8 = 0) (d) : (dats m 0 c).before 11 t d = (prevAt m c t).o13 := by
  rw [Dat.before_out_traj _ 11 rfl (fun _ _ => rfl) (hcarry m c) t.val t rfl d,
    if_neg (by rw [fresh_eq]; simp [freshTab, h0])]
  rfl

/-! ## The body at a point -/

/-- What the body is handed at a point. -/
def bodyPre (c : Dev nD) (t : Pts) (y := memsAt (F := F) t) : sProp 𝕄 :=
  iprop((dats m 0 c).Φ t.castSucc ∗ (dats m 0 c).owesAt () t.castSucc
    ∗ (∃ d, owns (c : Thread nD τ) y.a2 fullShare ((dats m 0 c).before 0 t d)) ∗ (∃ d, owns (c : Thread nD τ) y.a3 fullShare ((dats m 0 c).before 1 t d))
    ∗ (∃ d, owns (c : Thread nD τ) y.a4 fullShare ((dats m 0 c).before 2 t d)) ∗ (∃ d, owns (c : Thread nD τ) y.a5 fullShare ((dats m 0 c).before 3 t d))
    ∗ (∃ d, owns (c : Thread nD τ) y.a6 fullShare ((dats m 0 c).before 4 t d)) ∗ (∃ d, owns (c : Thread nD τ) y.a7 fullShare ((dats m 0 c).before 5 t d))
    ∗ (∃ d, owns (c : Thread nD τ) y.a8 fullShare ((dats m 0 c).before 6 t d)) ∗ (∃ d, owns (c : Thread nD τ) y.a9 fullShare ((dats m 0 c).before 7 t d))
    ∗ (∃ d, owns (c : Thread nD τ) y.a10 fullShare ((dats m 0 c).before 8 t d)) ∗ (∃ d, owns (c : Thread nD τ) y.a11 fullShare ((dats m 0 c).before 9 t d))
    ∗ (∃ d, owns (c : Thread nD τ) y.a12 fullShare ((dats m 0 c).before 10 t d)) ∗ (∃ d, owns (c : Thread nD τ) y.a13 fullShare ((dats m 0 c).before 11 t d)))

/-- What it returns. -/
def bodyPost (c : Dev nD) (t : Pts) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)

/-- A buffer the body leaves at what the proof data say, where it stores into it. -/
theorem leaves_live (c : Dev nD) (w : Fin (cfg0 (F := F)).W) (t : Pts) (h : (cfg0 (F := F)).idle w ((cfg0 (F := F)).grid.coords t) = false) :
    (dats m 0 c).leavesExact w t = owns (c : Thread nD τ) (((cfg0 (F := F)).win w).stage ((cfg0 (F := F)).slots t w)) fullShare ((dats m 0 c).after w t) := by
  unfold Dat.leavesExact
  rw [h]
theorem leaves (c : Dev nD) (t : Pts) (y := memsAt (F := F) t) (hy : y = memsAt t := by rfl) : (dats m 0 c).leavesExact 0 t = owns (c : Thread nD τ) y.a2 fullShare (blksAt m c t).x2 ∧ (dats m 0 c).leavesExact 1 t = owns (c : Thread nD τ) y.a3 fullShare (blksAt m c t).x3
    ∧ (dats m 0 c).leavesExact 2 t = owns (c : Thread nD τ) y.a4 fullShare (blksAt m c t).x4 ∧ (dats m 0 c).leavesExact 3 t = owns (c : Thread nD τ) y.a5 fullShare (blksAt m c t).x5
    ∧ (dats m 0 c).leavesExact 4 t = owns (c : Thread nD τ) y.a6 fullShare (blksAt m c t).x6 ∧ (dats m 0 c).leavesExact 5 t = owns (c : Thread nD τ) y.a7 fullShare (blksAt m c t).x7
    ∧ (dats m 0 c).leavesExact 6 t = owns (c : Thread nD τ) y.a8 fullShare (blksAt m c t).x8 ∧ (dats m 0 c).leavesExact 7 t = owns (c : Thread nD τ) y.a9 fullShare (blksAt m c t).x9
    ∧ (dats m 0 c).leavesExact 8 t = owns (c : Thread nD τ) y.a10 fullShare (outsAt m c t.val t.isLt).o10 := by
  subst hy
  and_intros <;> exact leaves_live m c _ t rfl
theorem leaves_11 (c : Dev nD) (t : Pts) : (dats m 0 c).leavesExact 11 t = owns (c : Thread nD τ) (memsAt (F := F) t).a13 fullShare ((dats m 0 c).after 11 t) :=
  leaves_live m c 11 t ((by decide +kernel : ∀ t : Fin grid0.N, idle0 11 (grid0.coords t) = false) t)
theorem leaves_9_live (c : Dev nD) (t : Pts) (h7 : t.val % 8 = 7) : (dats m 0 c).leavesExact 9 t = owns (c : Thread nD τ) (memsAt (F := F) t).a11 fullShare ((dats m 0 c).after 9 t) :=
  leaves_live m c 9 t ((by decide +kernel : ∀ t : Fin grid0.N, t.val % 8 = 7 → idle0 9 (grid0.coords t) = false) t h7)
theorem leaves_9_idle (c : Dev nD) (t : Pts) (h7 : ¬ t.val % 8 = 7) : (dats m 0 c).leavesExact 9 t = iprop(∃ d, owns (c : Thread nD τ) (memsAt (F := F) t).a11 fullShare ((dats m 0 c).before 9 t d)) :=
  Dat.leavesExact_idle _ 9 t ((by decide +kernel : ∀ t : Fin grid0.N, ¬ t.val % 8 = 7 → idle0 9 (grid0.coords t) = true) t h7)
    (by rw [Bool.eq_false_iff]; exact fun h => h7 ((flush0_9 t).mp h))
theorem leaves_10_live (c : Dev nD) (t : Pts) (h7 : t.val % 8 = 7) : (dats m 0 c).leavesExact 10 t = owns (c : Thread nD τ) (memsAt (F := F) t).a12 fullShare ((dats m 0 c).after 10 t) :=
  leaves_live m c 10 t ((by decide +kernel : ∀ t : Fin grid0.N, t.val % 8 = 7 → idle0 10 (grid0.coords t) = false) t h7)
theorem leaves_10_idle (c : Dev nD) (t : Pts) (h7 : ¬ t.val % 8 = 7) : (dats m 0 c).leavesExact 10 t = iprop(∃ d, owns (c : Thread nD τ) (memsAt (F := F) t).a12 fullShare ((dats m 0 c).before 10 t d)) :=
  Dat.leavesExact_idle _ 10 t ((by decide +kernel : ∀ t : Fin grid0.N, ¬ t.val % 8 = 7 → idle0 10 (grid0.coords t) = true) t h7)
    (by rw [Bool.eq_false_iff]; exact fun h => h7 ((flush0_10 t).mp h))

set_option maxHeartbeats 3200000 in
theorem sound_A (c : Dev nD) (t : Pts) (h0 : t.val % 8 = 0) :
    bodyPre m c t ⊢ wp frame (wpE (defs₀ (F := F)) Variants.nat c none) Set.univ (bodyAt0 t) fun _ => bodyPost m c t := by
  rw [bodyAt_eq]
  unfold bodyPre bodyPost
  simp only [held m c t, leaves m c t, leaves_11, after0_11, show (dats m 0 c).owesAt () t.succ = (dats m 0 c).owesAt () t.castSucc from rfl]
  rw [show (dats m 0 c).Φ t.succ = PhiS m c (t.val + 1) t.isLt from rfl, PhiS_succ m c t.val t.isLt, PhiS_castSucc]
  rw [leaves_9_idle m c t (by omega), leaves_10_idle m c t (by omega), outsAt_A m c t h0]
  refine BIBase.Entails.trans (Idealize.SL.BI.Laws.sep_mono_left (PhiS_any m c _ _)) ?_
  rw [PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runA m c t h0).2.2.2.2 Set.univ _)
  iframe
  isplitl [H8]; · iexists _; iexact H8
  isplitl [H11]; · iexists _; iexact H11
  isplitl [HS0]; · iexact HS0
  isplitl [HS1]; · iexact HS1
  iintro ⟨H0, H1, H2, H3, H4, H5, H6, H7, H8, H11, HS0, HS1⟩
  isplitl [HS0 HS1]; · isplitl [HS0]; · iexact HS0
                       iexact HS1
  iframe
  isplitl [H8]; · iexact H8
  isplitl [H9]; · iexists _; iexact H9
  isplitl [H10]; · iexists _; iexact H10
  iexact H11

set_option maxHeartbeats 3200000 in
theorem sound_B (c : Dev nD) (t : Pts) (h0 : ¬ t.val % 8 = 0) (h7 : ¬ t.val % 8 = 7) :
    bodyPre m c t ⊢ wp frame (wpE (defs₀ (F := F)) Variants.nat c none) Set.univ (bodyAt0 t) fun _ => bodyPost m c t := by
  rw [bodyAt_eq]
  unfold bodyPre bodyPost
  simp only [held m c t, leaves m c t, leaves_11, after0_11, show (dats m 0 c).owesAt () t.succ = (dats m 0 c).owesAt () t.castSucc from rfl]
  rw [show (dats m 0 c).Φ t.succ = PhiS m c (t.val + 1) t.isLt from rfl, PhiS_succ m c t.val t.isLt, PhiS_castSucc]
  rw [leaves_9_idle m c t (by omega), leaves_10_idle m c t (by omega), outsAt_B m c t h0 h7]
  rw [PhiS_pos m c t.val _ (by omega)]
  simp only [before0_11 m c t (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runB m c t h0 h7 (prevAt m c t)).2.2.2.2 Set.univ _)
  iframe
  isplitl [H8]; · iexists _; iexact H8
  isplitl [HS0]; · iexact HS0
  isplitl [HS1]; · iexact HS1
  iintro ⟨H0, H1, H2, H3, H4, H5, H6, H7, H8, H11, HS0, HS1⟩
  isplitl [HS0 HS1]; · isplitl [HS0]; · iexact HS0
                       iexact HS1
  iframe
  isplitl [H8]; · iexact H8
  isplitl [H9]; · iexists _; iexact H9
  isplitl [H10]; · iexists _; iexact H10
  iexact H11

set_option maxHeartbeats 3200000 in
theorem sound_C (c : Dev nD) (t : Pts) (h7 : t.val % 8 = 7) :
    bodyPre m c t ⊢ wp frame (wpE (defs₀ (F := F)) Variants.nat c none) Set.univ (bodyAt0 t) fun _ => bodyPost m c t := by
  rw [bodyAt_eq]
  unfold bodyPre bodyPost
  simp only [held m c t, leaves m c t, leaves_11, after0_11, show (dats m 0 c).owesAt () t.succ = (dats m 0 c).owesAt () t.castSucc from rfl]
  rw [show (dats m 0 c).Φ t.succ = PhiS m c (t.val + 1) t.isLt from rfl, PhiS_succ m c t.val t.isLt, PhiS_castSucc]
  rw [leaves_9_live m c t h7, leaves_10_live m c t h7, after0_9, after0_10, outsAt_C m c t h7]
  rw [PhiS_pos m c t.val _ (by omega)]
  simp only [before0_11 m c t (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runC m c t h7 (prevAt m c t)).2.2.2.2.2.2 Set.univ _)
  iframe
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, H7, H8, H9, H10, H11, HS0, HS1⟩
  isplitl [HS0 HS1]; · isplitl [HS0]; · iexact HS0
                       iexact HS1
  iframe
  isplitl [H8]; · iexact H8
  isplitl [H9]; · iexact H9
  isplitl [H10]; · iexact H10
  iexact H11

theorem sound_body (c : Dev nD) (t : Pts) :
    bodyPre m c t ⊢ wp frame (wpE (defs₀ (F := F)) Variants.nat c none) Set.univ (bodyAt0 t) fun _ => bodyPost m c t := by
  by_cases h0 : t.val % 8 = 0
  · exact sound_A m c t h0
  · by_cases h7 : t.val % 8 = 7
    · exact sound_C m c t h7
    · exact sound_B m c t h0 h7

theorem defs₀_row (t : Pts) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last (cfg0 (F := F)).N) ⊢ Pipeline.ΦA spec0 c := by
  rw [show (dats m 0 c).Φ (Fin.last (cfg0 (F := F)).N) = PhiS m c (cfg0 (F := F)).N (Nat.le_refl _) from rfl]
  exact PhiS_any m c _ _

/-! ## The run and the frame -/

set_option backward.isDefEq.respectTransparency.types false in
/-- Every execution ends, with every array at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.nat m ρ main
    (hbody := fun c => (body_obligation m c).loose) (hq := fun _ _ _ => rfl)
    (howed := fun _ _ => rfl) (V := V m) (hmain := hmain m Variants.nat) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (show ∀ w : Fin 12, (spec0 w).arr.view.ref ≠ main_arg0 from by decide))).trans (V_main_arg0 m c),
      ((h c).1 5).trans (((dats m 0 c).arrAt_in 5 rfl _).trans ((A_eq m c 5).trans (V_main_arg1 m c))),
      ((h c).1 4).trans (((dats m 0 c).arrAt_in 4 rfl _).trans ((A_eq m c 4).trans (V_main_arg2 m c)))⟩) (run_main m ρ)

/-- The frame at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.AttnKIdeal.Hand
-- ==== Proof.AttnClaims.lean ====
module

public import proofs.«01_k».proof.Defs
public import proofs.«01_k».proof.Proof.AttnFrame
public import proofs.«01_k».proof.Proof.AttnWords.Frame
public import proofs.«01_k».proof.Proof.Gen.AttnK
public import proofs.«01_k».proof.Proof.Gen.AttnKIdeal
public import proofs.«01_k».proof.Proof.Gen.AttnRIdeal
public import proofs.«01_k».proof.Proof.Gen.AttnRIdeal.Run
public import Idealize.ShloMosaic.Lib.Claim
public import Idealize.ShloMosaic.Lib.Quiescent

@[expose] public section

set_option maxRecDepth 16384

noncomputable section

namespace Cert.Proof.Attn

open Idealize.ShloMosaic Idealize.ShloMosaic.TcCoe Idealize.SL.Sem

theorem frame : Cert.quiescent_AttnK := fun m ρ _ => Cert.AttnK.Hand.frame m ρ

theorem frame_ideal : Cert.quiescent_AttnKIdeal := fun m ρ _ => Cert.AttnKIdeal.Hand.frame m ρ

theorem frame_ref : Cert.quiescent_AttnRIdeal := fun m ρ _ =>
  (θ_run Cert.AttnRIdeal.defs _ _).mono (fun r h => ⟨fun c => (h c).2.2.2.2, Idealize.ShloMosaic.sem_eq_zero_of_no_sems (by decide) r.2⟩)
    (Cert.AttnRIdeal.Value.run (F := Ideal) m ρ)

theorem preserves : Cert.preserves_AttnK_AttnKIdeal :=
  ⟨IdealRules.named_const.statement _ _ _ _ _ rfl, IdealRules.named_const.statement _ _ _ _ _ rfl⟩

end Cert.Proof.Attn
-- ==== Proof.LayerNorm.lean ====
module

public import Idealize.ShloMosaic.Lib.Pipeline.ValueKit

@[expose] public section

/-! # LayerNorm over the reals

The mathematics that the two LayerNorm gradients of the step share: a row of 1024 finite numbers, its mean, its
centred entries, the reciprocal standard deviation, and the gradient of the normalised row, once in the fused
form the kernels evaluate and once in the form differentiating the forward lines gives.  After it, how finite
extended reals pass through the operations both programs apply to them. -/

noncomputable section

namespace Cert.Proof.LN

open Idealize.ShloMosaic
open scoped BigOperators

/-- The `1e-5` under the square root, as its f32 word reads. -/
def eps : ℝ := (10995116 : ℝ) * 2 ^ (-40 : ℤ)

theorem eps_pos : 0 < eps := by unfold eps; positivity

/-- The residual branch's factor, as its f32 word reads. -/
def alpha : ℝ := (9975792 : ℝ) * 2 ^ (-23 : ℤ)

/-- The mean of a row. -/
def mean (f : Fin 1024 → ℝ) : ℝ := (∑ k, f k) / 1024

/-- A row less its mean. -/
def cen (f : Fin 1024 → ℝ) (j : Fin 1024) : ℝ := f j - mean f

/-- The variance of a row, and the small number under the root. -/
def vare (f : Fin 1024 → ℝ) : ℝ := mean (fun k => cen f k * cen f k) + eps

/-- The reciprocal standard deviation. -/
def rstd (f : Fin 1024 → ℝ) : ℝ := (Real.sqrt (vare f))⁻¹

/-- The normalised row. -/
def xhat (f : Fin 1024 → ℝ) (j : Fin 1024) : ℝ := cen f j * rstd f

/-- The gradient of the normalised row against `d`, fused. -/
def grad (f d : Fin 1024 → ℝ) (j : Fin 1024) : ℝ :=
  rstd f * (d j - mean d - xhat f j * mean (fun k => d k * xhat f k))

theorem vare_pos (f : Fin 1024 → ℝ) : 0 < vare f :=
  add_pos_of_nonneg_of_pos (div_nonneg (Finset.sum_nonneg fun k _ => mul_self_nonneg _) (by norm_num)) eps_pos

theorem rstd_sq (f : Fin 1024 → ℝ) : rstd f * rstd f = 1 / vare f := by
  unfold rstd
  rw [← mul_inv, Real.mul_self_sqrt (vare_pos f).le, one_div]

theorem sum_cen (f : Fin 1024 → ℝ) : ∑ k, cen f k = 0 := by
  simp only [cen, Finset.sum_sub_distrib, Finset.sum_const, Finset.card_univ, Fintype.card_fin, mean]
  simp only [nsmul_eq_mul]
  ring

/-- What the variance's cotangent hands each centred entry. -/
def back (f d : Fin 1024 → ℝ) : ℝ :=
  (∑ k, cen f k * d k) * (-(1 / 2) * (rstd f / vare f)) / 1024

/-- The chain rule's gradient is the fused one. -/
theorem grad_eq (f d : Fin 1024 → ℝ) (j : Fin 1024) :
    d j * rstd f + back f d * (2 * cen f j)
      + ((∑ k, -(d k * rstd f)) + ∑ k, -(back f d * (2 * cen f k))) / 1024 = grad f d j := by
  have h1 : ∑ k, -(d k * rstd f) = -(rstd f * ∑ k, d k) := by
    rw [Finset.mul_sum, ← Finset.sum_neg_distrib]
    exact Finset.sum_congr rfl fun k _ => by ring
  have h2 : ∑ k, -(back f d * (2 * cen f k)) = 0 := by
    have : ∀ k, -(back f d * (2 * cen f k)) = (-(back f d * 2)) * cen f k := fun k => by ring
    simp only [this, ← Finset.mul_sum, sum_cen, mul_zero]
  have h3 : ∑ k, d k * xhat f k = rstd f * ∑ k, cen f k * d k := by
    rw [Finset.mul_sum]
    exact Finset.sum_congr rfl fun k _ => by unfold xhat; ring
  rw [h1, h2]
  unfold grad back
  simp only [mean, h3]
  have hv : rstd f / vare f = rstd f * (rstd f * rstd f) := by rw [rstd_sq]; ring
  rw [hv]
  unfold xhat
  ring

/-! ## Finite extended reals -/

theorem coe_sum {n : ℕ} (f : Fin n → ℝ) : ∑ k, (f k : EReal) = ((∑ k, f k : ℝ) : EReal) :=
  (map_sum (⟨⟨(↑), EReal.coe_zero⟩, EReal.coe_add⟩ : ℝ →+ EReal) f Finset.univ).symm

theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

theorem rsqrt_vare (f : Fin 1024 → ℝ) : Ideal.rsqrt (vare f : EReal) = (rstd f : EReal) := by
  have h := vare_pos f
  rw [Ideal.rsqrt_coe, if_neg h.not_gt, if_neg h.ne']
  rfl

theorem lit_eps : Ideal.ofBits .f32 0x3727C5AC#32 = (eps : EReal) := by
  simp [Ideal.ofBits, Ideal.ieee, eps, -EReal.coe_mul]

theorem lit_alpha : Ideal.ofBits .f32 0x3F9837F0#32 = (alpha : EReal) := by
  simp [Ideal.ofBits, Ideal.ieee, alpha, -EReal.coe_mul]

theorem lit_1024 : Ideal.ofBits .f32 0x44800000#32 = ((1024 : ℝ) : EReal) := by
  simp [Ideal.ofBits, Ideal.ieee, -EReal.coe_mul]; norm_num

theorem lit_inv1024 : Ideal.ofBits .f32 0x3A800000#32 = ((1 / 1024 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_nhalf : Ideal.ofBits .f32 0xBF000000#32 = ((-(1 / 2) : ℝ) : EReal) := by
  simp [Ideal.ofBits, Ideal.ieee, -EReal.coe_mul]; norm_num

theorem lit_top : Ideal.ofBits .f32 0x7F800000#32 = (⊤ : EReal) := by
  simp [Ideal.ofBits, Ideal.ieee]

/-- An entry whose absolute value is below infinity is a real number. -/
theorem real_of_abs_lt (x : EReal) (h : max x (-x) < ⊤) : ((x.toReal : ℝ) : EReal) = x := by
  refine EReal.coe_toReal ?_ ?_
  · rintro rfl; simp at h
  · rintro rfl; simp at h

/-- What the precondition says of one argument: every entry is a real number. -/
theorem real_of_pre {S : Shape} {x y : FVec Ideal S .f32} (h : cmpf .olt (Host.absf x) y = fun _ => 1#1)
    (hy : ∀ i, y i = Ideal.ofBits .f32 0x7F800000#32) (i : S.Idx) : x i = (((x i).toReal : ℝ) : EReal) := by
  have h1 : Ideal.cmp .olt (max (x i : EReal) (-(x i : EReal))) (y i) = 1#1 := congrFun h i
  have h2 : max (x i : EReal) (-(x i : EReal)) < y i := by
    revert h1
    simp only [Ideal.cmp]
    rcases Decidable.em (max (x i : EReal) (-(x i : EReal)) < y i) with h | h <;> simp [h]
  rw [hy, lit_top] at h2
  exact (real_of_abs_lt _ h2).symm

/-- 4096 rows met in 16 tiles of 256, each folded in groups of 8: every row once. -/
theorem sum_rows {M : Type*} [AddCommMonoid M] {N : ℕ} (hN : N = 16) (f : Fin 4096 → M) :
    ∑ l : Fin 8, ∑ t : Fin N, ∑ s : Fin 32, f ⟨t.1 * 256 + (s.1 * 8 + l.1), by omega⟩ = ∑ p, f p := by
  subst hN
  let e : Fin 8 × Fin 16 × Fin 32 ≃ Fin 4096 :=
    { toFun := fun a => ⟨a.2.1.1 * 256 + (a.2.2.1 * 8 + a.1.1), by omega⟩
      invFun := fun p => (⟨p.1 % 8, by omega⟩, ⟨p.1 / 256, by omega⟩, ⟨p.1 % 256 / 8, by omega⟩)
      left_inv := fun a => by
        obtain ⟨l, t, s⟩ := a
        refine Prod.ext (Fin.ext ?_) (Prod.ext (Fin.ext ?_) (Fin.ext ?_)) <;> simp <;> omega
      right_inv := fun p => Fin.ext (by simp; omega) }
  rw [← Fintype.sum_equiv e (fun a => f (e a)) f fun _ => rfl, Fintype.sum_prod_type]
  refine Finset.sum_congr rfl fun l _ => ?_
  rw [Fintype.sum_prod_type]
  rfl

/-- A block started at the first of 16 grid points and added to at the others: what the last point adds to, and its own
    part, are all sixteen parts. -/
theorem acc16 {M β : Type*} [AddCommMonoid M] {N : ℕ} (hN : N = 16) (f : ∀ n, n < N → β → M) (g : Fin N → β → M)
    (hA : ∀ t : Fin N, t.val % 16 = 0 → ∀ b, f t.val t.isLt b = g t b)
    (hB : ∀ t : Fin N, 1 ≤ t.val → ¬t.val % 16 = 15 → ∀ b, f t.val t.isLt b = f (t.val - 1) (by omega) b + g t b)
    (b : β) (t : Fin N) (ht : t.val = 15) :
    f (t.val - 1) (by omega) b + g t b = ∑ s : Fin N, g s b := by
  subst hN
  have h : ∀ n (hn : n < 15), f n (by omega) b = ∑ s : Fin (n + 1), g ⟨s.1, by omega⟩ b := by
    intro n
    induction n with
    | zero => exact fun _ => (hA ⟨0, by omega⟩ rfl b).trans (by simp)
    | succ n ih =>
      intro hn
      rw [Fin.sum_univ_castSucc, hB ⟨n + 1, by omega⟩ (by simp) (by simp; omega) b]
      exact congrArg (· + _) (ih (by omega))
  obtain ⟨n, hn⟩ := t
  simp only at ht
  subst ht
  rw [Fin.sum_univ_castSucc]
  exact congrArg (· + _) (h 14 (by omega))

end Cert.Proof.LN
-- ==== Proof.AttnMath.lean ====
/- The stick-breaking attention's gradient over the reals: what a head's row of queries does to every key. -/
module

public import Idealize.ShloMosaic.Lib.Pipeline.ValueKit
public import proofs.«01_k».proof.Proof.LayerNorm

@[expose] public section

noncomputable section

open Idealize.ShloMosaic

namespace Cert.Proof.Attn

/-- `log (1 + e^x)`, as both programs compute it. -/
def sp (x : ℝ) : ℝ := max x 0 + Real.log (1 + Real.exp (-|x|))
/-- The sigmoid, as the exponential of its logarithm. -/
def sg (x : ℝ) : ℝ := Real.exp (x - sp x)

theorem sp_neg (x : ℝ) : sp (-x) = sp x - x := by
  unfold sp
  rw [abs_neg]
  rcases le_total x 0 with h | h
  · rw [max_eq_left (by linarith), max_eq_right h]; ring
  · rw [max_eq_right (by linarith), max_eq_left h]; ring

theorem exp_sp (x : ℝ) : Real.exp (sp x) = 1 + Real.exp x := by
  unfold sp
  rw [Real.exp_add, Real.exp_log (by positivity)]
  rcases le_total x 0 with h | h
  · rw [max_eq_right h, abs_of_nonpos h, Real.exp_zero]; simp
  · rw [max_eq_left h, abs_of_nonneg h, mul_add, mul_one, ← Real.exp_add]; simp [add_comm]

theorem sg_neg (x : ℝ) : sg (-x) = 1 - sg x := by
  unfold sg
  have h : Real.exp x + 1 ≠ 0 := by positivity
  rw [sp_neg, Real.exp_sub, Real.exp_sub, Real.exp_sub, exp_sp, Real.exp_neg, add_comm 1]
  field_simp
  ring

/-- A sum over the keys from `x` on: the keys from `e` on, and those of a chunk at `st` that ends there. -/
theorem from_chunk (F : Fin 4096 → ℝ) (st e x : ℕ) (hx : st ≤ x) (hxe : x ≤ e) (he : e ≤ st + 384) (hst : st + 384 ≤ 4096) :
    (∑ s : Fin 4096, if e ≤ s.val then F s else 0) + ∑ c : Fin 384, (if x ≤ st + c.val ∧ st + c.val < e then F ⟨st + c.val, by omega⟩ else 0)
      = ∑ s : Fin 4096, if x ≤ s.val then F s else 0 := by
  have h2 : ∑ c : Fin 384, (if x ≤ st + c.val ∧ st + c.val < e then F ⟨st + c.val, by omega⟩ else 0)
      = ∑ s : Fin 4096, if x ≤ s.val ∧ s.val < e then F s else 0 := by
    refine Fintype.sum_of_injective (fun c : Fin 384 => (⟨st + c.val, by omega⟩ : Fin 4096)) (fun a b h => Fin.ext (by have := congrArg Fin.val h; simp only at this; omega)) _ _ (fun s hs => ?_) (fun c => rfl)
    rw [if_neg]
    rintro ⟨h1, h2⟩
    exact hs ⟨⟨s.val - st, by omega⟩, Fin.ext (by simp only; omega)⟩
  rw [h2, ← Finset.sum_add_distrib]
  refine Finset.sum_congr rfl fun s _ => ?_
  split_ifs <;> first | omega | simp

/-- A head's sum over its 64 columns. -/
def hsum (A B : Fin 512 → ℝ) (H : Fin 8) : ℝ := ∑ d : Fin 64, A ⟨64 * H.val + d.val, by omega⟩ * B ⟨64 * H.val + d.val, by omega⟩

/-- A column's head. -/
def head (l : Fin 512) : Fin 8 := ⟨l.val / 64, by omega⟩

section Spec
variable (Q K V D : Fin 4096 → Fin 512 → ℝ)

/-- The score. -/
def z (H : Fin 8) (t s : Fin 4096) : ℝ := hsum (Q t) (K s) H * (1 / 8)
/-- The sticks' logarithms broken off between a key and the query. -/
def suf (H : Fin 8) (t s : Fin 4096) : ℝ := ∑ u : Fin 4096, if s.val + 1 ≤ u.val then (if u.val < t.val then sp (z Q K H t u) else 0) else 0
/-- The attention's weight. -/
def att (H : Fin 8) (t s : Fin 4096) : ℝ := if s.val < t.val then Real.exp (z Q K H t s - sp (z Q K H t s) - suf Q K H t s) else 0
/-- The weight times its gradient. -/
def gr (H : Fin 8) (t s : Fin 4096) : ℝ := att Q K H t s * hsum (D t) (V s) H
/-- The score's gradient. -/
def dz (H : Fin 8) (t s : Fin 4096) : ℝ :=
  if s.val < t.val then gr Q K V D H t s - sg (z Q K H t s) * (gr Q K V D H t s + ∑ u : Fin 4096, if u.val < s.val then gr Q K V D H t u else 0) else 0
/-- The attention's output. -/
def out (t : Fin 4096) (l : Fin 512) : ℝ := ∑ s, att Q K (head l) t s * V s l
/-- The gradients of the queries, the keys and the values. -/
def dq (t : Fin 4096) (l : Fin 512) : ℝ := (∑ s, dz Q K V D (head l) t s * K s l) * (1 / 8)
def dk (s : Fin 4096) (l : Fin 512) : ℝ := (∑ t, dz Q K V D (head l) t s * Q t l) * (1 / 8)
def dv (s : Fin 4096) (l : Fin 512) : ℝ := ∑ t, att Q K (head l) t s * D t l

/-- The sum of a row's weights times their gradients is the row of the output's gradient times the output. -/
theorem total (H : Fin 8) (t : Fin 4096) : hsum (D t) (out Q K V t) H = ∑ s, gr Q K V D H t s := by
  unfold hsum out gr hsum
  have hh : ∀ d : Fin 64, head ⟨64 * H.val + d.val, by omega⟩ = H := fun d => Fin.ext (by simp only [head]; omega)
  simp only [hh, Finset.mul_sum]
  rw [Finset.sum_comm]
  refine Finset.sum_congr rfl fun s _ => Finset.sum_congr rfl fun d _ => by ring

/-- What precedes a key is the row's total less what comes from the key on. -/
theorem before (H : Fin 8) (t : Fin 4096) (s : ℕ) : (∑ u, gr Q K V D H t u) - (∑ u : Fin 4096, if s ≤ u.val then gr Q K V D H t u else 0)
    = ∑ u : Fin 4096, if u.val < s then gr Q K V D H t u else 0 := by
  rw [← Finset.sum_sub_distrib]
  refine Finset.sum_congr rfl fun u _ => ?_
  split_ifs <;> first | omega | simp

end Spec

/-- The lower and the upper half of a sum over 128 lanes. -/
theorem half_lo (f : Fin 128 → ℝ) : (∑ l : Fin 128, if l.val < 64 then f l else 0) = ∑ d : Fin 64, f ⟨d.val, by omega⟩ := by
  rw [Fin.sum_univ_add (a := 64) (b := 64) (fun l : Fin (64 + 64) => if l.val < 64 then f l else 0)]
  simp
  rfl
theorem half_hi (f : Fin 128 → ℝ) : (∑ l : Fin 128, if l.val < 64 then 0 else f l) = ∑ d : Fin 64, f ⟨64 + d.val, by omega⟩ := by
  rw [Fin.sum_univ_add (a := 64) (b := 64) (fun l : Fin (64 + 64) => if l.val < 64 then 0 else f l)]
  simp
  rfl

end Cert.Proof.Attn
end
-- ==== Proof.PobRun.lean ====
module

public import proofs.«01_k».proof.Proof.Gen.PobKIdeal.Frame.RunA
public import proofs.«01_k».proof.Proof.Gen.PobKIdeal.Frame.RunB
public import proofs.«01_k».proof.Proof.Gen.PobKIdeal.Frame.RunC
public import Idealize.ShloMosaic.Lib.Claim

/-! The frame of the convolution gate's backward kernel: what every grid point leaves in the output blocks, the
accumulators and the carried head rows, as a recursion over the sixteen points with three kinds of point (the first,
the middle ones, the last). -/

@[expose] public section

set_option maxRecDepth 16384

noncomputable section

namespace Cert.PobKIdeal.Hand

open Cert.PobKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: the four row blocks, the four accumulators and the carried head rows. -/
structure Outs (F : FTy → Type) where
  o6 : Vec F S256x512 .bf16
  o7 : Vec F S256x512 .bf16
  o8 : Vec F S256x512 .bf16
  o9 : Vec F S256x512 .f32
  o10 : Vec F S8x512 .f32
  o11 : Vec F S8x512 .f32
  o12 : Vec F S8x512 .f32
  o13 : Vec F S8x512 .f32
  s0 : Vec F S8x512 .f32

/-- The run of a first point. -/
abbrev runA (c : Dev nD) (t : Fin cfg0.N) (hz : t.val % 16 = 0) (hp : ¬1 ≤ t.val) (hl : ¬t.val % 16 = 15) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
    ((hcond0_0 t).mpr hz) ((hcond0_1 t).mpr hz) (fun h => hp ((hcond0_2 t).mp h)) (fun h => hl ((hcond0_3 t).mp h)) ((hcond0_4 t).mpr hz) (fun h => hp ((hcond0_5 t).mp h)) (fun h => hl ((hcond0_6 t).mp h)) ((hcond0_7 t).mpr hz) (fun h => hp ((hcond0_8 t).mp h)) (fun h => hl ((hcond0_9 t).mp h)) ((hcond0_10 t).mpr hz) (fun h => hp ((hcond0_11 t).mp h)) (fun h => hl ((hcond0_12 t).mp h))
    (iblk m c 0 t) (iblk m c 1 t) (iblk m c 2 t) (iblk m c 3 t) (iblk m c 4 t) (iblk m c 5 t)
def outsA (c : Dev nD) (t : Fin cfg0.N) (hz : t.val % 16 = 0) (hp : ¬1 ≤ t.val) (hl : ¬t.val % 16 = 15) : Outs F :=
  let r := runA m c t hz hp hl
  ⟨VO0_6.read (Elt F) (VO0_6.writes (Elt F) VO0_6.junk r.1),
    VO0_7.read (Elt F) (VO0_7.writes (Elt F) VO0_7.junk r.2.1),
    VO0_8.read (Elt F) (VO0_8.writes (Elt F) VO0_8.junk r.2.2.1),
    VO0_9.read (Elt F) (VO0_9.writes (Elt F) VO0_9.junk r.2.2.2.1),
    VO0_10.read (Elt F) (VO0_10.writes (Elt F) VO0_10.junk r.2.2.2.2.1),
    VO0_11.read (Elt F) (VO0_11.writes (Elt F) VO0_11.junk r.2.2.2.2.2.1),
    VO0_12.read (Elt F) (VO0_12.writes (Elt F) VO0_12.junk r.2.2.2.2.2.2.1),
    VO0_13.read (Elt F) (VO0_13.writes (Elt F) VO0_13.junk r.2.2.2.2.2.2.2.1),
    VS0_0.read (Elt F) (VS0_0.writes (Elt F) VS0_0.junk r.2.2.2.2.2.2.2.2.1)⟩

/-- The run of a middle point. -/
abbrev runB (c : Dev nD) (t : Fin cfg0.N) (hz : ¬t.val % 16 = 0) (hp : 1 ≤ t.val) (hl : ¬t.val % 16 = 15) (p : Outs F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
    (fun h => hz ((hcond0_0 t).mp h)) (fun h => hz ((hcond0_1 t).mp h)) ((hcond0_2 t).mpr hp) (fun h => hl ((hcond0_3 t).mp h)) (fun h => hz ((hcond0_4 t).mp h)) ((hcond0_5 t).mpr hp) (fun h => hl ((hcond0_6 t).mp h)) (fun h => hz ((hcond0_7 t).mp h)) ((hcond0_8 t).mpr hp) (fun h => hl ((hcond0_9 t).mp h)) (fun h => hz ((hcond0_10 t).mp h)) ((hcond0_11 t).mpr hp) (fun h => hl ((hcond0_12 t).mp h))
    (iblk m c 0 t) (iblk m c 1 t) (iblk m c 2 t) (iblk m c 3 t) (iblk m c 4 t) (iblk m c 5 t) p.o10 p.o11 p.o12 p.o13 p.s0
def outsB (c : Dev nD) (t : Fin cfg0.N) (hz : ¬t.val % 16 = 0) (hp : 1 ≤ t.val) (hl : ¬t.val % 16 = 15) (p : Outs F) : Outs F :=
  let r := runB m c t hz hp hl p
  ⟨VO0_6.read (Elt F) (VO0_6.writes (Elt F) VO0_6.junk r.1),
    VO0_7.read (Elt F) (VO0_7.writes (Elt F) VO0_7.junk r.2.1),
    VO0_8.read (Elt F) (VO0_8.writes (Elt F) VO0_8.junk r.2.2.1),
    VO0_9.read (Elt F) (VO0_9.writes (Elt F) VO0_9.junk r.2.2.2.1),
    VO0_10.read (Elt F) (VO0_10.writes (Elt F) VO0_10.junk r.2.2.2.2.1),
    VO0_11.read (Elt F) (VO0_11.writes (Elt F) VO0_11.junk r.2.2.2.2.2.1),
    VO0_12.read (Elt F) (VO0_12.writes (Elt F) VO0_12.junk r.2.2.2.2.2.2.1),
    VO0_13.read (Elt F) (VO0_13.writes (Elt F) VO0_13.junk r.2.2.2.2.2.2.2.1),
    VS0_0.read (Elt F) (VS0_0.writes (Elt F) VS0_0.junk r.2.2.2.2.2.2.2.2.1)⟩

/-- The run of a last point. -/
abbrev runC (c : Dev nD) (t : Fin cfg0.N) (hz : ¬t.val % 16 = 0) (hp : 1 ≤ t.val) (hl : t.val % 16 = 15) (p : Outs F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
    (fun h => hz ((hcond0_0 t).mp h)) (fun h => hz ((hcond0_1 t).mp h)) ((hcond0_2 t).mpr hp) ((hcond0_3 t).mpr hl) (fun h => hz ((hcond0_4 t).mp h)) ((hcond0_5 t).mpr hp) ((hcond0_6 t).mpr hl) (fun h => hz ((hcond0_7 t).mp h)) ((hcond0_8 t).mpr hp) ((hcond0_9 t).mpr hl) (fun h => hz ((hcond0_10 t).mp h)) ((hcond0_11 t).mpr hp) ((hcond0_12 t).mpr hl)
    (iblk m c 0 t) (iblk m c 1 t) (iblk m c 2 t) (iblk m c 3 t) (iblk m c 4 t) (iblk m c 5 t) p.o10 p.o11 p.o12 p.o13 p.s0
def outsC (c : Dev nD) (t : Fin cfg0.N) (hz : ¬t.val % 16 = 0) (hp : 1 ≤ t.val) (hl : t.val % 16 = 15) (p : Outs F) : Outs F :=
  let r := runC m c t hz hp hl p
  ⟨VO0_6.read (Elt F) (VO0_6.writes (Elt F) VO0_6.junk r.1),
    VO0_7.read (Elt F) (VO0_7.writes (Elt F) VO0_7.junk r.2.1),
    VO0_8.read (Elt F) (VO0_8.writes (Elt F) VO0_8.junk r.2.2.1),
    VO0_9.read (Elt F) (VO0_9.writes (Elt F) VO0_9.junk r.2.2.2.1),
    VO0_10.read (Elt F) (VO0_10.writes (Elt F) VO0_10.junk r.2.2.2.2.1),
    VO0_11.read (Elt F) (VO0_11.writes (Elt F) VO0_11.junk r.2.2.2.2.2.1),
    VO0_12.read (Elt F) (VO0_12.writes (Elt F) VO0_12.junk r.2.2.2.2.2.2.1),
    VO0_13.read (Elt F) (VO0_13.writes (Elt F) VO0_13.junk r.2.2.2.2.2.2.2.1),
    VS0_0.read (Elt F) (VS0_0.writes (Elt F) VS0_0.junk r.2.2.2.2.2.2.2.2.1)⟩

/-- What point `n` leaves, from what the point before left. -/
def outsAt (c : Dev nD) : (n : ℕ) → n < cfg0.N → Outs F
  | 0, hn => outsA m c ⟨0, hn⟩ rfl (show ¬1 ≤ 0 by decide) (show ¬0 % 16 = 15 by decide)
  | n + 1, hn =>
    if hl : (n + 1) % 16 = 15 then
      outsC m c ⟨n + 1, hn⟩ (by have : (n + 1) % 16 = 15 := hl; show ¬(n + 1) % 16 = 0; omega) (Nat.succ_le_succ (Nat.zero_le n)) hl (outsAt c n (Nat.lt_of_succ_lt hn))
    else
      outsB m c ⟨n + 1, hn⟩ (by have : n + 1 < 16 := lt_of_lt_of_eq hn N_0; show ¬(n + 1) % 16 = 0; omega) (Nat.succ_le_succ (Nat.zero_le n)) hl (outsAt c n (Nat.lt_of_succ_lt hn))

/-- What the point before `t` left. -/
abbrev prevAt (c : Dev nD) (t : Fin cfg0.N) : Outs F := outsAt m c (t.val - 1) (Nat.lt_of_le_of_lt (Nat.sub_le _ _) t.isLt)

theorem outsAt_A (c : Dev nD) (t : Fin cfg0.N) (hz : t.val % 16 = 0) (hp : ¬1 ≤ t.val) (hl : ¬t.val % 16 = 15) :
    outsAt m c t.val t.isLt = outsA m c t hz hp hl := by
  obtain ⟨n, hn⟩ := t
  cases n with
  | zero => rfl
  | succ n => exact absurd (Nat.succ_le_succ (Nat.zero_le n)) hp

theorem outsAt_B (c : Dev nD) (t : Fin cfg0.N) (hz : ¬t.val % 16 = 0) (hp : 1 ≤ t.val) (hl : ¬t.val % 16 = 15) :
    outsAt m c t.val t.isLt = outsB m c t hz hp hl (prevAt m c t) := by
  obtain ⟨n, hn⟩ := t
  cases n with
  | zero => exact absurd rfl hz
  | succ n => show dite _ _ _ = _; rw [dif_neg hl]; rfl

theorem outsAt_C (c : Dev nD) (t : Fin cfg0.N) (hz : ¬t.val % 16 = 0) (hp : 1 ≤ t.val) (hl : t.val % 16 = 15) :
    outsAt m c t.val t.isLt = outsC m c t hz hp hl (prevAt m c t) := by
  obtain ⟨n, hn⟩ := t
  cases n with
  | zero => exact absurd rfl hz
  | succ n => show dite _ _ _ = _; rw [dif_pos hl]; rfl

/-! ## The invariant and the proof data -/

/-- Before point `n`: the head rows at what the point before left, at anything before the first. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).s0)) ∗ (∃ r, prngReg c r))

theorem PhiS_succ (c : Dev nD) (n : ℕ) (hn : n < cfg0.N) :
    PhiS m c (n + 1) hn = iprop(iprop(owns (c : Thread nD τ) scM0_0 fullShare ((outsAt m c n hn).s0)) ∗ (∃ r, prngReg c r)) := rfl

theorem PhiS_pos (c : Dev nD) (n : ℕ) (h : n ≤ cfg0.N) (hz : 1 ≤ n) :
    PhiS m c n h = iprop(iprop(owns (c : Thread nD τ) scM0_0 fullShare ((outsAt m c (n - 1) (by omega)).s0)) ∗ (∃ r, prngReg c r)) := by
  cases n with
  | zero => exact absurd hz (by decide)
  | succ n => rfl

theorem PhiS_any (c : Dev nD) (n : ℕ) (h : n ≤ cfg0.N) : PhiS m c n h ⊢ Pipeline.ΦA spec0 c := by
  cases n with
  | zero => exact Idealize.SL.BI.Entails.refl _
  | succ n =>
    rw [PhiS_succ m c n h, PhiA0_eq]
    iintro ⟨HS0, Hg⟩
    isplitl [HS0]
    · iexists _; iexact HS0
    iexact Hg

/-- The proof data of the kernel's pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).o6
    | ⟨7, _⟩ => (outsAt m c t.val t.isLt).o7
    | ⟨8, _⟩ => (outsAt m c t.val t.isLt).o8
    | ⟨9, _⟩ => (outsAt m c t.val t.isLt).o9
    | ⟨10, _⟩ => (outsAt m c t.val t.isLt).o10
    | ⟨11, _⟩ => (outsAt m c t.val t.isLt).o11
    | ⟨12, _⟩ => (outsAt m c t.val t.isLt).o12
    | ⟨13, _⟩ => (outsAt m c t.val t.isLt).o13
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_6 (c : Dev nD) (t : Fin cfg0.N) : (dats m 0 c).after 6 t = (outsAt m c t.val t.isLt).o6 := by dsimp only [dats]
theorem after0_7 (c : Dev nD) (t : Fin cfg0.N) : (dats m 0 c).after 7 t = (outsAt m c t.val t.isLt).o7 := by dsimp only [dats]
theorem after0_8 (c : Dev nD) (t : Fin cfg0.N) : (dats m 0 c).after 8 t = (outsAt m c t.val t.isLt).o8 := by dsimp only [dats]
theorem after0_9 (c : Dev nD) (t : Fin cfg0.N) : (dats m 0 c).after 9 t = (outsAt m c t.val t.isLt).o9 := by dsimp only [dats]
theorem after0_10 (c : Dev nD) (t : Fin cfg0.N) : (dats m 0 c).after 10 t = (outsAt m c t.val t.isLt).o10 := by dsimp only [dats]
theorem after0_11 (c : Dev nD) (t : Fin cfg0.N) : (dats m 0 c).after 11 t = (outsAt m c t.val t.isLt).o11 := by dsimp only [dats]
theorem after0_12 (c : Dev nD) (t : Fin cfg0.N) : (dats m 0 c).after 12 t = (outsAt m c t.val t.isLt).o12 := by dsimp only [dats]
theorem after0_13 (c : Dev nD) (t : Fin cfg0.N) : (dats m 0 c).after 13 t = (outsAt m c t.val t.isLt).o13 := by dsimp only [dats]
/-- The buffers of the inputs hold their blocks. -/
theorem held (c : Dev nD) (t : Fin cfg0.N) : (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t)
    ∧ (∀ d, (dats m 0 c).before 4 t d = iblk m c 4 t) ∧ (∀ d, (dats m 0 c).before 5 t d = iblk m c 5 t) :=
  let D := dats m 0 c
  ⟨before0_0_of m D rfl (fun _ => rfl) t, before0_1_of m D rfl (fun _ => rfl) t, before0_2_of m D rfl (fun _ => rfl) t,
    before0_3_of m D rfl (fun _ => rfl) t, before0_4_of m D rfl (fun _ => rfl) t, before0_5_of m D rfl (fun _ => rfl) t⟩

/-- No accumulator is ever left alone. -/
theorem busy : ∀ t : Fin cfg0.N, idle0 10 (grid0.coords t) = false ∧ idle0 11 (grid0.coords t) = false ∧ idle0 12 (grid0.coords t) = false ∧ idle0 13 (grid0.coords t) = false :=
  (by decide +kernel : ∀ t : Fin grid0.N, idle0 10 (grid0.coords t) = false ∧ idle0 11 (grid0.coords t) = false ∧ idle0 12 (grid0.coords t) = false ∧ idle0 13 (grid0.coords t) = false)

/-- After the first point the accumulators hold what the point before left. -/
theorem stale : ∀ t : Fin cfg0.N, 1 ≤ t.val → freshTab0_10 t.val = false ∧ freshTab0_11 t.val = false ∧ freshTab0_12 t.val = false ∧ freshTab0_13 t.val = false :=
  (by decide +kernel : ∀ t : Fin grid0.N, 1 ≤ t.val → freshTab0_10 t.val = false ∧ freshTab0_11 t.val = false ∧ freshTab0_12 t.val = false ∧ freshTab0_13 t.val = false)

theorem before0_10 (c : Dev nD) (t : Fin cfg0.N) (hp : 1 ≤ t.val) (d) : (dats m 0 c).before 10 t d = (prevAt m c t).o10 := by
  rw [Dat.before_out_traj _ 10 rfl (fun _ _ => rfl) (fun t _ hi _ => absurd ((show cfg0.idle 10 (cfg0.grid.coords t) = false from (busy t).1).symm.trans hi) Bool.false_ne_true) t.val t rfl d,
    if_neg (by rw [fresh0_10_eq, (stale t hp).1]; exact Bool.false_ne_true)]
  dsimp only [dats]
theorem before0_11 (c : Dev nD) (t : Fin cfg0.N) (hp : 1 ≤ t.val) (d) : (dats m 0 c).before 11 t d = (prevAt m c t).o11 := by
  rw [Dat.before_out_traj _ 11 rfl (fun _ _ => rfl) (fun t _ hi _ => absurd ((show cfg0.idle 11 (cfg0.grid.coords t) = false from (busy t).2.1).symm.trans hi) Bool.false_ne_true) t.val t rfl d,
    if_neg (by rw [fresh0_11_eq, (stale t hp).2.1]; exact Bool.false_ne_true)]
  dsimp only [dats]
theorem before0_12 (c : Dev nD) (t : Fin cfg0.N) (hp : 1 ≤ t.val) (d) : (dats m 0 c).before 12 t d = (prevAt m c t).o12 := by
  rw [Dat.before_out_traj _ 12 rfl (fun _ _ => rfl) (fun t _ hi _ => absurd ((show cfg0.idle 12 (cfg0.grid.coords t) = false from (busy t).2.2.1).symm.trans hi) Bool.false_ne_true) t.val t rfl d,
    if_neg (by rw [fresh0_12_eq, (stale t hp).2.2.1]; exact Bool.false_ne_true)]
  dsimp only [dats]
theorem before0_13 (c : Dev nD) (t : Fin cfg0.N) (hp : 1 ≤ t.val) (d) : (dats m 0 c).before 13 t d = (prevAt m c t).o13 := by
  rw [Dat.before_out_traj _ 13 rfl (fun _ _ => rfl) (fun t _ hi _ => absurd ((show cfg0.idle 13 (cfg0.grid.coords t) = false from (busy t).2.2.2).symm.trans hi) Bool.false_ne_true) t.val t rfl d,
    if_neg (by rw [fresh0_13_eq, (stale t hp).2.2.2]; exact Bool.false_ne_true)]
  dsimp only [dats]

/-! ## The body at a point -/

/-- A buffer written over completely holds the pieces' contents. -/
theorem owns_of_cover (c : Dev nD) {s : Shape} {e : EltTy} (a : Memref sig .tc .vmem s e) (v : View sig .tc .vmem s e)
    (L : List (View.Piece (Elt F) s e)) (h : ∀ y, ∃ p ∈ L, y ∈ p.1.set := by exact View.cover_of_tiledL _ (Shape.size _) (by sl_kernel_rfl)) :
    iprop(∃ f, a.view.loc (c : Thread nD τ) ↦[a.view.set]{fullShare} a.view.writes (Elt F) f L)
      ⊢ (owns (c : Thread nD τ) a fullShare (v.read (Elt F) (v.writes (Elt F) v.junk L)) : sProp 𝕄) := by
  iintro ⟨%f, H⟩
  unfold owns; iexists _; isplitr
  swap; · iexact H
  ipureintro; exact View.read_writes_of_cover _ _ _ _ _ h

/-- A buffer is left at what the proof data say. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact
  rw [h]
theorem leaves (c : Dev nD) (t : Fin cfg0.N) : (dats m 0 c).leavesExact 0 t = owns (c : Thread nD τ) (ms0_0 t) fullShare (iblk m c 0 t) ∧ (dats m 0 c).leavesExact 1 t = owns (c : Thread nD τ) (ms0_1 t) fullShare (iblk m c 1 t)
    ∧ (dats m 0 c).leavesExact 2 t = owns (c : Thread nD τ) (ms0_2 t) fullShare (iblk m c 2 t) ∧ (dats m 0 c).leavesExact 3 t = owns (c : Thread nD τ) (ms0_3 t) fullShare (iblk m c 3 t)
    ∧ (dats m 0 c).leavesExact 4 t = owns (c : Thread nD τ) (ms0_4 t) fullShare (iblk m c 4 t) ∧ (dats m 0 c).leavesExact 5 t = owns (c : Thread nD τ) (ms0_5 t) fullShare (iblk m c 5 t)
    ∧ (dats m 0 c).leavesExact 6 t = owns (c : Thread nD τ) (ms0_6 t) fullShare (outsAt m c t.val t.isLt).o6 ∧ (dats m 0 c).leavesExact 7 t = owns (c : Thread nD τ) (ms0_7 t) fullShare (outsAt m c t.val t.isLt).o7
    ∧ (dats m 0 c).leavesExact 8 t = owns (c : Thread nD τ) (ms0_8 t) fullShare (outsAt m c t.val t.isLt).o8 ∧ (dats m 0 c).leavesExact 9 t = owns (c : Thread nD τ) (ms0_9 t) fullShare (outsAt m c t.val t.isLt).o9
    ∧ (dats m 0 c).leavesExact 10 t = owns (c : Thread nD τ) (ms0_10 t) fullShare (outsAt m c t.val t.isLt).o10 ∧ (dats m 0 c).leavesExact 11 t = owns (c : Thread nD τ) (ms0_11 t) fullShare (outsAt m c t.val t.isLt).o11
    ∧ (dats m 0 c).leavesExact 12 t = owns (c : Thread nD τ) (ms0_12 t) fullShare (outsAt m c t.val t.isLt).o12 ∧ (dats m 0 c).leavesExact 13 t = owns (c : Thread nD τ) (ms0_13 t) fullShare (outsAt m c t.val t.isLt).o13 := by
  and_intros <;> first | exact leaves_live m c _ t rfl | exact leaves_live m c _ t (busy t).1 | exact leaves_live m c _ t (busy t).2.1 | exact leaves_live m c _ t (busy t).2.2.1 | exact leaves_live m c _ t (busy t).2.2.2

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d))
    ∗ (∃ d, owns (c : Thread nD τ) (ms0_2 t) fullShare ((dats m 0 c).before 2 t d)) ∗ (∃ d, owns (c : Thread nD τ) (ms0_3 t) fullShare ((dats m 0 c).before 3 t d))
    ∗ (∃ d, owns (c : Thread nD τ) (ms0_4 t) fullShare ((dats m 0 c).before 4 t d)) ∗ (∃ d, owns (c : Thread nD τ) (ms0_5 t) fullShare ((dats m 0 c).before 5 t d))
    ∗ (∃ d, owns (c : Thread nD τ) (ms0_6 t) fullShare ((dats m 0 c).before 6 t d)) ∗ (∃ d, owns (c : Thread nD τ) (ms0_7 t) fullShare ((dats m 0 c).before 7 t d))
    ∗ (∃ d, owns (c : Thread nD τ) (ms0_8 t) fullShare ((dats m 0 c).before 8 t d)) ∗ (∃ d, owns (c : Thread nD τ) (ms0_9 t) fullShare ((dats m 0 c).before 9 t d))
    ∗ (∃ d, owns (c : Thread nD τ) (ms0_10 t) fullShare ((dats m 0 c).before 10 t d)) ∗ (∃ d, owns (c : Thread nD τ) (ms0_11 t) fullShare ((dats m 0 c).before 11 t d))
    ∗ (∃ d, owns (c : Thread nD τ) (ms0_12 t) fullShare ((dats m 0 c).before 12 t d)) ∗ (∃ d, owns (c : Thread nD τ) (ms0_13 t) fullShare ((dats m 0 c).before 13 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t)

set_option maxHeartbeats 3200000 in
theorem sound_A (c : Dev nD) (t : Fin cfg0.N) (hz : t.val % 16 = 0) (hp : ¬1 ≤ t.val) (hl : ¬t.val % 16 = 15) :
    bodyPre m c t ⊢ wp frame (wpE (defs₀ (F := F)) Variants.none c none) Set.univ (bodyAt0 t) fun _ => bodyPost m c t := by
  unfold bodyPre bodyPost bodyAt0
  simp only [held m c t, leaves m c t, show (dats m 0 c).owesAt () t.succ = (dats m 0 c).owesAt () t.castSucc from rfl]
  rw [show (dats m 0 c).Φ t.succ = PhiS m c (t.val + 1) t.isLt from rfl, PhiS_succ m c t.val t.isLt, PhiS_castSucc, outsAt_A m c t hz hp hl]
  refine BIBase.Entails.trans (Idealize.SL.BI.Laws.sep_mono_left (PhiS_any m c _ _)) ?_
  rw [PhiA0_eq]
  unfold outsA; dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runA m c t hz hp hl).2.2.2.2.2.2.2.2.2 Set.univ _)
  iframe
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13, HS0⟩
  iframe
  isplitl [HS0]; · iapply (owns_of_cover c _ _ _); iexact HS0
  isplitl [H6]; · iapply (owns_of_cover c _ _ _); iexact H6
  isplitl [H7]; · iapply (owns_of_cover c _ _ _); iexact H7
  isplitl [H8]; · iapply (owns_of_cover c _ _ _); iexact H8
  isplitl [H9]; · iapply (owns_of_cover c _ _ _); iexact H9
  isplitl [H10]; · iapply (owns_of_cover c _ _ _); iexact H10
  isplitl [H11]; · iapply (owns_of_cover c _ _ _); iexact H11
  isplitl [H12]; · iapply (owns_of_cover c _ _ _); iexact H12
  iapply (owns_of_cover c _ _ _); iexact H13

set_option maxHeartbeats 3200000 in
theorem sound_B (c : Dev nD) (t : Fin cfg0.N) (hz : ¬t.val % 16 = 0) (hp : 1 ≤ t.val) (hl : ¬t.val % 16 = 15) :
    bodyPre m c t ⊢ wp frame (wpE (defs₀ (F := F)) Variants.none c none) Set.univ (bodyAt0 t) fun _ => bodyPost m c t := by
  unfold bodyPre bodyPost bodyAt0
  simp only [held m c t, leaves m c t, show (dats m 0 c).owesAt () t.succ = (dats m 0 c).owesAt () t.castSucc from rfl, before0_10 m c t hp, before0_11 m c t hp, before0_12 m c t hp, before0_13 m c t hp]
  rw [show (dats m 0 c).Φ t.succ = PhiS m c (t.val + 1) t.isLt from rfl, PhiS_succ m c t.val t.isLt, PhiS_castSucc, outsAt_B m c t hz hp hl]
  rw [PhiS_pos m c t.val _ hp]
  unfold outsB; dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runB m c t hz hp hl (prevAt m c t)).2.2.2.2.2.2.2.2.2 Set.univ _)
  iframe
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9, H10, H11, H12, H13, HS0⟩
  iframe
  isplitl [HS0]; · iapply (owns_of_cover c _ _ _); iexact HS0
  isplitl [H6]; · iapply (owns_of_cover c _ _ _); iexact H6
  isplitl [H7]; · iapply (owns_of_cover c _ _ _); iexact H7
  isplitl [H8]; · iapply (owns_of_cover c _ _ _); iexact H8
  isplitl [H9]; · iapply (owns_of_cover c _ _ _); iexact H9
  isplitl [H10]; · iapply (owns_of_cover c _ _ _); iexact H10
  isplitl [H11]; · iapply (owns_of_cover c _ _ _); iexact H11
  isplitl [H12]; · iapply (owns_of_cover c _ _ _); iexact H12
  iapply (owns_of_cover c _ _ _); iexact H13

set_option maxHeartbeats 3200000 in
theorem sound_C (c : Dev nD) (t : Fin cfg0.N) (hz : ¬t.val % 16 = 0) (hp : 1 ≤ t.val) (hl : t.val % 16 = 15) :
    bodyPre m c t ⊢ wp frame (wpE (defs₀ (F := F)) Variants.none c none) Set.univ (bodyAt0 t) fun _ => bodyPost m c t := by
  unfold bodyPre bodyPost bodyAt0
  simp only [held m c t, leaves m c t, show (dats m 0 c).owesAt () t.succ = (dats m 0 c).owesAt () t.castSucc from rfl, before0_10 m c t hp, before0_11 m c t hp, before0_12 m c t hp, before0_13 m c t hp]
  rw [show (dats m 0 c).Φ t.succ = PhiS m c (t.val + 1) t.isLt from rfl, PhiS_succ m c t.val t.isLt, PhiS_castSucc, outsAt_C m c t hz hp hl]
  rw [PhiS_pos m c t.val _ hp]
  unfold outsC; dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runC m c t hz hp hl (prevAt m c t)).2.2.2.2.2.2.2.2.2 Set.univ _)
  iframe
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9, H10, H11, H12, H13, HS0⟩
  iframe
  isplitl [HS0]; · iapply (owns_of_cover c _ _ _); iexact HS0
  isplitl [H6]; · iapply (owns_of_cover c _ _ _); iexact H6
  isplitl [H7]; · iapply (owns_of_cover c _ _ _); iexact H7
  isplitl [H8]; · iapply (owns_of_cover c _ _ _); iexact H8
  isplitl [H9]; · iapply (owns_of_cover c _ _ _); iexact H9
  isplitl [H10]; · iapply (owns_of_cover c _ _ _); iexact H10
  isplitl [H11]; · iapply (owns_of_cover c _ _ _); iexact H11
  isplitl [H12]; · iapply (owns_of_cover c _ _ _); iexact H12
  iapply (owns_of_cover c _ _ _); iexact H13

theorem sound_body (c : Dev nD) (t : Fin cfg0.N) :
    bodyPre m c t ⊢ wp frame (wpE (defs₀ (F := F)) Variants.none c none) Set.univ (bodyAt0 t) fun _ => bodyPost m c t := by
  have hN : t.val < 16 := lt_of_lt_of_eq t.isLt N_0
  by_cases hp : 1 ≤ t.val
  · by_cases hl : t.val % 16 = 15
    · exact sound_C m c t (by omega) hp hl
    · exact sound_B m c t (by omega) hp hl
  · exact sound_A m c t (by omega) hp (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := PhiS_any m c cfg0.N (Nat.le_refl _)

/-! ## The run and the frame -/

set_option backward.isDefEq.respectTransparency.types false in
/-- Every execution ends, with every array at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.PobKIdeal.Hand
-- ==== Proof.PobNorm.lean ====
/- The group norm and the short convolution of the output projection's backward kernel, over real numbers, and the kernel's lane blocks. -/
module

public import proofs.«01_k».proof.Proof.PobRun
public import proofs.«01_k».proof.Proof.LayerNorm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Proof.LN (coe_sum div_coe)

namespace Cert.PobKIdeal.Hand

open Cert.PobKIdeal Cert.PobKIdeal.Gen

/-- The group norm's small constant, the f32 nearest to a millionth. -/
def eps : ℝ := (8796093 : ℝ) * 2 ^ (-43 : ℤ)

theorem eps_pos : 0 < eps := by unfold eps; positivity

theorem lit_eps : Ideal.ofBits .f32 0x358637BD#32 = (eps : EReal) := by
  simp [Ideal.ofBits, Ideal.ieee, eps, -EReal.coe_mul]

theorem lit_inv64 : Ideal.ofBits .f32 0x3C800000#32 = ((1 / 64 : ℝ) : EReal) := by
  simp [Ideal.ofBits, Ideal.ieee, -EReal.coe_mul]; norm_num

theorem lit_64 : Ideal.ofBits .f32 0x42800000#32 = ((64 : ℝ) : EReal) := by
  simp [Ideal.ofBits, Ideal.ieee, -EReal.coe_mul]; norm_num

theorem lit_zero : Ideal.ofBits .f32 0x00000000#32 = ((0 : ℝ) : EReal) := by
  simp [Ideal.ofBits, Ideal.ieee]

/-- The sum over a feature's group of 64. -/
def gsum (f : Fin 512 → ℝ) (q : Fin 512) : ℝ := ∑ j : Fin 64, f ⟨q.val / 64 * 64 + j.val, by omega⟩

/-- A group's mean square with the small constant. -/
def msq (Y : Fin 512 → ℝ) (q : Fin 512) : ℝ := gsum (fun k => Y k * Y k) q / 64 + eps

def rs (Y : Fin 512 → ℝ) (q : Fin 512) : ℝ := (Real.sqrt (msq Y q))⁻¹

/-- The normalised features. -/
def yn (Y : Fin 512 → ℝ) (q : Fin 512) : ℝ := Y q * rs Y q

/-- The group norm's gradient of the gradient `D` of its normalised features. -/
def dnorm (Y D : Fin 512 → ℝ) (q : Fin 512) : ℝ := rs Y q * (D q - yn Y q * (gsum (fun k => D k * yn Y k) q / 64))

theorem msq_pos (Y : Fin 512 → ℝ) (q : Fin 512) : 0 < msq Y q :=
  add_pos_of_nonneg_of_pos (div_nonneg (Finset.sum_nonneg fun k _ => mul_self_nonneg _) (by norm_num)) eps_pos

theorem rsqrt_msq (Y : Fin 512 → ℝ) (q : Fin 512) : Ideal.rsqrt (msq Y q : EReal) = (rs Y q : EReal) := by
  have h := msq_pos Y q
  rw [Ideal.rsqrt_coe, if_neg h.not_gt, if_neg h.ne']
  rfl

section Lanes

/-- The kernel's group sum over a block of 128 lanes: two groups, each summed with the other masked out. -/
def GS (x : FVec Ideal S256x128 .f32) : FVec Ideal S256x128 .f32 :=
  select k0_pay13
    (broadcastTo S256x128 (shapeCast S256x1 (shapeCast S256x1 (multiReduction .add [1] S256 (select k0_pay13 x (broadcast S256x128 (Scalar.ofBits (F := Ideal) .f32 0x00000000#32))) 0x00000000#32 reduces_S256x128_S256 (.inl rfl) rfl) shapeCasts_S256_S256x1) shapeCasts_S256x1_S256x1) broadcasts_S256x1_S256x128)
    (broadcastTo S256x128 (shapeCast S256x1 (shapeCast S256x1 (multiReduction .add [1] S256 (select k0_pay13 (broadcast S256x128 (Scalar.ofBits (F := Ideal) .f32 0x00000000#32)) x) 0x00000000#32 reduces_S256x128_S256 (.inl rfl) rfl) shapeCasts_S256_S256x1) shapeCasts_S256x1_S256x1) broadcasts_S256x1_S256x128)

/-- The reciprocal root of a block's group mean squares. -/
def RS (z : FVec Ideal S256x128 .f32) : FVec Ideal S256x128 .f32 :=
  rsqrt (addf (mulf (GS (mulf z z)) (broadcast S256x128 (Scalar.ofBits (F := Ideal) .f32 0x3C800000#32))) (broadcast S256x128 (Scalar.ofBits (F := Ideal) .f32 0x358637BD#32)))

/-- A block's normalised lanes. -/
def YN (z : FVec Ideal S256x128 .f32) : FVec Ideal S256x128 .f32 := mulf z (RS z)

/-- A block's gradient through the group norm. -/
def DY (z w : FVec Ideal S256x128 .f32) : FVec Ideal S256x128 .f32 :=
  mulf (RS z) (subf w (mulf (mulf z (RS z)) (mulf (GS (mulf w (mulf z (RS z)))) (broadcast S256x128 (Scalar.ofBits (F := Ideal) .f32 0x3C800000#32)))))

variable {x z w : FVec Ideal S256x128 .f32} {X Y D : Fin 256 → Fin 512 → ℝ} (b : Fin 4)

/-- Lane `l` of block `b`. -/
abbrev lane (b : Fin 4) (l : Fin 128) : Fin 512 := ⟨128 * b.val + l.val, by omega⟩

theorem mask (l : Fin 128) (a b : EReal) : Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide
  rw [h]
  split <;> rfl

theorem GS_at (h : ∀ p l, x (ix2 p l) = (X p (lane b l) : EReal)) (p : Fin 256) (l : Fin 128) :
    GS x (ix2 p l) = (gsum (X p) (lane b l) : EReal) := by
  pointwise [GS, k0_pay13]
  simp only [mask, h]
  rw [Fin.sum_univ_add (a := 64) (b := 64), Fin.sum_univ_add (a := 64) (b := 64)]
  have e : gsum (X p) (lane b l) = if l.val < 64 then ∑ j : Fin 64, X p (lane b (Fin.castAdd 64 j)) else ∑ j : Fin 64, X p (lane b (Fin.natAdd 64 j)) := by
    unfold gsum
    split <;> refine Finset.sum_congr rfl fun j _ => congrArg (X p) (Fin.ext ?_) <;> simp <;> omega
  rw [e]
  by_cases hl : l.val < 64 <;> simp [hl, coe_sum]

theorem RS_at (h : ∀ p l, z (ix2 p l) = (Y p (lane b l) : EReal)) (p : Fin 256) (l : Fin 128) :
    RS z (ix2 p l) = (rs (Y p) (lane b l) : EReal) := by
  have e := GS_at (x := mulf z z) (X := fun p k => Y p k * Y p k) b (fun p l => by pointwise []; rw [h, ← EReal.coe_mul])
  pointwise [RS]
  rw [e, lit_inv64, lit_eps, ← EReal.coe_mul, ← EReal.coe_add, ← rsqrt_msq]
  unfold msq
  rw [mul_one_div]

theorem YN_at (h : ∀ p l, z (ix2 p l) = (Y p (lane b l) : EReal)) (p : Fin 256) (l : Fin 128) :
    YN z (ix2 p l) = (yn (Y p) (lane b l) : EReal) := by
  pointwise [YN]
  rw [h, RS_at b h, ← EReal.coe_mul]
  rfl

theorem DY_at (h : ∀ p l, z (ix2 p l) = (Y p (lane b l) : EReal)) (hw : ∀ p l, w (ix2 p l) = (D p (lane b l) : EReal)) (p : Fin 256) (l : Fin 128) :
    DY z w (ix2 p l) = (dnorm (Y p) (D p) (lane b l) : EReal) := by
  have e := GS_at (x := mulf w (mulf z (RS z))) (X := fun p k => D p k * yn (Y p) k) b
    (fun p l => by pointwise []; rw [hw, h, RS_at b h, ← EReal.coe_mul, ← EReal.coe_mul]; rfl)
  pointwise [DY]
  rw [e, h, hw, RS_at b h, lit_inv64]
  simp only [← EReal.coe_mul, ← EReal.coe_sub]
  unfold dnorm
  rw [mul_one_div]
  rfl

end Lanes

section Tile

variable {v9 v24 v32 : FVec Ideal S256x512 .f32} {v10 : Vec Ideal S256x512 .f32} {v25 : Vec Ideal S3x512 .f32} {v41 : Vec Ideal S1x512 .f32}
  {Y D : Fin 256 → Fin 512 → ℝ}

/-- The gradient of the gated rows, as the kernel's blocks leave it. -/
abbrev T218 (v9 : FVec Ideal S256x512 .f32) (v10 : Vec Ideal S256x512 .f32) (v24 : FVec Ideal S256x512 .f32) (v25 : Vec Ideal S3x512 .f32) (v32 : FVec Ideal S256x512 .f32)
    (v41 : Vec Ideal S1x512 .f32) : FVec Ideal S256x512 .f32 :=
  k0_pay36 v9 k0_pay13 v41
    (k0_pay21 k0_pay13 (k0_pay15 v10 v24 v25 v32) (k0_pay16 v10 v24 v25 v32) (k0_pay17 v9 v41) (k0_pay19 v9 v10 v24 v25 v32 v41) (k0_pay20 v9 v10 v24 v25 v32 v41))
    (k0_pay27 (k0_pay23 (k0_pay12 v10 v24 v25 v32) k0_pay13) (k0_pay25 v9 v41) (k0_pay26 v9 (k0_pay12 v10 v24 v25 v32) k0_pay13 v41))
    (k0_pay31 v9 (k0_pay12 v10 v24 v25 v32) k0_pay13 v41) (k0_pay32 (k0_pay12 v10 v24 v25 v32)) (k0_pay33 (k0_pay12 v10 v24 v25 v32))
    (Scalar.ofBits .f32 0x00000000#32)

/-- The normalised rows, as the kernel's blocks leave them. -/
abbrev T219 (v10 : Vec Ideal S256x512 .f32) (v24 : FVec Ideal S256x512 .f32) (v25 : Vec Ideal S3x512 .f32) (v32 : FVec Ideal S256x512 .f32) : FVec Ideal S256x512 .f32 :=
  k0_pay37 k0_pay13 (k0_pay16 v10 v24 v25 v32) (k0_pay24 (k0_pay12 v10 v24 v25 v32) k0_pay13) (k0_pay30 (k0_pay12 v10 v24 v25 v32) k0_pay13)
    (k0_pay32 (k0_pay12 v10 v24 v25 v32)) (k0_pay33 (k0_pay12 v10 v24 v25 v32)) (Scalar.ofBits .f32 0x00000000#32)

/-- A row of four blocks of 128 lanes, from the blocks. -/
theorem blocks_at {B0 B1 B2 B3 : FVec Ideal S256x128 .f32} {f : Fin 512 → EReal} {p : Fin 256} (h0 : ∀ l, B0 (ix2 p l) = f (lane 0 l)) (h1 : ∀ l, B1 (ix2 p l) = f (lane 1 l))
    (h2 : ∀ l, B2 (ix2 p l) = f (lane 2 l)) (h3 : ∀ l, B3 (ix2 p l) = f (lane 3 l)) (q : Fin 512) :
    concatenate S256x512 1 [⟨S256x128, B0⟩, ⟨S256x128, B1⟩, ⟨S256x128, B2⟩, ⟨S256x128, B3⟩] concatenates_S256x128_S256x128_S256x128_S256x128_S256x512_d1 (ix2 p q) = f q := by
  pointwise []
  split
  · exact (h0 _).trans (congrArg f (Fin.ext (by simp)))
  split
  · exact (h1 _).trans (congrArg f (Fin.ext (by simp; omega)))
  split
  · exact (h2 _).trans (congrArg f (Fin.ext (by simp; omega)))
  · exact (h3 _).trans (congrArg f (Fin.ext (by simp; omega)))

theorem T218_at (hy : ∀ p q, k0_pay12 v10 v24 v25 v32 (ix2 p q) = (Y p q : EReal)) (hd : ∀ p q, v9 (ix2 p q) * v41 (ix2 0 q) = (D p q : EReal))
    (p : Fin 256) (q : Fin 512) : T218 v9 v10 v24 v25 v32 v41 (ix2 p q) = (dnorm (Y p) (D p) q : EReal) := by
  refine Eq.trans ?_ (blocks_at (f := fun q => (dnorm (Y p) (D p) q : EReal))
    (B0 := DY (extractStridedSlice S256x128 ![0, 0] (k0_pay12 v10 v24 v25 v32) slices_S256x512_o0_0_S256x128)
      (mulf (extractStridedSlice S256x128 ![0, 0] v9 slices_S256x512_o0_0_S256x128) (broadcastTo S256x128 (extractStridedSlice S1x128 ![0, 0] v41 slices_S1x512_o0_0_S1x128) broadcasts_S1x128_S256x128)))
    (B1 := DY (extractStridedSlice S256x128 ![0, 128] (k0_pay12 v10 v24 v25 v32) slices_S256x512_o0_128_S256x128)
      (mulf (extractStridedSlice S256x128 ![0, 128] v9 slices_S256x512_o0_128_S256x128) (broadcastTo S256x128 (extractStridedSlice S1x128 ![0, 128] v41 slices_S1x512_o0_128_S1x128) broadcasts_S1x128_S256x128)))
    (B2 := DY (extractStridedSlice S256x128 ![0, 256] (k0_pay12 v10 v24 v25 v32) slices_S256x512_o0_256_S256x128)
      (mulf (extractStridedSlice S256x128 ![0, 256] v9 slices_S256x512_o0_256_S256x128) (broadcastTo S256x128 (extractStridedSlice S1x128 ![0, 256] v41 slices_S1x512_o0_256_S1x128) broadcasts_S1x128_S256x128)))
    (B3 := DY (extractStridedSlice S256x128 ![0, 384] (k0_pay12 v10 v24 v25 v32) slices_S256x512_o0_384_S256x128)
      (mulf (extractStridedSlice S256x128 ![0, 384] v9 slices_S256x512_o0_384_S256x128) (broadcastTo S256x128 (extractStridedSlice S1x128 ![0, 384] v41 slices_S1x512_o0_384_S1x128) broadcasts_S1x128_S256x128)))
    (DY_at 0 ?_ ?_ p) (DY_at 1 ?_ ?_ p) (DY_at 2 ?_ ?_ p) (DY_at 3 ?_ ?_ p) q)
  · rfl
  all_goals
    intro p l
    pointwise []
    first
      | exact hy _ _
      | exact hd _ _
      | exact .trans (congrArg (fun k => k0_pay12 v10 v24 v25 v32 (ix2 p k)) (Fin.ext (by simp))) (hy p (lane 0 l))
      | exact .trans (congrArg (fun k => v9 (ix2 p k) * v41 (ix2 0 k)) (Fin.ext (by simp))) (hd p (lane 0 l))

theorem T219_at (hy : ∀ p q, k0_pay12 v10 v24 v25 v32 (ix2 p q) = (Y p q : EReal)) (p : Fin 256) (q : Fin 512) :
    T219 v10 v24 v25 v32 (ix2 p q) = (yn (Y p) q : EReal) := by
  refine Eq.trans ?_ (blocks_at (f := fun q => (yn (Y p) q : EReal))
    (B0 := YN (extractStridedSlice S256x128 ![0, 0] (k0_pay12 v10 v24 v25 v32) slices_S256x512_o0_0_S256x128))
    (B1 := YN (extractStridedSlice S256x128 ![0, 128] (k0_pay12 v10 v24 v25 v32) slices_S256x512_o0_128_S256x128))
    (B2 := YN (extractStridedSlice S256x128 ![0, 256] (k0_pay12 v10 v24 v25 v32) slices_S256x512_o0_256_S256x128))
    (B3 := YN (extractStridedSlice S256x128 ![0, 384] (k0_pay12 v10 v24 v25 v32) slices_S256x512_o0_384_S256x128))
    (YN_at 0 ?_ p) (YN_at 1 ?_ p) (YN_at 2 ?_ p) (YN_at 3 ?_ p) q)
  · unfold T219 k0_pay37 k0_pay35 k0_pay16 k0_pay24 k0_pay30 YN
    rfl
  all_goals
    intro p l
    pointwise []
    first
      | exact hy _ _
      | exact .trans (congrArg (fun k => k0_pay12 v10 v24 v25 v32 (ix2 p k)) (Fin.ext (by simp))) (hy p (lane 0 l))

end Tile

end Cert.PobKIdeal.Hand
-- ==== Proof.AttnChain.lean ====
/- One head's work on one chunk of keys, over the reals. -/
module

public import proofs.«01_k».proof.Proof.Gen.AttnKIdeal.Skeleton
public import proofs.«01_k».proof.Proof.AttnMath
public import proofs.«01_k».proof.Proof.PobNorm
public import Idealize.ShloMosaic.Lib.Pipeline.ValueKit

@[expose] public section

set_option maxRecDepth 16384

noncomputable section

open Idealize.ShloMosaic Idealize.ShloMosaic.TcCoe
open Cert.Proof.LN (coe_sum)
open Cert.Proof.Attn
open Cert.PobKIdeal.Hand (lit_zero)

namespace Cert.AttnKIdeal.Hand

open Cert.AttnKIdeal Cert.AttnKIdeal.Gen

theorem lit_one : Ideal.ofBits .f32 0x3F800000#32 = ((1 : ℝ) : EReal) := by
  simp [Ideal.ofBits, Ideal.ieee, -EReal.coe_mul]; norm_num

theorem mask_bot : Named.named (F := Ideal) κ "mask" (φ := .f32) 0xF149F2CA#32 = ⊥ := rfl

/-- The scores of a block of queries against a chunk, the masked ones at the mask's value. -/
def Zc (q : FVec Ideal S128x128 .bf16) (M : IVec S128x384 1) (k : FVec Ideal S384x128 .bf16) : FVec Ideal S128x384 .f32 :=
  select M (matmul dot_S128x128_S384x128_S128x384_1_1_0_0_n_n none q k (constant S128x384 .f32 0x00000000#32)) (broadcast S128x384 (Named.named κ "mask" 0xF149F2CA#32))
/-- The products of the output's gradient with a chunk of values. -/
def DAc (d : FVec Ideal S128x128 .bf16) (v : FVec Ideal S384x128 .bf16) : FVec Ideal S128x384 .f32 :=
  matmul dot_S128x128_S384x128_S128x384_1_1_0_0_n_n none d v (constant S128x384 .f32 0x00000000#32)
/-- The three tiles' sums of a chunk. -/
def P0 (U : FVec Ideal S256x256 .bf16) (v : FVec Ideal S128x384 .f32) : FVec Ideal S128x256 .f32 := k0_pay120 U (k0_pay90 v)
def P1 (U : FVec Ideal S256x256 .bf16) (v : FVec Ideal S128x384 .f32) : FVec Ideal S128x256 .f32 := k0_pay121 U (k0_pay91 v)
def P2 (U : FVec Ideal S256x256 .bf16) (v : FVec Ideal S128x384 .f32) : FVec Ideal S128x256 .f32 := k0_pay122 U (k0_pay92 v)
/-- The running sum after a chunk, and the sums from each key on. -/
def CAR (U : FVec Ideal S256x256 .bf16) (a : FVec Ideal S128x128 .f32) (v : FVec Ideal S128x384 .f32) : FVec Ideal S128x128 .f32 := k0_pay146 a (P0 U v) (P1 U v) (P2 U v)
def SUF (U : FVec Ideal S256x256 .bf16) (a : FVec Ideal S128x128 .f32) (v : FVec Ideal S128x384 .f32) : FVec Ideal S128x384 .f32 := k0_pay147 a (P0 U v) (P1 U v) (P2 U v)

variable {P : Fin 128 → Fin 384 → Prop} [∀ p c, Decidable (P p c)]

theorem sel_if {α : Type} (Q : Prop) [Decidable Q] (x y : α) : Scalar.select (if Q then (1#1 : BitVec 1) else 0#1) x y = if Q then x else y := by
  split <;> rfl

theorem Zc_at {q : FVec Ideal S128x128 .bf16} {M : IVec S128x384 1} {k : FVec Ideal S384x128 .bf16} {Q : Fin 128 → Fin 128 → ℝ} {K : Fin 384 → Fin 128 → ℝ}
    (hq : ∀ p l, q (ix2 p l) = (Q p l : EReal)) (hk : ∀ c l, k (ix2 c l) = (K c l : EReal)) (hM : ∀ p c, M (ix2 p c) = if P p c then 1#1 else 0#1)
    (p : Fin 128) (c : Fin 384) : Zc q M k (ix2 p c) = if P p c then ((∑ l, Q p l * K c l : ℝ) : EReal) else ⊥ := by
  pointwise [Zc]
  simp only [hq, hk, hM, ← EReal.coe_mul, coe_sum, mask_bot, sel_if]

theorem DAc_at {d : FVec Ideal S128x128 .bf16} {v : FVec Ideal S384x128 .bf16} {D : Fin 128 → Fin 128 → ℝ} {W : Fin 384 → Fin 128 → ℝ}
    (hd : ∀ p l, d (ix2 p l) = (D p l : EReal)) (hv : ∀ c l, v (ix2 c l) = (W c l : EReal)) (p : Fin 128) (c : Fin 384) :
    DAc d v (ix2 p c) = ((∑ l, D p l * W c l : ℝ) : EReal) := by
  pointwise [DAc]
  simp only [hd, hv, ← EReal.coe_mul, coe_sum]

theorem max_coe (x y : ℝ) : max (x : EReal) (y : EReal) = ((max x y : ℝ) : EReal) := (EReal.coe_strictMono.monotone.map_max).symm
theorem abs_coe (x : ℝ) : FloatOps.absf (F := Ideal) (φ := .f32) (x : EReal) = ((|x| : ℝ) : EReal) := by
  show max (x : EReal) (-(x : EReal)) = _
  rw [← EReal.coe_neg, max_coe]; rfl
theorem abs_bot : FloatOps.absf (F := Ideal) (φ := .f32) (⊥ : EReal) = ⊤ := by
  show max (⊥ : EReal) (-⊥) = ⊤
  rw [EReal.neg_bot]; exact max_eq_right bot_le

theorem log_coe_pos {x : ℝ} (h : 0 < x) : Ideal.log (x : EReal) = (Real.log x : EReal) := by
  rw [Ideal.log_coe, if_neg (by linarith)]

theorem SP_at {x : FVec Ideal S128x384 .f32} {Z : Fin 128 → Fin 384 → ℝ} (hz : ∀ p c, x (ix2 p c) = if P p c then (Z p c : EReal) else ⊥) (p : Fin 128) (c : Fin 384) :
    k0_pay72 x (ix2 p c) = ((if P p c then sp (Z p c) else 0 : ℝ) : EReal) := by
  pointwise [k0_pay72]
  rw [hz]
  split
  · rw [abs_coe, ← EReal.coe_zero, max_coe, ← EReal.coe_sub, Ideal.exp_coe, ← EReal.coe_one, ← EReal.coe_add, log_coe_pos (by positivity), ← EReal.coe_add, zero_sub]
    rfl
  · have h1 : Ideal.log 1 = 0 := by
      rw [← EReal.coe_one, log_coe_pos one_pos, Real.log_one, EReal.coe_zero]
    simp [abs_bot, h1]

theorem LB_at {x w : FVec Ideal S128x384 .f32} {Z S : Fin 128 → Fin 384 → ℝ} (hz : ∀ p c, x (ix2 p c) = if P p c then (Z p c : EReal) else ⊥)
    (hw : ∀ p c, w (ix2 p c) = (S p c : EReal)) (p : Fin 128) (c : Fin 384) :
    k0_pay82 x w (ix2 p c) = if P p c then ((Z p c - S p c : ℝ) : EReal) else ⊥ := by
  pointwise [k0_pay82]
  rw [hz, hw]
  split
  · rw [← EReal.coe_sub]
  · exact EReal.bot_sub _

theorem A_at {x w : FVec Ideal S128x384 .f32} {Z S : Fin 128 → Fin 384 → ℝ} (hz : ∀ p c, x (ix2 p c) = if P p c then (Z p c : EReal) else ⊥)
    (hw : ∀ p c, w (ix2 p c) = (S p c : EReal)) (p : Fin 128) (c : Fin 384) :
    k0_pay179 x w (ix2 p c) = ((if P p c then Real.exp (Z p c - S p c) else 0 : ℝ) : EReal) := by
  pointwise [k0_pay179]
  rw [hz, hw]
  split
  · rw [← EReal.coe_sub]; rfl
  · rw [EReal.bot_sub]; rfl

theorem G_at {x d w : FVec Ideal S128x384 .f32} {Z D S : Fin 128 → Fin 384 → ℝ} (hz : ∀ p c, x (ix2 p c) = if P p c then (Z p c : EReal) else ⊥)
    (hd : ∀ p c, d (ix2 p c) = (D p c : EReal)) (hw : ∀ p c, w (ix2 p c) = (S p c : EReal)) (p : Fin 128) (c : Fin 384) :
    k0_pay187 d x w (ix2 p c) = (((if P p c then Real.exp (Z p c - S p c) else 0) * D p c : ℝ) : EReal) := by
  have h := A_at hz hw p c
  pointwise [k0_pay187]
  rw [EReal.coe_mul, ← hd]
  exact congrArg (· * _) h

theorem DZ_at {T : FVec Ideal S128x1 .f32} {x g w : FVec Ideal S128x384 .f32} {t : Fin 128 → ℝ} {Z G S : Fin 128 → Fin 384 → ℝ}
    (ht : ∀ p u, T (ix2 p u) = (t p : EReal)) (hz : ∀ p c, x (ix2 p c) = if P p c then (Z p c : EReal) else ⊥)
    (hg : ∀ p c, g (ix2 p c) = ((if P p c then G p c else 0 : ℝ) : EReal)) (hw : ∀ p c, w (ix2 p c) = (S p c : EReal)) (p : Fin 128) (c : Fin 384) :
    k0_pay285 T x g w (ix2 p c) = ((if P p c then G p c - Real.exp (Z p c) * (G p c + (t p - S p c)) else 0 : ℝ) : EReal) := by
  pointwise [k0_pay285]
  rw [hz, hg, hw, ht]
  by_cases h : P p c
  · simp only [if_pos h, Ideal.exp_coe, ← EReal.coe_sub, ← EReal.coe_add, ← EReal.coe_mul]
  · simp only [if_neg h, Ideal.exp_bot, ← EReal.coe_sub, ← EReal.coe_add, zero_mul, EReal.coe_zero, sub_zero]

/-- A matrix whose lower lanes sum the tile's columns `j` with `s < j + e` and whose upper lanes sum them all. -/
def IsSum (e : ℕ) (U : FVec Ideal S256x256 .bf16) : Prop :=
  ∀ j s : Fin 256, U (ix2 j s) = ((if 128 ≤ s.val ∨ s.val < j.val % 128 + e then 1 else 0 : ℝ) : EReal)

section Sums
variable {e : ℕ} {U : FVec Ideal S256x256 .bf16} (hU : IsSum e U) {v : FVec Ideal S128x384 .f32} {f : Fin 128 → Fin 384 → ℝ} (hv : ∀ p c, v (ix2 p c) = (f p c : EReal))
include hU hv

omit hv in
theorem tile_sum (x : Fin 128 → ℝ) (y : Fin 128 → EReal) (h0 : ∀ j, y j = (x j : EReal)) (s : Fin 256) :
    ∑ j : Fin 128, y j * U (ix2 ⟨j.val, by omega⟩ s) + ∑ j : Fin 128, (y j - y j) * U (ix2 ⟨128 + j.val, by omega⟩ s)
      = ((∑ j : Fin 128, if 128 ≤ s.val ∨ s.val < j.val + e then x j else 0 : ℝ) : EReal) := by
  rw [← coe_sum, Finset.sum_eq_zero (s := Finset.univ) (f := fun j : Fin 128 => (y j - y j) * U (ix2 ⟨128 + j.val, by omega⟩ s)) fun j _ => by
    rw [h0, ← EReal.coe_sub, sub_self, EReal.coe_zero, zero_mul], add_zero]
  refine Finset.sum_congr rfl fun j _ => ?_
  rw [h0, hU]
  simp only [Nat.mod_eq_of_lt j.isLt]
  split <;> simp

theorem P0_at (p : Fin 128) (s : Fin 256) : P0 U v (ix2 p s) = ((∑ j : Fin 128, if 128 ≤ s.val ∨ s.val < j.val + e then f p ⟨j.val, by omega⟩ else 0 : ℝ) : EReal) := by
  pointwise [P0, k0_pay120, k0_pay90]
  exact tile_sum hU _ _ (fun j => hv p _) s

theorem P1_at (p : Fin 128) (s : Fin 256) : P1 U v (ix2 p s) = ((∑ j : Fin 128, if 128 ≤ s.val ∨ s.val < j.val + e then f p ⟨128 + j.val, by omega⟩ else 0 : ℝ) : EReal) := by
  pointwise [P1, k0_pay121, k0_pay91]
  exact tile_sum hU _ _ (fun j => hv p _) s

theorem P2_at (p : Fin 128) (s : Fin 256) : P2 U v (ix2 p s) = ((∑ j : Fin 128, if 128 ≤ s.val ∨ s.val < j.val + e then f p ⟨256 + j.val, by omega⟩ else 0 : ℝ) : EReal) := by
  pointwise [P2, k0_pay122, k0_pay92]
  exact tile_sum hU _ _ (fun j => hv p _) s

omit hU hv in
/-- A chunk's sum is its three tiles' sums. -/
theorem three (g : Fin 384 → ℝ) : ∑ c : Fin 384, g c = (∑ j : Fin 128, g ⟨j.val, by omega⟩) + (∑ j : Fin 128, g ⟨128 + j.val, by omega⟩) + ∑ j : Fin 128, g ⟨256 + j.val, by omega⟩ := by
  rw [Fin.sum_univ_add (a := 256) (b := 128) (fun l : Fin (256 + 128) => g l), Fin.sum_univ_add (a := 128) (b := 128) (fun l : Fin (128 + 128) => g (Fin.castAdd 128 l))]
  rfl

variable {a : FVec Ideal S128x128 .f32} {C : Fin 128 → ℝ} (ha : ∀ p l, a (ix2 p l) = (C p : EReal))
include ha

theorem CAR_at (p l : Fin 128) : CAR U a v (ix2 p l) = ((C p + ∑ c, f p c : ℝ) : EReal) := by
  pointwise [CAR, k0_pay146, k0_pay145, k0_pay144]
  simp only [ha, P0_at hU hv, P1_at hU hv, P2_at hU hv, ← EReal.coe_add]
  have h : ∀ x : Fin 128, (128 ≤ 128 + l.val ∨ 128 + l.val < x.val + e) = True := fun x => eq_true (.inl (Nat.le_add_right _ _))
  rw [three]
  simp only [h, if_true]
  exact congrArg _ (by ring)

theorem SUF_at (he : e ≤ 1) (p : Fin 128) (c : Fin 384) : SUF U a v (ix2 p c) = ((C p + ∑ u : Fin 384, if c.val < u.val + e then f p u else 0 : ℝ) : EReal) := by
  pointwise [SUF, k0_pay147, k0_pay145, k0_pay144]
  simp only [ha, P0_at hU hv, P1_at hU hv, P2_at hU hv, ← EReal.coe_add]
  rw [three]
  have same : ∀ (A B : Fin 128 → Prop) [DecidablePred A] [DecidablePred B] (g : Fin 128 → ℝ), (∀ x, A x ↔ B x) → (∑ x, if A x then g x else 0) = ∑ x, if B x then g x else 0 :=
    fun A B _ _ g h => Finset.sum_congr rfl fun x _ => if_congr (h x) rfl rfl
  have none : ∀ (A : Fin 128 → Prop) [DecidablePred A] (g : Fin 128 → ℝ), (∀ x, ¬ A x) → (∑ x, if A x then g x else 0) = 0 :=
    fun A _ g h => Finset.sum_eq_zero fun x _ => if_neg (h x)
  by_cases h1 : c.val < 128
  · rw [dif_pos h1]
    refine congrArg _ ?_
    rw [same (fun x => 128 ≤ c.val ∨ c.val < x.val + e) (fun x => c.val < x.val + e) _ (fun x => by omega),
      same (fun x => 128 ≤ 128 + c.val ∨ 128 + c.val < x.val + e) (fun x => c.val < 256 + x.val + e) _ (fun x => by omega),
      same (fun x => 128 ≤ 128 + c.val ∨ 128 + c.val < x.val + e) (fun x => c.val < 128 + x.val + e) _ (fun x => by omega)]
    ring
  rw [dif_neg h1]
  by_cases h2 : c.val - 128 < 128
  · rw [dif_pos h2]
    refine congrArg _ ?_
    rw [same (fun x => 128 ≤ c.val - 128 ∨ c.val - 128 < x.val + e) (fun x => c.val < 128 + x.val + e) _ (fun x => by omega),
      same (fun x => 128 ≤ 128 + (c.val - 128) ∨ 128 + (c.val - 128) < x.val + e) (fun x => c.val < 256 + x.val + e) _ (fun x => by omega),
      none (fun x => c.val < x.val + e) _ (fun x => by omega)]
    ring
  · rw [dif_neg h2]
    refine congrArg _ ?_
    rw [same (fun x => 128 ≤ c.val - 128 - 128 ∨ c.val - 128 - 128 < x.val + e) (fun x => c.val < 256 + x.val + e) _ (fun x => by omega),
      none (fun x => c.val < x.val + e) _ (fun x => by omega), none (fun x => c.val < 128 + x.val + e) _ (fun x => by omega)]
    ring

end Sums

theorem lane64 {α} (l : Fin 128) (a b : α) : Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide +kernel
  rw [h l]
  split_ifs <;> rfl

variable {e0 e1 : FVec Ideal S128x384 .bf16} {E0 E1 : Fin 128 → Fin 384 → ℝ} (h0 : ∀ p c, e0 (ix2 p c) = (E0 p c : EReal)) (h1 : ∀ p c, e1 (ix2 p c) = (E1 p c : EReal))
include h0 h1

theorem DQ_at {a : FVec Ideal S128x128 .f32} {k : FVec Ideal S384x128 .bf16} {A : Fin 128 → Fin 128 → ℝ} {K : Fin 384 → Fin 128 → ℝ}
    (ha : ∀ p l, a (ix2 p l) = (A p l : EReal)) (hk : ∀ c l, k (ix2 c l) = (K c l : EReal)) (p l : Fin 128) :
    k0_pay294 k0_pay6 a k e0 e1 (ix2 p l) = ((A p l + ∑ c, (if l.val < 64 then E0 p c else E1 p c) * K c l : ℝ) : EReal) := by
  pointwise [k0_pay294, k0_pay6]
  simp only [lane64, h0, h1, hk, ha]
  split_ifs with h
  · simp only [← EReal.coe_mul, coe_sum, Finset.sum_const_zero, add_zero, ← EReal.coe_add]
  · simp only [← EReal.coe_mul, coe_sum, Finset.sum_const_zero, zero_add, ← EReal.coe_add]

theorem DK_at {w : FVec Ideal S256x128 .bf16} {x : Vec Ideal S384x128 .f32} {W : Fin 128 → Fin 128 → ℝ} {X : Fin 384 → Fin 128 → ℝ}
    (hw0 : ∀ p l : Fin 128, w (ix2 ⟨p.val, by omega⟩ l) = ((if l.val < 64 then W p l else 0 : ℝ) : EReal))
    (hw1 : ∀ p l : Fin 128, w (ix2 ⟨128 + p.val, by omega⟩ l) = ((if l.val < 64 then 0 else W p l : ℝ) : EReal))
    (hx : ∀ c l, x (ix2 c l) = (X c l : EReal)) (c : Fin 384) (l : Fin 128) :
    k0_pay297 w e0 e1 x (ix2 c l) = ((X c l + ∑ p, (if l.val < 64 then E0 p c else E1 p c) * W p l : ℝ) : EReal) := by
  pointwise [k0_pay297]
  simp only [h0, h1, hw0, hw1, hx]
  split_ifs with h
  · simp only [← EReal.coe_mul, coe_sum, mul_zero, Finset.sum_const_zero, add_zero, ← EReal.coe_add]
  · simp only [← EReal.coe_mul, coe_sum, mul_zero, Finset.sum_const_zero, zero_add, ← EReal.coe_add]

end Cert.AttnKIdeal.Hand
end
-- ==== Proof.AttnHead.lean ====
/- One block of queries against one chunk of keys: both heads' running sums and the gradients' increments. -/
module

public import proofs.«01_k».proof.Proof.AttnChain

@[expose] public section

set_option maxRecDepth 16384

noncomputable section

open Idealize.ShloMosaic Idealize.ShloMosaic.TcCoe
open Cert.Proof.Attn
namespace Cert.AttnKIdeal.Hand
open Cert.AttnKIdeal Cert.AttnKIdeal.Gen

/-- The two heads' rows of a stacked block. -/
def lo (q : FVec Ideal S256x128 .bf16) : FVec Ideal S128x128 .bf16 := extractStridedSlice S128x128 ![0, 0] q slices_S256x128_o0_0_S128x128
def hi (q : FVec Ideal S256x128 .bf16) : FVec Ideal S128x128 .bf16 := extractStridedSlice S128x128 ![128, 0] q slices_S256x128_o128_0_S128x128

/-- One head's weights, weights times their gradients, score gradients and running sums from its scores `x` and products `d`. -/
def hA (U : FVec Ideal S256x256 .bf16) (C : FVec Ideal S128x128 .f32) (x : FVec Ideal S128x384 .f32) : FVec Ideal S128x384 .bf16 :=
  k0_pay179 (k0_pay82 x (k0_pay72 x)) (SUF U C (k0_pay72 x))
def hG (U : FVec Ideal S256x256 .bf16) (C : FVec Ideal S128x128 .f32) (x d : FVec Ideal S128x384 .f32) : FVec Ideal S128x384 .f32 :=
  k0_pay187 d (k0_pay82 x (k0_pay72 x)) (SUF U C (k0_pay72 x))
def hDZ (U W : FVec Ideal S256x256 .bf16) (C S : FVec Ideal S128x128 .f32) (T : FVec Ideal S128x1 .f32) (x d : FVec Ideal S128x384 .f32) : FVec Ideal S128x384 .bf16 :=
  k0_pay285 T (k0_pay82 x (k0_pay72 x)) (hG U C x d) (SUF W S (hG U C x d))
def hC (U : FVec Ideal S256x256 .bf16) (C : FVec Ideal S128x128 .f32) (x : FVec Ideal S128x384 .f32) : FVec Ideal S128x128 .f32 := CAR U C (k0_pay72 x)
def hS (U W : FVec Ideal S256x256 .bf16) (C S : FVec Ideal S128x128 .f32) (x d : FVec Ideal S128x384 .f32) : FVec Ideal S128x128 .f32 := CAR W S (hG U C x d)

/-- A chunk's key. -/
def key (st : ℕ) (hst : st + 384 ≤ 4096) (c : Fin 384) : Fin 4096 := ⟨st + c.val, by omega⟩

variable (Q K V D : Fin 4096 → Fin 512 → ℝ) (T : Fin 128 → Fin 4096) (st E : ℕ) (hsE : st ≤ E) (hE : E ≤ st + 384) (hst : st + 384 ≤ 4096)

/-- Which of a chunk's keys a query of the block meets. -/
def Meets (p : Fin 128) (c : Fin 384) : Prop := st + c.val < (T p).val ∧ st + c.val < E
instance (p : Fin 128) (c : Fin 384) : Decidable (Meets T st E p c) := inferInstanceAs (Decidable (_ ∧ _))

/-- What follows key `e` of a row. -/
def from_ (F : Fin 4096 → ℝ) (e : ℕ) : ℝ := ∑ u : Fin 4096, if e ≤ u.val then F u else 0

variable {st E T}
include hsE hE in
theorem from_add (F : Fin 4096 → ℝ) : from_ F E + ∑ c : Fin 384, (if st + c.val < E then F (key st hst c) else 0) = from_ F st := by
  refine Eq.trans ?_ (from_chunk F st E st le_rfl hsE hE hst)
  refine congrArg _ (Finset.sum_congr rfl fun c _ => if_congr ?_ rfl rfl)
  omega

include hE in
theorem from_mid (F : Fin 4096 → ℝ) (x : ℕ) (h1 : st ≤ x) (h2 : x ≤ E) :
    from_ F E + ∑ c : Fin 384, (if x ≤ st + c.val then (if st + c.val < E then F (key st hst c) else 0) else 0) = from_ F x := by
  refine Eq.trans ?_ (from_chunk F st E x h1 h2 hE hst)
  refine congrArg _ (Finset.sum_congr rfl fun c _ => ?_)
  rw [← ite_and]; rfl

theorem meets_if (p : Fin 128) (c : Fin 384) (x : ℝ) :
    (if Meets T st E p c then x else 0) = if st + c.val < E then (if (key st hst c).val < (T p).val then x else 0) else 0 := by
  rw [← ite_and]
  exact if_congr and_comm rfl rfl

section Head
variable (H : Fin 8) {U W : FVec Ideal S256x256 .bf16} (hU : IsSum 0 U) (hW : IsSum 1 W)
  {x d : FVec Ideal S128x384 .f32} {C S : FVec Ideal S128x128 .f32} {t : FVec Ideal S128x1 .f32}
  (hx : ∀ p c, x (ix2 p c) = if Meets T st E p c then ((z Q K H (T p) (key st hst c) : ℝ) : EReal) else ⊥)
  (hd : ∀ p c, d (ix2 p c) = ((hsum (D (T p)) (V (key st hst c)) H : ℝ) : EReal))
  (hc : ∀ p l, C (ix2 p l) = ((from_ (fun u => if u.val < (T p).val then sp (z Q K H (T p) u) else 0) E : ℝ) : EReal))
  (hs : ∀ p l, S (ix2 p l) = ((from_ (fun u => gr Q K V D H (T p) u) E : ℝ) : EReal))
  (ht : ∀ p u, t (ix2 p u) = ((∑ u, gr Q K V D H (T p) u : ℝ) : EReal))

include hx in
theorem sp_here (p : Fin 128) (c : Fin 384) : k0_pay72 x (ix2 p c) = ((if Meets T st E p c then sp (z Q K H (T p) (key st hst c)) else 0 : ℝ) : EReal) := SP_at hx p c

include hx hc hU hsE hE in
theorem hC_at (p l : Fin 128) : hC U C x (ix2 p l) = ((from_ (fun u => if u.val < (T p).val then sp (z Q K H (T p) u) else 0) st : ℝ) : EReal) := by
  refine (CAR_at hU (sp_here Q K hst H hx) hc p l).trans (congrArg _ ?_)
  rw [← from_add hsE hE hst]
  refine congrArg _ (Finset.sum_congr rfl fun c _ => ?_)
  exact meets_if hst p c _

include hx hc hU hE in
theorem suf_here (p : Fin 128) (c : Fin 384) (h : Meets T st E p c) :
    SUF U C (k0_pay72 x) (ix2 p c) = ((suf Q K H (T p) (key st hst c) : ℝ) : EReal) := by
  refine (SUF_at hU (sp_here Q K hst H hx) hc (by omega) p c).trans (congrArg _ ?_)
  refine Eq.trans ?_ (from_mid hE hst (fun u => if u.val < (T p).val then sp (z Q K H (T p) u) else 0) (st + c.val + 1) (by omega) (by have := h.2; omega))
  refine congrArg _ (Finset.sum_congr rfl fun u _ => if_congr (by omega) (meets_if hst p u _) rfl)

include hx in
theorem lb_here (p : Fin 128) (c : Fin 384) :
    k0_pay82 x (k0_pay72 x) (ix2 p c) = if Meets T st E p c then ((z Q K H (T p) (key st hst c) - sp (z Q K H (T p) (key st hst c)) : ℝ) : EReal) else ⊥ := by
  rw [LB_at hx (sp_here Q K hst H hx)]
  split_ifs <;> rfl

include hx hc hU hE in
theorem hA_at (p : Fin 128) (c : Fin 384) : hA U C x (ix2 p c) = ((if st + c.val < E then att Q K H (T p) (key st hst c) else 0 : ℝ) : EReal) := by
  have h0 := SUF_at hU (sp_here Q K hst H hx) hc (by omega)
  refine (A_at (lb_here Q K hst H hx) h0 p c).trans (congrArg _ ?_)
  by_cases h : Meets T st E p c
  · have h2 := (h0 p c).symm.trans (suf_here Q K hE hst H hU hx hc p c h)
    rw [if_pos h, if_pos h.2, att, if_pos (show (key st hst c).val < _ from h.1), EReal.coe_injective h2]
  · rw [if_neg h]
    by_cases h2 : st + c.val < E
    · rw [if_pos h2, att, if_neg (show ¬ (key st hst c).val < (T p).val from fun h1 => h ⟨h1, h2⟩)]
    · rw [if_neg h2]

include hx hc hU hE hd in
theorem hG_at (p : Fin 128) (c : Fin 384) : hG U C x d (ix2 p c) = ((if st + c.val < E then gr Q K V D H (T p) (key st hst c) else 0 : ℝ) : EReal) := by
  have h0 := SUF_at hU (sp_here Q K hst H hx) hc (by omega)
  refine (G_at (lb_here Q K hst H hx) hd h0 p c).trans (congrArg _ ?_)
  have h1 := EReal.coe_injective ((A_at (lb_here Q K hst H hx) h0 p c).symm.trans (hA_at Q K hE hst H hU hx hc p c))
  rw [h1, gr]
  split_ifs <;> simp

include hx hc hU hE hd hs hW hsE in
theorem hS_at (p l : Fin 128) : hS U W C S x d (ix2 p l) = ((from_ (fun u => gr Q K V D H (T p) u) st : ℝ) : EReal) := by
  refine (CAR_at hW (hG_at Q K V D hE hst H hU hx hd hc) hs p l).trans (congrArg _ ?_)
  rw [← from_add hsE hE hst]

include hx hc hU hE hd hs hW ht in
theorem hDZ_at (p : Fin 128) (c : Fin 384) : hDZ U W C S t x d (ix2 p c) = ((if st + c.val < E then dz Q K V D H (T p) (key st hst c) else 0 : ℝ) : EReal) := by
  have h0 := SUF_at hW (hG_at Q K V D hE hst H hU hx hd hc) hs le_rfl
  have hg : ∀ p c, hG U C x d (ix2 p c) = ((if Meets T st E p c then gr Q K V D H (T p) (key st hst c) else 0 : ℝ) : EReal) := fun p c => by
    rw [hG_at Q K V D hE hst H hU hx hd hc p c]
    refine congrArg _ ?_
    by_cases h2 : st + c.val < E
    · by_cases h1 : st + c.val < (T p).val
      · rw [if_pos h2, if_pos ⟨h1, h2⟩]
      · rw [if_pos h2, if_neg (fun h => h1 h.1), gr, att, if_neg (show ¬ (key st hst c).val < (T p).val from h1), zero_mul]
    · rw [if_neg h2, if_neg (fun h => h2 h.2)]
  refine (DZ_at ht (lb_here Q K hst H hx) hg h0 p c).trans (congrArg _ ?_)
  by_cases h : Meets T st E p c
  · rw [if_pos h, if_pos h.2, dz, if_pos (show (key st hst c).val < _ from h.1), ← before]
    have h3 := from_mid hE hst (fun u => gr Q K V D H (T p) u) (st + c.val) (by omega) h.2.le
    have h4 : (∑ u : Fin 4096, if (key st hst c).val ≤ u.val then gr Q K V D H (T p) u else 0) = from_ (fun u => gr Q K V D H (T p) u) (st + c.val) := rfl
    rw [h4, ← h3, sg]
    have h5 : (∑ u : Fin 384, if c.val < u.val + 1 then (if st + u.val < E then gr Q K V D H (T p) (key st hst u) else 0) else 0)
        = ∑ u : Fin 384, if st + c.val ≤ st + u.val then (if st + u.val < E then gr Q K V D H (T p) (key st hst u) else 0) else 0 :=
      Finset.sum_congr rfl fun u _ => if_congr (by omega) rfl rfl
    rw [h5]
  · rw [if_neg h]
    by_cases h2 : st + c.val < E
    · rw [if_pos h2, dz, if_neg (show ¬ (key st hst c).val < (T p).val from fun h1 => h ⟨h1, h2⟩)]
    · rw [if_neg h2]
end Head

end Cert.AttnKIdeal.Hand
end
-- ==== Proof.AttnBlock.lean ====
/- Both heads of a block of queries on a chunk of keys, and the accumulators' increments. -/
module

public import proofs.«01_k».proof.Proof.AttnHead

@[expose] public section

set_option maxRecDepth 16384

noncomputable section

open Idealize.ShloMosaic Idealize.ShloMosaic.TcCoe
open Cert.Proof.Attn
namespace Cert.AttnKIdeal.Hand
open Cert.AttnKIdeal Cert.AttnKIdeal.Gen

/-- A pair's columns and heads. -/
def col (r : Fin 4) (l : Fin 128) : Fin 512 := ⟨128 * r.val + l.val, by omega⟩
def hdl (r : Fin 4) : Fin 8 := ⟨2 * r.val, by omega⟩
def hdh (r : Fin 4) : Fin 8 := ⟨2 * r.val + 1, by omega⟩

theorem head_col (r : Fin 4) (l : Fin 128) : head (col r l) = if l.val < 64 then hdl r else hdh r := by
  refine Fin.ext ?_
  split_ifs <;> simp only [head, col, hdl, hdh] <;> omega

theorem lanes_lo (r : Fin 4) (f g : Fin 512 → ℝ) : ∑ l : Fin 128, (if l.val < 64 then f (col r l) else 0) * g (col r l) = hsum f g (hdl r) := by
  simp only [ite_mul, zero_mul]
  refine (half_lo fun l => f (col r l) * g (col r l)).trans (Finset.sum_congr rfl fun d _ => ?_)
  have h : col r ⟨d.val, by omega⟩ = ⟨64 * (hdl r).val + d.val, by simp only [hdl]; omega⟩ := Fin.ext (by simp only [col, hdl]; omega)
  rw [h]
theorem lanes_hi (r : Fin 4) (f g : Fin 512 → ℝ) : ∑ l : Fin 128, (if l.val < 64 then 0 else f (col r l)) * g (col r l) = hsum f g (hdh r) := by
  simp only [ite_mul, zero_mul]
  refine (half_hi fun l => f (col r l) * g (col r l)).trans (Finset.sum_congr rfl fun d _ => ?_)
  have h : col r ⟨64 + d.val, by omega⟩ = ⟨64 * (hdh r).val + d.val, by simp only [hdh]; omega⟩ := Fin.ext (by simp only [col, hdh]; omega)
  rw [h]

/-- A block stacked twice, each head's lanes in its own copy. -/
structure Stk (f : Fin 128 → Fin 128 → ℝ) (w : FVec Ideal S256x128 .bf16) : Prop where
  l : ∀ p l : Fin 128, w (ix2 ⟨p.val, by omega⟩ l) = ((if l.val < 64 then f p l else 0 : ℝ) : EReal)
  h : ∀ p l : Fin 128, w (ix2 ⟨128 + p.val, by omega⟩ l) = ((if l.val < 64 then 0 else f p l : ℝ) : EReal)

theorem lo_at (w : FVec Ideal S256x128 .bf16) (p l : Fin 128) : lo w (ix2 p l) = w (ix2 ⟨p.val, by omega⟩ l) := by
  pointwise [lo]
theorem hi_at (w : FVec Ideal S256x128 .bf16) (p l : Fin 128) : hi w (ix2 p l) = w (ix2 ⟨128 + p.val, by omega⟩ l) := by
  pointwise [hi]

variable (Q K V D : Fin 4096 → Fin 512 → ℝ) (r : Fin 4) (T : Fin 128 → Fin 4096)

/-- What a block of queries brings into the loop. -/
structure ArgOK (qs qh dh : FVec Ideal S256x128 .bf16) (t0 t1 : FVec Ideal S128x1 .f32) : Prop where
  qs : Stk (fun p l => Q (T p) (col r l) * (1 / 8)) qs
  qh : Stk (fun p l => Q (T p) (col r l)) qh
  dh : Stk (fun p l => D (T p) (col r l)) dh
  t0 : ∀ p u, t0 (ix2 p u) = ((∑ u, gr Q K V D (hdl r) (T p) u : ℝ) : EReal)
  t1 : ∀ p u, t1 (ix2 p u) = ((∑ u, gr Q K V D (hdh r) (T p) u : ℝ) : EReal)

/-- The running sums of a block that has met the keys from `E` on. -/
structure RunOK (E : ℕ) (C0 C1 S0 S1 A : FVec Ideal S128x128 .f32) : Prop where
  c0 : ∀ p l, C0 (ix2 p l) = ((from_ (fun u => if u.val < (T p).val then sp (z Q K (hdl r) (T p) u) else 0) E : ℝ) : EReal)
  c1 : ∀ p l, C1 (ix2 p l) = ((from_ (fun u => if u.val < (T p).val then sp (z Q K (hdh r) (T p) u) else 0) E : ℝ) : EReal)
  s0 : ∀ p l, S0 (ix2 p l) = ((from_ (fun u => gr Q K V D (hdl r) (T p) u) E : ℝ) : EReal)
  s1 : ∀ p l, S1 (ix2 p l) = ((from_ (fun u => gr Q K V D (hdh r) (T p) u) E : ℝ) : EReal)
  a : ∀ p l, A (ix2 p l) = ((from_ (fun u => dz Q K V D (head (col r l)) (T p) u * K u (col r l)) E : ℝ) : EReal)

/-- The increments of the keys' and the values' gradients at a key. -/
def incK (s : Fin 4096) (l : Fin 128) : ℝ := ∑ p : Fin 128, dz Q K V D (head (col r l)) (T p) s * Q (T p) (col r l)
def incV (s : Fin 4096) (l : Fin 128) : ℝ := ∑ p : Fin 128, att Q K (head (col r l)) (T p) s * D (T p) (col r l)

variable {Q K V D r T} {st E : ℕ} (hsE : st ≤ E) (hE : E ≤ st + 384) (hst : st + 384 ≤ 4096)
  {qs qh dh : FVec Ideal S256x128 .bf16} {t0 t1 : FVec Ideal S128x1 .f32} (ha : ArgOK Q K V D r T qs qh dh t0 t1)
  {C0 C1 S0 S1 A : FVec Ideal S128x128 .f32} (hr : RunOK Q K V D r T E C0 C1 S0 S1 A)
  {U W : FVec Ideal S256x256 .bf16} (hU : IsSum 0 U) (hW : IsSum 1 W)
  {M : IVec S128x384 1} (hM : ∀ p c, M (ix2 p c) = if Meets T st E p c then 1#1 else 0#1)
  {k v : FVec Ideal S384x128 .bf16} (hk : ∀ c l, k (ix2 c l) = (K (key st hst c) (col r l) : EReal))
  (hv : ∀ c l, v (ix2 c l) = (V (key st hst c) (col r l) : EReal))

include ha hM hk in
theorem x0_at (p : Fin 128) (c : Fin 384) : Zc (lo qs) M k (ix2 p c) = if Meets T st E p c then ((z Q K (hdl r) (T p) (key st hst c) : ℝ) : EReal) else ⊥ := by
  refine (Zc_at (fun p l => (lo_at qs p l).trans (ha.qs.l p l)) hk hM p c).trans (if_congr Iff.rfl (congrArg _ ?_) rfl)
  refine (lanes_lo r (fun x => Q (T p) x * (1 / 8)) (K (key st hst c))).trans ?_
  rw [z, hsum, hsum, Finset.sum_mul]
  exact Finset.sum_congr rfl fun d _ => by ring
include ha hM hk in
theorem x1_at (p : Fin 128) (c : Fin 384) : Zc (hi qs) M k (ix2 p c) = if Meets T st E p c then ((z Q K (hdh r) (T p) (key st hst c) : ℝ) : EReal) else ⊥ := by
  refine (Zc_at (fun p l => (hi_at qs p l).trans (ha.qs.h p l)) hk hM p c).trans (if_congr Iff.rfl (congrArg _ ?_) rfl)
  refine (lanes_hi r (fun x => Q (T p) x * (1 / 8)) (K (key st hst c))).trans ?_
  rw [z, hsum, hsum, Finset.sum_mul]
  exact Finset.sum_congr rfl fun d _ => by ring
include ha hv in
theorem d0_at (p : Fin 128) (c : Fin 384) : DAc (lo dh) v (ix2 p c) = ((hsum (D (T p)) (V (key st hst c)) (hdl r) : ℝ) : EReal) :=
  (DAc_at (fun p l => (lo_at dh p l).trans (ha.dh.l p l)) hv p c).trans (congrArg _ (lanes_lo r (D (T p)) (V (key st hst c))))
include ha hv in
theorem d1_at (p : Fin 128) (c : Fin 384) : DAc (hi dh) v (ix2 p c) = ((hsum (D (T p)) (V (key st hst c)) (hdh r) : ℝ) : EReal) :=
  (DAc_at (fun p l => (hi_at dh p l).trans (ha.dh.h p l)) hv p c).trans (congrArg _ (lanes_hi r (D (T p)) (V (key st hst c))))

/-- Which head's value a lane takes, of a chunk's keys before `E`. -/
theorem pick (F : Fin 8 → Fin 4096 → ℝ) (l : Fin 128) (c : Fin 384) :
    (if l.val < 64 then (if st + c.val < E then F (hdl r) (key st hst c) else 0) else (if st + c.val < E then F (hdh r) (key st hst c) else 0))
      = if st + c.val < E then F (head (col r l)) (key st hst c) else 0 := by
  rw [head_col]
  split_ifs <;> rfl

include ha hM hk hv hr hU hW hE hsE in
theorem run_step : RunOK Q K V D r T st (hC U C0 (Zc (lo qs) M k)) (hC U C1 (Zc (hi qs) M k))
    (hS U W C0 S0 (Zc (lo qs) M k) (DAc (lo dh) v)) (hS U W C1 S1 (Zc (hi qs) M k) (DAc (hi dh) v))
    (k0_pay294 k0_pay6 A k (hDZ U W C0 S0 t0 (Zc (lo qs) M k) (DAc (lo dh) v)) (hDZ U W C1 S1 t1 (Zc (hi qs) M k) (DAc (hi dh) v))) where
  c0 := hC_at Q K hsE hE hst _ hU (x0_at hst ha hM hk) hr.c0
  c1 := hC_at Q K hsE hE hst _ hU (x1_at hst ha hM hk) hr.c1
  s0 := hS_at Q K V D hsE hE hst _ hU hW (x0_at hst ha hM hk) (d0_at hst ha hv) hr.c0 hr.s0
  s1 := hS_at Q K V D hsE hE hst _ hU hW (x1_at hst ha hM hk) (d1_at hst ha hv) hr.c1 hr.s1
  a := fun p l => by
    refine (DQ_at (hDZ_at Q K V D hE hst _ hU hW (x0_at hst ha hM hk) (d0_at hst ha hv) hr.c0 hr.s0 ha.t0)
      (hDZ_at Q K V D hE hst _ hU hW (x1_at hst ha hM hk) (d1_at hst ha hv) hr.c1 hr.s1 ha.t1) hr.a hk p l).trans (congrArg _ ?_)
    rw [← from_add hsE hE hst]
    refine congrArg _ (Finset.sum_congr rfl fun c _ => ?_)
    rw [pick hst (fun H u => dz Q K V D H (T p) u) l c, ite_mul, zero_mul]

/-- An increment of the accumulators' window. -/
theorem inc_sum {A0 A1 : Fin 128 → Fin 384 → ℝ} (F : Fin 8 → Fin 4096 → Fin 4096 → ℝ) (W : Fin 128 → Fin 128 → ℝ)
    (h0 : ∀ p c, A0 p c = if st + c.val < E then F (hdl r) (T p) (key st hst c) else 0)
    (h1 : ∀ p c, A1 p c = if st + c.val < E then F (hdh r) (T p) (key st hst c) else 0) (c : Fin 384) (l : Fin 128) :
    (∑ p, (if l.val < 64 then A0 p c else A1 p c) * W p l) = if st + c.val < E then ∑ p, F (head (col r l)) (T p) (key st hst c) * W p l else 0 := by
  simp only [h0, h1]
  rw [show (fun p => (if l.val < 64 then (if st + c.val < E then F (hdl r) (T p) (key st hst c) else 0) else (if st + c.val < E then F (hdh r) (T p) (key st hst c) else 0)) * W p l)
    = fun p => (if st + c.val < E then F (head (col r l)) (T p) (key st hst c) else 0) * W p l from funext fun p => by rw [pick hst (fun H u => F H (T p) u) l c]]
  split_ifs <;> simp

variable {X : Vec Ideal S384x128 .f32} {x : Fin 4096 → Fin 128 → ℝ} (hX : ∀ c l, X (ix2 c l) = (x (key st hst c) l : EReal))
include ha hM hk hv hr hU hE hX

theorem incV_at (c : Fin 384) (l : Fin 128) : k0_pay297 dh (hA U C0 (Zc (lo qs) M k)) (hA U C1 (Zc (hi qs) M k)) X (ix2 c l)
    = ((x (key st hst c) l + (if st + c.val < E then incV Q K D r T (key st hst c) l else 0) : ℝ) : EReal) := by
  refine (DK_at (hA_at Q K hE hst _ hU (x0_at hst ha hM hk) hr.c0) (hA_at Q K hE hst _ hU (x1_at hst ha hM hk) hr.c1) ha.dh.l ha.dh.h hX c l).trans (congrArg _ ?_)
  exact congrArg (x (key st hst c) l + ·) (inc_sum hst (fun H t s => att Q K H t s) (fun p l => D (T p) (col r l)) (fun _ _ => rfl) (fun _ _ => rfl) c l)

include hW in
theorem incK_at (c : Fin 384) (l : Fin 128) : k0_pay297 qh (hDZ U W C0 S0 t0 (Zc (lo qs) M k) (DAc (lo dh) v)) (hDZ U W C1 S1 t1 (Zc (hi qs) M k) (DAc (hi dh) v)) X (ix2 c l)
    = ((x (key st hst c) l + (if st + c.val < E then incK Q K V D r T (key st hst c) l else 0) : ℝ) : EReal) := by
  refine (DK_at (hDZ_at Q K V D hE hst _ hU hW (x0_at hst ha hM hk) (d0_at hst ha hv) hr.c0 hr.s0 ha.t0)
      (hDZ_at Q K V D hE hst _ hU hW (x1_at hst ha hM hk) (d1_at hst ha hv) hr.c1 hr.s1 ha.t1) ha.qh.l ha.qh.h hX c l).trans (congrArg _ ?_)
  exact congrArg (x (key st hst c) l + ·) (inc_sum hst (fun H t s => dz Q K V D H t s) (fun p l => Q (T p) (col r l)) (fun _ _ => rfl) (fun _ _ => rfl) c l)

end Cert.AttnKIdeal.Hand
end
-- ==== Proof.AttnMask.lean ====
/- Where a chunk of keys starts and ends, and which keys a query meets, as the kernel's words compute them. -/
module

public import proofs.«01_k».proof.Proof.AttnBlock

@[expose] public section

set_option maxRecDepth 16384

noncomputable section

open Idealize.ShloMosaic Idealize.ShloMosaic.TcCoe
open Cert.Proof.Attn
namespace Cert.AttnKIdeal.Hand
open Cert.AttnKIdeal Cert.AttnKIdeal.Gen

/-- The keys that block `b` of point `i` has still to meet after `n` chunks: those before `en i b n`. -/
def en (i b n : ℕ) : ℕ := 128 * (4 * i + b + 1) - 384 * n
theorem en_le (i b n : ℕ) : en i b (n + 1) ≤ en i b n := by unfold en; omega
theorem en_near (i b n : ℕ) : en i b n ≤ en i b (n + 1) + 384 := by unfold en; omega
theorem en_in (i b n : ℕ) (hi : i < 8) (hb : b < 4) : en i b (n + 1) + 384 ≤ 4096 := by unfold en; omega

/-- A block's queries. -/
def row (i : Fin 8) (b : Fin 4) (p : Fin 128) : Fin 4096 := ⟨128 * (4 * i.val + b.val) + p.val, by omega⟩

/-- The words of the mask. -/
def wQ (i : ℕ) : BitVec 32 := Scalar.muli (BitVec.ofNat 32 i) 4#32
def wR (q b : BitVec 32) : BitVec 32 := Scalar.muli (Scalar.addi q b) 128#32
def wE (q b n : BitVec 32) : BitVec 32 := Scalar.subi (Scalar.muli (Scalar.addi (Scalar.addi q b) 1#32) 128#32) (Scalar.muli n 384#32)
def wS (q b n : BitVec 32) : BitVec 32 := Scalar.maxsi (Scalar.subi (wE q b n) 384#32) 0#32
/-- A chunk's mask. -/
def msk (b : BitVec 32) (rows : IVec S128x1 32) (cols : IVec S128x384 32) (n q : BitVec 32) : IVec S128x384 1 :=
  cmpi .slt cols (broadcastTo S128x384 (subi (minsi (addi (broadcast S128x1 (wR q b)) rows) (broadcast S128x1 (wE q b n))) (broadcast S128x1 (wS q b n))) broadcasts_S128x1_S128x384)

theorem words : ∀ (i : Fin 8) (b : Fin 4) (n : Fin 11), (wR (wQ i.val) (BitVec.ofNat 32 b.val)).toInt = 128 * (4 * i.val + b.val)
    ∧ (wE (wQ i.val) (BitVec.ofNat 32 b.val) (BitVec.ofNat 32 n.val)).toInt = 128 * (4 * i.val + b.val + 1) - 384 * n.val
    ∧ (wS (wQ i.val) (BitVec.ofNat 32 b.val) (BitVec.ofNat 32 n.val)).toInt = (en i.val b.val (n.val + 1) : ℕ) := by decide +kernel

theorem offs : ∀ (i : grid0.Coords) (b : Fin 4) (n : Fin 11), k0_off1 i (BitVec.ofNat 32 n.val) (BitVec.ofNat 32 b.val) = ![en (i 1).val b.val (n.val + 1), 0] := by
  decide +kernel

/-- A difference of words that stays small. -/
theorem sub_int {x y : BitVec 32} {a b : ℤ} (hx : x.toInt = a) (hy : y.toInt = b) (h1 : -1000000 ≤ a - b) (h2 : a - b ≤ 1000000) : (x - y).toInt = a - b := by
  rw [BitVec.toInt_sub, hx, hy]
  exact Int.bmod_eq_of_le (by norm_num; omega) (by norm_num; omega)
theorem add_int {x y : BitVec 32} {a b : ℤ} (hx : x.toInt = a) (hy : y.toInt = b) (h1 : -1000000 ≤ a + b) (h2 : a + b ≤ 1000000) : (x + y).toInt = a + b := by
  rw [BitVec.toInt_add, hx, hy]
  exact Int.bmod_eq_of_le (by norm_num; omega) (by norm_num; omega)
theorem nat_int (n : ℕ) (h : n < 1000000) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]
theorem min_int {x y : BitVec 32} : (IntOp.minsi x y).toInt = min x.toInt y.toInt := by
  unfold IntOp.minsi
  rw [BitVec.slt_eq_decide]
  by_cases h : x.toInt < y.toInt
  · rw [decide_eq_true h]; simp only [if_true]; omega
  · rw [decide_eq_false h]; simp only [Bool.false_eq_true, if_false]; omega

theorem msk_at {rows : IVec S128x1 32} {cols : IVec S128x384 32} (hr : ∀ p, rows (ix2 p 0) = BitVec.ofNat 32 p.val) (hc : ∀ p c, cols (ix2 p c) = BitVec.ofNat 32 c.val)
    (i : Fin 8) (b : Fin 4) (n : Fin 11) (p : Fin 128) (c : Fin 384) :
    msk (BitVec.ofNat 32 b.val) rows cols (BitVec.ofNat 32 n.val) (wQ i.val) (ix2 p c)
      = if Meets (row i b) (en i.val b.val (n.val + 1)) (en i.val b.val n.val) p c then 1#1 else 0#1 := by
  pointwise [msk]
  rw [hr, hc]
  obtain ⟨h1, h2, h3⟩ := words i b n
  generalize wR (wQ i.val) (BitVec.ofNat 32 b.val) = R at h1 ⊢
  generalize wE (wQ i.val) (BitVec.ofNat 32 b.val) (BitVec.ofNat 32 n.val) = E at h2 ⊢
  generalize wS (wQ i.val) (BitVec.ofNat 32 b.val) (BitVec.ofNat 32 n.val) = S at h3 ⊢
  have e1 := add_int h1 (nat_int p.val (by omega)) (by omega) (by omega)
  have e2 : (IntOp.minsi (R + BitVec.ofNat 32 p.val) E).toInt = _ := min_int.trans (by rw [e1, h2])
  have e3 := sub_int e2 h3 (by unfold en; omega) (by unfold en; omega)
  have e4 : (BitVec.ofNat 32 c.val).slt (IntOp.minsi (R + BitVec.ofNat 32 p.val) E - S) = decide (Meets (row i b) (en i.val b.val (n.val + 1)) (en i.val b.val n.val) p c) := by
    rw [BitVec.slt_eq_decide, e3, nat_int c.val (by omega)]
    refine decide_eq_decide.mpr ?_
    unfold Meets row en
    simp only
    omega
  show (BitVec.ofBool ((BitVec.ofNat 32 c.val).slt (IntOp.minsi (R + BitVec.ofNat 32 p.val) E - S))) = _
  rw [e4]
  by_cases h : Meets (row i b) (en i.val b.val (n.val + 1)) (en i.val b.val n.val) p c <;> simp [h]

end Cert.AttnKIdeal.Hand
end
-- ==== Proof.AttnTrip.lean ====
/- One trip of the loop over the reals: the running sums move one chunk on and the accumulators take its increments. -/
module

public import proofs.«01_k».proof.Proof.AttnMask
public import proofs.«01_k».proof.Proof.AttnBody
public import Idealize.ShloMosaic.Lib.WritesUnit

@[expose] public section

set_option maxRecDepth 16384

noncomputable section

open Idealize.ShloMosaic Idealize.ShloMosaic.TcCoe
open Cert.Proof.Attn
namespace Cert.AttnKIdeal.Hand
open Cert.AttnKIdeal Cert.AttnKIdeal.Gen

/-- A chunk of the keys or the values. -/
theorem load_at {e : EltTy} (m : Memref sig .tc .vmem S4096x128 e) (h : m.IsWhole) (x : Vec Ideal S4096x128 e) {st : ℕ} (hst : st + 384 ≤ 4096) {off : Fin 2 → ℕ}
    (inb : ∀ a : Fin 2, off a + S384x128.size a ≤ S4096x128.size a) (ho : off = ![st, 0]) (c : Fin 384) (l : Fin 128) :
    View.readAt (Elt Ideal) m.view (Rect.unit (s := S4096x128) off S384x128.size inb).toLoadRect (h.unread x) (ix2 c l) = x (ix2 (key st hst c) l) := by
  subst ho
  refine (congrFun (h.read_unread x) _).trans (congrArg x (funext fun a => Fin.ext ?_))
  fin_cases a
  · show st + 1 * c.val = st + c.val; omega
  · show 0 + 1 * l.val = l.val; omega

/-- An increment of a window of an accumulator. -/
theorem acc_step {κ : Kind} {sp : Space} (v : View sig κ sp S4096x128 .f32) (f : v.ty.Contents (Elt Ideal)) {st E : ℕ} (hE : E ≤ st + 384) (hst : st + 384 ≤ 4096) {off : Fin 2 → ℕ}
    (inb : ∀ a : Fin 2, off a + S384x128.size a ≤ S4096x128.size a) (ho : off = ![st, 0]) {g I : Fin 4096 → Fin 128 → ℝ}
    (hf : ∀ s l, v.read (Elt Ideal) f (ix2 s l) = (g s l : EReal)) {w : Vec Ideal S384x128 .f32 → FVec Ideal S384x128 .f32}
    (hw : ∀ X : Vec Ideal S384x128 .f32, (∀ c l, X (ix2 c l) = (g (key st hst c) l : EReal)) → ∀ c l,
      w X (ix2 c l) = ((g (key st hst c) l + (if st + c.val < E then I (key st hst c) l else 0) : ℝ) : EReal)) (s : Fin 4096) (l : Fin 128) :
    v.read (Elt Ideal) ((v.slice (Rect.unit (s := S4096x128) off S384x128.size inb)).write (Elt Ideal) f
      (w (View.readAt (Elt Ideal) v (Rect.unit (s := S4096x128) off S384x128.size inb).toLoadRect f)) Finset.univ) (ix2 s l)
      = ((g s l + (if st ≤ s.val ∧ s.val < E then I s l else 0) : ℝ) : EReal) := by
  subst ho
  by_cases h : st ≤ s.val ∧ s.val < st + 384
  · have e : key st hst ⟨s.val - st, by omega⟩ = s := Fin.ext (by simp only [key]; omega)
    refine (View.read_writes_cons_rows_of_mem (d := ![4096, 128]) v f (off := ![st, 0]) (size := S384x128.size) (o := st) inb _ [] (ix2 s l) (ix2 ⟨s.val - st, by omega⟩ l) rfl
      (by show s.val = st + (s.val - st); omega) rfl).trans ?_
    refine (hw _ (fun c l => ?_) ⟨s.val - st, by omega⟩ l).trans ?_
    · refine Eq.trans (congrArg (v.read (Elt Ideal) f) (funext fun a => Fin.ext ?_)) (hf (key st hst c) l)
      fin_cases a
      · show st + 1 * c.val = st + c.val; omega
      · show 0 + 1 * l.val = l.val; omega
    · rw [e]
      exact congrArg _ (congrArg (g s l + ·) (if_congr (by simp only; omega) rfl rfl))
  · refine (View.read_writes_cons_rows_of_not_mem (d := ![4096, 128]) v f (off := ![st, 0]) (size := S384x128.size) (o := st) (W := 384) inb _ [] (ix2 s l) rfl rfl
      (by show s.val < st ∨ st + 384 ≤ s.val; omega)).trans ?_
    rw [if_neg (by omega), add_zero]
    exact hf s l

theorem cast_k (X : Vec Ideal S384x128 .bf16) (c : Fin 384) (l : Fin 128) : k0_pay48 X (ix2 c l) = X (ix2 c l) := by pointwise [k0_pay48]
theorem cast_v (X : Vec Ideal S384x128 .bf16) (c : Fin 384) (l : Fin 128) : k0_pay52 X (ix2 c l) = X (ix2 c l) := by pointwise [k0_pay52]

theorem early_off (x : Ideal .f32) : (Scalar.extui (Scalar.cmpf .ole x (Named.named κ "dead" 0x42D20000#32)) : BitVec 32) = 1#32 := by
  have h : Scalar.cmpf .ole x (Named.named κ "dead" (φ := .f32) 0x42D20000#32 : Ideal .f32) = 1#1 := by
    show (BitVec.ofBool (decide (x ≤ (⊤ : EReal)))) = 1#1
    simp
  rw [h]; rfl

variable (Q K V D : Fin 4096 → Fin 512 → ℝ) (r : Fin 4) (i : Fin 8)

/-- What the loop's record keeps. -/
structure CstOK (a : Cc0While1 Ideal) : Prop where
  hi : (a.i 1).val = i.val
  a0 : ArgOK Q K V D r (row i 0) a.v157 a.v120 a.v140 a.v80 a.v85
  a1 : ArgOK Q K V D r (row i 1) a.v159 a.v125 a.v145 a.v90 a.v95
  a2 : ArgOK Q K V D r (row i 2) a.v161 a.v130 a.v150 a.v100 a.v105
  a3 : ArgOK Q K V D r (row i 3) a.v163 a.v135 a.v155 a.v110 a.v115
  u : IsSum 0 a.v7
  w : IsSum 1 a.v9
  half : a.v5 = k0_pay6
  rows : ∀ p, a.v188 (ix2 p 0) = BitVec.ofNat 32 p.val
  cols : ∀ p c, a.v187 (ix2 p c) = BitVec.ofNat 32 c.val
  go : a.arg17 = 1#32

/-- The increments of the blocks from the keys met so far. -/
def metK (n : ℕ) (s : Fin 4096) (l : Fin 128) : ℝ := ∑ b : Fin 4, if en i.val b.val n ≤ s.val then incK Q K V D r (row i b) s l else 0
def metV (n : ℕ) (s : Fin 4096) (l : Fin 128) : ℝ := ∑ b : Fin 4, if en i.val b.val n ≤ s.val then incV Q K D r (row i b) s l else 0

/-- The loop's state after `n` chunks. -/
structure StOK (d0 e0 : Fin 4096 → Fin 128 → ℝ) (n : ℕ) (s : LoopSt Ideal) : Prop where
  cst : CstOK Q K V D r i s.a
  cnt : s.a.arg16 = BitVec.ofNat 32 n
  r0 : RunOK Q K V D r (row i 0) (en i.val 0 n) s.a.arg18 s.a.arg19 s.a.arg20 s.a.arg21 s.a.arg22
  r1 : RunOK Q K V D r (row i 1) (en i.val 1 n) s.a.arg23 s.a.arg24 s.a.arg25 s.a.arg26 s.a.arg27
  r2 : RunOK Q K V D r (row i 2) (en i.val 2 n) s.a.arg28 s.a.arg29 s.a.arg30 s.a.arg31 s.a.arg32
  r3 : RunOK Q K V D r (row i 3) (en i.val 3 n) s.a.arg33 s.a.arg34 s.a.arg35 s.a.arg36 s.a.arg37
  d : ∀ t l, s.d (ix2 t l) = ((d0 t l + metK Q K V D r i n t l : ℝ) : EReal)
  e : ∀ t l, s.e (ix2 t l) = ((e0 t l + metV Q K D r i n t l : ℝ) : EReal)

section Trip
variable (c : Dev nD) (a : Cc0While1 Ideal) (hk : k0_chk1 a.i a.arg16) (hg : going a = 1#1) (xk xv : Vec Ideal S4096x128 .bf16) (xd xe : Vec Ideal S4096x128 .f32)

/-- A block's mask, chunk of keys and chunk of values at a record. -/
def mskOf (b : Fin 4) : IVec S128x384 1 := msk (BitVec.ofNat 32 b.val) a.v188 a.v187 a.arg16 (wQ (a.i 1).val)
def kOf (b : Fin 4) : FVec Ideal S384x128 .bf16 :=
  k0_pay48 (View.readAt (Elt Ideal) a.arg3.view (Rect.unit (s := S4096x128) (k0_off1 a.i a.arg16 (BitVec.ofNat 32 b.val)) S384x128.size (k0_off1_inb a.i a.arg16 hk b)).toLoadRect (a.harg3.unread xk))
def vOf (b : Fin 4) : FVec Ideal S384x128 .bf16 :=
  k0_pay52 (View.readAt (Elt Ideal) a.arg4.view (Rect.unit (s := S4096x128) (k0_off1 a.i a.arg16 (BitVec.ofNat 32 b.val)) S384x128.size (k0_off1_inb a.i a.arg16 hk b)).toLoadRect (a.harg4.unread xv))

/-- A block's score gradients and weights at a record, by head. -/
def zg (b : Fin 4) (qs dh : FVec Ideal S256x128 .bf16) (C S : FVec Ideal S128x128 .f32) (t : FVec Ideal S128x1 .f32) (h : FVec Ideal S256x128 .bf16 → FVec Ideal S128x128 .bf16) : FVec Ideal S128x384 .bf16 :=
  hDZ a.v7 a.v9 C S t (Zc (h qs) (mskOf a b) (kOf a hk xk b)) (DAc (h dh) (vOf a hk xv b))
def wt (b : Fin 4) (qs : FVec Ideal S256x128 .bf16) (C : FVec Ideal S128x128 .f32) (h : FVec Ideal S256x128 .bf16 → FVec Ideal S128x128 .bf16) : FVec Ideal S128x384 .bf16 :=
  hA a.v7 C (Zc (h qs) (mskOf a b) (kOf a hk xk b))

/-- A window's load, increment and store. -/
def put {κ : Kind} {sp : Space} (v : View sig κ sp S4096x128 .f32) (b : Fin 4) (w : FVec Ideal S256x128 .bf16) (x y : FVec Ideal S128x384 .bf16) (f : v.ty.Contents (Elt Ideal)) : v.ty.Contents (Elt Ideal) :=
  (v.slice (Rect.unit (s := S4096x128) (k0_off1 a.i a.arg16 (BitVec.ofNat 32 b.val)) S384x128.size (k0_off1_inb a.i a.arg16 hk b))).write (Elt Ideal) f
    (k0_pay297 w x y (View.readAt (Elt Ideal) v (Rect.unit (s := S4096x128) (k0_off1 a.i a.arg16 (BitVec.ofNat 32 b.val)) S384x128.size (k0_off1_inb a.i a.arg16 hk b)).toLoadRect f)) Finset.univ

theorem trip_d : a.arg14.view.writes (Elt Ideal) (a.harg14.unread xd) (trip c a hk hg xk xv xd xe).2.1
    = put a hk a.arg14.view 3 a.v135 (zg a hk xk xv 3 a.v163 a.v155 a.arg33 a.arg35 a.v110 lo) (zg a hk xk xv 3 a.v163 a.v155 a.arg34 a.arg36 a.v115 hi) (put a hk a.arg14.view 2 a.v130 (zg a hk xk xv 2 a.v161 a.v150 a.arg28 a.arg30 a.v100 lo) (zg a hk xk xv 2 a.v161 a.v150 a.arg29 a.arg31 a.v105 hi) (put a hk a.arg14.view 1 a.v125 (zg a hk xk xv 1 a.v159 a.v145 a.arg23 a.arg25 a.v90 lo) (zg a hk xk xv 1 a.v159 a.v145 a.arg24 a.arg26 a.v95 hi) (put a hk a.arg14.view 0 a.v120 (zg a hk xk xv 0 a.v157 a.v140 a.arg18 a.arg20 a.v80 lo) (zg a hk xk xv 0 a.v157 a.v140 a.arg19 a.arg21 a.v85 hi) (a.harg14.unread xd)))) := (rfl)
theorem trip_e : a.arg15.view.writes (Elt Ideal) (a.harg15.unread xe) (trip c a hk hg xk xv xd xe).2.2.1
    = put a hk a.arg15.view 3 a.v155 (wt a hk xk 3 a.v163 a.arg33 lo) (wt a hk xk 3 a.v163 a.arg34 hi) (put a hk a.arg15.view 2 a.v150 (wt a hk xk 2 a.v161 a.arg28 lo) (wt a hk xk 2 a.v161 a.arg29 hi) (put a hk a.arg15.view 1 a.v145 (wt a hk xk 1 a.v159 a.arg23 lo) (wt a hk xk 1 a.v159 a.arg24 hi) (put a hk a.arg15.view 0 a.v140 (wt a hk xk 0 a.v157 a.arg18 lo) (wt a hk xk 0 a.v157 a.arg19 hi) (a.harg15.unread xe)))) := (rfl)
end Trip

variable {Q K V D r i} {d0 e0 : Fin 4096 → Fin 128 → ℝ} {n : ℕ} {s : LoopSt Ideal} (h : StOK Q K V D r i d0 e0 n s) (hn : n < 11) (hg : going s.a = 1#1) (hk : k0_chk1 s.a.i s.a.arg16)
  (c : Dev nD) {xk xv : Vec Ideal S4096x128 .bf16} (hK : ∀ t l, xk (ix2 t l) = (K t (col r l) : EReal)) (hV : ∀ t l, xv (ix2 t l) = (V t (col r l) : EReal))
include h hn

theorem off_at (b : Fin 4) : k0_off1 s.a.i s.a.arg16 (BitVec.ofNat 32 b.val) = ![en i.val b.val (n + 1), 0] := by
  rw [h.cnt, ← h.cst.hi]
  exact offs s.a.i b ⟨n, hn⟩

theorem mskOf_at (b : Fin 4) (p : Fin 128) (q : Fin 384) : mskOf s.a b (ix2 p q) = if Meets (row i b) (en i.val b.val (n + 1)) (en i.val b.val n) p q then 1#1 else 0#1 := by
  unfold mskOf
  rw [h.cnt, h.cst.hi]
  exact msk_at h.cst.rows h.cst.cols i b ⟨n, hn⟩ p q

include hK in
theorem kOf_at (b : Fin 4) (q : Fin 384) (l : Fin 128) : kOf s.a hk xk b (ix2 q l) = (K (key (en i.val b.val (n + 1)) (en_in _ _ _ i.isLt b.isLt) q) (col r l) : EReal) :=
  (cast_k _ q l).trans <| (load_at s.a.arg3 s.a.harg3 xk (en_in _ _ _ i.isLt b.isLt) (k0_off1_inb s.a.i s.a.arg16 hk b) (off_at h hn b) q l).trans (hK _ l)
include hV in
theorem vOf_at (b : Fin 4) (q : Fin 384) (l : Fin 128) : vOf s.a hk xv b (ix2 q l) = (V (key (en i.val b.val (n + 1)) (en_in _ _ _ i.isLt b.isLt) q) (col r l) : EReal) :=
  (cast_v _ q l).trans <| (load_at s.a.arg4 s.a.harg4 xv (en_in _ _ _ i.isLt b.isLt) (k0_off1_inb s.a.i s.a.arg16 hk b) (off_at h hn b) q l).trans (hV _ l)

/-- One block's increment of an accumulator. -/
theorem put_K {κ : Kind} {sp : Space} (v : View sig κ sp S4096x128 .f32) (b : Fin 4) {qs qh dh : FVec Ideal S256x128 .bf16} {t0 t1 : FVec Ideal S128x1 .f32} {C0 C1 S0 S1 A : FVec Ideal S128x128 .f32}
    (ha : ArgOK Q K V D r (row i b) qs qh dh t0 t1) (hr : RunOK Q K V D r (row i b) (en i.val b.val n) C0 C1 S0 S1 A)
    (hK : ∀ t l, xk (ix2 t l) = (K t (col r l) : EReal)) (hV : ∀ t l, xv (ix2 t l) = (V t (col r l) : EReal)) {g : Fin 4096 → Fin 128 → ℝ} {f : v.ty.Contents (Elt Ideal)}
    (hf : ∀ t l, v.read (Elt Ideal) f (ix2 t l) = (g t l : EReal)) (t : Fin 4096) (l : Fin 128) :
    v.read (Elt Ideal) (put s.a hk v b qh (zg s.a hk xk xv b qs dh C0 S0 t0 lo) (zg s.a hk xk xv b qs dh C1 S1 t1 hi) f) (ix2 t l)
      = ((g t l + (if en i.val b.val (n + 1) ≤ t.val ∧ t.val < en i.val b.val n then incK Q K V D r (row i b) t l else 0) : ℝ) : EReal) :=
  acc_step v f (en_near _ _ _) (en_in _ _ _ i.isLt b.isLt) (k0_off1_inb s.a.i s.a.arg16 hk b) (off_at h hn b) hf
    (w := k0_pay297 qh (zg s.a hk xk xv b qs dh C0 S0 t0 lo) (zg s.a hk xk xv b qs dh C1 S1 t1 hi))
    (fun X hX => incK_at (en_near _ _ _) (en_in _ _ _ i.isLt b.isLt) ha hr h.cst.u h.cst.w (mskOf_at h hn b) (kOf_at h hn hk hK b) (vOf_at h hn hk hV b) hX) t l
theorem put_V {κ : Kind} {sp : Space} (v : View sig κ sp S4096x128 .f32) (b : Fin 4) {qs qh dh : FVec Ideal S256x128 .bf16} {t0 t1 : FVec Ideal S128x1 .f32} {C0 C1 S0 S1 A : FVec Ideal S128x128 .f32}
    (ha : ArgOK Q K V D r (row i b) qs qh dh t0 t1) (hr : RunOK Q K V D r (row i b) (en i.val b.val n) C0 C1 S0 S1 A)
    (hK : ∀ t l, xk (ix2 t l) = (K t (col r l) : EReal)) (hV : ∀ t l, xv (ix2 t l) = (V t (col r l) : EReal)) {g : Fin 4096 → Fin 128 → ℝ} {f : v.ty.Contents (Elt Ideal)}
    (hf : ∀ t l, v.read (Elt Ideal) f (ix2 t l) = (g t l : EReal)) (t : Fin 4096) (l : Fin 128) :
    v.read (Elt Ideal) (put s.a hk v b dh (wt s.a hk xk b qs C0 lo) (wt s.a hk xk b qs C1 hi) f) (ix2 t l)
      = ((g t l + (if en i.val b.val (n + 1) ≤ t.val ∧ t.val < en i.val b.val n then incV Q K D r (row i b) t l else 0) : ℝ) : EReal) :=
  acc_step v f (en_near _ _ _) (en_in _ _ _ i.isLt b.isLt) (k0_off1_inb s.a.i s.a.arg16 hk b) (off_at h hn b) hf
    (w := k0_pay297 dh (wt s.a hk xk b qs C0 lo) (wt s.a hk xk b qs C1 hi))
    (fun X hX => incV_at (en_near _ _ _) (en_in _ _ _ i.isLt b.isLt) ha hr h.cst.u (mskOf_at h hn b) (kOf_at h hn hk hK b) (vOf_at h hn hk hV b) hX) t l

omit h hn in
theorem met_step (F : Fin 4 → ℝ) (n t : ℕ) : (∑ b : Fin 4, if en i.val b.val n ≤ t then F b else 0) + (if en i.val 0 (n + 1) ≤ t ∧ t < en i.val 0 n then F 0 else 0)
    + (if en i.val 1 (n + 1) ≤ t ∧ t < en i.val 1 n then F 1 else 0) + (if en i.val 2 (n + 1) ≤ t ∧ t < en i.val 2 n then F 2 else 0)
    + (if en i.val 3 (n + 1) ≤ t ∧ t < en i.val 3 n then F 3 else 0) = ∑ b : Fin 4, if en i.val b.val (n + 1) ≤ t then F b else 0 := by
  have e : ∀ b : Fin 4, (if en i.val b.val (n + 1) ≤ t then F b else 0) = (if en i.val b.val n ≤ t then F b else 0) + if en i.val b.val (n + 1) ≤ t ∧ t < en i.val b.val n then F b else 0 := fun b => by
    have := en_le i.val b.val n
    by_cases h1 : en i.val b.val n ≤ t
    · rw [if_pos h1, if_pos (by omega), if_neg (by omega), add_zero]
    · by_cases h2 : en i.val b.val (n + 1) ≤ t
      · rw [if_neg h1, if_pos h2, if_pos ⟨h2, by omega⟩, zero_add]
      · rw [if_neg h1, if_neg h2, if_neg (by omega), add_zero]
  simp only [e]
  simp only [Fin.sum_univ_four]
  show _ = (_ + _) + (_ + _) + (_ + _) + (_ + _)
  simp only [Fin.val_zero, Fin.val_one, Fin.val_two, show ((3 : Fin 4) : ℕ) = 3 from rfl]
  ring

include hK hV hg hk in
set_option maxHeartbeats 1000000 in
theorem st_step : StOK Q K V D r i d0 e0 (n + 1) (nxt c xk xv s) := by
  rw [nxt_of_going c xk xv s hg hk]
  have step := fun (b : Fin 4) {qs qh dh : FVec Ideal S256x128 .bf16} {t0 t1 : FVec Ideal S128x1 .f32} {C0 C1 S0 S1 A : FVec Ideal S128x128 .f32}
      (ha : ArgOK Q K V D r (row i b) qs qh dh t0 t1) (hr : RunOK Q K V D r (row i b) (en i.val b.val n) C0 C1 S0 S1 A) =>
    run_step (en_le i.val b.val n) (en_near _ _ _) (en_in _ _ _ i.isLt b.isLt) ha hr h.cst.u h.cst.w (mskOf_at h hn b) (kOf_at h hn hk hK b) (vOf_at h hn hk hV b)
  have q0 := step 0 h.cst.a0 h.r0
  have q1 := step 1 h.cst.a1 h.r1
  have q2 := step 2 h.cst.a2 h.r2
  have q3 := step 3 h.cst.a3 h.r3
  rw [← h.cst.half] at q0 q1 q2 q3
  refine ⟨⟨h.cst.hi, h.cst.a0, h.cst.a1, h.cst.a2, h.cst.a3, h.cst.u, h.cst.w, h.cst.half, h.cst.rows, h.cst.cols, early_off _⟩, ?_, q0, q1, q2, q3, fun t l => ?_, fun t l => ?_⟩
  · show Scalar.addi s.a.arg16 1#32 = _
    rw [h.cnt]; exact (BitVec.ofNat_add n 1).symm
  · show s.a.arg14.view.read (Elt Ideal) (s.a.arg14.view.writes (Elt Ideal) (s.a.harg14.unread s.d) (trip c s.a hk hg xk xv s.d s.e).2.1) (ix2 t l) = _
    rw [trip_d]
    have f0 : ∀ t l, s.a.arg14.view.read (Elt Ideal) (s.a.harg14.unread s.d) (ix2 t l) = ((d0 t l + metK Q K V D r i n t l : ℝ) : EReal) := fun t l => by
      rw [s.a.harg14.read_unread]; exact h.d t l
    refine (put_K h hn hk s.a.arg14.view 3 h.cst.a3 h.r3 hK hV (put_K h hn hk s.a.arg14.view 2 h.cst.a2 h.r2 hK hV (put_K h hn hk s.a.arg14.view 1 h.cst.a1 h.r1 hK hV
      (put_K h hn hk s.a.arg14.view 0 h.cst.a0 h.r0 hK hV f0))) t l).trans (congrArg _ ?_)
    have := met_step (i := i) (fun b => incK Q K V D r (row i b) t l) n t.val
    unfold metK
    rw [← this]
    show d0 t l + _ + _ + _ + _ + _ = _
    simp only [Fin.val_zero, Fin.val_one, Fin.val_two, show ((3 : Fin 4) : ℕ) = 3 from rfl]
    ring
  · show s.a.arg15.view.read (Elt Ideal) (s.a.arg15.view.writes (Elt Ideal) (s.a.harg15.unread s.e) (trip c s.a hk hg xk xv s.d s.e).2.2.1) (ix2 t l) = _
    rw [trip_e]
    have f0 : ∀ t l, s.a.arg15.view.read (Elt Ideal) (s.a.harg15.unread s.e) (ix2 t l) = ((e0 t l + metV Q K D r i n t l : ℝ) : EReal) := fun t l => by
      rw [s.a.harg15.read_unread]; exact h.e t l
    refine (put_V h hn hk s.a.arg15.view 3 h.cst.a3 h.r3 hK hV (put_V h hn hk s.a.arg15.view 2 h.cst.a2 h.r2 hK hV (put_V h hn hk s.a.arg15.view 1 h.cst.a1 h.r1 hK hV
      (put_V h hn hk s.a.arg15.view 0 h.cst.a0 h.r0 hK hV f0))) t l).trans (congrArg _ ?_)
    have := met_step (i := i) (fun b => incV Q K D r (row i b) t l) n t.val
    unfold metV
    rw [← this]
    show e0 t l + _ + _ + _ + _ + _ = _
    simp only [Fin.val_zero, Fin.val_one, Fin.val_two, show ((3 : Fin 4) : ℕ) = 3 from rfl]
    ring

end Cert.AttnKIdeal.Hand
end
-- ==== Proof.AttnStart.lean ====
/- What the attention's backward kernel brings into its loop: the output's gradient through the head norm, and the blocks of queries. -/
module

public import proofs.«01_k».proof.Proof.AttnTrip
public import proofs.«01_k».proof.Proof.PobNorm

@[expose] public section

set_option maxRecDepth 16384

noncomputable section

open Idealize.ShloMosaic Idealize.ShloMosaic.TcCoe Idealize.SL.Sem
open Cert.Proof.Attn
open Cert.Proof.LN (coe_sum div_coe)
open Cert.PobKIdeal.Hand (gsum rs yn dnorm msq rsqrt_msq lit_eps lit_inv64)
namespace Cert.AttnKIdeal.Hand
open Cert.AttnKIdeal Cert.AttnKIdeal.Gen

/-! ## The head norm over a tile of 512 rows and two heads -/

/-- A tile's sums by head. -/
def GS (x : FVec Ideal S512x128 .f32) : FVec Ideal S512x128 .f32 :=
  select k0_pay5
    (broadcastTo S512x128 (shapeCast S512x1 (shapeCast S512x1 (multiReduction .add [1] S512 (select k0_pay5 x (broadcast S512x128 (Scalar.ofBits (F := Ideal) .f32 0x00000000#32))) 0x00000000#32 reduces_S512x128_S512 (.inl rfl) rfl) shapeCasts_S512_S512x1) shapeCasts_S512x1_S512x1) broadcasts_S512x1_S512x128)
    (broadcastTo S512x128 (shapeCast S512x1 (shapeCast S512x1 (multiReduction .add [1] S512 (select k0_pay5 (broadcast S512x128 (Scalar.ofBits (F := Ideal) .f32 0x00000000#32)) x) 0x00000000#32 reduces_S512x128_S512 (.inl rfl) rfl) shapeCasts_S512_S512x1) shapeCasts_S512x1_S512x1) broadcasts_S512x1_S512x128)

/-- The gradient of the normalised output. -/
def WG (y6 : Vec Ideal S512x128 .f32) (y7 : Vec Ideal S1x128 .f32) : FVec Ideal S512x128 .f32 := mulf (F := Ideal) (φ := .f32) y6 (broadcastTo S512x128 y7 broadcasts_S1x128_S512x128)

section Norm
variable (r : Fin 4) {x : FVec Ideal S512x128 .f32} {X : Fin 512 → Fin 512 → ℝ}

theorem GS_at (h : ∀ p l, x (ix2 p l) = (X p (col r l) : EReal)) (p : Fin 512) (l : Fin 128) : GS x (ix2 p l) = (gsum (X p) (col r l) : EReal) := by
  pointwise [GS, k0_pay5]
  simp only [Cert.PobKIdeal.Hand.mask, h]
  rw [Fin.sum_univ_add (a := 64) (b := 64), Fin.sum_univ_add (a := 64) (b := 64)]
  have e : gsum (X p) (col r l) = if l.val < 64 then ∑ j : Fin 64, X p (col r (Fin.castAdd 64 j)) else ∑ j : Fin 64, X p (col r (Fin.natAdd 64 j)) := by
    unfold gsum
    split <;> refine Finset.sum_congr rfl fun j _ => congrArg (X p) (Fin.ext ?_) <;> simp [col] <;> omega
  rw [e]
  by_cases hl : l.val < 64 <;> simp [hl, coe_sum]

variable {y5 y6 : Vec Ideal S512x128 .f32} {y7 : Vec Ideal S1x128 .f32} {O Y : Fin 512 → Fin 512 → ℝ} {G : Fin 512 → ℝ}
  (h5 : ∀ p l, y5 (ix2 p l) = (O p (col r l) : EReal)) (h6 : ∀ p l, y6 (ix2 p l) = (Y p (col r l) : EReal)) (h7 : ∀ l, y7 (ix2 0 l) = (G (col r l) : EReal))
include h5

theorem O_at (p : Fin 512) (l : Fin 128) : k0_pay11 y5 (ix2 p l) = (O p (col r l) : EReal) := by
  pointwise [k0_pay11]
  exact h5 p l

theorem RS_at (p : Fin 512) (l : Fin 128) : k0_pay12 y5 (ix2 p l) = (rs (O p) (col r l) : EReal) := by
  have e := GS_at r (x := mulf (k0_pay11 y5) (k0_pay11 y5)) (X := fun p k => O p k * O p k) (fun p l => by pointwise []; rw [O_at r h5, ← EReal.coe_mul]) p l
  have u : k0_pay12 y5 (ix2 p l) = Ideal.rsqrt (GS (mulf (k0_pay11 y5) (k0_pay11 y5)) (ix2 p l) * Ideal.ofBits .f32 0x3C800000#32 + Ideal.ofBits .f32 0x358637BD#32) := rfl
  rw [u, e, lit_inv64, lit_eps, ← EReal.coe_mul, ← EReal.coe_add, ← rsqrt_msq]
  unfold msq
  rw [mul_one_div]

theorem YN_at (p : Fin 512) (l : Fin 128) : k0_pay13 y5 (ix2 p l) = (yn (O p) (col r l) : EReal) := by
  have u : k0_pay13 y5 (ix2 p l) = k0_pay11 y5 (ix2 p l) * k0_pay12 y5 (ix2 p l) := rfl
  rw [u, O_at r h5, RS_at r h5, ← EReal.coe_mul]
  rfl

include h6 h7
/-- The gradient of the attention's output. -/
theorem DO_at (p : Fin 512) (l : Fin 128) : k0_pay17 k0_pay5 (k0_pay12 y5) (k0_pay13 y5) y6 y7 (ix2 p l) = (dnorm (O p) (fun q => Y p q * G q) (col r l) : EReal) := by
  have w : ∀ p l, WG y6 y7 (ix2 p l) = ((Y p (col r l) * G (col r l) : ℝ) : EReal) := fun p l => by
    pointwise [WG]
    rw [h6, h7, ← EReal.coe_mul]
  have e := GS_at r (x := mulf (WG y6 y7) (k0_pay13 y5)) (X := fun p k => Y p k * G k * yn (O p) k)
    (fun p l => by
      have u : mulf (WG y6 y7) (k0_pay13 y5) (ix2 p l) = WG y6 y7 (ix2 p l) * k0_pay13 y5 (ix2 p l) := rfl
      rw [u, w, YN_at r h5, ← EReal.coe_mul]) p l
  have u : k0_pay17 k0_pay5 (k0_pay12 y5) (k0_pay13 y5) y6 y7 (ix2 p l) = k0_pay12 y5 (ix2 p l) * (WG y6 y7 (ix2 p l)
      - k0_pay13 y5 (ix2 p l) * (GS (mulf (WG y6 y7) (k0_pay13 y5)) (ix2 p l) * Ideal.ofBits .f32 0x3C800000#32)) := rfl
  rw [u, e, w, YN_at r h5, RS_at r h5, lit_inv64]
  simp only [← EReal.coe_mul, ← EReal.coe_sub]
  unfold dnorm
  rw [mul_one_div]

theorem DOO_at (p : Fin 512) (l : Fin 128) : k0_pay18 k0_pay5 (k0_pay11 y5) (k0_pay12 y5) (k0_pay13 y5) y6 y7 (ix2 p l)
    = ((dnorm (O p) (fun q => Y p q * G q) (col r l) * O p (col r l) : ℝ) : EReal) := by
  have u : k0_pay18 k0_pay5 (k0_pay11 y5) (k0_pay12 y5) (k0_pay13 y5) y6 y7 (ix2 p l) = k0_pay17 k0_pay5 (k0_pay12 y5) (k0_pay13 y5) y6 y7 (ix2 p l) * k0_pay11 y5 (ix2 p l) := rfl
  rw [u, DO_at r h5 h6 h7, O_at r h5, ← EReal.coe_mul]
end Norm

/-! ## A block stacked by head, and a block's row sums by head -/

theorem lit_zb : Ideal.ofBits .bf16 0x0000#16 = ((0 : ℝ) : EReal) := by simp [Ideal.ofBits, Ideal.ieee]
theorem lit_eighth : Ideal.ofBits .bf16 0x3E00#16 = ((1 / 8 : ℝ) : EReal) := by
  simp [Ideal.ofBits, Ideal.ieee, -EReal.coe_mul]; norm_num

/-- A block stacked twice, by head. -/
abbrev stk (w : FVec Ideal S128x128 .bf16) : FVec Ideal S256x128 .bf16 := k0_pay32 (k0_pay20 k0_pay5) w (FloatOps.ofBits .bf16 0#16)
/-- Rows `128 b` to `128 b + 127` of a tile. -/
abbrev cutB (w : FVec Ideal S512x128 .bf16) : Fin 4 → FVec Ideal S128x128 .bf16
  | 0 => extractStridedSlice S128x128 ![0, 0] w slices_S512x128_o0_0_S128x128
  | 1 => extractStridedSlice S128x128 ![128, 0] w slices_S512x128_o128_0_S128x128
  | 2 => extractStridedSlice S128x128 ![256, 0] w slices_S512x128_o256_0_S128x128
  | 3 => extractStridedSlice S128x128 ![384, 0] w slices_S512x128_o384_0_S128x128
abbrev cutF (w : FVec Ideal S512x128 .f32) : Fin 4 → FVec Ideal S128x128 .f32
  | 0 => extractStridedSlice S128x128 ![0, 0] w slices_S512x128_o0_0_S128x128
  | 1 => extractStridedSlice S128x128 ![128, 0] w slices_S512x128_o128_0_S128x128
  | 2 => extractStridedSlice S128x128 ![256, 0] w slices_S512x128_o256_0_S128x128
  | 3 => extractStridedSlice S128x128 ![384, 0] w slices_S512x128_o384_0_S128x128

theorem cutB_at (w : FVec Ideal S512x128 .bf16) (b : Fin 4) (p l : Fin 128) : cutB w b (ix2 p l) = w (ix2 ⟨128 * b.val + p.val, by omega⟩ l) := by
  fin_cases b <;> dsimp only [cutB] <;> pointwise [] <;> exact congrArg (fun k => w (ix2 k l)) (Fin.ext (by simp))
theorem cutF_at (w : FVec Ideal S512x128 .f32) (b : Fin 4) (p l : Fin 128) : cutF w b (ix2 p l) = w (ix2 ⟨128 * b.val + p.val, by omega⟩ l) := by
  fin_cases b <;> dsimp only [cutF] <;> pointwise [] <;> exact congrArg (fun k => w (ix2 k l)) (Fin.ext (by simp))

theorem stk_ok {w : FVec Ideal S128x128 .bf16} {f : Fin 128 → Fin 128 → ℝ} (h : ∀ p l, w (ix2 p l) = (f p l : EReal)) : Stk f (stk w) where
  l := fun p l => by
    pointwise [stk, k0_pay32, k0_pay20, k0_pay5]
    simp only [Cert.PobKIdeal.Hand.mask]
    split
    · exact h p l
    · exact EReal.coe_zero.symm
  h := fun p l => by
    pointwise [stk, k0_pay32, k0_pay20, k0_pay5]
    simp only [Cert.PobKIdeal.Hand.mask]
    split
    · exact EReal.coe_zero.symm
    · exact (congrArg (fun k => w (ix2 k l)) (Fin.ext (by simp))).trans (h p l)

theorem stk_scaled {w : FVec Ideal S256x128 .bf16} {f : Fin 128 → Fin 128 → ℝ} (h : Stk f w) : Stk (fun p l => f p l * (1 / 8)) (k0_pay39 w) where
  l := fun p l => by
    pointwise [k0_pay39]
    rw [h.l, lit_eighth, ← EReal.coe_mul]
    split <;> simp
  h := fun p l => by
    pointwise [k0_pay39]
    rw [h.h, lit_eighth, ← EReal.coe_mul]
    split <;> simp

abbrev zf : FVec Ideal S128x128 .f32 := broadcast S128x128 (Scalar.ofBits (F := Ideal) .f32 0x00000000#32)
/-- A block's row sums over the first and the second head. -/
abbrev TL (w : FVec Ideal S128x128 .f32) : FVec Ideal S128x1 .f32 := k0_pay22 (select (k0_pay20 k0_pay5) w zf)
abbrev TH (w : FVec Ideal S128x128 .f32) : FVec Ideal S128x1 .f32 := k0_pay22 (select (k0_pay20 k0_pay5) zf w)

variable {w : FVec Ideal S128x128 .f32} {f : Fin 128 → Fin 512 → ℝ} {g : Fin 128 → Fin 512 → ℝ} (r : Fin 4) (h : ∀ p l, w (ix2 p l) = ((f p (col r l) * g p (col r l) : ℝ) : EReal))
theorem TL_sum (w : FVec Ideal S128x128 .f32) (F : Fin 128 → EReal) (p : Fin 128) (u : Fin 1) (hF : ∀ l, (if l.val < 64 then w (ix2 p l) else 0) = F l) : TL w (ix2 p u) = ∑ l, F l := by
  pointwise [TL, k0_pay22, k0_pay20, k0_pay5]
  simp only [Cert.PobKIdeal.Hand.mask, hF]
theorem TH_sum (w : FVec Ideal S128x128 .f32) (F : Fin 128 → EReal) (p : Fin 128) (u : Fin 1) (hF : ∀ l, (if l.val < 64 then 0 else w (ix2 p l)) = F l) : TH w (ix2 p u) = ∑ l, F l := by
  pointwise [TH, k0_pay22, k0_pay20, k0_pay5]
  simp only [Cert.PobKIdeal.Hand.mask, hF]
include h
theorem TL_at (p : Fin 128) (u : Fin 1) : TL w (ix2 p u) = (hsum (f p) (g p) (hdl r) : EReal) := by
  rw [← lanes_lo r (f p) (g p), ← coe_sum]
  refine TL_sum w _ p u fun l => ?_
  rw [h]
  split <;> simp
theorem TH_at (p : Fin 128) (u : Fin 1) : TH w (ix2 p u) = (hsum (f p) (g p) (hdh r) : EReal) := by
  rw [← lanes_hi r (f p) (g p), ← coe_sum]
  refine TH_sum w _ p u fun l => ?_
  rw [h]
  split <;> simp
omit h

/-! ## The blocks at the loop's entry -/

/-- Query `t` of tile `i`. -/
def qrow (i : Fin 8) (t : Fin 512) : Fin 4096 := ⟨512 * i.val + t.val, by omega⟩
theorem qrow_row (i : Fin 8) (b : Fin 4) (p : Fin 128) : qrow i ⟨128 * b.val + p.val, by omega⟩ = row i b p := Fin.ext (by simp only [qrow, row]; omega)

section Entry
variable (Q K V Y : Fin 4096 → Fin 512 → ℝ) (G : Fin 512 → ℝ)
/-- The gradient of the attention's output, through the norm. -/
def dout (t : Fin 4096) (l : Fin 512) : ℝ := dnorm (out Q K V t) (fun q => Y t q * G q) l

variable (i : Fin 8) {y2 : Vec Ideal S512x128 .bf16} {y5 y6 : Vec Ideal S512x128 .f32} {y7 : Vec Ideal S1x128 .f32}

/-- A tile's inputs. -/
structure InOK (y2 : Vec Ideal S512x128 .bf16) (y5 y6 : Vec Ideal S512x128 .f32) (y7 : Vec Ideal S1x128 .f32) : Prop where
  q : ∀ t l, y2 (ix2 t l) = (Q (qrow i t) (col r l) : EReal)
  o : ∀ t l, y5 (ix2 t l) = (out Q K V (qrow i t) (col r l) : EReal)
  y : ∀ t l, y6 (ix2 t l) = (Y (qrow i t) (col r l) : EReal)
  g : ∀ l, y7 (ix2 0 l) = (G (col r l) : EReal)

variable {Q K V Y G r i} (hin : InOK r Q K V Y G i y2 y5 y6 y7)
include hin

theorem arg_ok (b : Fin 4) : ArgOK Q K V (dout Q K V Y G) r (row i b) (k0_pay39 (stk (cutB (k0_pay19 y2) b))) (stk (cutB (k0_pay19 y2) b))
    (stk (cutB (k0_pay17 k0_pay5 (k0_pay12 y5) (k0_pay13 y5) y6 y7) b))
    (TL (cutF (k0_pay18 k0_pay5 (k0_pay11 y5) (k0_pay12 y5) (k0_pay13 y5) y6 y7) b)) (TH (cutF (k0_pay18 k0_pay5 (k0_pay11 y5) (k0_pay12 y5) (k0_pay13 y5) y6 y7) b)) := by
  have hq : Stk (fun p l => Q (row i b p) (col r l)) (stk (cutB (k0_pay19 y2) b)) := stk_ok fun p l => by
    rw [cutB_at, ← qrow_row]
    pointwise [k0_pay19]
    exact hin.q _ _
  have ho := fun p : Fin 128 => qrow_row i b p
  have hd : ∀ (p : Fin 128) (l : Fin 128), cutF (k0_pay18 k0_pay5 (k0_pay11 y5) (k0_pay12 y5) (k0_pay13 y5) y6 y7) b (ix2 p l)
      = ((dout Q K V Y G (row i b p) (col r l) * out Q K V (row i b p) (col r l) : ℝ) : EReal) := fun p l => by
    rw [cutF_at, ← ho]
    exact DOO_at r (O := fun t => out Q K V (qrow i t)) (Y := fun t => Y (qrow i t)) hin.o hin.y hin.g _ l
  refine ⟨stk_scaled hq, hq, stk_ok fun p l => ?_, fun p u => ?_, fun p u => ?_⟩
  · rw [cutB_at, ← ho]
    exact DO_at r (O := fun t => out Q K V (qrow i t)) (Y := fun t => Y (qrow i t)) hin.o hin.y hin.g _ l
  · exact (TL_at (f := fun p => dout Q K V Y G (row i b p)) (g := fun p => out Q K V (row i b p)) r hd p u).trans (congrArg _ (total Q K V _ _ _))
  · exact (TH_at (f := fun p => dout Q K V Y G (row i b p)) (g := fun p => out Q K V (row i b p)) r hd p u).trans (congrArg _ (total Q K V _ _ _))
end Entry

end Cert.AttnKIdeal.Hand
-- ==== Proof.AttnEnd.lean ====
/- The loop's end: every key has been met. -/
module

public import proofs.«01_k».proof.Proof.AttnTrip

@[expose] public section

set_option maxRecDepth 16384

noncomputable section

open Idealize.ShloMosaic Idealize.ShloMosaic.TcCoe
open Cert.Proof.Attn
namespace Cert.AttnKIdeal.Hand
open Cert.AttnKIdeal Cert.AttnKIdeal.Gen

/-- A loop that goes on is within its trips and in bounds. -/
theorem chk_of_going : ∀ (i : grid0.Coords) (n : Fin 12), IntOp.cmpi .slt (BitVec.ofNat 32 n.val) (nTrips i) = 1#1 → n.val < 11 ∧ k0_chk1 i (BitVec.ofNat 32 n.val) := by
  decide +kernel
/-- A loop that stops has met every key. -/
theorem en_of_not : ∀ (i : grid0.Coords) (n : Fin 12), IntOp.cmpi .slt (BitVec.ofNat 32 n.val) (nTrips i) ≠ 1#1 → 128 * (4 * (i 1).val + 4) ≤ 384 * n.val := by
  decide +kernel

variable {Q K V D : Fin 4096 → Fin 512 → ℝ} {r : Fin 4} {i : Fin 8} {d0 e0 : Fin 4096 → Fin 128 → ℝ} {s : LoopSt Ideal}
  (c : Dev nD) {xk xv : Vec Ideal S4096x128 .bf16} (hK : ∀ t l, xk (ix2 t l) = (K t (col r l) : EReal)) (hV : ∀ t l, xv (ix2 t l) = (V t (col r l) : EReal))

theorem bit_and : ∀ x : BitVec 1, x &&& 1#1 = 1#1 ↔ x = 1#1 := by decide
theorem going_iff {n : ℕ} (h : StOK Q K V D r i d0 e0 n s) : going s.a = 1#1 ↔ IntOp.cmpi .slt (BitVec.ofNat 32 n) (nTrips s.a.i) = 1#1 := by
  unfold going
  rw [h.cnt, h.cst.go]
  show (IntOp.cmpi .slt (BitVec.ofNat 32 n) (nTrips s.a.i)) &&& 1#1 = 1#1 ↔ _
  exact bit_and _

include hK hV in
theorem st_iter (h : StOK Q K V D r i d0 e0 0 s) : ∀ k : ℕ, ∃ n ≤ 11, StOK Q K V D r i d0 e0 n ((nxt c xk xv)^[k] s) ∧ (going ((nxt c xk xv)^[k] s).a = 1#1 → n = k)
  | 0 => ⟨0, by omega, h, fun _ => rfl⟩
  | k + 1 => by
    obtain ⟨n, hn, hs, hk⟩ := st_iter h k
    rw [Function.iterate_succ_apply']
    by_cases hg : going ((nxt c xk xv)^[k] s).a = 1#1
    · have hb := chk_of_going ((nxt c xk xv)^[k] s).a.i ⟨n, by omega⟩ ((going_iff hs).mp hg)
      refine ⟨n + 1, hb.1, st_step hs hb.1 hg ?_ c hK hV, fun _ => by rw [hk hg]⟩
      rw [hs.cnt]; exact hb.2
    · rw [nxt_of_not c xk xv _ hg]
      exact ⟨n, hn, hs, fun hh => absurd hh hg⟩

include hK hV in
/-- After the loop every key has been met. -/
theorem st_end (h : StOK Q K V D r i d0 e0 0 s) : ∃ n, (∀ b : Fin 4, en i.val b.val n = 0) ∧ StOK Q K V D r i d0 e0 n ((nxt c xk xv)^[11] s) := by
  obtain ⟨n, hn, hs, hk⟩ := st_iter c hK hV h 11
  refine ⟨n, fun b => ?_, hs⟩
  have hg : ¬ IntOp.cmpi .slt (BitVec.ofNat 32 n) (nTrips ((nxt c xk xv)^[11] s).a.i) = 1#1 := fun hg => by
    have h1 := hk ((going_iff hs).mpr hg)
    have h2 := (chk_of_going _ ⟨n, by omega⟩ hg).1
    simp only at h2
    omega
  have := en_of_not _ ⟨n, by omega⟩ hg
  rw [hs.cst.hi] at this
  simp only at this
  unfold en
  omega

/-! ## The entry -/

theorem from_top (F : Fin 4096 → ℝ) (E : ℕ) (h : ∀ u : Fin 4096, E ≤ u.val → F u = 0) : from_ F E = 0 :=
  Finset.sum_eq_zero fun u _ => by split <;> first | exact h u ‹_› | rfl
theorem from_zero (F : Fin 4096 → ℝ) : from_ F 0 = ∑ u, F u := Finset.sum_congr rfl fun u _ => if_pos (Nat.zero_le _)
theorem row_lt (i : Fin 8) (b : Fin 4) (p : Fin 128) : (row i b p).val < en i.val b.val 0 := by simp only [row, en]; omega

theorem gr_top (H : Fin 8) {t u : Fin 4096} (h : t.val ≤ u.val) : gr Q K V D H t u = 0 := by
  unfold gr att; rw [if_neg (by omega), zero_mul]
theorem dz_top (H : Fin 8) {t u : Fin 4096} (h : t.val ≤ u.val) : dz Q K V D H t u = 0 := by
  unfold dz; rw [if_neg (by omega)]

theorem run_start (b : Fin 4) {z : FVec Ideal S128x128 .f32} (hz : ∀ p l, z (ix2 p l) = ((0 : ℝ) : EReal)) : RunOK Q K V D r (row i b) (en i.val b.val 0) z z z z z where
  c0 := fun p l => (hz p l).trans (congrArg _ (from_top _ _ fun u hu => if_neg (by have := row_lt i b p; omega)).symm)
  c1 := fun p l => (hz p l).trans (congrArg _ (from_top _ _ fun u hu => if_neg (by have := row_lt i b p; omega)).symm)
  s0 := fun p l => (hz p l).trans (congrArg _ (from_top _ _ fun u hu => gr_top _ (by have := row_lt i b p; omega)).symm)
  s1 := fun p l => (hz p l).trans (congrArg _ (from_top _ _ fun u hu => gr_top _ (by have := row_lt i b p; omega)).symm)
  a := fun p l => (hz p l).trans (congrArg _ (from_top _ _ fun u hu => by rw [dz_top _ (by have := row_lt i b p; omega), zero_mul]).symm)

theorem metK_zero (s : Fin 4096) (l : Fin 128) : metK Q K V D r i 0 s l = 0 := Finset.sum_eq_zero fun b _ => by
  split
  · exact Finset.sum_eq_zero fun p _ => by rw [dz_top _ (by have := row_lt i b p; omega), zero_mul]
  · rfl
theorem metV_zero (s : Fin 4096) (l : Fin 128) : metV Q K D r i 0 s l = 0 := Finset.sum_eq_zero fun b _ => by
  split
  · exact Finset.sum_eq_zero fun p _ => by unfold att; rw [if_neg (by have := row_lt i b p; omega), zero_mul]
  · rfl

/-! ## A tile's part of the keys' and the values' gradients -/

theorem blocks_sum (f : Fin 4096 → ℝ) : ∑ b : Fin 4, ∑ p : Fin 128, f (row i b p) = ∑ t : Fin 512, f ⟨512 * i.val + t.val, by omega⟩ := by
  rw [← Finset.sum_product', Finset.univ_product_univ]
  refine Fintype.sum_equiv finProdFinEquiv _ _ fun x => congrArg f (Fin.ext ?_)
  simp only [row, finProdFinEquiv_apply_val]
  omega

theorem metK_end {n : ℕ} (h : ∀ b : Fin 4, en i.val b.val n = 0) (s : Fin 4096) (l : Fin 128) :
    metK Q K V D r i n s l = ∑ t : Fin 512, dz Q K V D (head (col r l)) ⟨512 * i.val + t.val, by omega⟩ s * Q ⟨512 * i.val + t.val, by omega⟩ (col r l) := by
  rw [← blocks_sum (fun t => dz Q K V D (head (col r l)) t s * Q t (col r l))]
  exact Finset.sum_congr rfl fun b _ => by rw [h b, if_pos (Nat.zero_le _)]; rfl
theorem metV_end {n : ℕ} (h : ∀ b : Fin 4, en i.val b.val n = 0) (s : Fin 4096) (l : Fin 128) :
    metV Q K D r i n s l = ∑ t : Fin 512, att Q K (head (col r l)) ⟨512 * i.val + t.val, by omega⟩ s * D ⟨512 * i.val + t.val, by omega⟩ (col r l) := by
  rw [← blocks_sum (fun t => att Q K (head (col r l)) t s * D t (col r l))]
  exact Finset.sum_congr rfl fun b _ => by rw [h b, if_pos (Nat.zero_le _)]; rfl

end Cert.AttnKIdeal.Hand
-- ==== Proof.AttnPoint.lean ====
/- A point of the attention's backward kernel: what it leaves in the blocks and the accumulators, over the reals. -/
module

public import proofs.«01_k».proof.Proof.AttnStart
public import proofs.«01_k».proof.Proof.AttnEnd
public import proofs.«01_k».proof.Proof.AttnFrame
public import Idealize.ShloMosaic.Lib.VecWindow

@[expose] public section

set_option maxRecDepth 16384

noncomputable section

open Idealize.ShloMosaic Idealize.ShloMosaic.TcCoe Idealize.SL.Sem
open Cert.Proof.Attn
namespace Cert.AttnKIdeal.Hand
open Cert.AttnKIdeal Cert.AttnKIdeal.Gen

/-- The loop's record at its entry. -/
def rec0 (i : grid0.Coords) (M : Mems) (y2 : Vec Ideal S512x128 .bf16) (y5 y6 : Vec Ideal S512x128 .f32) (y7 : Vec Ideal S1x128 .f32) (y8 y9 : Vec Ideal S256x256 .bf16) : Cc0While1 Ideal where
  i := i
  v188 := iota .tc S128x1 32 [0] iota_S128x1_d0_w32
  v187 := iota .tc S128x384 32 [1] iota_S128x384_d1_w32
  arg3 := M.a3
  harg3 := M.h3
  arg4 := M.a4
  harg4 := M.h4
  v157 := k0_pay39 (k0_pay30 (k0_pay19 y2) (k0_pay20 k0_pay5))
  v159 := k0_pay40 (k0_pay20 k0_pay5) (k0_pay31 (k0_pay19 y2)) (FloatOps.ofBits .bf16 0#16)
  v161 := k0_pay41 (k0_pay19 y2) (k0_pay20 k0_pay5)
  v163 := k0_pay42 (k0_pay19 y2) (k0_pay20 k0_pay5)
  v140 := k0_pay35 (k0_pay17 k0_pay5 (k0_pay12 y5) (k0_pay13 y5) y6 y7) (k0_pay20 k0_pay5)
  v145 := k0_pay36 (k0_pay17 k0_pay5 (k0_pay12 y5) (k0_pay13 y5) y6 y7) (k0_pay20 k0_pay5)
  v150 := k0_pay37 (k0_pay17 k0_pay5 (k0_pay12 y5) (k0_pay13 y5) y6 y7) (k0_pay20 k0_pay5)
  v155 := k0_pay38 (k0_pay17 k0_pay5 (k0_pay12 y5) (k0_pay13 y5) y6 y7) (k0_pay20 k0_pay5)
  v7 := k0_pay7 y8
  v9 := k0_pay8 y9
  v80 := k0_pay22 (k0_pay21 k0_pay5 (k0_pay11 y5) (k0_pay12 y5) (k0_pay13 y5) y6 y7)
  v85 := k0_pay23 (k0_pay18 k0_pay5 (k0_pay11 y5) (k0_pay12 y5) (k0_pay13 y5) y6 y7) (k0_pay20 k0_pay5)
  v90 := k0_pay24 (k0_pay18 k0_pay5 (k0_pay11 y5) (k0_pay12 y5) (k0_pay13 y5) y6 y7) (k0_pay20 k0_pay5)
  v95 := k0_pay25 (k0_pay18 k0_pay5 (k0_pay11 y5) (k0_pay12 y5) (k0_pay13 y5) y6 y7) (k0_pay20 k0_pay5)
  v100 := k0_pay26 (k0_pay18 k0_pay5 (k0_pay11 y5) (k0_pay12 y5) (k0_pay13 y5) y6 y7) (k0_pay20 k0_pay5)
  v105 := k0_pay27 (k0_pay18 k0_pay5 (k0_pay11 y5) (k0_pay12 y5) (k0_pay13 y5) y6 y7) (k0_pay20 k0_pay5)
  v110 := k0_pay28 (k0_pay18 k0_pay5 (k0_pay11 y5) (k0_pay12 y5) (k0_pay13 y5) y6 y7) (k0_pay20 k0_pay5)
  v115 := k0_pay29 (k0_pay18 k0_pay5 (k0_pay11 y5) (k0_pay12 y5) (k0_pay13 y5) y6 y7) (k0_pay20 k0_pay5)
  v5 := k0_pay6
  arg14 := M.a14
  harg14 := M.h14
  v120 := k0_pay30 (k0_pay19 y2) (k0_pay20 k0_pay5)
  arg15 := M.a15
  harg15 := M.h15
  v125 := k0_pay32 (k0_pay20 k0_pay5) (k0_pay31 (k0_pay19 y2)) (FloatOps.ofBits .bf16 0#16)
  v130 := k0_pay33 (k0_pay19 y2) (k0_pay20 k0_pay5)
  v135 := k0_pay34 (k0_pay19 y2) (k0_pay20 k0_pay5)
  arg16 := 0#32
  arg17 := 1#32
  arg18 := k0_pay43
  arg19 := k0_pay43
  arg20 := k0_pay43
  arg21 := k0_pay43
  arg22 := k0_pay43
  arg23 := k0_pay43
  arg24 := k0_pay43
  arg25 := k0_pay43
  arg26 := k0_pay43
  arg27 := k0_pay43
  arg28 := k0_pay43
  arg29 := k0_pay43
  arg30 := k0_pay43
  arg31 := k0_pay43
  arg32 := k0_pay43
  arg33 := k0_pay43
  arg34 := k0_pay43
  arg35 := k0_pay43
  arg36 := k0_pay43
  arg37 := k0_pay43

/-- The state after the loop. -/
def fin (c : Dev nD) (i : grid0.Coords) (M : Mems) (x3 x4 : Vec Ideal S4096x128 .bf16) (y2 : Vec Ideal S512x128 .bf16) (y5 y6 : Vec Ideal S512x128 .f32) (y7 : Vec Ideal S1x128 .f32) (y8 y9 : Vec Ideal S256x256 .bf16)
    (d e : Vec Ideal S4096x128 .f32) : LoopSt Ideal := (nxt c x3 x4)^[11] ⟨rec0 i M y2 y5 y6 y7 y8 y9, d, e⟩
/-- The queries' gradients the loop left, scaled. -/
def dqOf (s : LoopSt Ideal) : FVec Ideal S512x128 .bf16 := k0_pay1 s.a.arg22 s.a.arg27 s.a.arg32 s.a.arg37

section Runs
abbrev ld5 (M : Mems) (X : Vec Ideal S512x128 .f32) : Vec Ideal S512x128 .f32 := M.a5.view.readAt (Elt Ideal) (Rect.unit ![0, 0] S512x128.size inb_S512x128_S512x128_0_0).toLoadRect (M.h5.unread X)
abbrev ld6 (M : Mems) (X : Vec Ideal S512x128 .f32) : Vec Ideal S512x128 .f32 := M.a6.view.readAt (Elt Ideal) (Rect.unit ![0, 0] S512x128.size inb_S512x128_S512x128_0_0).toLoadRect (M.h6.unread X)
abbrev ld13 (M : Mems) (X : Vec Ideal S8x128 .f32) : Vec Ideal S8x128 .f32 := M.a13.view.readAt (Elt Ideal) (Rect.unit ![0, 0] S8x128.size inb_S8x128_S8x128_0_0).toLoadRect (M.h13.unread X)
variable (c : Dev nD) (i : grid0.Coords) (M : Mems) (x : Blks Ideal)
/-- The state after the loop, of the blocks. -/
abbrev FIN (d e : Vec Ideal S4096x128 .f32) : LoopSt Ideal := fin c i M x.x3 x.x4 x.x2 x.x5 x.x6 x.x7 x.x8 x.x9 d e
/-- The same of the blocks as the body loads them. -/
abbrev FINL (d e : Vec Ideal S4096x128 .f32) : LoopSt Ideal := fin c i M x.x3 x.x4
  (M.a2.view.readAt (Elt Ideal) (Rect.unit ![0, 0] S512x128.size inb_S512x128_S512x128_0_0).toLoadRect (M.h2.unread x.x2))
  (M.a5.view.readAt (Elt Ideal) (Rect.unit ![0, 0] S512x128.size inb_S512x128_S512x128_0_0).toLoadRect (M.h5.unread x.x5))
  (M.a6.view.readAt (Elt Ideal) (Rect.unit ![0, 0] S512x128.size inb_S512x128_S512x128_0_0).toLoadRect (M.h6.unread x.x6))
  (M.a7.view.readAt (Elt Ideal) (Rect.unit ![0, 0] S1x128.size inb_S1x128_S1x128_0_0).toLoadRect (M.h7.unread x.x7))
  (M.a8.view.readAt (Elt Ideal) (Rect.unit ![0, 0] S256x256.size inb_S256x256_S256x256_0_0).toLoadRect (M.h8.unread x.x8))
  (M.a9.view.readAt (Elt Ideal) (Rect.unit ![0, 0] S256x256.size inb_S256x256_S256x256_0_0).toLoadRect (M.h9.unread x.x9)) d e
theorem FINL_eq (d e : Vec Ideal S4096x128 .f32) : FINL c i M x d e = FIN c i M x d e := by
  unfold FINL FIN
  rw [load_whole, load_whole, load_whole, load_whole, load_whole, load_whole]

theorem bodyA_o10 (h1 h2 h3 h4 h5) : (bodyA c i M h1 h2 h3 h4 h5 x).1 = dqOf (FIN c i M x (k0_pay9 (F := Ideal)) (k0_pay10 (F := Ideal))) :=
  Eq.trans (rfl) (congrArg dqOf (FINL_eq c i M x _ _))
theorem bodyA_o14 (h1 h2 h3 h4 h5) : (bodyA c i M h1 h2 h3 h4 h5 x).2.2.1 = (FIN c i M x (k0_pay9 (F := Ideal)) (k0_pay10 (F := Ideal))).d :=
  Eq.trans (rfl) (congrArg LoopSt.d (FINL_eq c i M x _ _))
theorem bodyA_o15 (h1 h2 h3 h4 h5) : (bodyA c i M h1 h2 h3 h4 h5 x).2.2.2.1 = (FIN c i M x (k0_pay9 (F := Ideal)) (k0_pay10 (F := Ideal))).e :=
  Eq.trans (rfl) (congrArg LoopSt.e (FINL_eq c i M x _ _))
theorem bodyA_o13 (h1 h2 h3 h4 h5) : (bodyA c i M h1 h2 h3 h4 h5 x).2.1 = k0_pay14 (k0_pay13 x.x5) x.x6 := by
  refine Eq.trans (b := k0_pay14 (k0_pay13 (ld5 M x.x5)) (ld6 M x.x6)) (rfl) ?_
  rw [ld5, ld6, load_whole, load_whole]

variable (x13 : Vec Ideal S8x128 .f32) (x14 x15 : Vec Ideal S4096x128 .f32)
theorem bodyB_o10 (h1 h2 h3 h4 h5) : (bodyB c i M h1 h2 h3 h4 h5 x x13 x14 x15).1 = dqOf (FIN c i M x x14 x15) :=
  Eq.trans (rfl) (congrArg dqOf (FINL_eq c i M x _ _))
theorem bodyB_o14 (h1 h2 h3 h4 h5) : (bodyB c i M h1 h2 h3 h4 h5 x x13 x14 x15).2.2.1 = (FIN c i M x x14 x15).d :=
  Eq.trans (rfl) (congrArg LoopSt.d (FINL_eq c i M x _ _))
theorem bodyB_o15 (h1 h2 h3 h4 h5) : (bodyB c i M h1 h2 h3 h4 h5 x x13 x14 x15).2.2.2.1 = (FIN c i M x x14 x15).e :=
  Eq.trans (rfl) (congrArg LoopSt.e (FINL_eq c i M x _ _))
theorem bodyB_o13 (h1 h2 h3 h4 h5) : (bodyB c i M h1 h2 h3 h4 h5 x x13 x14 x15).2.1 = k0_pay15 (k0_pay13 x.x5) x.x6 x13 := by
  refine Eq.trans (b := k0_pay15 (k0_pay13 (ld5 M x.x5)) (ld6 M x.x6) (ld13 M x13)) (rfl) ?_
  rw [ld5, ld6, ld13, load_whole, load_whole, load_whole]

theorem bodyC_o10 (h1 h2 h3 h4 h5) : (bodyC c i M h1 h2 h3 h4 h5 x x13 x14 x15).1 = dqOf (FIN c i M x x14 x15) :=
  Eq.trans (rfl) (congrArg dqOf (FINL_eq c i M x _ _))
theorem bodyC_o11 (h1 h2 h3 h4 h5) : (bodyC c i M h1 h2 h3 h4 h5 x x13 x14 x15).2.1 = k0_pay2 (FIN c i M x x14 x15).d := by
  refine Eq.trans (b := k0_pay2 (M.a14.view.readAt (Elt Ideal) (Rect.unit ![0, 0] S4096x128.size inb_S4096x128_S4096x128_0_0).toLoadRect (M.h14.unread (FINL c i M x x14 x15).d))) (rfl) ?_
  rw [load_whole, FINL_eq]
theorem bodyC_o12 (h1 h2 h3 h4 h5) : (bodyC c i M h1 h2 h3 h4 h5 x x13 x14 x15).2.2.1 = k0_pay3 (FIN c i M x x14 x15).e := by
  refine Eq.trans (b := k0_pay3 (M.a15.view.readAt (Elt Ideal) (Rect.unit ![0, 0] S4096x128.size inb_S4096x128_S4096x128_0_0).toLoadRect (M.h15.unread (FINL c i M x x14 x15).e))) (rfl) ?_
  rw [load_whole, FINL_eq]
theorem bodyC_o13 (h1 h2 h3 h4 h5) : (bodyC c i M h1 h2 h3 h4 h5 x x13 x14 x15).2.2.2.1 = k0_pay16 (k0_pay15 (k0_pay13 x.x5) x.x6 x13) := by
  show k0_pay16 (bodyC.sl.v198 c M x x13) = _
  refine congrArg k0_pay16 ?_
  unfold bodyC.sl.v198 bodyC.sl.H13_1
  refine (View.readCov_full _ inb_S8x128_S8x128_0_0 inb_S8x128_S8x128_0_0 _ _).trans ?_
  refine Eq.trans (b := k0_pay15 (k0_pay13 (ld5 M x.x5)) (ld6 M x.x6) (ld13 M x13)) (rfl) ?_
  rw [ld5, ld6, ld13, load_whole, load_whole, load_whole]
end Runs

/-! ## The values after the loop -/

theorem z43 (p l : Fin 128) : (k0_pay43 : FVec Ideal S128x128 .f32) (ix2 p l) = ((0 : ℝ) : EReal) := Cert.PobKIdeal.Hand.lit_zero

section Ends
variable {Q K V Y : Fin 4096 → Fin 512 → ℝ} {G : Fin 512 → ℝ} {r : Fin 4} {ti : Fin 8} {y2 : Vec Ideal S512x128 .bf16} {y5 y6 : Vec Ideal S512x128 .f32} {y7 : Vec Ideal S1x128 .f32}
  (hin : InOK r Q K V Y G ti y2 y5 y6 y7) {y8 y9 : Vec Ideal S256x256 .bf16} (h8 : IsSum 0 y8) (h9 : IsSum 1 y9)
  (c : Dev nD) {i : grid0.Coords} (hi : (i 1).val = ti.val) (M : Mems)
  {x3 x4 : Vec Ideal S4096x128 .bf16} (hK : ∀ t l, x3 (ix2 t l) = (K t (col r l) : EReal)) (hV : ∀ t l, x4 (ix2 t l) = (V t (col r l) : EReal))
  {d e : Vec Ideal S4096x128 .f32} {d0 e0 : Fin 4096 → Fin 128 → ℝ} (hd : ∀ t l, d (ix2 t l) = (d0 t l : EReal)) (he : ∀ t l, e (ix2 t l) = (e0 t l : EReal))

include hin h8 h9 hi in
theorem rec0_ok : CstOK Q K V (dout Q K V Y G) r ti (rec0 i M y2 y5 y6 y7 y8 y9) where
  hi := hi
  a0 := arg_ok hin 0
  a1 := arg_ok hin 1
  a2 := arg_ok hin 2
  a3 := arg_ok hin 3
  u := fun j s => by
    show k0_pay7 y8 (ix2 j s) = _
    pointwise [k0_pay7]
    exact h8 j s
  w := fun j s => by
    show k0_pay8 y9 (ix2 j s) = _
    pointwise [k0_pay8]
    exact h9 j s
  half := rfl
  rows := fun p => by
    show iota .tc S128x1 32 [0] iota_S128x1_d0_w32 (ix2 p 0) = _
    pointwise []
  cols := fun p c => by
    show iota .tc S128x384 32 [1] iota_S128x384_d1_w32 (ix2 p c) = _
    pointwise []
  go := rfl

include hin h8 h9 hi hd he in
theorem start_ok : StOK Q K V (dout Q K V Y G) r ti d0 e0 0 ⟨rec0 i M y2 y5 y6 y7 y8 y9, d, e⟩ where
  cst := rec0_ok hin h8 h9 hi M
  cnt := rfl
  r0 := run_start 0 z43
  r1 := run_start 1 z43
  r2 := run_start 2 z43
  r3 := run_start 3 z43
  d := fun t l => (hd t l).trans (by rw [metK_zero, add_zero])
  e := fun t l => (he t l).trans (by rw [metV_zero, add_zero])

include hin h8 h9 hi hK hV hd he

theorem fin_ok : ∃ n, (∀ b : Fin 4, en ti.val b.val n = 0) ∧ StOK Q K V (dout Q K V Y G) r ti d0 e0 n (fin c i M x3 x4 y2 y5 y6 y7 y8 y9 d e) :=
  st_end c hK hV (start_ok hin h8 h9 hi M hd he)

/-- A tile's part of the keys' gradients, and of the values'. -/
theorem fin_d (s : Fin 4096) (l : Fin 128) : (fin c i M x3 x4 y2 y5 y6 y7 y8 y9 d e).d (ix2 s l)
    = ((d0 s l + ∑ t : Fin 512, dz Q K V (dout Q K V Y G) (head (col r l)) (qrow ti t) s * Q (qrow ti t) (col r l) : ℝ) : EReal) := by
  obtain ⟨n, hn, h⟩ := fin_ok hin h8 h9 c hi M hK hV hd he
  rw [h.d, metK_end hn]
  rfl
theorem fin_e (s : Fin 4096) (l : Fin 128) : (fin c i M x3 x4 y2 y5 y6 y7 y8 y9 d e).e (ix2 s l)
    = ((e0 s l + ∑ t : Fin 512, att Q K (head (col r l)) (qrow ti t) s * dout Q K V Y G (qrow ti t) (col r l) : ℝ) : EReal) := by
  obtain ⟨n, hn, h⟩ := fin_ok hin h8 h9 c hi M hK hV hd he
  rw [h.e, metV_end hn]
  rfl
/-- The tile's queries' gradients. -/
theorem fin_dq (t : Fin 512) (l : Fin 128) : dqOf (fin c i M x3 x4 y2 y5 y6 y7 y8 y9 d e) (ix2 t l) = (dq Q K V (dout Q K V Y G) (qrow ti t) (col r l) : EReal) := by
  obtain ⟨n, hn, h⟩ := fin_ok hin h8 h9 c hi M hK hV hd he
  have q := fun (b : Fin 4) {C0 C1 S0 S1 A : FVec Ideal S128x128 .f32} (hr : RunOK Q K V (dout Q K V Y G) r (row ti b) (en ti.val b.val n) C0 C1 S0 S1 A) (p : Fin 128) (ht : t.val = 128 * b.val + p.val) =>
    show A (ix2 p l) * ((1 / 8 : ℝ) : EReal) = (dq Q K V (dout Q K V Y G) (qrow ti t) (col r l) : EReal) by
      rw [hr.a, hn b, from_zero, ← EReal.coe_mul, show row ti b p = qrow ti t from Fin.ext (by simp only [row, qrow]; omega)]
      rfl
  have l8 : Ideal.ofBits .f32 0x3E000000#32 = ((1 / 8 : ℝ) : EReal) := by simp [Ideal.ofBits, Ideal.ieee, -EReal.coe_mul]; norm_num
  pointwise [dqOf, k0_pay1]
  rw [l8]
  split
  · exact q 0 h.r0 _ (by simp)
  split
  · exact q 1 h.r1 _ (by simp; omega)
  split
  · exact q 2 h.r2 _ (by simp; omega)
  · exact q 3 h.r3 _ (by simp; omega)
end Ends

/-! ## The gate's gradient -/
section Gate
variable {Q K V Y : Fin 4096 → Fin 512 → ℝ} {G : Fin 512 → ℝ} {r : Fin 4} {ti : Fin 8} {y2 : Vec Ideal S512x128 .bf16} {y5 y6 : Vec Ideal S512x128 .f32} {y7 : Vec Ideal S1x128 .f32}
  (hin : InOK r Q K V Y G ti y2 y5 y6 y7)
include hin
/-- A tile's sums of eighths. -/
theorem gg_at (a : Fin 8) (l : Fin 128) : k0_pay14 (k0_pay13 y5) y6 (ix2 a l)
    = ((∑ b : Fin 64, Y (qrow ti ⟨b.val * 8 + a.val, by omega⟩) (col r l) * Cert.PobKIdeal.Hand.yn (out Q K V (qrow ti ⟨b.val * 8 + a.val, by omega⟩)) (col r l) : ℝ) : EReal) := by
  pointwise [k0_pay14]
  rw [← Cert.Proof.LN.coe_sum]
  exact Finset.sum_congr rfl fun b _ => by rw [hin.y, YN_at r (O := fun t => out Q K V (qrow ti t)) hin.o, ← EReal.coe_mul]
omit hin
theorem gg_add {f g : Fin 8 → Fin 128 → ℝ} {x : Vec Ideal S8x128 .f32} (hf : ∀ a l, k0_pay14 (k0_pay13 y5) y6 (ix2 a l) = (f a l : EReal)) (hx : ∀ a l, x (ix2 a l) = (g a l : EReal)) (a : Fin 8) (l : Fin 128) :
    k0_pay15 (k0_pay13 y5) y6 x (ix2 a l) = ((g a l + f a l : ℝ) : EReal) := by
  have u : k0_pay15 (k0_pay13 y5) y6 x (ix2 a l) = shapeCast S8x128 x shapeCasts_S8x128_S8x128 (ix2 a l) + k0_pay14 (k0_pay13 y5) y6 (ix2 a l) := rfl
  rw [u, hf, EReal.coe_add, ← hx]
  pointwise []
theorem gg_sum {f : Fin 8 → Fin 128 → ℝ} {x : Vec Ideal S8x128 .f32} (hx : ∀ a l, x (ix2 a l) = (f a l : EReal)) (a : Fin 8) (l : Fin 128) :
    k0_pay16 x (ix2 a l) = ((∑ b, f b l : ℝ) : EReal) := by
  rw [← Cert.Proof.LN.coe_sum]
  pointwise [k0_pay16]
  simp only [hx]
end Gate

end Cert.AttnKIdeal.Hand
-- ==== Proof.PobKernel.lean ====
/- The output projection's backward kernel at a grid point: what it leaves, over the arguments' real numbers. -/
module

public import proofs.«01_k».proof.Proof.PobNorm
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Proof.LN (coe_sum div_coe acc16)

namespace Cert.PobKIdeal.Hand

open Cert.PobKIdeal Cert.PobKIdeal.Gen

section Spec

/-- Rows shifted down by `k`, zeros above. -/
def down (k : ℕ) (f : Fin 4096 → Fin 512 → ℝ) (p : Fin 4096) (q : Fin 512) : ℝ := if h : k ≤ p.val then f ⟨p.val - k, by omega⟩ q else 0

/-- Rows shifted up by `k`, zeros below. -/
def up (k : ℕ) (f : Fin 4096 → Fin 512 → ℝ) (p : Fin 4096) (q : Fin 512) : ℝ := if h : p.val + k < 4096 then f ⟨p.val + k, h⟩ q else 0

variable (G : Fin 4096 → Fin 1536 → ℝ) (W : Fin 3 → Fin 512 → ℝ) (g : Fin 512 → ℝ) (D : Fin 4096 → Fin 1024 → ℝ) (O : Fin 1024 → Fin 1024 → ℝ)

/-- A third of the gates. -/
def cut (k : Fin 3) (p : Fin 4096) (q : Fin 512) : ℝ := G p ⟨512 * k.val + q.val, by omega⟩

/-- The convolution's input. -/
def ug (p : Fin 4096) (q : Fin 512) : ℝ := cut G 1 p q * cut G 2 p q

/-- The causal convolution of three taps. -/
def cv (p : Fin 4096) (q : Fin 512) : ℝ := W 2 q * ug G p q + W 1 q * down 1 (ug G) p q + W 0 q * down 2 (ug G) p q

/-- The gated rows, before the group norm. -/
def gy (p : Fin 4096) (q : Fin 512) : ℝ := cut G 0 p q * cv G W p q

/-- The gradient of the output projection's rows. -/
def dp (p : Fin 4096) (q : Fin 1024) : ℝ := ∑ k : Fin 1024, D p k * O q k

def dpy (p : Fin 4096) (q : Fin 512) : ℝ := dp D O p ⟨q.val, by omega⟩

/-- The gradient of the gated rows. -/
def dg (p : Fin 4096) (q : Fin 512) : ℝ := dnorm (gy G W p) (fun k => dpy D O p k * g k) q

/-- The gradient of the convolution. -/
def dc (p : Fin 4096) (q : Fin 512) : ℝ := dg G W g D O p q * cut G 0 p q

/-- The gradient of the convolution's input. -/
def du (p : Fin 4096) (q : Fin 512) : ℝ := W 2 q * dc G W g D O p q + W 1 q * up 1 (dc G W g D O) p q + W 0 q * up 2 (dc G W g D O) p q

end Spec

theorem lt16 (t : Fin cfg0.N) : t.val < 16 := lt_of_lt_of_eq t.isLt (show cfg0.N = 16 from N_0)

/-- A tile's row in the whole array: the points go over the tiles from the last to the first. -/
def row (t : Fin cfg0.N) (p : Fin 256) : Fin 4096 := ⟨(15 - t.val) * 256 + p.val, by omega⟩

/-- A row of the eight above a tile (of the first eight at the last point, where they are not used). -/
def above (t : Fin cfg0.N) (a : Fin 8) : Fin 4096 := ⟨((15 - t.val) * 32 - 1) * 8 + a.val, by omega⟩

section Tile

variable {t : Fin cfg0.N} {v9 v24 v32 v218 : FVec Ideal S256x512 .f32} {v10 v11 v12 : Vec Ideal S256x512 .f32} {v15 v16 v227 : Vec Ideal S8x512 .f32}
  {v25 : Vec Ideal S3x512 .f32} {A B E : Fin 4096 → Fin 512 → ℝ}

theorem last (t : Fin cfg0.N) (a b : EReal) :
    Scalar.select (Scalar.cmpi CmpIPredicate.slt (Scalar.addi (Scalar.muli (BitVec.ofNat 32 (grid0.coords t 0).val) 1#32) 0#32) 15#32) a b
      = if t.val < 15 then a else b := by
  have h : ∀ t : Fin grid0.N, Scalar.cmpi CmpIPredicate.slt (Scalar.addi (Scalar.muli (BitVec.ofNat 32 (grid0.coords t 0).val) 1#32) 0#32) 15#32
      = if t.val < 15 then 1#1 else 0#1 := by decide +kernel
  rw [h]
  split <;> rfl

theorem down1_at (h11 : ∀ p q, v11 (ix2 p q) = (A (row t p) q : EReal)) (h12 : ∀ p q, v12 (ix2 p q) = (B (row t p) q : EReal))
    (h15 : ∀ a q, v15 (ix2 a q) = (A (above t a) q : EReal)) (h16 : ∀ a q, v16 (ix2 a q) = (B (above t a) q : EReal)) (p : Fin 256) (q : Fin 512) :
    k0_pay8 (grid0.coords t) v11 v12 v15 v16 (ix2 p q) = (down 1 (fun p q => A p q * B p q) (row t p) q : EReal) := by
  have ht := lt16 t
  pointwise [k0_pay8, k0_pay7, k0_pay6]
  unfold down
  split
  case isTrue h =>
    refine (last t _ _).trans ?_
    by_cases h15' : t.val < 15
    · have e : above t ⟨(8 + p.val + 264 - 1) % 264, h⟩ = ⟨(row t p).val - 1, by omega⟩ := Fin.ext (by simp only [above, row]; omega)
      rw [if_pos h15', h15, h16, ← EReal.coe_mul, e, dif_pos (by simp only [row]; omega)]
    · rw [if_neg h15', dif_neg (by simp only [row]; omega), EReal.coe_zero]
  case isFalse h =>
    have e : row t ⟨(8 + p.val + 264 - 1) % 264 - 8, by omega⟩ = ⟨(row t p).val - 1, by omega⟩ := Fin.ext (by simp only [row]; omega)
    rw [h11, h12, ← EReal.coe_mul, e, dif_pos (by simp only [row]; omega)]

theorem down2_at (h11 : ∀ p q, v11 (ix2 p q) = (A (row t p) q : EReal)) (h12 : ∀ p q, v12 (ix2 p q) = (B (row t p) q : EReal))
    (h15 : ∀ a q, v15 (ix2 a q) = (A (above t a) q : EReal)) (h16 : ∀ a q, v16 (ix2 a q) = (B (above t a) q : EReal)) (p : Fin 256) (q : Fin 512) :
    k0_pay9 (grid0.coords t) v11 v12 v15 v16 (ix2 p q) = (down 2 (fun p q => A p q * B p q) (row t p) q : EReal) := by
  have ht := lt16 t
  pointwise [k0_pay9, k0_pay7, k0_pay6]
  unfold down
  split
  case isTrue h =>
    refine (last t _ _).trans ?_
    by_cases h15' : t.val < 15
    · have e : above t ⟨(8 + p.val + 264 - 2) % 264, h⟩ = ⟨(row t p).val - 2, by omega⟩ := Fin.ext (by simp only [above, row]; omega)
      rw [if_pos h15', h15, h16, ← EReal.coe_mul, e, dif_pos (by simp only [row]; omega)]
    · rw [if_neg h15', dif_neg (by simp only [row]; omega), EReal.coe_zero]
  case isFalse h =>
    have e : row t ⟨(8 + p.val + 264 - 2) % 264 - 8, by omega⟩ = ⟨(row t p).val - 2, by omega⟩ := Fin.ext (by simp only [row]; omega)
    rw [h11, h12, ← EReal.coe_mul, e, dif_pos (by simp only [row]; omega)]

theorem up1_at (h : ∀ p q, k0_pay39 v10 v218 (ix2 p q) = (E (row t p) q : EReal)) (h227 : ∀ a q, v227 (ix2 a q) = (up (256 + a.val) E (row t 0) q : EReal))
    (p : Fin 256) (q : Fin 512) (hq : (p.val + 264 - 263) % 264 - 256 < 8) :
    (if h : (p.val + 264 - 263) % 264 < 256 then k0_pay39 v10 v218 (ix2 ⟨(p.val + 264 - 263) % 264, h⟩ q) else v227 (ix2 ⟨(p.val + 264 - 263) % 264 - 256, hq⟩ q))
      = (up 1 E (row t p) q : EReal) := by
  have ht := lt16 t
  unfold up at *
  split
  case isTrue hh =>
    have e : row t ⟨(p.val + 264 - 263) % 264, hh⟩ = ⟨(row t p).val + 1, by simp only [row]; omega⟩ := Fin.ext (by simp only [row]; omega)
    rw [h, e, dif_pos (by simp only [row]; omega)]
  case isFalse hh =>
    rw [h227]
    refine congrArg _ ?_
    have e : (row t 0).val + (256 + ((p.val + 264 - 263) % 264 - 256)) = (row t p).val + 1 := by simp only [row, Fin.val_zero]; omega
    simp only [e]

theorem up2_at (h : ∀ p q, k0_pay39 v10 v218 (ix2 p q) = (E (row t p) q : EReal)) (h227 : ∀ a q, v227 (ix2 a q) = (up (256 + a.val) E (row t 0) q : EReal))
    (p : Fin 256) (q : Fin 512) (hq : (p.val + 264 - 262) % 264 - 256 < 8) :
    (if h : (p.val + 264 - 262) % 264 < 256 then k0_pay39 v10 v218 (ix2 ⟨(p.val + 264 - 262) % 264, h⟩ q) else v227 (ix2 ⟨(p.val + 264 - 262) % 264 - 256, hq⟩ q))
      = (up 2 E (row t p) q : EReal) := by
  have ht := lt16 t
  unfold up at *
  split
  case isTrue hh =>
    have e : row t ⟨(p.val + 264 - 262) % 264, hh⟩ = ⟨(row t p).val + 2, by simp only [row]; omega⟩ := Fin.ext (by simp only [row]; omega)
    rw [h, e, dif_pos (by simp only [row]; omega)]
  case isFalse hh =>
    rw [h227]
    refine congrArg _ ?_
    have e : (row t 0).val + (256 + ((p.val + 264 - 262) % 264 - 256)) = (row t p).val + 2 := by simp only [row, Fin.val_zero]; omega
    simp only [e]

end Tile

section Point

variable (m : (ℓ : Loc nD τ sig) → Buf (Elt Ideal) ℓ) (c : Dev nD) (t : Fin cfg0.N)

/-! A point's values: the thirds of its gates and of the rows above them, the output gradient's half, the shifted inputs, the convolution's first terms. -/

abbrev X10 : Vec Ideal S256x512 .f32 := View.ld (iblk m c 2 t) (Rect.unit ![0, 0] ![256, 512] inb_S256x1536_S256x512_0_0)
abbrev X11 : Vec Ideal S256x512 .f32 := View.ld (iblk m c 2 t) (Rect.unit ![0, 512] ![256, 512] inb_S256x1536_S256x512_0_512)
abbrev X12 : Vec Ideal S256x512 .f32 := View.ld (iblk m c 2 t) (Rect.unit ![0, 1024] ![256, 512] inb_S256x1536_S256x512_0_1024)
abbrev X15 : Vec Ideal S8x512 .f32 := View.ld (iblk m c 3 t) (Rect.unit ![0, 512] ![8, 512] inb_S8x1536_S8x512_0_512)
abbrev X16 : Vec Ideal S8x512 .f32 := View.ld (iblk m c 3 t) (Rect.unit ![0, 1024] ![8, 512] inb_S8x1536_S8x512_0_1024)
abbrev X9 : FVec Ideal S256x512 .f32 := k0_pay5 (iblk m c 0 t) (iblk m c 1 t)
abbrev X22 : FVec Ideal S256x512 .f32 := k0_pay8 (grid0.coords t) (X11 m c t) (X12 m c t) (X15 m c t) (X16 m c t)
abbrev X24 : FVec Ideal S256x512 .f32 := k0_pay9 (grid0.coords t) (X11 m c t) (X12 m c t) (X15 m c t) (X16 m c t)
abbrev X32 : FVec Ideal S256x512 .f32 := k0_pay10 (grid0.coords t) (X11 m c t) (X12 m c t) (X15 m c t) (X16 m c t) (iblk m c 4 t)
abbrev X218 : FVec Ideal S256x512 .f32 := T218 (X9 m c t) (X10 m c t) (X24 m c t) (iblk m c 4 t) (X32 m c t) (iblk m c 5 t)
abbrev X219 : FVec Ideal S256x512 .f32 := T219 (X10 m c t) (X24 m c t) (iblk m c 4 t) (X32 m c t)
abbrev X223 : FVec Ideal S256x512 .f32 := k0_pay39 (X10 m c t) (X218 m c t)

/-- The rows of the convolution's gradient below the tile: zeros at the first point, the point before's first rows then. -/
def below : Vec Ideal S8x512 .f32 := if t.val % 16 = 0 then (k0_pay40 : FVec Ideal S8x512 .f32) else k0_pay41 (X10 m c ⟨t.val - 1, Nat.lt_of_le_of_lt (Nat.sub_le _ _) t.isLt⟩) (X218 m c ⟨t.val - 1, Nat.lt_of_le_of_lt (Nat.sub_le _ _) t.isLt⟩)

/-- The three kinds of grid point. -/
theorem kinds : (t.val % 16 = 0 ∧ ¬1 ≤ t.val ∧ ¬t.val % 16 = 15) ∨ (¬t.val % 16 = 0 ∧ 1 ≤ t.val ∧ ¬t.val % 16 = 15)
    ∨ (¬t.val % 16 = 0 ∧ 1 ≤ t.val ∧ t.val % 16 = 15) := by
  have := lt16 t
  omega

theorem out6 : (outsAt m c t.val t.isLt).o6 = k0_pay38 (X9 m c t) (k0_pay11 (X24 m c t) (iblk m c 4 t) (X32 m c t)) k0_pay13 (iblk m c 5 t)
    (k0_pay21 k0_pay13 (k0_pay15 (X10 m c t) (X24 m c t) (iblk m c 4 t) (X32 m c t)) (k0_pay16 (X10 m c t) (X24 m c t) (iblk m c 4 t) (X32 m c t)) (k0_pay17 (X9 m c t) (iblk m c 5 t)) (k0_pay19 (X9 m c t) (X10 m c t) (X24 m c t) (iblk m c 4 t) (X32 m c t) (iblk m c 5 t)) (k0_pay20 (X9 m c t) (X10 m c t) (X24 m c t) (iblk m c 4 t) (X32 m c t) (iblk m c 5 t)))
    (k0_pay27 (k0_pay23 (k0_pay12 (X10 m c t) (X24 m c t) (iblk m c 4 t) (X32 m c t)) k0_pay13) (k0_pay25 (X9 m c t) (iblk m c 5 t)) (k0_pay26 (X9 m c t) (k0_pay12 (X10 m c t) (X24 m c t) (iblk m c 4 t) (X32 m c t)) k0_pay13 (iblk m c 5 t)))
    (k0_pay31 (X9 m c t) (k0_pay12 (X10 m c t) (X24 m c t) (iblk m c 4 t) (X32 m c t)) k0_pay13 (iblk m c 5 t)) (k0_pay32 (k0_pay12 (X10 m c t) (X24 m c t) (iblk m c 4 t) (X32 m c t))) (k0_pay33 (k0_pay12 (X10 m c t) (X24 m c t) (iblk m c 4 t) (X32 m c t))) (Scalar.ofBits .f32 0x00000000#32) := by
  obtain ⟨h0, h1, h2⟩ | ⟨h0, h1, h2⟩ | ⟨h0, h1, h2⟩ := kinds t
  · rw [outsAt_A m c t h0 h1 h2]
    unfold outsA runA
    dsimp only
    frame_out
    try rfl
  · rw [outsAt_B m c t h0 h1 h2]
    unfold outsB runB
    dsimp only
    frame_out
    try rfl
  · rw [outsAt_C m c t h0 h1 h2]
    unfold outsC runC
    dsimp only
    frame_out
    try rfl

theorem out9 : (outsAt m c t.val t.isLt).o9 = k0_pay4 (iblk m c 0 t) (iblk m c 1 t) := by
  obtain ⟨h0, h1, h2⟩ | ⟨h0, h1, h2⟩ | ⟨h0, h1, h2⟩ := kinds t
  · rw [outsAt_A m c t h0 h1 h2]
    unfold outsA runA
    dsimp only
    frame_out
    try rfl
  · rw [outsAt_B m c t h0 h1 h2]
    unfold outsB runB
    dsimp only
    frame_out
    try rfl
  · rw [outsAt_C m c t h0 h1 h2]
    unfold outsC runC
    dsimp only
    frame_out
    try rfl

theorem outS : (outsAt m c t.val t.isLt).s0 = k0_pay41 (X10 m c t) (X218 m c t) := by
  obtain ⟨h0, h1, h2⟩ | ⟨h0, h1, h2⟩ | ⟨h0, h1, h2⟩ := kinds t
  · rw [outsAt_A m c t h0 h1 h2]
    unfold outsA runA
    dsimp only
    frame_out
    try rfl
  · rw [outsAt_B m c t h0 h1 h2]
    unfold outsB runB
    dsimp only
    frame_out
    try rfl
  · rw [outsAt_C m c t h0 h1 h2]
    unfold outsC runC
    dsimp only
    frame_out
    try rfl

theorem below_prev (h0 : ¬t.val % 16 = 0) : below m c t = (prevAt m c t).s0 :=
  (if_neg h0).trans (outS m c ⟨t.val - 1, Nat.lt_of_le_of_lt (Nat.sub_le _ _) t.isLt⟩).symm

theorem out7 : (outsAt m c t.val t.isLt).o7 = k0_pay43 (X10 m c t) (X12 m c t) (iblk m c 4 t) (X218 m c t) (below m c t) := by
  obtain ⟨h0, h1, h2⟩ | ⟨h0, h1, h2⟩ | ⟨h0, h1, h2⟩ := kinds t
  · rw [outsAt_A m c t h0 h1 h2]
    unfold outsA runA
    dsimp only
    frame_out
    simp only [below, if_pos h0]
    try rfl
  · rw [outsAt_B m c t h0 h1 h2]
    unfold outsB runB
    dsimp only
    rw [below_prev m c t h0]
    frame_out
    rw [read_unread_whole]
    rfl
  · rw [outsAt_C m c t h0 h1 h2]
    unfold outsC runC
    dsimp only
    rw [below_prev m c t h0]
    frame_out
    rw [read_unread_whole]
    rfl

theorem out8 : (outsAt m c t.val t.isLt).o8 = k0_pay44 (X10 m c t) (X11 m c t) (iblk m c 4 t) (X218 m c t) (below m c t) := by
  obtain ⟨h0, h1, h2⟩ | ⟨h0, h1, h2⟩ | ⟨h0, h1, h2⟩ := kinds t
  · rw [outsAt_A m c t h0 h1 h2]
    unfold outsA runA
    dsimp only
    frame_out
    simp only [below, if_pos h0]
    try rfl
  · rw [outsAt_B m c t h0 h1 h2]
    unfold outsB runB
    dsimp only
    rw [below_prev m c t h0]
    frame_out
    rw [read_unread_whole]
    rfl
  · rw [outsAt_C m c t h0 h1 h2]
    unfold outsC runC
    dsimp only
    rw [below_prev m c t h0]
    frame_out
    rw [read_unread_whole]
    rfl

theorem add10 (a : FVec Ideal S8x512 .f32) (x : Vec Ideal S8x512 .f32) (y : S8x512.Idx) : k0_pay46 a x y = x y + a y := by
  pointwise [k0_pay46]

theorem acc10 (y : S8x512.Idx) (ht : t.val = 15) :
    k0_pay46 (k0_pay45 (X9 m c t) (X219 m c t)) (outsAt m c (t.val - 1) (Nat.lt_of_le_of_lt (Nat.sub_le _ _) t.isLt)).o10 y = ∑ t : Fin cfg0.N, (k0_pay45 (X9 m c t) (X219 m c t)) y := by
  refine Eq.trans ?_ (acc16 N_0 (fun n h => (outsAt m c n h).o10) (fun t => (k0_pay45 (X9 m c t) (X219 m c t))) (fun t h0 b => ?_) (fun t h1 h2 b => ?_) y t ht)
  · exact add10 _ _ _
  · obtain ⟨h1, h2⟩ : ¬1 ≤ t.val ∧ ¬t.val % 16 = 15 := by have := lt16 t; omega
    rw [outsAt_A m c t h0 h1 h2]
    unfold outsA runA
    dsimp only
    frame_out
    rfl
  · have h0 : ¬t.val % 16 = 0 := by have := lt16 t; omega
    rw [outsAt_B m c t h0 h1 h2]
    unfold outsB runB
    dsimp only
    frame_out
    exact add10 _ _ _

theorem last10 (ht : t.val = 15) : (outsAt m c t.val t.isLt).o10
    = k0_pay47 (k0_pay46 (k0_pay45 (X9 m c t) (X219 m c t)) (outsAt m c (t.val - 1) (Nat.lt_of_le_of_lt (Nat.sub_le _ _) t.isLt)).o10) := by
  obtain ⟨h0, h1, h2⟩ : ¬t.val % 16 = 0 ∧ 1 ≤ t.val ∧ t.val % 16 = 15 := by omega
  rw [outsAt_C m c t h0 h1 h2]
  unfold outsC runC
  dsimp only
  frame_out
  rfl

theorem add11 (a : FVec Ideal S256x512 .f32) (b : FVec Ideal S256x512 .f32) (x : Vec Ideal S8x512 .f32) (y : S8x512.Idx) : k0_pay49 a b x y = x y + k0_pay48 a b y := by
  pointwise [k0_pay49]

theorem acc11 (y : S8x512.Idx) (ht : t.val = 15) :
    k0_pay49 (X24 m c t) (X223 m c t) (outsAt m c (t.val - 1) (Nat.lt_of_le_of_lt (Nat.sub_le _ _) t.isLt)).o11 y = ∑ t : Fin cfg0.N, (k0_pay48 (X24 m c t) (X223 m c t)) y := by
  refine Eq.trans ?_ (acc16 N_0 (fun n h => (outsAt m c n h).o11) (fun t => (k0_pay48 (X24 m c t) (X223 m c t))) (fun t h0 b => ?_) (fun t h1 h2 b => ?_) y t ht)
  · exact add11 _ _ _ _
  · obtain ⟨h1, h2⟩ : ¬1 ≤ t.val ∧ ¬t.val % 16 = 15 := by have := lt16 t; omega
    rw [outsAt_A m c t h0 h1 h2]
    unfold outsA runA
    dsimp only
    frame_out
    rfl
  · have h0 : ¬t.val % 16 = 0 := by have := lt16 t; omega
    rw [outsAt_B m c t h0 h1 h2]
    unfold outsB runB
    dsimp only
    frame_out
    exact add11 _ _ _ _

theorem last11 (ht : t.val = 15) : (outsAt m c t.val t.isLt).o11
    = k0_pay50 (k0_pay49 (X24 m c t) (X223 m c t) (outsAt m c (t.val - 1) (Nat.lt_of_le_of_lt (Nat.sub_le _ _) t.isLt)).o11) := by
  obtain ⟨h0, h1, h2⟩ : ¬t.val % 16 = 0 ∧ 1 ≤ t.val ∧ t.val % 16 = 15 := by omega
  rw [outsAt_C m c t h0 h1 h2]
  unfold outsC runC
  dsimp only
  frame_out
  rfl

theorem add12 (a : FVec Ideal S256x512 .f32) (b : FVec Ideal S256x512 .f32) (x : Vec Ideal S8x512 .f32) (y : S8x512.Idx) : k0_pay52 a b x y = x y + k0_pay51 a b y := by
  pointwise [k0_pay52]

theorem acc12 (y : S8x512.Idx) (ht : t.val = 15) :
    k0_pay52 (X22 m c t) (X223 m c t) (outsAt m c (t.val - 1) (Nat.lt_of_le_of_lt (Nat.sub_le _ _) t.isLt)).o12 y = ∑ t : Fin cfg0.N, (k0_pay51 (X22 m c t) (X223 m c t)) y := by
  refine Eq.trans ?_ (acc16 N_0 (fun n h => (outsAt m c n h).o12) (fun t => (k0_pay51 (X22 m c t) (X223 m c t))) (fun t h0 b => ?_) (fun t h1 h2 b => ?_) y t ht)
  · exact add12 _ _ _ _
  · obtain ⟨h1, h2⟩ : ¬1 ≤ t.val ∧ ¬t.val % 16 = 15 := by have := lt16 t; omega
    rw [outsAt_A m c t h0 h1 h2]
    unfold outsA runA
    dsimp only
    frame_out
    rfl
  · have h0 : ¬t.val % 16 = 0 := by have := lt16 t; omega
    rw [outsAt_B m c t h0 h1 h2]
    unfold outsB runB
    dsimp only
    frame_out
    exact add12 _ _ _ _

theorem last12 (ht : t.val = 15) : (outsAt m c t.val t.isLt).o12
    = k0_pay53 (k0_pay52 (X22 m c t) (X223 m c t) (outsAt m c (t.val - 1) (Nat.lt_of_le_of_lt (Nat.sub_le _ _) t.isLt)).o12) := by
  obtain ⟨h0, h1, h2⟩ : ¬t.val % 16 = 0 ∧ 1 ≤ t.val ∧ t.val % 16 = 15 := by omega
  rw [outsAt_C m c t h0 h1 h2]
  unfold outsC runC
  dsimp only
  frame_out
  rfl

theorem add13 (a : FVec Ideal S8x512 .f32) (x : Vec Ideal S8x512 .f32) (y : S8x512.Idx) : k0_pay1 a x y = x y + a y := by
  pointwise [k0_pay1]

theorem acc13 (y : S8x512.Idx) (ht : t.val = 15) :
    k0_pay1 (k0_pay54 (k0_pay6 (X11 m c t) (X12 m c t)) (X223 m c t)) (outsAt m c (t.val - 1) (Nat.lt_of_le_of_lt (Nat.sub_le _ _) t.isLt)).o13 y = ∑ t : Fin cfg0.N, (k0_pay54 (k0_pay6 (X11 m c t) (X12 m c t)) (X223 m c t)) y := by
  refine Eq.trans ?_ (acc16 N_0 (fun n h => (outsAt m c n h).o13) (fun t => (k0_pay54 (k0_pay6 (X11 m c t) (X12 m c t)) (X223 m c t))) (fun t h0 b => ?_) (fun t h1 h2 b => ?_) y t ht)
  · exact add13 _ _ _
  · obtain ⟨h1, h2⟩ : ¬1 ≤ t.val ∧ ¬t.val % 16 = 15 := by have := lt16 t; omega
    rw [outsAt_A m c t h0 h1 h2]
    unfold outsA runA
    dsimp only
    frame_out
    rfl
  · have h0 : ¬t.val % 16 = 0 := by have := lt16 t; omega
    rw [outsAt_B m c t h0 h1 h2]
    unfold outsB runB
    dsimp only
    frame_out
    exact add13 _ _ _

theorem last13 (ht : t.val = 15) : (outsAt m c t.val t.isLt).o13
    = k0_pay2 (k0_pay1 (k0_pay54 (k0_pay6 (X11 m c t) (X12 m c t)) (X223 m c t)) (outsAt m c (t.val - 1) (Nat.lt_of_le_of_lt (Nat.sub_le _ _) t.isLt)).o13) := by
  obtain ⟨h0, h1, h2⟩ : ¬t.val % 16 = 0 ∧ 1 ≤ t.val ∧ t.val % 16 = 15 := by omega
  rw [outsAt_C m c t h0 h1 h2]
  unfold outsC runC
  dsimp only
  frame_out
  rfl

end Point

end Cert.PobKIdeal.Hand
-- ==== Proof.PobRef.lean ====
/- The reference of the output projection's backward call, over the arguments' real numbers. -/
module

public import proofs.«01_k».proof.Proof.PobKernel
public import proofs.«01_k».proof.Proof.Gen.PobRIdeal.Read

@[expose] public section

set_option maxRecDepth 16384

noncomputable section

open Idealize.ShloMosaic Idealize.ShloMosaic.TcCoe Idealize.SL.Sem
open Cert.Proof.LN (coe_sum div_coe lit_two lit_nhalf)

namespace Cert.PobKIdeal.Hand

open Cert.PobKIdeal

section Groups

/-- Member `j` of group `a`. -/
def mem (a : Fin 8) (j : Fin 64) : Fin 512 := ⟨a.val * 64 + j.val, by omega⟩

theorem mem_self (q : Fin 512) : mem ⟨q.val / 64, by omega⟩ ⟨q.val % 64, by omega⟩ = q := Fin.ext (by simp only [mem]; omega)

theorem gsum_mem (f : Fin 512 → ℝ) (a : Fin 8) (j : Fin 64) : gsum f (mem a j) = ∑ k : Fin 64, f (mem a k) :=
  Finset.sum_congr rfl fun k _ => congrArg f (Fin.ext (by simp only [mem]; omega))

theorem msq_mem (Y : Fin 512 → ℝ) (a : Fin 8) (j : Fin 64) : msq Y (mem a j) = msq Y (mem a 0) := by
  unfold msq
  rw [gsum_mem, gsum_mem]

theorem rs_mem (Y : Fin 512 → ℝ) (a : Fin 8) (j : Fin 64) : rs Y (mem a j) = rs Y (mem a 0) := by
  unfold rs
  rw [msq_mem]

/-- The group norm's gradient as differentiation leaves it: through the root, then through the mean square. -/
theorem dnorm_mem (Y D : Fin 512 → ℝ) (a : Fin 8) (j : Fin 64) :
    D (mem a j) * rs Y (mem a 0) + (∑ k : Fin 64, Y (mem a k) * D (mem a k)) * (-(1 / 2) * (rs Y (mem a 0) / msq Y (mem a 0))) / 64 * (2 * Y (mem a j))
      = dnorm Y D (mem a j) := by
  have h := msq_pos Y (mem a 0)
  have e : rs Y (mem a 0) / msq Y (mem a 0) = rs Y (mem a 0) * rs Y (mem a 0) * rs Y (mem a 0) := by
    have : rs Y (mem a 0) * rs Y (mem a 0) = (msq Y (mem a 0))⁻¹ := by
      unfold rs
      rw [← mul_inv, Real.mul_self_sqrt h.le]
    rw [this, div_eq_mul_inv, mul_comm]
  have s : ∑ k : Fin 64, D (mem a k) * yn Y (mem a k) = (∑ k : Fin 64, Y (mem a k) * D (mem a k)) * rs Y (mem a 0) := by
    rw [Finset.sum_mul]
    refine Finset.sum_congr rfl fun k _ => ?_
    unfold yn
    rw [rs_mem]
    ring
  unfold dnorm
  rw [gsum_mem, s, e]
  unfold yn
  rw [rs_mem Y a j]
  ring

end Groups

section Reference

open Cert.PobRIdeal.Read

/-- The arguments' entries are these real numbers. -/
structure Real5 (x0 : FVec Ideal S4096x1536 .f32) (x2 : FVec Ideal S3x512 .f32) (x3 : FVec Ideal S1x512 .f32) (x4 : FVec Ideal S1024x1024 .f32)
    (x5 : FVec Ideal S4096x1024 .f32) (G : Fin 4096 → Fin 1536 → ℝ) (W : Fin 3 → Fin 512 → ℝ) (g : Fin 512 → ℝ) (D : Fin 4096 → Fin 1024 → ℝ)
    (O : Fin 1024 → Fin 1024 → ℝ) : Prop where
  h0 : ∀ p k, x0 (ix2 p k) = (G p k : EReal)
  h2 : ∀ j q, x2 (ix2 j q) = (W j q : EReal)
  h3 : ∀ u q, x3 (ix2 u q) = (g q : EReal)
  h4 : ∀ a k, x4 (ix2 a k) = (O a k : EReal)
  h5 : ∀ p k, x5 (ix2 p k) = (D p k : EReal)

variable {x0 : FVec Ideal S4096x1536 .f32} {x2 : FVec Ideal S3x512 .f32} {x3 : FVec Ideal S1x512 .f32} {x4 : FVec Ideal S1024x1024 .f32}
  {x5 : FVec Ideal S4096x1024 .f32} {G : Fin 4096 → Fin 1536 → ℝ} {W : Fin 3 → Fin 512 → ℝ} {g : Fin 512 → ℝ} {D : Fin 4096 → Fin 1024 → ℝ}
  {O : Fin 1024 → Fin 1024 → ℝ} (r : Real5 x0 x2 x3 x4 x5 G W g D O)
include r

theorem v0_at (p : Fin 4096) (q : Fin 512) : val_main_v0 (F := Ideal) x0 (ix2 p q) = (cut G 0 p q : EReal) := by
  pointwise [val_main_v0]
  rw [r.h0]
  exact congrArg (fun k => (G p k : EReal)) (Fin.ext (by simp))

theorem v1_at (p : Fin 4096) (q : Fin 512) : val_main_v1 (F := Ideal) x0 (ix2 p q) = (cut G 1 p q : EReal) := by
  pointwise [val_main_v1]
  rw [r.h0]
  exact congrArg (fun k => (G p k : EReal)) (Fin.ext (by simp))

theorem v2_at (p : Fin 4096) (q : Fin 512) : val_main_v2 (F := Ideal) x0 (ix2 p q) = (cut G 2 p q : EReal) := by
  pointwise [val_main_v2]
  rw [r.h0]
  exact congrArg (fun k => (G p k : EReal)) (Fin.ext (by simp))

theorem v3_at (p : Fin 4096) (q : Fin 512) : val_main_v3 (F := Ideal) x0 (ix2 p q) = (ug G p q : EReal) := by
  pointwise [val_main_v3]
  rw [v1_at r, v2_at r, ← EReal.coe_mul]
  rfl

theorem v9_at (p : Fin 4096) (q : Fin 512) : val_main_v9 (F := Ideal) x0 (ix2 p q) = (down 2 (ug G) p q : EReal) := by
  pointwise [val_main_v9, val_main_v5, val_main_v4, val_main_cst]
  unfold down
  split
  · rw [dif_neg (by omega), EReal.coe_zero]
  · rw [dif_pos (by omega)]
    refine (v3_at r _ _).trans (congrArg (fun p => (ug G p q : EReal)) (Fin.ext ?_))
    show _ - 2 = p.val - 2
    omega

theorem v17_at (p : Fin 4096) (q : Fin 512) : val_main_v17 (F := Ideal) x0 (ix2 p q) = (down 1 (ug G) p q : EReal) := by
  pointwise [val_main_v17, val_main_v5, val_main_v4, val_main_cst]
  unfold down
  split
  · rw [dif_neg (by omega), EReal.coe_zero]
  · rw [dif_pos (by omega)]
    refine (v3_at r _ _).trans (congrArg (fun p => (ug G p q : EReal)) (Fin.ext ?_))
    show _ - 2 = p.val - 1
    omega

theorem v24_at (p : Fin 4096) (q : Fin 512) : val_main_v24 (F := Ideal) x0 (ix2 p q) = (ug G p q : EReal) := by
  pointwise [val_main_v24, val_main_v5, val_main_v4, val_main_cst]
  rw [v3_at r]

theorem v10_at (u : Fin 1) (q : Fin 512) : val_main_v10 (F := Ideal) x2 (ix2 u q) = (W 0 q : EReal) := by
  pointwise [val_main_v10, val_main_v8, val_main_v7]
  exact r.h2 _ _

theorem v18_at (u : Fin 1) (q : Fin 512) : val_main_v18 (F := Ideal) x2 (ix2 u q) = (W 1 q : EReal) := by
  pointwise [val_main_v18, val_main_v16, val_main_v15]
  exact r.h2 _ _

theorem v25_at (u : Fin 1) (q : Fin 512) : val_main_v25 (F := Ideal) x2 (ix2 u q) = (W 2 q : EReal) := by
  pointwise [val_main_v25, val_main_v23, val_main_v22]
  exact r.h2 _ _

theorem v28_at (p : Fin 4096) (q : Fin 512) : val_main_v28 (F := Ideal) x0 x2 (ix2 p q) = (cv G W p q : EReal) := by
  pointwise [val_main_v28, val_main_v27, val_main_v26, val_main_v21, val_main_v20, val_main_v19, val_main_v14, val_main_v13, val_main_v12, val_main_v11, val_main_cst_1]
  rw [v9_at r, v17_at r, v24_at r, v10_at r, v18_at r, v25_at r]
  simp only [zero_add, ← EReal.coe_mul, ← EReal.coe_add]
  refine congrArg _ ?_
  unfold cv
  ring

theorem v29_at (p : Fin 4096) (q : Fin 512) : val_main_v29 (F := Ideal) x0 x2 (ix2 p q) = (gy G W p q : EReal) := by
  pointwise [val_main_v29]
  rw [v0_at r, v28_at r, ← EReal.coe_mul]
  rfl

theorem v30_at (p : Fin 4096) (a : Fin 8) (j : Fin 64) : val_main_v30 (F := Ideal) x0 x2 (ix3 p a j) = (gy G W p (mem a j) : EReal) := by
  pointwise [val_main_v30]
  exact v29_at r _ _

theorem v39_at (p : Fin 4096) (a : Fin 8) (u : Fin 1) : val_main_v39 (F := Ideal) x0 x2 (ix3 p a u) = (msq (gy G W p) (mem a 0) : EReal) := by
  pointwise [val_main_v39, val_main_v38, val_main_v37, val_main_v36, val_main_v35, val_main_v34, val_main_v31, val_main_cst_3, val_main_cst_4, val_main_cst_5]
  simp only [v30_at r, lit_64, lit_eps, ← EReal.coe_mul, coe_sum, div_coe _ 64 (by norm_num), ← EReal.coe_add]
  unfold msq
  rw [gsum_mem]

theorem v40_at (p : Fin 4096) (a : Fin 8) (u : Fin 1) : val_main_v40 (F := Ideal) x0 x2 (ix3 p a u) = (rs (gy G W p) (mem a 0) : EReal) := by
  pointwise [val_main_v40]
  rw [v39_at r, rsqrt_msq]

theorem v43_at (p : Fin 4096) (a : Fin 8) (u : Fin 1) : val_main_v43 (F := Ideal) x0 x2 (ix3 p a u) = ((-(1 / 2) * (rs (gy G W p) (mem a 0) / msq (gy G W p) (mem a 0)) : ℝ) : EReal) := by
  pointwise [val_main_v43, val_main_v42, val_main_v41, val_main_cst_6]
  rw [v39_at r, v40_at r, lit_nhalf, div_coe _ _ (msq_pos _ _).ne', ← EReal.coe_mul]

theorem v46_at (p : Fin 4096) (q : Fin 512) : val_main_v46 (F := Ideal) x0 x2 (ix2 p q) = (yn (gy G W p) q : EReal) := by
  pointwise [val_main_v46, val_main_v45, val_main_v44]
  rw [v30_at r, v40_at r, ← EReal.coe_mul, ← rs_mem _ _ ⟨q.val % 64, by omega⟩]
  exact congrArg (fun q => (yn (gy G W p) q : EReal)) (mem_self q)

theorem v52_at (p : Fin 4096) (q : Fin 512) : val_main_v52 (F := Ideal) x4 x5 (ix2 p q) = (dpy D O p q : EReal) := by
  pointwise [val_main_v52, val_main_v51]
  simp only [r.h4, r.h5, ← EReal.coe_mul, coe_sum]
  rfl

theorem v53_at (p : Fin 4096) (q : Fin 512) : val_main_v53 (F := Ideal) x4 x5 (ix2 p q) = (dp D O p ⟨512 + q.val, by omega⟩ : EReal) := by
  pointwise [val_main_v53, val_main_v51]
  simp only [r.h4, r.h5, ← EReal.coe_mul, coe_sum]
  rfl

theorem v59_at (p : Fin 4096) (a : Fin 8) (j : Fin 64) : val_main_v59 (F := Ideal) x3 x4 x5 (ix3 p a j) = ((dpy D O p (mem a j) * g (mem a j) : ℝ) : EReal) := by
  pointwise [val_main_v59, val_main_v58, val_main_v57]
  rw [r.h3, EReal.coe_mul]
  exact congrArg (· * _) (v52_at r _ _)

theorem v72_at (p : Fin 4096) (q : Fin 512) : val_main_v72 (F := Ideal) x0 x2 x3 x4 x5 (ix2 p q) = (dg G W g D O p q : EReal) := by
  pointwise [val_main_v72, val_main_v71, val_main_v70, val_main_v69, val_main_v68, val_main_v67, val_main_v66, val_main_v65, val_main_v64, val_main_v63, val_main_v62, val_main_v61, val_main_v60, val_main_v33, val_main_v32, val_main_cst_2, val_main_cst_8, val_main_cst_9, val_main_cst_10]
  simp only [v30_at r, v40_at r, v43_at r, v59_at r, lit_64, lit_two, ← EReal.coe_mul, coe_sum, div_coe _ 64 (by norm_num), ← EReal.coe_add, Fin.sum_univ_one]
  refine congrArg _ ?_
  refine (dnorm_mem (gy G W p) (fun k => dpy D O p k * g k) _ _).trans ?_
  exact congrArg (dg G W g D O p) (mem_self q)

theorem v73_at (p : Fin 4096) (q : Fin 512) : val_main_v73 (F := Ideal) x0 x2 x3 x4 x5 (ix2 p q) = (dc G W g D O p q : EReal) := by
  pointwise [val_main_v73]
  rw [v0_at r, v72_at r, mul_comm, ← EReal.coe_mul]
  rfl

theorem v110_at (p : Fin 4096) (q : Fin 512) : val_main_v110 (F := Ideal) x0 x2 x3 x4 x5 (ix2 p q) = ((dg G W g D O p q * cv G W p q : ℝ) : EReal) := by
  pointwise [val_main_v110, val_main_v74]
  rw [v72_at r, v28_at r, ← EReal.coe_mul]

theorem v107_at (p : Fin 4096) (q : Fin 512) : val_main_v107 (F := Ideal) x0 x2 x3 x4 x5 (ix2 p q) = (du G W g D O p q : EReal) := by
  have e2 : val_main_v81 (F := Ideal) x0 x2 x3 x4 x5 (ix2 ⟨2 + p.val, by omega⟩ q) = ((W 2 q * dc G W g D O p q : ℝ) : EReal) := by
    pointwise [val_main_v81, val_main_v76, val_main_v75, val_main_cst_13]
    rw [v25_at r, v73_at r, ← EReal.coe_mul]
  have e1 : val_main_v90 (F := Ideal) x0 x2 x3 x4 x5 (ix2 ⟨2 + p.val, by omega⟩ q) = ((W 1 q * up 1 (dc G W g D O) p q : ℝ) : EReal) := by
    pointwise [val_main_v90, val_main_v85, val_main_v84, val_main_cst_17]
    unfold up
    split
    · rw [v18_at r, v73_at r, dif_pos (by omega), ← EReal.coe_mul]
      exact congrArg (fun p => ((W 1 q * dc G W g D O p q : ℝ) : EReal)) (Fin.ext (by simp <;> omega))
    · rw [dif_neg (by omega), mul_zero, EReal.coe_zero]
  have e0 : val_main_v101 (F := Ideal) x0 x2 x3 x4 x5 (ix2 ⟨2 + p.val, by omega⟩ q) = ((W 0 q * up 2 (dc G W g D O) p q : ℝ) : EReal) := by
    pointwise [val_main_v101, val_main_v96, val_main_v95, val_main_cst_21]
    unfold up
    split
    · rw [v10_at r, v73_at r, dif_pos (by omega), ← EReal.coe_mul]
      exact congrArg (fun p => ((W 0 q * dc G W g D O p q : ℝ) : EReal)) (Fin.ext (by simp <;> omega))
    · rw [dif_neg (by omega), mul_zero, EReal.coe_zero]
  pointwise [val_main_v107, val_main_v102, val_main_v91]
  rw [e2, e1, e0, ← EReal.coe_add, ← EReal.coe_add]
  rfl

theorem v111_at (p : Fin 4096) (q : Fin 512) : val_main_v111 (F := Ideal) x0 x2 x3 x4 x5 (ix2 p q) = ((du G W g D O p q * cut G 2 p q : ℝ) : EReal) := by
  pointwise [val_main_v111, val_main_v109]
  rw [v107_at r, v2_at r, ← EReal.coe_mul]

theorem v112_at (p : Fin 4096) (q : Fin 512) : val_main_v112 (F := Ideal) x0 x2 x3 x4 x5 (ix2 p q) = ((du G W g D O p q * cut G 1 p q : ℝ) : EReal) := by
  pointwise [val_main_v112, val_main_v108]
  rw [v107_at r, v1_at r, ← EReal.coe_mul, mul_comm]

theorem v113_at (l : Fin 8) (q : Fin 512) : val_main_v113 (F := Ideal) x0 x2 x4 x5 (ix2 l q) = (∑ p, ((dpy D O p q * yn (gy G W p) q : ℝ) : EReal)) := by
  pointwise [val_main_v113, val_main_v56, val_main_v55, val_main_v54, val_main_cst_7]
  simp only [v46_at r, v52_at r, ← EReal.coe_mul, mul_comm (yn _ _)]

theorem v115_at (l : Fin 8) (q : Fin 512) : val_main_v115 (F := Ideal) x0 x2 x3 x4 x5 (ix2 l q) = (∑ p, ((dc G W g D O p q * down 2 (ug G) p q : ℝ) : EReal)) := by
  pointwise [val_main_v115, val_main_v114, val_main_v105, val_main_v104, val_main_v103, val_main_v100, val_main_v99, val_main_v98, val_main_v97, val_main_v94, val_main_v93, val_main_v92, val_main_v89, val_main_v88, val_main_v87, val_main_v86, val_main_v83, val_main_v82, val_main_v80, val_main_v79, val_main_v78, val_main_v77, val_main_cst_11, val_main_cst_12, val_main_cst_14, val_main_cst_15, val_main_cst_16, val_main_cst_18, val_main_cst_19, val_main_cst_20, val_main_cst_22]
  simp only [v73_at r, v9_at r, v17_at r, v24_at r, ← EReal.coe_mul, Fin.sum_univ_one, zero_add, add_zero]

theorem v117_at (l : Fin 8) (q : Fin 512) : val_main_v117 (F := Ideal) x0 x2 x3 x4 x5 (ix2 l q) = (∑ p, ((dc G W g D O p q * down 1 (ug G) p q : ℝ) : EReal)) := by
  pointwise [val_main_v117, val_main_v116, val_main_v105, val_main_v104, val_main_v103, val_main_v100, val_main_v99, val_main_v98, val_main_v97, val_main_v94, val_main_v93, val_main_v92, val_main_v89, val_main_v88, val_main_v87, val_main_v86, val_main_v83, val_main_v82, val_main_v80, val_main_v79, val_main_v78, val_main_v77, val_main_cst_11, val_main_cst_12, val_main_cst_14, val_main_cst_15, val_main_cst_16, val_main_cst_18, val_main_cst_19, val_main_cst_20, val_main_cst_22]
  simp only [v73_at r, v9_at r, v17_at r, v24_at r, ← EReal.coe_mul, Fin.sum_univ_one, zero_add, add_zero]

theorem v119_at (l : Fin 8) (q : Fin 512) : val_main_v119 (F := Ideal) x0 x2 x3 x4 x5 (ix2 l q) = (∑ p, ((dc G W g D O p q * ug G p q : ℝ) : EReal)) := by
  pointwise [val_main_v119, val_main_v118, val_main_v105, val_main_v104, val_main_v103, val_main_v100, val_main_v99, val_main_v98, val_main_v97, val_main_v94, val_main_v93, val_main_v92, val_main_v89, val_main_v88, val_main_v87, val_main_v86, val_main_v83, val_main_v82, val_main_v80, val_main_v79, val_main_v78, val_main_v77, val_main_cst_11, val_main_cst_12, val_main_cst_14, val_main_cst_15, val_main_cst_16, val_main_cst_18, val_main_cst_19, val_main_cst_20, val_main_cst_22]
  simp only [v73_at r, v9_at r, v17_at r, v24_at r, ← EReal.coe_mul, Fin.sum_univ_one, zero_add, add_zero]

end Reference

end Cert.PobKIdeal.Hand
-- ==== Proof.AttnScan.lean ====
/- Running sums along a row, as the host's windows compute them. -/
module

public import Idealize.ShloMosaic.Lib.Pipeline.ValueKit

@[expose] public section

noncomputable section

open Idealize.ShloMosaic Idealize.ShloMosaic.TcCoe

namespace Cert.Proof.Attn

theorem foldl_sum {n : ℕ} (g : Fin n → EReal) (v : EReal) : (List.finRange n).foldl (fun r i => r + g i) v = v + ∑ i, g i := by
  rw [Fin.sum_univ_def]
  generalize List.finRange n = l
  induction l generalizing v with
  | nil => simp
  | cons a l ih => rw [List.foldl_cons, ih, List.map_cons, List.sum_cons, add_assoc]

/-- The positions of a window that spans one row. -/
def span (N : ℕ) : Shape.Idx ⟨3, ![1, 1, N]⟩ ≃ Fin N where
  toFun p := p 2
  invFun k := ix3 0 0 k
  left_inv p := funext fun a => by
    match a with
    | ⟨0, _⟩ => exact Subsingleton.elim (α := Fin 1) _ _
    | ⟨1, _⟩ => exact Subsingleton.elim (α := Fin 1) _ _
    | ⟨2, _⟩ => rfl
  right_inv k := rfl

theorem window_sum {A N : ℕ} (L M : ℕ) (x : FVec Ideal ⟨3, ![A, N, N]⟩ .f32) {u : Shape} (init : u.Idx → EReal) (hz : ∀ i, init i = 0)
    (h : Shape.ReduceWindows ⟨3, ![A, N, N]⟩ ![1, 1, N] ![1, 1, 1] ![0, 0, L] ![0, 0, M] ⟨3, ![A, N, N]⟩) (hu : 0 < u.numel) (H : Fin A) (t s : Fin N) :
    Host.reduceWindowAdd (F := Ideal) ![1, 1, N] ![1, 1, 1] ![0, 0, L] ![0, 0, M] x init h hu (ix3 H t s)
      = ∑ k : Fin N, if g : L ≤ s.val + k.val ∧ s.val + k.val - L < N then x (ix3 H t ⟨s.val + k.val - L, g.2⟩) else 0 := by
  show Host.reduceWindow (· + ·) ![1, 1, N] ![1, 1, 1] ![0, 0, L] ![0, 0, M] x (fun _ : (⟨0, ![]⟩ : Shape).Idx => init (Shape.Idx.first hu)) h (by decide) (ix3 H t s) = _
  unfold Host.reduceWindow
  refine (foldl_sum _ _).trans ?_
  rw [hz, zero_add]
  refine Fintype.sum_equiv ((Shape.rowMajor ⟨3, ![1, 1, N]⟩).symm.trans (span N)) _ _ fun n => ?_
  obtain ⟨k, hk⟩ : ∃ k, (Shape.rowMajor ⟨3, ![1, 1, N]⟩).symm n = ix3 0 0 k := ⟨_, ((span N).left_inv _).symm⟩
  have w0 : ((Shape.rowMajor ⟨3, ![1, 1, N]⟩).symm n 0).val = 0 := by rw [hk]; rfl
  have w1 : ((Shape.rowMajor ⟨3, ![1, 1, N]⟩).symm n 1).val = 0 := by rw [hk]; rfl
  have w2 : ((Shape.rowMajor ⟨3, ![1, 1, N]⟩).symm n 2).val = k.val := by rw [hk]; rfl
  have wk : (Shape.rowMajor ⟨3, ![1, 1, N]⟩).symm.trans (span N) n = k := by rw [Equiv.trans_apply, hk]; rfl
  have hH := H.isLt
  have ht := t.isLt
  rw [wk]
  dsimp only
  by_cases g : L ≤ s.val + k.val ∧ s.val + k.val - L < N
  · rw [dif_pos g, dif_pos (fun a => by
      match a with
      | ⟨0, _⟩ =>
        show 0 ≤ H.val * 1 + ((Shape.rowMajor ⟨3, ![1, 1, N]⟩).symm n 0).val ∧ H.val * 1 + ((Shape.rowMajor ⟨3, ![1, 1, N]⟩).symm n 0).val - 0 < A
        omega
      | ⟨1, _⟩ =>
        show 0 ≤ t.val * 1 + ((Shape.rowMajor ⟨3, ![1, 1, N]⟩).symm n 1).val ∧ t.val * 1 + ((Shape.rowMajor ⟨3, ![1, 1, N]⟩).symm n 1).val - 0 < N
        omega
      | ⟨2, _⟩ =>
        show L ≤ s.val * 1 + ((Shape.rowMajor ⟨3, ![1, 1, N]⟩).symm n 2).val ∧ s.val * 1 + ((Shape.rowMajor ⟨3, ![1, 1, N]⟩).symm n 2).val - L < N
        omega)]
    refine congrArg x (funext fun a => Fin.ext ?_)
    match a with
    | ⟨0, _⟩ =>
      show H.val * 1 + ((Shape.rowMajor ⟨3, ![1, 1, N]⟩).symm n 0).val - 0 = H.val
      omega
    | ⟨1, _⟩ =>
      show t.val * 1 + ((Shape.rowMajor ⟨3, ![1, 1, N]⟩).symm n 1).val - 0 = t.val
      omega
    | ⟨2, _⟩ =>
      show s.val * 1 + ((Shape.rowMajor ⟨3, ![1, 1, N]⟩).symm n 2).val - L = s.val + k.val - L
      omega
  · rw [dif_neg g, dif_neg fun hin => g ?_]
    have h2 := hin 2
    change L ≤ s.val * 1 + ((Shape.rowMajor ⟨3, ![1, 1, N]⟩).symm n 2).val ∧ s.val * 1 + ((Shape.rowMajor ⟨3, ![1, 1, N]⟩).symm n 2).val - L < N at h2
    omega

/-- Windows padded after the row sum what stands from a position on. -/
theorem from_window {A : ℕ} (x : FVec Ideal ⟨3, ![A, 4096, 4096]⟩ .f32) {u : Shape} (init : u.Idx → EReal) (hz : ∀ i, init i = 0)
    (h : Shape.ReduceWindows ⟨3, ![A, 4096, 4096]⟩ ![1, 1, 4096] ![1, 1, 1] ![0, 0, 0] ![0, 0, 4095] ⟨3, ![A, 4096, 4096]⟩) (hu : 0 < u.numel) (H : Fin A) (t s : Fin 4096) :
    Host.reduceWindowAdd (F := Ideal) ![1, 1, 4096] ![1, 1, 1] ![0, 0, 0] ![0, 0, 4095] x init h hu (ix3 H t s)
      = ∑ u : Fin 4096, if s.val ≤ u.val then x (ix3 H t u) else 0 := by
  rw [window_sum 0 4095 x init hz h hu]
  refine Fintype.sum_equiv (Equiv.addLeft s) _ _ fun k => ?_
  have e : (Equiv.addLeft s k).val = (s.val + k.val) % 4096 := Fin.val_add _ _
  by_cases g : s.val + k.val < 4096
  · rw [dif_pos (by omega), if_pos (by omega)]
    exact congrArg (fun j => x (ix3 H t j)) (Fin.ext (by simp only [e]; omega))
  · rw [dif_neg (by omega), if_neg (by omega)]

/-- Windows padded before the row sum what stands up to a position. -/
theorem upto_window {A : ℕ} (x : FVec Ideal ⟨3, ![A, 4096, 4096]⟩ .f32) {u : Shape} (init : u.Idx → EReal) (hz : ∀ i, init i = 0)
    (h : Shape.ReduceWindows ⟨3, ![A, 4096, 4096]⟩ ![1, 1, 4096] ![1, 1, 1] ![0, 0, 4095] ![0, 0, 0] ⟨3, ![A, 4096, 4096]⟩) (hu : 0 < u.numel) (H : Fin A) (t s : Fin 4096) :
    Host.reduceWindowAdd (F := Ideal) ![1, 1, 4096] ![1, 1, 1] ![0, 0, 4095] ![0, 0, 0] x init h hu (ix3 H t s)
      = ∑ u : Fin 4096, if u.val ≤ s.val then x (ix3 H t u) else 0 := by
  rw [window_sum 4095 0 x init hz h hu]
  refine Fintype.sum_equiv (Equiv.addLeft (s + 1)) _ _ fun k => ?_
  have e : (Equiv.addLeft (s + 1) k).val = (s.val + 1 + k.val) % 4096 := by
    have : (Equiv.addLeft (s + 1) k).val = ((s + 1 : Fin 4096).val + k.val) % 4096 := Fin.val_add _ _
    rw [this, Fin.val_add]
    simp
  by_cases g : 4095 ≤ s.val + k.val
  · rw [dif_pos (by omega), if_pos (by omega)]
    exact congrArg (fun j => x (ix3 H t j)) (Fin.ext (by simp only [e]; omega))
  · rw [dif_neg (by omega), if_neg (by omega)]

end Cert.Proof.Attn
-- ==== Proof.AttnRef.lean ====
/- The reference of the attention's backward call, over the arguments' real numbers. -/
module

public import proofs.«01_k».proof.Proof.PobRef
public import proofs.«01_k».proof.Proof.AttnMath
public import proofs.«01_k».proof.Proof.AttnScan
public import proofs.«01_k».proof.Proof.Gen.AttnRIdeal.Read

@[expose] public section

set_option maxRecDepth 16384

noncomputable section

open Idealize.ShloMosaic Idealize.ShloMosaic.TcCoe Idealize.SL.Sem
open Cert.Proof.LN (coe_sum div_coe lit_two lit_nhalf)
open Cert.PobKIdeal.Hand (mem mem_self gsum_mem msq_mem rs_mem dnorm_mem msq rs yn dnorm lit_64 lit_eps rsqrt_msq gsum)

namespace Cert.Proof.Attn

open Cert.AttnRIdeal Cert.AttnRIdeal.Read

theorem head_mem (H : Fin 8) (d : Fin 64) : head (mem H d) = H := Fin.ext (by simp only [head, mem]; omega)
theorem mem_eq (H : Fin 8) (d : Fin 64) : (⟨64 * H.val + d.val, by omega⟩ : Fin 512) = mem H d := Fin.ext (by simp only [mem]; omega)

theorem lit_eighthf : Ideal.ofBits .f32 0x3E000000#32 = ((1 / 8 : ℝ) : EReal) := by
  simp [Ideal.ofBits, Ideal.ieee, -EReal.coe_mul]; norm_num

theorem max_re (x y : ℝ) : max (x : EReal) (y : EReal) = ((max x y : ℝ) : EReal) := (EReal.coe_strictMono.monotone.map_max).symm
theorem abs_re (x : ℝ) : FloatOps.absf (F := Ideal) (φ := .f32) (x : EReal) = ((|x| : ℝ) : EReal) := by
  show max (x : EReal) (-(x : EReal)) = _
  rw [← EReal.coe_neg, max_re]
  rfl

theorem softplus (x : ℝ) : (if (x : EReal) ≠ (x : EReal) then (x : EReal) else max (x : EReal) 0 + Ideal.log1p (Ideal.exp (-FloatOps.absf (F := Ideal) (φ := .f32) (x : EReal)))) = (sp x : EReal) := by
  rw [if_neg (fun h => h rfl), abs_re, ← EReal.coe_neg, Ideal.exp_coe]
  unfold Ideal.log1p
  rw [← EReal.coe_one, ← EReal.coe_add, Ideal.log_coe, if_neg (by have := Real.exp_pos (-|x|); linarith), ← EReal.coe_zero, max_re, ← EReal.coe_add]
  rfl

theorem lit_inf : Ideal.ofBits .f32 0x7F800000#32 = ⊤ := by simp [Ideal.ofBits, Ideal.ieee]

theorem sigmoid (x : ℝ) : Ideal.exp ((if (x : EReal) = Ideal.ofBits .f32 0x7F800000#32 then 0 else (x : EReal)) - (if (sp x : EReal) = Ideal.ofBits .f32 0x7F800000#32 then 0 else (sp x : EReal))) = (sg x : EReal) := by
  rw [lit_inf, if_neg (EReal.coe_ne_top _), if_neg (EReal.coe_ne_top _), ← EReal.coe_sub, Ideal.exp_coe]
  rfl

theorem slt_small {a b : ℕ} (ha : a < 4096) (hb : b < 4096) : IntOp.cmpi .slt (BitVec.ofNat 32 a) (BitVec.ofNat 32 b) = if a < b then 1#1 else 0#1 := by
  have h : (BitVec.ofNat 32 a).slt (BitVec.ofNat 32 b) = decide (a < b) := by
    rw [BitVec.slt_eq_decide, BitVec.toInt_eq_toNat_of_lt (by simp; omega), BitVec.toInt_eq_toNat_of_lt (by simp; omega), BitVec.toNat_ofNat, BitVec.toNat_ofNat]
    congr 1
    rw [Nat.mod_eq_of_lt (by omega), Nat.mod_eq_of_lt (by omega)]
    exact propext Nat.cast_lt
  unfold IntOp.cmpi
  simp only [h]
  by_cases g : a < b <;> simp [g]

/-- A masked entry. -/
theorem pick {α : Type} (P : Prop) [Decidable P] (a b : α) : Scalar.select (if P then 1#1 else 0#1 : BitVec 1) a b = if P then a else b := by
  by_cases g : P <;> simp [g, Scalar.select]

theorem ite_re (P : Prop) [Decidable P] (a : ℝ) : (if P then (a : EReal) else 0) = ((if P then a else 0 : ℝ) : EReal) := by split <;> rfl

/-- What stands after a position, from what stands from it on. -/
theorem after_sub (f : Fin 4096 → ℝ) (s : Fin 4096) : (∑ u : Fin 4096, if s.val ≤ u.val then f u else 0) - f s = ∑ u : Fin 4096, if s.val + 1 ≤ u.val then f u else 0 := by
  have e : f s = ∑ u : Fin 4096, if u = s then f u else 0 := by simp
  conv_lhs => rw [e]
  rw [← Finset.sum_sub_distrib]
  refine Finset.sum_congr rfl fun u _ => ?_
  have := Fin.ext_iff (a := u) (b := s)
  split_ifs <;> first | omega | simp

/-- What stands before a position, from what stands up to it. -/
theorem before_sub (f : Fin 4096 → ℝ) (s : Fin 4096) : -f s + (∑ u : Fin 4096, if u.val ≤ s.val then f u else 0) = ∑ u : Fin 4096, if u.val < s.val then f u else 0 := by
  have e : f s = ∑ u : Fin 4096, if u = s then f u else 0 := by simp
  conv_lhs => rw [e]
  rw [neg_add_eq_sub, ← Finset.sum_sub_distrib]
  refine Finset.sum_congr rfl fun u _ => ?_
  have := Fin.ext_iff (a := u) (b := s)
  split_ifs <;> first | omega | simp

/-- The three thirds of the projected rows. -/
def third (X : Fin 4096 → Fin 1536 → ℝ) (o : Fin 3) (t : Fin 4096) (l : Fin 512) : ℝ := X t ⟨o.val * 512 + l.val, by omega⟩

/-- The scores and the attention's output over the thirds. -/
abbrev ZZ (X : Fin 4096 → Fin 1536 → ℝ) : Fin 8 → Fin 4096 → Fin 4096 → ℝ := z (third X 0) (third X 1)
abbrev oo (X : Fin 4096 → Fin 1536 → ℝ) : Fin 4096 → Fin 512 → ℝ := out (third X 0) (third X 1) (third X 2)

/-- The arguments' entries are these real numbers. -/
structure Real3 (x0 : FVec Ideal S4096x1536 .f32) (x1 : FVec Ideal S1x512 .f32) (x2 : FVec Ideal S4096x512 .f32)
    (X : Fin 4096 → Fin 1536 → ℝ) (g : Fin 512 → ℝ) (Y : Fin 4096 → Fin 512 → ℝ) : Prop where
  h0 : ∀ t k, x0 (ix2 t k) = (X t k : EReal)
  h1 : ∀ u q, x1 (ix2 u q) = (g q : EReal)
  h2 : ∀ t q, x2 (ix2 t q) = (Y t q : EReal)

variable {x0 : FVec Ideal S4096x1536 .f32} {x1 : FVec Ideal S1x512 .f32} {x2 : FVec Ideal S4096x512 .f32}
  {X : Fin 4096 → Fin 1536 → ℝ} {g : Fin 512 → ℝ} {Y : Fin 4096 → Fin 512 → ℝ} (r : Real3 x0 x1 x2 X g Y)
include r

theorem v4_at (H : Fin 8) (t : Fin 4096) (d : Fin 64) : val_main_v4 (F := Ideal) x0 (ix3 H t d) = (third X 0 t (mem H d) : EReal) := by
  pointwise [val_main_v4, val_main_v3, val_main_v0]
  rw [r.h0]
  exact congrArg (fun k => (X _ k : EReal)) (Fin.ext (by simp [mem]))

theorem v6_at (H : Fin 8) (t : Fin 4096) (d : Fin 64) : val_main_v6 (F := Ideal) x0 (ix3 H t d) = (third X 1 t (mem H d) : EReal) := by
  pointwise [val_main_v6, val_main_v5, val_main_v1]
  rw [r.h0]
  exact congrArg (fun k => (X _ k : EReal)) (Fin.ext (by simp [mem]))

theorem v8_at (H : Fin 8) (t : Fin 4096) (d : Fin 64) : val_main_v8 (F := Ideal) x0 (ix3 H t d) = (third X 2 t (mem H d) : EReal) := by
  pointwise [val_main_v8, val_main_v7, val_main_v2]
  rw [r.h0]
  exact congrArg (fun k => (X _ k : EReal)) (Fin.ext (by simp [mem]))

theorem v11_at (H : Fin 8) (t s : Fin 4096) : val_main_v11 (F := Ideal) x0 (ix3 H t s) = (z (third X 0) (third X 1) H t s : EReal) := by
  pointwise [val_main_v11, val_main_v10, val_main_v9, val_main_cst]
  simp only [v4_at r, v6_at r, lit_eighthf, ← EReal.coe_mul, coe_sum]
  refine congrArg (fun a : ℝ => (a : EReal)) ?_
  unfold z hsum
  simp only [mem_eq]

theorem v20_at (H : Fin 8) (t s : Fin 4096) : val_main_call0_v1_0 (F := Ideal) x0 (ix3 H t s) = (sp (z (third X 0) (third X 1) H t s) : EReal) := by
  pointwise [val_main_call0_v1_0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v19]
  rw [v11_at r, neg_neg]
  exact softplus _

theorem v20_1_at (H : Fin 8) (t s : Fin 4096) : val_main_v20_1 (F := Ideal) x0 (ix3 H t s) = (sg (z (third X 0) (third X 1) H t s) : EReal) := by
  pointwise [val_main_v20_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_call0_cst_0, val_main_call0_call0_cst_1, val_main_call0_call0_cst_2, val_main_call0_call0_cst_3, val_main_call0_v0, val_main_v19]
  simp only [v11_at r, v20_at r, neg_neg]
  exact sigmoid _

omit r in
theorem v18_at (t s : Fin 4096) : val_main_v18 (F := Ideal) (ix2 t s) = if s.val < t.val then 1#1 else 0#1 := by
  pointwise [val_main_v18, val_main_v17, val_main_v16, val_main_v15, val_main_v14, val_main_v13, val_main_v12]
  exact slt_small s.isLt t.isLt

theorem v24_at (H : Fin 8) (t s : Fin 4096) : val_main_call3_v1_0 (F := Ideal) x0 (ix3 H t s) = (sp (-ZZ X H t s) : EReal) := by
  pointwise [val_main_call3_v1_0, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_call0_cst, val_main_call3_v0]
  rw [v11_at r, ← EReal.coe_neg]
  exact softplus _

theorem v24_1_at (H : Fin 8) (t s : Fin 4096) : val_main_v24_1 (F := Ideal) x0 (ix3 H t s) = (sg (-ZZ X H t s) : EReal) := by
  pointwise [val_main_v24_1, val_main_call3_call0_v21, val_main_call3_call0_v20, val_main_call3_call0_v19, val_main_call3_call0_v18, val_main_call3_call0_v17, val_main_call3_call0_v16, val_main_call3_call0_v15, val_main_call3_call0_v14, val_main_call3_call0_v13, val_main_call3_call0_cst_0, val_main_call3_call0_cst_1, val_main_call3_call0_cst_2, val_main_call3_call0_cst_3, val_main_call3_v0]
  simp only [v11_at r, v24_at r, ← EReal.coe_neg]
  exact sigmoid _

theorem v21_0_at (H : Fin 8) (t s : Fin 4096) : val_main_v21_0 (F := Ideal) x0 (ix3 H t s) = ((if s.val < t.val then -sp (ZZ X H t s) else 0 : ℝ) : EReal) := by
  pointwise [val_main_v21_0, val_main_v21_1, val_main_v20_0, val_main_call1_v2, val_main_call1_v0, val_main_cst_0]
  simp only [v18_at, v20_at r, ← EReal.coe_neg]
  rw [pick]
  show (if s.val < t.val then ((-sp (ZZ X H t s) : ℝ) : EReal) else Ideal.ofBits .f32 0#32) = _
  rw [Cert.PobKIdeal.Hand.lit_zero, EReal.coe_zero, ite_re]

theorem v22_at (H : Fin 8) (t s : Fin 4096) : val_main_v22 (F := Ideal) x0 (ix3 H t s) = ((∑ u : Fin 4096, if s.val ≤ u.val then (if u.val < t.val then -sp (ZZ X H t u) else 0) else 0 : ℝ) : EReal) := by
  unfold val_main_v22
  refine (from_window _ _ (fun i => ?_) _ _ H t s).trans ?_
  · pointwise [val_main_call2_v0, val_main_call2_cst]
  · simp only [v21_0_at r, ite_re, coe_sum]

theorem v25_at (H : Fin 8) (t s : Fin 4096) : val_main_v25 (F := Ideal) x0 (ix3 H t s) = ((ZZ X H t s - sp (ZZ X H t s) - suf (third X 0) (third X 1) H t s : ℝ) : EReal) := by
  pointwise [val_main_v25, val_main_v24_0, val_main_v23]
  rw [v22_at r, v21_0_at r, v24_at r, ← EReal.coe_neg, ← EReal.coe_sub, ← EReal.coe_add, after_sub, sp_neg]
  refine congrArg (fun a : ℝ => (a : EReal)) ?_
  have e : suf (third X 0) (third X 1) H t s = -∑ u : Fin 4096, if s.val + 1 ≤ u.val then (if u.val < t.val then -sp (ZZ X H t u) else 0) else 0 := by
    unfold suf
    rw [← Finset.sum_neg_distrib]
    refine Finset.sum_congr rfl fun u _ => ?_
    split_ifs <;> simp
  rw [e]
  ring

theorem v26_at (H : Fin 8) (t s : Fin 4096) : val_main_v26 (F := Ideal) x0 (ix3 H t s) = (Real.exp (ZZ X H t s - sp (ZZ X H t s) - suf (third X 0) (third X 1) H t s) : EReal) := by
  pointwise [val_main_v26]
  rw [v25_at r, Ideal.exp_coe]

theorem v27_at (H : Fin 8) (t s : Fin 4096) : val_main_v27_0 (F := Ideal) x0 (ix3 H t s) = (att (third X 0) (third X 1) H t s : EReal) := by
  pointwise [val_main_v27_0, val_main_v27_1, val_main_call4_v2, val_main_call4_v0, val_main_cst_1]
  simp only [v18_at, v26_at r]
  rw [pick]
  show (if s.val < t.val then (_ : EReal) else Ideal.ofBits .f32 0#32) = _
  rw [Cert.PobKIdeal.Hand.lit_zero, EReal.coe_zero, ite_re]
  rfl

theorem v28_at (H : Fin 8) (t : Fin 4096) (d : Fin 64) : val_main_v28 (F := Ideal) x0 (ix3 H t d) = (out (third X 0) (third X 1) (third X 2) t (mem H d) : EReal) := by
  pointwise [val_main_v28]
  simp only [v27_at r, v8_at r, ← EReal.coe_mul, coe_sum]
  unfold out
  rw [head_mem]

theorem v30_at (t : Fin 4096) (l : Fin 512) : val_main_v30 (F := Ideal) x0 (ix2 t l) = (out (third X 0) (third X 1) (third X 2) t l : EReal) := by
  pointwise [val_main_v30, val_main_v29]
  rw [v28_at r]
  exact congrArg (fun q => (out (third X 0) (third X 1) (third X 2) t q : EReal)) (mem_self l)

theorem v31_at (t : Fin 4096) (a : Fin 8) (j : Fin 64) : val_main_v31 (F := Ideal) x0 (ix3 t a j) = (oo X t (mem a j) : EReal) := by
  pointwise [val_main_v31]
  exact v30_at r _ _

theorem v40_at (p : Fin 4096) (a : Fin 8) (u : Fin 1) : val_main_v40 (F := Ideal) x0 (ix3 p a u) = (msq (oo X p) (mem a 0) : EReal) := by
  pointwise [val_main_v40, val_main_v39, val_main_v38, val_main_v37, val_main_v36, val_main_v35, val_main_v32, val_main_cst_3, val_main_cst_4, val_main_cst_5]
  simp only [v31_at r, lit_64, lit_eps, ← EReal.coe_mul, coe_sum, div_coe _ 64 (by norm_num), ← EReal.coe_add]
  unfold msq
  rw [gsum_mem]

theorem v41_at (p : Fin 4096) (a : Fin 8) (u : Fin 1) : val_main_v41 (F := Ideal) x0 (ix3 p a u) = (rs (oo X p) (mem a 0) : EReal) := by
  pointwise [val_main_v41]
  rw [v40_at r, rsqrt_msq]

theorem v44_at (p : Fin 4096) (a : Fin 8) (u : Fin 1) : val_main_v44 (F := Ideal) x0 (ix3 p a u) = ((-(1 / 2) * (rs (oo X p) (mem a 0) / msq (oo X p) (mem a 0)) : ℝ) : EReal) := by
  pointwise [val_main_v44, val_main_v43, val_main_v42, val_main_cst_6]
  rw [v40_at r, v41_at r, lit_nhalf, div_coe _ _ (Cert.PobKIdeal.Hand.msq_pos _ _).ne', ← EReal.coe_mul]

theorem v47_at (p : Fin 4096) (q : Fin 512) : val_main_v47 (F := Ideal) x0 (ix2 p q) = (yn (oo X p) q : EReal) := by
  pointwise [val_main_v47, val_main_v46, val_main_v45]
  rw [v31_at r, v41_at r, ← EReal.coe_mul, ← rs_mem _ _ ⟨q.val % 64, by omega⟩]
  exact congrArg (fun q => (yn (oo X p) q : EReal)) (mem_self q)

theorem v55_at (p : Fin 4096) (a : Fin 8) (j : Fin 64) : val_main_v55 (F := Ideal) x1 x2 (ix3 p a j) = ((Y p (mem a j) * g (mem a j) : ℝ) : EReal) := by
  pointwise [val_main_v55, val_main_v54, val_main_v53]
  rw [r.h1, r.h2, ← EReal.coe_mul]
  rfl

/-- The gradient of the attention's output, through the head norm. -/
abbrev dO (X : Fin 4096 → Fin 1536 → ℝ) (g : Fin 512 → ℝ) (Y : Fin 4096 → Fin 512 → ℝ) (t : Fin 4096) (l : Fin 512) : ℝ :=
  dnorm (out (third X 0) (third X 1) (third X 2) t) (fun q => Y t q * g q) l

theorem v68_at (p : Fin 4096) (q : Fin 512) : val_main_v68 (F := Ideal) x0 x1 x2 (ix2 p q) = (dO X g Y p q : EReal) := by
  pointwise [val_main_v68, val_main_v67, val_main_v66, val_main_v65, val_main_v64, val_main_v63, val_main_v62, val_main_v61, val_main_v60, val_main_v59, val_main_v58, val_main_v57, val_main_v56, val_main_v34, val_main_v33, val_main_cst_2, val_main_cst_8, val_main_cst_9, val_main_cst_10]
  simp only [v31_at r, v41_at r, v44_at r, v55_at r, lit_64, lit_two, ← EReal.coe_mul, coe_sum, div_coe _ 64 (by norm_num), ← EReal.coe_add, Fin.sum_univ_one]
  refine congrArg _ ?_
  refine (dnorm_mem (oo X p) (fun k => Y p k * g k) _ _).trans ?_
  exact congrArg (dO X g Y p) (mem_self q)

theorem v70_at (H : Fin 8) (t : Fin 4096) (d : Fin 64) : val_main_v70 (F := Ideal) x0 x1 x2 (ix3 H t d) = (dO X g Y t (mem H d) : EReal) := by
  pointwise [val_main_v70, val_main_v69]
  exact v68_at r _ _

theorem v75_at (H : Fin 8) (t s : Fin 4096) : val_main_v75 (F := Ideal) x0 x1 x2 (ix3 H t s) = (gr (third X 0) (third X 1) (third X 2) (dO X g Y) H t s : EReal) := by
  pointwise [val_main_v75, val_main_v74, val_main_v73, val_main_v27_1, val_main_call5_v0, val_main_call5_cst]
  simp only [v18_at, v26_at r, v70_at r, v8_at r, ← EReal.coe_mul, coe_sum]
  rw [pick, ite_re]
  refine congrArg (fun a : ℝ => (a : EReal)) ?_
  unfold gr att hsum
  simp only [mem_eq]
  split_ifs <;> ring

theorem v78_at (H : Fin 8) (t s : Fin 4096) : val_main_v78 (F := Ideal) x0 x1 x2 (ix3 H t s) = ((∑ u : Fin 4096, if u.val ≤ s.val then gr (third X 0) (third X 1) (third X 2) (dO X g Y) H t u else 0 : ℝ) : EReal) := by
  unfold val_main_v78
  refine (upto_window _ _ (fun i => ?_) _ _ H t s).trans ?_
  · pointwise [val_main_call7_v0, val_main_call7_cst]
  · simp only [v75_at r, ite_re, coe_sum]

theorem v83_at (H : Fin 8) (t s : Fin 4096) : val_main_v83 (F := Ideal) x0 x1 x2 (ix3 H t s) = (dz (third X 0) (third X 1) (third X 2) (dO X g Y) H t s : EReal) := by
  pointwise [val_main_v83, val_main_v82, val_main_v81, val_main_v80, val_main_v79, val_main_v77, val_main_v76, val_main_call6_v1, val_main_call6_v0, val_main_call9_v1, val_main_call9_v0, val_main_v21_1, val_main_call8_v0, val_main_call8_cst]
  simp only [v18_at, v20_1_at r, v24_1_at r, v75_at r, v78_at r, ← EReal.coe_neg, ← EReal.coe_mul, ← EReal.coe_add, before_sub]
  rw [pick, ite_re, ← EReal.coe_neg, ← EReal.coe_mul, ← EReal.coe_neg, ← EReal.coe_neg, ← EReal.coe_add, sg_neg]
  refine congrArg (fun a : ℝ => (a : EReal)) ?_
  unfold dz
  split_ifs with h
  · ring
  · unfold gr att
    rw [if_neg h]
    ring

theorem dk_at (s : Fin 4096) (l : Fin 512) : val_main_v91 (F := Ideal) x0 x1 x2 (ix2 s l) = (dk (third X 0) (third X 1) (third X 2) (dO X g Y) s l : EReal) := by
  pointwise [val_main_v91, val_main_v90, val_main_v86, val_main_v85, val_main_v84, val_main_cst_11]
  simp only [v83_at r, v4_at r, lit_eighthf, ← EReal.coe_mul, coe_sum]
  refine congrArg (fun a : ℝ => (a : EReal)) ?_
  unfold dk
  rw [Finset.sum_mul]
  refine Finset.sum_congr rfl fun t _ => ?_
  refine (congrArg (fun q => dz (third X 0) (third X 1) (third X 2) (dO X g Y) (head l) t s * (1 / 8) * third X 0 t q) (mem_self l)).trans ?_
  ring

theorem dq_at (s : Fin 4096) (l : Fin 512) : val_main_v93 (F := Ideal) x0 x1 x2 (ix2 s l) = (dq (third X 0) (third X 1) (third X 2) (dO X g Y) s l : EReal) := by
  pointwise [val_main_v93, val_main_v92, val_main_v87, val_main_v85, val_main_v84, val_main_cst_11]
  simp only [v83_at r, v6_at r, lit_eighthf, ← EReal.coe_mul, coe_sum]
  refine congrArg (fun a : ℝ => (a : EReal)) ?_
  unfold dq
  rw [Finset.sum_mul]
  refine Finset.sum_congr rfl fun t _ => ?_
  refine (congrArg (fun q => dz (third X 0) (third X 1) (third X 2) (dO X g Y) (head l) s t * (1 / 8) * third X 1 t q) (mem_self l)).trans ?_
  ring

theorem dv_at (s : Fin 4096) (l : Fin 512) : val_main_v89 (F := Ideal) x0 x1 x2 (ix2 s l) = (dv (third X 0) (third X 1) (dO X g Y) s l : EReal) := by
  pointwise [val_main_v89, val_main_v88, val_main_v72, val_main_v71]
  simp only [v70_at r, v27_at r, ← EReal.coe_mul, coe_sum]
  refine congrArg (fun a : ℝ => (a : EReal)) ?_
  unfold dv
  refine Finset.sum_congr rfl fun t _ => ?_
  refine (congrArg (fun q => dO X g Y t q * att (third X 0) (third X 1) (head l) t s) (mem_self l)).trans ?_
  ring

theorem v96_at (s : Fin 4096) (l : Fin 512) : val_main_v96 (F := Ideal) x0 x1 x2 (ix2 s l) = (dq (third X 0) (third X 1) (third X 2) (dO X g Y) s l : EReal) := by
  pointwise [val_main_v96, val_main_v95, val_main_v94]
  exact dq_at r s l

theorem v97_at (s : Fin 4096) (l : Fin 512) : val_main_v97 (F := Ideal) x0 x1 x2 (ix2 s l) = (dk (third X 0) (third X 1) (third X 2) (dO X g Y) s l : EReal) := by
  pointwise [val_main_v97, val_main_v95, val_main_v94]
  exact dk_at r s l

theorem v98_at (s : Fin 4096) (l : Fin 512) : val_main_v98 (F := Ideal) x0 x1 x2 (ix2 s l) = (dv (third X 0) (third X 1) (dO X g Y) s l : EReal) := by
  pointwise [val_main_v98, val_main_v95, val_main_v94]
  rw [dif_neg (by omega), dif_neg (by omega)]
  exact (congrArg (fun q => val_main_v89 (F := Ideal) x0 x1 x2 (ix2 s q)) (Fin.ext (by simp; omega))).trans (dv_at r s l)

theorem gg_ref (a : Fin 8) (l : Fin 512) : val_main_v99 (F := Ideal) x0 x2 (ix2 a l) = ((∑ t : Fin 4096, Y t l * yn (oo X t) l : ℝ) : EReal) := by
  pointwise [val_main_v99, val_main_v52, val_main_v51, val_main_v50, val_main_cst_7]
  simp only [v47_at r, r.h2, ← EReal.coe_mul, coe_sum]
  simp only [mul_comm]

end Cert.Proof.Attn
-- ==== Proof.AttnHost.lean ====
/- What the host hands the attention's backward kernel: the cast rows, the forward's output and the summing matrices. -/
module

public import proofs.«01_k».proof.Proof.AttnPoint
public import proofs.«01_k».proof.Proof.AttnRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Proof.LN (coe_sum)
open Cert.Proof.Attn

namespace Cert.AttnKIdeal.Hand

open Cert.AttnKIdeal Cert.AttnKIdeal.Gen

variable (m : (ℓ : Loc nD τ sig) → Buf (Elt Ideal) ℓ)

theorem V_main_v31 (c : Dev nD) : V m c main_v31 = truncf (F := Ideal) .bf16 (m ((c : Thread nD τ).loc main_arg0)) bitsLt_bf16_f32 := by
  unfold V
  entry_read
  rfl

theorem V_main_v30 (c : Dev nD) : V m c main_v30 = Cert.AttnRIdeal.Read.val_main_v30 (F := Ideal) (m ((c : Thread nD τ).loc main_arg0)) := by
  unfold V
  entry_read
  rfl

/-- The tile's width, as the host's remainder takes it. -/
def wid : IVec S_ 32 := select (cmpi .eq (id (constantI S_ 32 128#32)) (constantI S_ 32 0#32)) (constantI S_ 32 1#32) (id (constantI S_ 32 128#32))
/-- The rows' remainders. -/
def rems : IVec S256x256 32 := Host.remsi (iotaInDim S256x256 32 0) (broadcastInDim S256x256 ![] bcast_S_S256x256 wid)
def rem : IVec S256x256 32 :=
  select (andi (cmpi .ne (cmpi .slt rems (broadcastInDim S256x256 ![] bcast_S_S256x256 (constantI S_ 32 0#32))) (broadcastInDim S256x256 ![] bcast_S_S256x256 (cmpi .slt wid (constantI S_ 32 0#32))))
      (cmpi .ne rems (broadcastInDim S256x256 ![] bcast_S_S256x256 (constantI S_ 32 0#32))))
    (addi rems (broadcastInDim S256x256 ![] bcast_S_S256x256 wid)) rems
/-- The columns from the tile's width on. -/
def upper : IVec S256x256 1 := cmpi .sge (iotaInDim S256x256 32 1) (broadcastInDim S256x256 ![] bcast_S_S256x256 (constantI S_ 32 128#32))

theorem V_main_v39 (c : Dev nD) : V m c main_v39 = uitofp (F := Ideal) .bf16 (ori upper (cmpi .sgt rem (iotaInDim S256x256 32 1))) := (rfl)
theorem V_main_v47 (c : Dev nD) : V m c main_v47 = uitofp (F := Ideal) .bf16 (ori upper (cmpi .sge rem (iotaInDim S256x256 32 1))) := (rfl)

theorem bit_re (b : BitVec 1) : FloatOps.uitofp (F := Ideal) .bf16 b = ((b.toNat : ℝ) : EReal) := rfl

theorem rem_at (j s : Fin 256) : rem (ix2 j s) = BitVec.ofNat 32 (j.val % 128) := by
  pointwise [rem, rems, wid]
  clear s
  revert j
  decide +kernel

theorem upper_at (j s : Fin 256) : upper (ix2 j s) = if 128 ≤ s.val then 1#1 else 0#1 := by
  pointwise [upper]
  revert s
  clear j
  decide +kernel

theorem upper_sum : IsSum 0 (uitofp (F := Ideal) .bf16 (ori upper (cmpi .sgt rem (iotaInDim S256x256 32 1)))) := by
  intro j s
  pointwise []
  rw [rem_at, upper_at]
  have h : IntOp.cmpi .sgt (BitVec.ofNat 32 (j.val % 128)) (BitVec.ofNat 32 s.val) = if s.val < j.val % 128 then 1#1 else 0#1 :=
    slt_small (by omega) (by omega)
  rw [h]
  by_cases h1 : 128 ≤ s.val <;> by_cases h2 : s.val < j.val % 128 <;> simp [h1, h2, IntOp.ori] <;> (refine (bit_re _).trans ?_; simp)

theorem sum0 (c : Dev nD) : IsSum 0 (V m c main_v39) := by
  rw [V_main_v39]
  exact upper_sum

theorem sum1 (c : Dev nD) : IsSum 1 (V m c main_v47) := by
  intro j s
  rw [V_main_v47]
  pointwise []
  rw [rem_at, upper_at]
  have h : IntOp.cmpi .sge (BitVec.ofNat 32 (j.val % 128)) (BitVec.ofNat 32 s.val) = if s.val < j.val % 128 + 1 then 1#1 else 0#1 :=
    (by decide +kernel : ∀ a : Fin 128, ∀ s : Fin 256, IntOp.cmpi .sge (BitVec.ofNat 32 a.val) (BitVec.ofNat 32 s.val) = if s.val < a.val + 1 then 1#1 else 0#1) ⟨j.val % 128, by omega⟩ s
  rw [h]
  by_cases h1 : 128 ≤ s.val <;> by_cases h2 : s.val < j.val % 128 + 1 <;> simp [h1, h2, IntOp.ori] <;> (refine (bit_re _).trans ?_; simp)

end Cert.AttnKIdeal.Hand
-- ==== Proof.AttnIn.lean ====
/- The blocks the attention's backward kernel reads at a point. -/
module

public import proofs.«01_k».proof.Proof.AttnHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Proof.LN (coe_sum)
open Cert.Proof.Attn

namespace Cert.AttnKIdeal.Hand

open Cert.AttnKIdeal Cert.AttnKIdeal.Gen

variable (m : (ℓ : Loc nD τ sig) → Buf (Elt Ideal) ℓ)

/-- The windows' block indices. -/
theorem idx : ∀ t : Fin (cfg0 (F := Ideal)).N, win0_0.index t = ![t.val % 8, t.val / 8] ∧ win0_1.index t = ![0, 4 + t.val / 8] ∧ win0_2.index t = ![0, 8 + t.val / 8]
    ∧ win0_3.index t = ![t.val % 8, t.val / 8] ∧ win0_4.index t = ![t.val % 8, t.val / 8] ∧ win0_5.index t = ![0, t.val / 8] ∧ win0_6.index t = ![0, 0]
    ∧ win0_7.index t = ![0, 0] ∧ win0_8.index t = ![t.val % 8, t.val / 8] ∧ win0_9.index t = ![0, t.val / 8] ∧ win0_10.index t = ![0, t.val / 8]
    ∧ win0_11.index t = ![0, t.val / 8] :=
  (by decide +kernel : ∀ t : Fin grid0.N, _)

theorem lt32 (t : Fin (cfg0 (F := Ideal)).N) : t.val < 32 := by
  have h : (cfg0 (F := Ideal)).N = 32 := N_0
  omega

/-- A point's pair of heads and tile of queries. -/
def pr (t : Fin (cfg0 (F := Ideal)).N) : Fin 4 := ⟨t.val / 8, by have := lt32 t; omega⟩
def ti (t : Fin (cfg0 (F := Ideal)).N) : Fin 8 := ⟨t.val % 8, by omega⟩

theorem coord1 (t : Fin (cfg0 (F := Ideal)).N) : (grid0.coords t 1).val = (ti t).val :=
  (by decide +kernel : ∀ t : Fin grid0.N, (grid0.coords t 1).val = t.val % 8) t

theorem read3 (A : FVec Ideal S4096x512 .f32) (t : Fin (cfg0 (F := Ideal)).N) (p : Fin 512) (l : Fin 128) :
    (((cfg0 (F := Ideal)).win 3).blk t).view.read (Elt Ideal) A (ix2 p l) = A (ix2 (qrow (ti t) p) (col (pr t) l)) := by
  blk_point [idx t]
  all_goals (simp only [qrow, col, ti, pr]; omega)

theorem read6 (A : FVec Ideal S256x256 .bf16) (t : Fin (cfg0 (F := Ideal)).N) (p l : Fin 256) :
    (((cfg0 (F := Ideal)).win 6).blk t).view.read (Elt Ideal) A (ix2 p l) = A (ix2 p l) := by
  blk_point [idx t]

theorem read7 (A : FVec Ideal S256x256 .bf16) (t : Fin (cfg0 (F := Ideal)).N) (p l : Fin 256) :
    (((cfg0 (F := Ideal)).win 7).blk t).view.read (Elt Ideal) A (ix2 p l) = A (ix2 p l) := by
  blk_point [idx t]

variable {X : Fin 4096 → Fin 1536 → ℝ} {g : Fin 512 → ℝ} {Y : Fin 4096 → Fin 512 → ℝ} {c : Dev nD}
  (r : Real3 (m ((c : Thread nD τ).loc main_arg0)) (m ((c : Thread nD τ).loc main_arg1)) (m ((c : Thread nD τ).loc main_arg2)) X g Y)
include r

theorem blk0 (t : Fin (cfg0 (F := Ideal)).N) (p : Fin 512) (l : Fin 128) : iblk m c 0 t (ix2 p l) = (third X 0 (qrow (ti t) p) (col (pr t) l) : EReal) := by
  refine Eq.trans ?_ (r.h0 _ _)
  blk_point [iblk, V_main_v31, idx t]
  all_goals (simp only [qrow, col, ti, pr]; omega)

theorem blk1 (t : Fin (cfg0 (F := Ideal)).N) (p : Fin 4096) (l : Fin 128) : iblk m c 1 t (ix2 p l) = (third X 1 p (col (pr t) l) : EReal) := by
  refine Eq.trans ?_ (r.h0 _ _)
  blk_point [iblk, V_main_v31, idx t]
  all_goals (simp only [qrow, col, ti, pr]; omega)

theorem blk2 (t : Fin (cfg0 (F := Ideal)).N) (p : Fin 4096) (l : Fin 128) : iblk m c 2 t (ix2 p l) = (third X 2 p (col (pr t) l) : EReal) := by
  refine Eq.trans ?_ (r.h0 _ _)
  blk_point [iblk, V_main_v31, idx t]
  show (8 + t.val / 8) * 128 + l.val = 2 * 512 + (128 * (t.val / 8) + l.val)
  omega

theorem blk3 (t : Fin (cfg0 (F := Ideal)).N) (p : Fin 512) (l : Fin 128) : iblk m c 3 t (ix2 p l) = (oo X (qrow (ti t) p) (col (pr t) l) : EReal) := by
  refine (read3 (V m c main_v30) t p l).trans ?_
  rw [V_main_v30]
  exact v30_at r _ _

theorem blk4 (t : Fin (cfg0 (F := Ideal)).N) (p : Fin 512) (l : Fin 128) : iblk m c 4 t (ix2 p l) = (Y (qrow (ti t) p) (col (pr t) l) : EReal) := by
  refine Eq.trans ?_ (r.h2 _ _)
  blk_point [iblk, V_main_arg2, idx t]
  all_goals (simp only [qrow, col, ti, pr]; omega)

theorem blk5 (t : Fin (cfg0 (F := Ideal)).N) (l : Fin 128) : iblk m c 5 t (ix2 0 l) = (g (col (pr t) l) : EReal) := by
  refine Eq.trans ?_ (r.h1 0 _)
  blk_point [iblk, V_main_arg1, idx t]
  all_goals (simp only [col, pr]; omega)

omit r in
theorem blk6 (c : Dev nD) (t : Fin (cfg0 (F := Ideal)).N) : IsSum 0 (iblk m c 6 t) := by
  intro j s
  exact (read6 _ t j s).trans (sum0 m c j s)

omit r in
theorem blk7 (c : Dev nD) (t : Fin (cfg0 (F := Ideal)).N) : IsSum 1 (iblk m c 7 t) := by
  intro j s
  exact (read7 _ t j s).trans (sum1 m c j s)

theorem in_ok (t : Fin (cfg0 (F := Ideal)).N) : InOK (pr t) (third X 0) (third X 1) (third X 2) Y g (ti t) (iblk m c 0 t) (iblk m c 3 t) (iblk m c 4 t) (iblk m c 5 t) :=
  ⟨blk0 m r t, blk3 m r t, blk4 m r t, blk5 m r t⟩

end Cert.AttnKIdeal.Hand
-- ==== Proof.AttnFold.lean ====
/- The attention's backward kernel over its points: what the accumulators hold after each tile of queries. -/
module

public import proofs.«01_k».proof.Proof.AttnIn
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Proof.LN (coe_sum)
open Cert.Proof.Attn
open Cert.PobKIdeal.Hand (yn)

namespace Cert.AttnKIdeal.Hand

open Cert.AttnKIdeal Cert.AttnKIdeal.Gen

variable (m : (ℓ : Loc nD τ sig) → Buf (Elt Ideal) ℓ)

/-- Rows met in 8 tiles of 512: every row once. -/
theorem sum_tiles (f : Fin 4096 → ℝ) : ∑ i : Fin 8, ∑ t : Fin 512, f (qrow i t) = ∑ p, f p := by
  let e : Fin 8 × Fin 512 ≃ Fin 4096 :=
    { toFun := fun a => qrow a.1 a.2
      invFun := fun p => (⟨p.1 / 512, by omega⟩, ⟨p.1 % 512, by omega⟩)
      left_inv := fun a => by
        obtain ⟨i, t⟩ := a
        refine Prod.ext (Fin.ext ?_) (Fin.ext ?_) <;> simp [qrow] <;> omega
      right_inv := fun p => Fin.ext (by simp [qrow]; omega) }
  rw [← Fintype.sum_equiv e (fun a => f (e a)) f fun _ => rfl, Fintype.sum_prod_type]
  rfl

/-- Rows of a tile met in groups of 8: every row once. -/
theorem sum_groups (f : Fin 512 → ℝ) : ∑ a : Fin 8, ∑ b : Fin 64, f ⟨b.val * 8 + a.val, by omega⟩ = ∑ p, f p := by
  let e : Fin 8 × Fin 64 ≃ Fin 512 :=
    { toFun := fun a => ⟨a.2.1 * 8 + a.1.1, by omega⟩
      invFun := fun p => (⟨p.1 % 8, by omega⟩, ⟨p.1 / 8, by omega⟩)
      left_inv := fun a => by
        obtain ⟨i, t⟩ := a
        refine Prod.ext (Fin.ext ?_) (Fin.ext ?_) <;> simp <;> omega
      right_inv := fun p => Fin.ext (by simp; omega) }
  rw [← Fintype.sum_equiv e (fun a => f (e a)) f fun _ => rfl, Fintype.sum_prod_type]
  rfl

/-- The tiles up to one. -/
def upto (f : Fin 8 → ℝ) (i : ℕ) : ℝ := ∑ j : Fin 8, if j.val ≤ i then f j else 0

theorem upto_zero (f : Fin 8 → ℝ) : upto f 0 = f 0 := by
  unfold upto
  rw [Finset.sum_eq_single 0 (fun j _ h => if_neg fun g => h (Fin.ext (by simpa using g))) (fun h => absurd (Finset.mem_univ _) h)]
  simp

theorem upto_step (f : Fin 8 → ℝ) (i : ℕ) (j : Fin 8) (h : j.val = i + 1) : upto f i + f j = upto f j.val := by
  have e : f j = ∑ k : Fin 8, if k = j then f k else 0 := by simp
  unfold upto
  rw [e, ← Finset.sum_add_distrib]
  refine Finset.sum_congr rfl fun k _ => ?_
  have := Fin.ext_iff (a := k) (b := j)
  split_ifs <;> first | omega | simp

theorem upto_all (f : Fin 8 → ℝ) : upto f 7 = ∑ j, f j := Finset.sum_congr rfl fun j _ => if_pos (by omega)

section Parts
variable (X : Fin 4096 → Fin 1536 → ℝ) (g : Fin 512 → ℝ) (Y : Fin 4096 → Fin 512 → ℝ) (r : Fin 4)

/-- A tile's part of the keys' gradients before the scale, of the values' and of the gate's. -/
def partK (s : Fin 4096) (l : Fin 128) (i : Fin 8) : ℝ :=
  ∑ t : Fin 512, dz (third X 0) (third X 1) (third X 2) (dO X g Y) (head (col r l)) (qrow i t) s * third X 0 (qrow i t) (col r l)
def partV (s : Fin 4096) (l : Fin 128) (i : Fin 8) : ℝ :=
  ∑ t : Fin 512, att (third X 0) (third X 1) (head (col r l)) (qrow i t) s * dO X g Y (qrow i t) (col r l)
def partG (a : Fin 8) (l : Fin 128) (i : Fin 8) : ℝ :=
  ∑ b : Fin 64, Y (qrow i ⟨b.val * 8 + a.val, by omega⟩) (col r l) * yn (oo X (qrow i ⟨b.val * 8 + a.val, by omega⟩)) (col r l)

theorem allK (s : Fin 4096) (l : Fin 128) : upto (partK X g Y r s l) 7 * (1 / 8) = dk (third X 0) (third X 1) (third X 2) (dO X g Y) s (col r l) := by
  rw [upto_all]
  unfold dk
  exact congrArg (· * (1 / 8 : ℝ)) (sum_tiles fun t => dz (third X 0) (third X 1) (third X 2) (dO X g Y) (head (col r l)) t s * third X 0 t (col r l))
theorem allV (s : Fin 4096) (l : Fin 128) : upto (partV X g Y r s l) 7 = dv (third X 0) (third X 1) (dO X g Y) s (col r l) := by
  rw [upto_all]
  exact sum_tiles fun t => att (third X 0) (third X 1) (head (col r l)) t s * dO X g Y t (col r l)
theorem allG (l : Fin 128) : ∑ a, upto (partG X Y r a l) 7 = ∑ t : Fin 4096, Y t (col r l) * yn (oo X t) (col r l) := by
  simp only [upto_all]
  rw [Finset.sum_comm, ← sum_tiles]
  exact Finset.sum_congr rfl fun i _ => sum_groups fun t => Y (qrow i t) (col r l) * yn (oo X (qrow i t)) (col r l)
end Parts

variable (m : (ℓ : Loc nD τ sig) → Buf (Elt Ideal) ℓ) {X : Fin 4096 → Fin 1536 → ℝ} {g : Fin 512 → ℝ} {Y : Fin 4096 → Fin 512 → ℝ} {c : Dev nD}
  (r : Real3 (m ((c : Thread nD τ).loc main_arg0)) (m ((c : Thread nD τ).loc main_arg1)) (m ((c : Thread nD τ).loc main_arg2)) X g Y)
include r

/-- The loop's end at a point, from what the accumulators held. -/
abbrev FinAt (m : (ℓ : Loc nD τ sig) → Buf (Elt Ideal) ℓ) (c : Dev nD) (t : Fin (cfg0 (F := Ideal)).N) (d e : Vec Ideal S4096x128 .f32) : LoopSt Ideal :=
  FIN c (grid0.coords t) (memsAt (F := Ideal) t) (blksAt m c t) d e

section Point
variable (t : Fin (cfg0 (F := Ideal)).N) {d e : Vec Ideal S4096x128 .f32} {d0 e0 : Fin 4096 → Fin 128 → ℝ}
  (hd : ∀ s l, d (ix2 s l) = (d0 s l : EReal)) (he : ∀ s l, e (ix2 s l) = (e0 s l : EReal))
include hd he
set_option maxHeartbeats 2000000 in
theorem pt_d (s : Fin 4096) (l : Fin 128) : (FinAt m c t d e).d (ix2 s l) = ((d0 s l + partK X g Y (pr t) s l (ti t) : ℝ) : EReal) :=
  fin_d (in_ok m r t) (blk6 m c t) (blk7 m c t) c (coord1 t) _ (blk1 m r t) (blk2 m r t) hd he s l
set_option maxHeartbeats 2000000 in
theorem pt_e (s : Fin 4096) (l : Fin 128) : (FinAt m c t d e).e (ix2 s l) = ((e0 s l + partV X g Y (pr t) s l (ti t) : ℝ) : EReal) :=
  fin_e (in_ok m r t) (blk6 m c t) (blk7 m c t) c (coord1 t) _ (blk1 m r t) (blk2 m r t) hd he s l
set_option maxHeartbeats 2000000 in
theorem pt_dq (p : Fin 512) (l : Fin 128) : dqOf (FinAt m c t d e) (ix2 p l) = (dq (third X 0) (third X 1) (third X 2) (dO X g Y) (qrow (ti t) p) (col (pr t) l) : EReal) :=
  fin_dq (in_ok m r t) (blk6 m c t) (blk7 m c t) c (coord1 t) _ (blk1 m r t) (blk2 m r t) hd he p l
end Point

theorem pt_g (t : Fin (cfg0 (F := Ideal)).N) (a : Fin 8) (l : Fin 128) : k0_pay14 (k0_pay13 (iblk m c 3 t)) (iblk m c 4 t) (ix2 a l) = (partG X Y (pr t) a l (ti t) : EReal) :=
  gg_at (in_ok m r t) a l

/-- What a point leaves: its queries' gradients, and the tiles' parts up to its own. -/
structure Acc (X : Fin 4096 → Fin 1536 → ℝ) (g : Fin 512 → ℝ) (Y : Fin 4096 → Fin 512 → ℝ) (t : Fin (cfg0 (F := Ideal)).N) (o : Outs Ideal) : Prop where
  q : ∀ p l, o.o10 (ix2 p l) = (dq (third X 0) (third X 1) (third X 2) (dO X g Y) (qrow (ti t) p) (col (pr t) l) : EReal)
  d : ∀ s l, o.o14 (ix2 s l) = (upto (partK X g Y (pr t) s l) (ti t).val : EReal)
  e : ∀ s l, o.o15 (ix2 s l) = (upto (partV X g Y (pr t) s l) (ti t).val : EReal)
  a : ∀ b l, o.o13 (ix2 b l) = (upto (partG X Y (pr t) b l) (ti t).val : EReal)

omit r in
theorem z9 (s : Fin 4096) (l : Fin 128) : (k0_pay9 : FVec Ideal S4096x128 .f32) (ix2 s l) = ((0 : ℝ) : EReal) := Cert.PobKIdeal.Hand.lit_zero
omit r in
theorem z10 (s : Fin 4096) (l : Fin 128) : (k0_pay10 : FVec Ideal S4096x128 .f32) (ix2 s l) = ((0 : ℝ) : EReal) := Cert.PobKIdeal.Hand.lit_zero

section Runs
variable (t : Fin (cfg0 (F := Ideal)).N)
omit r in
theorem outsA_o10 (h0 : t.val % 8 = 0) : (outsA m c t h0).o10 = dqOf (FinAt m c t (k0_pay9 (F := Ideal)) (k0_pay10 (F := Ideal))) :=
  bodyA_o10 c _ _ (blksAt m c t) ((hc1_iff (F := Ideal) t).mpr h0) ((hc2_iff (F := Ideal) t).mpr h0) (fun h => (hc3_iff (F := Ideal) t).mp h h0) (fun h => by have := (hc4_iff (F := Ideal) t).mp h; omega) (fun h => by have := (hc5_iff (F := Ideal) t).mp h; omega)
omit r in
theorem outsA_o14 (h0 : t.val % 8 = 0) : (outsA m c t h0).o14 = (FinAt m c t (k0_pay9 (F := Ideal)) (k0_pay10 (F := Ideal))).d :=
  bodyA_o14 c _ _ (blksAt m c t) ((hc1_iff (F := Ideal) t).mpr h0) ((hc2_iff (F := Ideal) t).mpr h0) (fun h => (hc3_iff (F := Ideal) t).mp h h0) (fun h => by have := (hc4_iff (F := Ideal) t).mp h; omega) (fun h => by have := (hc5_iff (F := Ideal) t).mp h; omega)
omit r in
theorem outsA_o15 (h0 : t.val % 8 = 0) : (outsA m c t h0).o15 = (FinAt m c t (k0_pay9 (F := Ideal)) (k0_pay10 (F := Ideal))).e :=
  bodyA_o15 c _ _ (blksAt m c t) ((hc1_iff (F := Ideal) t).mpr h0) ((hc2_iff (F := Ideal) t).mpr h0) (fun h => (hc3_iff (F := Ideal) t).mp h h0) (fun h => by have := (hc4_iff (F := Ideal) t).mp h; omega) (fun h => by have := (hc5_iff (F := Ideal) t).mp h; omega)
omit r in
theorem outsA_o13 (h0 : t.val % 8 = 0) : (outsA m c t h0).o13 = k0_pay14 (k0_pay13 (iblk m c 3 t)) (iblk m c 4 t) :=
  bodyA_o13 c _ _ (blksAt m c t) ((hc1_iff (F := Ideal) t).mpr h0) ((hc2_iff (F := Ideal) t).mpr h0) (fun h => (hc3_iff (F := Ideal) t).mp h h0) (fun h => by have := (hc4_iff (F := Ideal) t).mp h; omega) (fun h => by have := (hc5_iff (F := Ideal) t).mp h; omega)
omit r in
theorem outsB_o10 (h0 : ¬ t.val % 8 = 0) (h7 : ¬ t.val % 8 = 7) (o : Outs Ideal) : (outsB m c t h0 h7 o).o10 = dqOf (FinAt m c t o.o14 o.o15) :=
  bodyB_o10 c _ _ (blksAt m c t) o.o13 o.o14 o.o15 (fun h => h0 ((hc1_iff (F := Ideal) t).mp h)) (fun h => h0 ((hc2_iff (F := Ideal) t).mp h)) ((hc3_iff (F := Ideal) t).mpr h0) (fun h => h7 ((hc4_iff (F := Ideal) t).mp h)) (fun h => h7 ((hc5_iff (F := Ideal) t).mp h))
omit r in
theorem outsB_o14 (h0 : ¬ t.val % 8 = 0) (h7 : ¬ t.val % 8 = 7) (o : Outs Ideal) : (outsB m c t h0 h7 o).o14 = (FinAt m c t o.o14 o.o15).d :=
  bodyB_o14 c _ _ (blksAt m c t) o.o13 o.o14 o.o15 (fun h => h0 ((hc1_iff (F := Ideal) t).mp h)) (fun h => h0 ((hc2_iff (F := Ideal) t).mp h)) ((hc3_iff (F := Ideal) t).mpr h0) (fun h => h7 ((hc4_iff (F := Ideal) t).mp h)) (fun h => h7 ((hc5_iff (F := Ideal) t).mp h))
omit r in
theorem outsB_o15 (h0 : ¬ t.val % 8 = 0) (h7 : ¬ t.val % 8 = 7) (o : Outs Ideal) : (outsB m c t h0 h7 o).o15 = (FinAt m c t o.o14 o.o15).e :=
  bodyB_o15 c _ _ (blksAt m c t) o.o13 o.o14 o.o15 (fun h => h0 ((hc1_iff (F := Ideal) t).mp h)) (fun h => h0 ((hc2_iff (F := Ideal) t).mp h)) ((hc3_iff (F := Ideal) t).mpr h0) (fun h => h7 ((hc4_iff (F := Ideal) t).mp h)) (fun h => h7 ((hc5_iff (F := Ideal) t).mp h))
omit r in
theorem outsB_o13 (h0 : ¬ t.val % 8 = 0) (h7 : ¬ t.val % 8 = 7) (o : Outs Ideal) : (outsB m c t h0 h7 o).o13 = k0_pay15 (k0_pay13 (iblk m c 3 t)) (iblk m c 4 t) o.o13 :=
  bodyB_o13 c _ _ (blksAt m c t) o.o13 o.o14 o.o15 (fun h => h0 ((hc1_iff (F := Ideal) t).mp h)) (fun h => h0 ((hc2_iff (F := Ideal) t).mp h)) ((hc3_iff (F := Ideal) t).mpr h0) (fun h => h7 ((hc4_iff (F := Ideal) t).mp h)) (fun h => h7 ((hc5_iff (F := Ideal) t).mp h))
omit r in
theorem outsC_o10 (h7 : t.val % 8 = 7) (o : Outs Ideal) : (outsC m c t h7 o).o10 = dqOf (FinAt m c t o.o14 o.o15) :=
  bodyC_o10 c _ _ (blksAt m c t) o.o13 o.o14 o.o15 (fun h => by have := (hc1_iff (F := Ideal) t).mp h; omega) (fun h => by have := (hc2_iff (F := Ideal) t).mp h; omega) ((hc3_iff (F := Ideal) t).mpr (by omega)) ((hc4_iff (F := Ideal) t).mpr h7) ((hc5_iff (F := Ideal) t).mpr h7)
omit r in
theorem outsC_o11 (h7 : t.val % 8 = 7) (o : Outs Ideal) : (outsC m c t h7 o).o11 = k0_pay2 (FinAt m c t o.o14 o.o15).d :=
  bodyC_o11 c _ _ (blksAt m c t) o.o13 o.o14 o.o15 (fun h => by have := (hc1_iff (F := Ideal) t).mp h; omega) (fun h => by have := (hc2_iff (F := Ideal) t).mp h; omega) ((hc3_iff (F := Ideal) t).mpr (by omega)) ((hc4_iff (F := Ideal) t).mpr h7) ((hc5_iff (F := Ideal) t).mpr h7)
omit r in
theorem outsC_o12 (h7 : t.val % 8 = 7) (o : Outs Ideal) : (outsC m c t h7 o).o12 = k0_pay3 (FinAt m c t o.o14 o.o15).e :=
  bodyC_o12 c _ _ (blksAt m c t) o.o13 o.o14 o.o15 (fun h => by have := (hc1_iff (F := Ideal) t).mp h; omega) (fun h => by have := (hc2_iff (F := Ideal) t).mp h; omega) ((hc3_iff (F := Ideal) t).mpr (by omega)) ((hc4_iff (F := Ideal) t).mpr h7) ((hc5_iff (F := Ideal) t).mpr h7)
omit r in
theorem outsC_o13 (h7 : t.val % 8 = 7) (o : Outs Ideal) : (outsC m c t h7 o).o13 = k0_pay16 (k0_pay15 (k0_pay13 (iblk m c 3 t)) (iblk m c 4 t) o.o13) :=
  bodyC_o13 c _ _ (blksAt m c t) o.o13 o.o14 o.o15 (fun h => by have := (hc1_iff (F := Ideal) t).mp h; omega) (fun h => by have := (hc2_iff (F := Ideal) t).mp h; omega) ((hc3_iff (F := Ideal) t).mpr (by omega)) ((hc4_iff (F := Ideal) t).mpr h7) ((hc5_iff (F := Ideal) t).mpr h7)
end Runs

theorem acc_first (t : Fin (cfg0 (F := Ideal)).N) (h0 : t.val % 8 = 0) : Acc X g Y t (outsA m c t h0) := by
  have h : ti t = 0 := Fin.ext h0
  have u : ∀ f : Fin 8 → ℝ, (((0 : ℝ) + f (ti t) : ℝ) : EReal) = (upto f (ti t).val : EReal) := fun f => by
    rw [h, zero_add]
    exact congrArg _ (upto_zero f).symm
  refine ⟨fun p l => ?_, fun s l => ?_, fun s l => ?_, fun b l => ?_⟩
  · refine (congrFun (outsA_o10 m t h0) _).trans ?_
    exact pt_dq m r t z9 z10 p l
  · refine (congrFun (outsA_o14 m t h0) _).trans ?_
    exact (pt_d m r t z9 z10 s l).trans (u _)
  · refine (congrFun (outsA_o15 m t h0) _).trans ?_
    exact (pt_e m r t z9 z10 s l).trans (u _)
  · refine (congrFun (outsA_o13 m t h0) _).trans ?_
    refine (pt_g m r t b l).trans ?_
    rw [← u, zero_add]

/-- The point before, in the same pair of heads. -/
theorem before_pt {t t' : Fin (cfg0 (F := Ideal)).N} (h0 : ¬ t.val % 8 = 0) (h : t'.val = t.val - 1) : pr t' = pr t ∧ (ti t).val = (ti t').val + 1 := by
  refine ⟨Fin.ext ?_, ?_⟩
  · show t'.val / 8 = t.val / 8
    omega
  · show t.val % 8 = t'.val % 8 + 1
    omega

theorem acc_next (t t' : Fin (cfg0 (F := Ideal)).N) (h0 : ¬ t.val % 8 = 0) (h7 : ¬ t.val % 8 = 7) (h : t'.val = t.val - 1) {o : Outs Ideal} (a : Acc X g Y t' o) :
    Acc X g Y t (outsB m c t h0 h7 o) := by
  obtain ⟨hp, hi⟩ := before_pt m r h0 h
  obtain ⟨q, hd, he, ha⟩ := a
  rw [hp] at hd he ha
  have u : ∀ f : Fin 8 → ℝ, ((upto f (ti t').val + f (ti t) : ℝ) : EReal) = (upto f (ti t).val : EReal) := fun f => congrArg _ (upto_step f _ _ hi)
  refine ⟨fun p l => ?_, fun s l => ?_, fun s l => ?_, fun b l => ?_⟩
  · refine (congrFun (outsB_o10 m t h0 h7 o) _).trans ?_
    exact pt_dq m r t hd he p l
  · refine (congrFun (outsB_o14 m t h0 h7 o) _).trans ?_
    exact (pt_d m r t hd he s l).trans (u _)
  · refine (congrFun (outsB_o15 m t h0 h7 o) _).trans ?_
    exact (pt_e m r t hd he s l).trans (u _)
  · refine (congrFun (outsB_o13 m t h0 h7 o) _).trans ?_
    exact (gg_add (pt_g m r t) ha b l).trans (u _)

theorem acc_at : ∀ (n : ℕ) (hn : n < (cfg0 (F := Ideal)).N), ¬ n % 8 = 7 → Acc X g Y ⟨n, hn⟩ (outsAt m c n hn)
  | 0, hn, _ => by
    rw [outsAt_A m c ⟨0, hn⟩ rfl]
    exact acc_first m r ⟨0, hn⟩ rfl
  | n + 1, hn, h7 => by
    by_cases h0 : (n + 1) % 8 = 0
    · rw [outsAt_A m c ⟨n + 1, hn⟩ h0]
      exact acc_first m r ⟨n + 1, hn⟩ h0
    · rw [outsAt_B m c ⟨n + 1, hn⟩ h0 h7]
      exact acc_next m r ⟨n + 1, hn⟩ ⟨n, Nat.lt_of_succ_lt hn⟩ h0 h7 rfl (acc_at n _ (by omega))

/-- What a pair's last point leaves: the results. -/
structure Res (X : Fin 4096 → Fin 1536 → ℝ) (g : Fin 512 → ℝ) (Y : Fin 4096 → Fin 512 → ℝ) (t : Fin (cfg0 (F := Ideal)).N) (o : Outs Ideal) : Prop where
  q : ∀ p l, o.o10 (ix2 p l) = (dq (third X 0) (third X 1) (third X 2) (dO X g Y) (qrow (ti t) p) (col (pr t) l) : EReal)
  k : ∀ s l, o.o11 (ix2 s l) = (dk (third X 0) (third X 1) (third X 2) (dO X g Y) s (col (pr t) l) : EReal)
  v : ∀ s l, o.o12 (ix2 s l) = (dv (third X 0) (third X 1) (dO X g Y) s (col (pr t) l) : EReal)
  a : ∀ b l, o.o13 (ix2 b l) = ((∑ t' : Fin 4096, Y t' (col (pr t) l) * yn (oo X t') (col (pr t) l) : ℝ) : EReal)

omit r in
theorem pay2_at (x : FVec Ideal S4096x128 .f32) (s : Fin 4096) (l : Fin 128) : (k0_pay2 (F := Ideal) x (ix2 s l) : EReal) = (x (ix2 s l) : EReal) * ((1 / 8 : ℝ) : EReal) := by
  have l8 : Ideal.ofBits .f32 0x3E000000#32 = ((1 / 8 : ℝ) : EReal) := lit_eighthf
  pointwise [k0_pay2]
  rw [l8]
omit r in
theorem pay3_at (x : FVec Ideal S4096x128 .f32) (s : Fin 4096) (l : Fin 128) : (k0_pay3 (F := Ideal) x (ix2 s l) : EReal) = (x (ix2 s l) : EReal) := by
  pointwise [k0_pay3]

theorem res_at (t : Fin (cfg0 (F := Ideal)).N) (h7 : t.val % 8 = 7) : Res X g Y t (outsAt m c t.val t.isLt) := by
  have h0 : ¬ t.val % 8 = 0 := by omega
  rw [outsAt_C m c t h7]
  obtain ⟨hp, hi⟩ := before_pt m r (t' := ⟨t.val - 1, Nat.lt_of_le_of_lt (Nat.sub_le _ _) t.isLt⟩) h0 rfl
  obtain ⟨q, hd, he, ha⟩ := acc_at m r (t.val - 1) (Nat.lt_of_le_of_lt (Nat.sub_le _ _) t.isLt) (by omega)
  rw [hp] at hd he ha
  have i7 : (ti t).val = 7 := h7
  have u : ∀ f : Fin 8 → ℝ, upto f (ti ⟨t.val - 1, Nat.lt_of_le_of_lt (Nat.sub_le _ _) t.isLt⟩).val + f (ti t) = upto f 7 := fun f => (upto_step f _ _ hi).trans (by rw [i7])
  refine ⟨fun p l => ?_, fun s l => ?_, fun s l => ?_, fun b l => ?_⟩
  · refine (congrFun (outsC_o10 m t h7 (prevAt m c t)) _).trans ?_
    exact pt_dq m r t hd he p l
  · refine (congrFun (outsC_o11 m t h7 (prevAt m c t)) _).trans ?_
    rw [pay2_at, pt_d m r t hd he s l, u, ← EReal.coe_mul, allK]
  · refine (congrFun (outsC_o12 m t h7 (prevAt m c t)) _).trans ?_
    rw [pay3_at, pt_e m r t hd he s l, u, allV]
  · refine (congrFun (outsC_o13 m t h7 (prevAt m c t)) _).trans ?_
    refine (gg_sum (gg_add (pt_g m r t) ha) b l).trans ?_
    simp only [u]
    rw [allG]

/-- A point's queries' gradients. -/
theorem dq_pt (t : Fin (cfg0 (F := Ideal)).N) (p : Fin 512) (l : Fin 128) : (outsAt m c t.val t.isLt).o10 (ix2 p l) = (dq (third X 0) (third X 1) (third X 2) (dO X g Y) (qrow (ti t) p) (col (pr t) l) : EReal) := by
  by_cases h7 : t.val % 8 = 7
  · exact (res_at m r t h7).q p l
  · exact (acc_at m r t.val t.isLt h7).q p l

end Cert.AttnKIdeal.Hand
-- ==== Proof.AttnValue.lean ====
/- The attention's backward call: what the kernel leaves is the reference's results, of finite arguments. -/
module

public import proofs.«01_k».proof.Defs
public import proofs.«01_k».proof.Proof.Gen.Pre_attn_finite
public import proofs.«01_k».proof.Proof.AttnFold
public import proofs.«01_k».proof.Proof.AttnClaims
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Proof.LN (real_of_pre)
open Cert.Proof.Attn

namespace Cert.AttnKIdeal.Hand

open Cert.AttnKIdeal Cert.AttnKIdeal.Gen

/-- Where a point's blocks of the results lie. -/
theorem row_at8 (t : Fin (cfg0 (F := Ideal)).N) (y : S512x128.Idx) : (((cfg0 (F := Ideal)).win 8).blk t).view.emb y = ix2 (qrow (ti t) (y 0)) (col (pr t) (y 1)) := by
  blk_ext [idx t] <;> simp only [qrow, col, ti, pr] <;> omega
theorem row_at9 (t : Fin (cfg0 (F := Ideal)).N) (y : S4096x128.Idx) : (((cfg0 (F := Ideal)).win 9).blk t).view.emb y = ix2 (y 0) (col (pr t) (y 1)) := by
  blk_ext [idx t] <;> simp only [col, pr] <;> omega
theorem row_at10 (t : Fin (cfg0 (F := Ideal)).N) (y : S4096x128.Idx) : (((cfg0 (F := Ideal)).win 10).blk t).view.emb y = ix2 (y 0) (col (pr t) (y 1)) := by
  blk_ext [idx t] <;> simp only [col, pr] <;> omega
theorem row_at11 (t : Fin (cfg0 (F := Ideal)).N) (y : S8x128.Idx) : (((cfg0 (F := Ideal)).win 11).blk t).view.emb y = ix2 (y 0) (col (pr t) (y 1)) := by
  blk_ext [idx t] <;> simp only [col, pr] <;> omega

variable (m : (ℓ : Loc nD τ sig) → Buf (Elt Ideal) ℓ) {X : Fin 4096 → Fin 1536 → ℝ} {g : Fin 512 → ℝ} {Y : Fin 4096 → Fin 512 → ℝ} {c : Dev nD}
  (r : Real3 (m ((c : Thread nD τ).loc main_arg0)) (m ((c : Thread nD τ).loc main_arg1)) (m ((c : Thread nD τ).loc main_arg2)) X g Y)
include r

/-- The kernel's results are the reference's. -/
theorem final8 : (dats m 0 c).arrAt 8 (cfgs (F := Ideal) 0).N
    = Cert.AttnRIdeal.Read.val_main_v96 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8, row_at8, eq_ix2 y]
  exact (dq_pt m r t _ _).trans (v96_at r _ _).symm

theorem final9 : (dats m 0 c).arrAt 9 (cfgs (F := Ideal) 0).N
    = Cert.AttnRIdeal.Read.val_main_v97 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9, row_at9, eq_ix2 y]
  exact ((res_at m r t ((flush0_9 t).mp hf)).k _ _).trans (v97_at r _ _).symm

theorem final10 : (dats m 0 c).arrAt 10 (cfgs (F := Ideal) 0).N
    = Cert.AttnRIdeal.Read.val_main_v98 (F := Ideal) (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10, row_at10, eq_ix2 y]
  exact ((res_at m r t ((flush0_10 t).mp hf)).v _ _).trans (v98_at r _ _).symm

theorem final11 : (dats m 0 c).arrAt 11 (cfgs (F := Ideal) 0).N
    = Cert.AttnRIdeal.Read.val_main_v99 (F := Ideal) (m ((c : Thread nD τ).loc main_arg0)) (m ((c : Thread nD τ).loc main_arg2)) := by
  refine (dats m 0 c).arrAt_eq_of_covers 11 _ (by decide +kernel) fun t hf y => ?_
  blk_simp
  rw [after0_11, row_at11, eq_ix2 y]
  exact ((res_at m r t ((flush0_11 t).mp hf)).a _ _).trans (gg_ref r _ _).symm

end Cert.AttnKIdeal.Hand

namespace Cert.Proof.Attn

/-- The precondition gives the real numbers the three arguments hold. -/
theorem reals {m : (ℓ : Loc Cert.AttnKIdeal.nD Cert.AttnKIdeal.τ Cert.AttnKIdeal.sig) → Buf (Elt Ideal) ℓ}
    (h : Cert.Pre_AttnKIdeal_attn_finite m) (c : Dev Cert.AttnKIdeal.nD) : ∃ X g Y, Real3
      (m ((c : Thread Cert.AttnKIdeal.nD Cert.AttnKIdeal.τ).loc Cert.AttnKIdeal.main_arg0)) (m ((c : Thread Cert.AttnKIdeal.nD Cert.AttnKIdeal.τ).loc Cert.AttnKIdeal.main_arg1))
      (m ((c : Thread Cert.AttnKIdeal.nD Cert.AttnKIdeal.τ).loc Cert.AttnKIdeal.main_arg2)) X g Y := by
  obtain ⟨h0, h1, h2⟩ := h c
  exact ⟨_, fun k => _, _, fun t k => real_of_pre h0 (fun _ => rfl) _, fun u q => by rw [Subsingleton.elim u 0]; exact real_of_pre h1 (fun _ => rfl) _,
    fun t q => real_of_pre h2 (fun _ => rfl) _⟩

theorem frame_ideal_pre : Cert.quiescent_AttnKIdeal_pre_attn_finite := fun m ρ _ => frame_ideal m ρ trivial
theorem frame_ref_pre : Cert.quiescent_AttnRIdeal_pre_attn_finite := fun m ρ _ => frame_ref m ρ trivial

set_option maxHeartbeats 2000000 in
theorem algebraic : Cert.algebraic_AttnKIdeal_AttnRIdeal_pre_attn_finite := by
  pair_intro
  · run_from Cert.AttnKIdeal.Hand.run_main m g
    exact Cert.AttnKIdeal.Hand.V_main_arg0 m _
  · refine θ_run_mono (Cert.AttnRIdeal.Value.run m' g') fun s hs c => ?_
    obtain ⟨X, γ, Y, r⟩ := reals hpre c
    obtain ⟨e0, e1, e2⟩ := hagree c
    change StableHlo.launchContents m' c (Proc.tc.devRef Cert.AttnRIdeal.main_arg0) = _ at e0
    change StableHlo.launchContents m' c (Proc.tc.devRef Cert.AttnRIdeal.main_arg1) = _ at e1
    change StableHlo.launchContents m' c (Proc.tc.devRef Cert.AttnRIdeal.main_arg2) = _ at e2
    obtain ⟨a8, a9, a10, a11, a⟩ := hs c
    refine ⟨a8.trans ?_, a9.trans ?_, a10.trans ?_, a11.trans ?_, a⟩
    · exact (Cert.AttnRIdeal.Read.val_main_v96_eq _).trans (.trans (by rw [e0, e1, e2]) (Cert.AttnKIdeal.Hand.final8 m r).symm)
    · exact (Cert.AttnRIdeal.Read.val_main_v97_eq _).trans (.trans (by rw [e0, e1, e2]) (Cert.AttnKIdeal.Hand.final9 m r).symm)
    · exact (Cert.AttnRIdeal.Read.val_main_v98_eq _).trans (.trans (by rw [e0, e1, e2]) (Cert.AttnKIdeal.Hand.final10 m r).symm)
    · exact (Cert.AttnRIdeal.Read.val_main_v99_eq _).trans (.trans (by rw [e0, e2]) (Cert.AttnKIdeal.Hand.final11 m r).symm)

end Cert.Proof.Attn
-- ==== Proof.DhidValue.lean ====
/- The squared-ReLU gradient fused with the product by the transposed down weights: the array the kernel leaves is the
   reference's term. -/
module

public import proofs.«01_k».proof.Defs
public import proofs.«01_k».proof.Proof.Gen.DhidK.Frame
public import proofs.«01_k».proof.Proof.Gen.DhidKIdeal.Frame
public import proofs.«01_k».proof.Proof.Gen.DhidRIdeal.Read
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DhidKIdeal.Hand

open Cert.DhidKIdeal Cert.DhidKIdeal.Gen

variable (m : (ℓ : Loc nD τ sig) → Buf (Elt Ideal) ℓ)

/-- The reference's result over the three arguments. -/
abbrev REF (U : FVec Ideal S4096x4096 .f32) (W C : FVec Ideal S4096x1024 .f32) : FVec Ideal S4096x4096 .bf16 :=
  Cert.DhidRIdeal.Read.val_main_v12 (F := Ideal) U W C

/-- The square root of the squared rectifier is the rectifier, and where it vanishes the reference selects zero. -/
theorem relu_sq (s two u : EReal) :
    s * (two * Ideal.sqrt (max u 0 * max u 0)) = if 0 < u then s * (two * max u 0) else 0 := by
  have h : ∀ r : EReal, 0 ≤ r → Ideal.sqrt (r * r) = r := by
    intro r hr
    induction r using EReal.rec with
    | bot => simp at hr
    | top => simp
    | coe r =>
      have hr' : 0 ≤ r := by exact_mod_cast hr
      rw [← EReal.coe_mul, Ideal.sqrt_coe, if_neg (not_lt.mpr (mul_nonneg hr' hr')), Real.sqrt_mul_self hr']
  rw [h _ (le_max_right _ _)]
  split
  · rfl
  · rename_i hu
    rw [max_eq_right (not_lt.mp hu), mul_zero, mul_zero]

/-- The reference at an index. -/
theorem ref_at (U : FVec Ideal S4096x4096 .f32) (W C : FVec Ideal S4096x1024 .f32) (i : S4096x4096.Idx) :
    REF U W C i = (∑ k : Fin 1024, C (ix2 (i 0) k) * W (ix2 (i 1) k))
      * (Ideal.ofBits .f32 0x40000000#32 * Ideal.sqrt (max (U i) 0 * max (U i) 0)) := by
  rw [relu_sq]
  pointwise [REF, Cert.DhidRIdeal.Read.val_main_v12, Cert.DhidRIdeal.Read.val_main_v11, Cert.DhidRIdeal.Read.val_main_v10,
    Cert.DhidRIdeal.Read.val_main_v9, Cert.DhidRIdeal.Read.val_main_v8, Cert.DhidRIdeal.Read.val_main_v6,
    Cert.DhidRIdeal.Read.val_main_v5, Cert.DhidRIdeal.Read.val_main_v3, Cert.DhidRIdeal.Read.val_main_v2,
    Cert.DhidRIdeal.Read.val_main_v1, Cert.DhidRIdeal.Read.val_main_v0, Cert.DhidRIdeal.Read.val_main_cst,
    Cert.DhidRIdeal.Read.val_main_cst_1, Cert.DhidRIdeal.Read.val_main_cst_2, Cert.DhidRIdeal.Read.val_main_call0_v0,
    Cert.DhidRIdeal.Read.val_main_call0_cst]

/-- The saved activation the kernel is handed, as the host forms it: the squared rectifier of the up projection. -/
def SQ (U : FVec Ideal S4096x4096 .f32) : FVec Ideal S4096x4096 .bf16 :=
  truncf .bf16 (mulf (maximumf U (broadcastInDim S4096x4096 ![] bcast_S_S4096x4096 (constant S_ .f32 0x00000000#32)))
    (maximumf U (broadcastInDim S4096x4096 ![] bcast_S_S4096x4096 (constant S_ .f32 0x00000000#32)))) bitsLt_bf16_f32

theorem SQ_at (U : FVec Ideal S4096x4096 .f32) (i : S4096x4096.Idx) : SQ U i = max (U i) 0 * max (U i) 0 := by
  pointwise [SQ]

theorem V_main_v2 (c : Dev nD) : V m c main_v2 = SQ (m ((c : Thread nD τ).loc main_arg0)) := by
  unfold V SQ
  simp only [hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  try rfl

/-- The windows' block indices. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- What a grid point leaves in its block is the reference read at the block's place. -/
theorem point (c : Dev nD) (t : Fin cfg0.N) (y) :
    out0_3 (iblk m c 0 t) (iblk m c 1 t) (iblk m c 2 t) y
      = REF (m ((c : Thread nD τ).loc main_arg0)) (m ((c : Thread nD τ).loc main_arg1)) (m ((c : Thread nD τ).loc main_arg2))
          (((cfg0.win 3).blk t).view.emb y) := by
  unfold out0_3
  canon_tiles x h
  all_goals rw [ref_at]
  all_goals pointwise [k0_pay1, k0_pay2]
  all_goals blk_point [iblk, idx t]
  all_goals
    rw [V_main_v2, SQ_at]
    blk_point [idx t]

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.DhidKIdeal.Hand

namespace Cert.Proof.Dhid

theorem frame : Cert.quiescent_DhidK := fun m ρ _ => Cert.DhidK.Gen.frame m ρ
theorem frame_ideal : Cert.quiescent_DhidKIdeal := fun m ρ _ => Cert.DhidKIdeal.Gen.frame m ρ
theorem frame_ref : Cert.quiescent_DhidRIdeal := fun m ρ _ =>
  (θ_run Cert.DhidRIdeal.defs _ _).mono (fun r h => ⟨fun c => (h c).2,
      Idealize.ShloMosaic.sem_eq_zero_of_no_sems (by decide) r.2⟩)
    (Cert.DhidRIdeal.Value.run (F := Ideal) m ρ)
theorem preserves : Cert.preserves_DhidK_DhidKIdeal := trivial

theorem algebraic : Cert.algebraic_DhidKIdeal_DhidRIdeal := by
  pair_intro
  · run_from Cert.DhidKIdeal.Gen.run_main m g
    exacts [Cert.DhidKIdeal.Gen.V_main_arg0 m c, Cert.DhidKIdeal.Gen.V_main_arg1 m c, Cert.DhidKIdeal.Gen.V_main_arg2 m c]
  · run_from Cert.DhidRIdeal.Value.run m' g'
    exact (Cert.DhidKIdeal.Hand.final m c).symm

end Cert.Proof.Dhid

end
-- ==== Proof.Frames.lean ====
module

public import proofs.«01_k».proof.Defs
public import proofs.«01_k».proof.Proof.Gen.Ln2K
public import proofs.«01_k».proof.Proof.Gen.Ln2KIdeal.Value
public import proofs.«01_k».proof.Proof.Gen.Ln2RIdeal.Run
public import proofs.«01_k».proof.Proof.Gen.Dx1K
public import proofs.«01_k».proof.Proof.Gen.Dx1KIdeal.Value
public import proofs.«01_k».proof.Proof.Gen.Dx1RIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Ln2

/-- The two kernels have one text, so the machine's run is the idealized one at the machine's values. -/
theorem frame : Cert.quiescent_Ln2K := by
  intro m ρ _
  refine cast (?_ : _ = _) (Cert.Ln2KIdeal.Gen.frame (F := Bits) m ρ)
  sl_kernel_rfl

theorem frame_ideal : Cert.quiescent_Ln2KIdeal := fun m ρ _ => Cert.Ln2KIdeal.Gen.frame m ρ

theorem frame_ref : Cert.quiescent_Ln2RIdeal := fun m ρ _ =>
  (θ_run Cert.Ln2RIdeal.defs _ _).mono (fun r h => ⟨fun c => (h c).2.2.2.2.2, sem_eq_zero_of_no_sems (by decide) r.2⟩)
    (Cert.Ln2RIdeal.Value.run (F := Ideal) m ρ)

theorem preserves : Cert.preserves_Ln2K_Ln2KIdeal := trivial

end Cert.Proof.Ln2

namespace Cert.Proof.Dx1

/-- The two kernels have one text, so the machine's run is the idealized one at the machine's values. -/
theorem frame : Cert.quiescent_Dx1K := by
  intro m ρ _
  refine cast (?_ : _ = _) (Cert.Dx1KIdeal.Gen.frame (F := Bits) m ρ)
  sl_kernel_rfl

theorem frame_ideal : Cert.quiescent_Dx1KIdeal := fun m ρ _ => Cert.Dx1KIdeal.Gen.frame m ρ

theorem frame_ref : Cert.quiescent_Dx1RIdeal := fun m ρ _ =>
  (θ_run Cert.Dx1RIdeal.defs _ _).mono (fun r h => ⟨fun c => (h c).2.2.2.2, sem_eq_zero_of_no_sems (by decide) r.2⟩)
    (Cert.Dx1RIdeal.Value.run (F := Ideal) m ρ)

theorem preserves : Cert.preserves_Dx1K_Dx1KIdeal := trivial

end Cert.Proof.Dx1

end
-- ==== Proof.Ln2Value.lean ====
/- The down projection fused with the second LayerNorm's gradient and the loss: what the kernel leaves is the reference's
   results, of finite arguments. -/
module

public import proofs.«01_k».proof.Defs
public import proofs.«01_k».proof.Proof.Gen.Pre_ln2_finite
public import proofs.«01_k».proof.Proof.LayerNorm
public import proofs.«01_k».proof.Proof.Frames
public import proofs.«01_k».proof.Proof.Gen.Ln2KIdeal.Frame
public import proofs.«01_k».proof.Proof.Gen.Ln2KIdeal.Value
public import proofs.«01_k».proof.Proof.Gen.Ln2RIdeal.Read
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Proof.LN

namespace Cert.Ln2KIdeal.Hand

open Cert.Ln2KIdeal Cert.Ln2KIdeal.Gen

section Payloads

variable {v0 : Vec Ideal S256x4096 .bf16} {v2 : Vec Ideal S4096x1024 .bf16} {v8 v33 : Vec Ideal S256x1024 .f32}
  {v7 v12 : Vec Ideal S1x1024 .f32}
  {H : Fin 256 → Fin 4096 → ℝ} {W : Fin 4096 → Fin 1024 → ℝ} {X T : Fin 256 → Fin 1024 → ℝ} {G B : Fin 1024 → ℝ}

/-- The row the normalisation is taken of: the residual branch and the down projection. -/
def row {n : ℕ} (H : Fin n → Fin 4096 → ℝ) (W : Fin 4096 → Fin 1024 → ℝ) (X : Fin n → Fin 1024 → ℝ) (p : Fin n) (j : Fin 1024) : ℝ :=
  alpha * X p j + ∑ k, H p k * W k j

theorem pay6_at (h0 : ∀ p k, v0 (ix2 p k) = (H p k : EReal)) (h2 : ∀ k q, v2 (ix2 k q) = (W k q : EReal))
    (h8 : ∀ p q, v8 (ix2 p q) = (X p q : EReal)) (p : Fin 256) (q : Fin 1024) :
    k0_pay6 v0 v2 v8 (ix2 p q) = (cen (row H W X p) q : EReal) := by
  pointwise [k0_pay6]
  simp only [h0, h2, h8, lit_alpha, lit_1024]
  simp only [← EReal.coe_mul, ← EReal.coe_add, coe_sum, div_coe _ 1024 (by norm_num), ← EReal.coe_sub]
  rfl

theorem pay7_at {R : Fin 256 → Fin 1024 → ℝ} (h : ∀ p q, k0_pay6 v0 v2 v8 (ix2 p q) = (cen (R p) q : EReal))
    (p : Fin 256) (u : Fin 1) : k0_pay7 v0 v2 v8 (ix2 p u) = (rstd (R p) : EReal) := by
  pointwise [k0_pay7]
  simp only [h, lit_eps, lit_1024]
  simp only [← EReal.coe_mul, ← EReal.coe_add, coe_sum, div_coe _ 1024 (by norm_num)]
  exact rsqrt_vare (R p)

theorem pay8_at {R : Fin 256 → Fin 1024 → ℝ} (h : ∀ p q, k0_pay6 v0 v2 v8 (ix2 p q) = (cen (R p) q : EReal))
    (p : Fin 256) (q : Fin 1024) : k0_pay8 v0 v2 v8 (ix2 p q) = (xhat (R p) q : EReal) := by
  pointwise [k0_pay8]
  rw [h, pay7_at h, ← EReal.coe_mul]
  rfl

theorem pay9_at {R : Fin 256 → Fin 1024 → ℝ} (h : ∀ p q, k0_pay6 v0 v2 v8 (ix2 p q) = (cen (R p) q : EReal))
    (h7 : ∀ u q, v7 (ix2 u q) = (G q : EReal)) (h12 : ∀ u q, v12 (ix2 u q) = (B q : EReal))
    (h33 : ∀ p q, v33 (ix2 p q) = (T p q : EReal)) (p : Fin 256) (q : Fin 1024) :
    k0_pay9 v0 v2 v7 v8 v12 v33 (ix2 p q) = ((xhat (R p) q * G q + B q - T p q : ℝ) : EReal) := by
  pointwise [k0_pay9]
  rw [pay8_at h, h7, h12, h33, ← EReal.coe_mul, ← EReal.coe_add, ← EReal.coe_sub]

theorem pay10_at {R : Fin 256 → Fin 1024 → ℝ} (h : ∀ p q, k0_pay6 v0 v2 v8 (ix2 p q) = (cen (R p) q : EReal))
    (h7 : ∀ u q, v7 (ix2 u q) = (G q : EReal)) (h12 : ∀ u q, v12 (ix2 u q) = (B q : EReal))
    (h33 : ∀ p q, v33 (ix2 p q) = (T p q : EReal)) (p : Fin 256) (q : Fin 1024) :
    k0_pay10 v0 v2 v7 v8 v12 v33 (ix2 p q) = (((xhat (R p) q * G q + B q - T p q) * (1 / 1024) : ℝ) : EReal) := by
  pointwise [k0_pay10]
  rw [pay9_at h h7 h12 h33, lit_inv1024, ← EReal.coe_mul]

theorem pay11_at {R D : Fin 256 → Fin 1024 → ℝ} {v26 : FVec Ideal S256x1 .f32} {v28 v36 : FVec Ideal S256x1024 .f32}
    (h7 : ∀ u q, v7 (ix2 u q) = (G q : EReal)) (h26 : ∀ p u, v26 (ix2 p u) = (rstd (R p) : EReal))
    (h28 : ∀ p q, v28 (ix2 p q) = (xhat (R p) q : EReal)) (h36 : ∀ p q, v36 (ix2 p q) = (D p q : EReal))
    (p : Fin 256) (q : Fin 1024) :
    k0_pay11 v7 v26 v28 v36 (ix2 p q) = (grad (R p) (fun k => D p k * G k) q : EReal) := by
  pointwise [k0_pay11]
  simp only [h7, h26, h28, h36, lit_1024]
  simp only [← EReal.coe_mul, coe_sum, div_coe _ 1024 (by norm_num), ← EReal.coe_sub]
  rfl

end Payloads

section Reference

open Cert.Ln2RIdeal.Read

variable {x0 : FVec Ideal S4096x4096 .f32} {x1 x2 x3 : FVec Ideal S4096x1024 .f32} {x4 x5 : FVec Ideal S1x1024 .f32}
  {H : Fin 4096 → Fin 4096 → ℝ} {W X T : Fin 4096 → Fin 1024 → ℝ} {G B : Fin 1024 → ℝ}

/-- The arguments' entries are these real numbers. -/
structure Real6 (x0 : FVec Ideal S4096x4096 .f32) (x1 x2 x3 : FVec Ideal S4096x1024 .f32) (x4 x5 : FVec Ideal S1x1024 .f32)
    (H : Fin 4096 → Fin 4096 → ℝ) (W X T : Fin 4096 → Fin 1024 → ℝ) (G B : Fin 1024 → ℝ) : Prop where
  h0 : ∀ p k, x0 (ix2 p k) = (H p k : EReal)
  h1 : ∀ p k, x1 (ix2 p k) = (W p k : EReal)
  h2 : ∀ p k, x2 (ix2 p k) = (X p k : EReal)
  h3 : ∀ p k, x3 (ix2 p k) = (T p k : EReal)
  h4 : ∀ u k, x4 (ix2 u k) = (G k : EReal)
  h5 : ∀ u k, x5 (ix2 u k) = (B k : EReal)

/-- The gradient that reaches the normalised row. -/
def dout (R : Fin 4096 → Fin 1024 → ℝ) (T : Fin 4096 → Fin 1024 → ℝ) (G B : Fin 1024 → ℝ) (p : Fin 4096) (q : Fin 1024) : ℝ :=
  (xhat (R p) q * G q + B q - T p q) * (1 / 1024)

variable (r : Real6 x0 x1 x2 x3 x4 x5 H W X T G B)
include r

theorem v3_at (p : Fin 4096) (q : Fin 1024) : val_main_v3 (F := Ideal) x0 x1 x2 (ix2 p q) = (row H W X p q : EReal) := by
  pointwise [val_main_v3, val_main_v2, val_main_v1, val_main_v0, val_main_cst]
  simp only [r.h0, r.h1, r.h2, lit_alpha]
  simp only [← EReal.coe_mul, ← EReal.coe_add, coe_sum]
  rfl

theorem v7_at (p : Fin 4096) (u : Fin 1) : val_main_v7 (F := Ideal) x0 x1 x2 (ix2 p u) = (mean (row H W X p) : EReal) := by
  pointwise [val_main_v7, val_main_v6, val_main_v5, val_main_v4, val_main_cst_0, val_main_cst_1]
  simp only [v3_at r, lit_1024, coe_sum, div_coe _ 1024 (by norm_num)]
  rfl

theorem v9_at (p : Fin 4096) (q : Fin 1024) : val_main_v9 (F := Ideal) x0 x1 x2 (ix2 p q) = (cen (row H W X p) q : EReal) := by
  pointwise [val_main_v9, val_main_v8]
  rw [v3_at r, v7_at r, ← EReal.coe_sub]
  rfl

theorem v18_at (p : Fin 4096) (q : Fin 1024) : val_main_v18 (F := Ideal) x0 x1 x2 (ix2 p q) = (cen (row H W X p) q : EReal) := by
  pointwise [val_main_v18, val_main_v17]
  rw [v3_at r, v7_at r, ← EReal.coe_sub]
  rfl

theorem v20_at (p : Fin 4096) (u : Fin 1) : val_main_v20 (F := Ideal) x0 x1 x2 (ix2 p u) = (vare (row H W X p) : EReal) := by
  pointwise [val_main_v20, val_main_v19, val_main_v16, val_main_v15, val_main_v14, val_main_v13, val_main_v10, val_main_cst_3, val_main_cst_4, val_main_cst_5]
  simp only [v9_at r, lit_1024, lit_eps, ← EReal.coe_mul, ← EReal.coe_add, coe_sum, div_coe _ 1024 (by norm_num)]
  rfl

theorem v21_at (p : Fin 4096) (u : Fin 1) : val_main_v21 (F := Ideal) x0 x1 x2 (ix2 p u) = (rstd (row H W X p) : EReal) := by
  pointwise [val_main_v21]
  rw [v20_at r, rsqrt_vare]

theorem v26_at (p : Fin 4096) (q : Fin 1024) : val_main_v26 (F := Ideal) x0 x1 x2 (ix2 p q) = (xhat (row H W X p) q : EReal) := by
  pointwise [val_main_v26, val_main_v25]
  rw [v18_at r, v21_at r, ← EReal.coe_mul]
  rfl

theorem v31_at (p : Fin 4096) (q : Fin 1024) : val_main_v31 (F := Ideal) x0 x1 x2 x3 x4 x5 (ix2 p q)
    = ((xhat (row H W X p) q * G q + B q - T p q : ℝ) : EReal) := by
  pointwise [val_main_v31, val_main_v30, val_main_v29, val_main_v28, val_main_v27]
  rw [v26_at r, r.h3, r.h4, r.h5, ← EReal.coe_mul, ← EReal.coe_add, ← EReal.coe_sub]

theorem v45_at (p : Fin 4096) (q : Fin 1024) : val_main_v45 (F := Ideal) x0 x1 x2 x3 x4 x5 (ix2 p q)
    = (dout (row H W X) T G B p q : EReal) := by
  pointwise [val_main_v45, val_main_v44, val_main_v43, val_main_v42, val_main_v41, val_main_v40, val_main_v34, val_main_v33, val_main_cst_7, val_main_cst_12, val_main_cst_13, val_main_cst_14]
  simp only [v31_at r, lit_1024, lit_half, lit_two, mul_one, ← EReal.coe_mul, div_coe _ 1024 (by norm_num)]
  refine congrArg _ ?_
  unfold dout
  ring

theorem v57_at (p : Fin 4096) (q : Fin 1024) : val_main_v57 (F := Ideal) x0 x1 x2 x3 x4 x5 (ix2 p q)
    = ((dout (row H W X) T G B p q * G q) * rstd (row H W X p) : ℝ) := by
  pointwise [val_main_v57, val_main_v56, val_main_v52, val_main_v51]
  rw [v45_at r, v21_at r, r.h4, ← EReal.coe_mul, ← EReal.coe_mul]

theorem v66_at (p : Fin 4096) (q : Fin 1024) : val_main_v66 (F := Ideal) x0 x1 x2 x3 x4 x5 (ix2 p q)
    = (back (row H W X p) (fun k => dout (row H W X) T G B p k * G k) * (2 * cen (row H W X p) q) : ℝ) := by
  pointwise [val_main_v66, val_main_v65, val_main_v64, val_main_v63, val_main_v62, val_main_v58, val_main_v55, val_main_v54, val_main_v53, val_main_v52, val_main_v51, val_main_v24, val_main_v23, val_main_v22, val_main_v12, val_main_v11, val_main_cst_2, val_main_cst_6, val_main_cst_17, val_main_cst_19, val_main_cst_20]
  simp only [v45_at r, v18_at r, v20_at r, v21_at r, v9_at r, r.h4, lit_1024, lit_nhalf, lit_two,
    div_coe _ _ (vare_pos _).ne', ← EReal.coe_mul, coe_sum, div_coe _ 1024 (by norm_num),
    Fin.sum_univ_one]
  rfl

theorem v76_at (p : Fin 4096) (q : Fin 1024) : val_main_v76 (F := Ideal) x0 x1 x2 x3 x4 x5 (ix2 p q)
    = (grad (row H W X p) (fun k => dout (row H W X) T G B p k * G k) q : EReal) := by
  pointwise [val_main_v76, val_main_v75, val_main_v74, val_main_v73, val_main_v72, val_main_v71, val_main_v70, val_main_v69, val_main_v68, val_main_v67, val_main_v61, val_main_v60, val_main_v59, val_main_cst_18, val_main_cst_21, val_main_cst_22, val_main_cst_23]
  simp only [v57_at r, v66_at r, lit_1024, ← EReal.coe_neg, coe_sum, ← EReal.coe_add, div_coe _ 1024 (by norm_num),
    Fin.sum_univ_one]
  exact congrArg _ (grad_eq (row H W X p) (fun k => dout (row H W X) T G B p k * G k) q)

theorem v77_at (p : Fin 4096) (q : Fin 1024) : val_main_v77 (F := Ideal) x0 x1 x2 x3 x4 x5 (ix2 p q)
    = (grad (row H W X p) (fun k => dout (row H W X) T G B p k * G k) q : EReal) := by
  pointwise [val_main_v77]
  exact v76_at r p q

theorem v81_at (l : Fin 8) (q : Fin 1024) : val_main_v81 (F := Ideal) x0 x1 x2 x3 x4 x5 (ix2 l q)
    = ∑ p : Fin 4096, ((xhat (row H W X p) q * dout (row H W X) T G B p q : ℝ) : EReal) := by
  pointwise [val_main_v81, val_main_v50, val_main_v49, val_main_v48, val_main_cst_16]
  simp only [v26_at r, v45_at r, ← EReal.coe_mul]

theorem v82_at (l : Fin 8) (q : Fin 1024) : val_main_v82 (F := Ideal) x0 x1 x2 x3 x4 x5 (ix2 l q)
    = ∑ p : Fin 4096, (dout (row H W X) T G B p q : EReal) := by
  pointwise [val_main_v82, val_main_v47, val_main_v46, val_main_cst_15]
  simp only [v45_at r]

theorem v80_at (l : Fin 8) (q : Fin 1024) : val_main_v80 (F := Ideal) x0 x1 x2 x3 x4 x5 (ix2 l q)
    = ∑ p : Fin 4096, ∑ k : Fin 1024, ((xhat (row H W X p) k * G k + B k - T p k)
        * (xhat (row H W X p) k * G k + B k - T p k) : ℝ) := by
  pointwise [val_main_v80, val_main_v79, val_main_v78, val_main_v39, val_main_v38, val_main_v37, val_main_v36, val_main_v35, val_main_v32, val_main_cst_8, val_main_cst_9, val_main_cst_10, val_main_cst_11, val_main_cst_24, val_main_cst_25]
  simp only [v31_at r, lit_1024, lit_half, lit_two, ← EReal.coe_mul, coe_sum, div_coe _ 1024 (by norm_num)]
  refine congrArg _ ?_
  rw [← Finset.sum_div]
  ring

end Reference

section Kernel

variable (m : (ℓ : Loc nD τ sig) → Buf (Elt Ideal) ℓ)

theorem V_main_v0 (c : Dev nD) : V m c main_v0 = truncf (F := Ideal) .bf16 (m ((c : Thread nD τ).loc main_arg0)) bitsLt_bf16_f32 := by
  entry_read
  rfl

theorem V_main_v1 (c : Dev nD) : V m c main_v1 = truncf (F := Ideal) .bf16 (m ((c : Thread nD τ).loc main_arg1)) bitsLt_bf16_f32 := by
  entry_read
  rfl

/-- The windows' block indices. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] ∧ win0_9.index t = ![0, 0] ∧ win0_10.index t = ![0, 0] :=
  (by decide +kernel : ∀ t : Fin grid0.N, _)

/-- A tile's row in the whole array. -/
def at256 (t : Fin cfg0.N) (p : Fin 256) : Fin 4096 := ⟨t.val * 256 + p.val, by have := lt_of_lt_of_eq t.isLt (show cfg0.N = 16 from N_0); omega⟩

/-- A point's reciprocal standard deviations, normalised rows, errors and their gradient. -/
abbrev P7 (c : Dev nD) (t : Fin cfg0.N) : FVec Ideal S256x1 .f32 := k0_pay7 (iblk m c 0 t) (iblk m c 1 t) (iblk m c 2 t)
abbrev P8 (c : Dev nD) (t : Fin cfg0.N) : FVec Ideal S256x1024 .f32 := k0_pay8 (iblk m c 0 t) (iblk m c 1 t) (iblk m c 2 t)
abbrev P9 (c : Dev nD) (t : Fin cfg0.N) : FVec Ideal S256x1024 .f32 :=
  k0_pay9 (iblk m c 0 t) (iblk m c 1 t) (iblk m c 4 t) (iblk m c 2 t) (iblk m c 5 t) (iblk m c 3 t)
abbrev P10 (c : Dev nD) (t : Fin cfg0.N) : FVec Ideal S256x1024 .f32 :=
  k0_pay10 (iblk m c 0 t) (iblk m c 1 t) (iblk m c 4 t) (iblk m c 2 t) (iblk m c 5 t) (iblk m c 3 t)

/-- The three kinds of grid point. -/
theorem kinds (t : Fin cfg0.N) : (t.val % 16 = 0 ∧ ¬1 ≤ t.val ∧ ¬t.val % 16 = 15) ∨ (¬t.val % 16 = 0 ∧ 1 ≤ t.val ∧ ¬t.val % 16 = 15)
    ∨ (¬t.val % 16 = 0 ∧ 1 ≤ t.val ∧ t.val % 16 = 15) := by
  have := lt_of_lt_of_eq t.isLt (show cfg0.N = 16 from N_0)
  omega

theorem out6 (c : Dev nD) (t : Fin cfg0.N) : (outsAt0 m c t.val t.isLt).1
    = k0_pay11 (iblk m c 4 t) (P7 m c t) (P8 m c t) (P10 m c t) := by
  obtain ⟨h0, h1, h2⟩ | ⟨h0, h1, h2⟩ | ⟨h0, h1, h2⟩ := kinds t
  · rw [outsAt0_A m c t h0 h1 h2 h0 h1 h2 h0 h1 h2]
    frame_out
  · rw [outsAt0_B m c t h0 h1 h2 h0 h1 h2 h0 h1 h2]
    frame_out
  · rw [outsAt0_C m c t h0 h1 h2 h0 h1 h2 h0 h1 h2]
    frame_out

theorem out7 (c : Dev nD) (t : Fin cfg0.N) : (outsAt0 m c t.val t.isLt).2.1
    = k0_pay12 (iblk m c 4 t) (P7 m c t) (P8 m c t) (P10 m c t) := by
  obtain ⟨h0, h1, h2⟩ | ⟨h0, h1, h2⟩ | ⟨h0, h1, h2⟩ := kinds t
  · rw [outsAt0_A m c t h0 h1 h2 h0 h1 h2 h0 h1 h2]
    frame_out
  · rw [outsAt0_B m c t h0 h1 h2 h0 h1 h2 h0 h1 h2]
    frame_out
  · rw [outsAt0_C m c t h0 h1 h2 h0 h1 h2 h0 h1 h2]
    frame_out

theorem acc8 (c : Dev nD) (y : S8x1024.Idx) (t : Fin cfg0.N) (ht : t.val = 15) :
    k0_pay4 (P9 m c t) ((outsAt0 m c (t.val - 1) (by omega)).2.2.1) y
      = ∑ t : Fin cfg0.N, k0_pay3 (P9 m c t) y := by
  refine Eq.trans ?_ (acc16 N_0 (fun n h => (outsAt0 m c n h).2.2.1) (fun t => k0_pay3 (P9 m c t)) (fun t h0 b => ?_)
    (fun t h1 h2 b => ?_) y t ht)
  · pointwise [k0_pay4]
  · obtain ⟨h1, h2⟩ : ¬1 ≤ t.val ∧ ¬t.val % 16 = 15 := by have := lt_of_lt_of_eq t.isLt (show cfg0.N = 16 from N_0); omega
    rw [outsAt0_A m c t h0 h1 h2 h0 h1 h2 h0 h1 h2]
    frame_out
  · have h0 : ¬t.val % 16 = 0 := by have := lt_of_lt_of_eq t.isLt (show cfg0.N = 16 from N_0); omega
    rw [outsAt0_B m c t h0 h1 h2 h0 h1 h2 h0 h1 h2]
    frame_out
    pointwise [k0_pay4]

theorem last8 (c : Dev nD) (t : Fin cfg0.N) (ht : t.val = 15) : (outsAt0 m c t.val t.isLt).2.2.1
    = k0_pay5 (k0_pay4 (P9 m c t) ((outsAt0 m c (t.val - 1) (by omega)).2.2.1)) := by
  obtain ⟨h0, h1, h2⟩ : ¬t.val % 16 = 0 ∧ 1 ≤ t.val ∧ t.val % 16 = 15 := by omega
  rw [outsAt0_C m c t h0 h1 h2 h0 h1 h2 h0 h1 h2]
  frame_out

theorem acc9 (c : Dev nD) (y : S8x1024.Idx) (t : Fin cfg0.N) (ht : t.val = 15) :
    k0_pay14 (P8 m c t) (P10 m c t) ((outsAt0 m c (t.val - 1) (by omega)).2.2.2.1) y
      = ∑ t : Fin cfg0.N, k0_pay13 (P8 m c t) (P10 m c t) y := by
  refine Eq.trans ?_ (acc16 N_0 (fun n h => (outsAt0 m c n h).2.2.2.1) (fun t => k0_pay13 (P8 m c t) (P10 m c t)) (fun t h0 b => ?_)
    (fun t h1 h2 b => ?_) y t ht)
  · pointwise [k0_pay14]
  · obtain ⟨h1, h2⟩ : ¬1 ≤ t.val ∧ ¬t.val % 16 = 15 := by have := lt_of_lt_of_eq t.isLt (show cfg0.N = 16 from N_0); omega
    rw [outsAt0_A m c t h0 h1 h2 h0 h1 h2 h0 h1 h2]
    frame_out
  · have h0 : ¬t.val % 16 = 0 := by have := lt_of_lt_of_eq t.isLt (show cfg0.N = 16 from N_0); omega
    rw [outsAt0_B m c t h0 h1 h2 h0 h1 h2 h0 h1 h2]
    frame_out
    pointwise [k0_pay14]

theorem last9 (c : Dev nD) (t : Fin cfg0.N) (ht : t.val = 15) : (outsAt0 m c t.val t.isLt).2.2.2.1
    = k0_pay15 (k0_pay14 (P8 m c t) (P10 m c t) ((outsAt0 m c (t.val - 1) (by omega)).2.2.2.1)) := by
  obtain ⟨h0, h1, h2⟩ : ¬t.val % 16 = 0 ∧ 1 ≤ t.val ∧ t.val % 16 = 15 := by omega
  rw [outsAt0_C m c t h0 h1 h2 h0 h1 h2 h0 h1 h2]
  frame_out

theorem acc10 (c : Dev nD) (y : S8x1024.Idx) (t : Fin cfg0.N) (ht : t.val = 15) :
    k0_pay1 (k0_pay16 (P10 m c t)) ((outsAt0 m c (t.val - 1) (by omega)).2.2.2.2) y
      = ∑ t : Fin cfg0.N, k0_pay16 (P10 m c t) y := by
  refine Eq.trans ?_ (acc16 N_0 (fun n h => (outsAt0 m c n h).2.2.2.2) (fun t => k0_pay16 (P10 m c t)) (fun t h0 b => ?_)
    (fun t h1 h2 b => ?_) y t ht)
  · pointwise [k0_pay1]
  · obtain ⟨h1, h2⟩ : ¬1 ≤ t.val ∧ ¬t.val % 16 = 15 := by have := lt_of_lt_of_eq t.isLt (show cfg0.N = 16 from N_0); omega
    rw [outsAt0_A m c t h0 h1 h2 h0 h1 h2 h0 h1 h2]
    frame_out
  · have h0 : ¬t.val % 16 = 0 := by have := lt_of_lt_of_eq t.isLt (show cfg0.N = 16 from N_0); omega
    rw [outsAt0_B m c t h0 h1 h2 h0 h1 h2 h0 h1 h2]
    frame_out
    pointwise [k0_pay1]

theorem last10 (c : Dev nD) (t : Fin cfg0.N) (ht : t.val = 15) : (outsAt0 m c t.val t.isLt).2.2.2.2
    = k0_pay2 (k0_pay1 (k0_pay16 (P10 m c t)) ((outsAt0 m c (t.val - 1) (by omega)).2.2.2.2)) := by
  obtain ⟨h0, h1, h2⟩ : ¬t.val % 16 = 0 ∧ 1 ≤ t.val ∧ t.val % 16 = 15 := by omega
  rw [outsAt0_C m c t h0 h1 h2 h0 h1 h2 h0 h1 h2]
  frame_out

theorem row_at6 (t : Fin cfg0.N) (y : S256x1024.Idx) : ((cfg0.win 6).blk t).view.emb y = ix2 (at256 t (y 0)) (y 1) := by
  blk_ext [idx t]
  rfl

theorem row_at7 (t : Fin cfg0.N) (y : S256x1024.Idx) : ((cfg0.win 7).blk t).view.emb y = ix2 (at256 t (y 0)) (y 1) := by
  blk_ext [idx t]
  rfl

variable {H : Fin 4096 → Fin 4096 → ℝ} {W X T : Fin 4096 → Fin 1024 → ℝ} {G B : Fin 1024 → ℝ} {c : Dev nD}
  (r : Real6 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) H W X T G B)
include r

theorem b0 (t : Fin cfg0.N) (p : Fin 256) (k : Fin 4096) : iblk m c 0 t (ix2 p k) = (H (at256 t p) k : EReal) := by
  rw [← r.h0]
  blk_point [iblk, V_main_v0, idx t]
  rfl

theorem b1 (t : Fin cfg0.N) (p : Fin 4096) (k : Fin 1024) : iblk m c 1 t (ix2 p k) = (W p k : EReal) := by
  rw [← r.h1]
  blk_point [iblk, V_main_v1, idx t]

theorem b2 (t : Fin cfg0.N) (p : Fin 256) (k : Fin 1024) : iblk m c 2 t (ix2 p k) = (X (at256 t p) k : EReal) := by
  rw [← r.h2]
  blk_point [iblk, V, idx t]
  rfl

theorem b3 (t : Fin cfg0.N) (p : Fin 256) (k : Fin 1024) : iblk m c 3 t (ix2 p k) = (T (at256 t p) k : EReal) := by
  rw [← r.h3]
  blk_point [iblk, V, idx t]
  rfl

theorem b4 (t : Fin cfg0.N) (u : Fin 1) (k : Fin 1024) : iblk m c 4 t (ix2 u k) = (G k : EReal) := by
  rw [← r.h4 u]
  blk_point [iblk, V, idx t]

theorem b5 (t : Fin cfg0.N) (u : Fin 1) (k : Fin 1024) : iblk m c 5 t (ix2 u k) = (B k : EReal) := by
  rw [← r.h5 u]
  blk_point [iblk, V, idx t]

theorem p6 (t : Fin cfg0.N) (p : Fin 256) (q : Fin 1024) :
    k0_pay6 (iblk m c 0 t) (iblk m c 1 t) (iblk m c 2 t) (ix2 p q) = (cen (row H W X (at256 t p)) q : EReal) :=
  pay6_at (b0 m r t) (b1 m r t) (b2 m r t) p q

theorem p8 (t : Fin cfg0.N) (p : Fin 256) (q : Fin 1024) :
    k0_pay8 (iblk m c 0 t) (iblk m c 1 t) (iblk m c 2 t) (ix2 p q) = (xhat (row H W X (at256 t p)) q : EReal) :=
  pay8_at (R := fun p => row H W X (at256 t p)) (p6 m r t) p q

theorem p9 (t : Fin cfg0.N) (p : Fin 256) (q : Fin 1024) :
    k0_pay9 (iblk m c 0 t) (iblk m c 1 t) (iblk m c 4 t) (iblk m c 2 t) (iblk m c 5 t) (iblk m c 3 t) (ix2 p q)
      = ((xhat (row H W X (at256 t p)) q * G q + B q - T (at256 t p) q : ℝ) : EReal) :=
  pay9_at (R := fun p => row H W X (at256 t p)) (p6 m r t) (b4 m r t) (b5 m r t) (b3 m r t) p q

theorem p10 (t : Fin cfg0.N) (p : Fin 256) (q : Fin 1024) :
    k0_pay10 (iblk m c 0 t) (iblk m c 1 t) (iblk m c 4 t) (iblk m c 2 t) (iblk m c 5 t) (iblk m c 3 t) (ix2 p q)
      = (dout (row H W X) T G B (at256 t p) q : EReal) :=
  pay10_at (R := fun p => row H W X (at256 t p)) (p6 m r t) (b4 m r t) (b5 m r t) (b3 m r t) p q

theorem p11 (t : Fin cfg0.N) (p : Fin 256) (q : Fin 1024) :
    k0_pay11 (iblk m c 4 t) (k0_pay7 (iblk m c 0 t) (iblk m c 1 t) (iblk m c 2 t)) (k0_pay8 (iblk m c 0 t) (iblk m c 1 t) (iblk m c 2 t))
        (k0_pay10 (iblk m c 0 t) (iblk m c 1 t) (iblk m c 4 t) (iblk m c 2 t) (iblk m c 5 t) (iblk m c 3 t)) (ix2 p q)
      = (grad (row H W X (at256 t p)) (fun k => dout (row H W X) T G B (at256 t p) k * G k) q : EReal) :=
  pay11_at (R := fun p => row H W X (at256 t p)) (D := fun p => dout (row H W X) T G B (at256 t p)) (b4 m r t)
    (pay7_at (R := fun p => row H W X (at256 t p)) (p6 m r t)) (p8 m r t) (p10 m r t) p q

theorem p12 (t : Fin cfg0.N) (p : Fin 256) (q : Fin 1024) :
    k0_pay12 (iblk m c 4 t) (P7 m c t) (P8 m c t) (P10 m c t) (ix2 p q)
      = (grad (row H W X (at256 t p)) (fun k => dout (row H W X) T G B (at256 t p) k * G k) q : EReal) := by
  pointwise [k0_pay12]
  exact p11 m r t p q

theorem final6 : (dats m 0 c).arrAt 6 (cfgs 0).N
    = Cert.Ln2RIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, out6, row_at6, eq_ix2 y]
  exact (p11 m r t _ _).trans (v76_at r _ _).symm

theorem final7 : (dats m 0 c).arrAt 7 (cfgs 0).N
    = Cert.Ln2RIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7, out7, row_at7, eq_ix2 y]
  exact (p12 m r t _ _).trans (v77_at r _ _).symm

theorem fold8 (l : Fin 8) (q : Fin 1024) :
    k0_pay5 (k0_pay4 (P9 m c t0_15) ((outsAt0 m c (t0_15.val - 1) (by decide)).2.2.1)) (ix2 l q)
      = Cert.Ln2RIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 l q) := by
  rw [v80_at r]
  pointwise [k0_pay5]
  simp only [acc8 m c _ t0_15 rfl]
  pointwise [k0_pay3]
  simp only [p9 m r]
  simp only [← EReal.coe_mul]
  refine (Finset.sum_congr rfl fun k _ => sum_rows N_0 fun p =>
    (((xhat (row H W X p) k * G k + B k - T p k) * (xhat (row H W X p) k * G k + B k - T p k) : ℝ) : EReal)).trans ?_
  rw [Finset.sum_comm]
  simp only [coe_sum]

theorem final8 : (dats m 0 c).arrAt 8 (cfgs 0).N
    = Cert.Ln2RIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 8 t0_15 (by decide +kernel) _ fun j => ?_
  blk_simp
  rw [after0_8, last8 m c t0_15 rfl, eq_ix2 j]
  exact fold8 m r _ _

theorem fold9 (l : Fin 8) (q : Fin 1024) :
    k0_pay15 (k0_pay14 (P8 m c t0_15) (P10 m c t0_15) ((outsAt0 m c (t0_15.val - 1) (by decide)).2.2.2.1)) (ix2 l q)
      = Cert.Ln2RIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 l q) := by
  rw [v81_at r]
  pointwise [k0_pay15]
  simp only [acc9 m c _ t0_15 rfl]
  pointwise [k0_pay13]
  simp only [p8 m r, p10 m r]
  simp only [← EReal.coe_mul, mul_comm (dout _ _ _ _ _ _)]
  exact sum_rows N_0 fun p => ((xhat (row H W X p) q * dout (row H W X) T G B p q : ℝ) : EReal)

theorem final9 : (dats m 0 c).arrAt 9 (cfgs 0).N
    = Cert.Ln2RIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 9 t0_15 (by decide +kernel) _ fun j => ?_
  blk_simp
  rw [after0_9, last9 m c t0_15 rfl, eq_ix2 j]
  exact fold9 m r _ _

theorem fold10 (l : Fin 8) (q : Fin 1024) :
    k0_pay2 (k0_pay1 (k0_pay16 (P10 m c t0_15)) ((outsAt0 m c (t0_15.val - 1) (by decide)).2.2.2.2)) (ix2 l q)
      = Cert.Ln2RIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 l q) := by
  rw [v82_at r]
  pointwise [k0_pay2]
  simp only [acc10 m c _ t0_15 rfl]
  pointwise [k0_pay16]
  simp only [p10 m r]
  exact sum_rows N_0 fun p => (dout (row H W X) T G B p q : EReal)

theorem final10 : (dats m 0 c).arrAt 10 (cfgs 0).N
    = Cert.Ln2RIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 10 t0_15 (by decide +kernel) _ fun j => ?_
  blk_simp
  rw [after0_10, last10 m c t0_15 rfl, eq_ix2 j]
  exact fold10 m r _ _

end Kernel

end Cert.Ln2KIdeal.Hand

namespace Cert.Proof.Ln2

/-- The precondition gives the real numbers the six arguments hold. -/
theorem reals {m : (ℓ : Loc Cert.Ln2KIdeal.nD Cert.Ln2KIdeal.τ Cert.Ln2KIdeal.sig) → Buf (Elt Ideal) ℓ}
    (h : Cert.Pre_Ln2KIdeal_ln2_finite m) (c : Dev Cert.Ln2KIdeal.nD) : ∃ H W X T G B, Cert.Ln2KIdeal.Hand.Real6
      (m ((c : Thread Cert.Ln2KIdeal.nD Cert.Ln2KIdeal.τ).loc Cert.Ln2KIdeal.main_arg0)) (m ((c : Thread Cert.Ln2KIdeal.nD Cert.Ln2KIdeal.τ).loc Cert.Ln2KIdeal.main_arg1))
      (m ((c : Thread Cert.Ln2KIdeal.nD Cert.Ln2KIdeal.τ).loc Cert.Ln2KIdeal.main_arg2)) (m ((c : Thread Cert.Ln2KIdeal.nD Cert.Ln2KIdeal.τ).loc Cert.Ln2KIdeal.main_arg3))
      (m ((c : Thread Cert.Ln2KIdeal.nD Cert.Ln2KIdeal.τ).loc Cert.Ln2KIdeal.main_arg4)) (m ((c : Thread Cert.Ln2KIdeal.nD Cert.Ln2KIdeal.τ).loc Cert.Ln2KIdeal.main_arg5)) H W X T G B := by
  obtain ⟨h0, h1, h2, h3, h4, h5⟩ := h c
  exact ⟨_, _, _, _, fun k => _, fun k => _, fun p k => real_of_pre h0 (fun _ => rfl) _, fun p k => real_of_pre h1 (fun _ => rfl) _,
    fun p k => real_of_pre h2 (fun _ => rfl) _, fun p k => real_of_pre h3 (fun _ => rfl) _,
    fun u k => by rw [Subsingleton.elim u 0]; exact real_of_pre h4 (fun _ => rfl) _,
    fun u k => by rw [Subsingleton.elim u 0]; exact real_of_pre h5 (fun _ => rfl) _⟩

theorem frame_ideal_pre : Cert.quiescent_Ln2KIdeal_pre_ln2_finite := fun m ρ _ => frame_ideal m ρ trivial
theorem frame_ref_pre : Cert.quiescent_Ln2RIdeal_pre_ln2_finite := fun m ρ _ => frame_ref m ρ trivial

set_option maxHeartbeats 2000000 in
theorem algebraic : Cert.algebraic_Ln2KIdeal_Ln2RIdeal_pre_ln2_finite := by
  pair_intro
  · run_from Cert.Ln2KIdeal.Gen.run_main m g
  · run_from Cert.Ln2RIdeal.Value.run m' g'
    all_goals
      obtain ⟨H, W, X, T, G, B, r⟩ := reals hpre c
      obtain ⟨e0, e1, e2, e3, e4, e5⟩ := hagree c
    · exact (Cert.Ln2RIdeal.Read.val_main_v76_eq m' c).trans (.trans (by rw [e0, e1, e2, e3, e4, e5]) (Cert.Ln2KIdeal.Hand.final6 m r).symm)
    · exact (Cert.Ln2RIdeal.Read.val_main_v77_eq m' c).trans (.trans (by rw [e0, e1, e2, e3, e4, e5]) (Cert.Ln2KIdeal.Hand.final7 m r).symm)
    · exact (Cert.Ln2RIdeal.Read.val_main_v80_eq m' c).trans (.trans (by rw [e0, e1, e2, e3, e4, e5]) (Cert.Ln2KIdeal.Hand.final8 m r).symm)
    · exact (Cert.Ln2RIdeal.Read.val_main_v81_eq m' c).trans (.trans (by rw [e0, e1, e2, e3, e4, e5]) (Cert.Ln2KIdeal.Hand.final9 m r).symm)
    · exact (Cert.Ln2KIdeal.Hand.final10 m r).symm

end Cert.Proof.Ln2
end
-- ==== Proof.Dx1Value.lean ====
/- The product with the up projection's transpose fused with the first LayerNorm's gradient: what the kernel leaves is the reference's
   results, of finite arguments. -/
module

public import proofs.«01_k».proof.Defs
public import proofs.«01_k».proof.Proof.Gen.Pre_dx1_finite
public import proofs.«01_k».proof.Proof.LayerNorm
public import proofs.«01_k».proof.Proof.Frames
public import proofs.«01_k».proof.Proof.Gen.Dx1KIdeal.Frame
public import proofs.«01_k».proof.Proof.Gen.Dx1KIdeal.Value
public import proofs.«01_k».proof.Proof.Gen.Dx1RIdeal.Read
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Proof.LN

namespace Cert.Dx1KIdeal.Hand

open Cert.Dx1KIdeal Cert.Dx1KIdeal.Gen

section Payloads

variable {v49 : Vec Ideal S1x1024 .f32} {v53 v59 : FVec Ideal S256x1024 .f32} {v54 : Vec Ideal S256x1024 .f32}
  {R D : Fin 256 → Fin 1024 → ℝ} {G : Fin 1024 → ℝ}

/-- The gradient that reaches the normalised row: the residual branch's and the up projection's. -/
def dout {n : ℕ} (U : Fin n → Fin 4096 → ℝ) (W : Fin 8 → Fin 1024 → Fin 512 → ℝ) (X : Fin n → Fin 1024 → ℝ) (p : Fin n) (q : Fin 1024) : ℝ :=
  alpha * X p q + ∑ s : Fin 8, ∑ k : Fin 512, U p ⟨s.val * 512 + k.val, by omega⟩ * W s q k

theorem pay8_at (h : ∀ p q, v54 (ix2 p q) = (R p q : EReal)) (p : Fin 256) (q : Fin 1024) : k0_pay8 v54 (ix2 p q) = (mean (R p) : EReal) := by
  pointwise [k0_pay8]
  simp only [h, lit_1024, coe_sum, div_coe _ 1024 (by norm_num)]
  rfl

theorem pay9_at (h : ∀ p q, v54 (ix2 p q) = (R p q : EReal)) (p : Fin 256) (q : Fin 1024) :
    k0_pay9 v54 (k0_pay8 v54) (ix2 p q) = (cen (R p) q : EReal) := by
  pointwise [k0_pay9]
  rw [h, pay8_at h, ← EReal.coe_sub]
  rfl

theorem pay10_at (h : ∀ p q, v54 (ix2 p q) = (R p q : EReal)) (p : Fin 256) (u : Fin 1) :
    k0_pay10 v54 (k0_pay8 v54) (ix2 p u) = (rstd (R p) : EReal) := by
  pointwise [k0_pay10]
  simp only [pay9_at h, lit_eps, lit_1024]
  simp only [← EReal.coe_mul, ← EReal.coe_add, coe_sum, div_coe _ 1024 (by norm_num)]
  exact rsqrt_vare (R p)

theorem pay11_at (h : ∀ p q, v54 (ix2 p q) = (R p q : EReal)) (p : Fin 256) (q : Fin 1024) :
    k0_pay11 v54 (k0_pay8 v54) (ix2 p q) = (xhat (R p) q : EReal) := by
  pointwise [k0_pay11]
  rw [pay9_at h, pay10_at h, ← EReal.coe_mul]
  rfl

theorem pay12_at (h : ∀ p q, v54 (ix2 p q) = (R p q : EReal)) (h49 : ∀ u q, v49 (ix2 u q) = (G q : EReal))
    (h53 : ∀ p q, v53 (ix2 p q) = (D p q : EReal)) (p : Fin 256) (q : Fin 1024) :
    k0_pay12 v49 v53 v54 (k0_pay8 v54) (ix2 p q) = (grad (R p) (fun k => D p k * G k) q : EReal) := by
  pointwise [k0_pay12]
  simp only [h49, h53, pay10_at h, pay11_at h, lit_1024]
  simp only [← EReal.coe_mul, coe_sum, div_coe _ 1024 (by norm_num), ← EReal.coe_sub]
  rfl

end Payloads

section Reference

open Cert.Dx1RIdeal.Read

variable {x0 : FVec Ideal S4096x4096 .f32} {x1 : FVec Ideal S8x1024x512 .f32} {x2 x3 : FVec Ideal S4096x1024 .f32} {x4 x5 : FVec Ideal S1x1024 .f32}
  {U : Fin 4096 → Fin 4096 → ℝ} {W : Fin 8 → Fin 1024 → Fin 512 → ℝ} {X R : Fin 4096 → Fin 1024 → ℝ} {G : Fin 1024 → ℝ}

/-- The arguments' entries are these real numbers. -/
structure Real5 (x0 : FVec Ideal S4096x4096 .f32) (x1 : FVec Ideal S8x1024x512 .f32) (x2 x3 : FVec Ideal S4096x1024 .f32) (x4 : FVec Ideal S1x1024 .f32)
    (U : Fin 4096 → Fin 4096 → ℝ) (W : Fin 8 → Fin 1024 → Fin 512 → ℝ) (X R : Fin 4096 → Fin 1024 → ℝ) (G : Fin 1024 → ℝ) : Prop where
  h0 : ∀ p k, x0 (ix2 p k) = (U p k : EReal)
  h1 : ∀ s q k, x1 (ix3 s q k) = (W s q k : EReal)
  h2 : ∀ p k, x2 (ix2 p k) = (X p k : EReal)
  h3 : ∀ p k, x3 (ix2 p k) = (R p k : EReal)
  h4 : ∀ u k, x4 (ix2 u k) = (G k : EReal)

/-- A sum over the features is one over the shards of a sum over a shard's features. -/
theorem sum_shards {M : Type*} [AddCommMonoid M] (f : Fin 4096 → M) :
    ∑ k, f k = ∑ s : Fin 8, ∑ k : Fin 512, f ⟨s.val * 512 + k.val, by omega⟩ := by
  rw [← Fintype.sum_prod_type', ← (finProdFinEquiv (m := 8) (n := 512)).sum_comp]
  refine Finset.sum_congr rfl fun x _ => congrArg f (Fin.ext ?_)
  show x.2.val + 512 * x.1.val = x.1.val * 512 + x.2.val
  ring

variable (r : Real5 x0 x1 x2 x3 x4 U W X R G)
include r

theorem v1_at (q : Fin 1024) (s : Fin 8) (k : Fin 512) : val_main_v1 (F := Ideal) x1 (ix2 q ⟨s.val * 512 + k.val, by omega⟩) = (W s q k : EReal) := by
  rw [← r.h1]
  pointwise [val_main_v1, val_main_v0]

theorem v35_at (p : Fin 4096) (q : Fin 1024) : val_main_v35 (F := Ideal) x0 x1 x2 (ix2 p q) = (dout U W X p q : EReal) := by
  pointwise [val_main_v35, val_main_v34, val_main_v33, val_main_v32, val_main_cst_7]
  rw [sum_shards, add_comm]
  simp only [v1_at r, r.h0, r.h2, lit_alpha]
  simp only [← EReal.coe_mul, ← EReal.coe_add, coe_sum]
  rfl

theorem v5_at (p : Fin 4096) (u : Fin 1) : val_main_v5 (F := Ideal) x3 (ix2 p u) = (mean (R p) : EReal) := by
  pointwise [val_main_v5, val_main_v4, val_main_v3, val_main_v2, val_main_cst, val_main_cst_0]
  simp only [r.h3, lit_1024, coe_sum, div_coe _ 1024 (by norm_num)]
  rfl

theorem v7_at (p : Fin 4096) (q : Fin 1024) : val_main_v7 (F := Ideal) x3 (ix2 p q) = (cen (R p) q : EReal) := by
  pointwise [val_main_v7, val_main_v6]
  rw [r.h3, v5_at r, ← EReal.coe_sub]
  rfl

theorem v16_at (p : Fin 4096) (q : Fin 1024) : val_main_v16 (F := Ideal) x3 (ix2 p q) = (cen (R p) q : EReal) := by
  pointwise [val_main_v16, val_main_v15]
  rw [r.h3, v5_at r, ← EReal.coe_sub]
  rfl

theorem v18_at (p : Fin 4096) (u : Fin 1) : val_main_v18 (F := Ideal) x3 (ix2 p u) = (vare (R p) : EReal) := by
  pointwise [val_main_v18, val_main_v17, val_main_v14, val_main_v13, val_main_v12, val_main_v11, val_main_v8, val_main_cst_2, val_main_cst_3, val_main_cst_4]
  simp only [v7_at r, lit_1024, lit_eps, ← EReal.coe_mul, ← EReal.coe_add, coe_sum, div_coe _ 1024 (by norm_num)]
  rfl

theorem v19_at (p : Fin 4096) (u : Fin 1) : val_main_v19 (F := Ideal) x3 (ix2 p u) = (rstd (R p) : EReal) := by
  pointwise [val_main_v19]
  rw [v18_at r, rsqrt_vare]

theorem v24_at (p : Fin 4096) (q : Fin 1024) : val_main_v24 (F := Ideal) x3 (ix2 p q) = (xhat (R p) q : EReal) := by
  pointwise [val_main_v24, val_main_v23]
  rw [v16_at r, v19_at r, ← EReal.coe_mul]
  rfl

theorem v47_at (p : Fin 4096) (q : Fin 1024) : val_main_v47 (F := Ideal) x0 x1 x2 x3 x4 (ix2 p q)
    = ((dout U W X p q * G q) * rstd (R p) : ℝ) := by
  pointwise [val_main_v47, val_main_v46, val_main_v42, val_main_v41]
  rw [v35_at r, v19_at r, r.h4, ← EReal.coe_mul, ← EReal.coe_mul]

theorem v56_at (p : Fin 4096) (q : Fin 1024) : val_main_v56 (F := Ideal) x0 x1 x2 x3 x4 (ix2 p q)
    = (back (R p) (fun k => dout U W X p k * G k) * (2 * cen (R p) q) : ℝ) := by
  pointwise [val_main_v56, val_main_v55, val_main_v54, val_main_v53, val_main_v52, val_main_v48, val_main_v45, val_main_v44, val_main_v43, val_main_v42, val_main_v41, val_main_v22, val_main_v21, val_main_v20, val_main_v10, val_main_v9, val_main_cst_1, val_main_cst_5, val_main_cst_10, val_main_cst_12, val_main_cst_13]
  simp only [v35_at r, v16_at r, v18_at r, v19_at r, v7_at r, r.h4, lit_1024, lit_nhalf, lit_two,
    div_coe _ _ (vare_pos _).ne', ← EReal.coe_mul, coe_sum, div_coe _ 1024 (by norm_num),
    Fin.sum_univ_one]
  rfl

theorem v66_at (p : Fin 4096) (q : Fin 1024) : val_main_v66 (F := Ideal) x0 x1 x2 x3 x4 (ix2 p q)
    = (grad (R p) (fun k => dout U W X p k * G k) q : EReal) := by
  pointwise [val_main_v66, val_main_v65, val_main_v64, val_main_v63, val_main_v62, val_main_v61, val_main_v60, val_main_v59, val_main_v58, val_main_v57, val_main_v51, val_main_v50, val_main_v49, val_main_cst_11, val_main_cst_14, val_main_cst_15, val_main_cst_16]
  simp only [v47_at r, v56_at r, lit_1024, ← EReal.coe_neg, coe_sum, ← EReal.coe_add, div_coe _ 1024 (by norm_num),
    Fin.sum_univ_one]
  exact congrArg _ (grad_eq (R p) (fun k => dout U W X p k * G k) q)

theorem v67_at (p : Fin 4096) (q : Fin 1024) : val_main_v67 (F := Ideal) x0 x1 x2 x3 x4 (ix2 p q)
    = (grad (R p) (fun k => dout U W X p k * G k) q : EReal) := by
  pointwise [val_main_v67]
  exact v66_at r p q

theorem v68_at (l : Fin 8) (q : Fin 1024) : val_main_v68 (F := Ideal) x0 x1 x2 x3 (ix2 l q)
    = ∑ p : Fin 4096, ((xhat (R p) q * dout U W X p q : ℝ) : EReal) := by
  pointwise [val_main_v68, val_main_v40, val_main_v39, val_main_v38, val_main_cst_9]
  simp only [v24_at r, v35_at r, ← EReal.coe_mul]

theorem v69_at (l : Fin 8) (q : Fin 1024) : val_main_v69 (F := Ideal) x0 x1 x2 (ix2 l q) = ∑ p : Fin 4096, (dout U W X p q : EReal) := by
  pointwise [val_main_v69, val_main_v37, val_main_v36, val_main_cst_8]
  simp only [v35_at r]

end Reference

section Kernel

variable (m : (ℓ : Loc nD τ sig) → Buf (Elt Ideal) ℓ)

theorem V_main_v0 (c : Dev nD) : V m c main_v0 = truncf (F := Ideal) .bf16 (m ((c : Thread nD τ).loc main_arg0)) bitsLt_bf16_f32 := by
  entry_read
  rfl

theorem V_main_v1 (c : Dev nD) : V m c main_v1 = truncf (F := Ideal) .bf16 (m ((c : Thread nD τ).loc main_arg1)) bitsLt_bf16_f32 := by
  entry_read
  rfl

/-- The windows' block indices. -/
theorem idx : ∀ t : Fin cfg0.N, win0_0.index t = ![t.val, 0] ∧ win0_1.index t = ![0, 0, 0] ∧ win0_2.index t = ![t.val, 0]
    ∧ win0_3.index t = ![t.val, 0] ∧ win0_4.index t = ![0, 0] ∧ win0_6.index t = ![t.val, 0]
    ∧ win0_7.index t = ![t.val, 0] ∧ win0_8.index t = ![0, 0] ∧ win0_9.index t = ![0, 0] :=
  (by decide +kernel : ∀ t : Fin grid0.N, _)

/-- A tile's row in the whole array. -/
def at256 (t : Fin cfg0.N) (p : Fin 256) : Fin 4096 := ⟨t.val * 256 + p.val, by have := lt_of_lt_of_eq t.isLt (show cfg0.N = 16 from N_0); omega⟩

/-- A point's gradient at the normalised row: eight shards' products and the residual branch. -/
abbrev P53 (c : Dev nD) (t : Fin cfg0.N) : FVec Ideal S256x1024 .f32 :=
  k0_pay7
    (k0_pay6 (View.ld (iblk m c 0 t) (Rect.unit ![0, 0] ![256, 512] inb_S256x4096_S256x512_0_0))
      (View.ld (iblk m c 1 t) (Rect.unit ![0, 0, 0] ![1, 1024, 512] inb_S8x1024x512_S1x1024x512_0_0_0))
      (View.ld (iblk m c 0 t) (Rect.unit ![0, 512] ![256, 512] inb_S256x4096_S256x512_0_512))
      (View.ld (iblk m c 1 t) (Rect.unit ![1, 0, 0] ![1, 1024, 512] inb_S8x1024x512_S1x1024x512_1_0_0))
      (View.ld (iblk m c 0 t) (Rect.unit ![0, 1024] ![256, 512] inb_S256x4096_S256x512_0_1024))
      (View.ld (iblk m c 1 t) (Rect.unit ![2, 0, 0] ![1, 1024, 512] inb_S8x1024x512_S1x1024x512_2_0_0))
      (View.ld (iblk m c 0 t) (Rect.unit ![0, 1536] ![256, 512] inb_S256x4096_S256x512_0_1536))
      (View.ld (iblk m c 1 t) (Rect.unit ![3, 0, 0] ![1, 1024, 512] inb_S8x1024x512_S1x1024x512_3_0_0))
      (View.ld (iblk m c 0 t) (Rect.unit ![0, 2048] ![256, 512] inb_S256x4096_S256x512_0_2048))
      (View.ld (iblk m c 1 t) (Rect.unit ![4, 0, 0] ![1, 1024, 512] inb_S8x1024x512_S1x1024x512_4_0_0)))
    (View.ld (iblk m c 0 t) (Rect.unit ![0, 2560] ![256, 512] inb_S256x4096_S256x512_0_2560))
    (View.ld (iblk m c 1 t) (Rect.unit ![5, 0, 0] ![1, 1024, 512] inb_S8x1024x512_S1x1024x512_5_0_0))
    (View.ld (iblk m c 0 t) (Rect.unit ![0, 3072] ![256, 512] inb_S256x4096_S256x512_0_3072))
    (View.ld (iblk m c 1 t) (Rect.unit ![6, 0, 0] ![1, 1024, 512] inb_S8x1024x512_S1x1024x512_6_0_0))
    (View.ld (iblk m c 0 t) (Rect.unit ![0, 3584] ![256, 512] inb_S256x4096_S256x512_0_3584))
    (View.ld (iblk m c 1 t) (Rect.unit ![7, 0, 0] ![1, 1024, 512] inb_S8x1024x512_S1x1024x512_7_0_0))
    (iblk m c 2 t)

/-- The three kinds of grid point. -/
theorem kinds (t : Fin cfg0.N) : (t.val % 16 = 0 ∧ ¬1 ≤ t.val ∧ ¬t.val % 16 = 15) ∨ (¬t.val % 16 = 0 ∧ 1 ≤ t.val ∧ ¬t.val % 16 = 15)
    ∨ (¬t.val % 16 = 0 ∧ 1 ≤ t.val ∧ t.val % 16 = 15) := by
  have := lt_of_lt_of_eq t.isLt (show cfg0.N = 16 from N_0)
  omega

theorem out6 (c : Dev nD) (t : Fin cfg0.N) : (outsAt0 m c t.val t.isLt).1
    = k0_pay12 (iblk m c 4 t) (P53 m c t) (iblk m c 3 t) (k0_pay8 (iblk m c 3 t)) := by
  obtain ⟨h0, h1, h2⟩ | ⟨h0, h1, h2⟩ | ⟨h0, h1, h2⟩ := kinds t
  · rw [outsAt0_A m c t h0 h1 h2 h0 h1 h2]
    frame_out
    rfl
  · rw [outsAt0_B m c t h0 h1 h2 h0 h1 h2]
    frame_out
    rfl
  · rw [outsAt0_C m c t h0 h1 h2 h0 h1 h2]
    frame_out
    rfl

theorem out7 (c : Dev nD) (t : Fin cfg0.N) : (outsAt0 m c t.val t.isLt).2.1
    = k0_pay13 (iblk m c 4 t) (P53 m c t) (iblk m c 3 t) (k0_pay8 (iblk m c 3 t)) := by
  obtain ⟨h0, h1, h2⟩ | ⟨h0, h1, h2⟩ | ⟨h0, h1, h2⟩ := kinds t
  · rw [outsAt0_A m c t h0 h1 h2 h0 h1 h2]
    frame_out
    rfl
  · rw [outsAt0_B m c t h0 h1 h2 h0 h1 h2]
    frame_out
    rfl
  · rw [outsAt0_C m c t h0 h1 h2 h0 h1 h2]
    frame_out
    rfl

theorem acc8 (c : Dev nD) (y : S8x1024.Idx) (t : Fin cfg0.N) (ht : t.val = 15) :
    k0_pay1 (k0_pay14 (P53 m c t) (iblk m c 3 t) (k0_pay8 (iblk m c 3 t))) ((outsAt0 m c (t.val - 1) (by omega)).2.2.1) y
      = ∑ t : Fin cfg0.N, k0_pay14 (P53 m c t) (iblk m c 3 t) (k0_pay8 (iblk m c 3 t)) y := by
  refine Eq.trans ?_ (acc16 N_0 (fun n h => (outsAt0 m c n h).2.2.1) (fun t => k0_pay14 (P53 m c t) (iblk m c 3 t) (k0_pay8 (iblk m c 3 t))) (fun t h0 b => ?_)
    (fun t h1 h2 b => ?_) y t ht)
  · pointwise [k0_pay1]
  · obtain ⟨h1, h2⟩ : ¬1 ≤ t.val ∧ ¬t.val % 16 = 15 := by have := lt_of_lt_of_eq t.isLt (show cfg0.N = 16 from N_0); omega
    rw [outsAt0_A m c t h0 h1 h2 h0 h1 h2]
    frame_out
    rfl
  · have h0 : ¬t.val % 16 = 0 := by have := lt_of_lt_of_eq t.isLt (show cfg0.N = 16 from N_0); omega
    rw [outsAt0_B m c t h0 h1 h2 h0 h1 h2]
    frame_out
    pointwise [k0_pay1]
    rfl

theorem last8 (c : Dev nD) (t : Fin cfg0.N) (ht : t.val = 15) : (outsAt0 m c t.val t.isLt).2.2.1
    = k0_pay2 (k0_pay1 (k0_pay14 (P53 m c t) (iblk m c 3 t) (k0_pay8 (iblk m c 3 t))) ((outsAt0 m c (t.val - 1) (by omega)).2.2.1)) := by
  obtain ⟨h0, h1, h2⟩ : ¬t.val % 16 = 0 ∧ 1 ≤ t.val ∧ t.val % 16 = 15 := by omega
  rw [outsAt0_C m c t h0 h1 h2 h0 h1 h2]
  frame_out
  rfl

theorem acc9 (c : Dev nD) (y : S8x1024.Idx) (t : Fin cfg0.N) (ht : t.val = 15) :
    k0_pay4 (P53 m c t) ((outsAt0 m c (t.val - 1) (by omega)).2.2.2) y
      = ∑ t : Fin cfg0.N, k0_pay3 (P53 m c t) y := by
  refine Eq.trans ?_ (acc16 N_0 (fun n h => (outsAt0 m c n h).2.2.2) (fun t => k0_pay3 (P53 m c t)) (fun t h0 b => ?_)
    (fun t h1 h2 b => ?_) y t ht)
  · pointwise [k0_pay4]
  · obtain ⟨h1, h2⟩ : ¬1 ≤ t.val ∧ ¬t.val % 16 = 15 := by have := lt_of_lt_of_eq t.isLt (show cfg0.N = 16 from N_0); omega
    rw [outsAt0_A m c t h0 h1 h2 h0 h1 h2]
    frame_out
    rfl
  · have h0 : ¬t.val % 16 = 0 := by have := lt_of_lt_of_eq t.isLt (show cfg0.N = 16 from N_0); omega
    rw [outsAt0_B m c t h0 h1 h2 h0 h1 h2]
    frame_out
    pointwise [k0_pay4]
    rfl

theorem last9 (c : Dev nD) (t : Fin cfg0.N) (ht : t.val = 15) : (outsAt0 m c t.val t.isLt).2.2.2
    = k0_pay5 (k0_pay4 (P53 m c t) ((outsAt0 m c (t.val - 1) (by omega)).2.2.2)) := by
  obtain ⟨h0, h1, h2⟩ : ¬t.val % 16 = 0 ∧ 1 ≤ t.val ∧ t.val % 16 = 15 := by omega
  rw [outsAt0_C m c t h0 h1 h2 h0 h1 h2]
  frame_out
  rfl

theorem row_at6 (t : Fin cfg0.N) (y : S256x1024.Idx) : ((cfg0.win 6).blk t).view.emb y = ix2 (at256 t (y 0)) (y 1) := by
  blk_ext [idx t]
  rfl

theorem row_at7 (t : Fin cfg0.N) (y : S256x1024.Idx) : ((cfg0.win 7).blk t).view.emb y = ix2 (at256 t (y 0)) (y 1) := by
  blk_ext [idx t]
  rfl

variable {U : Fin 4096 → Fin 4096 → ℝ} {W : Fin 8 → Fin 1024 → Fin 512 → ℝ} {X R : Fin 4096 → Fin 1024 → ℝ} {G : Fin 1024 → ℝ} {c : Dev nD}
  (r : Real5 (m ((c : Thread nD τ).loc main_arg0)) (m ((c : Thread nD τ).loc main_arg1)) (m ((c : Thread nD τ).loc main_arg2))
    (m ((c : Thread nD τ).loc main_arg3)) (m ((c : Thread nD τ).loc main_arg4)) U W X R G)
include r

theorem b0 (t : Fin cfg0.N) (p : Fin 256) (k : Fin 4096) : iblk m c 0 t (ix2 p k) = (U (at256 t p) k : EReal) := by
  rw [← r.h0]
  blk_point [iblk, V_main_v0, idx t]
  rfl

theorem b1 (t : Fin cfg0.N) (s : Fin 8) (q : Fin 1024) (k : Fin 512) : iblk m c 1 t (ix3 s q k) = (W s q k : EReal) := by
  rw [← r.h1]
  blk_point [iblk, V_main_v1, idx t]

theorem b2 (t : Fin cfg0.N) (p : Fin 256) (k : Fin 1024) : iblk m c 2 t (ix2 p k) = (X (at256 t p) k : EReal) := by
  rw [← r.h2]
  blk_point [iblk, V, idx t]
  rfl

theorem b3 (t : Fin cfg0.N) (p : Fin 256) (k : Fin 1024) : iblk m c 3 t (ix2 p k) = (R (at256 t p) k : EReal) := by
  rw [← r.h3]
  blk_point [iblk, V, idx t]
  rfl

theorem b4 (t : Fin cfg0.N) (u : Fin 1) (k : Fin 1024) : iblk m c 4 t (ix2 u k) = (G k : EReal) := by
  rw [← r.h4 u]
  blk_point [iblk, V, idx t]

theorem p53 (t : Fin cfg0.N) (p : Fin 256) (q : Fin 1024) : P53 m c t (ix2 p q) = (dout U W X (at256 t p) q : EReal) := by
  pointwise [P53, k0_pay7, k0_pay6]
  simp only [b0 m r, b1 m r, b2 m r, lit_alpha]
  simp only [← EReal.coe_mul, ← EReal.coe_add, coe_sum]
  unfold dout
  rw [Fin.sum_univ_eight]
  rfl

theorem p12 (t : Fin cfg0.N) (p : Fin 256) (q : Fin 1024) :
    k0_pay12 (iblk m c 4 t) (P53 m c t) (iblk m c 3 t) (k0_pay8 (iblk m c 3 t)) (ix2 p q)
      = (grad (R (at256 t p)) (fun k => dout U W X (at256 t p) k * G k) q : EReal) :=
  pay12_at (R := fun p => R (at256 t p)) (D := fun p => dout U W X (at256 t p)) (b3 m r t) (b4 m r t) (p53 m r t) p q

theorem p13 (t : Fin cfg0.N) (p : Fin 256) (q : Fin 1024) :
    k0_pay13 (iblk m c 4 t) (P53 m c t) (iblk m c 3 t) (k0_pay8 (iblk m c 3 t)) (ix2 p q)
      = (grad (R (at256 t p)) (fun k => dout U W X (at256 t p) k * G k) q : EReal) := by
  pointwise [k0_pay13]
  exact p12 m r t p q

theorem final6 : (dats m 0 c).arrAt 6 (cfgs 0).N
    = Cert.Dx1RIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, out6, row_at6, eq_ix2 y]
  exact (p12 m r t _ _).trans (v66_at r _ _).symm

theorem final7 : (dats m 0 c).arrAt 7 (cfgs 0).N
    = Cert.Dx1RIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7, out7, row_at7, eq_ix2 y]
  exact (p13 m r t _ _).trans (v67_at r _ _).symm

theorem fold8 (l : Fin 8) (q : Fin 1024) :
    k0_pay2 (k0_pay1 (k0_pay14 (P53 m c t0_15) (iblk m c 3 t0_15) (k0_pay8 (iblk m c 3 t0_15))) ((outsAt0 m c (t0_15.val - 1) (by decide)).2.2.1)) (ix2 l q)
      = Cert.Dx1RIdeal.Read.val_main_v68 (F := Ideal) (m ((c : Thread nD τ).loc main_arg0)) (m ((c : Thread nD τ).loc main_arg1)) (m ((c : Thread nD τ).loc main_arg2)) (m ((c : Thread nD τ).loc main_arg3)) (ix2 l q) := by
  rw [v68_at r]
  pointwise [k0_pay2]
  simp only [acc8 m c _ t0_15 rfl]
  pointwise [k0_pay14]
  simp only [pay11_at (R := fun p => R (at256 _ p)) (b3 m r _), p53 m r]
  simp only [← EReal.coe_mul, mul_comm (dout _ _ _ _ _)]
  exact sum_rows N_0 fun p => ((xhat (R p) q * dout U W X p q : ℝ) : EReal)

theorem final8 : (dats m 0 c).arrAt 8 (cfgs 0).N
    = Cert.Dx1RIdeal.Read.val_main_v68 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_after_last 8 t0_15 (by decide +kernel) _ fun j => ?_
  blk_simp
  rw [after0_8, last8 m c t0_15 rfl, eq_ix2 j]
  exact fold8 m r _ _

theorem fold9 (l : Fin 8) (q : Fin 1024) :
    k0_pay5 (k0_pay4 (P53 m c t0_15) ((outsAt0 m c (t0_15.val - 1) (by decide)).2.2.2)) (ix2 l q)
      = Cert.Dx1RIdeal.Read.val_main_v69 (F := Ideal) (m ((c : Thread nD τ).loc main_arg0)) (m ((c : Thread nD τ).loc main_arg1)) (m ((c : Thread nD τ).loc main_arg2)) (ix2 l q) := by
  rw [v69_at r]
  pointwise [k0_pay5]
  simp only [acc9 m c _ t0_15 rfl]
  pointwise [k0_pay3]
  simp only [p53 m r]
  exact sum_rows N_0 fun p => (dout U W X p q : EReal)

theorem final9 : (dats m 0 c).arrAt 9 (cfgs 0).N
    = Cert.Dx1RIdeal.Read.val_main_v69 (F := Ideal) (m ((c : Thread nD τ).loc main_arg0)) (m ((c : Thread nD τ).loc main_arg1)) (m ((c : Thread nD τ).loc main_arg2)) := by
  refine (dats m 0 c).arrAt_eq_of_after_last 9 t0_15 (by decide +kernel) _ fun j => ?_
  blk_simp
  rw [after0_9, last9 m c t0_15 rfl, eq_ix2 j]
  exact fold9 m r _ _

end Kernel

end Cert.Dx1KIdeal.Hand

namespace Cert.Proof.Dx1

/-- The precondition gives the real numbers the five arguments hold. -/
theorem reals {m : (ℓ : Loc Cert.Dx1KIdeal.nD Cert.Dx1KIdeal.τ Cert.Dx1KIdeal.sig) → Buf (Elt Ideal) ℓ}
    (h : Cert.Pre_Dx1KIdeal_dx1_finite m) (c : Dev Cert.Dx1KIdeal.nD) : ∃ U W X R G, Cert.Dx1KIdeal.Hand.Real5
      (m ((c : Thread Cert.Dx1KIdeal.nD Cert.Dx1KIdeal.τ).loc Cert.Dx1KIdeal.main_arg0)) (m ((c : Thread Cert.Dx1KIdeal.nD Cert.Dx1KIdeal.τ).loc Cert.Dx1KIdeal.main_arg1))
      (m ((c : Thread Cert.Dx1KIdeal.nD Cert.Dx1KIdeal.τ).loc Cert.Dx1KIdeal.main_arg2)) (m ((c : Thread Cert.Dx1KIdeal.nD Cert.Dx1KIdeal.τ).loc Cert.Dx1KIdeal.main_arg3))
      (m ((c : Thread Cert.Dx1KIdeal.nD Cert.Dx1KIdeal.τ).loc Cert.Dx1KIdeal.main_arg4)) U W X R G := by
  obtain ⟨h0, h1, h2, h3, h4⟩ := h c
  exact ⟨_, _, _, _, fun k => _, fun p k => real_of_pre h0 (fun _ => rfl) _, fun s q k => real_of_pre h1 (fun _ => rfl) _,
    fun p k => real_of_pre h2 (fun _ => rfl) _, fun p k => real_of_pre h3 (fun _ => rfl) _,
    fun u k => by rw [Subsingleton.elim u 0]; exact real_of_pre h4 (fun _ => rfl) _⟩

theorem frame_ideal_pre : Cert.quiescent_Dx1KIdeal_pre_dx1_finite := fun m ρ _ => frame_ideal m ρ trivial
theorem frame_ref_pre : Cert.quiescent_Dx1RIdeal_pre_dx1_finite := fun m ρ _ => frame_ref m ρ trivial

set_option maxHeartbeats 2000000 in
theorem algebraic : Cert.algebraic_Dx1KIdeal_Dx1RIdeal_pre_dx1_finite := by
  pair_intro
  · run_from Cert.Dx1KIdeal.Gen.run_main m g
  · refine θ_run_mono (Cert.Dx1RIdeal.Value.run m' g') fun s hs c => ?_
    obtain ⟨U, W, X, R, G, r⟩ := reals hpre c
    obtain ⟨e0, e1, e2, e3, e4, e5⟩ := hagree c
    obtain ⟨a6, a7, a8, a9, a⟩ := hs c
    refine ⟨a6.trans ?_, a7.trans ?_, a8.trans ?_, a9.trans ?_, a⟩
    · exact (Cert.Dx1RIdeal.Read.val_main_v66_eq m' c).trans (.trans (by rw [e0, e1, e2, e3, e4]) (Cert.Dx1KIdeal.Hand.final6 m r).symm)
    · exact (Cert.Dx1RIdeal.Read.val_main_v67_eq m' c).trans (.trans (by rw [e0, e1, e2, e3, e4]) (Cert.Dx1KIdeal.Hand.final7 m r).symm)
    · exact (Cert.Dx1RIdeal.Read.val_main_v68_eq _ _ _ _).trans (.trans (by rw [e0, e1, e2, e3]) (Cert.Dx1KIdeal.Hand.final8 m r).symm)
    · exact (Cert.Dx1RIdeal.Read.val_main_v69_eq _ _ _).trans (.trans (by rw [e0, e1, e2]) (Cert.Dx1KIdeal.Hand.final9 m r).symm)

end Cert.Proof.Dx1
end
-- ==== Proof.PobFrame.lean ====
module

public import proofs.«01_k».proof.Defs
public import proofs.«01_k».proof.Proof.Gen.PobK
public import proofs.«01_k».proof.Proof.PobRun
public import proofs.«01_k».proof.Proof.Gen.PobRIdeal.Run
public import Idealize.ShloMosaic.Lib.Quiescent

@[expose] public section

set_option maxRecDepth 16384

noncomputable section

open Idealize.ShloMosaic Idealize.ShloMosaic.TcCoe Idealize.SL.Sem

namespace Cert.Proof.Pob

/-- The two kernels have one text, so the machine's run is the idealized one at the machine's values. -/
theorem frame : Cert.quiescent_PobK := by
  intro m ρ _
  refine cast (?_ : _ = _) (Cert.PobKIdeal.Hand.frame (F := Bits) m ρ)
  sl_kernel_rfl

theorem frame_ideal : Cert.quiescent_PobKIdeal := fun m ρ _ => Cert.PobKIdeal.Hand.frame m ρ

theorem frame_ref : Cert.quiescent_PobRIdeal := fun m ρ _ =>
  (θ_run Cert.PobRIdeal.defs _ _).mono (fun r h => ⟨fun c => (h c).2.2.2.2.2.2.2.2, sem_eq_zero_of_no_sems (by decide) r.2⟩)
    (Cert.PobRIdeal.Value.run (F := Ideal) m ρ)

theorem preserves : Cert.preserves_PobK_PobKIdeal := trivial

end Cert.Proof.Pob

end
-- ==== Proof.PobValue.lean ====
/- The output projection's backward call: what the kernel leaves is the reference's results, of finite arguments. -/
module

public import proofs.«01_k».proof.Defs
public import proofs.«01_k».proof.Proof.Gen.Pre_pob_finite
public import proofs.«01_k».proof.Proof.PobRef
public import proofs.«01_k».proof.Proof.PobFrame
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Proof.LN (coe_sum sum_rows real_of_pre)

namespace Cert.PobKIdeal.Hand

open Cert.PobKIdeal Cert.PobKIdeal.Gen

section Kernel

variable (m : (ℓ : Loc nD τ sig) → Buf (Elt Ideal) ℓ)

theorem V_main_v0 (c : Dev nD) : V m c main_v0 = truncf (F := Ideal) .bf16 (m ((c : Thread nD τ).loc main_arg5)) bitsLt_bf16_f32 := by
  entry_read
  rfl

theorem V_main_v1 (c : Dev nD) : V m c main_v1 = truncf (F := Ideal) .bf16 (m ((c : Thread nD τ).loc main_arg4)) bitsLt_bf16_f32 := by
  entry_read
  rfl

/-- The windows' block indices. -/
theorem idx : ∀ t : Fin cfg0.N, win0_0.index t = ![15 - t.val, 0] ∧ win0_1.index t = ![0, 0] ∧ win0_2.index t = ![15 - t.val, 0]
    ∧ win0_3.index t = ![(15 - t.val) * 32 - 1, 0] ∧ win0_4.index t = ![0, 0] ∧ win0_5.index t = ![0, 0] ∧ win0_6.index t = ![15 - t.val, 0]
    ∧ win0_7.index t = ![15 - t.val, 0] ∧ win0_8.index t = ![15 - t.val, 0] ∧ win0_9.index t = ![15 - t.val, 0] ∧ win0_10.index t = ![0, 0]
    ∧ win0_11.index t = ![0, 0] ∧ win0_12.index t = ![0, 0] ∧ win0_13.index t = ![0, 0] :=
  (by decide +kernel : ∀ t : Fin grid0.N, _)

theorem cast_mul (A B : FVec Ideal S256x512 .f32) (p : Fin 256) (q : Fin 512) :
    truncf (F := Ideal) .bf16 (mulf A B) bitsLt_bf16_f32 (ix2 p q) = A (ix2 p q) * B (ix2 p q) := by
  pointwise []

/-- The rows' sum, over the points from the last tile to the first. -/
theorem sum_back {M : Type*} [AddCommMonoid M] (f : Fin 4096 → M) :
    ∑ l : Fin 8, ∑ t : Fin cfg0.N, ∑ s : Fin 32, f (row t ⟨s.val * 8 + l.val, by omega⟩) = ∑ p, f p := by
  rw [← sum_rows N_0 f]
  refine Finset.sum_congr rfl fun l _ => ?_
  refine (Equiv.sum_comp Fin.revPerm _).symm.trans (Finset.sum_congr rfl fun t _ => Finset.sum_congr rfl fun s _ => congrArg f (Fin.ext ?_))
  have ht := lt16 t
  have hN : cfg0.N = 16 := N_0
  simp only [row, Fin.revPerm_apply, Fin.val_rev]
  omega

theorem row_at6 (t : Fin cfg0.N) (y : S256x512.Idx) : ((cfg0.win 6).blk t).view.emb y = ix2 (row t (y 0)) (y 1) := by
  blk_ext [idx t]
  rfl

theorem row_at7 (t : Fin cfg0.N) (y : S256x512.Idx) : ((cfg0.win 7).blk t).view.emb y = ix2 (row t (y 0)) (y 1) := by
  blk_ext [idx t]
  rfl

theorem row_at8 (t : Fin cfg0.N) (y : S256x512.Idx) : ((cfg0.win 8).blk t).view.emb y = ix2 (row t (y 0)) (y 1) := by
  blk_ext [idx t]
  rfl

theorem row_at9 (t : Fin cfg0.N) (y : S256x512.Idx) : ((cfg0.win 9).blk t).view.emb y = ix2 (row t (y 0)) (y 1) := by
  blk_ext [idx t]
  rfl

variable {G : Fin 4096 → Fin 1536 → ℝ} {W : Fin 3 → Fin 512 → ℝ} {g : Fin 512 → ℝ} {D : Fin 4096 → Fin 1024 → ℝ} {O : Fin 1024 → Fin 1024 → ℝ}
  {c : Dev nD} (r : Real5 (m ((c : Thread nD τ).loc main_arg0)) (m ((c : Thread nD τ).loc main_arg2)) (m ((c : Thread nD τ).loc main_arg3)) (m ((c : Thread nD τ).loc main_arg4)) (m ((c : Thread nD τ).loc main_arg5)) G W g D O)
include r

theorem b0 (t : Fin cfg0.N) (p : Fin 256) (k : Fin 1024) : iblk m c 0 t (ix2 p k) = (D (row t p) k : EReal) := by
  rw [← r.h5]
  blk_point [iblk, V_main_v0, idx t]
  rfl

theorem b1 (t : Fin cfg0.N) (a k : Fin 1024) : iblk m c 1 t (ix2 a k) = (O a k : EReal) := by
  rw [← r.h4]
  blk_point [iblk, V_main_v1, idx t]

theorem b2 (t : Fin cfg0.N) (p : Fin 256) (k : Fin 1536) : iblk m c 2 t (ix2 p k) = (G (row t p) k : EReal) := by
  rw [← r.h0]
  blk_point [iblk, V, idx t]
  rfl

theorem b3 (t : Fin cfg0.N) (a : Fin 8) (k : Fin 1536) : iblk m c 3 t (ix2 a k) = (G (above t a) k : EReal) := by
  rw [← r.h0]
  blk_point [iblk, V, idx t]
  rfl

theorem b4 (t : Fin cfg0.N) (j : Fin 3) (q : Fin 512) : iblk m c 4 t (ix2 j q) = (W j q : EReal) := by
  rw [← r.h2]
  blk_point [iblk, V, idx t]

theorem b5 (t : Fin cfg0.N) (u : Fin 1) (q : Fin 512) : iblk m c 5 t (ix2 u q) = (g q : EReal) := by
  rw [← r.h3 u]
  blk_point [iblk, V, idx t]

theorem x10 (t : Fin cfg0.N) (p : Fin 256) (q : Fin 512) : X10 m c t (ix2 p q) = (cut G 0 (row t p) q : EReal) := by
  pointwise [X10]
  refine (b2 m r t _ _).trans (congrArg (fun k => (G (row t p) k : EReal)) (Fin.ext ?_))
  simp

theorem x11 (t : Fin cfg0.N) (p : Fin 256) (q : Fin 512) : X11 m c t (ix2 p q) = (cut G 1 (row t p) q : EReal) := by
  pointwise [X11]
  refine (b2 m r t _ _).trans (congrArg (fun k => (G (row t p) k : EReal)) (Fin.ext ?_))
  simp

theorem x12 (t : Fin cfg0.N) (p : Fin 256) (q : Fin 512) : X12 m c t (ix2 p q) = (cut G 2 (row t p) q : EReal) := by
  pointwise [X12]
  refine (b2 m r t _ _).trans (congrArg (fun k => (G (row t p) k : EReal)) (Fin.ext ?_))
  simp

theorem x15 (t : Fin cfg0.N) (a : Fin 8) (q : Fin 512) : X15 m c t (ix2 a q) = (cut G 1 (above t a) q : EReal) := by
  pointwise [X15]
  refine (b3 m r t _ _).trans (congrArg (fun k => (G (above t a) k : EReal)) (Fin.ext ?_))
  simp

theorem x16 (t : Fin cfg0.N) (a : Fin 8) (q : Fin 512) : X16 m c t (ix2 a q) = (cut G 2 (above t a) q : EReal) := by
  pointwise [X16]
  refine (b3 m r t _ _).trans (congrArg (fun k => (G (above t a) k : EReal)) (Fin.ext ?_))
  simp

theorem x9 (t : Fin cfg0.N) (p : Fin 256) (q : Fin 512) : X9 m c t (ix2 p q) = (dpy D O (row t p) q : EReal) := by
  pointwise [X9, k0_pay5, k0_pay3]
  simp only [b0 m r, b1 m r, ← EReal.coe_mul, coe_sum]
  rfl

theorem x9b (t : Fin cfg0.N) (p : Fin 256) (q : Fin 512) : k0_pay4 (iblk m c 0 t) (iblk m c 1 t) (ix2 p q) = (dp D O (row t p) ⟨512 + q.val, by omega⟩ : EReal) := by
  pointwise [k0_pay4, k0_pay3]
  simp only [b0 m r, b1 m r, ← EReal.coe_mul, coe_sum]
  rfl

theorem x13 (t : Fin cfg0.N) (p : Fin 256) (q : Fin 512) : k0_pay6 (X11 m c t) (X12 m c t) (ix2 p q) = (ug G (row t p) q : EReal) := by
  pointwise [k0_pay6]
  rw [x11 m r, x12 m r, ← EReal.coe_mul]
  rfl

theorem x22 (t : Fin cfg0.N) (p : Fin 256) (q : Fin 512) : X22 m c t (ix2 p q) = (down 1 (ug G) (row t p) q : EReal) :=
  down1_at (A := cut G 1) (B := cut G 2) (x11 m r t) (x12 m r t) (x15 m r t) (x16 m r t) p q

theorem x24 (t : Fin cfg0.N) (p : Fin 256) (q : Fin 512) : X24 m c t (ix2 p q) = (down 2 (ug G) (row t p) q : EReal) :=
  down2_at (A := cut G 1) (B := cut G 2) (x11 m r t) (x12 m r t) (x15 m r t) (x16 m r t) p q

theorem x32 (t : Fin cfg0.N) (p : Fin 256) (q : Fin 512) : X32 m c t (ix2 p q) = ((W 2 q * ug G (row t p) q + W 1 q * down 1 (ug G) (row t p) q : ℝ) : EReal) := by
  pointwise [X32, k0_pay10]
  rw [b4 m r, b4 m r, x13 m r]
  rw [show k0_pay8 _ _ _ _ _ (ix2 p q) = _ from x22 m r t p q]
  simp only [← EReal.coe_mul, ← EReal.coe_add]

theorem x36 (t : Fin cfg0.N) (p : Fin 256) (q : Fin 512) : k0_pay11 (X24 m c t) (iblk m c 4 t) (X32 m c t) (ix2 p q) = (cv G W (row t p) q : EReal) := by
  pointwise [k0_pay11]
  rw [b4 m r, x24 m r, x32 m r, ← EReal.coe_mul, ← EReal.coe_add]
  rfl

theorem x37 (t : Fin cfg0.N) (p : Fin 256) (q : Fin 512) : k0_pay12 (X10 m c t) (X24 m c t) (iblk m c 4 t) (X32 m c t) (ix2 p q) = (gy G W (row t p) q : EReal) := by
  pointwise [k0_pay12]
  rw [x10 m r, x36 m r, ← EReal.coe_mul]
  rfl

theorem x218 (t : Fin cfg0.N) (p : Fin 256) (q : Fin 512) : X218 m c t (ix2 p q) = (dg G W g D O (row t p) q : EReal) :=
  T218_at (Y := fun p => gy G W (row t p)) (D := fun p k => dpy D O (row t p) k * g k) (x37 m r t)
    (fun p q => by rw [x9 m r, b5 m r, ← EReal.coe_mul]) p q

theorem x219 (t : Fin cfg0.N) (p : Fin 256) (q : Fin 512) : X219 m c t (ix2 p q) = (yn (gy G W (row t p)) q : EReal) :=
  T219_at (Y := fun p => gy G W (row t p)) (x37 m r t) p q

theorem x223 (t : Fin cfg0.N) (p : Fin 256) (q : Fin 512) : X223 m c t (ix2 p q) = (dc G W g D O (row t p) q : EReal) := by
  pointwise [X223, k0_pay39]
  rw [x218 m r, x10 m r, ← EReal.coe_mul]
  rfl

theorem below_at (t : Fin cfg0.N) (a : Fin 8) (q : Fin 512) : below m c t (ix2 a q) = (up (256 + a.val) (dc G W g D O) (row t 0) q : EReal) := by
  have ht := lt16 t
  unfold below up
  split
  case isTrue h0 =>
    rw [dif_neg (by simp only [row, Fin.val_zero]; omega), EReal.coe_zero]
    pointwise [k0_pay40]
  case isFalse h0 =>
    rw [dif_pos (by simp only [row, Fin.val_zero]; omega)]
    pointwise [k0_pay41]
    refine (x223 m r _ _ _).trans (congrArg (fun p => (dc G W g D O p q : EReal)) (Fin.ext ?_))
    simp only [row, Fin.val_zero]
    omega

theorem x247 (t : Fin cfg0.N) (p : Fin 256) (q : Fin 512) : k0_pay42 (X10 m c t) (iblk m c 4 t) (X218 m c t) (below m c t) (ix2 p q) = (du G W g D O (row t p) q : EReal) := by
  have u1 := up1_at (t := t) (x223 m r t) (below_at m r t) p q (by omega)
  have u2 := up2_at (t := t) (x223 m r t) (below_at m r t) p q (by omega)
  pointwise [k0_pay42]
  refine Eq.trans (congrArg₂ (· + ·) (congrArg₂ (· + ·) (congrArg₂ (· * ·) (b4 m r t 2 q) (x223 m r t p q)) (congrArg₂ (· * ·) (b4 m r t 1 q) u1)) (congrArg₂ (· * ·) (b4 m r t 0 q) u2)) ?_
  simp only [← EReal.coe_mul, ← EReal.coe_add]
  rfl

theorem y6 (t : Fin cfg0.N) (p : Fin 256) (q : Fin 512) : k0_pay38 (X9 m c t) (k0_pay11 (X24 m c t) (iblk m c 4 t) (X32 m c t)) k0_pay13 (iblk m c 5 t) (k0_pay21 k0_pay13 (k0_pay15 (X10 m c t) (X24 m c t) (iblk m c 4 t) (X32 m c t)) (k0_pay16 (X10 m c t) (X24 m c t) (iblk m c 4 t) (X32 m c t)) (k0_pay17 (X9 m c t) (iblk m c 5 t)) (k0_pay19 (X9 m c t) (X10 m c t) (X24 m c t) (iblk m c 4 t) (X32 m c t) (iblk m c 5 t)) (k0_pay20 (X9 m c t) (X10 m c t) (X24 m c t) (iblk m c 4 t) (X32 m c t) (iblk m c 5 t))) (k0_pay27 (k0_pay23 (k0_pay12 (X10 m c t) (X24 m c t) (iblk m c 4 t) (X32 m c t)) k0_pay13) (k0_pay25 (X9 m c t) (iblk m c 5 t)) (k0_pay26 (X9 m c t) (k0_pay12 (X10 m c t) (X24 m c t) (iblk m c 4 t) (X32 m c t)) k0_pay13 (iblk m c 5 t))) (k0_pay31 (X9 m c t) (k0_pay12 (X10 m c t) (X24 m c t) (iblk m c 4 t) (X32 m c t)) k0_pay13 (iblk m c 5 t)) (k0_pay32 (k0_pay12 (X10 m c t) (X24 m c t) (iblk m c 4 t) (X32 m c t))) (k0_pay33 (k0_pay12 (X10 m c t) (X24 m c t) (iblk m c 4 t) (X32 m c t))) (Scalar.ofBits .f32 0x00000000#32) (ix2 p q) = ((dg G W g D O (row t p) q * cv G W (row t p) q : ℝ) : EReal) := by
  have h := cast_mul (X218 m c t) (k0_pay11 (X24 m c t) (iblk m c 4 t) (X32 m c t)) p q
  rw [x218 m r, x36 m r, ← EReal.coe_mul] at h
  unfold k0_pay38
  exact h

theorem y7 (t : Fin cfg0.N) (p : Fin 256) (q : Fin 512) : k0_pay43 (X10 m c t) (X12 m c t) (iblk m c 4 t) (X218 m c t) (below m c t) (ix2 p q) = ((du G W g D O (row t p) q * cut G 2 (row t p) q : ℝ) : EReal) := by
  pointwise [k0_pay43]
  rw [x247 m r, x12 m r, ← EReal.coe_mul]

theorem y8 (t : Fin cfg0.N) (p : Fin 256) (q : Fin 512) : k0_pay44 (X10 m c t) (X11 m c t) (iblk m c 4 t) (X218 m c t) (below m c t) (ix2 p q) = ((du G W g D O (row t p) q * cut G 1 (row t p) q : ℝ) : EReal) := by
  pointwise [k0_pay44]
  rw [x247 m r, x11 m r, ← EReal.coe_mul]

theorem final6 : (dats m 0 c).arrAt 6 (cfgs 0).N = Cert.PobRIdeal.Read.val_main_v110 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, out6, row_at6, eq_ix2 y]
  exact (y6 m r t _ _).trans (v110_at r _ _).symm

theorem final7 : (dats m 0 c).arrAt 7 (cfgs 0).N = Cert.PobRIdeal.Read.val_main_v111 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7, out7, row_at7, eq_ix2 y]
  exact (y7 m r t _ _).trans (v111_at r _ _).symm

theorem final8 : (dats m 0 c).arrAt 8 (cfgs 0).N = Cert.PobRIdeal.Read.val_main_v112 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8, out8, row_at8, eq_ix2 y]
  exact (y8 m r t _ _).trans (v112_at r _ _).symm

theorem final9 : (dats m 0 c).arrAt 9 (cfgs 0).N = Cert.PobRIdeal.Read.val_main_v53 (F := Ideal) (m ((c : Thread nD τ).loc main_arg4)) (m ((c : Thread nD τ).loc main_arg5)) := by
  refine (dats m 0 c).arrAt_eq_of_covers 9 _ (by decide +kernel) fun t _ y => ?_
  blk_simp
  rw [after0_9, out9, row_at9, eq_ix2 y]
  exact (x9b m r t _ _).trans (v53_at r _ _).symm

theorem fold10 (l : Fin 8) (q : Fin 512) :
    k0_pay47 (k0_pay46 (k0_pay45 (X9 m c t0_15) (X219 m c t0_15)) (outsAt m c (t0_15.val - 1) (Nat.lt_of_le_of_lt (Nat.sub_le _ _) t0_15.isLt)).o10) (ix2 l q)
      = Cert.PobRIdeal.Read.val_main_v113 (F := Ideal) (m ((c : Thread nD τ).loc main_arg0)) (m ((c : Thread nD τ).loc main_arg2)) (m ((c : Thread nD τ).loc main_arg4)) (m ((c : Thread nD τ).loc main_arg5)) (ix2 l q) := by
  rw [v113_at r]
  pointwise [k0_pay47]
  simp only [acc10 m c t0_15 _ rfl]
  pointwise [k0_pay45]
  simp only [x9 m r, x219 m r, ← EReal.coe_mul]
  exact sum_back fun p => ((dpy D O p q * yn (gy G W p) q : ℝ) : EReal)

theorem final10 : (dats m 0 c).arrAt 10 (cfgs 0).N = Cert.PobRIdeal.Read.val_main_v113 (F := Ideal) (m ((c : Thread nD τ).loc main_arg0)) (m ((c : Thread nD τ).loc main_arg2)) (m ((c : Thread nD τ).loc main_arg4)) (m ((c : Thread nD τ).loc main_arg5)) := by
  refine (dats m 0 c).arrAt_eq_of_after_last 10 t0_15 (by decide +kernel) _ fun j => ?_
  blk_simp
  rw [after0_10, last10 m c t0_15 rfl, eq_ix2 j]
  exact fold10 m r _ _

theorem fold11 (l : Fin 8) (q : Fin 512) :
    k0_pay50 (k0_pay49 (X24 m c t0_15) (X223 m c t0_15) (outsAt m c (t0_15.val - 1) (Nat.lt_of_le_of_lt (Nat.sub_le _ _) t0_15.isLt)).o11) (ix2 l q)
      = Cert.PobRIdeal.Read.val_main_v115 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 l q) := by
  rw [v115_at r]
  pointwise [k0_pay50]
  simp only [acc11 m c t0_15 _ rfl]
  pointwise [k0_pay48]
  simp only [x24 m r, x223 m r, ← EReal.coe_mul]
  exact sum_back fun p => ((dc G W g D O p q * down 2 (ug G) p q : ℝ) : EReal)

theorem final11 : (dats m 0 c).arrAt 11 (cfgs 0).N = Cert.PobRIdeal.Read.val_main_v115 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_after_last 11 t0_15 (by decide +kernel) _ fun j => ?_
  blk_simp
  rw [after0_11, last11 m c t0_15 rfl, eq_ix2 j]
  exact fold11 m r _ _

theorem fold12 (l : Fin 8) (q : Fin 512) :
    k0_pay53 (k0_pay52 (X22 m c t0_15) (X223 m c t0_15) (outsAt m c (t0_15.val - 1) (Nat.lt_of_le_of_lt (Nat.sub_le _ _) t0_15.isLt)).o12) (ix2 l q)
      = Cert.PobRIdeal.Read.val_main_v117 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 l q) := by
  rw [v117_at r]
  pointwise [k0_pay53]
  simp only [acc12 m c t0_15 _ rfl]
  pointwise [k0_pay51]
  simp only [x22 m r, x223 m r, ← EReal.coe_mul]
  exact sum_back fun p => ((dc G W g D O p q * down 1 (ug G) p q : ℝ) : EReal)

theorem final12 : (dats m 0 c).arrAt 12 (cfgs 0).N = Cert.PobRIdeal.Read.val_main_v117 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_after_last 12 t0_15 (by decide +kernel) _ fun j => ?_
  blk_simp
  rw [after0_12, last12 m c t0_15 rfl, eq_ix2 j]
  exact fold12 m r _ _

theorem fold13 (l : Fin 8) (q : Fin 512) :
    k0_pay2 (k0_pay1 (k0_pay54 (k0_pay6 (X11 m c t0_15) (X12 m c t0_15)) (X223 m c t0_15)) (outsAt m c (t0_15.val - 1) (Nat.lt_of_le_of_lt (Nat.sub_le _ _) t0_15.isLt)).o13) (ix2 l q)
      = Cert.PobRIdeal.Read.val_main_v119 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 l q) := by
  rw [v119_at r]
  pointwise [k0_pay2]
  simp only [acc13 m c t0_15 _ rfl]
  pointwise [k0_pay54]
  simp only [x13 m r, x223 m r, ← EReal.coe_mul]
  exact sum_back fun p => ((dc G W g D O p q * ug G p q : ℝ) : EReal)

theorem final13 : (dats m 0 c).arrAt 13 (cfgs 0).N = Cert.PobRIdeal.Read.val_main_v119 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_after_last 13 t0_15 (by decide +kernel) _ fun j => ?_
  blk_simp
  rw [after0_13, last13 m c t0_15 rfl, eq_ix2 j]
  exact fold13 m r _ _

end Kernel

end Cert.PobKIdeal.Hand

namespace Cert.Proof.Pob

/-- The precondition gives the real numbers the five arguments hold. -/
theorem reals {m : (ℓ : Loc Cert.PobKIdeal.nD Cert.PobKIdeal.τ Cert.PobKIdeal.sig) → Buf (Elt Ideal) ℓ}
    (h : Cert.Pre_PobKIdeal_pob_finite m) (c : Dev Cert.PobKIdeal.nD) : ∃ G W g D O, Cert.PobKIdeal.Hand.Real5
      (m ((c : Thread Cert.PobKIdeal.nD Cert.PobKIdeal.τ).loc Cert.PobKIdeal.main_arg0)) (m ((c : Thread Cert.PobKIdeal.nD Cert.PobKIdeal.τ).loc Cert.PobKIdeal.main_arg2)) (m ((c : Thread Cert.PobKIdeal.nD Cert.PobKIdeal.τ).loc Cert.PobKIdeal.main_arg3)) (m ((c : Thread Cert.PobKIdeal.nD Cert.PobKIdeal.τ).loc Cert.PobKIdeal.main_arg4)) (m ((c : Thread Cert.PobKIdeal.nD Cert.PobKIdeal.τ).loc Cert.PobKIdeal.main_arg5)) G W g D O := by
  obtain ⟨h0, h2, h3, h4, h5⟩ := h c
  exact ⟨_, _, fun k => _, _, _, fun p k => real_of_pre h0 (fun _ => rfl) _, fun j q => real_of_pre h2 (fun _ => rfl) _,
    fun u q => by rw [Subsingleton.elim u 0]; exact real_of_pre h3 (fun _ => rfl) _, fun a k => real_of_pre h4 (fun _ => rfl) _,
    fun p k => real_of_pre h5 (fun _ => rfl) _⟩

theorem frame_ideal_pre : Cert.quiescent_PobKIdeal_pre_pob_finite := fun m ρ _ => frame_ideal m ρ trivial
theorem frame_ref_pre : Cert.quiescent_PobRIdeal_pre_pob_finite := fun m ρ _ => frame_ref m ρ trivial

set_option maxHeartbeats 2000000 in
theorem algebraic : Cert.algebraic_PobKIdeal_PobRIdeal_pre_pob_finite := by
  pair_intro
  · run_from Cert.PobKIdeal.Hand.run_main m g
  · refine θ_run_mono (Cert.PobRIdeal.Value.run m' g') fun s hs c => ?_
    obtain ⟨G, W, γ, D, O, r⟩ := reals hpre c
    obtain ⟨e0, e1, e2, e3, e4, e5⟩ := hagree c
    obtain ⟨a6, a7, a8, a9, a10, a11, a12, a13, a⟩ := hs c
    refine ⟨a6.trans ?_, a7.trans ?_, a8.trans ?_, a9.trans ?_, a10.trans ?_, a11.trans ?_, a12.trans ?_, a13.trans ?_, a⟩
    · exact (Cert.PobRIdeal.Read.val_main_v110_eq m' c).trans (.trans (by rw [e0, e2, e3, e4, e5]) (Cert.PobKIdeal.Hand.final6 m r).symm)
    · exact (Cert.PobRIdeal.Read.val_main_v111_eq m' c).trans (.trans (by rw [e0, e2, e3, e4, e5]) (Cert.PobKIdeal.Hand.final7 m r).symm)
    · exact (Cert.PobRIdeal.Read.val_main_v112_eq m' c).trans (.trans (by rw [e0, e2, e3, e4, e5]) (Cert.PobKIdeal.Hand.final8 m r).symm)
    · exact (Cert.PobRIdeal.Read.val_main_v53_eq _ _).trans (.trans (by rw [e4, e5]) (Cert.PobKIdeal.Hand.final9 m r).symm)
    · exact (Cert.PobRIdeal.Read.val_main_v113_eq m' c).trans (.trans (by rw [e0, e2, e4, e5]) (Cert.PobKIdeal.Hand.final10 m r).symm)
    · exact (Cert.PobRIdeal.Read.val_main_v115_eq m' c).trans (.trans (by rw [e0, e2, e3, e4, e5]) (Cert.PobKIdeal.Hand.final11 m r).symm)
    · exact (Cert.PobRIdeal.Read.val_main_v117_eq m' c).trans (.trans (by rw [e0, e2, e3, e4, e5]) (Cert.PobKIdeal.Hand.final12 m r).symm)
    · exact (Cert.PobRIdeal.Read.val_main_v119_eq m' c).trans (.trans (by rw [e0, e2, e3, e4, e5]) (Cert.PobKIdeal.Hand.final13 m r).symm)

end Cert.Proof.Pob
end
-- ==== Proof.FwdLoop.lean ====
module

public import proofs.«01_k».proof.Proof.Gen.FwdKIdeal.Skeleton
public import Idealize.ShloMosaic.Lib.Pipeline.FrameBody
public import Idealize.ShloMosaic.Lib.Ring
public import Idealize.ShloMosaic.Lib.Tactic
public import Idealize.ShloMosaic.Lib.Claim

@[expose] public section

set_option maxRecDepth 16384

noncomputable section

namespace Cert.FwdKIdeal.Hand

open Cert.FwdKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The number of key chunks of a grid point, as the printed words compute it. -/
def nTrips (i : grid0.Coords) : BitVec 32 :=
  let v21 := Scalar.subi (Scalar.addi (Scalar.muli (Scalar.addi (Scalar.muli (BitVec.ofNat 32 (i 1).val) 4#32) 4#32) 128#32) 384#32) 1#32
  let v22 := Scalar.divsi v21 384#32
  let v27 : BitVec 32 := Scalar.subi (Scalar.extui (Scalar.cmpi .sgt v21 0#32)) (Scalar.extui (Scalar.cmpi .slt v21 0#32))
  let v32 : BitVec 32 := Scalar.subi (Scalar.extui (Scalar.cmpi .sgt 384#32 0#32)) (Scalar.extui (Scalar.cmpi .slt 384#32 0#32))
  let v36 := Scalar.andi (Scalar.cmpi .ne v27 v32) (Scalar.cmpi .ne (Scalar.remsi v21 384#32) 0#32)
  Scalar.select v36 (Scalar.subi v22 1#32) v22

/-- The loop's condition at a record: chunks are left, and the word kept by the early exit is positive. -/
def going (a : Cc0While1 F) : BitVec 1 :=
  Scalar.andi (Scalar.cmpi .slt a.arg10 (nTrips a.i)) (Scalar.cmpi .sgt a.arg11 0#32)

set_option maxHeartbeats 4000000 in
/-- One trip of the loop. -/
noncomputable def trip (c : Dev nD) (a : Cc0While1 F) (hchk : k0_chk1 a.i a.arg10) (hgo : going a = 1#1)
    (xk xv : Vec F S4096x128 .bf16) :
    { a' : Cc0While1 F //
      ∀ (u : Option ℕ) (E : Set ℕ) (K : _ → sProp 𝕄),
        iprop(owns (c : Thread nD τ) a.arg3 fullShare xk ∗ owns (c : Thread nD τ) a.arg4 fullShare xv
            ∗ (iprop(owns (c : Thread nD τ) a.arg3 fullShare xk ∗ owns (c : Thread nD τ) a.arg4 fullShare xv)
                -∗ wp frame (wpE (defs₀ (F := F)) Variants.nat c u) E (Prog.op (.call (1 : (Λ₀ F).Label) a') Prog.ret) K))
          ⊢ wp frame (wpE (defs₀ (F := F)) Variants.nat c u) E (defs₀ (F := F) .tc 1 a) K } := by
  refine ⟨?_, fun u E K => ?run⟩
  case run =>
    show _ ⊢ wp _ _ _ (cc0_while1 a.i a.v40 a.v39 a.arg3 a.harg3 a.v13 a.v15 a.v7 a.arg4 a.harg4 a.v5 a.arg10 a.arg11 a.arg12 a.arg13 a.arg14 a.arg15 a.arg16 a.arg17 a.arg18 a.arg19 a.arg20 a.arg21 a.arg22 a.arg23) _
    simp only [cc0_while1_eq_skeleton]; unfold cc0_while1_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f3, %hf3, H3⟩, ⟨%f4, %hf4, H4⟩, Hk⟩
    obtain rfl := a.harg3.eq_unread hf3; obtain rfl := a.harg4.eq_unread hf4
    sl_exec (disch := first | sl_exact hgo | sl_exact hchk)
    iapply Hk
    isplitl [H3]
    · iexists _; isplitr; · ipureintro; exact a.harg3.read_unread _
      iexact H3
    · iexists _; isplitr; · ipureintro; exact a.harg4.read_unread _
      iexact H4

/-- What the loop's label returns: the record's running values. -/
def res (a : Cc0While1 F) : (Λ₀ F).Result (1 : (Λ₀ F).Label) :=
  (a.arg10, a.arg11, a.arg12, a.arg13, a.arg14, a.arg15, a.arg16, a.arg17, a.arg18, a.arg19, a.arg20, a.arg21, a.arg22, a.arg23)

/-- The record one trip later; a loop that has ended stays as it is. -/
def nxt (c : Dev nD) (xk xv : Vec F S4096x128 .bf16) (a : Cc0While1 F) : Cc0While1 F :=
  open Classical in
  if h : going a = 1#1 ∧ k0_chk1 a.i a.arg10 then (trip c a h.2 h.1 xk xv).1 else a

theorem nxt_of_going (c : Dev nD) (xk xv : Vec F S4096x128 .bf16) (a : Cc0While1 F) (hg : going a = 1#1) (hk : k0_chk1 a.i a.arg10) :
    nxt c xk xv a = (trip c a hk hg xk xv).1 := by
  unfold nxt; rw [dif_pos ⟨hg, hk⟩]

theorem nxt_of_not (c : Dev nD) (xk xv : Vec F S4096x128 .bf16) (a : Cc0While1 F) (hg : going a ≠ 1#1) : nxt c xk xv a = a := by
  unfold nxt; rw [dif_neg (fun h => hg h.1)]

/-- The loop ends within `k` trips, every one of them at offsets inside the keys. -/
def Ends (c : Dev nD) (xk xv : Vec F S4096x128 .bf16) : ℕ → Cc0While1 F → Prop
  | 0, a => going a ≠ 1#1
  | k + 1, a => going a = 1#1 → k0_chk1 a.i a.arg10 ∧ Ends c xk xv k (nxt c xk xv a)

theorem iter_of_not (c : Dev nD) (xk xv : Vec F S4096x128 .bf16) (a : Cc0While1 F) (hg : going a ≠ 1#1) :
    ∀ k, (nxt c xk xv)^[k] a = a
  | 0 => rfl
  | k + 1 => by rw [Function.iterate_succ_apply, nxt_of_not c xk xv a hg, iter_of_not c xk xv a hg k]

/-- The exit: a loop whose condition fails returns its running values. -/
theorem stop_run (c : Dev nD) (a : Cc0While1 F) (hg : going a ≠ 1#1) (u : Option ℕ) (E : Set ℕ) (K : _ → sProp 𝕄) :
    K (res a) ⊢ wp frame (wpE (defs₀ (F := F)) Variants.nat c u) E (defs₀ (F := F) .tc 1 a) K := by
  show _ ⊢ wp _ _ _ (cc0_while1 a.i a.v40 a.v39 a.arg3 a.harg3 a.v13 a.v15 a.v7 a.arg4 a.harg4 a.v5 a.arg10 a.arg11 a.arg12 a.arg13 a.arg14 a.arg15 a.arg16 a.arg17 a.arg18 a.arg19 a.arg20 a.arg21 a.arg22 a.arg23) _
  simp only [cc0_while1_eq_skeleton]; unfold cc0_while1_skel res
  iintro Hk
  sl_exec (disch := sl_exact hg)
  sl_step
  iexact Hk

/-- The whole loop: from any record it runs its trips and returns the last one's values. -/
theorem loop_run (c : Dev nD) (xk xv : Vec F S4096x128 .bf16) (E : Set ℕ) : ∀ (k : ℕ) (a : Cc0While1 F), Ends c xk xv k a → ∀ K : _ → sProp 𝕄,
    iprop(owns (c : Thread nD τ) a.arg3 fullShare xk ∗ owns (c : Thread nD τ) a.arg4 fullShare xv
        ∗ (iprop(owns (c : Thread nD τ) a.arg3 fullShare xk ∗ owns (c : Thread nD τ) a.arg4 fullShare xv)
            -∗ K (res ((nxt c xk xv)^[k] a))))
      ⊢ wp frame (wpE (defs₀ (F := F)) Variants.nat c (some k)) E (defs₀ (F := F) .tc 1 a) K := by
  intro k
  induction k with
  | zero =>
    intro a hs K
    simp only [Function.iterate_zero, id]
    refine BIBase.Entails.trans ?_ (stop_run c a hs (some 0) E K)
    iintro ⟨H3, H4, Hk⟩
    iapply Hk
    isplitl [H3]; · iexact H3
    iexact H4
  | succ k ih =>
    intro a hs K
    by_cases hg : going a = 1#1
    · obtain ⟨hk, hE⟩ := hs hg
      rw [Function.iterate_succ_apply]
      have hn := nxt_of_going c xk xv a hg hk
      have ih' := ih (nxt c xk xv a) hE
      rw [hn] at ih' ⊢
      refine BIBase.Entails.trans ?_ ((trip c a hk hg xk xv).2 (some (k + 1)) E K)
      iintro ⟨H3, H4, Hk⟩
      isplitl [H3]; · iexact H3
      isplitl [H4]; · iexact H4
      iintro ⟨H3, H4⟩
      iapply (wp_call (c := (c : Thread nD τ)) (𝒱 := Variants.nat) (v := k) (hv := fun u hu => by cases hu; exact Nat.lt_succ_self k))
      iapply ih'
      isplitl [H3]; · iexact H3
      isplitl [H4]; · iexact H4
      iintro ⟨H3, H4⟩
      sl_step
      iapply Hk
      isplitl [H3]; · iexact H3
      iexact H4
    · rw [iter_of_not c xk xv a hg]
      refine BIBase.Entails.trans ?_ (stop_run c a hg (some (k + 1)) E K)
      iintro ⟨H3, H4, Hk⟩
      iapply Hk
      isplitl [H3]; · iexact H3
      iexact H4

end Cert.FwdKIdeal.Hand
-- ==== Proof.FwdBody.lean ====
module

public import proofs.«01_k».proof.Proof.FwdLoop
public import Idealize.ShloMosaic.Lib.WritesUnit
public import Idealize.ShloMosaic.Lib.WholeRead
public import proofs.«01_k».proof.Proof.Gen.FwdKIdeal.Points
public import Idealize.ShloMosaic.Lib.Pipeline.FrameBody
public import Idealize.ShloMosaic.Lib.Ring
public import Idealize.ShloMosaic.Lib.Tactic
public import Idealize.ShloMosaic.Lib.Claim

@[expose] public section

set_option maxRecDepth 16384

noncomputable section

namespace Cert.FwdKIdeal.Hand

open Cert.FwdKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The kernel's memrefs at one grid point: five input blocks, the array the second output lies in, two output blocks. -/
structure Mems where
  a2 : Memref sig .tc .vmem S512x128 .bf16
  h2 : a2.IsWhole
  a3 : Memref sig .tc .vmem S4096x128 .bf16
  h3 : a3.IsWhole
  a4 : Memref sig .tc .vmem S4096x128 .bf16
  h4 : a4.IsWhole
  a5 : Memref sig .tc .vmem S1x128 .f32
  h5 : a5.IsWhole
  a6 : Memref sig .tc .vmem S256x256 .bf16
  h6 : a6.IsWhole
  a7 : Memref sig .tc .hbm S4096x1024 .bf16
  h7 : a7.IsWhole
  a8 : Memref sig .tc .vmem S512x128 .f32
  h8 : a8.IsWhole
  a9 : Memref sig .tc .vmem S512x128 .bf16
  h9 : a9.IsWhole

/-- The contents of the input blocks. -/
structure Blks (F : FTy → Type) where
  x2 : Vec F S512x128 .bf16
  x3 : Vec F S4096x128 .bf16
  x4 : Vec F S4096x128 .bf16
  x5 : Vec F S1x128 .f32
  x6 : Vec F S256x256 .bf16

omit [FloatOps F] [Named F] in
/-- A buffer into which a piece covering all of it was written last holds that piece. -/
theorem read_whole_piece {s : Shape} {e : EltTy} (m : Memref sig .tc .vmem s e) {f : m.view.ty.Contents (Elt F)}
    {off : Fin s.rank → ℕ} {inb : ∀ a, off a + s.size a ≤ s.size a} {v : Vec F s e} {L : List (View.Piece (Elt F) s e)} :
    m.view.read (Elt F) (m.view.writes (Elt F) f ((⟨Rect.unit off s.size inb, v⟩ : View.Piece (Elt F) s e) :: L)) = v := by
  have hoff : ∀ a, off a = 0 := fun a => by have := inb a; omega
  funext y
  exact View.read_writes_cons_unit_of_mem m.view f inb v L y y rfl (fun a => by rw [hoff a, Nat.zero_add])

omit [FloatOps F] [Named F] in
/-- The same of a load of the whole buffer. -/
theorem load_whole {s : Shape} {e : EltTy} {m : Memref sig .tc .vmem s e} (h : m.IsWhole) (X : Vec F s e)
    {off : Fin s.rank → ℕ} {inb : ∀ a, off a + s.size a ≤ s.size a} :
    m.view.readAt (Elt F) (Rect.unit off s.size inb).toLoadRect (h.unread X) = X := by
  have hoff : off = fun _ => 0 := funext fun a => by have := inb a; omega
  subst hoff
  funext y
  rw [h.readAt_unread]
  congr 1
  funext a
  apply Fin.ext
  simp [LoadRect.idx, Rect.toLoadRect, Rect.unit]

/-- Every trip of the loop at a grid point is at offsets inside the keys, and there are at most eleven. -/
theorem trips_ok : ∀ i : grid0.Coords, (∀ n : Fin 11, Scalar.cmpi .slt (BitVec.ofNat 32 n.val) (nTrips i) = 1#1 → k0_chk1 i (BitVec.ofNat 32 n.val))
    ∧ Scalar.cmpi .slt 11#32 (nTrips i) ≠ 1#1 := by
  decide +kernel

theorem slt_of_going (a : Cc0While1 F) (h : going a = 1#1) : Scalar.cmpi .slt a.arg10 (nTrips a.i) = 1#1 := by
  unfold going at h
  revert h
  generalize Scalar.cmpi .slt a.arg10 (nTrips a.i) = p
  generalize Scalar.cmpi .sgt a.arg11 0#32 = q
  revert p q; decide

/-- From a record at trip `n`, the loop ends within `11 - n` more trips. -/
theorem ends_from (c : Dev nD) (xk xv : Vec F S4096x128 .bf16) : ∀ (k n : ℕ) (a : Cc0While1 F), n + k = 11 → a.arg10 = BitVec.ofNat 32 n →
    Ends c xk xv k a
  | 0, n, a, hn, ha => fun hg => (trips_ok a.i).2 (by
      have := slt_of_going a hg
      rw [ha, show n = 11 by omega] at this; exact this)
  | k + 1, n, a, hn, ha => fun hg => by
      have hs := slt_of_going a hg
      have hk : k0_chk1 a.i a.arg10 := by
        rw [ha] at hs ⊢; exact (trips_ok a.i).1 ⟨n, by omega⟩ hs
      refine ⟨hk, ends_from c xk xv k (n + 1) _ (by omega) ?_⟩
      rw [nxt_of_going c xk xv a hg hk]
      show Scalar.addi a.arg10 1#32 = _
      rw [ha]; exact (BitVec.ofNat_add n 1).symm

/-- The body's call of the loop, at a record whose trip count is zero: it returns the eleventh record's values. -/
theorem loop_call (c : Dev nD) (xk xv : Vec F S4096x128 .bf16) (E : Set ℕ) {i : grid0.Coords} {v40 : IVec S128x1 32} {v39 : IVec S128x384 32} {arg3 : Memref sig .tc .vmem S4096x128 .bf16} {harg3 : arg3.IsWhole} {v13 : FVec F S512x128 .bf16} {v15 : FVec F S512x128 .bf16} {v7 : FVec F S256x256 .bf16} {arg4 : Memref sig .tc .vmem S4096x128 .bf16} {harg4 : arg4.IsWhole} {v5 : IVec S384x128 1} {arg11 : BitVec 32} {arg12 : FVec F S128x128 .f32} {arg13 : FVec F S128x128 .f32} {arg14 : FVec F S128x128 .f32} {arg15 : FVec F S128x128 .f32} {arg16 : FVec F S128x128 .f32} {arg17 : FVec F S128x128 .f32} {arg18 : FVec F S128x128 .f32} {arg19 : FVec F S128x128 .f32} {arg20 : FVec F S128x128 .f32} {arg21 : FVec F S128x128 .f32} {arg22 : FVec F S128x128 .f32} {arg23 : FVec F S128x128 .f32}
    (k : (Λ₀ F).Result (1 : (Λ₀ F).Label) → Prog (TpuEff nD τ sig (Elt F) (Λ₀ F) .tc) PUnit) (Q : PUnit → sProp 𝕄) :
    iprop(owns (c : Thread nD τ) arg3 fullShare xk ∗ owns (c : Thread nD τ) arg4 fullShare xv
        ∗ (iprop(owns (c : Thread nD τ) arg3 fullShare xk ∗ owns (c : Thread nD τ) arg4 fullShare xv)
            -∗ wp frame (wpE (defs₀ (F := F)) Variants.nat c none) E (k (res ((nxt c xk xv)^[11] ⟨i, v40, v39, arg3, harg3, v13, v15, v7, arg4, harg4, v5, 0#32, arg11, arg12, arg13, arg14, arg15, arg16, arg17, arg18, arg19, arg20, arg21, arg22, arg23⟩))) Q))
      ⊢ wp frame (wpE (defs₀ (F := F)) Variants.nat c none) E (Prog.op (.call (1 : (Λ₀ F).Label) ⟨i, v40, v39, arg3, harg3, v13, v15, v7, arg4, harg4, v5, 0#32, arg11, arg12, arg13, arg14, arg15, arg16, arg17, arg18, arg19, arg20, arg21, arg22, arg23⟩) k) Q := by
  iintro ⟨H3, H4, Hk⟩
  iapply (wp_call (c := (c : Thread nD τ)) (𝒱 := Variants.nat) (v := 11) (bd := none) (hv := fun u hu => by simp at hu))
  iapply (loop_run c xk xv E 11 ⟨i, v40, v39, arg3, harg3, v13, v15, v7, arg4, harg4, v5, 0#32, arg11, arg12, arg13, arg14, arg15, arg16, arg17, arg18, arg19, arg20, arg21, arg22, arg23⟩ (ends_from c xk xv 11 0 _ rfl rfl))
  isplitl [H3]; · iexact H3
  isplitl [H4]; · iexact H4
  iexact Hk

set_option maxHeartbeats 8000000 in
/-- The body at a grid point. -/
noncomputable def bodyA (c : Dev nD) (i : grid0.Coords) (M : Mems) (x : Blks F) :
    Σ' (o8 : Vec F S512x128 .f32), { o9 : Vec F S512x128 .bf16 //
      ∀ (E : Set ℕ) (K : PUnit → sProp 𝕄),
        iprop(owns (c : Thread nD τ) M.a2 fullShare x.x2 ∗ owns (c : Thread nD τ) M.a3 fullShare x.x3 ∗ owns (c : Thread nD τ) M.a4 fullShare x.x4 ∗ owns (c : Thread nD τ) M.a5 fullShare x.x5 ∗ owns (c : Thread nD τ) M.a6 fullShare x.x6 ∗ (∃ d, owns (c : Thread nD τ) M.a8 fullShare d) ∗ (∃ d, owns (c : Thread nD τ) M.a9 fullShare d)
            ∗ (iprop(owns (c : Thread nD τ) M.a2 fullShare x.x2 ∗ owns (c : Thread nD τ) M.a3 fullShare x.x3 ∗ owns (c : Thread nD τ) M.a4 fullShare x.x4 ∗ owns (c : Thread nD τ) M.a5 fullShare x.x5 ∗ owns (c : Thread nD τ) M.a6 fullShare x.x6 ∗ owns (c : Thread nD τ) M.a8 fullShare o8 ∗ owns (c : Thread nD τ) M.a9 fullShare o9) -∗ K ⟨⟩))
          ⊢ wp frame (wpE (defs₀ (F := F)) Variants.nat c none) E (cc0_attn_fwd i M.a2 M.h2 M.a3 M.h3 M.a4 M.h4 M.a5 M.h5 M.a6 M.h6 M.a7 M.h7 M.a8 M.h8 M.a9 M.h9) K } := by
  refine ⟨?_, ?_, fun E K => ?run⟩
  case run =>
    simp only [cc0_attn_fwd_eq_skeleton]; unfold cc0_attn_fwd_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d8, %f8, %hf8, H8⟩, ⟨%d9, %f9, %hf9, H9⟩, Hk⟩
    obtain rfl := M.h2.eq_unread hf2; obtain rfl := M.h3.eq_unread hf3; obtain rfl := M.h4.eq_unread hf4; obtain rfl := M.h5.eq_unread hf5; obtain rfl := M.h6.eq_unread hf6
    sl_exec
    iapply (loop_call c x.x3 x.x4 E)
    isplitl [H3]
    · unfold owns; iexists _; isplitr; · ipureintro; exact M.h3.read_unread _
      iexact H3
    isplitl [H4]
    · unfold owns; iexists _; isplitr; · ipureintro; exact M.h4.read_unread _
      iexact H4
    unfold owns
    iintro ⟨⟨%g3, %hg3, H3⟩, ⟨%g4, %hg4, H4⟩⟩
    obtain rfl := M.h3.eq_unread hg3; obtain rfl := M.h4.eq_unread hg4
    unfold res
    sl_exec
    sl_step
    iapply Hk
    isplitl [H2]
    · iexists _; isplitr; swap; · iexact H2
      ipureintro; exact M.h2.read_unread _
    isplitl [H3]
    · iexists _; isplitr; swap; · iexact H3
      ipureintro; exact M.h3.read_unread _
    isplitl [H4]
    · iexists _; isplitr; swap; · iexact H4
      ipureintro; exact M.h4.read_unread _
    isplitl [H5]
    · iexists _; isplitr; swap; · iexact H5
      ipureintro; exact M.h5.read_unread _
    isplitl [H6]
    · iexists _; isplitr; swap; · iexact H6
      ipureintro; exact M.h6.read_unread _
    isplitl [H8]
    · iexists _; isplitr; swap; · iexact H8
      ipureintro; exact read_whole_piece M.a8
    · iexists _; isplitr; swap; · iexact H9
      ipureintro; exact read_whole_piece M.a9

end Cert.FwdKIdeal.Hand
-- ==== Proof.FwdFrame.lean ====
module

public import proofs.«01_k».proof.Proof.FwdBody
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.TableIdle
public import Idealize.ShloMosaic.Lib.WordCmp
public import proofs.«01_k».proof.Proof.Gen.FwdKIdeal.Launch

@[expose] public section

set_option maxRecDepth 16384

noncomputable section

namespace Cert.FwdKIdeal.Hand

open Cert.FwdKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "Pts" => Fin (Cfg.N (cfg0 (F := F)))
local notation "𝕄" => MT nD τ sig Unit (Elt F) ℕ (UR sig nD τ) ℕ

variable (m : (ℓ : Loc nD τ sig) → Buf (Elt F) ℓ) (ρ : Dev nD → PrngReg)

/-! ## The host operations before the kernel -/

/-- The host operations before the kernel, in order. -/
abbrev hostAll : List (HloOp τ sig (Elt F)) := List.flatten [hostOps0, hostOps0_1, hostOps0_2]

/-- The buffers of a core when the kernel is entered. -/
abbrev V (c : Dev nD) (b : Ref sig .tc) : Buf (Elt F) ((c : Thread nD τ).loc b) :=
  StableHlo.after hostAll (fun b => m (c, b)) b

set_option maxHeartbeats 3200000 in
/-- The program is its host operations and then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; repeat' constructor) main_chain

theorem V_keeps (c : Dev nD) (b : Ref sig .tc) (hb : b = main_arg0 ∨ b = main_arg1 ∨ b = main_arg2) : V m c b = m ((c : Thread nD τ).loc b) := by
  refine StableHlo.after_of_forall_not_mem (b := Proc.devRef .tc b) _ _ (List.forall_iff_forall_mem.mp ?_)
  simp only [hostAll, hostOps0, hostOps0_1, hostOps0_2, List.flatten_cons, List.flatten_nil, List.cons_append, List.nil_append, List.append_nil, List.Forall, StableHlo.nullary_writes, StableHlo.unary_writes, StableHlo.binary_writes, StableHlo.ternary_writes, StableHlo.reshape_writes, Finset.mem_singleton]
  rcases hb with rfl | rfl | rfl
  all_goals (repeat' apply And.intro)
  all_goals exact StableHlo.devRef_ne_of_ne (by decide)
theorem V_main_arg0 (c : Dev nD) : V m c main_arg0 = m ((c : Thread nD τ).loc main_arg0) := V_keeps m c _ (.inl rfl)
theorem V_main_arg1 (c : Dev nD) : V m c main_arg1 = m ((c : Thread nD τ).loc main_arg1) := V_keeps m c _ (.inr (.inl rfl))
theorem V_main_arg2 (c : Dev nD) : V m c main_arg2 = m ((c : Thread nD τ).loc main_arg2) := V_keeps m c _ (.inr (.inr rfl))

/-! ## The blocks and the points -/

/-- Window `w`'s block at point `t` of its array as the kernel finds it. -/
def iblk (c : Dev nD) (w : Fin (cfg0 (F := F)).W) (t : Pts) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The kernel's memrefs at point `t`. -/
def memsAt (t : Pts) : Mems :=
  ⟨st0_0 t, hstage0_0 (((cfg0 (F := F)).slots t 0).cast nbuf0_0), st0_1 t, hstage0_1 (((cfg0 (F := F)).slots t 1).cast nbuf0_1), st0_2 t, hstage0_2 (((cfg0 (F := F)).slots t 2).cast nbuf0_2), st0_3 t, hstage0_3 (((cfg0 (F := F)).slots t 3).cast nbuf0_3), st0_4 t, hstage0_4 (((cfg0 (F := F)).slots t 4).cast nbuf0_4), Memref.whole main_v1, Memref.isWhole_whole _, st0_5 t, hstage0_5 (((cfg0 (F := F)).slots t 5).cast nbuf0_5), st0_6 t, hstage0_6 (((cfg0 (F := F)).slots t 6).cast nbuf0_6)⟩

theorem bodyAt_eq (t : Pts) : bodyAt0 (F := F) t = cc0_attn_fwd (grid0.coords t) (memsAt (F := F) t).a2 (memsAt (F := F) t).h2 (memsAt (F := F) t).a3 (memsAt (F := F) t).h3 (memsAt (F := F) t).a4 (memsAt (F := F) t).h4 (memsAt (F := F) t).a5 (memsAt (F := F) t).h5 (memsAt (F := F) t).a6 (memsAt (F := F) t).h6 (memsAt (F := F) t).a7 (memsAt (F := F) t).h7 (memsAt (F := F) t).a8 (memsAt (F := F) t).h8 (memsAt (F := F) t).a9 (memsAt (F := F) t).h9 := rfl

/-- The input blocks at point `t`. -/
def blksAt (c : Dev nD) (t : Pts) : Blks F :=
  ⟨iblk m c 0 t, iblk m c 1 t, iblk m c 2 t, iblk m c 3 t, iblk m c 4 t⟩

/-- The run at point `t`. -/
abbrev runAt (c : Dev nD) (t : Pts) := bodyA c (grid0.coords t) (memsAt (F := F) t) (blksAt m c t)

/-- The proof data of the kernel's pipeline. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (runAt m c t).1
    | ⟨6, _⟩ => (runAt m c t).2.1
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_5 (c : Dev nD) (t : Pts) : (dats m 0 c).after 5 t = (runAt m c t).1 := rfl
theorem after0_6 (c : Dev nD) (t : Pts) : (dats m 0 c).after 6 t = (runAt m c t).2.1 := rfl
/-- The buffers of the inputs hold their blocks. -/
theorem held (c : Dev nD) (t : Pts) : (∀ d, (dats m 0 c).before 0 t d = (blksAt m c t).x2) ∧ (∀ d, (dats m 0 c).before 1 t d = (blksAt m c t).x3)
    ∧ (∀ d, (dats m 0 c).before 2 t d = (blksAt m c t).x4) ∧ (∀ d, (dats m 0 c).before 3 t d = (blksAt m c t).x5) ∧ (∀ d, (dats m 0 c).before 4 t d = (blksAt m c t).x6) := by
  and_intros <;> exact fun d => ((dats m 0 c).before_in_eq_fetched _ rfl (fun _ => rfl) (fun _ _ _ => rfl) (fun _ => rfl) t d).trans rfl

/-! ## The body at a point -/

/-- What the body is handed at a point. -/
def bodyPre (c : Dev nD) (t : Pts) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))

/-- What it returns. -/
def bodyPost (c : Dev nD) (t : Pts) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

/-- A buffer is left at what the proof data say. -/
theorem leaves_live (c : Dev nD) (w : Fin (cfg0 (F := F)).W) (t : Pts) (h : (cfg0 (F := F)).idle w ((cfg0 (F := F)).grid.coords t) = false) :
    (dats m 0 c).leavesExact w t = owns (c : Thread nD τ) (((cfg0 (F := F)).win w).stage ((cfg0 (F := F)).slots t w)) fullShare ((dats m 0 c).after w t) := by
  unfold Dat.leavesExact
  rw [h]
theorem leaves (c : Dev nD) (t : Pts) (y := memsAt (F := F) t) (hy : y = memsAt t := by rfl) : (dats m 0 c).leavesExact 0 t = owns (c : Thread nD τ) y.a2 fullShare (blksAt m c t).x2
    ∧ (dats m 0 c).leavesExact 1 t = owns (c : Thread nD τ) y.a3 fullShare (blksAt m c t).x3 ∧ (dats m 0 c).leavesExact 2 t = owns (c : Thread nD τ) y.a4 fullShare (blksAt m c t).x4
    ∧ (dats m 0 c).leavesExact 3 t = owns (c : Thread nD τ) y.a5 fullShare (blksAt m c t).x5 ∧ (dats m 0 c).leavesExact 4 t = owns (c : Thread nD τ) y.a6 fullShare (blksAt m c t).x6
    ∧ (dats m 0 c).leavesExact 5 t = owns (c : Thread nD τ) y.a8 fullShare (runAt m c t).1 ∧ (dats m 0 c).leavesExact 6 t = owns (c : Thread nD τ) y.a9 fullShare (runAt m c t).2.1 := by
  subst hy
  and_intros <;> exact leaves_live m c _ t rfl

set_option maxHeartbeats 3200000 in
theorem sound_body (c : Dev nD) (t : Pts) :
    bodyPre m c t ⊢ wp frame (wpE (defs₀ (F := F)) Variants.nat c none) Set.univ (bodyAt0 t) fun _ => bodyPost m c t := by
  rw [bodyAt_eq]
  unfold bodyPre bodyPost
  simp only [held m c t, leaves m c t, show (dats m 0 c).owesAt () t.succ = (dats m 0 c).owesAt () t.castSucc from rfl]
  rw [show (dats m 0 c).Φ t.succ = (dats m 0 c).Φ t.castSucc from rfl]
  iintro ⟨Hg, Ho, ⟨%d0, H0⟩, ⟨%d1, H1⟩, ⟨%d2, H2⟩, ⟨%d3, H3⟩, ⟨%d4, H4⟩, ⟨%d5, H5⟩, ⟨%d6, H6⟩⟩
  iapply ((runAt m c t).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  iframe

theorem defs₀_row (t : Pts) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run and the frame -/

set_option backward.isDefEq.respectTransparency.types false in
/-- Every execution ends, with every array at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.nat m ρ main
    (hbody := fun c => (body_obligation m c).loose) (hq := fun _ _ _ => rfl)
    (howed := fun _ _ => rfl) (V := V m) (hmain := hmain m Variants.nat) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (show ∀ w : Fin 7, (spec0 w).arr.view.ref ≠ main_arg0 from by decide))).trans (V_main_arg0 m c),
      ((h c).1 3).trans (((dats m 0 c).arrAt_in 3 rfl _).trans ((A_eq m c 3).trans (V_main_arg1 m c))),
      ((h c).2 main_arg2 (Pipeline.mem_restRefs_of main_arg2 (by decide) (show ∀ w : Fin 7, (spec0 w).arr.view.ref ≠ main_arg2 from by decide))).trans (V_main_arg2 m c)⟩) (run_main m ρ)

/-- The frame at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.FwdKIdeal.Hand
-- ==== Proof.FwdClaims.lean ====
module

public import proofs.«01_k».proof.Defs
public import proofs.«01_k».proof.Proof.FwdFrame
public import proofs.«01_k».proof.Proof.FwdWords.Frame
public import proofs.«01_k».proof.Proof.Gen.FwdK
public import proofs.«01_k».proof.Proof.Gen.FwdKIdeal
public import proofs.«01_k».proof.Proof.Gen.FwdRIdeal
public import proofs.«01_k».proof.Proof.Gen.FwdRIdeal.Run
public import Idealize.ShloMosaic.Lib.Claim
public import Idealize.ShloMosaic.Lib.Quiescent

@[expose] public section

set_option maxRecDepth 16384

noncomputable section

namespace Cert.Proof.Fwd

open Idealize.ShloMosaic Idealize.ShloMosaic.TcCoe Idealize.SL.Sem

theorem frame : Cert.quiescent_FwdK := fun m ρ _ => Cert.FwdK.Hand.frame m ρ

theorem frame_ideal : Cert.quiescent_FwdKIdeal := fun m ρ _ => Cert.FwdKIdeal.Hand.frame m ρ

theorem frame_ref : Cert.quiescent_FwdRIdeal := fun m ρ _ =>
  (θ_run Cert.FwdRIdeal.defs _ _).mono (fun r h => ⟨fun c => (h c).2.2, Idealize.ShloMosaic.sem_eq_zero_of_no_sems (by decide) r.2⟩)
    (Cert.FwdRIdeal.Value.run (F := Ideal) m ρ)

theorem preserves : Cert.preserves_FwdK_FwdKIdeal :=
  ⟨IdealRules.named_const.statement _ _ _ _ _ rfl, IdealRules.named_const.statement _ _ _ _ _ rfl⟩

end Cert.Proof.Fwd
-- ==== Proof.FwdTrip.lean ====
/- One trip of the forward attention's loop over the reals: each block's sums move one chunk of keys on. -/
module

public import proofs.«01_k».proof.Proof.AttnStart
public import proofs.«01_k».proof.Proof.AttnEnd
public import proofs.«01_k».proof.Proof.FwdBody

@[expose] public section

set_option maxRecDepth 16384

noncomputable section

open Idealize.ShloMosaic Idealize.ShloMosaic.TcCoe
open Cert.Proof.Attn
open Cert.Proof.LN (coe_sum)
open Cert.AttnKIdeal.Hand (col hdl hdh head_col lanes_lo lanes_hi key Meets from_ from_add pick hA hC hA_at hC_at DQ_at IsSum cutB cutB_at qrow qrow_row row en en_le en_near en_in msk msk_at wQ cast_k sel_if)
namespace Cert.FwdKIdeal.Hand
open Cert.FwdKIdeal Cert.FwdKIdeal.Gen

theorem mask_bot : Named.named (F := Ideal) κ "mask" (φ := .f32) 0xF149F2CA#32 = ⊥ := rfl

/-- The scores of a block of queries against a chunk, the masked ones at the mask's value. -/
def Zf (q : FVec Ideal S128x128 .bf16) (M : IVec S128x384 1) (k : FVec Ideal S384x128 .bf16) : FVec Ideal S128x384 .f32 :=
  select M (matmul dot_S128x128_S384x128_S128x384_1_1_0_0_n_n none q k (constant S128x384 .f32 0x00000000#32)) (broadcast S128x384 (Named.named κ "mask" 0xF149F2CA#32))

theorem Zf_at {P : Fin 128 → Fin 384 → Prop} [∀ p c, Decidable (P p c)] {q : FVec Ideal S128x128 .bf16} {M : IVec S128x384 1} {k : FVec Ideal S384x128 .bf16} {Q : Fin 128 → Fin 128 → ℝ} {K : Fin 384 → Fin 128 → ℝ}
    (hq : ∀ p l, q (ix2 p l) = (Q p l : EReal)) (hk : ∀ c l, k (ix2 c l) = (K c l : EReal)) (hM : ∀ p c, M (ix2 p c) = if P p c then 1#1 else 0#1)
    (p : Fin 128) (c : Fin 384) : Zf q M k (ix2 p c) = if P p c then ((∑ l, Q p l * K c l : ℝ) : EReal) else ⊥ := by
  pointwise [Zf]
  simp only [hq, hk, hM, ← EReal.coe_mul, coe_sum, mask_bot, sel_if]

theorem offs : ∀ (i : grid0.Coords) (b : Fin 4) (n : Fin 11), k0_off1 i (BitVec.ofNat 32 n.val) (BitVec.ofNat 32 b.val) = ![en (i 1).val b.val (n.val + 1), 0] := by
  decide +kernel

theorem early_off (x : Ideal .f32) : (Scalar.extui (Scalar.cmpf .ole x (Named.named κ "dead" 0x42D20000#32)) : BitVec 32) = 1#32 := by
  have h : Scalar.cmpf .ole x (Named.named κ "dead" (φ := .f32) 0x42D20000#32 : Ideal .f32) = 1#1 := by
    show (BitVec.ofBool (decide (x ≤ (⊤ : EReal)))) = 1#1
    simp
  rw [h]; rfl

/-- A chunk of the keys or the values. -/
theorem load_at (m : Memref sig .tc .vmem S4096x128 .bf16) (h : m.IsWhole) (x : Vec Ideal S4096x128 .bf16) {st : ℕ} (hst : st + 384 ≤ 4096) {off : Fin 2 → ℕ}
    (inb : ∀ a : Fin 2, off a + S384x128.size a ≤ S4096x128.size a) (ho : off = ![st, 0]) (c : Fin 384) (l : Fin 128) :
    View.readAt (Elt Ideal) m.view (Rect.unit (s := S4096x128) off S384x128.size inb).toLoadRect (h.unread x) (ix2 c l) = x (ix2 (key st hst c) l) := by
  subst ho
  refine (congrFun (h.read_unread x) _).trans (congrArg x (funext fun a => Fin.ext ?_))
  fin_cases a
  · show st + 1 * c.val = st + c.val; omega
  · show 0 + 1 * l.val = l.val; omega

variable (Q K V : Fin 4096 → Fin 512 → ℝ) (r : Fin 4) (i : Fin 8)

/-- The running sums of a block that has met the keys from `E` on: both heads' carries and the weighted values. -/
structure RunOK (T : Fin 128 → Fin 4096) (E : ℕ) (C0 C1 A : FVec Ideal S128x128 .f32) : Prop where
  c0 : ∀ p l, C0 (ix2 p l) = ((from_ (fun u => if u.val < (T p).val then sp (z Q K (hdl r) (T p) u) else 0) E : ℝ) : EReal)
  c1 : ∀ p l, C1 (ix2 p l) = ((from_ (fun u => if u.val < (T p).val then sp (z Q K (hdh r) (T p) u) else 0) E : ℝ) : EReal)
  a : ∀ p l, A (ix2 p l) = ((from_ (fun u => att Q K (head (col r l)) (T p) u * V u (col r l)) E : ℝ) : EReal)

/-- What the loop's record keeps. -/
structure CstOK (a : Cc0While1 Ideal) : Prop where
  hi : (a.i 1).val = i.val
  q0 : ∀ t l, a.v13 (ix2 t l) = ((if l.val < 64 then Q (qrow i t) (col r l) * (1 / 8) else 0 : ℝ) : EReal)
  q1 : ∀ t l, a.v15 (ix2 t l) = ((if l.val < 64 then 0 else Q (qrow i t) (col r l) * (1 / 8) : ℝ) : EReal)
  u : IsSum 0 a.v7
  half : a.v5 = Cert.AttnKIdeal.Gen.k0_pay6
  rows : ∀ p, a.v40 (ix2 p 0) = BitVec.ofNat 32 p.val
  cols : ∀ p c, a.v39 (ix2 p c) = BitVec.ofNat 32 c.val
  go : a.arg11 = 1#32

/-- The loop's record after `n` chunks. -/
structure StOK (n : ℕ) (a : Cc0While1 Ideal) : Prop where
  cst : CstOK Q r i a
  cnt : a.arg10 = BitVec.ofNat 32 n
  r0 : RunOK Q K V r (row i 0) (en i.val 0 n) a.arg12 a.arg13 a.arg14
  r1 : RunOK Q K V r (row i 1) (en i.val 1 n) a.arg15 a.arg16 a.arg17
  r2 : RunOK Q K V r (row i 2) (en i.val 2 n) a.arg18 a.arg19 a.arg20
  r3 : RunOK Q K V r (row i 3) (en i.val 3 n) a.arg21 a.arg22 a.arg23

section Block
variable {Q K V r} {T : Fin 128 → Fin 4096} {st E : ℕ} (hsE : st ≤ E) (hE : E ≤ st + 384) (hst : st + 384 ≤ 4096)
  {w0 w1 : FVec Ideal S128x128 .bf16} (h0 : ∀ p l, w0 (ix2 p l) = ((if l.val < 64 then Q (T p) (col r l) * (1 / 8) else 0 : ℝ) : EReal))
  (h1 : ∀ p l, w1 (ix2 p l) = ((if l.val < 64 then 0 else Q (T p) (col r l) * (1 / 8) : ℝ) : EReal))
  {C0 C1 A : FVec Ideal S128x128 .f32} (hr : RunOK Q K V r T E C0 C1 A) {U : FVec Ideal S256x256 .bf16} (hU : IsSum 0 U)
  {M : IVec S128x384 1} (hM : ∀ p c, M (ix2 p c) = if Meets T st E p c then 1#1 else 0#1)
  {k v : FVec Ideal S384x128 .bf16} (hk : ∀ c l, k (ix2 c l) = (K (key st hst c) (col r l) : EReal))
  (hv : ∀ c l, v (ix2 c l) = (V (key st hst c) (col r l) : EReal))

include h0 hM hk in
theorem x0_at (p : Fin 128) (c : Fin 384) : Zf w0 M k (ix2 p c) = if Meets T st E p c then ((z Q K (hdl r) (T p) (key st hst c) : ℝ) : EReal) else ⊥ := by
  refine (Zf_at h0 hk hM p c).trans (if_congr Iff.rfl (congrArg _ ?_) rfl)
  refine (lanes_lo r (fun x => Q (T p) x * (1 / 8)) (K (key st hst c))).trans ?_
  rw [z, hsum, hsum, Finset.sum_mul]
  exact Finset.sum_congr rfl fun d _ => by ring
include h1 hM hk in
theorem x1_at (p : Fin 128) (c : Fin 384) : Zf w1 M k (ix2 p c) = if Meets T st E p c then ((z Q K (hdh r) (T p) (key st hst c) : ℝ) : EReal) else ⊥ := by
  refine (Zf_at h1 hk hM p c).trans (if_congr Iff.rfl (congrArg _ ?_) rfl)
  refine (lanes_hi r (fun x => Q (T p) x * (1 / 8)) (K (key st hst c))).trans ?_
  rw [z, hsum, hsum, Finset.sum_mul]
  exact Finset.sum_congr rfl fun d _ => by ring

include h0 h1 hM hk hv hr hU hE hsE in
theorem run_step : RunOK Q K V r T st (hC U C0 (Zf w0 M k)) (hC U C1 (Zf w1 M k))
    (Cert.AttnKIdeal.Gen.k0_pay294 Cert.AttnKIdeal.Gen.k0_pay6 A v (hA U C0 (Zf w0 M k)) (hA U C1 (Zf w1 M k))) where
  c0 := hC_at Q K hsE hE hst _ hU (x0_at hst h0 hM hk) hr.c0
  c1 := hC_at Q K hsE hE hst _ hU (x1_at hst h1 hM hk) hr.c1
  a := fun p l => by
    refine (DQ_at (hA_at Q K hE hst _ hU (x0_at hst h0 hM hk) hr.c0) (hA_at Q K hE hst _ hU (x1_at hst h1 hM hk) hr.c1) hr.a hv p l).trans (congrArg _ ?_)
    rw [← from_add hsE hE hst]
    refine congrArg _ (Finset.sum_congr rfl fun c _ => ?_)
    rw [pick hst (fun H u => att Q K H (T p) u) l c, ite_mul, zero_mul]
end Block

variable {Q K V r i} {n : ℕ} {a : Cc0While1 Ideal} (h : StOK Q K V r i n a) (hn : n < 11) (hg : going a = 1#1) (hk : k0_chk1 a.i a.arg10)
  (c : Dev nD) {xk xv : Vec Ideal S4096x128 .bf16} (hK : ∀ t l, xk (ix2 t l) = (K t (col r l) : EReal)) (hV : ∀ t l, xv (ix2 t l) = (V t (col r l) : EReal))

/-- A block's mask, chunk of keys and chunk of values at a record. -/
def mskOf (a : Cc0While1 Ideal) (b : Fin 4) : IVec S128x384 1 := msk (BitVec.ofNat 32 b.val) a.v40 a.v39 a.arg10 (wQ (a.i 1).val)
def kOf (xk : Vec Ideal S4096x128 .bf16) (b : Fin 4) : FVec Ideal S384x128 .bf16 :=
  Cert.AttnKIdeal.Gen.k0_pay48 (View.readAt (Elt Ideal) a.arg3.view (Rect.unit (s := S4096x128) (k0_off1 a.i a.arg10 (BitVec.ofNat 32 b.val)) S384x128.size (k0_off1_inb a.i a.arg10 hk b)).toLoadRect (a.harg3.unread xk))
def vOf (xv : Vec Ideal S4096x128 .bf16) (b : Fin 4) : FVec Ideal S384x128 .bf16 :=
  Cert.AttnKIdeal.Gen.k0_pay48 (View.readAt (Elt Ideal) a.arg4.view (Rect.unit (s := S4096x128) (k0_off1 a.i a.arg10 (BitVec.ofNat 32 b.val)) S384x128.size (k0_off1_inb a.i a.arg10 hk b)).toLoadRect (a.harg4.unread xv))

include h hn
theorem off_at (b : Fin 4) : k0_off1 a.i a.arg10 (BitVec.ofNat 32 b.val) = ![en i.val b.val (n + 1), 0] := by
  rw [h.cnt, ← h.cst.hi]
  exact offs a.i b ⟨n, hn⟩

theorem mskOf_at (b : Fin 4) (p : Fin 128) (q : Fin 384) : mskOf a b (ix2 p q) = if Meets (row i b) (en i.val b.val (n + 1)) (en i.val b.val n) p q then 1#1 else 0#1 := by
  unfold mskOf
  rw [h.cnt, h.cst.hi]
  exact msk_at h.cst.rows h.cst.cols i b ⟨n, hn⟩ p q

include hK in
theorem kOf_at (b : Fin 4) (q : Fin 384) (l : Fin 128) : kOf hk xk b (ix2 q l) = (K (key (en i.val b.val (n + 1)) (en_in _ _ _ i.isLt b.isLt) q) (col r l) : EReal) :=
  (cast_k _ q l).trans <| (load_at a.arg3 a.harg3 xk (en_in _ _ _ i.isLt b.isLt) (k0_off1_inb a.i a.arg10 hk b) (off_at h hn b) q l).trans (hK _ l)
include hV in
theorem vOf_at (b : Fin 4) (q : Fin 384) (l : Fin 128) : vOf hk xv b (ix2 q l) = (V (key (en i.val b.val (n + 1)) (en_in _ _ _ i.isLt b.isLt) q) (col r l) : EReal) :=
  (cast_k _ q l).trans <| (load_at a.arg4 a.harg4 xv (en_in _ _ _ i.isLt b.isLt) (k0_off1_inb a.i a.arg10 hk b) (off_at h hn b) q l).trans (hV _ l)

omit hn in
theorem q0_at (b : Fin 4) (p l : Fin 128) : cutB a.v13 b (ix2 p l) = ((if l.val < 64 then Q (row i b p) (col r l) * (1 / 8) else 0 : ℝ) : EReal) := by
  rw [cutB_at, h.cst.q0, qrow_row]
omit hn in
theorem q1_at (b : Fin 4) (p l : Fin 128) : cutB a.v15 b (ix2 p l) = ((if l.val < 64 then 0 else Q (row i b p) (col r l) * (1 / 8) : ℝ) : EReal) := by
  rw [cutB_at, h.cst.q1, qrow_row]

include hK hV hg hk in
set_option maxHeartbeats 1000000 in
theorem st_step : StOK Q K V r i (n + 1) (nxt c xk xv a) := by
  rw [nxt_of_going c xk xv a hg hk]
  have step := fun (b : Fin 4) {C0 C1 A : FVec Ideal S128x128 .f32} (hr : RunOK Q K V r (row i b) (en i.val b.val n) C0 C1 A) =>
    run_step (en_le i.val b.val n) (en_near _ _ _) (en_in _ _ _ i.isLt b.isLt) (q0_at h b) (q1_at h b) hr h.cst.u (mskOf_at h hn b) (kOf_at h hn hk hK b) (vOf_at h hn hk hV b)
  have s0 := step 0 h.r0
  have s1 := step 1 h.r1
  have s2 := step 2 h.r2
  have s3 := step 3 h.r3
  rw [← h.cst.half] at s0 s1 s2 s3
  refine ⟨⟨h.cst.hi, h.cst.q0, h.cst.q1, h.cst.u, h.cst.half, h.cst.rows, h.cst.cols, early_off _⟩, ?_, s0, s1, s2, s3⟩
  show Scalar.addi a.arg10 1#32 = _
  rw [h.cnt]; exact (BitVec.ofNat_add n 1).symm

end Cert.FwdKIdeal.Hand
end
-- ==== Proof.FwdPoint.lean ====
/- A point of the forward attention: its loop meets every key, and its blocks are the attention's output and the normalised rows. -/
module

public import proofs.«01_k».proof.Proof.FwdTrip
public import Idealize.ShloMosaic.Lib.Pipeline.ValueKit

@[expose] public section

set_option maxRecDepth 16384

noncomputable section

open Idealize.ShloMosaic Idealize.ShloMosaic.TcCoe
open Cert.Proof.Attn
open Cert.AttnKIdeal.Hand (col hdl hdh key from_ from_top from_zero row_lt IsSum qrow row en bit_and lit_eighth GS GS_at)
open Cert.PobKIdeal.Hand (rs yn msq rsqrt_msq lit_eps lit_inv64)
namespace Cert.FwdKIdeal.Hand
open Cert.FwdKIdeal Cert.FwdKIdeal.Gen

/-- A loop that goes on is within its trips and in bounds; one that stops has met every key. -/
theorem chk_of_going : ∀ (i : grid0.Coords) (n : Fin 12), IntOp.cmpi .slt (BitVec.ofNat 32 n.val) (nTrips i) = 1#1 → n.val < 11 ∧ k0_chk1 i (BitVec.ofNat 32 n.val) := by
  decide +kernel
theorem en_of_not : ∀ (i : grid0.Coords) (n : Fin 12), IntOp.cmpi .slt (BitVec.ofNat 32 n.val) (nTrips i) ≠ 1#1 → 128 * (4 * (i 1).val + 4) ≤ 384 * n.val := by
  decide +kernel

variable {Q K V : Fin 4096 → Fin 512 → ℝ} {r : Fin 4} {i : Fin 8} {a : Cc0While1 Ideal}
  (c : Dev nD) {xk xv : Vec Ideal S4096x128 .bf16} (hK : ∀ t l, xk (ix2 t l) = (K t (col r l) : EReal)) (hV : ∀ t l, xv (ix2 t l) = (V t (col r l) : EReal))

theorem going_iff {n : ℕ} (h : StOK Q K V r i n a) : going a = 1#1 ↔ IntOp.cmpi .slt (BitVec.ofNat 32 n) (nTrips a.i) = 1#1 := by
  unfold going
  rw [h.cnt, h.cst.go]
  show (IntOp.cmpi .slt (BitVec.ofNat 32 n) (nTrips a.i)) &&& 1#1 = 1#1 ↔ _
  exact bit_and _

include hK hV in
theorem st_iter (h : StOK Q K V r i 0 a) : ∀ k : ℕ, ∃ n ≤ 11, StOK Q K V r i n ((nxt c xk xv)^[k] a) ∧ (going ((nxt c xk xv)^[k] a) = 1#1 → n = k)
  | 0 => ⟨0, by omega, h, fun _ => rfl⟩
  | k + 1 => by
    obtain ⟨n, hn, hs, hk⟩ := st_iter h k
    rw [Function.iterate_succ_apply']
    by_cases hg : going ((nxt c xk xv)^[k] a) = 1#1
    · have hb := chk_of_going ((nxt c xk xv)^[k] a).i ⟨n, by omega⟩ ((going_iff hs).mp hg)
      refine ⟨n + 1, hb.1, st_step hs hb.1 hg ?_ c hK hV, fun _ => by rw [hk hg]⟩
      rw [hs.cnt]; exact hb.2
    · rw [nxt_of_not c xk xv _ hg]
      exact ⟨n, hn, hs, fun hh => absurd hh hg⟩

include hK hV in
theorem st_end (h : StOK Q K V r i 0 a) : ∃ n, (∀ b : Fin 4, en i.val b.val n = 0) ∧ StOK Q K V r i n ((nxt c xk xv)^[11] a) := by
  obtain ⟨n, hn, hs, hk⟩ := st_iter c hK hV h 11
  refine ⟨n, fun b => ?_, hs⟩
  have hg : ¬ IntOp.cmpi .slt (BitVec.ofNat 32 n) (nTrips ((nxt c xk xv)^[11] a).i) = 1#1 := fun hg => by
    have h1 := hk ((going_iff hs).mpr hg)
    have h2 := (chk_of_going _ ⟨n, by omega⟩ hg).1
    simp only at h2
    omega
  have := en_of_not _ ⟨n, by omega⟩ hg
  rw [hs.cst.hi] at this
  simp only at this
  unfold en
  omega

theorem run_start (b : Fin 4) {w : FVec Ideal S128x128 .f32} (hw : ∀ p l, w (ix2 p l) = ((0 : ℝ) : EReal)) : RunOK Q K V r (row i b) (en i.val b.val 0) w w w where
  c0 := fun p l => (hw p l).trans (congrArg _ (from_top _ _ fun u hu => if_neg (by have := row_lt i b p; omega)).symm)
  c1 := fun p l => (hw p l).trans (congrArg _ (from_top _ _ fun u hu => if_neg (by have := row_lt i b p; omega)).symm)
  a := fun p l => (hw p l).trans (congrArg _ (from_top _ _ fun u hu => by unfold att; rw [if_neg (by have := row_lt i b p; omega), zero_mul]).symm)

/-! ## The entry and the exit -/

/-- The loop's record at its entry. -/
def rec0 (i : grid0.Coords) (M : Mems) (y2 : Vec Ideal S512x128 .bf16) (y6 : Vec Ideal S256x256 .bf16) : Cc0While1 Ideal :=
  ⟨i, iota .tc S128x1 32 [0] iota_S128x1_d0_w32, iota .tc S128x384 32 [1] iota_S128x384_d1_w32, M.a3, M.h3, k0_pay7 y2, k0_pay8 y2, k0_pay5 y6, M.a4, M.h4, k0_pay4, 0#32, 1#32,
    k0_pay9, k0_pay9, k0_pay9, k0_pay9, k0_pay9, k0_pay9, k0_pay9, k0_pay9, k0_pay9, k0_pay9, k0_pay9, k0_pay9⟩

/-- The record after the loop, the output's block and the normalised block. -/
def fin (c : Dev nD) (i : grid0.Coords) (M : Mems) (x3 x4 : Vec Ideal S4096x128 .bf16) (y2 : Vec Ideal S512x128 .bf16) (y6 : Vec Ideal S256x256 .bf16) : Cc0While1 Ideal :=
  (nxt c x3 x4)^[11] (rec0 i M y2 y6)
def oOf (a : Cc0While1 Ideal) : FVec Ideal S512x128 .f32 := k0_pay1 a.arg14 a.arg17 a.arg20 a.arg23
def yOf (a : Cc0While1 Ideal) (g : Vec Ideal S1x128 .f32) : FVec Ideal S512x128 .bf16 := k0_pay2 k0_pay3 a.arg14 a.arg17 a.arg20 a.arg23 g

section Runs
variable (c : Dev nD) (i : grid0.Coords) (M : Mems) (x : Blks Ideal)
abbrev FIN : Cc0While1 Ideal := fin c i M x.x3 x.x4 x.x2 x.x6
/-- The same of the blocks as the body loads them. -/
abbrev FINL : Cc0While1 Ideal := fin c i M x.x3 x.x4
  (M.a2.view.readAt (Elt Ideal) (Rect.unit ![0, 0] S512x128.size inb_S512x128_S512x128_0_0).toLoadRect (M.h2.unread x.x2))
  (M.a6.view.readAt (Elt Ideal) (Rect.unit ![0, 0] S256x256.size inb_S256x256_S256x256_0_0).toLoadRect (M.h6.unread x.x6))
theorem FINL_eq : FINL c i M x = FIN c i M x := by
  unfold FINL FIN
  rw [load_whole, load_whole]
theorem bodyA_o8 : (bodyA c i M x).1 = oOf (FIN c i M x) := Eq.trans (rfl) (congrArg oOf (FINL_eq c i M x))
theorem bodyA_o9 : (bodyA c i M x).2.1 = yOf (FIN c i M x) x.x5 := by
  refine Eq.trans (b := yOf (FINL c i M x) (M.a5.view.readAt (Elt Ideal) (Rect.unit ![0, 0] S1x128.size inb_S1x128_S1x128_0_0).toLoadRect (M.h5.unread x.x5))) (rfl) ?_
  rw [load_whole, FINL_eq]
end Runs

section Ends
variable {ti : Fin 8} {y2 : Vec Ideal S512x128 .bf16} (hq : ∀ t l, y2 (ix2 t l) = (Q (qrow ti t) (col r l) : EReal)) {y6 : Vec Ideal S256x256 .bf16} (h6 : IsSum 0 y6)
  {j : grid0.Coords} (hi : (j 1).val = ti.val) (M : Mems)

theorem scaled_at (t : Fin 512) (l : Fin 128) (x : ℝ) (h : y2 (ix2 t l) = (x : EReal)) : k0_pay6 y2 (ix2 t l) = ((x * (1 / 8) : ℝ) : EReal) := by
  pointwise [k0_pay6]
  rw [h, lit_eighth, ← EReal.coe_mul]

include hq h6 hi in
theorem start_ok : StOK Q K V r ti 0 (rec0 j M y2 y6) where
  cst := {
    hi := hi
    q0 := fun t l => by
      show k0_pay7 y2 (ix2 t l) = _
      pointwise [k0_pay7, k0_pay3]
      simp only [Cert.PobKIdeal.Hand.mask, scaled_at t l _ (hq t l)]
      split
      · rfl
      · exact EReal.coe_zero.symm
    q1 := fun t l => by
      show k0_pay8 y2 (ix2 t l) = _
      pointwise [k0_pay8, k0_pay3]
      simp only [Cert.PobKIdeal.Hand.mask, scaled_at t l _ (hq t l)]
      split
      · exact EReal.coe_zero.symm
      · rfl
    u := fun j s => by
      show k0_pay5 y6 (ix2 j s) = _
      pointwise [k0_pay5]
      exact h6 j s
    half := rfl
    rows := fun p => by
      show iota .tc S128x1 32 [0] iota_S128x1_d0_w32 (ix2 p 0) = _
      pointwise []
    cols := fun p c => by
      show iota .tc S128x384 32 [1] iota_S128x384_d1_w32 (ix2 p c) = _
      pointwise []
    go := rfl }
  cnt := rfl
  r0 := run_start 0 fun _ _ => Cert.PobKIdeal.Hand.lit_zero
  r1 := run_start 1 fun _ _ => Cert.PobKIdeal.Hand.lit_zero
  r2 := run_start 2 fun _ _ => Cert.PobKIdeal.Hand.lit_zero
  r3 := run_start 3 fun _ _ => Cert.PobKIdeal.Hand.lit_zero

include hq h6 hi hK hV
/-- A tile's block of the attention's output. -/
theorem fin_o (t : Fin 512) (l : Fin 128) : oOf (fin c j M xk xv y2 y6) (ix2 t l) = (out Q K V (qrow ti t) (col r l) : EReal) := by
  obtain ⟨n, hn, h⟩ := st_end c hK hV (start_ok (Q := Q) (K := K) (V := V) hq h6 hi M)
  have q := fun (b : Fin 4) {C0 C1 A : FVec Ideal S128x128 .f32} (hr : RunOK Q K V r (row ti b) (en ti.val b.val n) C0 C1 A) (p : Fin 128) (ht : t.val = 128 * b.val + p.val) =>
    show A (ix2 p l) = (out Q K V (qrow ti t) (col r l) : EReal) by
      rw [hr.a, hn b, from_zero, show row ti b p = qrow ti t from Fin.ext (by simp only [row, qrow]; omega)]
      rfl
  change StOK Q K V r ti n (fin c j M xk xv y2 y6) at h
  pointwise [oOf, k0_pay1]
  split
  · exact q 0 h.r0 _ (by simp)
  split
  · exact q 1 h.r1 _ (by simp; omega)
  split
  · exact q 2 h.r2 _ (by simp; omega)
  · exact q 3 h.r3 _ (by simp; omega)

/-- A tile's block of the normalised rows. -/
theorem fin_y {y5 : Vec Ideal S1x128 .f32} {G : Fin 512 → ℝ} (h5 : ∀ l, y5 (ix2 0 l) = (G (col r l) : EReal)) (t : Fin 512) (l : Fin 128) :
    yOf (fin c j M xk xv y2 y6) y5 (ix2 t l) = ((yn (out Q K V (qrow ti t)) (col r l) * G (col r l) : ℝ) : EReal) := by
  have ho := fin_o c hK hV hq h6 hi M
  have e := GS_at r (x := mulf (oOf (fin c j M xk xv y2 y6)) (oOf (fin c j M xk xv y2 y6))) (X := fun t k => out Q K V (qrow ti t) k * out Q K V (qrow ti t) k)
    (fun p l => by
      have u : mulf (oOf (fin c j M xk xv y2 y6)) (oOf (fin c j M xk xv y2 y6)) (ix2 p l) = oOf (fin c j M xk xv y2 y6) (ix2 p l) * oOf (fin c j M xk xv y2 y6) (ix2 p l) := rfl
      rw [u, ho, ← EReal.coe_mul]) t l
  have b : broadcastTo S512x128 y5 broadcasts_S1x128_S512x128 (ix2 t l) = y5 (ix2 0 l) := by pointwise []
  have u : yOf (fin c j M xk xv y2 y6) y5 (ix2 t l) = oOf (fin c j M xk xv y2 y6) (ix2 t l)
      * Ideal.rsqrt (GS (mulf (oOf (fin c j M xk xv y2 y6)) (oOf (fin c j M xk xv y2 y6))) (ix2 t l) * Ideal.ofBits .f32 0x3C800000#32 + Ideal.ofBits .f32 0x358637BD#32)
      * broadcastTo S512x128 y5 broadcasts_S1x128_S512x128 (ix2 t l) := rfl
  rw [u, b, h5, e, ho, lit_inv64, lit_eps, ← EReal.coe_mul, ← EReal.coe_add]
  have v := rsqrt_msq (out Q K V (qrow ti t)) (col r l)
  unfold msq at v
  rw [mul_one_div, v, ← EReal.coe_mul, ← EReal.coe_mul]
  rfl
end Ends

end Cert.FwdKIdeal.Hand
end
-- ==== Proof.FwdRef.lean ====
/- The reference of the forward attention, over the arguments' real numbers. -/
module

public import proofs.«01_k».proof.Proof.AttnRef
public import proofs.«01_k».proof.Proof.Gen.FwdRIdeal.Read

@[expose] public section

set_option maxRecDepth 16384

noncomputable section

open Idealize.ShloMosaic Idealize.ShloMosaic.TcCoe Idealize.SL.Sem
open Cert.Proof.LN (coe_sum div_coe)
open Cert.Proof.Attn (third oo)
open Cert.PobKIdeal.Hand (mem mem_self gsum_mem rs_mem msq rs yn lit_64 lit_eps rsqrt_msq)

namespace Cert.Proof.Fwd

open Cert.FwdRIdeal Cert.FwdRIdeal.Read

variable {x0 : FVec Ideal S4096x1536 .f32} {x1 : FVec Ideal S1x512 .f32} {x2 : FVec Ideal S4096x1024 .f32} {X : Fin 4096 → Fin 1536 → ℝ} {g : Fin 512 → ℝ}
  (h0 : ∀ t k, x0 (ix2 t k) = (X t k : EReal)) (h1 : ∀ u q, x1 (ix2 u q) = (g q : EReal))

theorem ref_low (p : Fin 4096) (q : Fin 512) : val_main_v47 (F := Ideal) x0 x1 x2 (ix2 p ⟨q.val, by omega⟩) = x2 (ix2 p ⟨q.val, by omega⟩) := by
  pointwise [val_main_v47, val_main_v46, val_main_v31]

include h0
/-- The attention's output. -/
theorem ref_o (t : Fin 4096) (l : Fin 512) : val_main_v30 (F := Ideal) x0 (ix2 t l) = (oo X t l : EReal) :=
  Eq.trans (b := Cert.AttnRIdeal.Read.val_main_v30 (F := Ideal) x0 (ix2 t l)) (rfl)
    (Cert.Proof.Attn.v30_at (x1 := fun _ => ((0 : ℝ) : EReal)) (x2 := fun _ => ((0 : ℝ) : EReal)) (g := fun _ => 0) (Y := fun _ _ => 0) ⟨h0, fun _ _ => rfl, fun _ _ => rfl⟩ t l)

theorem v32_at (p : Fin 4096) (a : Fin 8) (j : Fin 64) : val_main_v32 (F := Ideal) x0 (ix3 p a j) = (oo X p (mem a j) : EReal) := by
  pointwise [val_main_v32]
  exact ref_o h0 _ _

theorem v39_at (p : Fin 4096) (a : Fin 8) (u : Fin 1) : val_main_v39 (F := Ideal) x0 (ix3 p a u) = (msq (oo X p) (mem a 0) : EReal) := by
  pointwise [val_main_v39, val_main_v38, val_main_v37, val_main_v36, val_main_v35, val_main_v34, val_main_v33, val_main_cst_2, val_main_cst_3, val_main_cst_4]
  simp only [v32_at h0, lit_64, lit_eps, ← EReal.coe_mul, coe_sum, div_coe _ 64 (by norm_num), ← EReal.coe_add]
  unfold msq
  rw [gsum_mem]

include h1
/-- The normalised rows. -/
theorem ref_high (p : Fin 4096) (q : Fin 512) : val_main_v47 (F := Ideal) x0 x1 x2 (ix2 p ⟨512 + q.val, by omega⟩) = ((yn (oo X p) q * g q : ℝ) : EReal) := by
  have e : val_main_v43 (F := Ideal) x0 (ix2 p q) = (yn (oo X p) q : EReal) := by
    pointwise [val_main_v43, val_main_v42, val_main_v41, val_main_v40]
    rw [v32_at h0, v39_at h0, rsqrt_msq, ← EReal.coe_mul, ← rs_mem _ _ ⟨q.val % 64, by omega⟩]
    exact congrArg (fun q => (yn (oo X p) q : EReal)) (mem_self q)
  pointwise [val_main_v47, val_main_v46, val_main_v45, val_main_v44]
  rw [e, h1, ← EReal.coe_mul]

end Cert.Proof.Fwd
end
-- ==== Proof.FwdValue.lean ====
/- The attention's forward call: what the kernel leaves is the reference's results, of finite rows and gains. -/
module

public import proofs.«01_k».proof.Defs
public import proofs.«01_k».proof.Proof.Gen.Pre_fwd_finite
public import proofs.«01_k».proof.Proof.AttnHost
public import proofs.«01_k».proof.Proof.FwdPoint
public import proofs.«01_k».proof.Proof.FwdRef
public import proofs.«01_k».proof.Proof.FwdClaims
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Proof.LN (real_of_pre)
open Cert.Proof.Attn (third oo)
open Cert.AttnKIdeal.Hand (IsSum qrow col upper_sum)
open Cert.PobKIdeal.Hand (yn)

namespace Cert.FwdKIdeal.Hand

open Cert.FwdKIdeal Cert.FwdKIdeal.Gen

/-- The windows' block indices. -/
theorem idx : ∀ t : Fin (cfg0 (F := Ideal)).N, win0_0.index t = ![t.val % 8, t.val / 8] ∧ win0_1.index t = ![0, 4 + t.val / 8] ∧ win0_2.index t = ![0, 8 + t.val / 8]
    ∧ win0_3.index t = ![0, t.val / 8] ∧ win0_4.index t = ![0, 0] ∧ win0_5.index t = ![t.val % 8, t.val / 8] ∧ win0_6.index t = ![t.val % 8, 4 + t.val / 8] :=
  (by decide +kernel : ∀ t : Fin grid0.N, _)

theorem lt32 (t : Fin (cfg0 (F := Ideal)).N) : t.val < 32 := by
  have h : (cfg0 (F := Ideal)).N = 32 := N_0
  omega

/-- A point's pair of heads and tile of queries. -/
def pr (t : Fin (cfg0 (F := Ideal)).N) : Fin 4 := ⟨t.val / 8, by have := lt32 t; omega⟩
def ti (t : Fin (cfg0 (F := Ideal)).N) : Fin 8 := ⟨t.val % 8, by omega⟩

theorem coord1 (t : Fin (cfg0 (F := Ideal)).N) : (grid0.coords t 1).val = (ti t).val :=
  (by decide +kernel : ∀ t : Fin grid0.N, (grid0.coords t 1).val = t.val % 8) t

/-- The right half's column. -/
def high (l : Fin 512) : Fin 1024 := ⟨512 + l.val, by omega⟩

/-- Where a point's blocks of the results lie. -/
theorem row_at5 (t : Fin (cfg0 (F := Ideal)).N) (y : S512x128.Idx) : (((cfg0 (F := Ideal)).win 5).blk t).view.emb y = ix2 (qrow (ti t) (y 0)) (col (pr t) (y 1)) := by
  blk_ext [idx t] <;> simp only [qrow, col, ti, pr] <;> omega
theorem row_at6 (t : Fin (cfg0 (F := Ideal)).N) (y : S512x128.Idx) : (((cfg0 (F := Ideal)).win 6).blk t).view.emb y = ix2 (qrow (ti t) (y 0)) (high (col (pr t) (y 1))) := by
  blk_ext [idx t] <;> simp only [high, qrow, col, ti, pr] <;> omega

theorem read4 (A : FVec Ideal S256x256 .bf16) (t : Fin (cfg0 (F := Ideal)).N) (p l : Fin 256) :
    (((cfg0 (F := Ideal)).win 4).blk t).view.read (Elt Ideal) A (ix2 p l) = A (ix2 p l) := by
  blk_point [idx t]

variable (m : (ℓ : Loc nD τ sig) → Buf (Elt Ideal) ℓ)

theorem V_main_v0 (c : Dev nD) : V m c main_v0 = truncf (F := Ideal) .bf16 (m ((c : Thread nD τ).loc main_arg0)) bitsLt_bf16_f32 := by
  unfold V
  entry_read
  rfl
theorem V_main_v10_1 (c : Dev nD) : V m c main_v10_1 = truncf (F := Ideal) .bf16 (m ((c : Thread nD τ).loc main_arg2)) bitsLt_bf16_f32 := by
  unfold V
  entry_read
  rfl
theorem V_main_v9 (c : Dev nD) : V m c main_v9
    = uitofp (F := Ideal) .bf16 (ori Cert.AttnKIdeal.Hand.upper (cmpi .sgt Cert.AttnKIdeal.Hand.rem (iotaInDim S256x256 32 1))) := (rfl)

theorem blk4 (c : Dev nD) (t : Fin (cfg0 (F := Ideal)).N) : IsSum 0 (iblk m c 4 t) := by
  intro j s
  refine (read4 _ t j s).trans ?_
  exact (congrFun (V_main_v9 m c) _).trans (upper_sum j s)

variable {X : Fin 4096 → Fin 1536 → ℝ} {g : Fin 512 → ℝ} {c : Dev nD}
  (h0 : ∀ t k, m ((c : Thread nD τ).loc main_arg0) (ix2 t k) = (X t k : EReal)) (h1 : ∀ u q, m ((c : Thread nD τ).loc main_arg1) (ix2 u q) = (g q : EReal))

include h0 in
theorem blk0 (t : Fin (cfg0 (F := Ideal)).N) (p : Fin 512) (l : Fin 128) : iblk m c 0 t (ix2 p l) = (third X 0 (qrow (ti t) p) (col (pr t) l) : EReal) := by
  refine Eq.trans ?_ (h0 _ _)
  blk_point [iblk, V_main_v0, idx t]
  all_goals (simp only [qrow, col, ti, pr]; omega)

include h0 in
theorem blk1 (t : Fin (cfg0 (F := Ideal)).N) (p : Fin 4096) (l : Fin 128) : iblk m c 1 t (ix2 p l) = (third X 1 p (col (pr t) l) : EReal) := by
  refine Eq.trans ?_ (h0 _ _)
  blk_point [iblk, V_main_v0, idx t]
  all_goals (simp only [qrow, col, ti, pr]; omega)

include h0 in
theorem blk2 (t : Fin (cfg0 (F := Ideal)).N) (p : Fin 4096) (l : Fin 128) : iblk m c 2 t (ix2 p l) = (third X 2 p (col (pr t) l) : EReal) := by
  refine Eq.trans ?_ (h0 _ _)
  blk_point [iblk, V_main_v0, idx t]
  show (8 + t.val / 8) * 128 + l.val = 2 * 512 + (128 * (t.val / 8) + l.val)
  omega

include h1 in
theorem blk3 (t : Fin (cfg0 (F := Ideal)).N) (l : Fin 128) : iblk m c 3 t (ix2 0 l) = (g (col (pr t) l) : EReal) := by
  refine Eq.trans ?_ (h1 0 _)
  blk_point [iblk, V_main_arg1, idx t]
  all_goals (simp only [col, pr]; omega)

include h0 in
theorem o_at (t : Fin (cfg0 (F := Ideal)).N) (p : Fin 512) (l : Fin 128) : (runAt m c t).1 (ix2 p l) = (oo X (qrow (ti t) p) (col (pr t) l) : EReal) :=
  (congrFun (bodyA_o8 c _ _ (blksAt m c t)) _).trans (fin_o c (blk1 m h0 t) (blk2 m h0 t) (blk0 m h0 t) (blk4 m c t) (coord1 t) _ p l)

include h0 h1 in
theorem y_at (t : Fin (cfg0 (F := Ideal)).N) (p : Fin 512) (l : Fin 128) :
    (runAt m c t).2.1 (ix2 p l) = ((yn (oo X (qrow (ti t) p)) (col (pr t) l) * g (col (pr t) l) : ℝ) : EReal) :=
  (congrFun (bodyA_o9 c _ _ (blksAt m c t)) _).trans (fin_y c (blk1 m h0 t) (blk2 m h0 t) (blk0 m h0 t) (blk4 m c t) (coord1 t) _ (blk3 m h1 t) p l)

include h0 in
/-- The kernel's results are the reference's. -/
theorem final5 : (dats m 0 c).arrAt 5 (cfgs (F := Ideal) 0).N = Cert.FwdRIdeal.Read.val_main_v30 (F := Ideal) (m ((c : Thread nD τ).loc main_arg0)) := by
  refine (dats m 0 c).arrAt_eq_of_covers 5 _ (by decide +kernel) fun t _ y => ?_
  blk_simp
  rw [after0_5, row_at5, eq_ix2 y]
  exact (o_at m h0 t _ _).trans (Cert.Proof.Fwd.ref_o h0 _ _).symm

include h0 h1 in
theorem final6 : (dats m 0 c).arrAt 6 (cfgs (F := Ideal) 0).N
    = Cert.FwdRIdeal.Read.val_main_v47 (F := Ideal) (m ((c : Thread nD τ).loc main_arg0)) (m ((c : Thread nD τ).loc main_arg1)) (m ((c : Thread nD τ).loc main_arg2)) := by
  refine (dats m 0 c).arrAt_eq_of_coversWhere_of_agree 6 _ (fun β => 4 ≤ β 1) (by decide +kernel) (fun t _ y => ?_) (fun j hj => ?_)
  · blk_simp
    rw [after0_6, row_at6, eq_ix2 y]
    exact (y_at m h0 h1 t _ _).trans (Cert.Proof.Fwd.ref_high h0 h1 _ _).symm
  · blk_simp [Pipeline.Window.cell_apply] at hj
    have k : ∀ (p : Fin 4096) (q : Fin 1024), q.val < 512 → V m c main_v10_1 (ix2 p q) = Cert.FwdRIdeal.Read.val_main_v47 (F := Ideal)
        (m ((c : Thread nD τ).loc main_arg0)) (m ((c : Thread nD τ).loc main_arg1)) (m ((c : Thread nD τ).loc main_arg2)) (ix2 p q) := fun p q hq =>
      (congrFun (V_main_v10_1 m c) _).trans (Cert.Proof.Fwd.ref_low (x0 := m ((c : Thread nD τ).loc main_arg0)) (x1 := m ((c : Thread nD τ).loc main_arg1)) p ⟨q.val, hq⟩).symm
    rw [A_eq]
    have e : ((cfg0 (F := Ideal)).win 6).arr.view.emb j = (ix2 (j 0) (j 1) : S4096x1024.Idx) := by
      funext a
      fin_cases a <;> rfl
    exact (congrArg _ e).trans ((k (j 0) (j 1) (by omega)).trans (congrArg _ e).symm)

end Cert.FwdKIdeal.Hand

namespace Cert.Proof.Fwd

/-- The precondition gives the real numbers the rows and the gains hold. -/
theorem reals {m : (ℓ : Loc Cert.FwdKIdeal.nD Cert.FwdKIdeal.τ Cert.FwdKIdeal.sig) → Buf (Elt Ideal) ℓ} (h : Cert.Pre_FwdKIdeal_fwd_finite m) (c : Dev Cert.FwdKIdeal.nD) :
    ∃ (X : Fin 4096 → Fin 1536 → ℝ) (g : Fin 512 → ℝ),
      (∀ t k, m ((c : Thread Cert.FwdKIdeal.nD Cert.FwdKIdeal.τ).loc Cert.FwdKIdeal.main_arg0) (ix2 t k) = (X t k : EReal))
      ∧ ∀ u q, m ((c : Thread Cert.FwdKIdeal.nD Cert.FwdKIdeal.τ).loc Cert.FwdKIdeal.main_arg1) (ix2 u q) = (g q : EReal) := by
  obtain ⟨h0, h1⟩ := h c
  exact ⟨_, fun k => _, fun t k => real_of_pre h0 (fun _ => rfl) _, fun u q => by rw [Subsingleton.elim u 0]; exact real_of_pre h1 (fun _ => rfl) _⟩

theorem frame_ideal_pre : Cert.quiescent_FwdKIdeal_pre_fwd_finite := fun m ρ _ => frame_ideal m ρ trivial
theorem frame_ref_pre : Cert.quiescent_FwdRIdeal_pre_fwd_finite := fun m ρ _ => frame_ref m ρ trivial

set_option maxHeartbeats 2000000 in
theorem algebraic : Cert.algebraic_FwdKIdeal_FwdRIdeal_pre_fwd_finite := by
  pair_intro
  · run_from Cert.FwdKIdeal.Hand.run_main m g
    · exact Cert.FwdKIdeal.Hand.V_main_arg0 m _
    · exact Cert.FwdKIdeal.Hand.V_main_arg2 m _
  · refine θ_run_mono (Cert.FwdRIdeal.Value.run m' g') fun s hs c => ?_
    obtain ⟨X, γ, h0, h1⟩ := reals hpre c
    obtain ⟨e0, e1, e2⟩ := hagree c
    obtain ⟨a5, a6, a⟩ := hs c
    refine ⟨a5.trans ?_, a6.trans ?_, a⟩
    · exact (Cert.FwdRIdeal.Read.val_main_v30_eq _ _).trans (.trans (by rw [e0]) (Cert.FwdKIdeal.Hand.final5 m h0).symm)
    · exact (Cert.FwdRIdeal.Read.val_main_v47_eq _ _).trans (.trans (by rw [e0, e1, e2]) (Cert.FwdKIdeal.Hand.final6 m h0 h1).symm)

end Cert.Proof.Fwd
end
-- ==== Proof.Shards.lean ====
module

public import Idealize.ShloMosaic.Lib.Pipeline.ValueKit

@[expose] public section

/-! # Columns in eight shards

The products whose right factor comes in eight shards join their eight results along the columns: a column's value is its shard's. -/

namespace Cert.Proof

open Idealize.ShloMosaic

/-- The joined row at column `q`. -/
theorem shard_at {n : ℕ} (hn : n = 512 ∨ n = 384) (f : Fin 8 → Fin n → EReal) (q : ℕ) (hq : q < 8 * n) :
    (if h : q < n then f 0 ⟨q, h⟩ else if h : q - n < n then f 1 ⟨q - n, h⟩ else if h : q - n - n < n then f 2 ⟨q - n - n, h⟩
      else if h : q - n - n - n < n then f 3 ⟨q - n - n - n, h⟩ else if h : q - n - n - n - n < n then f 4 ⟨q - n - n - n - n, h⟩
      else if h : q - n - n - n - n - n < n then f 5 ⟨q - n - n - n - n - n, h⟩
      else if h : q - n - n - n - n - n - n < n then f 6 ⟨q - n - n - n - n - n - n, h⟩
      else f 7 ⟨q - n - n - n - n - n - n - n, by omega⟩)
    = f ⟨q / n, Nat.div_lt_of_lt_mul (by omega)⟩ ⟨q % n, Nat.mod_lt _ (by omega)⟩ := by
  rcases hn with rfl | rfl <;> (repeat' split) <;> (refine congr (congrArg f (Fin.ext ?_)) (Fin.ext ?_) <;> simp <;> omega)

end Cert.Proof
-- ==== Proof.UpValue.lean ====
/- The up projection with the squared ReLU: the array the kernel leaves is the reference's. -/
module

public import proofs.«01_k».proof.Defs
public import proofs.«01_k».proof.Proof.Gen.UpK.Frame
public import proofs.«01_k».proof.Proof.Gen.UpKIdeal.Frame
public import proofs.«01_k».proof.Proof.Gen.UpRIdeal.Read
public import proofs.«01_k».proof.Proof.Shards
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.UpKIdeal.Hand

open Cert.UpKIdeal Cert.UpKIdeal.Gen

variable (m : (ℓ : Loc nD τ sig) → Buf (Elt Ideal) ℓ)

abbrev REF (x : FVec Ideal S4096x1024 .f32) (w : FVec Ideal S8x1024x512 .f32) : FVec Ideal S4096x4096 .bf16 := Cert.UpRIdeal.Read.val_main_v5 (F := Ideal) x w

/-- The up projection of row `p`, its columns in shards. -/
def up (x : FVec Ideal S4096x1024 .f32) (w : FVec Ideal S8x1024x512 .f32) (p q : Fin 4096) : EReal :=
  ∑ k : Fin 1024, x (ix2 p k) * w (ix3 ⟨q.val / 512, by omega⟩ k ⟨q.val % 512, by omega⟩)

theorem ref_at (x : FVec Ideal S4096x1024 .f32) (w : FVec Ideal S8x1024x512 .f32) (i : S4096x4096.Idx) :
    REF x w i = max (up x w (i 0) (i 1)) 0 * max (up x w (i 0) (i 1)) 0 := by
  pointwise [REF, Cert.UpRIdeal.Read.val_main_v5, Cert.UpRIdeal.Read.val_main_v4, Cert.UpRIdeal.Read.val_main_v3, Cert.UpRIdeal.Read.val_main_v2,
    Cert.UpRIdeal.Read.val_main_v1, Cert.UpRIdeal.Read.val_main_v0, Cert.UpRIdeal.Read.val_main_call0_v0, Cert.UpRIdeal.Read.val_main_call0_cst]
  rfl

/-- The windows' block indices. -/
theorem idx : ∀ t : Fin cfg0.N, win0_0.index t = ![t.val, 0] ∧ win0_1.index t = ![0, 0, 0] ∧ win0_2.index t = ![t.val, 0] :=
  (by decide +kernel : ∀ t : Fin grid0.N, _)

theorem V_main_v0 (c : Dev nD) : V m c main_v0 = truncf (F := Ideal) .bf16 (m ((c : Thread nD τ).loc main_arg0)) bitsLt_bf16_f32 := by
  unfold V
  entry_read
  rfl
theorem V_main_v1 (c : Dev nD) : V m c main_v1 = truncf (F := Ideal) .bf16 (m ((c : Thread nD τ).loc main_arg1)) bitsLt_bf16_f32 := by
  unfold V
  entry_read
  rfl

/-- A block's row against a shard's column. -/
def dot (a : FVec Ideal S512x1024 .bf16) (b : FVec Ideal S8x1024x512 .bf16) (p : Fin 512) (s : Fin 8) (r : Fin 512) : EReal :=
  ∑ k : Fin 1024, a (ix2 p k) * b (ix3 s k r)

/-- A block of the result: the rectified products, squared. -/
theorem out_at (a : FVec Ideal S512x1024 .bf16) (b : FVec Ideal S8x1024x512 .bf16) (p : Fin 512) (q : Fin 4096) :
    out0_2 (F := Ideal) a b (ix2 p q) = (max (dot a b p ⟨q.val / 512, by omega⟩ ⟨q.val % 512, by omega⟩) 0 * max (dot a b p ⟨q.val / 512, by omega⟩ ⟨q.val % 512, by omega⟩) 0 : EReal) := by
  unfold out0_2
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21]
    refine congrArg (fun s : EReal => max s 0 * max s 0) ((Cert.Proof.shard_at (.inl rfl) (dot a b _) _ x1_lt).trans ?_)
    have hq : q.val = (x 1).val := h1
    congr 1
    · exact Fin.ext h0.symm
    · exact Fin.ext (by simp [hq])
    · exact Fin.ext (by simp [hq])

/-- What a grid point leaves in its block is the reference read at the block's place. -/
theorem point (c : Dev nD) (t : Fin cfg0.N) (y) :
    out0_2 (iblk m c 0 t) (iblk m c 1 t) y = REF (m ((c : Thread nD τ).loc main_arg0)) (m ((c : Thread nD τ).loc main_arg1)) (((cfg0.win 2).blk t).view.emb y) := by
  rw [eq_ix2 y, ref_at]
  refine (out_at _ _ _ _).trans ?_
  refine congrArg (fun s : EReal => max s 0 * max s 0) (Finset.sum_congr rfl fun k _ => ?_)
  blk_point [iblk, V_main_v0, V_main_v1, idx t]

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.UpKIdeal.Hand

namespace Cert.Proof.Up

theorem frame : Cert.quiescent_UpK := fun m ρ _ => Cert.UpK.Gen.frame m ρ
theorem frame_ideal : Cert.quiescent_UpKIdeal := fun m ρ _ => Cert.UpKIdeal.Gen.frame m ρ
theorem frame_ref : Cert.quiescent_UpRIdeal := fun m ρ _ =>
  (θ_run Cert.UpRIdeal.defs _ _).mono (fun r h => ⟨fun c => (h c).2, Idealize.ShloMosaic.sem_eq_zero_of_no_sems (by decide) r.2⟩)
    (Cert.UpRIdeal.Value.run (F := Ideal) m ρ)
theorem preserves : Cert.preserves_UpK_UpKIdeal := trivial

theorem algebraic : Cert.algebraic_UpKIdeal_UpRIdeal := by
  pair_intro
  · run_from Cert.UpKIdeal.Gen.run_main m g
  · run_from Cert.UpRIdeal.Value.run m' g'
    exact (Cert.UpKIdeal.Hand.final m c).symm

end Cert.Proof.Up

end
-- ==== Proof.OutValue.lean ====
/- The mixer's output projection with the residual and the first LayerNorm: what the kernel leaves is the reference's results. -/
module

public import proofs.«01_k».proof.Defs
public import proofs.«01_k».proof.Proof.Gen.OutK.Frame
public import proofs.«01_k».proof.Proof.Gen.OutKIdeal.Frame
public import proofs.«01_k».proof.Proof.Gen.OutRIdeal.Read
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutKIdeal.Hand

open Cert.OutKIdeal Cert.OutKIdeal.Gen

/-- The residual row: the input's, scaled, and the mixer's output against the weights. -/
def res (y : Fin 1024 → EReal) (w : Fin 1024 → Fin 1024 → EReal) (x : Fin 1024 → EReal) (q : Fin 1024) : EReal :=
  Ideal.ofBits .f32 0x3F9837F0#32 * x q + ∑ k, y k * w k q

/-- A row's mean. -/
def avg (f : Fin 1024 → EReal) : EReal := Ideal.div (∑ k, f k) (Ideal.ofBits .f32 0x44800000#32)

/-- A row's LayerNorm. -/
def norm (f g b : Fin 1024 → EReal) (q : Fin 1024) : EReal :=
  (f q - avg f) * Ideal.rsqrt (avg (fun k => (f k - avg f) * (f k - avg f)) + Ideal.ofBits .f32 0x3727C5AC#32) * g q + b q

theorem norm_row {f f' g g' b b' : Fin 1024 → EReal} (hf : f = f') (hg : g = g') (hb : b = b') (q : Fin 1024) : norm f g b q = norm f' g' b' q := by
  rw [hf, hg, hb]

section Reference
open Cert.OutRIdeal.Read
variable (y : FVec Ideal S4096x1024 .f32) (w : FVec Ideal S1024x1024 .f32) (x : FVec Ideal S4096x1024 .f32) (g b : FVec Ideal S1x1024 .f32)

/-- A row of the residual, of whole arrays. -/
def row (p : Fin 4096) : Fin 1024 → EReal := res (fun k => y (ix2 p k)) (fun k q => w (ix2 k q)) (fun q => x (ix2 p q))

theorem ref_r (p : Fin 4096) (q : Fin 1024) : val_main_v3 (F := Ideal) y w x (ix2 p q) = row y w x p q := by
  pointwise [val_main_v3, val_main_v2, val_main_v1, val_main_v0, val_main_cst]
  rfl

theorem ref_x (p : Fin 4096) (q : Fin 1024) : val_main_v25 (F := Ideal) y w x g b (ix2 p q) = norm (row y w x p) (fun k => g (ix2 0 k)) (fun k => b (ix2 0 k)) q := by
  have mu : ∀ u, val_main_v7 (F := Ideal) y w x (ix2 p u) = avg (row y w x p) := fun u => by
    pointwise [val_main_v7, val_main_v6, val_main_v5, val_main_v4, val_main_cst_0, val_main_cst_1]
    simp only [ref_r]
    rfl
  have v9 : ∀ k, val_main_v9 (F := Ideal) y w x (ix2 p k) = row y w x p k - avg (row y w x p) := fun k => by
    pointwise [val_main_v9, val_main_v8]
    rw [ref_r, mu]
  pointwise [val_main_v25, val_main_v24, val_main_v23, val_main_v22, val_main_v21, val_main_v20, val_main_v19, val_main_v18, val_main_v17, val_main_v16, val_main_v15,
    val_main_v14, val_main_v13, val_main_v12, val_main_v11, val_main_v10, val_main_cst_2, val_main_cst_3, val_main_cst_4]
  simp only [v9, mu, ref_r]
  rfl

end Reference

section Payloads
variable (a : FVec Ideal S256x1024 .bf16) (w : FVec Ideal S1024x1024 .bf16) (x : FVec Ideal S256x1024 .f32) (g b : FVec Ideal S1x1024 .f32)

theorem pay2_at (p : Fin 256) (q : Fin 1024) : k0_pay2 (F := Ideal) a w x (ix2 p q) = res (fun k => a (ix2 p k)) (fun k q => w (ix2 k q)) (fun q => x (ix2 p q)) q := by
  pointwise [k0_pay2]
  rfl

theorem pay5_at (p : Fin 256) (q : Fin 1024) : k0_pay5 (F := Ideal) (k0_pay1 a w) x (ix2 p q) = res (fun k => a (ix2 p k)) (fun k q => w (ix2 k q)) (fun q => x (ix2 p q)) q := by
  pointwise [k0_pay5, k0_pay1]
  rfl

theorem pay3_at (p : Fin 256) (q : Fin 1024) : k0_pay3 (F := Ideal) a w x g b (ix2 p q)
    = norm (res (fun k => a (ix2 p k)) (fun k q => w (ix2 k q)) (fun q => x (ix2 p q))) (fun k => g (ix2 0 k)) (fun k => b (ix2 0 k)) q := by
  pointwise [k0_pay3]
  simp only [pay2_at]
  rfl

theorem pay6_at (p : Fin 256) (q : Fin 1024) : k0_pay6 (F := Ideal) (k0_pay1 a w) x g b (ix2 p q)
    = norm (res (fun k => a (ix2 p k)) (fun k q => w (ix2 k q)) (fun q => x (ix2 p q))) (fun k => g (ix2 0 k)) (fun k => b (ix2 0 k)) q := by
  pointwise [k0_pay6]
  simp only [pay5_at]
  rfl

end Payloads

section Blocks
variable (a : FVec Ideal S512x1024 .bf16) (w : FVec Ideal S1024x1024 .bf16) (x : FVec Ideal S512x1024 .f32) (g b : FVec Ideal S1x1024 .f32)

/-- A row of the residual, of a point's blocks. -/
def brow (p : Fin 512) : Fin 1024 → EReal := res (fun k => a (ix2 p k)) (fun k q => w (ix2 k q)) (fun q => x (ix2 p q))

theorem low_row (z : Fin 256) : res (fun k => a (r0_0.idx (ix2 z k))) (fun k q => w (r0_1.idx (ix2 k q))) (fun q => x (r0_0.idx (ix2 z q)))
    = brow a w x ⟨z.val, by omega⟩ := by
  refine congr (congr (congrArg res (funext fun k => ?_)) (funext fun k => funext fun q => ?_)) (funext fun q => ?_) <;> pointwise []

theorem high_row (z : Fin 256) : res (fun k => a (r0_2.idx (ix2 z k))) (fun k q => w (r0_1.idx (ix2 k q))) (fun q => x (r0_2.idx (ix2 z q)))
    = brow a w x ⟨256 + z.val, by omega⟩ := by
  refine congr (congr (congrArg res (funext fun k => ?_)) (funext fun k => funext fun q => ?_)) (funext fun q => ?_) <;> pointwise []

theorem vec_row : (fun k : Fin 1024 => g (r0_3.idx (ix2 0 k))) = fun k => g (ix2 0 k) := by
  funext k
  pointwise []

theorem out5_at (p : Fin 512) (q : Fin 1024) : out0_5 (F := Ideal) a w x g b (ix2 p q) = brow a w x p q := by
  unfold_out out0_5
  canon_tiles z h
  · rw [eq_ix2 z]
    refine (pay5_at _ _ _ _ _).trans ((congrFun (high_row a w x _) _).trans ?_)
    exact congr (congrArg _ (Fin.ext h0.symm)) (Fin.ext h1.symm)
  · rw [eq_ix2 z]
    refine (pay2_at _ _ _ _ _).trans ((congrFun (low_row a w x _) _).trans ?_)
    exact congr (congrArg _ (Fin.ext h0.symm)) (Fin.ext h1.symm)

theorem out6_at (p : Fin 512) (q : Fin 1024) : out0_6 (F := Ideal) a w x g b (ix2 p q) = norm (brow a w x p) (fun k => g (ix2 0 k)) (fun k => b (ix2 0 k)) q := by
  unfold_out out0_6
  canon_tiles z h
  · rw [eq_ix2 z]
    refine (pay6_at _ _ _ _ _ _ _).trans ((norm_row ((high_row a w x _).trans (congrArg _ (Fin.ext h0.symm))) (vec_row g) (vec_row b) _).trans ?_)
    exact congrArg _ (Fin.ext h1.symm)
  · rw [eq_ix2 z]
    refine (pay3_at _ _ _ _ _ _ _).trans ((norm_row ((low_row a w x _).trans (congrArg _ (Fin.ext h0.symm))) (vec_row g) (vec_row b) _).trans ?_)
    exact congrArg _ (Fin.ext h1.symm)

/-- The narrowed copy's block is the row's. -/
theorem out7_at (p : Fin 512) (q : Fin 1024) : out0_7 (F := Ideal) a w x g b (ix2 p q) = norm (brow a w x p) (fun k => g (ix2 0 k)) (fun k => b (ix2 0 k)) q := by
  unfold_out out0_7
  canon_tiles z h
  · rw [eq_ix2 z]
    refine (pay6_at _ _ _ _ _ _ _).trans ((norm_row ((high_row a w x _).trans (congrArg _ (Fin.ext h0.symm))) (vec_row g) (vec_row b) _).trans ?_)
    exact congrArg _ (Fin.ext h1.symm)
  · rw [eq_ix2 z]
    refine (pay3_at _ _ _ _ _ _ _).trans ((norm_row ((low_row a w x _).trans (congrArg _ (Fin.ext h0.symm))) (vec_row g) (vec_row b) _).trans ?_)
    exact congrArg _ (Fin.ext h1.symm)

end Blocks

/-- The windows' block indices. -/
theorem idx : ∀ t : Fin cfg0.N, win0_0.index t = ![t.val, 0] ∧ win0_1.index t = ![0, 0] ∧ win0_2.index t = ![t.val, 0] ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ)

theorem V_main_v0 (c : Dev nD) : V m c main_v0 = truncf (F := Ideal) .bf16 (m ((c : Thread nD τ).loc main_arg0)) bitsLt_bf16_f32 := by
  unfold V
  entry_read
  rfl
theorem V_main_v1 (c : Dev nD) : V m c main_v1 = truncf (F := Ideal) .bf16 (m ((c : Thread nD τ).loc main_arg1)) bitsLt_bf16_f32 := by
  unfold V
  entry_read
  rfl

/-- The row of the arrays that a point's row is. -/
def place (t : Fin cfg0.N) (p : Fin 512) : Fin 4096 := ⟨t.val * 512 + p.val, by have h : cfg0.N = 8 := N_0; omega⟩

theorem brow_at (c : Dev nD) (t : Fin cfg0.N) (p : Fin 512) : brow (iblk m c 0 t) (iblk m c 1 t) (iblk m c 2 t) p
    = row (m ((c : Thread nD τ).loc main_arg0)) (m ((c : Thread nD τ).loc main_arg1)) (m ((c : Thread nD τ).loc main_arg2)) (place t p) := by
  refine congr (congr (congrArg res (funext fun k => ?_)) (funext fun k => funext fun q => ?_)) (funext fun q => ?_) <;>
    blk_point [iblk, V_main_v0, V_main_v1, V_main_arg2, idx t, place]

theorem gain_at (c : Dev nD) (t : Fin cfg0.N) : (fun k : Fin 1024 => (iblk m c 3 t (ix2 0 k) : EReal)) = fun k => m ((c : Thread nD τ).loc main_arg3) (ix2 0 k) := by
  funext k
  blk_point [iblk, V_main_arg3, idx t]
theorem shift_at (c : Dev nD) (t : Fin cfg0.N) : (fun k : Fin 1024 => (iblk m c 4 t (ix2 0 k) : EReal)) = fun k => m ((c : Thread nD τ).loc main_arg4) (ix2 0 k) := by
  funext k
  blk_point [iblk, V_main_arg4, idx t]

theorem row_at5 (t : Fin cfg0.N) (y : S512x1024.Idx) : ((cfg0.win 5).blk t).view.emb y = ix2 (place t (y 0)) (y 1) := by
  blk_ext [idx t] <;> simp only [place] <;> omega
theorem row_at6 (t : Fin cfg0.N) (y : S512x1024.Idx) : ((cfg0.win 6).blk t).view.emb y = ix2 (place t (y 0)) (y 1) := by
  blk_ext [idx t] <;> simp only [place] <;> omega
theorem row_at7 (t : Fin cfg0.N) (y : S512x1024.Idx) : ((cfg0.win 7).blk t).view.emb y = ix2 (place t (y 0)) (y 1) := by
  blk_ext [idx t] <;> simp only [place] <;> omega

/-- The result arrays after the run. -/
theorem final5 (c : Dev nD) : (dats m 0 c).arrAt 5 (cfgs 0).N
    = Cert.OutRIdeal.Read.val_main_v3 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, row_at5, eq_ix2 y]
  exact (out5_at _ _ _ _ _ _ _).trans ((congrFun (brow_at m c t _) _).trans (ref_r _ _ _ _ _).symm)

theorem final6 (c : Dev nD) : (dats m 0 c).arrAt 6 (cfgs 0).N
    = Cert.OutRIdeal.Read.val_main_v25 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6, row_at6, eq_ix2 y]
  exact (out6_at _ _ _ _ _ _ _).trans ((norm_row (brow_at m c t _) (gain_at m c t) (shift_at m c t) _).trans (ref_x _ _ _ _ _ _ _).symm)

theorem final7 (c : Dev nD) : (dats m 0 c).arrAt 7 (cfgs 0).N
    = Cert.OutRIdeal.Read.val_main_v26 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t _ y => ?_
  blk_simp
  rw [after0_7, row_at7, eq_ix2 y]
  exact (out7_at _ _ _ _ _ _ _).trans ((norm_row (brow_at m c t _) (gain_at m c t) (shift_at m c t) _).trans (ref_x _ _ _ _ _ _ _).symm)

end Cert.OutKIdeal.Hand

namespace Cert.Proof.Out

theorem frame : Cert.quiescent_OutK := fun m ρ _ => Cert.OutK.Gen.frame m ρ
theorem frame_ideal : Cert.quiescent_OutKIdeal := fun m ρ _ => Cert.OutKIdeal.Gen.frame m ρ
theorem frame_ref : Cert.quiescent_OutRIdeal := fun m ρ _ =>
  (θ_run Cert.OutRIdeal.defs _ _).mono (fun r h => ⟨fun c => (h c).2.2.2, Idealize.ShloMosaic.sem_eq_zero_of_no_sems (by decide) r.2⟩)
    (Cert.OutRIdeal.Value.run (F := Ideal) m ρ)
theorem preserves : Cert.preserves_OutK_OutKIdeal := trivial

theorem algebraic : Cert.algebraic_OutKIdeal_OutRIdeal := by
  pair_intro
  · run_from Cert.OutKIdeal.Gen.run_main m g
  · run_from Cert.OutRIdeal.Value.run m' g'
    exacts [(Cert.OutKIdeal.Hand.final5 m c).symm, (Cert.OutKIdeal.Hand.final6 m c).symm, (Cert.OutKIdeal.Hand.final7 m c).symm]

end Cert.Proof.Out

end
-- ==== Proof.InRef.lean ====
/- The input projection with the gated convolution and its groups' norm: the reference's results at an index. -/
module

public import proofs.«01_k».proof.Proof.Gen.InRIdeal.Read
public import Idealize.ShloMosaic.Lib.Pipeline.ValueKit

@[expose] public section

set_option maxRecDepth 16384

noncomputable section

open Idealize.ShloMosaic Idealize.ShloMosaic.TcCoe

namespace Cert.Proof.In

section Spec
variable (A : Fin 4096 → Fin 3072 → EReal) (w : Fin 3 → Fin 512 → EReal) (g : Fin 512 → EReal)

/-- Rows shifted down by `k`, zeros above. -/
def down (k : ℕ) (f : Fin 4096 → Fin 512 → EReal) (p : Fin 4096) (q : Fin 512) : EReal := if h : k ≤ p.val then f ⟨p.val - k, by omega⟩ q else 0

/-- A third of the gates. -/
def cut (k : Fin 3) (p : Fin 4096) (q : Fin 512) : EReal := A p ⟨512 * k.val + q.val, by omega⟩

/-- The convolution's input. -/
def ug (p : Fin 4096) (q : Fin 512) : EReal := cut A 1 p q * cut A 2 p q

/-- The gated causal convolution of three taps. -/
def gy (p : Fin 4096) (q : Fin 512) : EReal := cut A 0 p q * (w 2 q * ug A p q + w 1 q * down 1 (ug A) p q + w 0 q * down 2 (ug A) p q)

/-- The mean square of a column's group of 64, with the norm's epsilon. -/
def ms (Y : Fin 512 → EReal) (q : Fin 512) : EReal :=
  (∑ j : Fin 64, Y ⟨q.val / 64 * 64 + j.val, by omega⟩ * Y ⟨q.val / 64 * 64 + j.val, by omega⟩) * Ideal.ofBits .f32 0x3C800000#32 + Ideal.ofBits .f32 0x358637BD#32

/-- The normalised row. -/
def yn (Y : Fin 512 → EReal) (q : Fin 512) : EReal := Y q * Ideal.rsqrt (ms Y q) * g q

end Spec

open Cert.InRIdeal Cert.InRIdeal.Read

variable (x : FVec Ideal S4096x1024 .f32) (v : FVec Ideal S8x1024x384 .f32) (w : FVec Ideal S3x512 .f32) (g : FVec Ideal S1x512 .f32)

/-- The projection, its columns in shards. -/
def pr (p : Fin 4096) (q : Fin 3072) : EReal := ∑ k : Fin 1024, x (ix2 p k) * v (ix3 ⟨q.val / 384, by omega⟩ k ⟨q.val % 384, by omega⟩)

/-- The gated rows before the norm. -/
abbrev GY : Fin 4096 → Fin 512 → EReal := gy (pr x v) (fun k q => w (ix2 k q))

theorem v2_at (p : Fin 4096) (q : Fin 3072) : val_main_v2 (F := Ideal) x v (ix2 p q) = pr x v p q := by
  pointwise [val_main_v2, val_main_v1, val_main_v0]
  rfl

theorem v47_at (p : Fin 4096) (q : Fin 1536) : val_main_v47 (F := Ideal) x v (ix2 p q) = pr x v p ⟨q.val, by omega⟩ := by
  pointwise [val_main_v47]
  exact (v2_at x v _ _).trans (congrArg _ (Fin.ext (by simp)))

theorem v49_at (p : Fin 4096) (q : Fin 1536) : val_main_v49 (F := Ideal) x v (ix2 p q) = pr x v p ⟨1536 + q.val, by omega⟩ := by
  pointwise [val_main_v49, val_main_v48]
  exact (v2_at x v _ _).trans (congrArg _ (Fin.ext (by simp)))

theorem v4_at (p : Fin 4096) (q : Fin 512) : val_main_v4 (F := Ideal) x v (ix2 p q) = cut (pr x v) 0 p q := by
  pointwise [val_main_v4, val_main_v3]
  exact (v2_at x v _ _).trans (congrArg _ (Fin.ext (by simp)))

theorem v7_at (p : Fin 4096) (q : Fin 512) : val_main_v7 (F := Ideal) x v (ix2 p q) = ug (pr x v) p q := by
  pointwise [val_main_v7, val_main_v6, val_main_v5, val_main_v3]
  refine congr (congrArg _ ((v2_at x v _ _).trans (congrArg _ (Fin.ext ?_)))) ((v2_at x v _ _).trans (congrArg _ (Fin.ext ?_))) <;> simp

theorem v12_at (p : Fin 4096) (q : Fin 512) : val_main_v12 (F := Ideal) x v (ix2 p q) = down 2 (ug (pr x v)) p q := by
  pointwise [val_main_v12, val_main_v9, val_main_v8, val_main_cst]
  unfold down
  split
  · rw [dif_neg (by omega)]
  · rw [dif_pos (by omega)]
    exact v7_at x v _ _

theorem v20_at (p : Fin 4096) (q : Fin 512) : val_main_v20 (F := Ideal) x v (ix2 p q) = down 1 (ug (pr x v)) p q := by
  pointwise [val_main_v20, val_main_v9, val_main_v8, val_main_cst]
  unfold down
  split
  · rw [dif_neg (by omega)]
  · rw [dif_pos (by omega)]
    exact (v7_at x v _ _).trans (congrArg (fun p => ug (pr x v) p q) (Fin.ext (by dsimp only; omega)))

theorem v27_at (p : Fin 4096) (q : Fin 512) : val_main_v27 (F := Ideal) x v (ix2 p q) = ug (pr x v) p q := by
  pointwise [val_main_v27, val_main_v9, val_main_v8, val_main_cst]
  rw [v7_at]

theorem v32_at (p : Fin 4096) (q : Fin 512) : val_main_v32 (F := Ideal) x v w (ix2 p q) = GY x v w p q := by
  pointwise [val_main_v32, val_main_v31, val_main_v30, val_main_v29, val_main_v28, val_main_v26, val_main_v25, val_main_v24, val_main_v23, val_main_v22, val_main_v21,
    val_main_v19, val_main_v18, val_main_v17, val_main_v16, val_main_v15, val_main_v14, val_main_v13, val_main_v11, val_main_v10, val_main_cst_0]
  rw [v4_at, v12_at, v20_at, v27_at]
  exact congrArg (cut (pr x v) 0 p q * ·) ((add_comm _ _).trans ((congrArg _ (add_comm _ _)).trans (add_assoc _ _ _).symm))

theorem v33_at (p : Fin 4096) (a : Fin 8) (j : Fin 64) : val_main_v33 (F := Ideal) x v w (ix3 p a j) = GY x v w p ⟨a.val * 64 + j.val, by omega⟩ := by
  pointwise [val_main_v33]
  exact v32_at x v w _ _

/-- Dividing by 64 is multiplying by its reciprocal. -/
theorem div64 (a : EReal) : Ideal.div a (Ideal.ofBits .f32 0x42800000#32) = a * Ideal.ofBits .f32 0x3C800000#32 := by
  have h : Ideal.ofBits .f32 0x42800000#32 = ((64 : ℝ) : EReal) := by simp [Ideal.ofBits, Ideal.ieee, -EReal.coe_mul]; norm_num
  have k : Ideal.ofBits .f32 0x3C800000#32 = ((1 / 64 : ℝ) : EReal) := by simp [Ideal.ofBits, Ideal.ieee, -EReal.coe_mul]; norm_num
  rw [h, k, Ideal.div, if_neg (by exact_mod_cast (by norm_num : (64 : ℝ) ≠ 0)), ← EReal.coe_inv, one_div]

theorem v46_at (p : Fin 4096) (q : Fin 512) : val_main_v46 (F := Ideal) x v w g (ix2 p q) = yn (fun q => g (ix2 0 q)) (GY x v w p) q := by
  pointwise [val_main_v46, val_main_v45, val_main_v44, val_main_v43, val_main_v42, val_main_v41, val_main_v40, val_main_v39, val_main_v38, val_main_v37, val_main_v36,
    val_main_v35, val_main_v34, val_main_cst_1, val_main_cst_2, val_main_cst_3]
  simp only [v33_at]
  have h : (⟨q.val / 64 * 64 + q.val % 64, by omega⟩ : Fin 512) = q := Fin.ext (by dsimp only; omega)
  rw [div64, h]
  rfl

end Cert.Proof.In

end
-- ==== Proof.InValue.lean ====
/- The input projection with the gated convolution and its groups' norm: what the kernel leaves is the reference's results. -/
module

public import proofs.«01_k».proof.Proof.InRef
public import proofs.«01_k».proof.Proof.Gen.InKIdeal.Frame
public import proofs.«01_k».proof.Proof.Shards
public import proofs.«01_k».proof.Proof.Gen.InK.Frame
public import proofs.«01_k».proof.Defs
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Proof.In

namespace Cert.InKIdeal.Hand

open Cert.InKIdeal Cert.InKIdeal.Gen

/-- Row `p` of the `b`-th 256 rows. -/
def row (b : Fin 16) (p : Fin 256) : Fin 4096 := ⟨b.val * 256 + p.val, by omega⟩

/-- Lane `l` of block `k`. -/
abbrev lane (k : Fin 4) (l : Fin 128) : Fin 512 := ⟨128 * k.val + l.val, by omega⟩

section Rows
variable {A : Fin 4096 → Fin 3072 → EReal} {b : Fin 16} {P : FVec Ideal S256x3072 .f32} {T : Vec Ideal S8x512 .f32} (w : Vec Ideal S3x512 .f32)
  (hP : ∀ p q, P (ix2 p q) = A (row b p) q)

/-- The rows with the eight above them, rolled down. -/
theorem shift_at (b : Fin 16) (p : Fin 256) (q : Fin 512) (k : ℕ) (hk : k = 1 ∨ k = 2) :
    (if h : (8 + p.val + 264 - k) % 264 < 8 then down 8 (ug A) (row b ⟨(8 + p.val + 264 - k) % 264, by omega⟩) q
      else ug A (row b ⟨(8 + p.val + 264 - k) % 264 - 8, by omega⟩) q) = down k (ug A) (row b p) q := by
  unfold down
  split
  · by_cases h : k ≤ b.val * 256 + p.val
    · refine (dif_pos (by simp only [row]; omega)).trans (.trans ?_ (dif_pos h).symm)
      exact congrArg (fun p => ug A p q) (Fin.ext (by simp only [row]; omega))
    · rw [dif_neg (by simp only [row]; omega), dif_neg (show ¬k ≤ (row b p).val from h)]
  · rw [dif_pos (by simp only [row]; omega)]
    exact congrArg (fun p => ug A p q) (Fin.ext (by simp only [row]; omega))

include hP

theorem ug_at (p : Fin 256) (q : Fin 512) : k0_pay45 (F := Ideal) P (ix2 p q) = ug A (row b p) q := by
  pointwise [k0_pay45]
  refine congr (congrArg _ ((hP _ _).trans (congrArg _ (Fin.ext ?_)))) ((hP _ _).trans (congrArg _ (Fin.ext ?_))) <;> simp

/-- The last eight rows, kept for the rows below. -/
theorem tail_at (a : Fin 8) (q : Fin 512) : k0_pay46 (F := Ideal) P (ix2 a q) = ug A ⟨b.val * 256 + 248 + a.val, by omega⟩ q := by
  pointwise [k0_pay46]
  exact (ug_at hP _ _).trans (congrArg (fun p => ug A p q) (Fin.ext (by simp only [row]; omega)))

theorem conv_at (hT : ∀ (a : Fin 8) (q : Fin 512), T (ix2 a q) = down 8 (ug A) (row b ⟨a.val, by omega⟩) q) (p : Fin 256) (q : Fin 512) :
    k0_pay47 (F := Ideal) P T w (ix2 p q) = gy A (fun k q => w (ix2 k q)) (row b p) q := by
  pointwise [k0_pay47]
  simp only [ug_at hP, hP, hT]
  rw [shift_at b p q 1 (.inl rfl), shift_at b p q 2 (.inr rfl)]
  unfold gy cut
  exact congrArg (fun q => A (row b p) q * _) (Fin.ext (by simp))

theorem gates_at (z : S256x1536.Idx) {r : Fin 4096} {q : Fin 1536} (hr : r.val = b.val * 256 + (z 0).val) (hq : q.val = (z 1).val) :
    k0_pay41 (F := Ideal) P z = A r ⟨q.val, by omega⟩ := by
  refine (congrArg _ (eq_ix2 z)).trans ?_
  pointwise [k0_pay41]
  exact (hP _ _).trans (congr (congrArg A (Fin.ext hr.symm)) (Fin.ext (by simp [hq])))

theorem qkv_at (z : S256x1536.Idx) {r : Fin 4096} {q : Fin 1536} (hr : r.val = b.val * 256 + (z 0).val) (hq : q.val = (z 1).val) :
    k0_pay42 (F := Ideal) P z = A r ⟨1536 + q.val, by omega⟩ := by
  refine (congrArg _ (eq_ix2 z)).trans ?_
  pointwise [k0_pay42]
  exact (hP _ _).trans (congr (congrArg A (Fin.ext hr.symm)) (Fin.ext (by simp [hq])))

end Rows

section Norm

/-- The sum over a lane's group, from both halves of a block of lanes. -/
def GS (x : FVec Ideal S256x128 .f32) : FVec Ideal S256x128 .f32 :=
  select k0_pay48
    (broadcastTo S256x128 (shapeCast S256x1 (shapeCast S256x1 (multiReduction .add [1] S256 (select k0_pay48 x (broadcast S256x128 (Scalar.ofBits (F := Ideal) .f32 0x00000000#32))) 0x00000000#32 reduces_S256x128_S256 (.inl rfl) rfl) shapeCasts_S256_S256x1) shapeCasts_S256x1_S256x1) broadcasts_S256x1_S256x128)
    (broadcastTo S256x128 (shapeCast S256x1 (shapeCast S256x1 (multiReduction .add [1] S256 (select k0_pay48 (broadcast S256x128 (Scalar.ofBits (F := Ideal) .f32 0x00000000#32)) x) 0x00000000#32 reduces_S256x128_S256 (.inl rfl) rfl) shapeCasts_S256_S256x1) shapeCasts_S256x1_S256x1) broadcasts_S256x1_S256x128)

/-- A block of normalised lanes. -/
def YB (z : FVec Ideal S256x128 .f32) (g : FVec Ideal S1x128 .f32) : FVec Ideal S256x128 .bf16 :=
  truncf .bf16 (mulf (mulf z (rsqrt (addf (mulf (GS (mulf z z)) (broadcast S256x128 (Scalar.ofBits (F := Ideal) .f32 0x3C800000#32))) (broadcast S256x128 (Scalar.ofBits (F := Ideal) .f32 0x358637BD#32)))))
    (broadcastTo S256x128 g broadcasts_S1x128_S256x128)) bitsLt_bf16_f32

theorem mask (l : Fin 128) (a b : EReal) : Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide
  rw [h]
  split <;> rfl

theorem GS_at {x : FVec Ideal S256x128 .f32} {X : Fin 512 → EReal} {p : Fin 256} (k : Fin 4) (h : ∀ l, x (ix2 p l) = X (lane k l)) (l : Fin 128) :
    GS x (ix2 p l) = ∑ j : Fin 64, X ⟨(lane k l).val / 64 * 64 + j.val, by omega⟩ := by
  pointwise [GS, k0_pay48]
  simp only [mask, h]
  rw [Fin.sum_univ_add (a := 64) (b := 64), Fin.sum_univ_add (a := 64) (b := 64)]
  have e : ∑ j : Fin 64, X ⟨(lane k l).val / 64 * 64 + j.val, by omega⟩ = if l.val < 64 then ∑ j : Fin 64, X (lane k (Fin.castAdd 64 j)) else ∑ j : Fin 64, X (lane k (Fin.natAdd 64 j)) := by
    split <;> refine Finset.sum_congr rfl fun j _ => congrArg X (Fin.ext ?_) <;> simp <;> omega
  rw [e]
  by_cases hl : l.val < 64 <;> simp [hl]

variable {Z : FVec Ideal S256x512 .f32} {Y : Fin 256 → Fin 512 → EReal} (g : Vec Ideal S1x512 .f32)

theorem YB_at {z : FVec Ideal S256x128 .f32} {γ : FVec Ideal S1x128 .f32} (k : Fin 4) (h : ∀ p l, z (ix2 p l) = Y p (lane k l))
    (hg : ∀ l, γ (ix2 0 l) = g (ix2 0 (lane k l))) (p : Fin 256) (l : Fin 128) : YB z γ (ix2 p l) = yn (fun q => g (ix2 0 q)) (Y p) (lane k l) := by
  have e := GS_at (x := mulf z z) (X := fun q => Y p q * Y p q) (p := p) k (fun l => by pointwise []; rw [h])
  pointwise [YB]
  rw [e, h, hg]
  rfl

variable (h : ∀ p q, Z (ix2 p q) = Y p q)
include h

theorem lane0 (p : Fin 256) (l : Fin 128) : k0_pay49 (F := Ideal) Z k0_pay48 g (ix2 p l) = yn (fun q => g (ix2 0 q)) (Y p) (lane 0 l) := by
  refine .trans (show _ = YB (extractStridedSlice S256x128 ![0, 0] Z slices_S256x512_o0_0_S256x128) (extractStridedSlice S1x128 ![0, 0] g slices_S1x512_o0_0_S1x128) (ix2 p l) from rfl)
    (YB_at g 0 (fun p l => ?_) (fun l => ?_) p l) <;> pointwise []
  · exact (h _ _).trans (congrArg _ (Fin.ext (by simp)))
  · exact congrArg (fun q => g (ix2 0 q)) (Fin.ext (by simp))

theorem lane1 (p : Fin 256) (l : Fin 128) : k0_pay54 (F := Ideal) k0_pay48 g (k0_pay50 Z) (k0_pay52 Z k0_pay48) (k0_pay53 Z k0_pay48) (ix2 p l) = yn (fun q => g (ix2 0 q)) (Y p) (lane 1 l) := by
  refine .trans (show _ = YB (extractStridedSlice S256x128 ![0, 128] Z slices_S256x512_o0_128_S256x128) (extractStridedSlice S1x128 ![0, 128] g slices_S1x512_o0_128_S1x128) (ix2 p l) from rfl)
    (YB_at g 1 (fun p l => ?_) (fun l => ?_) p l) <;> pointwise []
  · exact (h _ _).trans (congrArg _ (Fin.ext (by simp)))
  · exact congrArg (fun q => g (ix2 0 q)) (Fin.ext (by simp))

theorem lane2 (p : Fin 256) (l : Fin 128) : k0_pay55 (F := Ideal) Z k0_pay48 g (ix2 p l) = yn (fun q => g (ix2 0 q)) (Y p) (lane 2 l) := by
  refine .trans (show _ = YB (extractStridedSlice S256x128 ![0, 256] Z slices_S256x512_o0_256_S256x128) (extractStridedSlice S1x128 ![0, 256] g slices_S1x512_o0_256_S1x128) (ix2 p l) from rfl)
    (YB_at g 2 (fun p l => ?_) (fun l => ?_) p l) <;> pointwise []
  · exact (h _ _).trans (congrArg _ (Fin.ext (by simp)))
  · exact congrArg (fun q => g (ix2 0 q)) (Fin.ext (by simp))

theorem lane3 (p : Fin 256) (l : Fin 128) : k0_pay1 (F := Ideal) Z k0_pay48 g (ix2 p l) = yn (fun q => g (ix2 0 q)) (Y p) (lane 3 l) := by
  refine .trans (show _ = YB (extractStridedSlice S256x128 ![0, 384] Z slices_S256x512_o0_384_S256x128) (extractStridedSlice S1x128 ![0, 384] g slices_S1x512_o0_384_S1x128) (ix2 p l) from rfl)
    (YB_at g 3 (fun p l => ?_) (fun l => ?_) p l) <;> pointwise []
  · exact (h _ _).trans (congrArg _ (Fin.ext (by simp)))
  · exact congrArg (fun q => g (ix2 0 q)) (Fin.ext (by simp))

omit h in
theorem tile {A : Fin 4096 → Fin 3072 → EReal} {w : Vec Ideal S3x512 .f32} {b : Fin 16} {y : FVec Ideal S256x128 .bf16} (k : Fin 4)
    (e : ∀ p l, y (ix2 p l) = yn (fun q => g (ix2 0 q)) (gy A (fun k q => w (ix2 k q)) (row b p)) (lane k l)) (z : S256x128.Idx) {r : Fin 4096} {q : Fin 512}
    (hr : r.val = b.val * 256 + (z 0).val) (hq : q.val = 128 * k.val + (z 1).val) : y z = yn (fun q => g (ix2 0 q)) (gy A (fun k q => w (ix2 k q)) r) q := by
  rw [eq_ix2 z]
  exact (e _ _).trans (congr (congrArg (fun r => yn _ (gy A _ r)) (Fin.ext hr.symm)) (Fin.ext hq.symm))

end Norm

variable (m : (ℓ : Loc nD τ sig) → Buf (Elt Ideal) ℓ)

/-- A shard of the weights. -/
abbrev shard (v : FVec Ideal S8x1024x384 .bf16) (j : ℕ) (h : ∀ a, (![j, 0, 0] : Fin 3 → ℕ) a + (![1, 1024, 384] : Fin 3 → ℕ) a ≤ S8x1024x384.size a) : FVec Ideal S1x1024x384 .bf16 :=
  View.ld (Val := Elt Ideal) (S := S8x1024x384) (e' := .bf16) v (Rect.unit ![j, 0, 0] ![1, 1024, 384] h)

/-- The product of the first 256 rows of a block by the eight shards. -/
abbrev PA (x : FVec Ideal S512x1024 .f32) (v : FVec Ideal S8x1024x384 .bf16) : FVec Ideal S256x3072 .f32 :=
  let r : FVec Ideal S256x1024 .f32 := View.ld (Val := Elt Ideal) (S := S512x1024) (e' := .f32) x (Rect.unit ![0, 0] ![256, 1024] inb_S512x1024_S256x1024_0_0)
  k0_pay11 (k0_pay2 r) (k0_pay3 r (shard v 0 inb_S8x1024x384_S1x1024x384_0_0_0))
    (k0_pay4 r (shard v 1 inb_S8x1024x384_S1x1024x384_1_0_0)) (k0_pay5 r (shard v 2 inb_S8x1024x384_S1x1024x384_2_0_0)) (k0_pay6 r (shard v 3 inb_S8x1024x384_S1x1024x384_3_0_0))
    (k0_pay7 r (shard v 4 inb_S8x1024x384_S1x1024x384_4_0_0)) (k0_pay8 r (shard v 5 inb_S8x1024x384_S1x1024x384_5_0_0)) (k0_pay9 r (shard v 6 inb_S8x1024x384_S1x1024x384_6_0_0))
    (k0_pay10 (shard v 7 inb_S8x1024x384_S1x1024x384_7_0_0)) (constant S256x384 .f32 0x00000000#32)

/-- The product of the last 256 rows of a block by the eight shards. -/
abbrev PB (x : FVec Ideal S512x1024 .f32) (v : FVec Ideal S8x1024x384 .bf16) : FVec Ideal S256x3072 .f32 :=
  let r : FVec Ideal S256x1024 .f32 := View.ld (Val := Elt Ideal) (S := S512x1024) (e' := .f32) x (Rect.unit ![256, 0] ![256, 1024] inb_S512x1024_S256x1024_256_0)
  k0_pay21 (k0_pay12 r) (k0_pay13 r (shard v 0 inb_S8x1024x384_S1x1024x384_0_0_0))
    (k0_pay14 r (shard v 1 inb_S8x1024x384_S1x1024x384_1_0_0)) (k0_pay15 r (shard v 2 inb_S8x1024x384_S1x1024x384_2_0_0)) (k0_pay16 r (shard v 3 inb_S8x1024x384_S1x1024x384_3_0_0))
    (k0_pay17 r (shard v 4 inb_S8x1024x384_S1x1024x384_4_0_0)) (k0_pay18 r (shard v 5 inb_S8x1024x384_S1x1024x384_5_0_0)) (k0_pay19 r (shard v 6 inb_S8x1024x384_S1x1024x384_6_0_0))
    (k0_pay20 (shard v 7 inb_S8x1024x384_S1x1024x384_7_0_0))

theorem PA_at (x : FVec Ideal S512x1024 .f32) (v : FVec Ideal S8x1024x384 .bf16) (p : Fin 256) (q : Fin 3072) :
    PA x v (ix2 p q) = ∑ k : Fin 1024, x (ix2 ⟨p.val, by omega⟩ k) * v (ix3 ⟨q.val / 384, by omega⟩ k ⟨q.val % 384, by omega⟩) := by
  pointwise [PA, shard, k0_pay2, k0_pay3, k0_pay4, k0_pay5, k0_pay6, k0_pay7, k0_pay8, k0_pay9, k0_pay10, k0_pay11]
  exact Cert.Proof.shard_at (.inr rfl) (fun s r => ∑ k : Fin 1024, x (ix2 ⟨p.val, by omega⟩ k) * v (ix3 s k r)) _ q.isLt

theorem PB_at (x : FVec Ideal S512x1024 .f32) (v : FVec Ideal S8x1024x384 .bf16) (p : Fin 256) (q : Fin 3072) :
    PB x v (ix2 p q) = ∑ k : Fin 1024, x (ix2 ⟨256 + p.val, by omega⟩ k) * v (ix3 ⟨q.val / 384, by omega⟩ k ⟨q.val % 384, by omega⟩) := by
  pointwise [PB, shard, k0_pay12, k0_pay13, k0_pay14, k0_pay15, k0_pay16, k0_pay17, k0_pay18, k0_pay19, k0_pay20, k0_pay21]
  exact Cert.Proof.shard_at (.inr rfl) (fun s r => ∑ k : Fin 1024, x (ix2 ⟨256 + p.val, by omega⟩ k) * v (ix3 s k r)) _ q.isLt

/-- The windows' block indices. -/
theorem idx : ∀ t : Fin cfg0.N, win0_0.index t = ![t.val, 0] ∧ win0_1.index t = ![0, 0, 0] ∧ win0_2.index t = ![t.val, 0] ∧ win0_3.index t = ![0, 0] ∧ win0_4.index t = ![0, 0]
    ∧ win0_5.index t = ![t.val, 0] ∧ win0_6.index t = ![t.val, 0] ∧ win0_7.index t = ![t.val, 0] ∧ win0_8.index t = ![t.val, 0] :=
  (by decide +kernel : ∀ t : Fin grid0.N, _)

theorem lt8 (t : Fin cfg0.N) : t.val < 8 := lt_of_lt_of_eq t.isLt (show cfg0.N = 8 from N_0)

theorem V_main_v0 (c : Dev nD) : V m c main_v0 = truncf (F := Ideal) .bf16 (m ((c : Thread nD τ).loc main_arg1)) bitsLt_bf16_f32 := by
  entry_read
  rfl

/-- The row of the arrays that a point's row is. -/
def place (t : Fin cfg0.N) (p : Fin 512) : Fin 4096 := ⟨t.val * 512 + p.val, by have := lt8 t; omega⟩

abbrev X (c : Dev nD) : FVec Ideal S4096x1024 .f32 := m ((c : Thread nD τ).loc main_arg0)
abbrev W (c : Dev nD) : FVec Ideal S8x1024x384 .f32 := m ((c : Thread nD τ).loc main_arg1)

theorem lo_at (c : Dev nD) (t : Fin cfg0.N) (p : Fin 256) (q : Fin 3072) :
    PA (iblk m c 0 t) (iblk m c 1 t) (ix2 p q) = pr (X m c) (W m c) (row ⟨2 * t.val, by have := lt8 t; omega⟩ p) q := by
  refine (PA_at _ _ _ _).trans (Finset.sum_congr rfl fun k _ => ?_)
  blk_point [iblk, V_main_v0, V_main_arg0, idx t, row]

theorem hi_at (c : Dev nD) (t : Fin cfg0.N) (p : Fin 256) (q : Fin 3072) :
    PB (iblk m c 0 t) (iblk m c 1 t) (ix2 p q) = pr (X m c) (W m c) (row ⟨2 * t.val + 1, by have := lt8 t; omega⟩ p) q := by
  refine (PB_at _ _ _ _).trans (Finset.sum_congr rfl fun k _ => ?_)
  blk_point [iblk, V_main_v0, V_main_arg0, idx t, row]

/-- The scratch after a point: the last eight rows of the convolution's input. -/
theorem tail (c : Dev nD) (t : Fin cfg0.N) (a : Fin 8) (q : Fin 512) :
    (outsAt0 m c t.val t.isLt).2.2.2.2 (ix2 a q) = ug (pr (X m c) (W m c)) ⟨t.val * 512 + 504 + a.val, by have := lt8 t; omega⟩ q := by
  refine .trans (b := k0_pay46 (F := Ideal) (PB (iblk m c 0 t) (iblk m c 1 t)) (ix2 a q)) ?_ ((tail_at (hi_at m c t) a q).trans (congrArg (fun p => ug _ p q) (Fin.ext (by dsimp only; omega))))
  by_cases h0 : t.val % 8 = 0
  · rw [outsAt0_A m c t h0]
    frame_out
  · rw [outsAt0_B m c t h0]
    frame_out

/-- A point's rows in the two halves of its block. -/
theorem half {t : Fin cfg0.N} {p : Fin 512} {n : ℕ} (h : p.val = n) (b : Fin 16) {k : ℕ} (hb : t.val * 512 + n = b.val * 256 + k) : (place t p).val = b.val * 256 + k := by
  subst h
  exact hb

theorem out5_at (c : Dev nD) (t : Fin cfg0.N) (p : Fin 512) (q : Fin 1536) :
    (outsAt0 m c t.val t.isLt).1 (ix2 p q) = pr (X m c) (W m c) (place t p) ⟨q.val, by omega⟩ := by
  by_cases h0 : t.val % 8 = 0 <;> first | rw [outsAt0_A m c t h0] | rw [outsAt0_B m c t h0]
  all_goals
    frame_out
    canon_tiles z h
    · exact gates_at (hi_at m c t) z (half h0 _ (by dsimp only; omega)) h1
    · exact gates_at (lo_at m c t) z (half h0 _ (by dsimp only; omega)) h1

theorem out6_at (c : Dev nD) (t : Fin cfg0.N) (p : Fin 512) (q : Fin 1536) :
    (outsAt0 m c t.val t.isLt).2.1 (ix2 p q) = pr (X m c) (W m c) (place t p) ⟨1536 + q.val, by omega⟩ := by
  by_cases h0 : t.val % 8 = 0 <;> first | rw [outsAt0_A m c t h0] | rw [outsAt0_B m c t h0]
  all_goals
    frame_out
    canon_tiles z h
    · exact qkv_at (hi_at m c t) z (half h0 _ (by dsimp only; omega)) h1
    · exact qkv_at (lo_at m c t) z (half h0 _ (by dsimp only; omega)) h1

theorem out7_at (c : Dev nD) (t : Fin cfg0.N) (p : Fin 512) (q : Fin 1024) :
    (outsAt0 m c t.val t.isLt).2.2.1 (ix2 p q) = X m c (ix2 (place t p) q) := by
  by_cases h0 : t.val % 8 = 0 <;> first | rw [outsAt0_A m c t h0] | rw [outsAt0_B m c t h0]
  all_goals
    frame_out
    canon_tiles z h <;> rw [eq_ix2 z] <;> pointwise [k0_pay24, k0_pay43] <;> blk_point [iblk, V_main_arg0, idx t, place] <;> first | exact h1.symm | exact (show p.val = _ from h0) ▸ rfl

theorem down8 {U : Fin 4096 → Fin 512 → EReal} {s r : Fin 4096} (h : r.val = s.val + 8) (q : Fin 512) : U s q = down 8 U r q := by
  unfold down
  rw [dif_pos (by omega)]
  exact congrArg (fun r => U r q) (Fin.ext (by simp only; omega))

/-- The eight rows above a point's first rows. -/
theorem before (c : Dev nD) (t : Fin cfg0.N) (h0 : ¬t.val % 8 = 0) (a : Fin 8) (q : Fin 512) :
    (outsAt0 m c (t.val - 1) (Nat.lt_of_le_of_lt (Nat.sub_le _ _) t.isLt)).2.2.2.2 (ix2 a q)
      = down 8 (ug (pr (X m c) (W m c))) (row ⟨2 * t.val, by have := lt8 t; omega⟩ ⟨a.val, by omega⟩) q :=
  (tail m c ⟨t.val - 1, Nat.lt_of_le_of_lt (Nat.sub_le _ _) t.isLt⟩ a q).trans (down8 (by simp only [row]; omega) q)

theorem first (c : Dev nD) (t : Fin cfg0.N) (h0 : t.val % 8 = 0) (a : Fin 8) (q : Fin 512) :
    k0_pay25 (F := Ideal) (ix2 a q) = down 8 (ug (pr (X m c) (W m c))) (row ⟨2 * t.val, by have := lt8 t; omega⟩ ⟨a.val, by omega⟩) q := by
  have := lt8 t
  unfold down
  rw [dif_neg (by simp only [row]; omega)]
  pointwise [k0_pay25]

theorem hi_conv (c : Dev nD) (t : Fin cfg0.N) (p : Fin 256) (q : Fin 512) :
    k0_pay47 (F := Ideal) (PB (iblk m c 0 t) (iblk m c 1 t)) (k0_pay46 (F := Ideal) (PA (iblk m c 0 t) (iblk m c 1 t))) (iblk m c 3 t) (ix2 p q)
      = gy (pr (X m c) (W m c)) (fun k q => iblk m c 3 t (ix2 k q)) (row ⟨2 * t.val + 1, by have := lt8 t; omega⟩ p) q :=
  conv_at (iblk m c 3 t) (hi_at m c t) (fun a q => (tail_at (lo_at m c t) a q).trans (down8 (by simp only [row]; omega) q)) p q

theorem out8_at (c : Dev nD) (t : Fin cfg0.N) (p : Fin 512) (q : Fin 512) : (outsAt0 m c t.val t.isLt).2.2.2.1 (ix2 p q)
    = yn (fun q => iblk m c 4 t (ix2 0 q)) (gy (pr (X m c) (W m c)) (fun k q => iblk m c 3 t (ix2 k q)) (place t p)) q := by
  by_cases h0 : t.val % 8 = 0
  on_goal 1 =>
    have e := conv_at (iblk m c 3 t) (lo_at m c t) (first m c t h0)
    rw [outsAt0_A m c t h0]
    frame_out
  on_goal 2 =>
    have e := conv_at (iblk m c 3 t) (lo_at m c t) (before m c t h0)
    rw [outsAt0_B m c t h0]
    frame_out
    rw [read_unread_whole]
  all_goals
    canon_tiles z h
    · exact tile _ 3 (lane3 _ (hi_conv m c t)) z (half h0 _ (by dsimp only; omega)) h1
    · exact tile _ 2 (lane2 _ (hi_conv m c t)) z (half h0 _ (by dsimp only; omega)) h1
    · exact tile _ 1 (lane1 _ (hi_conv m c t)) z (half h0 _ (by dsimp only; omega)) h1
    · exact tile _ 0 (lane0 _ (hi_conv m c t)) z (half h0 _ (by dsimp only; omega)) (h1.trans (Nat.zero_add _).symm)
    · exact tile _ 3 (lane3 _ e) z (half h0 _ (by dsimp only; omega)) h1
    · exact tile _ 2 (lane2 _ e) z (half h0 _ (by dsimp only; omega)) h1
    · exact tile _ 1 (lane1 _ e) z (half h0 _ (by dsimp only; omega)) h1
    · exact tile _ 0 (lane0 _ e) z (half h0 _ (by dsimp only; omega)) (h1.trans (Nat.zero_add _).symm)

theorem row_at5 (t : Fin cfg0.N) (y : S512x1536.Idx) : ((cfg0.win 5).blk t).view.emb y = ix2 (place t (y 0)) (y 1) := by
  blk_ext [idx t] <;> simp only [place] <;> omega
theorem row_at6 (t : Fin cfg0.N) (y : S512x1536.Idx) : ((cfg0.win 6).blk t).view.emb y = ix2 (place t (y 0)) (y 1) := by
  blk_ext [idx t] <;> simp only [place] <;> omega
theorem row_at7 (t : Fin cfg0.N) (y : S512x1024.Idx) : ((cfg0.win 7).blk t).view.emb y = ix2 (place t (y 0)) (y 1) := by
  blk_ext [idx t] <;> simp only [place] <;> omega
theorem row_at8 (t : Fin cfg0.N) (y : S512x512.Idx) : ((cfg0.win 8).blk t).view.emb y = ix2 (place t (y 0)) ⟨(y 1).val, by have := (y 1).isLt; simp at this; omega⟩ := by
  blk_ext [idx t] <;> simp only [place] <;> omega

/-- The result arrays after the run. -/
theorem final5 (c : Dev nD) : (dats m 0 c).arrAt 5 (cfgs 0).N = Cert.InRIdeal.Read.val_main_v47 (F := Ideal) (X m c) (W m c) := by
  refine (dats m 0 c).arrAt_eq_of_covers 5 _ (by decide +kernel) fun t _ y => ?_
  blk_simp
  rw [after0_5, row_at5, eq_ix2 y]
  exact (out5_at m c t _ _).trans (v47_at _ _ _ _).symm

theorem final6 (c : Dev nD) : (dats m 0 c).arrAt 6 (cfgs 0).N = Cert.InRIdeal.Read.val_main_v49 (F := Ideal) (X m c) (W m c) := by
  refine (dats m 0 c).arrAt_eq_of_covers 6 _ (by decide +kernel) fun t _ y => ?_
  blk_simp
  rw [after0_6, row_at6, eq_ix2 y]
  exact (out6_at m c t _ _).trans (v49_at _ _ _ _).symm

theorem final7 (c : Dev nD) : (dats m 0 c).arrAt 7 (cfgs 0).N = Cert.InRIdeal.Read.val_main_v50 (F := Ideal) (X m c) := by
  refine (dats m 0 c).arrAt_eq_of_covers 7 _ (by decide +kernel) fun t _ y => ?_
  blk_simp
  rw [after0_7, row_at7, eq_ix2 y]
  exact out7_at m c t _ _

abbrev C (c : Dev nD) : FVec Ideal S3x512 .f32 := m ((c : Thread nD τ).loc main_arg2)
abbrev N (c : Dev nD) : FVec Ideal S1x512 .f32 := m ((c : Thread nD τ).loc main_arg3)

/-- The last array's columns below 512. -/
def kept (c : Dev nD) (r : Fin 4096) (n : ℕ) : EReal := yn (fun q => N m c (ix2 0 q)) (GY (X m c) (W m c) (C m c) r) ⟨n % 512, Nat.mod_lt _ (by decide)⟩

theorem taps_at (c : Dev nD) (t : Fin cfg0.N) : (fun (k : Fin 3) (q : Fin 512) => (iblk m c 3 t (ix2 k q) : EReal)) = fun k q => C m c (ix2 k q) := by
  funext k q
  blk_point [iblk, V_main_arg2, idx t]
theorem gain_at (c : Dev nD) (t : Fin cfg0.N) : (fun q : Fin 512 => (iblk m c 4 t (ix2 0 q) : EReal)) = fun q => N m c (ix2 0 q) := by
  funext q
  blk_point [iblk, V_main_arg3, idx t]

theorem arr8 (c : Dev nD) : (dats m 0 c).arrAt 8 cfg0.N = fun i => if (i 1).val / 512 = 0 then kept m c (i 0) (i 1).val else V m c main_v1_3 i := by
  refine (dats m 0 c).arrAt_eq_of_coversWhere 8 (fun i => kept m c (i 0) (i 1).val) (fun β => β (1 : Fin _) = 0) (by decide +kernel) (fun t _ y => ?_) (fun _ => Iff.rfl)
  blk_simp
  rw [after0_8, row_at8, eq_ix2 y]
  refine (out8_at m c t _ _).trans ?_
  rw [taps_at, gain_at]
  have h : (y 1).val < 512 := (y 1).isLt
  refine congrArg (yn (fun q => N m c (ix2 0 q)) (GY (X m c) (W m c) (C m c) (place t (y 0)))) (Fin.ext ?_)
  change (y 1).val = (win0_8.index t 1 * 512 + (y 1).val) % 512
  omega

/-- The host's slice keeps them. -/
theorem final8 (c : Dev nD) : Pipeline.afterTail₀ cfgs (dats m) 0 (V0 m) [hostOps1] c main_v2
    = Cert.InRIdeal.Read.val_main_v51 (F := Ideal) (X m c) (W m c) (C m c) (N m c) := by
  have e : Pipeline.afterTail₀ cfgs (dats m) 0 (V0 m) [hostOps1] c main_v2 = extractStridedSlice S4096x512 ![0, 0] ((dats m 0 c).arrAt 8 cfg0.N) slices_S4096x1024_S4096x512_0_0 := by
    unfold Pipeline.afterTail₀
    after_results
    exact congrArg (extractStridedSlice S4096x512 ![0, 0] · slices_S4096x1024_S4096x512_0_0) ((dats m 0 c).withArrays_arrAt (launch₀0).sharedIn (V0 m c) (A_eq m c) 8)
  rw [e, arr8]
  funext i
  rw [eq_ix2 i]
  refine .trans ?_ (v46_at _ _ _ _ _ _).symm
  pointwise []
  have h : (i 1).val < 512 := (i 1).isLt
  refine (if_pos (by omega)).trans ?_
  exact congrArg (yn (fun q => N m c (ix2 0 q)) (GY (X m c) (W m c) (C m c) (i 0))) (Fin.ext (Nat.mod_eq_of_lt h))

end Cert.InKIdeal.Hand

namespace Cert.Proof.In

theorem frame : Cert.quiescent_InK := fun m ρ _ => Cert.InK.Gen.frame m ρ
theorem frame_ideal : Cert.quiescent_InKIdeal := fun m ρ _ => Cert.InKIdeal.Gen.frame m ρ
theorem frame_ref : Cert.quiescent_InRIdeal := fun m ρ _ =>
  (θ_run Cert.InRIdeal.defs _ _).mono (fun r h => ⟨fun c => (h c).2.2.2.2, Idealize.ShloMosaic.sem_eq_zero_of_no_sems (by decide) r.2⟩)
    (Cert.InRIdeal.Value.run (F := Ideal) m ρ)
theorem preserves : Cert.preserves_InK_InKIdeal := trivial

theorem algebraic : Cert.algebraic_InKIdeal_InRIdeal := by
  pair_intro
  · run_from Cert.InKIdeal.Gen.unchanged m g & Cert.InKIdeal.Gen.run_main m g
  · run_from Cert.InRIdeal.Value.run m' g'
    exacts [(Cert.InKIdeal.Hand.final5 m c).symm, (Cert.InKIdeal.Hand.final6 m c).symm, (Cert.InKIdeal.Hand.final7 m c).symm, (Cert.InRIdeal.Read.val_main_v51_eq m' c).trans (.trans (by obtain ⟨e0, e1, e2, e3⟩ := hagree c; rw [e0, e1, e2, e3]) (Cert.InKIdeal.Hand.final8 m c).symm)]

end Cert.Proof.In

end
-- ==== Proof.lean ====
module

public import proofs.«01_k».proof.Defs
public import proofs.«01_k».proof.Proof.Gen.AttnK
public import proofs.«01_k».proof.Proof.Gen.AttnKIdeal
public import proofs.«01_k».proof.Proof.Gen.AttnRIdeal
public import proofs.«01_k».proof.Proof.AttnClaims
public import proofs.«01_k».proof.Proof.Gen.AttnRIdeal.Read
public import proofs.«01_k».proof.Proof.AttnValue
public import proofs.«01_k».proof.Proof.Gen.Pre_attn_finite
public import proofs.«01_k».proof.Proof.Gen.DhidK
public import proofs.«01_k».proof.Proof.Gen.DhidKIdeal
public import proofs.«01_k».proof.Proof.Gen.DhidRIdeal
public import proofs.«01_k».proof.Proof.DhidValue
public import proofs.«01_k».proof.Proof.Gen.DhidRIdeal.Read
public import proofs.«01_k».proof.Proof.Gen.Ln2K
public import proofs.«01_k».proof.Proof.Gen.Ln2KIdeal
public import proofs.«01_k».proof.Proof.Gen.Ln2RIdeal
public import proofs.«01_k».proof.Proof.Frames
public import proofs.«01_k».proof.Proof.Gen.Ln2RIdeal.Read
public import proofs.«01_k».proof.Proof.Ln2Value
public import proofs.«01_k».proof.Proof.Gen.Pre_ln2_finite
public import proofs.«01_k».proof.Proof.Gen.Ln2KIdeal.Value
public import proofs.«01_k».proof.Proof.Gen.Dx1K
public import proofs.«01_k».proof.Proof.Gen.Dx1KIdeal
public import proofs.«01_k».proof.Proof.Gen.Dx1RIdeal
public import proofs.«01_k».proof.Proof.Gen.Dx1RIdeal.Read
public import proofs.«01_k».proof.Proof.Dx1Value
public import proofs.«01_k».proof.Proof.Gen.Pre_dx1_finite
public import proofs.«01_k».proof.Proof.Gen.Dx1KIdeal.Value
public import proofs.«01_k».proof.Proof.Gen.PobK
public import proofs.«01_k».proof.Proof.Gen.PobKIdeal
public import proofs.«01_k».proof.Proof.Gen.PobRIdeal
public import proofs.«01_k».proof.Proof.PobFrame
public import proofs.«01_k».proof.Proof.Gen.PobRIdeal.Read
public import proofs.«01_k».proof.Proof.PobValue
public import proofs.«01_k».proof.Proof.Gen.Pre_pob_finite
public import proofs.«01_k».proof.Proof.Gen.FwdK
public import proofs.«01_k».proof.Proof.Gen.FwdKIdeal
public import proofs.«01_k».proof.Proof.Gen.FwdRIdeal
public import proofs.«01_k».proof.Proof.FwdClaims
public import proofs.«01_k».proof.Proof.Gen.FwdRIdeal.Read
public import proofs.«01_k».proof.Proof.FwdValue
public import proofs.«01_k».proof.Proof.Gen.Pre_fwd_finite
public import proofs.«01_k».proof.Proof.Gen.UpK
public import proofs.«01_k».proof.Proof.Gen.UpKIdeal
public import proofs.«01_k».proof.Proof.Gen.UpRIdeal
public import proofs.«01_k».proof.Proof.UpValue
public import proofs.«01_k».proof.Proof.Gen.UpRIdeal.Read
public import proofs.«01_k».proof.Proof.Gen.OutK
public import proofs.«01_k».proof.Proof.Gen.OutKIdeal
public import proofs.«01_k».proof.Proof.Gen.OutRIdeal
public import proofs.«01_k».proof.Proof.OutValue
public import proofs.«01_k».proof.Proof.Gen.OutRIdeal.Read
public import proofs.«01_k».proof.Proof.Gen.InK
public import proofs.«01_k».proof.Proof.Gen.InKIdeal
public import proofs.«01_k».proof.Proof.Gen.InRIdeal
public import proofs.«01_k».proof.Proof.InValue
public import proofs.«01_k».proof.Proof.Gen.InRIdeal.Read

@[expose] public section

noncomputable section

namespace Cert.Proof

theorem claim : Cert.Claim := ⟨
  Cert.AttnK.Gen.facts, Cert.AttnKIdeal.Gen.facts, Cert.AttnRIdeal.Gen.facts,
  Cert.DhidK.Gen.facts, Cert.DhidKIdeal.Gen.facts, Cert.DhidRIdeal.Gen.facts,
  Cert.Ln2K.Gen.facts, Cert.Ln2KIdeal.Gen.facts, Cert.Ln2RIdeal.Gen.facts,
  Cert.Dx1K.Gen.facts, Cert.Dx1KIdeal.Gen.facts, Cert.Dx1RIdeal.Gen.facts,
  Cert.PobK.Gen.facts, Cert.PobKIdeal.Gen.facts, Cert.PobRIdeal.Gen.facts,
  Cert.FwdK.Gen.facts, Cert.FwdKIdeal.Gen.facts, Cert.FwdRIdeal.Gen.facts,
  Cert.UpK.Gen.facts, Cert.UpKIdeal.Gen.facts, Cert.UpRIdeal.Gen.facts,
  Cert.OutK.Gen.facts, Cert.OutKIdeal.Gen.facts, Cert.OutRIdeal.Gen.facts,
  Cert.InK.Gen.facts, Cert.InKIdeal.Gen.facts, Cert.InRIdeal.Gen.facts,
  Cert.Pre_attn_finite.Gen.facts,
  Cert.Pre_ln2_finite.Gen.facts,
  Cert.Pre_dx1_finite.Gen.facts,
  Cert.Pre_pob_finite.Gen.facts,
  Cert.Pre_fwd_finite.Gen.facts,
  Attn.frame, Attn.frame_ideal, Attn.frame_ideal_pre, Attn.frame_ref, Attn.frame_ref_pre,
  Dhid.frame, Dhid.frame_ideal, Dhid.frame_ref,
  Ln2.frame, Ln2.frame_ideal, Ln2.frame_ideal_pre, Ln2.frame_ref, Ln2.frame_ref_pre,
  Dx1.frame, Dx1.frame_ideal, Dx1.frame_ideal_pre, Dx1.frame_ref, Dx1.frame_ref_pre,
  Pob.frame, Pob.frame_ideal, Pob.frame_ideal_pre, Pob.frame_ref, Pob.frame_ref_pre,
  Fwd.frame, Fwd.frame_ideal, Fwd.frame_ideal_pre, Fwd.frame_ref, Fwd.frame_ref_pre,
  Up.frame, Up.frame_ideal, Up.frame_ref,
  Out.frame, Out.frame_ideal, Out.frame_ref,
  In.frame, In.frame_ideal, In.frame_ref,
  Attn.preserves, Attn.algebraic,
  Dhid.preserves, Dhid.algebraic,
  Ln2.preserves, Ln2.algebraic,
  Dx1.preserves, Dx1.algebraic,
  Pob.preserves, Pob.algebraic,
  Fwd.preserves, Fwd.algebraic,
  Up.preserves, Up.algebraic,
  Out.preserves, Out.algebraic,
  In.preserves, In.algebraic⟩

end Cert.Proof

end
